-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_HgPath (m : (ℓ : Loc Cert.HgPath.nD Cert.HgPath.τ Cert.HgPath.sig) → Buf (Elt Bits) ℓ) : Prop :=
  True

def Pre_HgPathIdeal (m : (ℓ : Loc Cert.HgPathIdeal.nD Cert.HgPathIdeal.τ Cert.HgPathIdeal.sig) → Buf (Elt Ideal) ℓ) : Prop :=
  True

def Pre_HgPathIdeal_finite_hgpath [hPre_finite_hgpath : Cert.Pre_finite_hgpath.Facts] (m : (ℓ : Loc Cert.HgPathIdeal.nD Cert.HgPathIdeal.τ Cert.HgPathIdeal.sig) → Buf (Elt Ideal) ℓ) : Prop :=
  ∀ c : Dev Cert.HgPathIdeal.nD,
    (Cert.Pre_finite_hgpath.fn (F := Ideal) (m ((c.tc : Thread Cert.HgPathIdeal.nD Cert.HgPathIdeal.τ).loc Cert.HgPathIdeal.main_arg0)) (m ((c.tc : Thread Cert.HgPathIdeal.nD Cert.HgPathIdeal.τ).loc Cert.HgPathIdeal.main_arg1)) (m ((c.tc : Thread Cert.HgPathIdeal.nD Cert.HgPathIdeal.τ).loc Cert.HgPathIdeal.main_arg2)) (m ((c.tc : Thread Cert.HgPathIdeal.nD Cert.HgPathIdeal.τ).loc Cert.HgPathIdeal.main_arg3)) (m ((c.tc : Thread Cert.HgPathIdeal.nD Cert.HgPathIdeal.τ).loc Cert.HgPathIdeal.main_arg4))) = (fun _ => 1#1)

def Pre_HgPathRefIdeal (m : (ℓ : Loc Cert.HgPathRefIdeal.nD Cert.HgPathRefIdeal.τ Cert.HgPathRefIdeal.sig) → Buf (Elt Ideal) ℓ) : Prop :=
  True

def Pre_HgPathRefIdeal_finite_hgpath [hPre_finite_hgpath : Cert.Pre_finite_hgpath.Facts] (m : (ℓ : Loc Cert.HgPathRefIdeal.nD Cert.HgPathRefIdeal.τ Cert.HgPathRefIdeal.sig) → Buf (Elt Ideal) ℓ) : Prop :=
  ∀ c : Dev Cert.HgPathRefIdeal.nD,
    (Cert.Pre_finite_hgpath.fn (F := Ideal) (m ((c.tc : Thread Cert.HgPathRefIdeal.nD Cert.HgPathRefIdeal.τ).loc Cert.HgPathRefIdeal.main_arg0)) (m ((c.tc : Thread Cert.HgPathRefIdeal.nD Cert.HgPathRefIdeal.τ).loc Cert.HgPathRefIdeal.main_arg1)) (m ((c.tc : Thread Cert.HgPathRefIdeal.nD Cert.HgPathRefIdeal.τ).loc Cert.HgPathRefIdeal.main_arg2)) (m ((c.tc : Thread Cert.HgPathRefIdeal.nD Cert.HgPathRefIdeal.τ).loc Cert.HgPathRefIdeal.main_arg3)) (m ((c.tc : Thread Cert.HgPathRefIdeal.nD Cert.HgPathRefIdeal.τ).loc Cert.HgPathRefIdeal.main_arg4))) = (fun _ => 1#1)

def Pre_S5Path (m : (ℓ : Loc Cert.S5Path.nD Cert.S5Path.τ Cert.S5Path.sig) → Buf (Elt Bits) ℓ) : Prop :=
  True

def Pre_S5PathIdeal (m : (ℓ : Loc Cert.S5PathIdeal.nD Cert.S5PathIdeal.τ Cert.S5PathIdeal.sig) → Buf (Elt Ideal) ℓ) : Prop :=
  True

def Pre_S5PathIdeal_finite_s5path [hPre_finite_s5path : Cert.Pre_finite_s5path.Facts] (m : (ℓ : Loc Cert.S5PathIdeal.nD Cert.S5PathIdeal.τ Cert.S5PathIdeal.sig) → Buf (Elt Ideal) ℓ) : Prop :=
  ∀ c : Dev Cert.S5PathIdeal.nD,
    (Cert.Pre_finite_s5path.fn (F := Ideal) (m ((c.tc : Thread Cert.S5PathIdeal.nD Cert.S5PathIdeal.τ).loc Cert.S5PathIdeal.main_arg0)) (m ((c.tc : Thread Cert.S5PathIdeal.nD Cert.S5PathIdeal.τ).loc Cert.S5PathIdeal.main_arg1)) (m ((c.tc : Thread Cert.S5PathIdeal.nD Cert.S5PathIdeal.τ).loc Cert.S5PathIdeal.main_arg2)) (m ((c.tc : Thread Cert.S5PathIdeal.nD Cert.S5PathIdeal.τ).loc Cert.S5PathIdeal.main_arg3)) (m ((c.tc : Thread Cert.S5PathIdeal.nD Cert.S5PathIdeal.τ).loc Cert.S5PathIdeal.main_arg4)) (m ((c.tc : Thread Cert.S5PathIdeal.nD Cert.S5PathIdeal.τ).loc Cert.S5PathIdeal.main_arg5))) = (fun _ => 1#1)

def Pre_S5PathRefIdeal (m : (ℓ : Loc Cert.S5PathRefIdeal.nD Cert.S5PathRefIdeal.τ Cert.S5PathRefIdeal.sig) → Buf (Elt Ideal) ℓ) : Prop :=
  True

def Pre_S5PathRefIdeal_finite_s5path [hPre_finite_s5path : Cert.Pre_finite_s5path.Facts] (m : (ℓ : Loc Cert.S5PathRefIdeal.nD Cert.S5PathRefIdeal.τ Cert.S5PathRefIdeal.sig) → Buf (Elt Ideal) ℓ) : Prop :=
  ∀ c : Dev Cert.S5PathRefIdeal.nD,
    (Cert.Pre_finite_s5path.fn (F := Ideal) (m ((c.tc : Thread Cert.S5PathRefIdeal.nD Cert.S5PathRefIdeal.τ).loc Cert.S5PathRefIdeal.main_arg0)) (m ((c.tc : Thread Cert.S5PathRefIdeal.nD Cert.S5PathRefIdeal.τ).loc Cert.S5PathRefIdeal.main_arg1)) (m ((c.tc : Thread Cert.S5PathRefIdeal.nD Cert.S5PathRefIdeal.τ).loc Cert.S5PathRefIdeal.main_arg2)) (m ((c.tc : Thread Cert.S5PathRefIdeal.nD Cert.S5PathRefIdeal.τ).loc Cert.S5PathRefIdeal.main_arg3)) (m ((c.tc : Thread Cert.S5PathRefIdeal.nD Cert.S5PathRefIdeal.τ).loc Cert.S5PathRefIdeal.main_arg4)) (m ((c.tc : Thread Cert.S5PathRefIdeal.nD Cert.S5PathRefIdeal.τ).loc Cert.S5PathRefIdeal.main_arg5))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesRefIdeal (m : (ℓ : Loc Cert.BranchesRefIdeal.nD Cert.BranchesRefIdeal.τ Cert.BranchesRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamCol (m : (ℓ : Loc Cert.AdamCol.nD Cert.AdamCol.τ Cert.AdamCol.sig) → Buf (Elt Bits) ℓ) : Prop :=
  True

def Pre_AdamColIdeal (m : (ℓ : Loc Cert.AdamColIdeal.nD Cert.AdamColIdeal.τ Cert.AdamColIdeal.sig) → Buf (Elt Ideal) ℓ) : Prop :=
  True

def Pre_AdamColRefIdeal (m : (ℓ : Loc Cert.AdamColRefIdeal.nD Cert.AdamColRefIdeal.τ Cert.AdamColRefIdeal.sig) → Buf (Elt Ideal) ℓ) : Prop :=
  True

def Pre_AdamEmb (m : (ℓ : Loc Cert.AdamEmb.nD Cert.AdamEmb.τ Cert.AdamEmb.sig) → Buf (Elt Bits) ℓ) : Prop :=
  True

def Pre_AdamEmbIdeal (m : (ℓ : Loc Cert.AdamEmbIdeal.nD Cert.AdamEmbIdeal.τ Cert.AdamEmbIdeal.sig) → Buf (Elt Ideal) ℓ) : Prop :=
  True

def Pre_AdamEmbRefIdeal (m : (ℓ : Loc Cert.AdamEmbRefIdeal.nD Cert.AdamEmbRefIdeal.τ Cert.AdamEmbRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11))
      ∧ r.2.sem = fun _ => 0)

def quiescent_HgPath [hHgPath : Cert.HgPath.Facts] : Prop :=
  ∀ (m : (ℓ : Loc Cert.HgPath.nD Cert.HgPath.τ Cert.HgPath.sig) → Buf (Elt Bits) ℓ) (g : Dev Cert.HgPath.nD → PrngReg), Pre_HgPath m →
    θ_run (Cert.HgPath.defs (F := Bits)) (onTc (τ := Cert.HgPath.τ) (Cert.HgPath.main (F := Bits))) ⟨m, fun _ => 0, g⟩ (fun r => (∀ c : Dev Cert.HgPath.nD,
      r.2.mem ((c.tc : Thread Cert.HgPath.nD Cert.HgPath.τ).loc Cert.HgPath.main_arg0) = m ((c.tc : Thread Cert.HgPath.nD Cert.HgPath.τ).loc Cert.HgPath.main_arg0)
      ∧ r.2.mem ((c.tc : Thread Cert.HgPath.nD Cert.HgPath.τ).loc Cert.HgPath.main_arg1) = m ((c.tc : Thread Cert.HgPath.nD Cert.HgPath.τ).loc Cert.HgPath.main_arg1)
      ∧ r.2.mem ((c.tc : Thread Cert.HgPath.nD Cert.HgPath.τ).loc Cert.HgPath.main_arg2) = m ((c.tc : Thread Cert.HgPath.nD Cert.HgPath.τ).loc Cert.HgPath.main_arg2)
      ∧ r.2.mem ((c.tc : Thread Cert.HgPath.nD Cert.HgPath.τ).loc Cert.HgPath.main_arg3) = m ((c.tc : Thread Cert.HgPath.nD Cert.HgPath.τ).loc Cert.HgPath.main_arg3)
      ∧ r.2.mem ((c.tc : Thread Cert.HgPath.nD Cert.HgPath.τ).loc Cert.HgPath.main_arg4) = m ((c.tc : Thread Cert.HgPath.nD Cert.HgPath.τ).loc Cert.HgPath.main_arg4))
      ∧ r.2.sem = fun _ => 0)

def quiescent_HgPathIdeal [hHgPathIdeal : Cert.HgPathIdeal.Facts] : Prop :=
  ∀ (m : (ℓ : Loc Cert.HgPathIdeal.nD Cert.HgPathIdeal.τ Cert.HgPathIdeal.sig) → Buf (Elt Ideal) ℓ) (g : Dev Cert.HgPathIdeal.nD → PrngReg), Pre_HgPathIdeal m →
    θ_run (Cert.HgPathIdeal.defs (F := Ideal)) (onTc (τ := Cert.HgPathIdeal.τ) (Cert.HgPathIdeal.main (F := Ideal))) ⟨m, fun _ => 0, g⟩ (fun r => (∀ c : Dev Cert.HgPathIdeal.nD,
      r.2.mem ((c.tc : Thread Cert.HgPathIdeal.nD Cert.HgPathIdeal.τ).loc Cert.HgPathIdeal.main_arg0) = m ((c.tc : Thread Cert.HgPathIdeal.nD Cert.HgPathIdeal.τ).loc Cert.HgPathIdeal.main_arg0)
      ∧ r.2.mem ((c.tc : Thread Cert.HgPathIdeal.nD Cert.HgPathIdeal.τ).loc Cert.HgPathIdeal.main_arg1) = m ((c.tc : Thread Cert.HgPathIdeal.nD Cert.HgPathIdeal.τ).loc Cert.HgPathIdeal.main_arg1)
      ∧ r.2.mem ((c.tc : Thread Cert.HgPathIdeal.nD Cert.HgPathIdeal.τ).loc Cert.HgPathIdeal.main_arg2) = m ((c.tc : Thread Cert.HgPathIdeal.nD Cert.HgPathIdeal.τ).loc Cert.HgPathIdeal.main_arg2)
      ∧ r.2.mem ((c.tc : Thread Cert.HgPathIdeal.nD Cert.HgPathIdeal.τ).loc Cert.HgPathIdeal.main_arg3) = m ((c.tc : Thread Cert.HgPathIdeal.nD Cert.HgPathIdeal.τ).loc Cert.HgPathIdeal.main_arg3)
      ∧ r.2.mem ((c.tc : Thread Cert.HgPathIdeal.nD Cert.HgPathIdeal.τ).loc Cert.HgPathIdeal.main_arg4) = m ((c.tc : Thread Cert.HgPathIdeal.nD Cert.HgPathIdeal.τ).loc Cert.HgPathIdeal.main_arg4))
      ∧ r.2.sem = fun _ => 0)

def quiescent_HgPathIdeal_pre_finite_hgpath [hHgPathIdeal : Cert.HgPathIdeal.Facts] [hPre_finite_hgpath : Cert.Pre_finite_hgpath.Facts] : Prop :=
  ∀ (m : (ℓ : Loc Cert.HgPathIdeal.nD Cert.HgPathIdeal.τ Cert.HgPathIdeal.sig) → Buf (Elt Ideal) ℓ) (g : Dev Cert.HgPathIdeal.nD → PrngReg), Pre_HgPathIdeal_finite_hgpath m →
    θ_run (Cert.HgPathIdeal.defs (F := Ideal)) (onTc (τ := Cert.HgPathIdeal.τ) (Cert.HgPathIdeal.main (F := Ideal))) ⟨m, fun _ => 0, g⟩ (fun r => (∀ c : Dev Cert.HgPathIdeal.nD,
      r.2.mem ((c.tc : Thread Cert.HgPathIdeal.nD Cert.HgPathIdeal.τ).loc Cert.HgPathIdeal.main_arg0) = m ((c.tc : Thread Cert.HgPathIdeal.nD Cert.HgPathIdeal.τ).loc Cert.HgPathIdeal.main_arg0)
      ∧ r.2.mem ((c.tc : Thread Cert.HgPathIdeal.nD Cert.HgPathIdeal.τ).loc Cert.HgPathIdeal.main_arg1) = m ((c.tc : Thread Cert.HgPathIdeal.nD Cert.HgPathIdeal.τ).loc Cert.HgPathIdeal.main_arg1)
      ∧ r.2.mem ((c.tc : Thread Cert.HgPathIdeal.nD Cert.HgPathIdeal.τ).loc Cert.HgPathIdeal.main_arg2) = m ((c.tc : Thread Cert.HgPathIdeal.nD Cert.HgPathIdeal.τ).loc Cert.HgPathIdeal.main_arg2)
      ∧ r.2.mem ((c.tc : Thread Cert.HgPathIdeal.nD Cert.HgPathIdeal.τ).loc Cert.HgPathIdeal.main_arg3) = m ((c.tc : Thread Cert.HgPathIdeal.nD Cert.HgPathIdeal.τ).loc Cert.HgPathIdeal.main_arg3)
      ∧ r.2.mem ((c.tc : Thread Cert.HgPathIdeal.nD Cert.HgPathIdeal.τ).loc Cert.HgPathIdeal.main_arg4) = m ((c.tc : Thread Cert.HgPathIdeal.nD Cert.HgPathIdeal.τ).loc Cert.HgPathIdeal.main_arg4))
      ∧ r.2.sem = fun _ => 0)

def quiescent_HgPathRefIdeal [hHgPathRefIdeal : Cert.HgPathRefIdeal.Facts] : Prop :=
  ∀ (m : (ℓ : Loc Cert.HgPathRefIdeal.nD Cert.HgPathRefIdeal.τ Cert.HgPathRefIdeal.sig) → Buf (Elt Ideal) ℓ) (g : Dev Cert.HgPathRefIdeal.nD → PrngReg), Pre_HgPathRefIdeal m →
    θ_run (Cert.HgPathRefIdeal.defs (F := Ideal)) (onTc (τ := Cert.HgPathRefIdeal.τ) (Cert.HgPathRefIdeal.main (F := Ideal))) ⟨m, fun _ => 0, g⟩ (fun r => (∀ c : Dev Cert.HgPathRefIdeal.nD,
      r.2.mem ((c.tc : Thread Cert.HgPathRefIdeal.nD Cert.HgPathRefIdeal.τ).loc Cert.HgPathRefIdeal.main_arg0) = m ((c.tc : Thread Cert.HgPathRefIdeal.nD Cert.HgPathRefIdeal.τ).loc Cert.HgPathRefIdeal.main_arg0)
      ∧ r.2.mem ((c.tc : Thread Cert.HgPathRefIdeal.nD Cert.HgPathRefIdeal.τ).loc Cert.HgPathRefIdeal.main_arg1) = m ((c.tc : Thread Cert.HgPathRefIdeal.nD Cert.HgPathRefIdeal.τ).loc Cert.HgPathRefIdeal.main_arg1)
      ∧ r.2.mem ((c.tc : Thread Cert.HgPathRefIdeal.nD Cert.HgPathRefIdeal.τ).loc Cert.HgPathRefIdeal.main_arg2) = m ((c.tc : Thread Cert.HgPathRefIdeal.nD Cert.HgPathRefIdeal.τ).loc Cert.HgPathRefIdeal.main_arg2)
      ∧ r.2.mem ((c.tc : Thread Cert.HgPathRefIdeal.nD Cert.HgPathRefIdeal.τ).loc Cert.HgPathRefIdeal.main_arg3) = m ((c.tc : Thread Cert.HgPathRefIdeal.nD Cert.HgPathRefIdeal.τ).loc Cert.HgPathRefIdeal.main_arg3)
      ∧ r.2.mem ((c.tc : Thread Cert.HgPathRefIdeal.nD Cert.HgPathRefIdeal.τ).loc Cert.HgPathRefIdeal.main_arg4) = m ((c.tc : Thread Cert.HgPathRefIdeal.nD Cert.HgPathRefIdeal.τ).loc Cert.HgPathRefIdeal.main_arg4))
      ∧ r.2.sem = fun _ => 0)

def quiescent_HgPathRefIdeal_pre_finite_hgpath [hHgPathRefIdeal : Cert.HgPathRefIdeal.Facts] [hPre_finite_hgpath : Cert.Pre_finite_hgpath.Facts] : Prop :=
  ∀ (m : (ℓ : Loc Cert.HgPathRefIdeal.nD Cert.HgPathRefIdeal.τ Cert.HgPathRefIdeal.sig) → Buf (Elt Ideal) ℓ) (g : Dev Cert.HgPathRefIdeal.nD → PrngReg), Pre_HgPathRefIdeal_finite_hgpath m →
    θ_run (Cert.HgPathRefIdeal.defs (F := Ideal)) (onTc (τ := Cert.HgPathRefIdeal.τ) (Cert.HgPathRefIdeal.main (F := Ideal))) ⟨m, fun _ => 0, g⟩ (fun r => (∀ c : Dev Cert.HgPathRefIdeal.nD,
      r.2.mem ((c.tc : Thread Cert.HgPathRefIdeal.nD Cert.HgPathRefIdeal.τ).loc Cert.HgPathRefIdeal.main_arg0) = m ((c.tc : Thread Cert.HgPathRefIdeal.nD Cert.HgPathRefIdeal.τ).loc Cert.HgPathRefIdeal.main_arg0)
      ∧ r.2.mem ((c.tc : Thread Cert.HgPathRefIdeal.nD Cert.HgPathRefIdeal.τ).loc Cert.HgPathRefIdeal.main_arg1) = m ((c.tc : Thread Cert.HgPathRefIdeal.nD Cert.HgPathRefIdeal.τ).loc Cert.HgPathRefIdeal.main_arg1)
      ∧ r.2.mem ((c.tc : Thread Cert.HgPathRefIdeal.nD Cert.HgPathRefIdeal.τ).loc Cert.HgPathRefIdeal.main_arg2) = m ((c.tc : Thread Cert.HgPathRefIdeal.nD Cert.HgPathRefIdeal.τ).loc Cert.HgPathRefIdeal.main_arg2)
      ∧ r.2.mem ((c.tc : Thread Cert.HgPathRefIdeal.nD Cert.HgPathRefIdeal.τ).loc Cert.HgPathRefIdeal.main_arg3) = m ((c.tc : Thread Cert.HgPathRefIdeal.nD Cert.HgPathRefIdeal.τ).loc Cert.HgPathRefIdeal.main_arg3)
      ∧ r.2.mem ((c.tc : Thread Cert.HgPathRefIdeal.nD Cert.HgPathRefIdeal.τ).loc Cert.HgPathRefIdeal.main_arg4) = m ((c.tc : Thread Cert.HgPathRefIdeal.nD Cert.HgPathRefIdeal.τ).loc Cert.HgPathRefIdeal.main_arg4))
      ∧ r.2.sem = fun _ => 0)

def quiescent_S5Path [hS5Path : Cert.S5Path.Facts] : Prop :=
  ∀ (m : (ℓ : Loc Cert.S5Path.nD Cert.S5Path.τ Cert.S5Path.sig) → Buf (Elt Bits) ℓ) (g : Dev Cert.S5Path.nD → PrngReg), Pre_S5Path m →
    θ_run (Cert.S5Path.defs (F := Bits)) (onTc (τ := Cert.S5Path.τ) (Cert.S5Path.main (F := Bits))) ⟨m, fun _ => 0, g⟩ (fun r => (∀ c : Dev Cert.S5Path.nD,
      r.2.mem ((c.tc : Thread Cert.S5Path.nD Cert.S5Path.τ).loc Cert.S5Path.main_arg0) = m ((c.tc : Thread Cert.S5Path.nD Cert.S5Path.τ).loc Cert.S5Path.main_arg0)
      ∧ r.2.mem ((c.tc : Thread Cert.S5Path.nD Cert.S5Path.τ).loc Cert.S5Path.main_arg1) = m ((c.tc : Thread Cert.S5Path.nD Cert.S5Path.τ).loc Cert.S5Path.main_arg1)
      ∧ r.2.mem ((c.tc : Thread Cert.S5Path.nD Cert.S5Path.τ).loc Cert.S5Path.main_arg2) = m ((c.tc : Thread Cert.S5Path.nD Cert.S5Path.τ).loc Cert.S5Path.main_arg2)
      ∧ r.2.mem ((c.tc : Thread Cert.S5Path.nD Cert.S5Path.τ).loc Cert.S5Path.main_arg3) = m ((c.tc : Thread Cert.S5Path.nD Cert.S5Path.τ).loc Cert.S5Path.main_arg3)
      ∧ r.2.mem ((c.tc : Thread Cert.S5Path.nD Cert.S5Path.τ).loc Cert.S5Path.main_arg4) = m ((c.tc : Thread Cert.S5Path.nD Cert.S5Path.τ).loc Cert.S5Path.main_arg4)
      ∧ r.2.mem ((c.tc : Thread Cert.S5Path.nD Cert.S5Path.τ).loc Cert.S5Path.main_arg5) = m ((c.tc : Thread Cert.S5Path.nD Cert.S5Path.τ).loc Cert.S5Path.main_arg5))
      ∧ r.2.sem = fun _ => 0)

def quiescent_S5PathIdeal [hS5PathIdeal : Cert.S5PathIdeal.Facts] : Prop :=
  ∀ (m : (ℓ : Loc Cert.S5PathIdeal.nD Cert.S5PathIdeal.τ Cert.S5PathIdeal.sig) → Buf (Elt Ideal) ℓ) (g : Dev Cert.S5PathIdeal.nD → PrngReg), Pre_S5PathIdeal m →
    θ_run (Cert.S5PathIdeal.defs (F := Ideal)) (onTc (τ := Cert.S5PathIdeal.τ) (Cert.S5PathIdeal.main (F := Ideal))) ⟨m, fun _ => 0, g⟩ (fun r => (∀ c : Dev Cert.S5PathIdeal.nD,
      r.2.mem ((c.tc : Thread Cert.S5PathIdeal.nD Cert.S5PathIdeal.τ).loc Cert.S5PathIdeal.main_arg0) = m ((c.tc : Thread Cert.S5PathIdeal.nD Cert.S5PathIdeal.τ).loc Cert.S5PathIdeal.main_arg0)
      ∧ r.2.mem ((c.tc : Thread Cert.S5PathIdeal.nD Cert.S5PathIdeal.τ).loc Cert.S5PathIdeal.main_arg1) = m ((c.tc : Thread Cert.S5PathIdeal.nD Cert.S5PathIdeal.τ).loc Cert.S5PathIdeal.main_arg1)
      ∧ r.2.mem ((c.tc : Thread Cert.S5PathIdeal.nD Cert.S5PathIdeal.τ).loc Cert.S5PathIdeal.main_arg2) = m ((c.tc : Thread Cert.S5PathIdeal.nD Cert.S5PathIdeal.τ).loc Cert.S5PathIdeal.main_arg2)
      ∧ r.2.mem ((c.tc : Thread Cert.S5PathIdeal.nD Cert.S5PathIdeal.τ).loc Cert.S5PathIdeal.main_arg3) = m ((c.tc : Thread Cert.S5PathIdeal.nD Cert.S5PathIdeal.τ).loc Cert.S5PathIdeal.main_arg3)
      ∧ r.2.mem ((c.tc : Thread Cert.S5PathIdeal.nD Cert.S5PathIdeal.τ).loc Cert.S5PathIdeal.main_arg4) = m ((c.tc : Thread Cert.S5PathIdeal.nD Cert.S5PathIdeal.τ).loc Cert.S5PathIdeal.main_arg4)
      ∧ r.2.mem ((c.tc : Thread Cert.S5PathIdeal.nD Cert.S5PathIdeal.τ).loc Cert.S5PathIdeal.main_arg5) = m ((c.tc : Thread Cert.S5PathIdeal.nD Cert.S5PathIdeal.τ).loc Cert.S5PathIdeal.main_arg5))
      ∧ r.2.sem = fun _ => 0)

def quiescent_S5PathIdeal_pre_finite_s5path [hS5PathIdeal : Cert.S5PathIdeal.Facts] [hPre_finite_s5path : Cert.Pre_finite_s5path.Facts] : Prop :=
  ∀ (m : (ℓ : Loc Cert.S5PathIdeal.nD Cert.S5PathIdeal.τ Cert.S5PathIdeal.sig) → Buf (Elt Ideal) ℓ) (g : Dev Cert.S5PathIdeal.nD → PrngReg), Pre_S5PathIdeal_finite_s5path m →
    θ_run (Cert.S5PathIdeal.defs (F := Ideal)) (onTc (τ := Cert.S5PathIdeal.τ) (Cert.S5PathIdeal.main (F := Ideal))) ⟨m, fun _ => 0, g⟩ (fun r => (∀ c : Dev Cert.S5PathIdeal.nD,
      r.2.mem ((c.tc : Thread Cert.S5PathIdeal.nD Cert.S5PathIdeal.τ).loc Cert.S5PathIdeal.main_arg0) = m ((c.tc : Thread Cert.S5PathIdeal.nD Cert.S5PathIdeal.τ).loc Cert.S5PathIdeal.main_arg0)
      ∧ r.2.mem ((c.tc : Thread Cert.S5PathIdeal.nD Cert.S5PathIdeal.τ).loc Cert.S5PathIdeal.main_arg1) = m ((c.tc : Thread Cert.S5PathIdeal.nD Cert.S5PathIdeal.τ).loc Cert.S5PathIdeal.main_arg1)
      ∧ r.2.mem ((c.tc : Thread Cert.S5PathIdeal.nD Cert.S5PathIdeal.τ).loc Cert.S5PathIdeal.main_arg2) = m ((c.tc : Thread Cert.S5PathIdeal.nD Cert.S5PathIdeal.τ).loc Cert.S5PathIdeal.main_arg2)
      ∧ r.2.mem ((c.tc : Thread Cert.S5PathIdeal.nD Cert.S5PathIdeal.τ).loc Cert.S5PathIdeal.main_arg3) = m ((c.tc : Thread Cert.S5PathIdeal.nD Cert.S5PathIdeal.τ).loc Cert.S5PathIdeal.main_arg3)
      ∧ r.2.mem ((c.tc : Thread Cert.S5PathIdeal.nD Cert.S5PathIdeal.τ).loc Cert.S5PathIdeal.main_arg4) = m ((c.tc : Thread Cert.S5PathIdeal.nD Cert.S5PathIdeal.τ).loc Cert.S5PathIdeal.main_arg4)
      ∧ r.2.mem ((c.tc : Thread Cert.S5PathIdeal.nD Cert.S5PathIdeal.τ).loc Cert.S5PathIdeal.main_arg5) = m ((c.tc : Thread Cert.S5PathIdeal.nD Cert.S5PathIdeal.τ).loc Cert.S5PathIdeal.main_arg5))
      ∧ r.2.sem = fun _ => 0)

def quiescent_S5PathRefIdeal [hS5PathRefIdeal : Cert.S5PathRefIdeal.Facts] : Prop :=
  ∀ (m : (ℓ : Loc Cert.S5PathRefIdeal.nD Cert.S5PathRefIdeal.τ Cert.S5PathRefIdeal.sig) → Buf (Elt Ideal) ℓ) (g : Dev Cert.S5PathRefIdeal.nD → PrngReg), Pre_S5PathRefIdeal m →
    θ_run (Cert.S5PathRefIdeal.defs (F := Ideal)) (onTc (τ := Cert.S5PathRefIdeal.τ) (Cert.S5PathRefIdeal.main (F := Ideal))) ⟨m, fun _ => 0, g⟩ (fun r => (∀ c : Dev Cert.S5PathRefIdeal.nD,
      r.2.mem ((c.tc : Thread Cert.S5PathRefIdeal.nD Cert.S5PathRefIdeal.τ).loc Cert.S5PathRefIdeal.main_arg0) = m ((c.tc : Thread Cert.S5PathRefIdeal.nD Cert.S5PathRefIdeal.τ).loc Cert.S5PathRefIdeal.main_arg0)
      ∧ r.2.mem ((c.tc : Thread Cert.S5PathRefIdeal.nD Cert.S5PathRefIdeal.τ).loc Cert.S5PathRefIdeal.main_arg1) = m ((c.tc : Thread Cert.S5PathRefIdeal.nD Cert.S5PathRefIdeal.τ).loc Cert.S5PathRefIdeal.main_arg1)
      ∧ r.2.mem ((c.tc : Thread Cert.S5PathRefIdeal.nD Cert.S5PathRefIdeal.τ).loc Cert.S5PathRefIdeal.main_arg2) = m ((c.tc : Thread Cert.S5PathRefIdeal.nD Cert.S5PathRefIdeal.τ).loc Cert.S5PathRefIdeal.main_arg2)
      ∧ r.2.mem ((c.tc : Thread Cert.S5PathRefIdeal.nD Cert.S5PathRefIdeal.τ).loc Cert.S5PathRefIdeal.main_arg3) = m ((c.tc : Thread Cert.S5PathRefIdeal.nD Cert.S5PathRefIdeal.τ).loc Cert.S5PathRefIdeal.main_arg3)
      ∧ r.2.mem ((c.tc : Thread Cert.S5PathRefIdeal.nD Cert.S5PathRefIdeal.τ).loc Cert.S5PathRefIdeal.main_arg4) = m ((c.tc : Thread Cert.S5PathRefIdeal.nD Cert.S5PathRefIdeal.τ).loc Cert.S5PathRefIdeal.main_arg4)
      ∧ r.2.mem ((c.tc : Thread Cert.S5PathRefIdeal.nD Cert.S5PathRefIdeal.τ).loc Cert.S5PathRefIdeal.main_arg5) = m ((c.tc : Thread Cert.S5PathRefIdeal.nD Cert.S5PathRefIdeal.τ).loc Cert.S5PathRefIdeal.main_arg5))
      ∧ r.2.sem = fun _ => 0)

def quiescent_S5PathRefIdeal_pre_finite_s5path [hS5PathRefIdeal : Cert.S5PathRefIdeal.Facts] [hPre_finite_s5path : Cert.Pre_finite_s5path.Facts] : Prop :=
  ∀ (m : (ℓ : Loc Cert.S5PathRefIdeal.nD Cert.S5PathRefIdeal.τ Cert.S5PathRefIdeal.sig) → Buf (Elt Ideal) ℓ) (g : Dev Cert.S5PathRefIdeal.nD → PrngReg), Pre_S5PathRefIdeal_finite_s5path m →
    θ_run (Cert.S5PathRefIdeal.defs (F := Ideal)) (onTc (τ := Cert.S5PathRefIdeal.τ) (Cert.S5PathRefIdeal.main (F := Ideal))) ⟨m, fun _ => 0, g⟩ (fun r => (∀ c : Dev Cert.S5PathRefIdeal.nD,
      r.2.mem ((c.tc : Thread Cert.S5PathRefIdeal.nD Cert.S5PathRefIdeal.τ).loc Cert.S5PathRefIdeal.main_arg0) = m ((c.tc : Thread Cert.S5PathRefIdeal.nD Cert.S5PathRefIdeal.τ).loc Cert.S5PathRefIdeal.main_arg0)
      ∧ r.2.mem ((c.tc : Thread Cert.S5PathRefIdeal.nD Cert.S5PathRefIdeal.τ).loc Cert.S5PathRefIdeal.main_arg1) = m ((c.tc : Thread Cert.S5PathRefIdeal.nD Cert.S5PathRefIdeal.τ).loc Cert.S5PathRefIdeal.main_arg1)
      ∧ r.2.mem ((c.tc : Thread Cert.S5PathRefIdeal.nD Cert.S5PathRefIdeal.τ).loc Cert.S5PathRefIdeal.main_arg2) = m ((c.tc : Thread Cert.S5PathRefIdeal.nD Cert.S5PathRefIdeal.τ).loc Cert.S5PathRefIdeal.main_arg2)
      ∧ r.2.mem ((c.tc : Thread Cert.S5PathRefIdeal.nD Cert.S5PathRefIdeal.τ).loc Cert.S5PathRefIdeal.main_arg3) = m ((c.tc : Thread Cert.S5PathRefIdeal.nD Cert.S5PathRefIdeal.τ).loc Cert.S5PathRefIdeal.main_arg3)
      ∧ r.2.mem ((c.tc : Thread Cert.S5PathRefIdeal.nD Cert.S5PathRefIdeal.τ).loc Cert.S5PathRefIdeal.main_arg4) = m ((c.tc : Thread Cert.S5PathRefIdeal.nD Cert.S5PathRefIdeal.τ).loc Cert.S5PathRefIdeal.main_arg4)
      ∧ r.2.mem ((c.tc : Thread Cert.S5PathRefIdeal.nD Cert.S5PathRefIdeal.τ).loc Cert.S5PathRefIdeal.main_arg5) = m ((c.tc : Thread Cert.S5PathRefIdeal.nD Cert.S5PathRefIdeal.τ).loc Cert.S5PathRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3)
      ∧ r.2.mem ((c.tc : Thread Cert.Branches.nD Cert.Branches.τ).loc Cert.Branches.main_arg4) = m ((c.tc : Thread Cert.Branches.nD Cert.Branches.τ).loc Cert.Branches.main_arg4)
      ∧ r.2.mem ((c.tc : Thread Cert.Branches.nD Cert.Branches.τ).loc Cert.Branches.main_arg5) = m ((c.tc : Thread Cert.Branches.nD Cert.Branches.τ).loc Cert.Branches.main_arg5)
      ∧ r.2.mem ((c.tc : Thread Cert.Branches.nD Cert.Branches.τ).loc Cert.Branches.main_arg6) = m ((c.tc : Thread Cert.Branches.nD Cert.Branches.τ).loc Cert.Branches.main_arg6)
      ∧ r.2.mem ((c.tc : Thread Cert.Branches.nD Cert.Branches.τ).loc Cert.Branches.main_arg7) = m ((c.tc : Thread Cert.Branches.nD Cert.Branches.τ).loc Cert.Branches.main_arg7)
      ∧ r.2.mem ((c.tc : Thread Cert.Branches.nD Cert.Branches.τ).loc Cert.Branches.main_arg8) = m ((c.tc : Thread Cert.Branches.nD Cert.Branches.τ).loc Cert.Branches.main_arg8)
      ∧ r.2.mem ((c.tc : Thread Cert.Branches.nD Cert.Branches.τ).loc Cert.Branches.main_arg9) = m ((c.tc : Thread Cert.Branches.nD Cert.Branches.τ).loc Cert.Branches.main_arg9))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
      ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
      ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5)
      ∧ r.2.mem ((c.tc : Thread Cert.BranchesIdeal.nD Cert.BranchesIdeal.τ).loc Cert.BranchesIdeal.main_arg6) = m ((c.tc : Thread Cert.BranchesIdeal.nD Cert.BranchesIdeal.τ).loc Cert.BranchesIdeal.main_arg6)
      ∧ r.2.mem ((c.tc : Thread Cert.BranchesIdeal.nD Cert.BranchesIdeal.τ).loc Cert.BranchesIdeal.main_arg7) = m ((c.tc : Thread Cert.BranchesIdeal.nD Cert.BranchesIdeal.τ).loc Cert.BranchesIdeal.main_arg7)
      ∧ r.2.mem ((c.tc : Thread Cert.BranchesIdeal.nD Cert.BranchesIdeal.τ).loc Cert.BranchesIdeal.main_arg8) = m ((c.tc : Thread Cert.BranchesIdeal.nD Cert.BranchesIdeal.τ).loc Cert.BranchesIdeal.main_arg8)
      ∧ r.2.mem ((c.tc : Thread Cert.BranchesIdeal.nD Cert.BranchesIdeal.τ).loc Cert.BranchesIdeal.main_arg9) = m ((c.tc : Thread Cert.BranchesIdeal.nD Cert.BranchesIdeal.τ).loc Cert.BranchesIdeal.main_arg9))
      ∧ r.2.sem = fun _ => 0)

def quiescent_BranchesRefIdeal [hBranchesRefIdeal : Cert.BranchesRefIdeal.Facts] : Prop :=
  ∀ (m : (ℓ : Loc Cert.BranchesRefIdeal.nD Cert.BranchesRefIdeal.τ Cert.BranchesRefIdeal.sig) → Buf (Elt Ideal) ℓ) (g : Dev Cert.BranchesRefIdeal.nD → PrngReg), Pre_BranchesRefIdeal m →
    θ_run (Cert.BranchesRefIdeal.defs (F := Ideal)) (onTc (τ := Cert.BranchesRefIdeal.τ) (Cert.BranchesRefIdeal.main (F := Ideal))) ⟨m, fun _ => 0, g⟩ (fun r => (∀ c : Dev Cert.BranchesRefIdeal.nD,
      r.2.mem ((c.tc : Thread Cert.BranchesRefIdeal.nD Cert.BranchesRefIdeal.τ).loc Cert.BranchesRefIdeal.main_arg0) = m ((c.tc : Thread Cert.BranchesRefIdeal.nD Cert.BranchesRefIdeal.τ).loc Cert.BranchesRefIdeal.main_arg0)
      ∧ r.2.mem ((c.tc : Thread Cert.BranchesRefIdeal.nD Cert.BranchesRefIdeal.τ).loc Cert.BranchesRefIdeal.main_arg1) = m ((c.tc : Thread Cert.BranchesRefIdeal.nD Cert.BranchesRefIdeal.τ).loc Cert.BranchesRefIdeal.main_arg1)
      ∧ r.2.mem ((c.tc : Thread Cert.BranchesRefIdeal.nD Cert.BranchesRefIdeal.τ).loc Cert.BranchesRefIdeal.main_arg2) = m ((c.tc : Thread Cert.BranchesRefIdeal.nD Cert.BranchesRefIdeal.τ).loc Cert.BranchesRefIdeal.main_arg2)
      ∧ r.2.mem ((c.tc : Thread Cert.BranchesRefIdeal.nD Cert.BranchesRefIdeal.τ).loc Cert.BranchesRefIdeal.main_arg3) = m ((c.tc : Thread Cert.BranchesRefIdeal.nD Cert.BranchesRefIdeal.τ).loc Cert.BranchesRefIdeal.main_arg3)
      ∧ r.2.mem ((c.tc : Thread Cert.BranchesRefIdeal.nD Cert.BranchesRefIdeal.τ).loc Cert.BranchesRefIdeal.main_arg4) = m ((c.tc : Thread Cert.BranchesRefIdeal.nD Cert.BranchesRefIdeal.τ).loc Cert.BranchesRefIdeal.main_arg4)
      ∧ r.2.mem ((c.tc : Thread Cert.BranchesRefIdeal.nD Cert.BranchesRefIdeal.τ).loc Cert.BranchesRefIdeal.main_arg5) = m ((c.tc : Thread Cert.BranchesRefIdeal.nD Cert.BranchesRefIdeal.τ).loc Cert.BranchesRefIdeal.main_arg5)
      ∧ r.2.mem ((c.tc : Thread Cert.BranchesRefIdeal.nD Cert.BranchesRefIdeal.τ).loc Cert.BranchesRefIdeal.main_arg6) = m ((c.tc : Thread Cert.BranchesRefIdeal.nD Cert.BranchesRefIdeal.τ).loc Cert.BranchesRefIdeal.main_arg6)
      ∧ r.2.mem ((c.tc : Thread Cert.BranchesRefIdeal.nD Cert.BranchesRefIdeal.τ).loc Cert.BranchesRefIdeal.main_arg7) = m ((c.tc : Thread Cert.BranchesRefIdeal.nD Cert.BranchesRefIdeal.τ).loc Cert.BranchesRefIdeal.main_arg7)
      ∧ r.2.mem ((c.tc : Thread Cert.BranchesRefIdeal.nD Cert.BranchesRefIdeal.τ).loc Cert.BranchesRefIdeal.main_arg8) = m ((c.tc : Thread Cert.BranchesRefIdeal.nD Cert.BranchesRefIdeal.τ).loc Cert.BranchesRefIdeal.main_arg8)
      ∧ r.2.mem ((c.tc : Thread Cert.BranchesRefIdeal.nD Cert.BranchesRefIdeal.τ).loc Cert.BranchesRefIdeal.main_arg9) = m ((c.tc : Thread Cert.BranchesRefIdeal.nD Cert.BranchesRefIdeal.τ).loc Cert.BranchesRefIdeal.main_arg9))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3))
      ∧ r.2.sem = fun _ => 0)

def quiescent_AdamCol [hAdamCol : Cert.AdamCol.Facts] : Prop :=
  ∀ (m : (ℓ : Loc Cert.AdamCol.nD Cert.AdamCol.τ Cert.AdamCol.sig) → Buf (Elt Bits) ℓ) (g : Dev Cert.AdamCol.nD → PrngReg), Pre_AdamCol m →
    θ_run (Cert.AdamCol.defs (F := Bits)) (onTc (τ := Cert.AdamCol.τ) (Cert.AdamCol.main (F := Bits))) ⟨m, fun _ => 0, g⟩ (fun r => (∀ c : Dev Cert.AdamCol.nD,
      r.2.mem ((c.tc : Thread Cert.AdamCol.nD Cert.AdamCol.τ).loc Cert.AdamCol.main_arg0) = m ((c.tc : Thread Cert.AdamCol.nD Cert.AdamCol.τ).loc Cert.AdamCol.main_arg0)
      ∧ r.2.mem ((c.tc : Thread Cert.AdamCol.nD Cert.AdamCol.τ).loc Cert.AdamCol.main_arg1) = m ((c.tc : Thread Cert.AdamCol.nD Cert.AdamCol.τ).loc Cert.AdamCol.main_arg1)
      ∧ r.2.mem ((c.tc : Thread Cert.AdamCol.nD Cert.AdamCol.τ).loc Cert.AdamCol.main_arg2) = m ((c.tc : Thread Cert.AdamCol.nD Cert.AdamCol.τ).loc Cert.AdamCol.main_arg2)
      ∧ r.2.mem ((c.tc : Thread Cert.AdamCol.nD Cert.AdamCol.τ).loc Cert.AdamCol.main_arg3) = m ((c.tc : Thread Cert.AdamCol.nD Cert.AdamCol.τ).loc Cert.AdamCol.main_arg3))
      ∧ r.2.sem = fun _ => 0)

def quiescent_AdamColIdeal [hAdamColIdeal : Cert.AdamColIdeal.Facts] : Prop :=
  ∀ (m : (ℓ : Loc Cert.AdamColIdeal.nD Cert.AdamColIdeal.τ Cert.AdamColIdeal.sig) → Buf (Elt Ideal) ℓ) (g : Dev Cert.AdamColIdeal.nD → PrngReg), Pre_AdamColIdeal m →
    θ_run (Cert.AdamColIdeal.defs (F := Ideal)) (onTc (τ := Cert.AdamColIdeal.τ) (Cert.AdamColIdeal.main (F := Ideal))) ⟨m, fun _ => 0, g⟩ (fun r => (∀ c : Dev Cert.AdamColIdeal.nD,
      r.2.mem ((c.tc : Thread Cert.AdamColIdeal.nD Cert.AdamColIdeal.τ).loc Cert.AdamColIdeal.main_arg0) = m ((c.tc : Thread Cert.AdamColIdeal.nD Cert.AdamColIdeal.τ).loc Cert.AdamColIdeal.main_arg0)
      ∧ r.2.mem ((c.tc : Thread Cert.AdamColIdeal.nD Cert.AdamColIdeal.τ).loc Cert.AdamColIdeal.main_arg1) = m ((c.tc : Thread Cert.AdamColIdeal.nD Cert.AdamColIdeal.τ).loc Cert.AdamColIdeal.main_arg1)
      ∧ r.2.mem ((c.tc : Thread Cert.AdamColIdeal.nD Cert.AdamColIdeal.τ).loc Cert.AdamColIdeal.main_arg2) = m ((c.tc : Thread Cert.AdamColIdeal.nD Cert.AdamColIdeal.τ).loc Cert.AdamColIdeal.main_arg2)
      ∧ r.2.mem ((c.tc : Thread Cert.AdamColIdeal.nD Cert.AdamColIdeal.τ).loc Cert.AdamColIdeal.main_arg3) = m ((c.tc : Thread Cert.AdamColIdeal.nD Cert.AdamColIdeal.τ).loc Cert.AdamColIdeal.main_arg3))
      ∧ r.2.sem = fun _ => 0)

def quiescent_AdamColRefIdeal [hAdamColRefIdeal : Cert.AdamColRefIdeal.Facts] : Prop :=
  ∀ (m : (ℓ : Loc Cert.AdamColRefIdeal.nD Cert.AdamColRefIdeal.τ Cert.AdamColRefIdeal.sig) → Buf (Elt Ideal) ℓ) (g : Dev Cert.AdamColRefIdeal.nD → PrngReg), Pre_AdamColRefIdeal m →
    θ_run (Cert.AdamColRefIdeal.defs (F := Ideal)) (onTc (τ := Cert.AdamColRefIdeal.τ) (Cert.AdamColRefIdeal.main (F := Ideal))) ⟨m, fun _ => 0, g⟩ (fun r => (∀ c : Dev Cert.AdamColRefIdeal.nD,
      r.2.mem ((c.tc : Thread Cert.AdamColRefIdeal.nD Cert.AdamColRefIdeal.τ).loc Cert.AdamColRefIdeal.main_arg0) = m ((c.tc : Thread Cert.AdamColRefIdeal.nD Cert.AdamColRefIdeal.τ).loc Cert.AdamColRefIdeal.main_arg0)
      ∧ r.2.mem ((c.tc : Thread Cert.AdamColRefIdeal.nD Cert.AdamColRefIdeal.τ).loc Cert.AdamColRefIdeal.main_arg1) = m ((c.tc : Thread Cert.AdamColRefIdeal.nD Cert.AdamColRefIdeal.τ).loc Cert.AdamColRefIdeal.main_arg1)
      ∧ r.2.mem ((c.tc : Thread Cert.AdamColRefIdeal.nD Cert.AdamColRefIdeal.τ).loc Cert.AdamColRefIdeal.main_arg2) = m ((c.tc : Thread Cert.AdamColRefIdeal.nD Cert.AdamColRefIdeal.τ).loc Cert.AdamColRefIdeal.main_arg2)
      ∧ r.2.mem ((c.tc : Thread Cert.AdamColRefIdeal.nD Cert.AdamColRefIdeal.τ).loc Cert.AdamColRefIdeal.main_arg3) = m ((c.tc : Thread Cert.AdamColRefIdeal.nD Cert.AdamColRefIdeal.τ).loc Cert.AdamColRefIdeal.main_arg3))
      ∧ r.2.sem = fun _ => 0)

def quiescent_AdamEmb [hAdamEmb : Cert.AdamEmb.Facts] : Prop :=
  ∀ (m : (ℓ : Loc Cert.AdamEmb.nD Cert.AdamEmb.τ Cert.AdamEmb.sig) → Buf (Elt Bits) ℓ) (g : Dev Cert.AdamEmb.nD → PrngReg), Pre_AdamEmb m →
    θ_run (Cert.AdamEmb.defs (F := Bits)) (onTc (τ := Cert.AdamEmb.τ) (Cert.AdamEmb.main (F := Bits))) ⟨m, fun _ => 0, g⟩ (fun r => (∀ c : Dev Cert.AdamEmb.nD,
      r.2.mem ((c.tc : Thread Cert.AdamEmb.nD Cert.AdamEmb.τ).loc Cert.AdamEmb.main_arg0) = m ((c.tc : Thread Cert.AdamEmb.nD Cert.AdamEmb.τ).loc Cert.AdamEmb.main_arg0)
      ∧ r.2.mem ((c.tc : Thread Cert.AdamEmb.nD Cert.AdamEmb.τ).loc Cert.AdamEmb.main_arg1) = m ((c.tc : Thread Cert.AdamEmb.nD Cert.AdamEmb.τ).loc Cert.AdamEmb.main_arg1)
      ∧ r.2.mem ((c.tc : Thread Cert.AdamEmb.nD Cert.AdamEmb.τ).loc Cert.AdamEmb.main_arg2) = m ((c.tc : Thread Cert.AdamEmb.nD Cert.AdamEmb.τ).loc Cert.AdamEmb.main_arg2)
      ∧ r.2.mem ((c.tc : Thread Cert.AdamEmb.nD Cert.AdamEmb.τ).loc Cert.AdamEmb.main_arg3) = m ((c.tc : Thread Cert.AdamEmb.nD Cert.AdamEmb.τ).loc Cert.AdamEmb.main_arg3))
      ∧ r.2.sem = fun _ => 0)

def quiescent_AdamEmbIdeal [hAdamEmbIdeal : Cert.AdamEmbIdeal.Facts] : Prop :=
  ∀ (m : (ℓ : Loc Cert.AdamEmbIdeal.nD Cert.AdamEmbIdeal.τ Cert.AdamEmbIdeal.sig) → Buf (Elt Ideal) ℓ) (g : Dev Cert.AdamEmbIdeal.nD → PrngReg), Pre_AdamEmbIdeal m →
    θ_run (Cert.AdamEmbIdeal.defs (F := Ideal)) (onTc (τ := Cert.AdamEmbIdeal.τ) (Cert.AdamEmbIdeal.main (F := Ideal))) ⟨m, fun _ => 0, g⟩ (fun r => (∀ c : Dev Cert.AdamEmbIdeal.nD,
      r.2.mem ((c.tc : Thread Cert.AdamEmbIdeal.nD Cert.AdamEmbIdeal.τ).loc Cert.AdamEmbIdeal.main_arg0) = m ((c.tc : Thread Cert.AdamEmbIdeal.nD Cert.AdamEmbIdeal.τ).loc Cert.AdamEmbIdeal.main_arg0)
      ∧ r.2.mem ((c.tc : Thread Cert.AdamEmbIdeal.nD Cert.AdamEmbIdeal.τ).loc Cert.AdamEmbIdeal.main_arg1) = m ((c.tc : Thread Cert.AdamEmbIdeal.nD Cert.AdamEmbIdeal.τ).loc Cert.AdamEmbIdeal.main_arg1)
      ∧ r.2.mem ((c.tc : Thread Cert.AdamEmbIdeal.nD Cert.AdamEmbIdeal.τ).loc Cert.AdamEmbIdeal.main_arg2) = m ((c.tc : Thread Cert.AdamEmbIdeal.nD Cert.AdamEmbIdeal.τ).loc Cert.AdamEmbIdeal.main_arg2)
      ∧ r.2.mem ((c.tc : Thread Cert.AdamEmbIdeal.nD Cert.AdamEmbIdeal.τ).loc Cert.AdamEmbIdeal.main_arg3) = m ((c.tc : Thread Cert.AdamEmbIdeal.nD Cert.AdamEmbIdeal.τ).loc Cert.AdamEmbIdeal.main_arg3))
      ∧ r.2.sem = fun _ => 0)

def quiescent_AdamEmbRefIdeal [hAdamEmbRefIdeal : Cert.AdamEmbRefIdeal.Facts] : Prop :=
  ∀ (m : (ℓ : Loc Cert.AdamEmbRefIdeal.nD Cert.AdamEmbRefIdeal.τ Cert.AdamEmbRefIdeal.sig) → Buf (Elt Ideal) ℓ) (g : Dev Cert.AdamEmbRefIdeal.nD → PrngReg), Pre_AdamEmbRefIdeal m →
    θ_run (Cert.AdamEmbRefIdeal.defs (F := Ideal)) (onTc (τ := Cert.AdamEmbRefIdeal.τ) (Cert.AdamEmbRefIdeal.main (F := Ideal))) ⟨m, fun _ => 0, g⟩ (fun r => (∀ c : Dev Cert.AdamEmbRefIdeal.nD,
      r.2.mem ((c.tc : Thread Cert.AdamEmbRefIdeal.nD Cert.AdamEmbRefIdeal.τ).loc Cert.AdamEmbRefIdeal.main_arg0) = m ((c.tc : Thread Cert.AdamEmbRefIdeal.nD Cert.AdamEmbRefIdeal.τ).loc Cert.AdamEmbRefIdeal.main_arg0)
      ∧ r.2.mem ((c.tc : Thread Cert.AdamEmbRefIdeal.nD Cert.AdamEmbRefIdeal.τ).loc Cert.AdamEmbRefIdeal.main_arg1) = m ((c.tc : Thread Cert.AdamEmbRefIdeal.nD Cert.AdamEmbRefIdeal.τ).loc Cert.AdamEmbRefIdeal.main_arg1)
      ∧ r.2.mem ((c.tc : Thread Cert.AdamEmbRefIdeal.nD Cert.AdamEmbRefIdeal.τ).loc Cert.AdamEmbRefIdeal.main_arg2) = m ((c.tc : Thread Cert.AdamEmbRefIdeal.nD Cert.AdamEmbRefIdeal.τ).loc Cert.AdamEmbRefIdeal.main_arg2)
      ∧ r.2.mem ((c.tc : Thread Cert.AdamEmbRefIdeal.nD Cert.AdamEmbRefIdeal.τ).loc Cert.AdamEmbRefIdeal.main_arg3) = m ((c.tc : Thread Cert.AdamEmbRefIdeal.nD Cert.AdamEmbRefIdeal.τ).loc Cert.AdamEmbRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)) (v3 : (c : Dev Cert.KernelIdeal.nD) → Buf (Elt Ideal) ((c.tc : Thread Cert.KernelIdeal.nD Cert.KernelIdeal.τ).loc Cert.KernelIdeal.main_v61_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_v61_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_v40) = v2 c
          ∧ r.2.mem ((c.tc : Thread Cert.MergeRefIdeal.nD Cert.MergeRefIdeal.τ).loc Cert.MergeRefIdeal.main_v41) = v3 c
          ∧ r.2.mem ((c.tc : Thread Cert.MergeRefIdeal.nD Cert.MergeRefIdeal.τ).loc Cert.MergeRefIdeal.main_v30) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v47) = v0 c
          ∧ r.2.mem ((c.tc : Thread Cert.InprojRefIdeal.nD Cert.InprojRefIdeal.τ).loc Cert.InprojRefIdeal.main_v48) = v1 c
          ∧ r.2.mem ((c.tc : Thread Cert.InprojRefIdeal.nD Cert.InprojRefIdeal.τ).loc Cert.InprojRefIdeal.main_v30) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11))

def preserves_HgPath_HgPathIdeal : Prop :=
  True

def algebraic_HgPathIdeal_HgPathRefIdeal_pre_finite_hgpath [hHgPathIdeal : Cert.HgPathIdeal.Facts] [hHgPathRefIdeal : Cert.HgPathRefIdeal.Facts] [hPre_finite_hgpath : Cert.Pre_finite_hgpath.Facts] : Prop :=
  ∀ (m : (ℓ : Loc Cert.HgPathIdeal.nD Cert.HgPathIdeal.τ Cert.HgPathIdeal.sig) → Buf (Elt Ideal) ℓ) (g : Dev Cert.HgPathIdeal.nD → PrngReg)
    (m' : (ℓ : Loc Cert.HgPathRefIdeal.nD Cert.HgPathRefIdeal.τ Cert.HgPathRefIdeal.sig) → Buf (Elt Ideal) ℓ) (g' : Dev Cert.HgPathRefIdeal.nD → PrngReg), Pre_HgPathIdeal_finite_hgpath m →
    (∀ c : Dev Cert.HgPathIdeal.nD,
      m' ((c.tc : Thread Cert.HgPathRefIdeal.nD Cert.HgPathRefIdeal.τ).loc Cert.HgPathRefIdeal.main_arg0) = m ((c.tc : Thread Cert.HgPathIdeal.nD Cert.HgPathIdeal.τ).loc Cert.HgPathIdeal.main_arg0)
      ∧ m' ((c.tc : Thread Cert.HgPathRefIdeal.nD Cert.HgPathRefIdeal.τ).loc Cert.HgPathRefIdeal.main_arg1) = m ((c.tc : Thread Cert.HgPathIdeal.nD Cert.HgPathIdeal.τ).loc Cert.HgPathIdeal.main_arg1)
      ∧ m' ((c.tc : Thread Cert.HgPathRefIdeal.nD Cert.HgPathRefIdeal.τ).loc Cert.HgPathRefIdeal.main_arg2) = m ((c.tc : Thread Cert.HgPathIdeal.nD Cert.HgPathIdeal.τ).loc Cert.HgPathIdeal.main_arg2)
      ∧ m' ((c.tc : Thread Cert.HgPathRefIdeal.nD Cert.HgPathRefIdeal.τ).loc Cert.HgPathRefIdeal.main_arg3) = m ((c.tc : Thread Cert.HgPathIdeal.nD Cert.HgPathIdeal.τ).loc Cert.HgPathIdeal.main_arg3)
      ∧ m' ((c.tc : Thread Cert.HgPathRefIdeal.nD Cert.HgPathRefIdeal.τ).loc Cert.HgPathRefIdeal.main_arg4) = m ((c.tc : Thread Cert.HgPathIdeal.nD Cert.HgPathIdeal.τ).loc Cert.HgPathIdeal.main_arg4)) →
    ∃ (v0 : (c : Dev Cert.HgPathIdeal.nD) → Buf (Elt Ideal) ((c.tc : Thread Cert.HgPathIdeal.nD Cert.HgPathIdeal.τ).loc Cert.HgPathIdeal.main_v0_0)) (v1 : (c : Dev Cert.HgPathIdeal.nD) → Buf (Elt Ideal) ((c.tc : Thread Cert.HgPathIdeal.nD Cert.HgPathIdeal.τ).loc Cert.HgPathIdeal.main_v0_1)) (v2 : (c : Dev Cert.HgPathIdeal.nD) → Buf (Elt Ideal) ((c.tc : Thread Cert.HgPathIdeal.nD Cert.HgPathIdeal.τ).loc Cert.HgPathIdeal.main_v0_2)) (v3 : (c : Dev Cert.HgPathIdeal.nD) → Buf (Elt Ideal) ((c.tc : Thread Cert.HgPathIdeal.nD Cert.HgPathIdeal.τ).loc Cert.HgPathIdeal.main_v0_3)),
      θ_run (Cert.HgPathIdeal.defs (F := Ideal)) (onTc (τ := Cert.HgPathIdeal.τ) (Cert.HgPathIdeal.main (F := Ideal))) ⟨m, fun _ => 0, g⟩ (fun r => ∀ c : Dev Cert.HgPathIdeal.nD,
          r.2.mem ((c.tc : Thread Cert.HgPathIdeal.nD Cert.HgPathIdeal.τ).loc Cert.HgPathIdeal.main_v0_0) = v0 c
          ∧ r.2.mem ((c.tc : Thread Cert.HgPathIdeal.nD Cert.HgPathIdeal.τ).loc Cert.HgPathIdeal.main_v0_1) = v1 c
          ∧ r.2.mem ((c.tc : Thread Cert.HgPathIdeal.nD Cert.HgPathIdeal.τ).loc Cert.HgPathIdeal.main_v0_2) = v2 c
          ∧ r.2.mem ((c.tc : Thread Cert.HgPathIdeal.nD Cert.HgPathIdeal.τ).loc Cert.HgPathIdeal.main_v0_3) = v3 c
          ∧ r.2.mem ((c.tc : Thread Cert.HgPathIdeal.nD Cert.HgPathIdeal.τ).loc Cert.HgPathIdeal.main_arg0) = m ((c.tc : Thread Cert.HgPathIdeal.nD Cert.HgPathIdeal.τ).loc Cert.HgPathIdeal.main_arg0)
          ∧ r.2.mem ((c.tc : Thread Cert.HgPathIdeal.nD Cert.HgPathIdeal.τ).loc Cert.HgPathIdeal.main_arg1) = m ((c.tc : Thread Cert.HgPathIdeal.nD Cert.HgPathIdeal.τ).loc Cert.HgPathIdeal.main_arg1)
          ∧ r.2.mem ((c.tc : Thread Cert.HgPathIdeal.nD Cert.HgPathIdeal.τ).loc Cert.HgPathIdeal.main_arg2) = m ((c.tc : Thread Cert.HgPathIdeal.nD Cert.HgPathIdeal.τ).loc Cert.HgPathIdeal.main_arg2)
          ∧ r.2.mem ((c.tc : Thread Cert.HgPathIdeal.nD Cert.HgPathIdeal.τ).loc Cert.HgPathIdeal.main_arg3) = m ((c.tc : Thread Cert.HgPathIdeal.nD Cert.HgPathIdeal.τ).loc Cert.HgPathIdeal.main_arg3)
          ∧ r.2.mem ((c.tc : Thread Cert.HgPathIdeal.nD Cert.HgPathIdeal.τ).loc Cert.HgPathIdeal.main_arg4) = m ((c.tc : Thread Cert.HgPathIdeal.nD Cert.HgPathIdeal.τ).loc Cert.HgPathIdeal.main_arg4))
      ∧ θ_run (Cert.HgPathRefIdeal.defs (F := Ideal)) (onTc (τ := Cert.HgPathRefIdeal.τ) (Cert.HgPathRefIdeal.main (F := Ideal))) ⟨m', fun _ => 0, g'⟩ (fun r => ∀ c : Dev Cert.HgPathRefIdeal.nD,
          r.2.mem ((c.tc : Thread Cert.HgPathRefIdeal.nD Cert.HgPathRefIdeal.τ).loc Cert.HgPathRefIdeal.main_v55) = v0 c
          ∧ r.2.mem ((c.tc : Thread Cert.HgPathRefIdeal.nD Cert.HgPathRefIdeal.τ).loc Cert.HgPathRefIdeal.main_v56) = v1 c
          ∧ r.2.mem ((c.tc : Thread Cert.HgPathRefIdeal.nD Cert.HgPathRefIdeal.τ).loc Cert.HgPathRefIdeal.main_v27) = v2 c
          ∧ r.2.mem ((c.tc : Thread Cert.HgPathRefIdeal.nD Cert.HgPathRefIdeal.τ).loc Cert.HgPathRefIdeal.main_v53) = v3 c
          ∧ r.2.mem ((c.tc : Thread Cert.HgPathRefIdeal.nD Cert.HgPathRefIdeal.τ).loc Cert.HgPathRefIdeal.main_arg0) = m' ((c.tc : Thread Cert.HgPathRefIdeal.nD Cert.HgPathRefIdeal.τ).loc Cert.HgPathRefIdeal.main_arg0)
          ∧ r.2.mem ((c.tc : Thread Cert.HgPathRefIdeal.nD Cert.HgPathRefIdeal.τ).loc Cert.HgPathRefIdeal.main_arg1) = m' ((c.tc : Thread Cert.HgPathRefIdeal.nD Cert.HgPathRefIdeal.τ).loc Cert.HgPathRefIdeal.main_arg1)
          ∧ r.2.mem ((c.tc : Thread Cert.HgPathRefIdeal.nD Cert.HgPathRefIdeal.τ).loc Cert.HgPathRefIdeal.main_arg2) = m' ((c.tc : Thread Cert.HgPathRefIdeal.nD Cert.HgPathRefIdeal.τ).loc Cert.HgPathRefIdeal.main_arg2)
          ∧ r.2.mem ((c.tc : Thread Cert.HgPathRefIdeal.nD Cert.HgPathRefIdeal.τ).loc Cert.HgPathRefIdeal.main_arg3) = m' ((c.tc : Thread Cert.HgPathRefIdeal.nD Cert.HgPathRefIdeal.τ).loc Cert.HgPathRefIdeal.main_arg3)
          ∧ r.2.mem ((c.tc : Thread Cert.HgPathRefIdeal.nD Cert.HgPathRefIdeal.τ).loc Cert.HgPathRefIdeal.main_arg4) = m' ((c.tc : Thread Cert.HgPathRefIdeal.nD Cert.HgPathRefIdeal.τ).loc Cert.HgPathRefIdeal.main_arg4))

def preserves_S5Path_S5PathIdeal : Prop :=
  IdealRules.named_const.Statement Cert.S5PathIdeal.κ "gelu_cubic" .f32 0x3D372713#32 ((8943 / 200000 : ℝ) : EReal)
  ∧ IdealRules.named_const.Statement Cert.S5PathIdeal.κ "gelu_cubic_slope" .f32 0x3E095D4F#32 ((26829 / 200000 : ℝ) : EReal)

def algebraic_S5PathIdeal_S5PathRefIdeal_pre_finite_s5path [hS5PathIdeal : Cert.S5PathIdeal.Facts] [hS5PathRefIdeal : Cert.S5PathRefIdeal.Facts] [hPre_finite_s5path : Cert.Pre_finite_s5path.Facts] : Prop :=
  ∀ (m : (ℓ : Loc Cert.S5PathIdeal.nD Cert.S5PathIdeal.τ Cert.S5PathIdeal.sig) → Buf (Elt Ideal) ℓ) (g : Dev Cert.S5PathIdeal.nD → PrngReg)
    (m' : (ℓ : Loc Cert.S5PathRefIdeal.nD Cert.S5PathRefIdeal.τ Cert.S5PathRefIdeal.sig) → Buf (Elt Ideal) ℓ) (g' : Dev Cert.S5PathRefIdeal.nD → PrngReg), Pre_S5PathIdeal_finite_s5path m →
    (∀ c : Dev Cert.S5PathIdeal.nD,
      m' ((c.tc : Thread Cert.S5PathRefIdeal.nD Cert.S5PathRefIdeal.τ).loc Cert.S5PathRefIdeal.main_arg0) = m ((c.tc : Thread Cert.S5PathIdeal.nD Cert.S5PathIdeal.τ).loc Cert.S5PathIdeal.main_arg0)
      ∧ m' ((c.tc : Thread Cert.S5PathRefIdeal.nD Cert.S5PathRefIdeal.τ).loc Cert.S5PathRefIdeal.main_arg1) = m ((c.tc : Thread Cert.S5PathIdeal.nD Cert.S5PathIdeal.τ).loc Cert.S5PathIdeal.main_arg1)
      ∧ m' ((c.tc : Thread Cert.S5PathRefIdeal.nD Cert.S5PathRefIdeal.τ).loc Cert.S5PathRefIdeal.main_arg2) = m ((c.tc : Thread Cert.S5PathIdeal.nD Cert.S5PathIdeal.τ).loc Cert.S5PathIdeal.main_arg2)
      ∧ m' ((c.tc : Thread Cert.S5PathRefIdeal.nD Cert.S5PathRefIdeal.τ).loc Cert.S5PathRefIdeal.main_arg3) = m ((c.tc : Thread Cert.S5PathIdeal.nD Cert.S5PathIdeal.τ).loc Cert.S5PathIdeal.main_arg3)
      ∧ m' ((c.tc : Thread Cert.S5PathRefIdeal.nD Cert.S5PathRefIdeal.τ).loc Cert.S5PathRefIdeal.main_arg4) = m ((c.tc : Thread Cert.S5PathIdeal.nD Cert.S5PathIdeal.τ).loc Cert.S5PathIdeal.main_arg4)
      ∧ m' ((c.tc : Thread Cert.S5PathRefIdeal.nD Cert.S5PathRefIdeal.τ).loc Cert.S5PathRefIdeal.main_arg5) = m ((c.tc : Thread Cert.S5PathIdeal.nD Cert.S5PathIdeal.τ).loc Cert.S5PathIdeal.main_arg5)) →
    ∃ (v0 : (c : Dev Cert.S5PathIdeal.nD) → Buf (Elt Ideal) ((c.tc : Thread Cert.S5PathIdeal.nD Cert.S5PathIdeal.τ).loc Cert.S5PathIdeal.main_v0_0)) (v1 : (c : Dev Cert.S5PathIdeal.nD) → Buf (Elt Ideal) ((c.tc : Thread Cert.S5PathIdeal.nD Cert.S5PathIdeal.τ).loc Cert.S5PathIdeal.main_v0_1)) (v2 : (c : Dev Cert.S5PathIdeal.nD) → Buf (Elt Ideal) ((c.tc : Thread Cert.S5PathIdeal.nD Cert.S5PathIdeal.τ).loc Cert.S5PathIdeal.main_v0_2)) (v3 : (c : Dev Cert.S5PathIdeal.nD) → Buf (Elt Ideal) ((c.tc : Thread Cert.S5PathIdeal.nD Cert.S5PathIdeal.τ).loc Cert.S5PathIdeal.main_v0_3)) (v4 : (c : Dev Cert.S5PathIdeal.nD) → Buf (Elt Ideal) ((c.tc : Thread Cert.S5PathIdeal.nD Cert.S5PathIdeal.τ).loc Cert.S5PathIdeal.main_v0_4)),
      θ_run (Cert.S5PathIdeal.defs (F := Ideal)) (onTc (τ := Cert.S5PathIdeal.τ) (Cert.S5PathIdeal.main (F := Ideal))) ⟨m, fun _ => 0, g⟩ (fun r => ∀ c : Dev Cert.S5PathIdeal.nD,
          r.2.mem ((c.tc : Thread Cert.S5PathIdeal.nD Cert.S5PathIdeal.τ).loc Cert.S5PathIdeal.main_v0_0) = v0 c
          ∧ r.2.mem ((c.tc : Thread Cert.S5PathIdeal.nD Cert.S5PathIdeal.τ).loc Cert.S5PathIdeal.main_v0_1) = v1 c
          ∧ r.2.mem ((c.tc : Thread Cert.S5PathIdeal.nD Cert.S5PathIdeal.τ).loc Cert.S5PathIdeal.main_v0_2) = v2 c
          ∧ r.2.mem ((c.tc : Thread Cert.S5PathIdeal.nD Cert.S5PathIdeal.τ).loc Cert.S5PathIdeal.main_v0_3) = v3 c
          ∧ r.2.mem ((c.tc : Thread Cert.S5PathIdeal.nD Cert.S5PathIdeal.τ).loc Cert.S5PathIdeal.main_v0_4) = v4 c
          ∧ r.2.mem ((c.tc : Thread Cert.S5PathIdeal.nD Cert.S5PathIdeal.τ).loc Cert.S5PathIdeal.main_arg0) = m ((c.tc : Thread Cert.S5PathIdeal.nD Cert.S5PathIdeal.τ).loc Cert.S5PathIdeal.main_arg0)
          ∧ r.2.mem ((c.tc : Thread Cert.S5PathIdeal.nD Cert.S5PathIdeal.τ).loc Cert.S5PathIdeal.main_arg1) = m ((c.tc : Thread Cert.S5PathIdeal.nD Cert.S5PathIdeal.τ).loc Cert.S5PathIdeal.main_arg1)
          ∧ r.2.mem ((c.tc : Thread Cert.S5PathIdeal.nD Cert.S5PathIdeal.τ).loc Cert.S5PathIdeal.main_arg2) = m ((c.tc : Thread Cert.S5PathIdeal.nD Cert.S5PathIdeal.τ).loc Cert.S5PathIdeal.main_arg2)
          ∧ r.2.mem ((c.tc : Thread Cert.S5PathIdeal.nD Cert.S5PathIdeal.τ).loc Cert.S5PathIdeal.main_arg3) = m ((c.tc : Thread Cert.S5PathIdeal.nD Cert.S5PathIdeal.τ).loc Cert.S5PathIdeal.main_arg3)
          ∧ r.2.mem ((c.tc : Thread Cert.S5PathIdeal.nD Cert.S5PathIdeal.τ).loc Cert.S5PathIdeal.main_arg4) = m ((c.tc : Thread Cert.S5PathIdeal.nD Cert.S5PathIdeal.τ).loc Cert.S5PathIdeal.main_arg4)
          ∧ r.2.mem ((c.tc : Thread Cert.S5PathIdeal.nD Cert.S5PathIdeal.τ).loc Cert.S5PathIdeal.main_arg5) = m ((c.tc : Thread Cert.S5PathIdeal.nD Cert.S5PathIdeal.τ).loc Cert.S5PathIdeal.main_arg5))
      ∧ θ_run (Cert.S5PathRefIdeal.defs (F := Ideal)) (onTc (τ := Cert.S5PathRefIdeal.τ) (Cert.S5PathRefIdeal.main (F := Ideal))) ⟨m', fun _ => 0, g'⟩ (fun r => ∀ c : Dev Cert.S5PathRefIdeal.nD,
          r.2.mem ((c.tc : Thread Cert.S5PathRefIdeal.nD Cert.S5PathRefIdeal.τ).loc Cert.S5PathRefIdeal.main_v73) = v0 c
          ∧ r.2.mem ((c.tc : Thread Cert.S5PathRefIdeal.nD Cert.S5PathRefIdeal.τ).loc Cert.S5PathRefIdeal.main_v74) = v1 c
          ∧ r.2.mem ((c.tc : Thread Cert.S5PathRefIdeal.nD Cert.S5PathRefIdeal.τ).loc Cert.S5PathRefIdeal.main_v21) = v2 c
          ∧ r.2.mem ((c.tc : Thread Cert.S5PathRefIdeal.nD Cert.S5PathRefIdeal.τ).loc Cert.S5PathRefIdeal.main_v60) = v3 c
          ∧ r.2.mem ((c.tc : Thread Cert.S5PathRefIdeal.nD Cert.S5PathRefIdeal.τ).loc Cert.S5PathRefIdeal.main_v58) = v4 c
          ∧ r.2.mem ((c.tc : Thread Cert.S5PathRefIdeal.nD Cert.S5PathRefIdeal.τ).loc Cert.S5PathRefIdeal.main_arg0) = m' ((c.tc : Thread Cert.S5PathRefIdeal.nD Cert.S5PathRefIdeal.τ).loc Cert.S5PathRefIdeal.main_arg0)
          ∧ r.2.mem ((c.tc : Thread Cert.S5PathRefIdeal.nD Cert.S5PathRefIdeal.τ).loc Cert.S5PathRefIdeal.main_arg1) = m' ((c.tc : Thread Cert.S5PathRefIdeal.nD Cert.S5PathRefIdeal.τ).loc Cert.S5PathRefIdeal.main_arg1)
          ∧ r.2.mem ((c.tc : Thread Cert.S5PathRefIdeal.nD Cert.S5PathRefIdeal.τ).loc Cert.S5PathRefIdeal.main_arg2) = m' ((c.tc : Thread Cert.S5PathRefIdeal.nD Cert.S5PathRefIdeal.τ).loc Cert.S5PathRefIdeal.main_arg2)
          ∧ r.2.mem ((c.tc : Thread Cert.S5PathRefIdeal.nD Cert.S5PathRefIdeal.τ).loc Cert.S5PathRefIdeal.main_arg3) = m' ((c.tc : Thread Cert.S5PathRefIdeal.nD Cert.S5PathRefIdeal.τ).loc Cert.S5PathRefIdeal.main_arg3)
          ∧ r.2.mem ((c.tc : Thread Cert.S5PathRefIdeal.nD Cert.S5PathRefIdeal.τ).loc Cert.S5PathRefIdeal.main_arg4) = m' ((c.tc : Thread Cert.S5PathRefIdeal.nD Cert.S5PathRefIdeal.τ).loc Cert.S5PathRefIdeal.main_arg4)
          ∧ r.2.mem ((c.tc : Thread Cert.S5PathRefIdeal.nD Cert.S5PathRefIdeal.τ).loc Cert.S5PathRefIdeal.main_arg5) = m' ((c.tc : Thread Cert.S5PathRefIdeal.nD Cert.S5PathRefIdeal.τ).loc Cert.S5PathRefIdeal.main_arg5))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)) (v2 : (c : Dev Cert.PleIdeal.nD) → Buf (Elt Ideal) ((c.tc : Thread Cert.PleIdeal.nD Cert.PleIdeal.τ).loc Cert.PleIdeal.main_v0_2)) (v3 : (c : Dev Cert.PleIdeal.nD) → Buf (Elt Ideal) ((c.tc : Thread Cert.PleIdeal.nD Cert.PleIdeal.τ).loc Cert.PleIdeal.main_v0_3)) (v4 : (c : Dev Cert.PleIdeal.nD) → Buf (Elt Ideal) ((c.tc : Thread Cert.PleIdeal.nD Cert.PleIdeal.τ).loc Cert.PleIdeal.main_v0_4)) (v5 : (c : Dev Cert.PleIdeal.nD) → Buf (Elt Ideal) ((c.tc : Thread Cert.PleIdeal.nD Cert.PleIdeal.τ).loc Cert.PleIdeal.main_v0_5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_v0_2) = v2 c
          ∧ r.2.mem ((c.tc : Thread Cert.PleIdeal.nD Cert.PleIdeal.τ).loc Cert.PleIdeal.main_v0_3) = v3 c
          ∧ r.2.mem ((c.tc : Thread Cert.PleIdeal.nD Cert.PleIdeal.τ).loc Cert.PleIdeal.main_v0_4) = v4 c
          ∧ r.2.mem ((c.tc : Thread Cert.PleIdeal.nD Cert.PleIdeal.τ).loc Cert.PleIdeal.main_v0_5) = v5 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v104) = v0 c
          ∧ r.2.mem ((c.tc : Thread Cert.PleRefIdeal.nD Cert.PleRefIdeal.τ).loc Cert.PleRefIdeal.main_v107) = v1 c
          ∧ r.2.mem ((c.tc : Thread Cert.PleRefIdeal.nD Cert.PleRefIdeal.τ).loc Cert.PleRefIdeal.main_v62) = v2 c
          ∧ r.2.mem ((c.tc : Thread Cert.PleRefIdeal.nD Cert.PleRefIdeal.τ).loc Cert.PleRefIdeal.main_v87) = v3 c
          ∧ r.2.mem ((c.tc : Thread Cert.PleRefIdeal.nD Cert.PleRefIdeal.τ).loc Cert.PleRefIdeal.main_v106) = v4 c
          ∧ r.2.mem ((c.tc : Thread Cert.PleRefIdeal.nD Cert.PleRefIdeal.τ).loc Cert.PleRefIdeal.main_v83) = v5 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Branches_BranchesIdeal : Prop :=
  True

def algebraic_BranchesIdeal_BranchesRefIdeal [hBranchesIdeal : Cert.BranchesIdeal.Facts] [hBranchesRefIdeal : Cert.BranchesRefIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesRefIdeal.nD Cert.BranchesRefIdeal.τ Cert.BranchesRefIdeal.sig) → Buf (Elt Ideal) ℓ) (g' : Dev Cert.BranchesRefIdeal.nD → PrngReg), Pre_BranchesIdeal m →
    (∀ c : Dev Cert.BranchesIdeal.nD,
      m' ((c.tc : Thread Cert.BranchesRefIdeal.nD Cert.BranchesRefIdeal.τ).loc Cert.BranchesRefIdeal.main_arg0) = m ((c.tc : Thread Cert.BranchesIdeal.nD Cert.BranchesIdeal.τ).loc Cert.BranchesIdeal.main_arg0)
      ∧ m' ((c.tc : Thread Cert.BranchesRefIdeal.nD Cert.BranchesRefIdeal.τ).loc Cert.BranchesRefIdeal.main_arg1) = m ((c.tc : Thread Cert.BranchesIdeal.nD Cert.BranchesIdeal.τ).loc Cert.BranchesIdeal.main_arg1)
      ∧ m' ((c.tc : Thread Cert.BranchesRefIdeal.nD Cert.BranchesRefIdeal.τ).loc Cert.BranchesRefIdeal.main_arg2) = m ((c.tc : Thread Cert.BranchesIdeal.nD Cert.BranchesIdeal.τ).loc Cert.BranchesIdeal.main_arg2)
      ∧ m' ((c.tc : Thread Cert.BranchesRefIdeal.nD Cert.BranchesRefIdeal.τ).loc Cert.BranchesRefIdeal.main_arg3) = m ((c.tc : Thread Cert.BranchesIdeal.nD Cert.BranchesIdeal.τ).loc Cert.BranchesIdeal.main_arg3)
      ∧ m' ((c.tc : Thread Cert.BranchesRefIdeal.nD Cert.BranchesRefIdeal.τ).loc Cert.BranchesRefIdeal.main_arg4) = m ((c.tc : Thread Cert.BranchesIdeal.nD Cert.BranchesIdeal.τ).loc Cert.BranchesIdeal.main_arg4)
      ∧ m' ((c.tc : Thread Cert.BranchesRefIdeal.nD Cert.BranchesRefIdeal.τ).loc Cert.BranchesRefIdeal.main_arg5) = m ((c.tc : Thread Cert.BranchesIdeal.nD Cert.BranchesIdeal.τ).loc Cert.BranchesIdeal.main_arg5)
      ∧ m' ((c.tc : Thread Cert.BranchesRefIdeal.nD Cert.BranchesRefIdeal.τ).loc Cert.BranchesRefIdeal.main_arg6) = m ((c.tc : Thread Cert.BranchesIdeal.nD Cert.BranchesIdeal.τ).loc Cert.BranchesIdeal.main_arg6)
      ∧ m' ((c.tc : Thread Cert.BranchesRefIdeal.nD Cert.BranchesRefIdeal.τ).loc Cert.BranchesRefIdeal.main_arg7) = m ((c.tc : Thread Cert.BranchesIdeal.nD Cert.BranchesIdeal.τ).loc Cert.BranchesIdeal.main_arg7)
      ∧ m' ((c.tc : Thread Cert.BranchesRefIdeal.nD Cert.BranchesRefIdeal.τ).loc Cert.BranchesRefIdeal.main_arg8) = m ((c.tc : Thread Cert.BranchesIdeal.nD Cert.BranchesIdeal.τ).loc Cert.BranchesIdeal.main_arg8)
      ∧ m' ((c.tc : Thread Cert.BranchesRefIdeal.nD Cert.BranchesRefIdeal.τ).loc Cert.BranchesRefIdeal.main_arg9) = m ((c.tc : Thread Cert.BranchesIdeal.nD Cert.BranchesIdeal.τ).loc Cert.BranchesIdeal.main_arg9)) →
    ∃ (v0 : (c : Dev Cert.BranchesIdeal.nD) → Buf (Elt Ideal) ((c.tc : Thread Cert.BranchesIdeal.nD Cert.BranchesIdeal.τ).loc Cert.BranchesIdeal.main_v0_0)) (v1 : (c : Dev Cert.BranchesIdeal.nD) → Buf (Elt Ideal) ((c.tc : Thread Cert.BranchesIdeal.nD Cert.BranchesIdeal.τ).loc Cert.BranchesIdeal.main_v0_1)) (v2 : (c : Dev Cert.BranchesIdeal.nD) → Buf (Elt Ideal) ((c.tc : Thread Cert.BranchesIdeal.nD Cert.BranchesIdeal.τ).loc Cert.BranchesIdeal.main_v0_2)) (v3 : (c : Dev Cert.BranchesIdeal.nD) → Buf (Elt Ideal) ((c.tc : Thread Cert.BranchesIdeal.nD Cert.BranchesIdeal.τ).loc Cert.BranchesIdeal.main_v0_3)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v0_0) = v0 c
          ∧ r.2.mem ((c.tc : Thread Cert.BranchesIdeal.nD Cert.BranchesIdeal.τ).loc Cert.BranchesIdeal.main_v0_1) = v1 c
          ∧ r.2.mem ((c.tc : Thread Cert.BranchesIdeal.nD Cert.BranchesIdeal.τ).loc Cert.BranchesIdeal.main_v0_2) = v2 c
          ∧ r.2.mem ((c.tc : Thread Cert.BranchesIdeal.nD Cert.BranchesIdeal.τ).loc Cert.BranchesIdeal.main_v0_3) = v3 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
          ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
          ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5)
          ∧ r.2.mem ((c.tc : Thread Cert.BranchesIdeal.nD Cert.BranchesIdeal.τ).loc Cert.BranchesIdeal.main_arg6) = m ((c.tc : Thread Cert.BranchesIdeal.nD Cert.BranchesIdeal.τ).loc Cert.BranchesIdeal.main_arg6)
          ∧ r.2.mem ((c.tc : Thread Cert.BranchesIdeal.nD Cert.BranchesIdeal.τ).loc Cert.BranchesIdeal.main_arg7) = m ((c.tc : Thread Cert.BranchesIdeal.nD Cert.BranchesIdeal.τ).loc Cert.BranchesIdeal.main_arg7)
          ∧ r.2.mem ((c.tc : Thread Cert.BranchesIdeal.nD Cert.BranchesIdeal.τ).loc Cert.BranchesIdeal.main_arg8) = m ((c.tc : Thread Cert.BranchesIdeal.nD Cert.BranchesIdeal.τ).loc Cert.BranchesIdeal.main_arg8)
          ∧ r.2.mem ((c.tc : Thread Cert.BranchesIdeal.nD Cert.BranchesIdeal.τ).loc Cert.BranchesIdeal.main_arg9) = m ((c.tc : Thread Cert.BranchesIdeal.nD Cert.BranchesIdeal.τ).loc Cert.BranchesIdeal.main_arg9))
      ∧ θ_run (Cert.BranchesRefIdeal.defs (F := Ideal)) (onTc (τ := Cert.BranchesRefIdeal.τ) (Cert.BranchesRefIdeal.main (F := Ideal))) ⟨m', fun _ => 0, g'⟩ (fun r => ∀ c : Dev Cert.BranchesRefIdeal.nD,
          r.2.mem ((c.tc : Thread Cert.BranchesRefIdeal.nD Cert.BranchesRefIdeal.τ).loc Cert.BranchesRefIdeal.main_v76) = v0 c
          ∧ r.2.mem ((c.tc : Thread Cert.BranchesRefIdeal.nD Cert.BranchesRefIdeal.τ).loc Cert.BranchesRefIdeal.main_v77) = v1 c
          ∧ r.2.mem ((c.tc : Thread Cert.BranchesRefIdeal.nD Cert.BranchesRefIdeal.τ).loc Cert.BranchesRefIdeal.main_v78) = v2 c
          ∧ r.2.mem ((c.tc : Thread Cert.BranchesRefIdeal.nD Cert.BranchesRefIdeal.τ).loc Cert.BranchesRefIdeal.main_v75) = v3 c
          ∧ r.2.mem ((c.tc : Thread Cert.BranchesRefIdeal.nD Cert.BranchesRefIdeal.τ).loc Cert.BranchesRefIdeal.main_arg0) = m' ((c.tc : Thread Cert.BranchesRefIdeal.nD Cert.BranchesRefIdeal.τ).loc Cert.BranchesRefIdeal.main_arg0)
          ∧ r.2.mem ((c.tc : Thread Cert.BranchesRefIdeal.nD Cert.BranchesRefIdeal.τ).loc Cert.BranchesRefIdeal.main_arg1) = m' ((c.tc : Thread Cert.BranchesRefIdeal.nD Cert.BranchesRefIdeal.τ).loc Cert.BranchesRefIdeal.main_arg1)
          ∧ r.2.mem ((c.tc : Thread Cert.BranchesRefIdeal.nD Cert.BranchesRefIdeal.τ).loc Cert.BranchesRefIdeal.main_arg2) = m' ((c.tc : Thread Cert.BranchesRefIdeal.nD Cert.BranchesRefIdeal.τ).loc Cert.BranchesRefIdeal.main_arg2)
          ∧ r.2.mem ((c.tc : Thread Cert.BranchesRefIdeal.nD Cert.BranchesRefIdeal.τ).loc Cert.BranchesRefIdeal.main_arg3) = m' ((c.tc : Thread Cert.BranchesRefIdeal.nD Cert.BranchesRefIdeal.τ).loc Cert.BranchesRefIdeal.main_arg3)
          ∧ r.2.mem ((c.tc : Thread Cert.BranchesRefIdeal.nD Cert.BranchesRefIdeal.τ).loc Cert.BranchesRefIdeal.main_arg4) = m' ((c.tc : Thread Cert.BranchesRefIdeal.nD Cert.BranchesRefIdeal.τ).loc Cert.BranchesRefIdeal.main_arg4)
          ∧ r.2.mem ((c.tc : Thread Cert.BranchesRefIdeal.nD Cert.BranchesRefIdeal.τ).loc Cert.BranchesRefIdeal.main_arg5) = m' ((c.tc : Thread Cert.BranchesRefIdeal.nD Cert.BranchesRefIdeal.τ).loc Cert.BranchesRefIdeal.main_arg5)
          ∧ r.2.mem ((c.tc : Thread Cert.BranchesRefIdeal.nD Cert.BranchesRefIdeal.τ).loc Cert.BranchesRefIdeal.main_arg6) = m' ((c.tc : Thread Cert.BranchesRefIdeal.nD Cert.BranchesRefIdeal.τ).loc Cert.BranchesRefIdeal.main_arg6)
          ∧ r.2.mem ((c.tc : Thread Cert.BranchesRefIdeal.nD Cert.BranchesRefIdeal.τ).loc Cert.BranchesRefIdeal.main_arg7) = m' ((c.tc : Thread Cert.BranchesRefIdeal.nD Cert.BranchesRefIdeal.τ).loc Cert.BranchesRefIdeal.main_arg7)
          ∧ r.2.mem ((c.tc : Thread Cert.BranchesRefIdeal.nD Cert.BranchesRefIdeal.τ).loc Cert.BranchesRefIdeal.main_arg8) = m' ((c.tc : Thread Cert.BranchesRefIdeal.nD Cert.BranchesRefIdeal.τ).loc Cert.BranchesRefIdeal.main_arg8)
          ∧ r.2.mem ((c.tc : Thread Cert.BranchesRefIdeal.nD Cert.BranchesRefIdeal.τ).loc Cert.BranchesRefIdeal.main_arg9) = m' ((c.tc : Thread Cert.BranchesRefIdeal.nD Cert.BranchesRefIdeal.τ).loc Cert.BranchesRefIdeal.main_arg9))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamRow_AdamRowIdeal : Prop :=
  True

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v23) = v0 c
          ∧ r.2.mem ((c.tc : Thread Cert.AdamRowRefIdeal.nD Cert.AdamRowRefIdeal.τ).loc Cert.AdamRowRefIdeal.main_v4) = v1 c
          ∧ r.2.mem ((c.tc : Thread Cert.AdamRowRefIdeal.nD Cert.AdamRowRefIdeal.τ).loc Cert.AdamRowRefIdeal.main_v10) = v2 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3))

def preserves_AdamCol_AdamColIdeal : Prop :=
  True

def algebraic_AdamColIdeal_AdamColRefIdeal [hAdamColIdeal : Cert.AdamColIdeal.Facts] [hAdamColRefIdeal : Cert.AdamColRefIdeal.Facts] : Prop :=
  ∀ (m : (ℓ : Loc Cert.AdamColIdeal.nD Cert.AdamColIdeal.τ Cert.AdamColIdeal.sig) → Buf (Elt Ideal) ℓ) (g : Dev Cert.AdamColIdeal.nD → PrngReg)
    (m' : (ℓ : Loc Cert.AdamColRefIdeal.nD Cert.AdamColRefIdeal.τ Cert.AdamColRefIdeal.sig) → Buf (Elt Ideal) ℓ) (g' : Dev Cert.AdamColRefIdeal.nD → PrngReg), Pre_AdamColIdeal m →
    (∀ c : Dev Cert.AdamColIdeal.nD,
      m' ((c.tc : Thread Cert.AdamColRefIdeal.nD Cert.AdamColRefIdeal.τ).loc Cert.AdamColRefIdeal.main_arg0) = m ((c.tc : Thread Cert.AdamColIdeal.nD Cert.AdamColIdeal.τ).loc Cert.AdamColIdeal.main_arg0)
      ∧ m' ((c.tc : Thread Cert.AdamColRefIdeal.nD Cert.AdamColRefIdeal.τ).loc Cert.AdamColRefIdeal.main_arg1) = m ((c.tc : Thread Cert.AdamColIdeal.nD Cert.AdamColIdeal.τ).loc Cert.AdamColIdeal.main_arg1)
      ∧ m' ((c.tc : Thread Cert.AdamColRefIdeal.nD Cert.AdamColRefIdeal.τ).loc Cert.AdamColRefIdeal.main_arg2) = m ((c.tc : Thread Cert.AdamColIdeal.nD Cert.AdamColIdeal.τ).loc Cert.AdamColIdeal.main_arg2)
      ∧ m' ((c.tc : Thread Cert.AdamColRefIdeal.nD Cert.AdamColRefIdeal.τ).loc Cert.AdamColRefIdeal.main_arg3) = m ((c.tc : Thread Cert.AdamColIdeal.nD Cert.AdamColIdeal.τ).loc Cert.AdamColIdeal.main_arg3)) →
    ∃ (v0 : (c : Dev Cert.AdamColIdeal.nD) → Buf (Elt Ideal) ((c.tc : Thread Cert.AdamColIdeal.nD Cert.AdamColIdeal.τ).loc Cert.AdamColIdeal.main_v0_0)) (v1 : (c : Dev Cert.AdamColIdeal.nD) → Buf (Elt Ideal) ((c.tc : Thread Cert.AdamColIdeal.nD Cert.AdamColIdeal.τ).loc Cert.AdamColIdeal.main_v0_1)) (v2 : (c : Dev Cert.AdamColIdeal.nD) → Buf (Elt Ideal) ((c.tc : Thread Cert.AdamColIdeal.nD Cert.AdamColIdeal.τ).loc Cert.AdamColIdeal.main_v0_2)),
      θ_run (Cert.AdamColIdeal.defs (F := Ideal)) (onTc (τ := Cert.AdamColIdeal.τ) (Cert.AdamColIdeal.main (F := Ideal))) ⟨m, fun _ => 0, g⟩ (fun r => ∀ c : Dev Cert.AdamColIdeal.nD,
          r.2.mem ((c.tc : Thread Cert.AdamColIdeal.nD Cert.AdamColIdeal.τ).loc Cert.AdamColIdeal.main_v0_0) = v0 c
          ∧ r.2.mem ((c.tc : Thread Cert.AdamColIdeal.nD Cert.AdamColIdeal.τ).loc Cert.AdamColIdeal.main_v0_1) = v1 c
          ∧ r.2.mem ((c.tc : Thread Cert.AdamColIdeal.nD Cert.AdamColIdeal.τ).loc Cert.AdamColIdeal.main_v0_2) = v2 c
          ∧ r.2.mem ((c.tc : Thread Cert.AdamColIdeal.nD Cert.AdamColIdeal.τ).loc Cert.AdamColIdeal.main_arg0) = m ((c.tc : Thread Cert.AdamColIdeal.nD Cert.AdamColIdeal.τ).loc Cert.AdamColIdeal.main_arg0)
          ∧ r.2.mem ((c.tc : Thread Cert.AdamColIdeal.nD Cert.AdamColIdeal.τ).loc Cert.AdamColIdeal.main_arg1) = m ((c.tc : Thread Cert.AdamColIdeal.nD Cert.AdamColIdeal.τ).loc Cert.AdamColIdeal.main_arg1)
          ∧ r.2.mem ((c.tc : Thread Cert.AdamColIdeal.nD Cert.AdamColIdeal.τ).loc Cert.AdamColIdeal.main_arg2) = m ((c.tc : Thread Cert.AdamColIdeal.nD Cert.AdamColIdeal.τ).loc Cert.AdamColIdeal.main_arg2)
          ∧ r.2.mem ((c.tc : Thread Cert.AdamColIdeal.nD Cert.AdamColIdeal.τ).loc Cert.AdamColIdeal.main_arg3) = m ((c.tc : Thread Cert.AdamColIdeal.nD Cert.AdamColIdeal.τ).loc Cert.AdamColIdeal.main_arg3))
      ∧ θ_run (Cert.AdamColRefIdeal.defs (F := Ideal)) (onTc (τ := Cert.AdamColRefIdeal.τ) (Cert.AdamColRefIdeal.main (F := Ideal))) ⟨m', fun _ => 0, g'⟩ (fun r => ∀ c : Dev Cert.AdamColRefIdeal.nD,
          r.2.mem ((c.tc : Thread Cert.AdamColRefIdeal.nD Cert.AdamColRefIdeal.τ).loc Cert.AdamColRefIdeal.main_v23) = v0 c
          ∧ r.2.mem ((c.tc : Thread Cert.AdamColRefIdeal.nD Cert.AdamColRefIdeal.τ).loc Cert.AdamColRefIdeal.main_v4) = v1 c
          ∧ r.2.mem ((c.tc : Thread Cert.AdamColRefIdeal.nD Cert.AdamColRefIdeal.τ).loc Cert.AdamColRefIdeal.main_v10) = v2 c
          ∧ r.2.mem ((c.tc : Thread Cert.AdamColRefIdeal.nD Cert.AdamColRefIdeal.τ).loc Cert.AdamColRefIdeal.main_arg0) = m' ((c.tc : Thread Cert.AdamColRefIdeal.nD Cert.AdamColRefIdeal.τ).loc Cert.AdamColRefIdeal.main_arg0)
          ∧ r.2.mem ((c.tc : Thread Cert.AdamColRefIdeal.nD Cert.AdamColRefIdeal.τ).loc Cert.AdamColRefIdeal.main_arg1) = m' ((c.tc : Thread Cert.AdamColRefIdeal.nD Cert.AdamColRefIdeal.τ).loc Cert.AdamColRefIdeal.main_arg1)
          ∧ r.2.mem ((c.tc : Thread Cert.AdamColRefIdeal.nD Cert.AdamColRefIdeal.τ).loc Cert.AdamColRefIdeal.main_arg2) = m' ((c.tc : Thread Cert.AdamColRefIdeal.nD Cert.AdamColRefIdeal.τ).loc Cert.AdamColRefIdeal.main_arg2)
          ∧ r.2.mem ((c.tc : Thread Cert.AdamColRefIdeal.nD Cert.AdamColRefIdeal.τ).loc Cert.AdamColRefIdeal.main_arg3) = m' ((c.tc : Thread Cert.AdamColRefIdeal.nD Cert.AdamColRefIdeal.τ).loc Cert.AdamColRefIdeal.main_arg3))

def preserves_AdamEmb_AdamEmbIdeal : Prop :=
  True

def algebraic_AdamEmbIdeal_AdamEmbRefIdeal [hAdamEmbIdeal : Cert.AdamEmbIdeal.Facts] [hAdamEmbRefIdeal : Cert.AdamEmbRefIdeal.Facts] : Prop :=
  ∀ (m : (ℓ : Loc Cert.AdamEmbIdeal.nD Cert.AdamEmbIdeal.τ Cert.AdamEmbIdeal.sig) → Buf (Elt Ideal) ℓ) (g : Dev Cert.AdamEmbIdeal.nD → PrngReg)
    (m' : (ℓ : Loc Cert.AdamEmbRefIdeal.nD Cert.AdamEmbRefIdeal.τ Cert.AdamEmbRefIdeal.sig) → Buf (Elt Ideal) ℓ) (g' : Dev Cert.AdamEmbRefIdeal.nD → PrngReg), Pre_AdamEmbIdeal m →
    (∀ c : Dev Cert.AdamEmbIdeal.nD,
      m' ((c.tc : Thread Cert.AdamEmbRefIdeal.nD Cert.AdamEmbRefIdeal.τ).loc Cert.AdamEmbRefIdeal.main_arg0) = m ((c.tc : Thread Cert.AdamEmbIdeal.nD Cert.AdamEmbIdeal.τ).loc Cert.AdamEmbIdeal.main_arg0)
      ∧ m' ((c.tc : Thread Cert.AdamEmbRefIdeal.nD Cert.AdamEmbRefIdeal.τ).loc Cert.AdamEmbRefIdeal.main_arg1) = m ((c.tc : Thread Cert.AdamEmbIdeal.nD Cert.AdamEmbIdeal.τ).loc Cert.AdamEmbIdeal.main_arg1)
      ∧ m' ((c.tc : Thread Cert.AdamEmbRefIdeal.nD Cert.AdamEmbRefIdeal.τ).loc Cert.AdamEmbRefIdeal.main_arg2) = m ((c.tc : Thread Cert.AdamEmbIdeal.nD Cert.AdamEmbIdeal.τ).loc Cert.AdamEmbIdeal.main_arg2)
      ∧ m' ((c.tc : Thread Cert.AdamEmbRefIdeal.nD Cert.AdamEmbRefIdeal.τ).loc Cert.AdamEmbRefIdeal.main_arg3) = m ((c.tc : Thread Cert.AdamEmbIdeal.nD Cert.AdamEmbIdeal.τ).loc Cert.AdamEmbIdeal.main_arg3)) →
    ∃ (v0 : (c : Dev Cert.AdamEmbIdeal.nD) → Buf (Elt Ideal) ((c.tc : Thread Cert.AdamEmbIdeal.nD Cert.AdamEmbIdeal.τ).loc Cert.AdamEmbIdeal.main_v0_0)) (v1 : (c : Dev Cert.AdamEmbIdeal.nD) → Buf (Elt Ideal) ((c.tc : Thread Cert.AdamEmbIdeal.nD Cert.AdamEmbIdeal.τ).loc Cert.AdamEmbIdeal.main_v0_1)) (v2 : (c : Dev Cert.AdamEmbIdeal.nD) → Buf (Elt Ideal) ((c.tc : Thread Cert.AdamEmbIdeal.nD Cert.AdamEmbIdeal.τ).loc Cert.AdamEmbIdeal.main_v0_2)),
      θ_run (Cert.AdamEmbIdeal.defs (F := Ideal)) (onTc (τ := Cert.AdamEmbIdeal.τ) (Cert.AdamEmbIdeal.main (F := Ideal))) ⟨m, fun _ => 0, g⟩ (fun r => ∀ c : Dev Cert.AdamEmbIdeal.nD,
          r.2.mem ((c.tc : Thread Cert.AdamEmbIdeal.nD Cert.AdamEmbIdeal.τ).loc Cert.AdamEmbIdeal.main_v0_0) = v0 c
          ∧ r.2.mem ((c.tc : Thread Cert.AdamEmbIdeal.nD Cert.AdamEmbIdeal.τ).loc Cert.AdamEmbIdeal.main_v0_1) = v1 c
          ∧ r.2.mem ((c.tc : Thread Cert.AdamEmbIdeal.nD Cert.AdamEmbIdeal.τ).loc Cert.AdamEmbIdeal.main_v0_2) = v2 c
          ∧ r.2.mem ((c.tc : Thread Cert.AdamEmbIdeal.nD Cert.AdamEmbIdeal.τ).loc Cert.AdamEmbIdeal.main_arg0) = m ((c.tc : Thread Cert.AdamEmbIdeal.nD Cert.AdamEmbIdeal.τ).loc Cert.AdamEmbIdeal.main_arg0)
          ∧ r.2.mem ((c.tc : Thread Cert.AdamEmbIdeal.nD Cert.AdamEmbIdeal.τ).loc Cert.AdamEmbIdeal.main_arg1) = m ((c.tc : Thread Cert.AdamEmbIdeal.nD Cert.AdamEmbIdeal.τ).loc Cert.AdamEmbIdeal.main_arg1)
          ∧ r.2.mem ((c.tc : Thread Cert.AdamEmbIdeal.nD Cert.AdamEmbIdeal.τ).loc Cert.AdamEmbIdeal.main_arg2) = m ((c.tc : Thread Cert.AdamEmbIdeal.nD Cert.AdamEmbIdeal.τ).loc Cert.AdamEmbIdeal.main_arg2)
          ∧ r.2.mem ((c.tc : Thread Cert.AdamEmbIdeal.nD Cert.AdamEmbIdeal.τ).loc Cert.AdamEmbIdeal.main_arg3) = m ((c.tc : Thread Cert.AdamEmbIdeal.nD Cert.AdamEmbIdeal.τ).loc Cert.AdamEmbIdeal.main_arg3))
      ∧ θ_run (Cert.AdamEmbRefIdeal.defs (F := Ideal)) (onTc (τ := Cert.AdamEmbRefIdeal.τ) (Cert.AdamEmbRefIdeal.main (F := Ideal))) ⟨m', fun _ => 0, g'⟩ (fun r => ∀ c : Dev Cert.AdamEmbRefIdeal.nD,
          r.2.mem ((c.tc : Thread Cert.AdamEmbRefIdeal.nD Cert.AdamEmbRefIdeal.τ).loc Cert.AdamEmbRefIdeal.main_v23) = v0 c
          ∧ r.2.mem ((c.tc : Thread Cert.AdamEmbRefIdeal.nD Cert.AdamEmbRefIdeal.τ).loc Cert.AdamEmbRefIdeal.main_v4) = v1 c
          ∧ r.2.mem ((c.tc : Thread Cert.AdamEmbRefIdeal.nD Cert.AdamEmbRefIdeal.τ).loc Cert.AdamEmbRefIdeal.main_v10) = v2 c
          ∧ r.2.mem ((c.tc : Thread Cert.AdamEmbRefIdeal.nD Cert.AdamEmbRefIdeal.τ).loc Cert.AdamEmbRefIdeal.main_arg0) = m' ((c.tc : Thread Cert.AdamEmbRefIdeal.nD Cert.AdamEmbRefIdeal.τ).loc Cert.AdamEmbRefIdeal.main_arg0)
          ∧ r.2.mem ((c.tc : Thread Cert.AdamEmbRefIdeal.nD Cert.AdamEmbRefIdeal.τ).loc Cert.AdamEmbRefIdeal.main_arg1) = m' ((c.tc : Thread Cert.AdamEmbRefIdeal.nD Cert.AdamEmbRefIdeal.τ).loc Cert.AdamEmbRefIdeal.main_arg1)
          ∧ r.2.mem ((c.tc : Thread Cert.AdamEmbRefIdeal.nD Cert.AdamEmbRefIdeal.τ).loc Cert.AdamEmbRefIdeal.main_arg2) = m' ((c.tc : Thread Cert.AdamEmbRefIdeal.nD Cert.AdamEmbRefIdeal.τ).loc Cert.AdamEmbRefIdeal.main_arg2)
          ∧ r.2.mem ((c.tc : Thread Cert.AdamEmbRefIdeal.nD Cert.AdamEmbRefIdeal.τ).loc Cert.AdamEmbRefIdeal.main_arg3) = m' ((c.tc : Thread Cert.AdamEmbRefIdeal.nD Cert.AdamEmbRefIdeal.τ).loc Cert.AdamEmbRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hHgPath : Cert.HgPath.Facts) (hHgPathIdeal : Cert.HgPathIdeal.Facts) (hHgPathRefIdeal : Cert.HgPathRefIdeal.Facts) (hS5Path : Cert.S5Path.Facts) (hS5PathIdeal : Cert.S5PathIdeal.Facts) (hS5PathRefIdeal : Cert.S5PathRefIdeal.Facts) (hPle : Cert.Ple.Facts) (hPleIdeal : Cert.PleIdeal.Facts) (hPleRefIdeal : Cert.PleRefIdeal.Facts) (hBranches : Cert.Branches.Facts) (hBranchesIdeal : Cert.BranchesIdeal.Facts) (hBranchesRefIdeal : Cert.BranchesRefIdeal.Facts) (hAdam : Cert.Adam.Facts) (hAdamIdeal : Cert.AdamIdeal.Facts) (hAdamRefIdeal : Cert.AdamRefIdeal.Facts) (hAdamRow : Cert.AdamRow.Facts) (hAdamRowIdeal : Cert.AdamRowIdeal.Facts) (hAdamRowRefIdeal : Cert.AdamRowRefIdeal.Facts) (hAdamCol : Cert.AdamCol.Facts) (hAdamColIdeal : Cert.AdamColIdeal.Facts) (hAdamColRefIdeal : Cert.AdamColRefIdeal.Facts) (hAdamEmb : Cert.AdamEmb.Facts) (hAdamEmbIdeal : Cert.AdamEmbIdeal.Facts) (hAdamEmbRefIdeal : Cert.AdamEmbRefIdeal.Facts) (hAdamSmall : Cert.AdamSmall.Facts) (hAdamSmallIdeal : Cert.AdamSmallIdeal.Facts) (hAdamSmallRefIdeal : Cert.AdamSmallRefIdeal.Facts) (hPre_all_finite : Cert.Pre_all_finite.Facts) (hPre_finite_hgpath : Cert.Pre_finite_hgpath.Facts) (hPre_finite_s5path : Cert.Pre_finite_s5path.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_HgPath (hHgPath := hHgPath)
    ∧ quiescent_HgPathIdeal (hHgPathIdeal := hHgPathIdeal)
    ∧ quiescent_HgPathIdeal_pre_finite_hgpath (hHgPathIdeal := hHgPathIdeal) (hPre_finite_hgpath := hPre_finite_hgpath)
    ∧ quiescent_HgPathRefIdeal (hHgPathRefIdeal := hHgPathRefIdeal)
    ∧ quiescent_HgPathRefIdeal_pre_finite_hgpath (hHgPathRefIdeal := hHgPathRefIdeal) (hPre_finite_hgpath := hPre_finite_hgpath)
    ∧ quiescent_S5Path (hS5Path := hS5Path)
    ∧ quiescent_S5PathIdeal (hS5PathIdeal := hS5PathIdeal)
    ∧ quiescent_S5PathIdeal_pre_finite_s5path (hS5PathIdeal := hS5PathIdeal) (hPre_finite_s5path := hPre_finite_s5path)
    ∧ quiescent_S5PathRefIdeal (hS5PathRefIdeal := hS5PathRefIdeal)
    ∧ quiescent_S5PathRefIdeal_pre_finite_s5path (hS5PathRefIdeal := hS5PathRefIdeal) (hPre_finite_s5path := hPre_finite_s5path)
    ∧ quiescent_Ple (hPle := hPle)
    ∧ quiescent_PleIdeal (hPleIdeal := hPleIdeal)
    ∧ quiescent_PleRefIdeal (hPleRefIdeal := hPleRefIdeal)
    ∧ quiescent_Branches (hBranches := hBranches)
    ∧ quiescent_BranchesIdeal (hBranchesIdeal := hBranchesIdeal)
    ∧ quiescent_BranchesRefIdeal (hBranchesRefIdeal := hBranchesRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamCol (hAdamCol := hAdamCol)
    ∧ quiescent_AdamColIdeal (hAdamColIdeal := hAdamColIdeal)
    ∧ quiescent_AdamColRefIdeal (hAdamColRefIdeal := hAdamColRefIdeal)
    ∧ quiescent_AdamEmb (hAdamEmb := hAdamEmb)
    ∧ quiescent_AdamEmbIdeal (hAdamEmbIdeal := hAdamEmbIdeal)
    ∧ quiescent_AdamEmbRefIdeal (hAdamEmbRefIdeal := hAdamEmbRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_HgPath_HgPathIdeal
    ∧ algebraic_HgPathIdeal_HgPathRefIdeal_pre_finite_hgpath (hHgPathIdeal := hHgPathIdeal) (hHgPathRefIdeal := hHgPathRefIdeal) (hPre_finite_hgpath := hPre_finite_hgpath)
    ∧ preserves_S5Path_S5PathIdeal
    ∧ algebraic_S5PathIdeal_S5PathRefIdeal_pre_finite_s5path (hS5PathIdeal := hS5PathIdeal) (hS5PathRefIdeal := hS5PathRefIdeal) (hPre_finite_s5path := hPre_finite_s5path)
    ∧ preserves_Ple_PleIdeal
    ∧ algebraic_PleIdeal_PleRefIdeal (hPleIdeal := hPleIdeal) (hPleRefIdeal := hPleRefIdeal)
    ∧ preserves_Branches_BranchesIdeal
    ∧ algebraic_BranchesIdeal_BranchesRefIdeal (hBranchesIdeal := hBranchesIdeal) (hBranchesRefIdeal := hBranchesRefIdeal)
    ∧ preserves_Adam_AdamIdeal
    ∧ algebraic_AdamIdeal_AdamRefIdeal (hAdamIdeal := hAdamIdeal) (hAdamRefIdeal := hAdamRefIdeal)
    ∧ preserves_AdamRow_AdamRowIdeal
    ∧ algebraic_AdamRowIdeal_AdamRowRefIdeal (hAdamRowIdeal := hAdamRowIdeal) (hAdamRowRefIdeal := hAdamRowRefIdeal)
    ∧ preserves_AdamCol_AdamColIdeal
    ∧ algebraic_AdamColIdeal_AdamColRefIdeal (hAdamColIdeal := hAdamColIdeal) (hAdamColRefIdeal := hAdamColRefIdeal)
    ∧ preserves_AdamEmb_AdamEmbIdeal
    ∧ algebraic_AdamEmbIdeal_AdamEmbRefIdeal (hAdamEmbIdeal := hAdamEmbIdeal) (hAdamEmbRefIdeal := hAdamEmbRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_all_finite.lean ====
abbrev S8192x7168 : Shape := ⟨2, ![8192, 7168]⟩
abbrev S2x1024 : Shape := ⟨2, ![2, 1024]⟩
abbrev S8192x1024 : Shape := ⟨2, ![8192, 1024]⟩
abbrev S_ : Shape := ⟨0, ![]⟩

class Facts : Prop where
  bcast_S_S8192x7168 : S_.BroadcastsInDim S8192x7168 (![] : Fin 0 → Fin S8192x7168.rank)
  reducesTo_S8192x7168_S_d0_1 : S8192x7168.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x7168 .f32) (main_arg1 : FVec F S2x1024 .f32) (main_arg2 : FVec F S8192x1024 .bf16) : IVec S_ 1 :=
  let main_v0 : FVec F S8192x7168 .f32 := Host.absf main_arg0
  let main_cst : FVec F S_ .f32 := constant S_ .f32 0x7F7FFFFF#32
  let main_v1 : FVec F S8192x7168 .f32 := broadcastInDim S8192x7168 ![] bcast_S_S8192x7168 main_cst
  let main_v2 : IVec S8192x7168 1 := cmpf .ole main_v0 main_v1
  let main_c : IVec S_ 1 := constantI S_ 1 1#1
  let main_v3 : IVec S_ 1 := (fun x v => Host.reduce IntOp.andi x v reducesTo_S8192x7168_S_d0_1 h_S_) main_v2 main_c
  let main_v4 : FVec F S2x1024 .f32 := Host.absf main_arg1
  let main_cst_0 : FVec F S_ .f32 := constant S_ .f32 0x7F7FFFFF#32
  let main_v5 : FVec F S2x1024 .f32 := broadcastInDim S2x1024 ![] bcast_S_S2x1024 main_cst_0
  let main_v6 : IVec S2x1024 1 := cmpf .ole main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S8192x1024 .f32 := (extf .f32 · bitsLt_bf16_f32) main_arg2
  let main_v10 : FVec F S8192x1024 .f32 := Host.absf main_v9
  let main_cst_2 : FVec F S_ .f32 := constant S_ .f32 0x7F7FFFFF#32
  let main_v11 : FVec F S8192x1024 .f32 := broadcastInDim S8192x1024 ![] bcast_S_S8192x1024 main_cst_2
  let main_v12 : IVec S8192x1024 1 := cmpf .ole main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v8 main_v13
  main_v14
-- ==== Pre_finite_hgpath.lean ====
abbrev S8192x1024 : Shape := ⟨2, ![8192, 1024]⟩
abbrev S8192x7168 : Shape := ⟨2, ![8192, 7168]⟩
abbrev S1x1024 : Shape := ⟨2, ![1, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .bf16) (main_arg1 : FVec F S8192x1024 .f32) (main_arg2 : FVec F S8192x7168 .bf16) (main_arg3 : FVec F S1x1024 .f32) (main_arg4 : FVec F S1024x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F7FFFFF#32
  let main_v2 : FVec F S8192x1024 .f32 := broadcastInDim S8192x1024 ![] bcast_S_S8192x1024 main_cst
  let main_v3 : IVec S8192x1024 1 := cmpf .ole main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1x1024 .f32 := Host.absf main_arg3
  let main_cst_0 : FVec F S_ .f32 := constant S_ .f32 0x7F7FFFFF#32
  let main_v6 : FVec F S1x1024 .f32 := broadcastInDim S1x1024 ![] bcast_S_S1x1024 main_cst_0
  let main_v7 : IVec S1x1024 1 := cmpf .ole main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v4 main_v8
  let main_v10 : FVec F S1024x1024 .f32 := (extf .f32 · bitsLt_bf16_f32) main_arg4
  let main_v11 : FVec F S1024x1024 .f32 := Host.absf main_v10
  let main_cst_2 : FVec F S_ .f32 := constant S_ .f32 0x7F7FFFFF#32
  let main_v12 : FVec F S1024x1024 .f32 := broadcastInDim S1024x1024 ![] bcast_S_S1024x1024 main_cst_2
  let main_v13 : IVec S1024x1024 1 := cmpf .ole main_v11 main_v12
  let main_c_3 : IVec S_ 1 := constantI S_ 1 1#1
  let main_v14 : IVec S_ 1 := (fun x v => Host.reduce IntOp.andi x v reducesTo_S1024x1024_S_d0_1 h_S_) main_v13 main_c_3
  let main_v15 : IVec S_ 1 := andi main_v9 main_v14
  main_v15
-- ==== Pre_finite_s5path.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S8192x1024_S8192x512_0_0 : S8192x1024.Slices ![0, 0] S8192x512
  bcast_S_S8192x512 : S_.BroadcastsInDim S8192x512 (![] : Fin 0 → Fin S8192x512.rank)
  reducesTo_S8192x512_S_d0_1 : S8192x512.ReducesTo [0, 1] S_
  slices_S8192x7168_S8192x512_0_4608 : S8192x7168.Slices ![0, 4608] S8192x512
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_arg4 : FVec F S512x1024 .bf16) (main_arg5 : FVec F S512x1024 .bf16) (main_v11 : IVec S_ 1) (main_v17 : IVec S_ 1) : IVec S_ 1 :=
  let main_v18 : IVec S_ 1 := andi main_v11 main_v17
  let main_v19 : FVec F S512x1024 .f32 := (extf .f32 · bitsLt_bf16_f32) main_arg4
  let main_v20 : FVec F S512x1024 .f32 := Host.absf main_v19
  let main_cst_4 : FVec F S_ .f32 := constant S_ .f32 0x7F7FFFFF#32
  let main_v21 : FVec F S512x1024 .f32 := broadcastInDim S512x1024 ![] bcast_S_S512x1024 main_cst_4
  let main_v22 : IVec S512x1024 1 := cmpf .ole main_v20 main_v21
  let main_c_5 : IVec S_ 1 := constantI S_ 1 1#1
  let main_v23 : IVec S_ 1 := (fun x v => Host.reduce IntOp.andi x v reducesTo_S512x1024_S_d0_1 h_S_) main_v22 main_c_5
  let main_v24 : IVec S_ 1 := andi main_v18 main_v23
  let main_v25 : FVec F S512x1024 .f32 := (extf .f32 · bitsLt_bf16_f32) main_arg5
  let main_v26 : FVec F S512x1024 .f32 := Host.absf main_v25
  let main_cst_6 : FVec F S_ .f32 := constant S_ .f32 0x7F7FFFFF#32
  let main_v27 : FVec F S512x1024 .f32 := broadcastInDim S512x1024 ![] bcast_S_S512x1024 main_cst_6
  let main_v28 : IVec S512x1024 1 := cmpf .ole main_v26 main_v27
  let main_c_7 : IVec S_ 1 := constantI S_ 1 1#1
  let main_v29 : IVec S_ 1 := (fun x v => Host.reduce IntOp.andi x v reducesTo_S512x1024_S_d0_1 h_S_) main_v28 main_c_7
  let main_v30 : IVec S_ 1 := andi main_v24 main_v29
  main_v30

def fn {F : FTy → Type} [FloatOps F] (main_arg0 : FVec F S8192x1024 .bf16) (main_arg1 : FVec F S8192x512 .f32) (main_arg2 : FVec F S8192x1024 .bf16) (main_arg3 : FVec F S8192x7168 .bf16) (main_arg4 : FVec F S512x1024 .bf16) (main_arg5 : FVec F S512x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F7FFFFF#32
  let main_v2 : FVec F S8192x1024 .f32 := broadcastInDim S8192x1024 ![] bcast_S_S8192x1024 main_cst
  let main_v3 : IVec S8192x1024 1 := cmpf .ole main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x512 .bf16 := (extractStridedSlice S8192x512 ![0, 0] · slices_S8192x1024_S8192x512_0_0) main_arg2
  let main_v6 : FVec F S8192x512 .f32 := (extf .f32 · bitsLt_bf16_f32) main_v5
  let main_v7 : FVec F S8192x512 .f32 := Host.absf main_v6
  let main_cst_0 : FVec F S_ .f32 := constant S_ .f32 0x7F7FFFFF#32
  let main_v8 : FVec F S8192x512 .f32 := broadcastInDim S8192x512 ![] bcast_S_S8192x512 main_cst_0
  let main_v9 : IVec S8192x512 1 := cmpf .ole main_v7 main_v8
  let main_c_1 : IVec S_ 1 := constantI S_ 1 1#1
  let main_v10 : IVec S_ 1 := (fun x v => Host.reduce IntOp.andi x v reducesTo_S8192x512_S_d0_1 h_S_) main_v9 main_c_1
  let main_v11 : IVec S_ 1 := andi main_v4 main_v10
  let main_v12 : FVec F S8192x512 .bf16 := (extractStridedSlice S8192x512 ![0, 4608] · slices_S8192x7168_S8192x512_0_4608) main_arg3
  let main_v13 : FVec F S8192x512 .f32 := (extf .f32 · bitsLt_bf16_f32) main_v12
  let main_v14 : FVec F S8192x512 .f32 := Host.absf main_v13
  let main_cst_2 : FVec F S_ .f32 := constant S_ .f32 0x7F7FFFFF#32
  let main_v15 : FVec F S8192x512 .f32 := broadcastInDim S8192x512 ![] bcast_S_S8192x512 main_cst_2
  let main_v16 : IVec S8192x512 1 := cmpf .ole main_v14 main_v15
  let main_c_3 : IVec S_ 1 := constantI S_ 1 1#1
  let main_v17 : IVec S_ 1 := (fun x v => Host.reduce IntOp.andi x v reducesTo_S8192x512_S_d0_1 h_S_) main_v16 main_c_3
  fn_part1 (F := F) main_arg4 main_arg5 main_v11 main_v17
-- ==== Kernel.lean ====
abbrev S8192x7168 : Shape := ⟨2, ![8192, 7168]⟩
abbrev S2x1024 : Shape := ⟨2, ![2, 1024]⟩
abbrev S8192x1024 : Shape := ⟨2, ![8192, 1024]⟩
abbrev S1x1024 : Shape := ⟨2, ![1, 1024]⟩
abbrev S_ : Shape := ⟨0, ![]⟩
abbrev S8x128 : Shape := ⟨2, ![8, 128]⟩
abbrev S8192x8x128 : Shape := ⟨3, ![8192, 8, 128]⟩
abbrev S1x8x128 : Shape := ⟨3, ![1, 8, 128]⟩
abbrev S128x8x128 : Shape := ⟨3, ![128, 8, 128]⟩
abbrev S8192 : Shape := ⟨1, ![8192]⟩
abbrev S1x8192 : Shape := ⟨2, ![1, 8192]⟩
abbrev S128 : Shape := ⟨1, ![128]⟩
abbrev S128x1 : Shape := ⟨2, ![128, 1]⟩
abbrev S128x8192 : Shape := ⟨2, ![128, 8192]⟩
abbrev S128x8192x1x1 : Shape := ⟨4, ![128, 8192, 1, 1]⟩
abbrev S128x1x8x128 : Shape := ⟨4, ![128, 1, 8, 128]⟩
abbrev S1x8192x8x128 : Shape := ⟨4, ![1, 8192, 8, 128]⟩
abbrev S128x8192x8x128 : Shape := ⟨4, ![128, 8192, 8, 128]⟩
abbrev S8x128x128x128 : Shape := ⟨4, ![8, 128, 128, 128]⟩
abbrev S8x1024 : Shape := ⟨2, ![8, 1024]⟩
abbrev S128x1024 : Shape := ⟨2, ![128, 1024]⟩
abbrev S8x2x128x128 : Shape := ⟨4, ![8, 2, 128, 128]⟩
abbrev S8x128x128 : Shape := ⟨3, ![8, 128, 128]⟩
abbrev S128x128 : Shape := ⟨2, ![128, 128]⟩
abbrev S1x128 : Shape := ⟨2, ![1, 128]⟩
abbrev S2x64x128 : Shape := ⟨3, ![2, 64, 128]⟩
abbrev S2x128 : Shape := ⟨2, ![2, 128]⟩
abbrev S2x1x128 : Shape := ⟨3, ![2, 1, 128]⟩
abbrev S1x1x128x128 : Shape := ⟨4, ![1, 1, 128, 128]⟩
abbrev S1x128x128 : Shape := ⟨3, ![1, 128, 128]⟩
abbrev S64x128 : Shape := ⟨2, ![64, 128]⟩
abbrev S1x1x128 : Shape := ⟨3, ![1, 1, 128]⟩

abbrev nBuf : Space → Nat
  | .hbm => 82
  | .vmem => 19
  | .smem => 0
  | _ => 0

abbrev bufTy : (tb : Table) → Fin (tcTables nBuf tb) → BufTy
  | .hbm, ⟨0, _⟩ => ⟨S8192x7168, .f32⟩
  | .hbm, ⟨1, _⟩ => ⟨S2x1024, .f32⟩
  | .hbm, ⟨2, _⟩ => ⟨S8192x1024, .bf16⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S8x128, .f32⟩
  | .hbm, ⟨15, _⟩ => ⟨S8192x1024, .f32⟩
  | .hbm, ⟨16, _⟩ => ⟨S8192x8x128, .f32⟩
  | .hbm, ⟨17, _⟩ => ⟨S8192x8x128, .f32⟩
  | .hbm, ⟨18, _⟩ => ⟨S8192x8x128, .f32⟩
  | .hbm, ⟨19, _⟩ => ⟨S_, .f32⟩
  | .hbm, ⟨20, _⟩ => ⟨S8192x8x128, .f32⟩
  | .hbm, ⟨21, _⟩ => ⟨S8192x8x128, .f32⟩
  | .hbm, ⟨22, _⟩ => ⟨S_, .f32⟩
  | .hbm, ⟨23, _⟩ => ⟨S8192x8x128, .f32⟩
  | .hbm, ⟨24, _⟩ => ⟨S8192x8x128, .f32⟩
  | .hbm, ⟨25, _⟩ => ⟨S_, .f32⟩
  | .hbm, ⟨26, _⟩ => ⟨S8x128, .f32⟩
  | .hbm, ⟨27, _⟩ => ⟨S8x128, .f32⟩
  | .hbm, ⟨28, _⟩ => ⟨S1x8x128, .f32⟩
  | .hbm, ⟨29, _⟩ => ⟨S8192x8x128, .f32⟩
  | .hbm, ⟨30, _⟩ => ⟨S8192x8x128, .f32⟩
  | .hbm, ⟨31, _⟩ => ⟨S1x8x128, .f32⟩
  | .hbm, ⟨32, _⟩ => ⟨S8192x8x128, .f32⟩
  | .hbm, ⟨33, _⟩ => ⟨S8192x8x128, .f32⟩
  | .hbm, ⟨34, _⟩ => ⟨S8192x8x128, .f32⟩
  | .hbm, ⟨35, _⟩ => ⟨S_, .f32⟩
  | .hbm, ⟨36, _⟩ => ⟨S8x128, .f32⟩
  | .hbm, ⟨37, _⟩ => ⟨S8x128, .f32⟩
  | .hbm, ⟨38, _⟩ => ⟨S_, .f32⟩
  | .hbm, ⟨39, _⟩ => ⟨S8192x8x128, .f32⟩
  | .hbm, ⟨40, _⟩ => ⟨S8192x8x128, .f32⟩
  | .hbm, ⟨41, _⟩ => ⟨S1x8x128, .f32⟩
  | .hbm, ⟨42, _⟩ => ⟨S8192x8x128, .f32⟩
  | .hbm, ⟨43, _⟩ => ⟨S8192x8x128, .f32⟩
  | .hbm, ⟨44, _⟩ => ⟨S8192x1024, .f32⟩
  | .hbm, ⟨45, _⟩ => ⟨S8192x8x128, .f32⟩
  | .hbm, ⟨46, _⟩ => ⟨S_, .f32⟩
  | .hbm, ⟨47, _⟩ => ⟨S_, .f32⟩
  | .hbm, ⟨48, _⟩ => ⟨S8192x8x128, .f32⟩
  | .hbm, ⟨49, _⟩ => ⟨S8192x8x128, .f32⟩
  | .hbm, ⟨50, _⟩ => ⟨S128x8x128, .f32⟩
  | .hbm, ⟨51, _⟩ => ⟨S8192, .i32⟩
  | .hbm, ⟨52, _⟩ => ⟨S1x8192, .i32⟩
  | .hbm, ⟨53, _⟩ => ⟨S128, .i32⟩
  | .hbm, ⟨54, _⟩ => ⟨S128x1, .i32⟩
  | .hbm, ⟨55, _⟩ => ⟨S_, .i32⟩
  | .hbm, ⟨56, _⟩ => ⟨S128x1, .i32⟩
  | .hbm, ⟨57, _⟩ => ⟨S128x1, .i32⟩
  | .hbm, ⟨58, _⟩ => ⟨S128x8192, .i32⟩
  | .hbm, ⟨59, _⟩ => ⟨S128x8192, .i32⟩
  | .hbm, ⟨60, _⟩ => ⟨S128x8192, .i1⟩
  | .hbm, ⟨61, _⟩ => ⟨S128x8192x1x1, .i1⟩
  | .hbm, ⟨62, _⟩ => ⟨S128x1x8x128, .f32⟩
  | .hbm, ⟨63, _⟩ => ⟨S1x8192x8x128, .f32⟩
  | .hbm, ⟨64, _⟩ => ⟨S128x8192x8x128, .f32⟩
  | .hbm, ⟨65, _⟩ => ⟨S128x8192x8x128, .f32⟩
  | .hbm, ⟨66, _⟩ => ⟨S128x8192x8x128, .f32⟩
  | .hbm, ⟨67, _⟩ => ⟨S128x8192x8x128, .f32⟩
  | .hbm, ⟨68, _⟩ => ⟨S1x8192x8x128, .f32⟩
  | .hbm, ⟨69, _⟩ => ⟨S128x8192x8x128, .f32⟩
  | .hbm, ⟨70, _⟩ => ⟨S128x8192x8x128, .f32⟩
  | .hbm, ⟨71, _⟩ => ⟨S_, .f32⟩
  | .hbm, ⟨72, _⟩ => ⟨S_, .f32⟩
  | .hbm, ⟨73, _⟩ => ⟨S128x8192x8x128, .i1⟩
  | .hbm, ⟨74, _⟩ => ⟨S128x8192x8x128, .f32⟩
  | .hbm, ⟨75, _⟩ => ⟨S128x8192x8x128, .f32⟩
  | .hbm, ⟨76, _⟩ => ⟨S8x128x128x128, .f32⟩
  | .hbm, ⟨77, _⟩ => ⟨S8x128x128x128, .f32⟩
  | .hbm, ⟨78, _⟩ => ⟨S8192x1024, .bf16⟩
  | .hbm, ⟨79, _⟩ => ⟨S8192x1024, .bf16⟩
  | .hbm, ⟨80, _⟩ => ⟨S8192x1024, .bf16⟩
  | .hbm, ⟨81, _⟩ => ⟨S8x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S128x1024, .bf16⟩
  | .local _ .vmem, ⟨8, _⟩ => ⟨S128x1024, .bf16⟩
  | .local _ .vmem, ⟨9, _⟩ => ⟨S8x2x128x128, .f32⟩
  | .local _ .vmem, ⟨10, _⟩ => ⟨S8x2x128x128, .f32⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S8x1024, .f32⟩
  | .local _ .vmem, ⟨18, _⟩ => ⟨S8x128x128, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_call0_cst : Ref sig .tc := ⟨.hbm, 46, rfl⟩
abbrev main_call0_call0_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61_0 : Ref sig .tc := ⟨.hbm, 78, rfl⟩
abbrev main_v61_1 : Ref sig .tc := ⟨.hbm, 79, rfl⟩
abbrev main_v61_2 : Ref sig .tc := ⟨.hbm, 80, rfl⟩
abbrev main_v61_3 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_5 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceIdeal.lean ====
abbrev S8192x7168 : Shape := ⟨2, ![8192, 7168]⟩
abbrev S2x1024 : Shape := ⟨2, ![2, 1024]⟩
abbrev S8192x1024 : Shape := ⟨2, ![8192, 1024]⟩
abbrev S8192x8x128 : Shape := ⟨3, ![8192, 8, 128]⟩
abbrev S_ : Shape := ⟨0, ![]⟩
abbrev S1024 : Shape := ⟨1, ![1024]⟩
abbrev S1x1024 : Shape := ⟨2, ![1, 1024]⟩
abbrev S8x128 : Shape := ⟨2, ![8, 128]⟩
abbrev S1x8x128 : Shape := ⟨3, ![1, 8, 128]⟩
abbrev S8192x8192 : Shape := ⟨2, ![8192, 8192]⟩
abbrev S8192x8192x1x1 : Shape := ⟨4, ![8192, 8192, 1, 1]⟩
abbrev S8192x1x8x128 : Shape := ⟨4, ![8192, 1, 8, 128]⟩
abbrev S1x8192x8x128 : Shape := ⟨4, ![1, 8192, 8, 128]⟩
abbrev S8192x8192x8x128 : Shape := ⟨4, ![8192, 8192, 8, 128]⟩
abbrev S8192x8192x8 : Shape := ⟨3, ![8192, 8192, 8]⟩
abbrev S8x128x8192 : Shape := ⟨3, ![8, 128, 8192]⟩
abbrev S8x8192x8192 : Shape := ⟨3, ![8, 8192, 8192]⟩
abbrev S8x1024 : Shape := ⟨2, ![8, 1024]⟩

abbrev nBuf : Space → Nat
  | .hbm => 189
  | .vmem => 0
  | .smem => 0
  | _ => 0

abbrev hbmTy0_0 (i : Nat) : BufTy := match i % 128 with
  | 0 => ⟨S8192x7168, .f32⟩
  | 1 => ⟨S2x1024, .f32⟩
  | 2 => ⟨S8192x1024, .bf16⟩
  | 3 => ⟨S8192x1024, .f32⟩
  | 4 => ⟨S8192x8x128, .f32⟩
  | 5 => ⟨S8192x1024, .f32⟩
  | 6 => ⟨S8192x8x128, .f32⟩
  | 7 => ⟨S8192x1024, .f32⟩
  | 8 => ⟨S8192x8x128, .f32⟩
  | 9 => ⟨S_, .f32⟩
  | 10 => ⟨S1024, .f32⟩
  | 11 => ⟨S_, .f32⟩
  | 12 => ⟨S1024, .f32⟩
  | 13 => ⟨S1024, .f32⟩
  | 14 => ⟨S1x1024, .f32⟩
  | 15 => ⟨S2x1024, .f32⟩
  | 16 => ⟨S2x1024, .f32⟩
  | 17 => ⟨S2x1024, .f32⟩
  | 18 => ⟨S_, .f32⟩
  | 19 => ⟨S1024, .f32⟩
  | 20 => ⟨S1x1024, .f32⟩
  | 21 => ⟨S2x1024, .f32⟩
  | 22 => ⟨S2x1024, .f32⟩
  | 23 => ⟨S_, .f32⟩
  | 24 => ⟨S_, .f32⟩
  | 25 => ⟨S2x1024, .f32⟩
  | 26 => ⟨S1x1024, .f32⟩
  | 27 => ⟨S1024, .f32⟩
  | 28 => ⟨S8x128, .f32⟩
  | 29 => ⟨S8192x8x128, .f32⟩
  | 30 => ⟨S8192x8x128, .f32⟩
  | 31 => ⟨S_, .f32⟩
  | 32 => ⟨S8192x8x128, .f32⟩
  | 33 => ⟨S8192x8x128, .f32⟩
  | 34 => ⟨S_, .f32⟩
  | 35 => ⟨S8192x8x128, .f32⟩
  | 36 => ⟨S8192x8x128, .f32⟩
  | 37 => ⟨S_, .f32⟩
  | 38 => ⟨S8192x8x128, .f32⟩
  | 39 => ⟨S8192x8x128, .f32⟩
  | 40 => ⟨S8192x8x128, .f32⟩
  | 41 => ⟨S_, .f32⟩
  | 42 => ⟨S8x128, .f32⟩
  | 43 => ⟨S8x128, .f32⟩
  | 44 => ⟨S1x8x128, .f32⟩
  | 45 => ⟨S8192x8x128, .f32⟩
  | 46 => ⟨S8192x8x128, .f32⟩
  | 47 => ⟨S1x8x128, .f32⟩
  | 48 => ⟨S8192x8x128, .f32⟩
  | 49 => ⟨S8192x8x128, .f32⟩
  | 50 => ⟨S8192x8x128, .f32⟩
  | 51 => ⟨S_, .f32⟩
  | 52 => ⟨S8x128, .f32⟩
  | 53 => ⟨S8x128, .f32⟩
  | 54 => ⟨S_, .f32⟩
  | 55 => ⟨S8192x8x128, .f32⟩
  | 56 => ⟨S8192x8x128, .f32⟩
  | 57 => ⟨S1x8x128, .f32⟩
  | 58 => ⟨S8192x8x128, .f32⟩
  | 59 => ⟨S8192x8x128, .f32⟩
  | 60 => ⟨S_, .f32⟩
  | 61 => ⟨S_, .f32⟩
  | 62 => ⟨S8192x8x128, .f32⟩
  | 63 => ⟨S_, .i1⟩
  | 64 => ⟨S8192x8192, .i1⟩
  | 65 => ⟨S8192x8192, .i32⟩
  | 66 => ⟨S_, .i32⟩
  | 67 => ⟨S8192x8192, .i32⟩
  | 68 => ⟨S8192x8192, .i32⟩
  | 69 => ⟨S8192x8192, .i32⟩
  | 70 => ⟨S8192x8192, .i1⟩
  | 71 => ⟨S_, .i1⟩
  | 72 => ⟨S8192x8192, .i1⟩
  | 73 => ⟨S8192x8192, .i1⟩
  | 74 => ⟨S8192x8192x1x1, .i1⟩
  | 75 => ⟨S8192x1x8x128, .f32⟩
  | 76 => ⟨S1x8192x8x128, .f32⟩
  | 77 => ⟨S8192x8192x8x128, .f32⟩
  | 78 => ⟨S8192x8192x8x128, .f32⟩
  | 79 => ⟨S8192x8192x8x128, .f32⟩
  | 80 => ⟨S_, .f32⟩
  | 81 => ⟨S_, .f32⟩
  | 82 => ⟨S8192x8192x8x128, .i1⟩
  | 83 => ⟨S8192x8192x8x128, .f32⟩
  | 84 => ⟨S8192x8192x8x128, .f32⟩
  | 85 => ⟨S_, .f32⟩
  | 86 => ⟨S8192x8192x8x128, .f32⟩
  | 87 => ⟨S8192x8192x8x128, .f32⟩
  | 88 => ⟨S_, .f32⟩
  | 89 => ⟨S_, .f32⟩
  | 90 => ⟨S8192x8192x8x128, .i1⟩
  | 91 => ⟨S8192x8192x8x128, .f32⟩
  | 92 => ⟨S8192x8192x8x128, .f32⟩
  | 93 => ⟨S_, .f32⟩
  | 94 => ⟨S8192x8192x8x128, .f32⟩
  | 95 => ⟨S8192x1x8x128, .f32⟩
  | 96 => ⟨S1x8192x8x128, .f32⟩
  | 97 => ⟨S8192x8192x8x128, .f32⟩
  | 98 => ⟨S8192x8192x8x128, .f32⟩
  | 99 => ⟨S8192x8192x8x128, .f32⟩
  | 100 => ⟨S8192x8192x8x128, .f32⟩
  | 101 => ⟨S_, .f32⟩
  | 102 => ⟨S8192x8192x8, .f32⟩
  | 103 => ⟨S8x128x8192, .f32⟩
  | 104 => ⟨S8192x8x128, .f32⟩
  | 105 => ⟨S8192x1024, .f32⟩
  | 106 => ⟨S8192x8x128, .f32⟩
  | 107 => ⟨S8x128x8192, .f32⟩
  | 108 => ⟨S8x8192x8192, .f32⟩
  | 109 => ⟨S8192x8192x8, .f32⟩
  | 110 => ⟨S8x128x8192, .f32⟩
  | 111 => ⟨S8192x8x128, .f32⟩
  | 112 => ⟨S8192x8192x8x128, .f32⟩
  | 113 => ⟨S8192x8192x8x128, .f32⟩
  | 114 => ⟨S8192x8192x8x128, .f32⟩
  | 115 => ⟨S8192x8192x8x128, .f32⟩
  | 116 => ⟨S8192x8192x8x128, .f32⟩
  | 117 => ⟨S_, .f32⟩
  | 118 => ⟨S8192x8x128, .f32⟩
  | 119 => ⟨S1x8192x8x128, .f32⟩
  | 120 => ⟨S8192x8192x8x128, .f32⟩
  | 121 => ⟨S8192x8192x8x128, .f32⟩
  | 122 => ⟨S_, .f32⟩
  | 123 => ⟨S8192x8x128, .f32⟩
  | 124 => ⟨S8192x1x8x128, .f32⟩
  | 125 => ⟨S_, .f32⟩
  | 126 => ⟨S8192x8x128, .f32⟩
  | 127 => ⟨S_, .f32⟩
  | _ => ⟨S8192x7168, .f32⟩

abbrev hbmTy0_1 (i : Nat) : BufTy := match i % 128 with
  | 0 => ⟨S8192x8x128, .f32⟩
  | 1 => ⟨S_, .f32⟩
  | 2 => ⟨S8192x8192x8x128, .f32⟩
  | 3 => ⟨S8192x8192x8x128, .f32⟩
  | 4 => ⟨S8192x8192x8x128, .f32⟩
  | 5 => ⟨S_, .f32⟩
  | 6 => ⟨S8192x8192x8x128, .f32⟩
  | 7 => ⟨S8192x8192x8x128, .f32⟩
  | 8 => ⟨S_, .f32⟩
  | 9 => ⟨S8192x8x128, .f32⟩
  | 10 => ⟨S8192x1x8x128, .f32⟩
  | 11 => ⟨S8192x8192x8x128, .f32⟩
  | 12 => ⟨S_, .f32⟩
  | 13 => ⟨S8192x8x128, .f32⟩
  | 14 => ⟨S1x8192x8x128, .f32⟩
  | 15 => ⟨S_, .f32⟩
  | 16 => ⟨S8192x8x128, .f32⟩
  | 17 => ⟨S_, .f32⟩
  | 18 => ⟨S8192x8x128, .f32⟩
  | 19 => ⟨S8192x8x128, .f32⟩
  | 20 => ⟨S_, .f32⟩
  | 21 => ⟨S_, .f32⟩
  | 22 => ⟨S8192x8x128, .f32⟩
  | 23 => ⟨S8192x8x128, .f32⟩
  | 24 => ⟨S8192x8x128, .f32⟩
  | 25 => ⟨S8192x8x128, .f32⟩
  | 26 => ⟨S_, .f32⟩
  | 27 => ⟨S8x128, .f32⟩
  | 28 => ⟨S1x8x128, .f32⟩
  | 29 => ⟨S_, .f32⟩
  | 30 => ⟨S8x128, .f32⟩
  | 31 => ⟨S8192x8x128, .f32⟩
  | 32 => ⟨S8x128, .f32⟩
  | 33 => ⟨S8192x8x128, .f32⟩
  | 34 => ⟨S_, .f32⟩
  | 35 => ⟨S8x128, .f32⟩
  | 36 => ⟨S1x8x128, .f32⟩
  | 37 => ⟨S_, .f32⟩
  | 38 => ⟨S8x128, .f32⟩
  | 39 => ⟨S8x128, .f32⟩
  | 40 => ⟨S8192x8x128, .f32⟩
  | 41 => ⟨S8192x8x128, .f32⟩
  | 42 => ⟨S8192x8x128, .f32⟩
  | 43 => ⟨S8192x8x128, .f32⟩
  | 44 => ⟨S_, .f32⟩
  | 45 => ⟨S8x128, .f32⟩
  | 46 => ⟨S1x8x128, .f32⟩
  | 47 => ⟨S_, .f32⟩
  | 48 => ⟨S8x128, .f32⟩
  | 49 => ⟨S8x128, .f32⟩
  | 50 => ⟨S8x128, .f32⟩
  | 51 => ⟨S8192x8x128, .f32⟩
  | 52 => ⟨S1024, .f32⟩
  | 53 => ⟨S8192x1024, .f32⟩
  | 54 => ⟨S8192x1024, .bf16⟩
  | 55 => ⟨S8192x1024, .f32⟩
  | 56 => ⟨S8192x1024, .bf16⟩
  | 57 => ⟨S8192x1024, .f32⟩
  | 58 => ⟨S8192x1024, .bf16⟩
  | 59 => ⟨S1x1024, .f32⟩
  | 60 => ⟨S8x1024, .f32⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_call0_cst : Ref sig .tc := ⟨.hbm, 23, rfl⟩
abbrev main_call0_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call1_call0_cst : Ref sig .tc := ⟨.hbm, 60, rfl⟩
abbrev main_call1_call0_v0 : Ref sig .tc := ⟨.hbm, 61, rfl⟩
abbrev main_v46 : Ref sig .tc := ⟨.hbm, 62, rfl⟩
abbrev main_c : Ref sig .tc := ⟨.hbm, 63, rfl⟩
abbrev main_v47 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_0 : Ref sig .tc := ⟨.hbm, 71, rfl⟩
abbrev main_call2_v5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_call3_v0 : Ref sig .tc := ⟨.hbm, 81, rfl⟩
abbrev main_v55_1 : Ref sig .tc := ⟨.hbm, 82, rfl⟩
abbrev main_call3_v2 : Ref sig .tc := ⟨.hbm, 83, rfl⟩
abbrev main_v55_0 : Ref sig .tc := ⟨.hbm, 84, rfl⟩
abbrev main_call3_cst : Ref sig .tc := ⟨.hbm, 85, rfl⟩
abbrev main_v55_2 : Ref sig .tc := ⟨.hbm, 86, rfl⟩
abbrev main_v56 : Ref sig .tc := ⟨.hbm, 87, rfl⟩
abbrev main_cst_9 : Ref sig .tc := ⟨.hbm, 88, rfl⟩
abbrev main_call4_v0 : Ref sig .tc := ⟨.hbm, 89, rfl⟩
abbrev main_v57_1 : Ref sig .tc := ⟨.hbm, 90, rfl⟩
abbrev main_call4_v2 : Ref sig .tc := ⟨.hbm, 91, rfl⟩
abbrev main_v57_0 : Ref sig .tc := ⟨.hbm, 92, rfl⟩
abbrev main_call4_cst : Ref sig .tc := ⟨.hbm, 93, rfl⟩
abbrev main_v57_2 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_10 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_11 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_12 : Ref sig .tc := ⟨.hbm, 122, rfl⟩
abbrev main_v83 : Ref sig .tc := ⟨.hbm, 123, rfl⟩
abbrev main_v84 : Ref sig .tc := ⟨.hbm, 124, rfl⟩
abbrev main_cst_13 : Ref sig .tc := ⟨.hbm, 125, rfl⟩
abbrev main_v85 : Ref sig .tc := ⟨.hbm, 126, rfl⟩
abbrev main_cst_14 : Ref sig .tc := ⟨.hbm, 127, rfl⟩
abbrev main_v86 : Ref sig .tc := ⟨.hbm, 128, rfl⟩
abbrev main_call5_cst : Ref sig .tc := ⟨.hbm, 129, rfl⟩
abbrev main_call5_v0 : Ref sig .tc := ⟨.hbm, 130, rfl⟩
abbrev main_v87 : Ref sig .tc := ⟨.hbm, 131, rfl⟩
abbrev main_v88 : Ref sig .tc := ⟨.hbm, 132, rfl⟩
abbrev main_call6_cst : Ref sig .tc := ⟨.hbm, 133, rfl⟩
abbrev main_call6_v0 : Ref sig .tc := ⟨.hbm, 134, rfl⟩
abbrev main_v89 : Ref sig .tc := ⟨.hbm, 135, rfl⟩
abbrev main_cst_15 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_16 : Ref sig .tc := ⟨.hbm, 140, rfl⟩
abbrev main_v93 : Ref sig .tc := ⟨.hbm, 141, rfl⟩
abbrev main_v94 : Ref sig .tc := ⟨.hbm, 142, rfl⟩
abbrev main_cst_17 : Ref sig .tc := ⟨.hbm, 143, rfl⟩
abbrev main_v95 : Ref sig .tc := ⟨.hbm, 144, rfl⟩
abbrev main_cst_18 : Ref sig .tc := ⟨.hbm, 145, rfl⟩
abbrev main_v96 : Ref sig .tc := ⟨.hbm, 146, rfl⟩
abbrev main_v97 : Ref sig .tc := ⟨.hbm, 147, rfl⟩
abbrev main_call7_call0_cst : Ref sig .tc := ⟨.hbm, 148, rfl⟩
abbrev main_call7_call0_v0 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_19 : Ref sig .tc := ⟨.hbm, 154, rfl⟩
abbrev main_v102 : Ref sig .tc := ⟨.hbm, 155, rfl⟩
abbrev main_v103 : Ref sig .tc := ⟨.hbm, 156, rfl⟩
abbrev main_cst_20 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_21 : Ref sig .tc := ⟨.hbm, 162, rfl⟩
abbrev main_v108 : Ref sig .tc := ⟨.hbm, 163, rfl⟩
abbrev main_v109 : Ref sig .tc := ⟨.hbm, 164, rfl⟩
abbrev main_cst_22 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_23 : Ref sig .tc := ⟨.hbm, 172, rfl⟩
abbrev main_v116 : Ref sig .tc := ⟨.hbm, 173, rfl⟩
abbrev main_v117 : Ref sig .tc := ⟨.hbm, 174, rfl⟩
abbrev main_cst_24 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩

abbrev nD : Nat := 1
abbrev τ : Topo := Topo.v7x

variable {F : FTy → Type} [FloatOps F]
-- ==== Merge.lean ====
abbrev S8192x1024 : Shape := ⟨2, ![8192, 1024]⟩
abbrev S8192x7168 : Shape := ⟨2, ![8192, 7168]⟩
abbrev S1024x1024 : Shape := ⟨2, ![1024, 1024]⟩
abbrev S512x1024 : Shape := ⟨2, ![512, 1024]⟩
abbrev S256x1024 : Shape := ⟨2, ![256, 1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x7168, .bf16⟩
  | .hbm, ⟨4, _⟩ => ⟨S1024x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeRefIdeal.lean ====
abbrev S8192x1024 : Shape := ⟨2, ![8192, 1024]⟩
abbrev S8192x7168 : Shape := ⟨2, ![8192, 7168]⟩
abbrev S1024x1024 : Shape := ⟨2, ![1024, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x7168, .bf16⟩
  | .hbm, ⟨4, _⟩ => ⟨S1024x1024, .bf16⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S1024x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S8192x1024, .bf16⟩
  | .hbm, ⟨51, _⟩ => ⟨S8192x1024, .bf16⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Inproj.lean ====
abbrev S8192x1024 : Shape := ⟨2, ![8192, 1024]⟩
abbrev S8192x512 : Shape := ⟨2, ![8192, 512]⟩
abbrev S1x1024 : Shape := ⟨2, ![1, 1024]⟩
abbrev S8x1024x896 : Shape := ⟨3, ![8, 1024, 896]⟩
abbrev S8192x7168 : Shape := ⟨2, ![8192, 7168]⟩
abbrev S256x1024 : Shape := ⟨2, ![256, 1024]⟩
abbrev S256x512 : Shape := ⟨2, ![256, 512]⟩
abbrev S256x7168 : Shape := ⟨2, ![256, 7168]⟩
abbrev S256x896 : Shape := ⟨2, ![256, 896]⟩
abbrev S1x1024x896 : Shape := ⟨3, ![1, 1024, 896]⟩
abbrev S1024x896 : Shape := ⟨2, ![1024, 896]⟩
abbrev S256 : Shape := ⟨1, ![256]⟩
abbrev S256x1 : Shape := ⟨2, ![256, 1]⟩
abbrev S1024 : Shape := ⟨1, ![1024]⟩

abbrev nBuf : Space → Nat
  | .hbm => 15
  | .vmem => 27
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x512, .f32⟩
  | .hbm, ⟨5, _⟩ => ⟨S8192x512, .bf16⟩
  | .hbm, ⟨6, _⟩ => ⟨S8192x1024, .bf16⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8x1024x896, .bf16⟩
  | .hbm, ⟨12, _⟩ => ⟨S8192x1024, .f32⟩
  | .hbm, ⟨13, _⟩ => ⟨S8192x7168, .bf16⟩
  | .hbm, ⟨14, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S8x1024x896, .bf16⟩
  | .local _ .vmem, ⟨22, _⟩ => ⟨S256x1024, .f32⟩
  | .local _ .vmem, ⟨23, _⟩ => ⟨S256x1024, .f32⟩
  | .local _ .vmem, ⟨24, _⟩ => ⟨S256x7168, .bf16⟩
  | .local _ .vmem, ⟨25, _⟩ => ⟨S256x7168, .bf16⟩
  | .local _ .vmem, ⟨26, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024x896 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x7168 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InprojRefIdeal.lean ====
abbrev S8192x1024 : Shape := ⟨2, ![8192, 1024]⟩
abbrev S8192x512 : Shape := ⟨2, ![8192, 512]⟩
abbrev S1x1024 : Shape := ⟨2, ![1, 1024]⟩
abbrev S8x1024x896 : Shape := ⟨3, ![8, 1024, 896]⟩
abbrev S1024x8x896 : Shape := ⟨3, ![1024, 8, 896]⟩
abbrev S1024x7168 : Shape := ⟨2, ![1024, 7168]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x512, .f32⟩
  | .hbm, ⟨5, _⟩ => ⟨S8192x512, .bf16⟩
  | .hbm, ⟨6, _⟩ => ⟨S8192x1024, .bf16⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8x1024x896, .bf16⟩
  | .hbm, ⟨12, _⟩ => ⟨S8x1024x896, .f32⟩
  | .hbm, ⟨13, _⟩ => ⟨S1024x8x896, .f32⟩
  | .hbm, ⟨14, _⟩ => ⟨S1024x7168, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x512, .f32⟩
  | .hbm, ⟨20, _⟩ => ⟨S8192x1024, .f32⟩
  | .hbm, ⟨21, _⟩ => ⟨S8192x1024, .f32⟩
  | .hbm, ⟨22, _⟩ => ⟨S8192x7168, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x7168, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== HgPath.lean ====
abbrev S8192x1024 : Shape := ⟨2, ![8192, 1024]⟩
abbrev S8192x7168 : Shape := ⟨2, ![8192, 7168]⟩
abbrev S1x1024 : Shape := ⟨2, ![1, 1024]⟩
abbrev S1024x1024 : Shape := ⟨2, ![1024, 1024]⟩
abbrev S512x1024 : Shape := ⟨2, ![512, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x7168, .bf16⟩
  | .hbm, ⟨3, _⟩ => ⟨S1x1024, .f32⟩
  | .hbm, ⟨4, _⟩ => ⟨S1024x1024, .bf16⟩
  | .hbm, ⟨5, _⟩ => ⟨S8192x1024, .bf16⟩
  | .hbm, ⟨6, _⟩ => ⟨S8192x1024, .bf16⟩
  | .hbm, ⟨7, _⟩ => ⟨S1024x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== HgPathRefIdeal.lean ====
abbrev S8192x1024 : Shape := ⟨2, ![8192, 1024]⟩
abbrev S8192x7168 : Shape := ⟨2, ![8192, 7168]⟩
abbrev S1x1024 : Shape := ⟨2, ![1, 1024]⟩
abbrev S1024x1024 : Shape := ⟨2, ![1024, 1024]⟩
abbrev S8192x8x128 : Shape := ⟨3, ![8192, 8, 128]⟩
abbrev S8x128 : Shape := ⟨2, ![8, 128]⟩
abbrev S_ : Shape := ⟨0, ![]⟩
abbrev S8192x8 : Shape := ⟨2, ![8192, 8]⟩
abbrev S8192x8x1 : Shape := ⟨3, ![8192, 8, 1]⟩
abbrev S1x8x128 : Shape := ⟨3, ![1, 8, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x7168, .bf16⟩
  | .hbm, ⟨3, _⟩ => ⟨S1x1024, .f32⟩
  | .hbm, ⟨4, _⟩ => ⟨S1024x1024, .bf16⟩
  | .hbm, ⟨5, _⟩ => ⟨S8192x1024, .bf16⟩
  | .hbm, ⟨6, _⟩ => ⟨S8192x1024, .f32⟩
  | .hbm, ⟨7, _⟩ => ⟨S1024x1024, .f32⟩
  | .hbm, ⟨8, _⟩ => ⟨S8192x8x128, .f32⟩
  | .hbm, ⟨9, _⟩ => ⟨S8x128, .f32⟩
  | .hbm, ⟨10, _⟩ => ⟨S8192x8x128, .f32⟩
  | .hbm, ⟨11, _⟩ => ⟨S_, .f32⟩
  | .hbm, ⟨12, _⟩ => ⟨S8192x8, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x128, .f32⟩
  | .hbm, ⟨26, _⟩ => ⟨S8192x8x128, .f32⟩
  | .hbm, ⟨27, _⟩ => ⟨S1x8x128, .f32⟩
  | .hbm, ⟨28, _⟩ => ⟨S8192x8x128, .f32⟩
  | .hbm, ⟨29, _⟩ => ⟨S8192x8x128, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1024x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x8x128, .f32⟩
  | .hbm, ⟨57, _⟩ => ⟨S8192x8x128, .f32⟩
  | .hbm, ⟨58, _⟩ => ⟨S_, .f32⟩
  | .hbm, ⟨59, _⟩ => ⟨S8x128, .f32⟩
  | .hbm, ⟨60, _⟩ => ⟨S1x8x128, .f32⟩
  | .hbm, ⟨61, _⟩ => ⟨S8192x8x128, .f32⟩
  | .hbm, ⟨62, _⟩ => ⟨S8192x8x128, .f32⟩
  | .hbm, ⟨63, _⟩ => ⟨S_, .f32⟩
  | .hbm, ⟨64, _⟩ => ⟨S8x128, .f32⟩
  | .hbm, ⟨65, _⟩ => ⟨S8192x8x128, .f32⟩
  | .hbm, ⟨66, _⟩ => ⟨S_, .f32⟩
  | .hbm, ⟨67, _⟩ => ⟨S8192x8, .f32⟩
  | .hbm, ⟨68, _⟩ => ⟨S8192x8x1, .f32⟩
  | .hbm, ⟨69, _⟩ => ⟨S8192x8x128, .f32⟩
  | .hbm, ⟨70, _⟩ => ⟨S8192x8x128, .f32⟩
  | .hbm, ⟨71, _⟩ => ⟨S8192x8x1, .f32⟩
  | .hbm, ⟨72, _⟩ => ⟨S_, .f32⟩
  | .hbm, ⟨73, _⟩ => ⟨S8192x8x1, .f32⟩
  | .hbm, ⟨74, _⟩ => ⟨S8192x8x1, .f32⟩
  | .hbm, ⟨75, _⟩ => ⟨S_, .f32⟩
  | .hbm, ⟨76, _⟩ => ⟨S8192x8, .f32⟩
  | .hbm, ⟨77, _⟩ => ⟨S8192x8x128, .f32⟩
  | .hbm, ⟨78, _⟩ => ⟨S8192x8x128, .f32⟩
  | .hbm, ⟨79, _⟩ => ⟨S8192x8x128, .f32⟩
  | .hbm, ⟨80, _⟩ => ⟨S8192x8x128, .f32⟩
  | .hbm, ⟨81, _⟩ => ⟨S8192x8x128, .f32⟩
  | .hbm, ⟨82, _⟩ => ⟨S1x1024, .f32⟩
  | .hbm, ⟨83, _⟩ => ⟨S8192x1024, .f32⟩
  | .hbm, ⟨84, _⟩ => ⟨S8192x1024, .bf16⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== S5Path.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S1x1024 : Shape := ⟨2, ![1, 1024]⟩
abbrev S512x512 : Shape := ⟨2, ![512, 512]⟩
abbrev S256x1024 : Shape := ⟨2, ![256, 1024]⟩
abbrev S256x512 : Shape := ⟨2, ![256, 512]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x1024, .bf16⟩
  | .hbm, ⟨3, _⟩ => ⟨S8192x7168, .bf16⟩
  | .hbm, ⟨4, _⟩ => ⟨S512x1024, .bf16⟩
  | .hbm, ⟨5, _⟩ => ⟨S512x1024, .bf16⟩
  | .hbm, ⟨6, _⟩ => ⟨S8192x512, .f32⟩
  | .hbm, ⟨7, _⟩ => ⟨S8192x512, .bf16⟩
  | .hbm, ⟨8, _⟩ => ⟨S512x1024, .f32⟩
  | .hbm, ⟨9, _⟩ => ⟨S512x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== S5PathIdeal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== S5PathRefIdeal.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S_ : Shape := ⟨0, ![]⟩
abbrev S1024x512 : Shape := ⟨2, ![1024, 512]⟩
abbrev S1x1024 : Shape := ⟨2, ![1, 1024]⟩
abbrev S1024 : Shape := ⟨1, ![1024]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x1024, .bf16⟩
  | .hbm, ⟨3, _⟩ => ⟨S8192x7168, .bf16⟩
  | .hbm, ⟨4, _⟩ => ⟨S512x1024, .bf16⟩
  | .hbm, ⟨5, _⟩ => ⟨S512x1024, .bf16⟩
  | .hbm, ⟨6, _⟩ => ⟨S8192x512, .bf16⟩
  | .hbm, ⟨7, _⟩ => ⟨S8192x512, .f32⟩
  | .hbm, ⟨8, _⟩ => ⟨S8192x1024, .f32⟩
  | .hbm, ⟨9, _⟩ => ⟨S512x1024, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x1024, .f32⟩
  | .hbm, ⟨40, _⟩ => ⟨S8192x1024, .f32⟩
  | .hbm, ⟨41, _⟩ => ⟨S1024x512, .f32⟩
  | .hbm, ⟨42, _⟩ => ⟨S512x1024, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x1024, .f32⟩
  | .hbm, ⟨54, _⟩ => ⟨S512x1024, .f32⟩
  | .hbm, ⟨55, _⟩ => ⟨S_, .f32⟩
  | .hbm, ⟨56, _⟩ => ⟨S1x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S_, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S_, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S_, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S_, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S1024x512, .f32⟩
  | .hbm, ⟨94, _⟩ => ⟨S512x1024, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S_, .f32⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S8192x512, .f32⟩
  | .hbm, ⟨106, _⟩ => ⟨S_, .f32⟩
  | .hbm, ⟨107, _⟩ => ⟨S8192x512, .f32⟩
  | .hbm, ⟨108, _⟩ => ⟨S8192x512, .f32⟩
  | .hbm, ⟨109, _⟩ => ⟨S8192x512, .f32⟩
  | .hbm, ⟨110, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_cst_3 : Ref sig .tc := ⟨.hbm, 57, rfl⟩
abbrev main_cst_4 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S1x1024 : Shape := ⟨2, ![1, 1024]⟩
abbrev S256x1024 : Shape := ⟨2, ![256, 1024]⟩
abbrev S1024x1024 : Shape := ⟨2, ![1024, 1024]⟩
abbrev S1x128 : Shape := ⟨2, ![1, 128]⟩
abbrev S512x1024 : Shape := ⟨2, ![512, 1024]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024, .f32⟩
  | .hbm, ⟨4, _⟩ => ⟨S256x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S1x128, .f32⟩
  | .hbm, ⟨9, _⟩ => ⟨S1x1024, .f32⟩
  | .hbm, ⟨10, _⟩ => ⟨S1x1024, .f32⟩
  | .hbm, ⟨11, _⟩ => ⟨S256x1024, .f32⟩
  | .hbm, ⟨12, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S256x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PleRefIdeal.lean ====
abbrev S8192x1024 : Shape := ⟨2, ![8192, 1024]⟩
abbrev S8192x256 : Shape := ⟨2, ![8192, 256]⟩
abbrev S1x1024 : Shape := ⟨2, ![1, 1024]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x256 : Shape := ⟨2, ![1024, 256]⟩
abbrev S1x128 : Shape := ⟨2, ![1, 128]⟩

abbrev nBuf : Space → Nat
  | .hbm => 142
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1x1024, .f32⟩
  | 4 => ⟨S256x1024, .bf16⟩
  | 5 => ⟨S1024x1024, .bf16⟩
  | 6 => ⟨S1x1024, .f32⟩
  | 7 => ⟨S256x1024, .f32⟩
  | 8 => ⟨S1024x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192, .f32⟩
  | 70 => ⟨S_, .f32⟩
  | 71 => ⟨S8192, .f32⟩
  | 72 => ⟨S8192, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8192, .f32⟩
  | 81 => ⟨S_, .f32⟩
  | 82 => ⟨S8192, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S1024x1024, .f32⟩
  | 113 => ⟨S1024x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S1024x256, .f32⟩
  | 12 => ⟨S256x1024, .f32⟩
  | 13 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_cst_15 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_19 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_20 : Ref sig .tc := ⟨.hbm, 99, rfl⟩
abbrev main_v71 : Ref sig .tc := ⟨.hbm, 100, rfl⟩
abbrev main_v72 : Ref sig .tc := ⟨.hbm, 101, rfl⟩
abbrev main_cst_21 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_22 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_23 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_24 : Ref sig .tc := ⟨.hbm, 129, rfl⟩
abbrev main_v97 : Ref sig .tc := ⟨.hbm, 130, rfl⟩
abbrev main_v98 : Ref sig .tc := ⟨.hbm, 131, rfl⟩
abbrev main_cst_25 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩

abbrev nD : Nat := 1
abbrev τ : Topo := Topo.v7x

variable {F : FTy → Type} [FloatOps F]
-- ==== Branches.lean ====
abbrev S8192x1024 : Shape := ⟨2, ![8192, 1024]⟩
abbrev S8192x7168 : Shape := ⟨2, ![8192, 7168]⟩
abbrev S8192x512 : Shape := ⟨2, ![8192, 512]⟩
abbrev S1x1024 : Shape := ⟨2, ![1, 1024]⟩
abbrev S1024x1024 : Shape := ⟨2, ![1024, 1024]⟩
abbrev S512x1024 : Shape := ⟨2, ![512, 1024]⟩
abbrev S512x512 : Shape := ⟨2, ![512, 512]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x7168, .bf16⟩
  | .hbm, ⟨2, _⟩ => ⟨S8192x512, .f32⟩
  | .hbm, ⟨3, _⟩ => ⟨S8192x1024, .f32⟩
  | .hbm, ⟨4, _⟩ => ⟨S1x1024, .f32⟩
  | .hbm, ⟨5, _⟩ => ⟨S1024x1024, .bf16⟩
  | .hbm, ⟨6, _⟩ => ⟨S512x1024, .bf16⟩
  | .hbm, ⟨7, _⟩ => ⟨S1x1024, .f32⟩
  | .hbm, ⟨8, _⟩ => ⟨S512x1024, .bf16⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1024x1024, .bf16⟩
  | .local _ .vmem, ⟨16, _⟩ => ⟨S512x1024, .bf16⟩
  | .local _ .vmem, ⟨17, _⟩ => ⟨S1x1024, .f32⟩
  | .local _ .vmem, ⟨18, _⟩ => ⟨S512x1024, .bf16⟩
  | .local _ .vmem, ⟨19, _⟩ => ⟨S1024x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== BranchesRefIdeal.lean ====
abbrev S8192x1024 : Shape := ⟨2, ![8192, 1024]⟩
abbrev S8192x7168 : Shape := ⟨2, ![8192, 7168]⟩
abbrev S8192x512 : Shape := ⟨2, ![8192, 512]⟩
abbrev S1x1024 : Shape := ⟨2, ![1, 1024]⟩
abbrev S1024x1024 : Shape := ⟨2, ![1024, 1024]⟩
abbrev S512x1024 : Shape := ⟨2, ![512, 1024]⟩
abbrev S8192x8x128 : Shape := ⟨3, ![8192, 8, 128]⟩
abbrev S8x128 : Shape := ⟨2, ![8, 128]⟩
abbrev S_ : Shape := ⟨0, ![]⟩
abbrev S8192x8 : Shape := ⟨2, ![8192, 8]⟩
abbrev S8192x8x1 : Shape := ⟨3, ![8192, 8, 1]⟩
abbrev S1x8x128 : Shape := ⟨3, ![1, 8, 128]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .bf16⟩
  | .hbm, ⟨2, _⟩ => ⟨S8192x512, .f32⟩
  | .hbm, ⟨3, _⟩ => ⟨S8192x1024, .f32⟩
  | .hbm, ⟨4, _⟩ => ⟨S1x1024, .f32⟩
  | .hbm, ⟨5, _⟩ => ⟨S1024x1024, .bf16⟩
  | .hbm, ⟨6, _⟩ => ⟨S512x1024, .bf16⟩
  | .hbm, ⟨7, _⟩ => ⟨S1x1024, .f32⟩
  | .hbm, ⟨8, _⟩ => ⟨S512x1024, .bf16⟩
  | .hbm, ⟨9, _⟩ => ⟨S1024x1024, .bf16⟩
  | .hbm, ⟨10, _⟩ => ⟨S1024x1024, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S8192x1024, .bf16⟩
  | .hbm, ⟨15, _⟩ => ⟨S8192x1024, .f32⟩
  | .hbm, ⟨16, _⟩ => ⟨S8192x512, .bf16⟩
  | .hbm, ⟨17, _⟩ => ⟨S8192x512, .f32⟩
  | .hbm, ⟨18, _⟩ => ⟨S8192x1024, .bf16⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8192x8x128, .f32⟩
  | .hbm, ⟨23, _⟩ => ⟨S8x128, .f32⟩
  | .hbm, ⟨24, _⟩ => ⟨S8192x8x128, .f32⟩
  | .hbm, ⟨25, _⟩ => ⟨S_, .f32⟩
  | .hbm, ⟨26, _⟩ => ⟨S8192x8, .f32⟩
  | .hbm, ⟨27, _⟩ => ⟨S8192x8x1, .f32⟩
  | .hbm, ⟨28, _⟩ => ⟨S_, .f32⟩
  | .hbm, ⟨29, _⟩ => ⟨S8192x8x1, .f32⟩
  | .hbm, ⟨30, _⟩ => ⟨S8192x8x1, .f32⟩
  | .hbm, ⟨31, _⟩ => ⟨S_, .f32⟩
  | .hbm, ⟨32, _⟩ => ⟨S8192x8x1, .f32⟩
  | .hbm, ⟨33, _⟩ => ⟨S8192x8x1, .f32⟩
  | .hbm, ⟨34, _⟩ => ⟨S8192x8x1, .f32⟩
  | .hbm, ⟨35, _⟩ => ⟨S8192x8x128, .f32⟩
  | .hbm, ⟨36, _⟩ => ⟨S8192x8x128, .f32⟩
  | .hbm, ⟨37, _⟩ => ⟨S1x8x128, .f32⟩
  | .hbm, ⟨38, _⟩ => ⟨S8192x8x128, .f32⟩
  | .hbm, ⟨39, _⟩ => ⟨S8192x8x128, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S_, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S_, .f32⟩
  | .hbm, ⟨86, _⟩ => ⟨S8192x512, .f32⟩
  | .hbm, ⟨87, _⟩ => ⟨S8192x512, .f32⟩
  | .hbm, ⟨88, _⟩ => ⟨S_, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192x1024, .f32⟩
  | .hbm, ⟨107, _⟩ => ⟨S8192x1024, .f32⟩
  | .hbm, ⟨108, _⟩ => ⟨S_, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .bf16⟩
  | .hbm, ⟨116, _⟩ => ⟨S8192x1024, .bf16⟩
  | .hbm, ⟨117, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_8 : Ref sig .tc := ⟨.hbm, 96, rfl⟩
abbrev main_v61 : Ref sig .tc := ⟨.hbm, 97, rfl⟩
abbrev main_v62 : Ref sig .tc := ⟨.hbm, 98, rfl⟩
abbrev main_cst_9 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_10 : Ref sig .tc := ⟨.hbm, 105, rfl⟩
abbrev main_v68 : Ref sig .tc := ⟨.hbm, 106, rfl⟩
abbrev main_v69 : Ref sig .tc := ⟨.hbm, 107, rfl⟩
abbrev main_cst_11 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩

abbrev nD : Nat := 1
abbrev τ : Topo := Topo.v7x

variable {F : FTy → Type} [FloatOps F]
-- ==== Adam.lean ====
abbrev S1024x896 : Shape := ⟨2, ![1024, 896]⟩
abbrev S256x896 : Shape := ⟨2, ![256, 896]⟩

abbrev nBuf : Space → Nat
  | .hbm => 7
  | .vmem => 14
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamIdeal.lean ====
abbrev S1024x896 : Shape := ⟨2, ![1024, 896]⟩
abbrev S256x896 : Shape := ⟨2, ![256, 896]⟩

abbrev nBuf : Space → Nat
  | .hbm => 7
  | .vmem => 14
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1024x896 : Shape := ⟨2, ![1024, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S_, .f32⟩
  | .hbm, ⟨5, _⟩ => ⟨S1024x896, .f32⟩
  | .hbm, ⟨6, _⟩ => ⟨S1024x896, .f32⟩
  | .hbm, ⟨7, _⟩ => ⟨S_, .f32⟩
  | .hbm, ⟨8, _⟩ => ⟨S1024x896, .f32⟩
  | .hbm, ⟨9, _⟩ => ⟨S1024x896, .f32⟩
  | .hbm, ⟨10, _⟩ => ⟨S1024x896, .f32⟩
  | .hbm, ⟨11, _⟩ => ⟨S_, .f32⟩
  | .hbm, ⟨12, _⟩ => ⟨S1024x896, .f32⟩
  | .hbm, ⟨13, _⟩ => ⟨S1024x896, .f32⟩
  | .hbm, ⟨14, _⟩ => ⟨S1024x896, .f32⟩
  | .hbm, ⟨15, _⟩ => ⟨S_, .f32⟩
  | .hbm, ⟨16, _⟩ => ⟨S1024x896, .f32⟩
  | .hbm, ⟨17, _⟩ => ⟨S1024x896, .f32⟩
  | .hbm, ⟨18, _⟩ => ⟨S1024x896, .f32⟩
  | .hbm, ⟨19, _⟩ => ⟨S_, .f32⟩
  | .hbm, ⟨20, _⟩ => ⟨S1024x896, .f32⟩
  | .hbm, ⟨21, _⟩ => ⟨S1024x896, .f32⟩
  | .hbm, ⟨22, _⟩ => ⟨S_, .f32⟩
  | .hbm, ⟨23, _⟩ => ⟨S1024x896, .f32⟩
  | .hbm, ⟨24, _⟩ => ⟨S1024x896, .f32⟩
  | .hbm, ⟨25, _⟩ => ⟨S1024x896, .f32⟩
  | .hbm, ⟨26, _⟩ => ⟨S_, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S1024x896, .f32⟩
  | .hbm, ⟨34, _⟩ => ⟨S_, .f32⟩
  | .hbm, ⟨35, _⟩ => ⟨S1024x896, .f32⟩
  | .hbm, ⟨36, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRowRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCol.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamColIdeal.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamColRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamEmb.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEmbIdeal.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEmbRefIdeal.lean ====
abbrev S256x128 : Shape := ⟨2, ![256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1136x128 : Shape := ⟨2, ![1136, 128]⟩

abbrev nBuf : Space → Nat
  | .hbm => 7
  | .vmem => 7
  | .smem => 0
  | _ => 0

abbrev bufTy : (tb : Table) → Fin (tcTables nBuf tb) → BufTy
  | .hbm, ⟨0, _⟩ => ⟨S1136x128, .f32⟩
  | .hbm, ⟨1, _⟩ => ⟨S1136x128, .f32⟩
  | .hbm, ⟨2, _⟩ => ⟨S1136x128, .f32⟩
  | .hbm, ⟨3, _⟩ => ⟨S1136x128, .f32⟩
  | .hbm, ⟨4, _⟩ => ⟨S1136x128, .f32⟩
  | .hbm, ⟨5, _⟩ => ⟨S1136x128, .f32⟩
  | .hbm, ⟨6, _⟩ => ⟨S1136x128, .f32⟩
  | .local _ .vmem, ⟨0, _⟩ => ⟨S1136x128, .f32⟩
  | .local _ .vmem, ⟨1, _⟩ => ⟨S1136x128, .f32⟩
  | .local _ .vmem, ⟨2, _⟩ => ⟨S1136x128, .f32⟩
  | .local _ .vmem, ⟨3, _⟩ => ⟨S1136x128, .f32⟩
  | .local _ .vmem, ⟨4, _⟩ => ⟨S1136x128, .f32⟩
  | .local _ .vmem, ⟨5, _⟩ => ⟨S1136x128, .f32⟩
  | .local _ .vmem, ⟨6, _⟩ => ⟨S1136x128, .f32⟩
  | _, _ => ⟨S1136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1136x128 : Shape := ⟨2, ![1136, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1136x128, .f32⟩
  | .hbm, ⟨1, _⟩ => ⟨S1136x128, .f32⟩
  | .hbm, ⟨2, _⟩ => ⟨S1136x128, .f32⟩
  | .hbm, ⟨3, _⟩ => ⟨S1136x128, .f32⟩
  | .hbm, ⟨4, _⟩ => ⟨S_, .f32⟩
  | .hbm, ⟨5, _⟩ => ⟨S1136x128, .f32⟩
  | .hbm, ⟨6, _⟩ => ⟨S1136x128, .f32⟩
  | .hbm, ⟨7, _⟩ => ⟨S_, .f32⟩
  | .hbm, ⟨8, _⟩ => ⟨S1136x128, .f32⟩
  | .hbm, ⟨9, _⟩ => ⟨S1136x128, .f32⟩
  | .hbm, ⟨10, _⟩ => ⟨S1136x128, .f32⟩
  | .hbm, ⟨11, _⟩ => ⟨S_, .f32⟩
  | .hbm, ⟨12, _⟩ => ⟨S1136x128, .f32⟩
  | .hbm, ⟨13, _⟩ => ⟨S1136x128, .f32⟩
  | .hbm, ⟨14, _⟩ => ⟨S1136x128, .f32⟩
  | .hbm, ⟨15, _⟩ => ⟨S_, .f32⟩
  | .hbm, ⟨16, _⟩ => ⟨S1136x128, .f32⟩
  | .hbm, ⟨17, _⟩ => ⟨S1136x128, .f32⟩
  | .hbm, ⟨18, _⟩ => ⟨S1136x128, .f32⟩
  | .hbm, ⟨19, _⟩ => ⟨S_, .f32⟩
  | .hbm, ⟨20, _⟩ => ⟨S1136x128, .f32⟩
  | .hbm, ⟨21, _⟩ => ⟨S1136x128, .f32⟩
  | .hbm, ⟨22, _⟩ => ⟨S_, .f32⟩
  | .hbm, ⟨23, _⟩ => ⟨S1136x128, .f32⟩
  | .hbm, ⟨24, _⟩ => ⟨S1136x128, .f32⟩
  | .hbm, ⟨25, _⟩ => ⟨S1136x128, .f32⟩
  | .hbm, ⟨26, _⟩ => ⟨S_, .f32⟩
  | .hbm, ⟨27, _⟩ => ⟨S1136x128, .f32⟩
  | .hbm, ⟨28, _⟩ => ⟨S1136x128, .f32⟩
  | .hbm, ⟨29, _⟩ => ⟨S1136x128, .f32⟩
  | .hbm, ⟨30, _⟩ => ⟨S_, .f32⟩
  | .hbm, ⟨31, _⟩ => ⟨S1136x128, .f32⟩
  | .hbm, ⟨32, _⟩ => ⟨S1136x128, .f32⟩
  | .hbm, ⟨33, _⟩ => ⟨S1136x128, .f32⟩
  | .hbm, ⟨34, _⟩ => ⟨S_, .f32⟩
  | .hbm, ⟨35, _⟩ => ⟨S1136x128, .f32⟩
  | .hbm, ⟨36, _⟩ => ⟨S1136x128, .f32⟩
  | _, _ => ⟨S1136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MergeValue.lean ====
module

public import proofs.«01_k».proof.Proof.Gen.MergeIdeal.Value
public import proofs.«01_k».proof.Proof.Gen.MergeRefIdeal.Read
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.MergeIdeal.Value
open Cert.MergeIdeal Cert.MergeIdeal.Gen
open Cert.MergeRefIdeal.Read
variable (m : (ℓ : Loc nD τ sig) → Buf (Elt Ideal) ℓ)

/-- The windows' index maps at every grid point. -/
theorem idx : ∀ t : Fin cfg0.N, win0_0.index t = ![t.val, 0] ∧ win0_1.index t = ![t.val, 0] ∧ win0_2.index t = ![t.val, 0]
    ∧ win0_3.index t = ![t.val, 5] ∧ win0_4.index t = ![t.val, 6] ∧ win0_5.index t = ![0, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

/-- The logistic function is written out by the host program. -/
theorem logistic_eq (x : Ideal .f32) : Ideal.logistic x = Ideal.div 1 (1 + Ideal.exp (-x)) := rfl

/-- Window 6 after the run is the reference's the gradient of the first gate. -/
theorem final6 (c : Dev nD) : (dats m 0 c).arrAt 6 (cfgs 0).N
    = val_main_v38 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 6 _ (by decide +kernel) fun t _ y => ?_
  blk_simp
  rw [after0_6]
  by_cases h : t.val % 16 = 0
  · rw [outsAt0_A m c t h]; frame_out
    canon_tiles x h
    all_goals (pointwise [k0_pay1, k0_pay2, k0_pay3, k0_pay4, k0_pay7, k0_pay8, k0_pay10, k0_pay11, k0_pay12, k0_pay13, k0_pay14, k0_pay15, k0_pay16, k0_pay17, k0_pay19, k0_pay20, k0_pay22, val_main_v38, val_main_v36, val_main_v37, val_main_v35, val_main_v31, val_main_v4, val_main_v6, val_main_v15, val_main_v14, val_main_v13, val_main_v12, val_main_v11, val_main_v10, val_main_v9, val_main_v8, val_main_v7, val_main_v1, val_main_v0, val_main_cst, val_main_cst_0, val_main_cst_1]; rw [mul_assoc]; simp only [logistic_eq]; blk_point [iblk, V, idx t])
  · rw [outsAt0_B m c t h]; frame_out
    canon_tiles x h
    all_goals (pointwise [k0_pay1, k0_pay2, k0_pay3, k0_pay4, k0_pay7, k0_pay8, k0_pay10, k0_pay11, k0_pay12, k0_pay13, k0_pay14, k0_pay15, k0_pay16, k0_pay17, k0_pay19, k0_pay20, k0_pay22, val_main_v38, val_main_v36, val_main_v37, val_main_v35, val_main_v31, val_main_v4, val_main_v6, val_main_v15, val_main_v14, val_main_v13, val_main_v12, val_main_v11, val_main_v10, val_main_v9, val_main_v8, val_main_v7, val_main_v1, val_main_v0, val_main_cst, val_main_cst_0, val_main_cst_1]; rw [mul_assoc]; simp only [logistic_eq]; blk_point [iblk, V, idx t])

/-- Window 7 after the run is the reference's the gradient of the second gate. -/
theorem final7 (c : Dev nD) : (dats m 0 c).arrAt 7 (cfgs 0).N
    = val_main_v39 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  by_cases h : t.val % 16 = 0
  · rw [outsAt0_A m c t h]; frame_out
    canon_tiles x h
    all_goals (pointwise [k0_pay1, k0_pay2, k0_pay3, k0_pay4, k0_pay7, k0_pay8, k0_pay10, k0_pay11, k0_pay12, k0_pay13, k0_pay14, k0_pay15, k0_pay16, k0_pay17, k0_pay19, k0_pay20, k0_pay22, val_main_v39, val_main_v33, val_main_v34, val_main_v31, val_main_v5, val_main_v6, val_main_v25, val_main_v24, val_main_v23, val_main_v22, val_main_v21, val_main_v20, val_main_v19, val_main_v18, val_main_v17, val_main_v3, val_main_v2, val_main_cst_2, val_main_cst_3, val_main_cst_4]; rw [mul_assoc]; simp only [logistic_eq]; blk_point [iblk, V, idx t])
  · rw [outsAt0_B m c t h]; frame_out
    canon_tiles x h
    all_goals (pointwise [k0_pay1, k0_pay2, k0_pay3, k0_pay4, k0_pay7, k0_pay8, k0_pay10, k0_pay11, k0_pay12, k0_pay13, k0_pay14, k0_pay15, k0_pay16, k0_pay17, k0_pay19, k0_pay20, k0_pay22, val_main_v39, val_main_v33, val_main_v34, val_main_v31, val_main_v5, val_main_v6, val_main_v25, val_main_v24, val_main_v23, val_main_v22, val_main_v21, val_main_v20, val_main_v19, val_main_v18, val_main_v17, val_main_v3, val_main_v2, val_main_cst_2, val_main_cst_3, val_main_cst_4]; rw [mul_assoc]; simp only [logistic_eq]; blk_point [iblk, V, idx t])

/-- Window 8 after the run is the reference's the gradient of the first branch. -/
theorem final8 (c : Dev nD) : (dats m 0 c).arrAt 8 (cfgs 0).N
    = val_main_v40 (F := Ideal) (m ((c : Thread nD τ).loc main_arg0)) (m ((c : Thread nD τ).loc main_arg3)) (m ((c : Thread nD τ).loc main_arg4)) := by
  refine (dats m 0 c).arrAt_eq_of_covers 8 _ (by decide +kernel) fun t _ y => ?_
  blk_simp
  rw [after0_8]
  by_cases h : t.val % 16 = 0
  · rw [outsAt0_A m c t h]; frame_out
    canon_tiles x h
    all_goals (pointwise [k0_pay1, k0_pay2, k0_pay3, k0_pay4, k0_pay7, k0_pay8, k0_pay10, k0_pay11, k0_pay12, k0_pay13, k0_pay14, k0_pay15, k0_pay16, k0_pay17, k0_pay19, k0_pay20, k0_pay22, val_main_v40, val_main_v35, val_main_v31, val_main_v6, val_main_v12, val_main_v11, val_main_v10, val_main_v9, val_main_v8, val_main_v7, val_main_v1, val_main_v0, val_main_cst, val_main_cst_0]; rw [mul_comm]; simp only [logistic_eq]; blk_point [iblk, V, idx t])
  · rw [outsAt0_B m c t h]; frame_out
    canon_tiles x h
    all_goals (pointwise [k0_pay1, k0_pay2, k0_pay3, k0_pay4, k0_pay7, k0_pay8, k0_pay10, k0_pay11, k0_pay12, k0_pay13, k0_pay14, k0_pay15, k0_pay16, k0_pay17, k0_pay19, k0_pay20, k0_pay22, val_main_v40, val_main_v35, val_main_v31, val_main_v6, val_main_v12, val_main_v11, val_main_v10, val_main_v9, val_main_v8, val_main_v7, val_main_v1, val_main_v0, val_main_cst, val_main_cst_0]; rw [mul_comm]; simp only [logistic_eq]; blk_point [iblk, V, idx t])

/-- Window 9 after the run is the reference's the gradient of the second branch. -/
theorem final9 (c : Dev nD) : (dats m 0 c).arrAt 9 (cfgs 0).N
    = val_main_v41 (F := Ideal) (m ((c : Thread nD τ).loc main_arg0)) (m ((c : Thread nD τ).loc main_arg3)) (m ((c : Thread nD τ).loc main_arg4)) := by
  refine (dats m 0 c).arrAt_eq_of_covers 9 _ (by decide +kernel) fun t _ y => ?_
  blk_simp
  rw [after0_9]
  by_cases h : t.val % 16 = 0
  · rw [outsAt0_A m c t h]; frame_out
    canon_tiles x h
    all_goals (pointwise [k0_pay1, k0_pay2, k0_pay3, k0_pay4, k0_pay7, k0_pay8, k0_pay10, k0_pay11, k0_pay12, k0_pay13, k0_pay14, k0_pay15, k0_pay16, k0_pay17, k0_pay19, k0_pay20, k0_pay22, val_main_v41, val_main_v32, val_main_v31, val_main_v6, val_main_v22, val_main_v21, val_main_v20, val_main_v19, val_main_v18, val_main_v17, val_main_v3, val_main_v2, val_main_cst_2, val_main_cst_3]; rw [mul_comm]; simp only [logistic_eq]; blk_point [iblk, V, idx t])
  · rw [outsAt0_B m c t h]; frame_out
    canon_tiles x h
    all_goals (pointwise [k0_pay1, k0_pay2, k0_pay3, k0_pay4, k0_pay7, k0_pay8, k0_pay10, k0_pay11, k0_pay12, k0_pay13, k0_pay14, k0_pay15, k0_pay16, k0_pay17, k0_pay19, k0_pay20, k0_pay22, val_main_v41, val_main_v32, val_main_v31, val_main_v6, val_main_v22, val_main_v21, val_main_v20, val_main_v19, val_main_v18, val_main_v17, val_main_v3, val_main_v2, val_main_cst_2, val_main_cst_3]; rw [mul_comm]; simp only [logistic_eq]; blk_point [iblk, V, idx t])

end Cert.MergeIdeal.Value

end

end
-- ==== Proof.MergeAcc.lean ====
module

public import proofs.«01_k».proof.Proof.MergeValue

@[expose] public section

set_option maxRecDepth 16384
noncomputable section
open Idealize.ShloMosaic Idealize.ShloMosaic.TcCoe Idealize.SL.Sem
open Idealize.ShloMosaic.Pipeline (Dat)
namespace Cert.MergeIdeal.Value
open Cert.MergeIdeal Cert.MergeIdeal.Gen
open Cert.MergeRefIdeal.Read
variable (m : (ℓ : Loc nD τ sig) → Buf (Elt Ideal) ℓ)

/-- One row's contribution to the gradient of the output projection, before the sum. -/
def row (B0 : FVec Ideal S512x1024 .f32) (B1 B2 B3 B4 : FVec Ideal S512x1024 .bf16) (j : S1024x1024.Idx) (k : Fin 512) : EReal :=
  B0 (ix2 k (j 1)) * (Ideal.logistic (B3 (ix2 k (j 0))) * B1 (ix2 k (j 0)) + Ideal.logistic (B4 (ix2 k (j 0))) * B2 (ix2 k (j 0)))

/-- The first half of a block of rows. -/
abbrev lo {e : EltTy} (B : Vec Ideal S512x1024 e) : Vec Ideal S256x1024 e :=
  View.ld (Val := Elt Ideal) B (Rect.unit ![0, 0] ![256, 1024] inb_S512x1024_S256x1024_0_0)

/-- The second half of a block of rows. -/
abbrev hi {e : EltTy} (B : Vec Ideal S512x1024 e) : Vec Ideal S256x1024 e :=
  View.ld (Val := Elt Ideal) B (Rect.unit ![256, 0] ![256, 1024] inb_S512x1024_S256x1024_256_0)

/-- The two halves of a point's block add the rows of the whole block. -/
theorem halves (B0 : FVec Ideal S512x1024 .f32) (B1 B2 B3 B4 : FVec Ideal S512x1024 .bf16) (j : S1024x1024.Idx) :
    (k0_pay9 (F := Ideal) (lo B0) (lo B1) (lo B2) (lo B3) (lo B4) j : EReal)
      + k0_pay21 (F := Ideal) (hi B0) (hi B1) (hi B2) (hi B3) (hi B4) j = ∑ k : Fin 512, row B0 B1 B2 B3 B4 j k := by
  rw [show ∑ k : Fin 512, row B0 B1 B2 B3 B4 j k = ∑ k : Fin 256, row B0 B1 B2 B3 B4 j ⟨k.val, by omega⟩ + ∑ k : Fin 256, row B0 B1 B2 B3 B4 j ⟨256 + k.val, by omega⟩ from Fin.sum_univ_add (a := 256) (b := 256) _]
  pointwise [k0_pay9, k0_pay21, k0_pay7, k0_pay8, k0_pay19, k0_pay20, lo, hi]
  simp only [row]
  blk_point []

/-- The accumulated window after the run is the reference's gradient of the output projection. -/
theorem final10 (c : Dev nD) : (dats m 0 c).arrAt 10 (cfgs 0).N
    = val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0)
    (fun p j => ∑ k : Fin 512, row (iblk m c 0 p) (iblk m c 1 p) (iblk m c 2 p) (iblk m c 3 p) (iblk m c 4 p) j k)
    (fun t h j => by rw [outsAt0_A m c t h]; frame_out; pointwise [k0_pay5, k0_pay6, k0_pay18]; exact halves _ _ _ _ _ j)
    (fun t h j => by rw [outsAt0_B m c t h]; frame_out; pointwise [k0_pay5, k0_pay6, k0_pay18]; rw [add_assoc]; exact congrArg _ (halves _ _ _ _ _ j))
    (le_of_eq N_0) t0_15 rfl j, zero_add]
  pointwise [val_main_v30, val_main_v29, val_main_v27, val_main_v26, val_main_v16, val_main_v12, val_main_v22, val_main_v11, val_main_v10, val_main_v9, val_main_v8, val_main_v7, val_main_v1, val_main_v0, val_main_v21, val_main_v20, val_main_v19, val_main_v18, val_main_v17, val_main_v3, val_main_v2, val_main_v4, val_main_v5, val_main_cst, val_main_cst_0, val_main_cst_2, val_main_cst_3]
  refine Fin.sum_mul_add_congr fun t k hl => ?_
  simp only [row, logistic_eq]
  blk_point [iblk, V, idx t]
end Cert.MergeIdeal.Value

end

end
-- ==== Proof.MergeClaim.lean ====
module

public import proofs.«01_k».proof.Defs
public import proofs.«01_k».proof.Proof.MergeAcc
public import proofs.«01_k».proof.Proof.Gen.Merge
public import proofs.«01_k».proof.Proof.Gen.MergeRefIdeal.Run
public import Idealize.ShloMosaic.Lib.Claim

@[expose] public section

set_option maxRecDepth 16384
noncomputable section
open Idealize.ShloMosaic Idealize.ShloMosaic.TcCoe Idealize.SL.Sem
namespace Cert.MergeIdeal.Value
attribute [local instance] Cert.MergeIdeal.Gen.facts Cert.MergeRefIdeal.Gen.facts

/-- The backward kernel of the gated merge computes the gradients of the reference. -/
theorem algebraic : Cert.algebraic_MergeIdeal_MergeRefIdeal := by
  pair_intro
  · run_from Cert.MergeIdeal.Value.run_blocks m g
  · run_from Cert.MergeRefIdeal.Value.run m' g'
    · exact (final6 m c).symm
    · exact (final7 m c).symm
    · exact (final8 m c).symm
    · exact (final9 m c).symm
    · exact (final10 m c).symm
end Cert.MergeIdeal.Value

end

end
-- ==== Proof.HgReal.lean ====
module

public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.Hg

/-- The values of the backward kernel on one block of one head, over the real numbers: rows and lanes are numbered by ℕ. -/
def sg (x : ℝ) : ℝ := (1 + Real.exp (-x))⁻¹

theorem sg_pos (x : ℝ) : 0 < sg x := inv_pos.mpr (by positivity)
theorem sg_lt_one (x : ℝ) : sg x < 1 := inv_lt_one_of_one_lt₀ (by linarith [Real.exp_pos (-x)])

def fR (lb : ℕ → ℝ) (f : ℕ → ℕ → ℝ) (r κ : ℕ) : ℝ := lb κ + (1 - lb κ) * sg (f r κ)
def kR (lb : ℕ → ℝ) (f : ℕ → ℕ → ℝ) (r κ : ℕ) : ℝ := (1 - lb κ) * (1 - sg (f r κ))
def lfR (lb : ℕ → ℝ) (f : ℕ → ℕ → ℝ) (r κ : ℕ) : ℝ := Real.log (fR lb f r κ)

/-- One doubling step of a running sum inside chunks of 64 rows. -/
def up (s : ℕ) (x : ℕ → ℕ → ℝ) (r κ : ℕ) : ℝ := x r κ + if s ≤ r % 64 then x (r - s) κ else 0
/-- One doubling step of a running sum from the end of each chunk of 64 rows. -/
def dn (s : ℕ) (x : ℕ → ℕ → ℝ) (r κ : ℕ) : ℝ := x r κ + if r % 64 < 64 - s then x (r + s) κ else 0

/-- The running sum inside a chunk. -/
def cumR (x : ℕ → ℕ → ℝ) (r κ : ℕ) : ℝ := ∑ u ∈ Finset.range (r % 64 + 1), x (r / 64 * 64 + u) κ
/-- The sum from a row to the end of its chunk. -/
def sufR (x : ℕ → ℕ → ℝ) (r κ : ℕ) : ℝ := ∑ u ∈ Finset.range (64 - r % 64), x (r + u) κ

def winUp (m : ℕ) (x : ℕ → ℕ → ℝ) (r κ : ℕ) : ℝ := ∑ u ∈ Finset.range (min m (r % 64 + 1)), x (r - u) κ
def winDn (m : ℕ) (x : ℕ → ℕ → ℝ) (r κ : ℕ) : ℝ := ∑ u ∈ Finset.range (min m (64 - r % 64)), x (r + u) κ

theorem up_win (s : ℕ) (x : ℕ → ℕ → ℝ) (r κ : ℕ) : up s (winUp s x) r κ = winUp (2 * s) x r κ := by
  unfold up winUp
  split_ifs with h
  · have e1 : min s (r % 64 + 1) = s := by omega
    have e2 : min (2 * s) (r % 64 + 1) = s + min s ((r - s) % 64 + 1) := by
      have : (r - s) % 64 = r % 64 - s := by omega
      omega
    rw [e1, e2, Finset.sum_range_add]
    congr 1
    exact Finset.sum_congr rfl fun u _ => by rw [Nat.sub_sub]
  · have e2 : min (2 * s) (r % 64 + 1) = min s (r % 64 + 1) := by omega
    rw [e2, add_zero]

theorem dn_win (s : ℕ) (hs : s < 64) (x : ℕ → ℕ → ℝ) (r κ : ℕ) : dn s (winDn s x) r κ = winDn (2 * s) x r κ := by
  unfold dn winDn
  split_ifs with h
  · have e1 : min s (64 - r % 64) = s := by omega
    have e2 : min (2 * s) (64 - r % 64) = s + min s (64 - (r + s) % 64) := by
      have : (r + s) % 64 = r % 64 + s := by omega
      omega
    rw [e1, e2, Finset.sum_range_add]
    congr 1
    exact Finset.sum_congr rfl fun u _ => by rw [Nat.add_assoc]
  · have e2 : min (2 * s) (64 - r % 64) = min s (64 - r % 64) := by omega
    rw [e2, add_zero]

theorem cumR_eq (x : ℕ → ℕ → ℝ) : up 32 (up 16 (up 8 (up 4 (up 2 (up 1 x))))) = cumR x := by
  have e0 : x = winUp 1 x := by
    funext r κ; unfold winUp; rw [show min 1 (r % 64 + 1) = 1 by omega]; simp
  have st : ∀ s, up s (winUp s x) = winUp (2 * s) x := fun s => by funext r κ; exact up_win s x r κ
  conv_lhs => rw [e0]
  rw [st 1, st 2, st 4, st 8, st 16, st 32]
  funext r κ
  unfold winUp cumR
  rw [show min 64 (r % 64 + 1) = r % 64 + 1 by omega, ← Finset.sum_range_reflect]
  refine Finset.sum_congr rfl fun u hu => ?_
  have := Finset.mem_range.mp hu
  congr 1
  omega

theorem sufR_eq (x : ℕ → ℕ → ℝ) : dn 32 (dn 16 (dn 8 (dn 4 (dn 2 (dn 1 x))))) = sufR x := by
  have e0 : x = winDn 1 x := by
    funext r κ; unfold winDn; rw [show min 1 (64 - r % 64) = 1 by omega]; simp
  have st : ∀ s < 64, dn s (winDn s x) = winDn (2 * s) x := fun s hs => by funext r κ; exact dn_win s hs x r κ
  conv_lhs => rw [e0]
  rw [st 1 (by omega), st 2 (by omega), st 4 (by omega), st 8 (by omega), st 16 (by omega), st 32 (by omega)]
  funext r κ
  unfold winDn sufR
  rw [show min 64 (64 - r % 64) = 64 - r % 64 by omega]

section block
variable (lb : ℕ → ℝ) (f q i d : ℕ → ℕ → ℝ) (st ds : ℕ → ℕ → ℕ → ℝ)
/-- The local running sum of the log decays, its values at the middle and the end of the chunk, and the decays. -/
def LR (r κ : ℕ) : ℝ := cumR (lfR lb f) r κ
def midR (c κ : ℕ) : ℝ := LR lb f (c * 64 + 31) κ
def lastR (c κ : ℕ) : ℝ := LR lb f (c * 64 + 63) κ
def eqaR (r κ : ℕ) : ℝ := Real.exp (LR lb f r κ - midR lb f (r / 64) κ)
def ekaR (r κ : ℕ) : ℝ := Real.exp (midR lb f (r / 64) κ - LR lb f r κ)
def eqdR (r κ : ℕ) : ℝ := Real.exp (LR lb f r κ)
def ekdR (r κ : ℕ) : ℝ := Real.exp (lastR lb f (r / 64) κ - LR lb f r κ)
def dcR (c κ : ℕ) : ℝ := Real.exp (lastR lb f c κ)
def qaR (r κ : ℕ) : ℝ := q r κ * eqaR lb f r κ
def kaR (r κ : ℕ) : ℝ := kR lb f r κ * ekaR lb f r κ
def qdR (r κ : ℕ) : ℝ := q r κ * eqdR lb f r κ
def kdR (r κ : ℕ) : ℝ := kR lb f r κ * ekdR lb f r κ
/-- Same chunk and not later. -/
def MR (r s : ℕ) : Prop := r / 64 = s / 64 ∧ s ≤ r
instance (r s : ℕ) : Decidable (MR r s) := by unfold MR; infer_instance
def dscR (r s : ℕ) : ℝ := if MR r s then ∑ v ∈ Finset.range 128, d r v * i s v else 0
def scR (r s : ℕ) : ℝ := if MR r s then ∑ κ ∈ Finset.range 128, qaR lb f q r κ * kaR lb f s κ else 0
def diiR (s v : ℕ) : ℝ := ∑ r ∈ Finset.range 128, scR lb f q r s * d r v
def dqaR (r κ : ℕ) : ℝ := ∑ s ∈ Finset.range 128, dscR i d r s * kaR lb f s κ
def dkaR (s κ : ℕ) : ℝ := ∑ r ∈ Finset.range 128, dscR i d r s * qaR lb f q r κ
/-- `st c`, `ds c`: the saved state before chunk `c` of the block and the carried gradient after it. -/
def dqdR (r κ : ℕ) : ℝ := ∑ v ∈ Finset.range 128, d r v * st (r / 64) v κ
def dkdR (r κ : ℕ) : ℝ := ∑ v ∈ Finset.range 128, i r v * ds (r / 64) v κ
def divR (s v : ℕ) : ℝ := diiR lb f q d s v + ∑ κ ∈ Finset.range 128, kdR lb f s κ * ds (s / 64) v κ
def dlR (c κ : ℕ) : ℝ := (∑ v ∈ Finset.range 128, ds c v κ * st c v κ) * dcR lb f c κ
  + ∑ x ∈ Finset.range 64, dkdR i ds (c * 64 + x) κ * kdR lb f (c * 64 + x) κ
/-- The carried gradient before chunk `c`. -/
def dsnR (c v κ : ℕ) : ℝ := dcR lb f c κ * ds c v κ + ∑ x ∈ Finset.range 64, d (c * 64 + x) v * qdR lb f q (c * 64 + x) κ
def dbR (r κ : ℕ) : ℝ := dqaR lb f i d r κ * qaR lb f q r κ - dkaR lb f q i d r κ * kaR lb f r κ + dqdR d st r κ * qdR lb f q r κ
  - dkdR i ds r κ * kdR lb f r κ + if r % 64 = 63 then dlR lb f i st ds (r / 64) κ else 0
def dlfR (r κ : ℕ) : ℝ := sufR (dbR lb f q i d st ds) r κ
def dkR (r κ : ℕ) : ℝ := dkaR lb f q i d r κ * ekaR lb f r κ + dkdR i ds r κ * ekdR lb f r κ
def gfR (r κ : ℕ) : ℝ := dlfR lb f q i d st ds r κ / fR lb f r κ - dkR lb f q i d ds r κ
def dqR (r κ : ℕ) : ℝ := dqaR lb f i d r κ * eqaR lb f r κ + dqdR d st r κ * eqdR lb f r κ
def dfR (r κ : ℕ) : ℝ := gfR lb f q i d st ds r κ * (1 - lb κ) * sg (f r κ) * (1 - sg (f r κ))
def dlbR (κ : ℕ) : ℝ := ∑ r ∈ Finset.range 128, gfR lb f q i d st ds r κ * (1 - sg (f r κ))
end block

end Cert.Hg

end

end
-- ==== Proof.HgBase.lean ====
module

public import proofs.«01_k».proof.Proof.Gen.KernelIdeal.Value
public import proofs.«01_k».proof.Proof.HgReal
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg

/-- An array of 128 rows and 128 lanes holds real numbers. -/
abbrev IsR (X : S128x128.Idx → EReal) (x : ℕ → ℕ → ℝ) : Prop := ∀ r κ : Fin 128, X (ix2 r κ) = ((x r κ : ℝ) : EReal)
/-- The same array in chunks of 64 rows. -/
abbrev IsC (X : S2x64x128.Idx → EReal) (x : ℕ → ℕ → ℝ) : Prop :=
  ∀ (c : Fin 2) (u : Fin 64) (κ : Fin 128), X (ix3 c u κ) = ((x (c.val * 64 + u.val) κ : ℝ) : EReal)
/-- Half a block. -/
abbrev IsH (X : S64x128.Idx → EReal) (x : ℕ → ℕ → ℝ) : Prop := ∀ (r : Fin 64) (κ : Fin 128), X (ix2 r κ) = ((x r κ : ℝ) : EReal)
abbrev IsM (X : S2x128.Idx → EReal) (x : ℕ → ℕ → ℝ) : Prop := ∀ (c : Fin 2) (κ : Fin 128), X (ix2 c κ) = ((x c κ : ℝ) : EReal)
abbrev IsM1 (X : S2x1x128.Idx → EReal) (x : ℕ → ℕ → ℝ) : Prop := ∀ (c : Fin 2) (κ : Fin 128), X (ix3 c 0 κ) = ((x c κ : ℝ) : EReal)
abbrev IsV (X : S1x128.Idx → EReal) (x : ℕ → ℝ) : Prop := ∀ (κ : Fin 128), X (ix2 0 κ) = ((x κ : ℝ) : EReal)
abbrev IsS (X : S1x128x128.Idx → EReal) (x : ℕ → ℕ → ℝ) : Prop := ∀ v κ : Fin 128, X (ix3 0 v κ) = ((x v κ : ℝ) : EReal)
abbrev IsT (X : S1x1x128x128.Idx → EReal) (x : ℕ → ℕ → ℝ) : Prop := ∀ v κ : Fin 128, X (ix4 0 0 v κ) = ((x v κ : ℝ) : EReal)

theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

theorem coe_ite (p : Prop) [Decidable p] (a b : ℝ) : (if p then (a : EReal) else (b : EReal)) = ((if p then a else b : ℝ) : EReal) := by
  split_ifs <;> rfl

theorem sel_iff {α : Type} (c : BitVec 1) (p : Prop) [Decidable p] (h : c = 1#1 ↔ p) (a b : α) :
    Scalar.select c a b = if p then a else b := by
  unfold Scalar.select
  by_cases hp : p
  · rw [if_pos hp]; simp [h.mpr hp]
  · rw [if_neg hp]; have : c ≠ 1#1 := fun hc => hp (h.mp hc); simp [this]

theorem lo_iff (s : ℕ) (hs : s = 1 ∨ s = 2 ∨ s = 4 ∨ s = 8 ∨ s = 16 ∨ s = 32) : ∀ r : Fin 128, (IntOp.cmpi CmpIPredicate.sge (IntOp.andi (BitVec.ofNat 32 ↑r) 63#32) (BitVec.ofNat 32 s) = 1#1) ↔ s ≤ r.val % 64 := by
  rcases hs with rfl | rfl | rfl | rfl | rfl | rfl <;> decide +kernel
theorem hi_iff (s : ℕ) (hs : s = 63 ∨ s = 62 ∨ s = 60 ∨ s = 56 ∨ s = 48 ∨ s = 32) : ∀ r : Fin 128, (IntOp.cmpi CmpIPredicate.slt (IntOp.andi (BitVec.ofNat 32 ↑r) 63#32) (BitVec.ofNat 32 s) = 1#1) ↔ r.val % 64 < s := by
  rcases hs with rfl | rfl | rfl | rfl | rfl | rfl <;> decide +kernel
theorem eq_iff : ∀ r : Fin 128, (IntOp.cmpi CmpIPredicate.eq (IntOp.andi (BitVec.ofNat 32 ↑r) 63#32) 63#32 = 1#1) ↔ r.val % 64 = 63 := by
  decide +kernel
theorem mid_iff : ∀ u : Fin 64, (IntOp.cmpi CmpIPredicate.eq (BitVec.ofNat 32 ↑u) 31#32 = 1#1) ↔ u = 31 := by
  decide +kernel
theorem end_iff : ∀ u : Fin 64, (IntOp.cmpi CmpIPredicate.eq (BitVec.ofNat 32 ↑u) 63#32 = 1#1) ↔ u = 63 := by
  decide +kernel
theorem mask_iff : ∀ r s : Fin 128, (k0_pay5 (ix2 r s) = 1#1) ↔ MR r s := by
  decide +kernel

theorem up_step (s : ℕ) (hs : s = 1 ∨ s = 2 ∨ s = 4 ∨ s = 8 ∨ s = 16 ∨ s = 32) (X : FVec Ideal S128x128 .f32) (x : ℕ → ℕ → ℝ) (h : IsR X x) (r κ : Fin 128) (hr) :
    X (ix2 r κ) + Scalar.select (IntOp.cmpi CmpIPredicate.sge (IntOp.andi (BitVec.ofNat 32 ↑r) 63#32) (BitVec.ofNat 32 s)) (X (ix2 ⟨(r.val + 128 - s) % 128, hr⟩ κ)) (0 : EReal)
      = ((up s x r κ : ℝ) : EReal) := by
  rw [sel_iff _ _ (lo_iff s hs r), h, h, ← EReal.coe_zero, coe_ite, ← EReal.coe_add]
  unfold up
  congr 2
  split_ifs with h'
  · show x ((r.val + 128 - s) % 128) κ = _
    rw [show (r.val + 128 - s) % 128 = r.val - s by omega]
  · rfl

theorem dn_step (s s' : ℕ) (hs : s + s' = 64) (hs' : s' = 63 ∨ s' = 62 ∨ s' = 60 ∨ s' = 56 ∨ s' = 48 ∨ s' = 32) (X : FVec Ideal S128x128 .f32) (x : ℕ → ℕ → ℝ) (h : IsR X x) (r κ : Fin 128) (e : ℕ) (he : e = 128 - s) (hr) :
    X (ix2 r κ) + Scalar.select (IntOp.cmpi CmpIPredicate.slt (IntOp.andi (BitVec.ofNat 32 ↑r) 63#32) (BitVec.ofNat 32 s')) (X (ix2 ⟨(r.val + 128 - e) % 128, hr⟩ κ)) (0 : EReal)
      = ((dn s x r κ : ℝ) : EReal) := by
  rw [sel_iff _ _ (hi_iff s' hs' r), h, h, ← EReal.coe_zero, coe_ite, ← EReal.coe_add]
  unfold dn
  rw [show s' = 64 - s by omega]
  congr 2
  split_ifs with h'
  · show x ((r.val + 128 - e) % 128) κ = _
    rw [show (r.val + 128 - e) % 128 = r.val + s by omega]
  · rfl

end Cert.KernelIdeal.Value

end

end
-- ==== Proof.HgHead.lean ====
module

public import proofs.«01_k».proof.Proof.HgBase

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg

section
variable (lb : Vec Ideal S1x128 .f32) (f q i : Vec Ideal S128x128 .f32) (d : Vec Ideal S128x128 .bf16) (st1 st0 : Vec Ideal S1x1x128x128 .f32) (ds : Vec Ideal S1x128x128 .f32)
/-- What one head of a block computes, step by step, from its tiles: the running sum of the log decays, its value at the middle of a chunk, … -/
def hB : FVec Ideal S128x128 .f32 := k0_pay13 (F := Ideal) (k0_pay10 lb f) k0_pay11 k0_pay12 1#32
def hB3 : FVec Ideal S2x64x128 .f32 := k0_pay14 (F := Ideal) (k0_pay10 lb f) k0_pay11 k0_pay12 1#32
def hMid : FVec Ideal S2x128 .f32 := k0_pay15 (F := Ideal) (k0_pay10 lb f) k0_pay11 k0_pay12 1#32
def hIo : IVec S2x64x128 32 := iota .tc S2x64x128 32 [1] iota_S2x64x128_d1_w32
def hDc : FVec Ideal S2x1x128 .f32 := k0_pay22 (F := Ideal) (hB3 lb f) hIo
def hQa : FVec Ideal S128x128 .f32 := k0_pay23 (F := Ideal) q (hB3 lb f) (hMid lb f)
def hKa : FVec Ideal S128x128 .f32 := k0_pay24 (F := Ideal) (k0_pay9 lb f) (hB3 lb f) (hMid lb f)
def hQd : FVec Ideal S128x128 .f32 := k0_pay25 (F := Ideal) q (hB lb f)
def hKd : FVec Ideal S128x128 .f32 := k0_pay26 (F := Ideal) (k0_pay9 lb f) (hB3 lb f) hIo
def hDii : FVec Ideal S128x128 .f32 := k0_pay28 (F := Ideal) k0_pay5 q d (k0_pay9 lb f) (hB3 lb f) (hMid lb f)
def hDqa : FVec Ideal S128x128 .f32 := k0_pay29 (F := Ideal) k0_pay5 i d (k0_pay9 lb f) (hB3 lb f) (hMid lb f)
def hDka : FVec Ideal S128x128 .f32 := k0_pay30 (F := Ideal) k0_pay5 q i d (hB3 lb f) (hMid lb f)
/-- The carried gradient between the two chunks, and before both. -/
def hDs1 : FVec Ideal S1x128x128 .f32 := k0_pay37 (F := Ideal) d (hDc lb f) (hQd lb f q) ds
def hDs0 : FVec Ideal S1x128x128 .f32 := k0_pay43 (F := Ideal) d (hDc lb f) (hQd lb f q) (hDs1 lb f q d ds)
def hDqd : FVec Ideal S128x128 .f32 := k0_pay44 (F := Ideal) d (k0_pay33 d (k0_pay31 st1)) (k0_pay38 st0)
def hDkd : FVec Ideal S128x128 .f32 := k0_pay45 (F := Ideal) i (k0_pay34 i ds) (hDs1 lb f q d ds)
def hDl1 : FVec Ideal S1x128 .f32 := k0_pay36 (F := Ideal) i (hDc lb f) (hKd lb f) (k0_pay31 st1) ds
def hDl0 : FVec Ideal S1x128 .f32 := k0_pay42 (F := Ideal) i (hDc lb f) (hKd lb f) (k0_pay38 st0) (hDs1 lb f q d ds)
def hDi1 : FVec Ideal S64x128 .bf16 := k0_pay35 (F := Ideal) (hKd lb f) (hDii lb f q d) ds
def hDi0 : FVec Ideal S64x128 .bf16 := k0_pay41 (F := Ideal) (hKd lb f) (hDii lb f q d) (hDs1 lb f q d ds)
def hS49 : FVec Ideal S128x128 .f32 := k0_pay49 (F := Ideal) (hQd lb f q) (hKd lb f) (hDl1 lb f i st1 ds) (hDl0 lb f q i d st0 ds) (hDqd d st1 st0) (hDkd lb f q i d ds)
  (k0_pay46 (hQa lb f q) (hDqa lb f i d)) (k0_pay47 (hKa lb f) (hDka lb f q i d))
def hS50 : FVec Ideal S128x128 .f32 := k0_pay50 (F := Ideal) (hQd lb f q) (hKd lb f) (hDl1 lb f i st1 ds) (hDl0 lb f q i d st0 ds) (hDqd d st1 st0) (hDkd lb f q i d ds)
  (k0_pay46 (hQa lb f q) (hDqa lb f i d)) (k0_pay47 (hKa lb f) (hDka lb f q i d))
def hEqa : FVec Ideal S128x128 .f32 := k0_pay18 (F := Ideal) (hB3 lb f) (hMid lb f)
def hEka : FVec Ideal S128x128 .f32 := k0_pay19 (F := Ideal) (hB3 lb f) (hMid lb f)
def hEqd : FVec Ideal S128x128 .f32 := k0_pay20 (F := Ideal) (hB lb f)
def hEkd : FVec Ideal S128x128 .f32 := k0_pay21 (F := Ideal) (hB3 lb f) hIo
def hDq : FVec Ideal S128x128 .bf16 := k0_pay53 (F := Ideal) (hEqa lb f) (hEqd lb f) (hDqa lb f i d) (hDqd d st1 st0)
def hDf : FVec Ideal S128x128 .bf16 := k0_pay54 (F := Ideal) (k0_pay6 lb) (k0_pay7 f) (k0_pay8 lb f) (hEka lb f) (hEkd lb f) (hDka lb f q i d) (hDkd lb f q i d ds) k0_pay48
  (hS49 lb f q i d st1 st0 ds) (hS50 lb f q i d st1 st0 ds)
def hDlb : FVec Ideal S1x128 .f32 := k0_pay56 (F := Ideal) (k0_pay7 f) (k0_pay8 lb f) (hEka lb f) (hEkd lb f) (hDka lb f q i d) (hDkd lb f q i d ds) k0_pay48
  (hS49 lb f q i d st1 st0 ds) (hS50 lb f q i d st1 st0 ds)
end

end Cert.KernelIdeal.Value

end

end
-- ==== Proof.HgStage.lean ====
module

public import proofs.«01_k».proof.Proof.HgHead

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg

section
variable {lb : Vec Ideal S1x128 .f32} {f q i : Vec Ideal S128x128 .f32} {d : Vec Ideal S128x128 .bf16} {st1 st0 : Vec Ideal S1x1x128x128 .f32} {ds : Vec Ideal S1x128x128 .f32}
variable {lb' : ℕ → ℝ} {f' q' i' d' : ℕ → ℕ → ℝ} {st' ds' : ℕ → ℕ → ℕ → ℝ}

theorem fR_pos (h0 : ∀ κ < 128, 0 < lb' κ) (h1 : ∀ κ < 128, lb' κ < 1) (r κ : ℕ) (hκ : κ < 128) : 0 < fR lb' f' r κ :=
  add_pos_of_pos_of_nonneg (h0 κ hκ) (mul_nonneg (by linarith [h1 κ hκ]) (sg_pos _).le)

theorem is7 (hf : IsR f f') : IsR (k0_pay7 (F := Ideal) f) (fun r κ => sg (f' r κ)) := by
  intro r κ; pointwise [k0_pay7]; rw [hf]; exact Ideal.logistic_coe _
theorem is6 (hl : IsV lb lb') : IsV (k0_pay6 (F := Ideal) lb) lb' := by
  intro κ; pointwise [k0_pay6]; exact hl κ
theorem is8 (hl : IsV lb lb') (hf : IsR f f') : IsR (k0_pay8 (F := Ideal) lb f) (fR lb' f') := by
  intro r κ; pointwise [k0_pay8, k0_pay7, k0_pay6]; simp only [hl _, hf _ _, ← EReal.coe_one, ← EReal.coe_zero, ← EReal.coe_mul, ← EReal.coe_add, ← EReal.coe_sub, Ideal.exp_coe, Ideal.logistic_coe, coe_sum, coe_ite]; rfl
theorem is9 (hl : IsV lb lb') (hf : IsR f f') : IsR (k0_pay9 (F := Ideal) lb f) (kR lb' f') := by
  intro r κ; pointwise [k0_pay9, k0_pay7, k0_pay6]; simp only [hl _, hf _ _, ← EReal.coe_one, ← EReal.coe_zero, ← EReal.coe_mul, ← EReal.coe_add, ← EReal.coe_sub, Ideal.exp_coe, Ideal.logistic_coe, coe_sum, coe_ite]; rfl
theorem is10 (hl : IsV lb lb') (hf : IsR f f') (h0 : ∀ κ < 128, 0 < lb' κ) (h1 : ∀ κ < 128, lb' κ < 1) : IsR (k0_pay10 (F := Ideal) lb f) (lfR lb' f') := by
  intro r κ; pointwise [k0_pay10]; rw [is8 hl hf, Ideal.log_coe, if_neg (not_le.mpr (fR_pos h0 h1 _ _ κ.isLt))]; rfl

/-- The doubling steps of the running sum. -/
def upV (s : BitVec 32) (X : FVec Ideal S128x128 .f32) : FVec Ideal S128x128 .f32 :=
  addf X (select (cmpi .sge k0_pay11 (broadcast S128x128 s)) (dynamicRotate 0 s none X rotates_S128x128_d0) (broadcast S128x128 (Scalar.ofBits .f32 0x00000000#32)))
theorem isUp (s : ℕ) (hs : s = 1 ∨ s = 2 ∨ s = 4 ∨ s = 8 ∨ s = 16 ∨ s = 32) {X : FVec Ideal S128x128 .f32} {x : ℕ → ℕ → ℝ} (h : IsR X x) :
    IsR (upV (BitVec.ofNat 32 s) X) (up s x) := by
  intro r κ
  rcases hs with rfl | rfl | rfl | rfl | rfl | rfl
  all_goals (simp only [upV]; pointwise [k0_pay11]; exact up_step _ (by omega) X x h r κ _)
theorem pay13_eq (X : FVec Ideal S128x128 .f32) : k0_pay13 (F := Ideal) X k0_pay11 k0_pay12 1#32 = upV 32#32 (upV 16#32 (upV 8#32 (upV 4#32 (upV 2#32 (upV 1#32 X))))) := rfl
theorem is13 {X : FVec Ideal S128x128 .f32} {x : ℕ → ℕ → ℝ} (h : IsR X x) : IsR (k0_pay13 (F := Ideal) X k0_pay11 k0_pay12 1#32) (cumR x) := by
  rw [pay13_eq, ← cumR_eq]
  exact isUp 32 (by omega) (isUp 16 (by omega) (isUp 8 (by omega) (isUp 4 (by omega) (isUp 2 (by omega) (isUp 1 (by omega) h)))))

theorem cu (r : ℕ) : r / 64 * 64 + r % 64 = r := by omega
/-- The hypotheses on a head's tiles. -/
structure Tiles (lb : Vec Ideal S1x128 .f32) (f q i : Vec Ideal S128x128 .f32) (d : Vec Ideal S128x128 .bf16) (st1 st0 : Vec Ideal S1x1x128x128 .f32) (ds : Vec Ideal S1x128x128 .f32)
    (lb' : ℕ → ℝ) (f' q' i' d' : ℕ → ℕ → ℝ) (st' ds' : ℕ → ℕ → ℕ → ℝ) : Prop where
  hl : IsV lb lb'
  h0 : ∀ κ < 128, 0 < lb' κ
  h1 : ∀ κ < 128, lb' κ < 1
  hf : IsR f f'
  hq : IsR q q'
  hi : IsR i i'
  hd : IsR d d'
  hst1 : IsT st1 (st' 1)
  hst0 : IsT st0 (st' 0)
  hds : IsS ds (ds' 1)
  hds1 : ds' 0 = fun v κ => dsnR lb' f' q' d' ds' 1 v κ

variable (T : Tiles lb f q i d st1 st0 ds lb' f' q' i' d' st' ds')
include T
theorem isB : IsR (hB lb f) (LR lb' f') := is13 (is10 T.hl T.hf T.h0 T.h1)
theorem isB3 : IsC (hB3 lb f) (LR lb' f') := by
  intro c u κ; simp only [hB3]; pointwise [k0_pay14]; exact isB T _ κ
theorem isMid : IsM (hMid lb f) (midR lb' f') := by
  intro c κ; simp only [hMid]; pointwise [k0_pay15]
  simp only [sel_iff _ _ (mid_iff _)]
  exact (Finset.sum_ite_eq' _ _ _).trans ((if_pos (Finset.mem_univ _)).trans (isB3 T c 31 κ))
theorem isLast (c : Fin 2) (κ : Fin 128) : k0_pay17 (F := Ideal) (hB3 lb f) hIo (ix3 c 0 κ) = ((lastR lb' f' c κ : ℝ) : EReal) := by
  pointwise [k0_pay17, hIo]
  simp only [sel_iff _ _ (end_iff _)]
  exact (Finset.sum_ite_eq' _ _ _).trans ((if_pos (Finset.mem_univ _)).trans (isB3 T c 63 κ))
theorem isEqa : IsR (hEqa lb f) (eqaR lb' f') := by
  intro r κ; simp only [hEqa]; pointwise [k0_pay18, k0_pay16]; simp only [isB3 T _ _ _, isMid T _ _, ← EReal.coe_one, ← EReal.coe_zero, ← EReal.coe_mul, ← EReal.coe_add, ← EReal.coe_sub, Ideal.exp_coe, Ideal.logistic_coe, coe_sum, coe_ite, cu]; rfl
theorem isEka : IsR (hEka lb f) (ekaR lb' f') := by
  intro r κ; simp only [hEka]; pointwise [k0_pay19, k0_pay16]; simp only [isB3 T _ _ _, isMid T _ _, ← EReal.coe_one, ← EReal.coe_zero, ← EReal.coe_mul, ← EReal.coe_add, ← EReal.coe_sub, Ideal.exp_coe, Ideal.logistic_coe, coe_sum, coe_ite, cu]; rfl
theorem isEqd : IsR (hEqd lb f) (eqdR lb' f') := by
  intro r κ; simp only [hEqd]; pointwise [k0_pay20]; simp only [isB T _ _, ← EReal.coe_one, ← EReal.coe_zero, ← EReal.coe_mul, ← EReal.coe_add, ← EReal.coe_sub, Ideal.exp_coe, Ideal.logistic_coe, coe_sum, coe_ite]; rfl
theorem isEkd : IsR (hEkd lb f) (ekdR lb' f') := by
  intro r κ; simp only [hEkd]; pointwise [k0_pay21]; simp only [isB3 T _ _ _, isLast T _ _, ← EReal.coe_one, ← EReal.coe_zero, ← EReal.coe_mul, ← EReal.coe_add, ← EReal.coe_sub, Ideal.exp_coe, Ideal.logistic_coe, coe_sum, coe_ite, cu]; rfl
theorem isDc : IsM1 (hDc lb f) (dcR lb' f') := by
  intro r κ; simp only [hDc]; pointwise [k0_pay22]; simp only [isLast T _ _, ← EReal.coe_one, ← EReal.coe_zero, ← EReal.coe_mul, ← EReal.coe_add, ← EReal.coe_sub, Ideal.exp_coe, Ideal.logistic_coe, coe_sum, coe_ite]; rfl
theorem isQa : IsR (hQa lb f q) (qaR lb' f' q') := by
  intro r κ; exact (congrArg₂ (fun a b : EReal => a * b) (T.hq r κ) (isEqa T r κ)).trans (EReal.coe_mul _ _).symm
theorem isKa : IsR (hKa lb f) (kaR lb' f') := by
  intro r κ; exact (congrArg₂ (fun a b : EReal => a * b) (is9 T.hl T.hf r κ) (isEka T r κ)).trans (EReal.coe_mul _ _).symm
theorem isQd : IsR (hQd lb f q) (qdR lb' f' q') := by
  intro r κ; exact (congrArg₂ (fun a b : EReal => a * b) (T.hq r κ) (isEqd T r κ)).trans (EReal.coe_mul _ _).symm
theorem isKd : IsR (hKd lb f) (kdR lb' f') := by
  intro r κ; exact (congrArg₂ (fun a b : EReal => a * b) (is9 T.hl T.hf r κ) (isEkd T r κ)).trans (EReal.coe_mul _ _).symm
theorem isDsc : IsR (k0_pay27 (F := Ideal) k0_pay5 i d) (dscR i' d') := by
  intro r s; pointwise [k0_pay27]; rw [sel_iff _ _ (mask_iff r s)]; simp only [T.hd _ _, T.hi _ _, ← EReal.coe_one, ← EReal.coe_zero, ← EReal.coe_mul, ← EReal.coe_add, ← EReal.coe_sub, Ideal.exp_coe, Ideal.logistic_coe, coe_sum, coe_ite]; simp only [dscR, Finset.sum_range]
theorem isDii : IsR (hDii lb f q d) (diiR lb' f' q' d') := by
  intro s v
  have ha := isQa T; have hb := isKa T; simp only [hQa, hKa] at ha hb
  simp only [hDii]; pointwise [k0_pay28]
  simp only [sel_iff _ _ (mask_iff _ _), ha _ _, hb _ _, T.hd _ _, ← EReal.coe_one, ← EReal.coe_zero, ← EReal.coe_mul, ← EReal.coe_add, ← EReal.coe_sub, Ideal.exp_coe, Ideal.logistic_coe, coe_sum, coe_ite]
  simp only [diiR, scR, Finset.sum_range, ite_mul, zero_mul]
theorem isDqa : IsR (hDqa lb f i d) (dqaR lb' f' i' d') := by
  intro s v
  have hb := isKa T; simp only [hKa] at hb
  simp only [hDqa]; pointwise [k0_pay29]
  simp only [isDsc T _ _, hb _ _, ← EReal.coe_one, ← EReal.coe_zero, ← EReal.coe_mul, ← EReal.coe_add, ← EReal.coe_sub, Ideal.exp_coe, Ideal.logistic_coe, coe_sum, coe_ite]
  simp only [dqaR, Finset.sum_range]
theorem isDka : IsR (hDka lb f q i d) (dkaR lb' f' q' i' d') := by
  intro s v
  have hb := isQa T; simp only [hQa] at hb
  simp only [hDka]; pointwise [k0_pay30]
  simp only [isDsc T _ _, hb _ _, ← EReal.coe_one, ← EReal.coe_zero, ← EReal.coe_mul, ← EReal.coe_add, ← EReal.coe_sub, Ideal.exp_coe, Ideal.logistic_coe, coe_sum, coe_ite]
  simp only [dkaR, Finset.sum_range]
theorem isDs1 : IsS (hDs1 lb f q d ds) (ds' 0) := by
  intro v κ
  simp only [hDs1]; pointwise [k0_pay37, k0_pay32]
  simp only [isDc T _ _, T.hds _ _, T.hd _ _, isQd T _ _, ← EReal.coe_one, ← EReal.coe_zero, ← EReal.coe_mul, ← EReal.coe_add, ← EReal.coe_sub, Ideal.exp_coe, Ideal.logistic_coe, coe_sum, coe_ite]
  rw [T.hds1]; simp only [dsnR, Finset.sum_range]; rfl
theorem isDs0 : IsS (hDs0 lb f q d ds) (dsnR lb' f' q' d' ds' 0) := by
  intro v κ
  simp only [hDs0]; pointwise [k0_pay43, k0_pay39]
  simp only [isDc T _ _, isDs1 T _ _, T.hd _ _, isQd T _ _, ← EReal.coe_one, ← EReal.coe_zero, ← EReal.coe_mul, ← EReal.coe_add, ← EReal.coe_sub, Ideal.exp_coe, Ideal.logistic_coe, coe_sum, coe_ite]
  simp only [dsnR, Finset.sum_range, zero_mul, zero_add]; rfl
theorem isDqd : IsR (hDqd d st1 st0) (dqdR d' st') := by
  intro r κ
  simp only [hDqd]; pointwise [k0_pay44, k0_pay33, k0_pay31, k0_pay38]
  simp only [T.hd _ _, T.hst1 _ _, T.hst0 _ _, ← EReal.coe_one, ← EReal.coe_zero, ← EReal.coe_mul, ← EReal.coe_add, ← EReal.coe_sub, Ideal.exp_coe, Ideal.logistic_coe, coe_sum, coe_ite, dqdR, Finset.sum_range]
  split_ifs with h
  · rw [show r.val / 64 = 0 by omega]
  · rw [show r.val / 64 = 1 by omega, show 64 + (r.val - 64) = r.val by omega]
theorem isDkd : IsR (hDkd lb f q i d ds) (dkdR i' ds') := by
  intro r κ
  simp only [hDkd]; pointwise [k0_pay45, k0_pay40, k0_pay39, k0_pay34, k0_pay32]
  simp only [T.hi _ _, T.hds _ _, isDs1 T _ _, ← EReal.coe_one, ← EReal.coe_zero, ← EReal.coe_mul, ← EReal.coe_add, ← EReal.coe_sub, Ideal.exp_coe, Ideal.logistic_coe, coe_sum, coe_ite, dkdR, Finset.sum_range]
  split_ifs with h
  · rw [show r.val / 64 = 0 by omega]
  · rw [show r.val / 64 = 1 by omega, show 64 + (r.val - 64) = r.val by omega]
theorem isDl1 : IsV (hDl1 lb f i st1 ds) (dlR lb' f' i' st' ds' 1) := by
  intro κ
  simp only [hDl1]; pointwise [k0_pay36, k0_pay34, k0_pay32, k0_pay31]
  simp only [T.hi _ _, T.hds _ _, T.hst1 _ _, isDc T _ _, isKd T _ _, ← EReal.coe_one, ← EReal.coe_zero, ← EReal.coe_mul, ← EReal.coe_add, ← EReal.coe_sub, Ideal.exp_coe, Ideal.logistic_coe, coe_sum, coe_ite, dlR, dkdR, Finset.sum_range]
  simp only [one_mul, Fin.val_one, show ∀ x : Fin 64, (64 + x.val) / 64 = 1 from fun x => by omega]
theorem isDl0 : IsV (hDl0 lb f q i d st0 ds) (dlR lb' f' i' st' ds' 0) := by
  intro κ
  simp only [hDl0]; pointwise [k0_pay42, k0_pay40, k0_pay39, k0_pay38]
  simp only [T.hi _ _, isDs1 T _ _, T.hst0 _ _, isDc T _ _, isKd T _ _, ← EReal.coe_one, ← EReal.coe_zero, ← EReal.coe_mul, ← EReal.coe_add, ← EReal.coe_sub, Ideal.exp_coe, Ideal.logistic_coe, coe_sum, coe_ite, dlR, dkdR, Finset.sum_range]
  simp only [zero_mul, zero_add, Fin.val_zero, show ∀ x : Fin 64, (x.val) / 64 = 0 from fun x => by omega]
theorem isDi1 : IsH (hDi1 lb f q d ds) (fun r κ => divR lb' f' q' d' ds' (64 + r) κ) := by
  intro r κ
  simp only [hDi1]; pointwise [k0_pay35, k0_pay32]
  simp only [isDii T _ _, isKd T _ _, T.hds _ _, ← EReal.coe_one, ← EReal.coe_zero, ← EReal.coe_mul, ← EReal.coe_add, ← EReal.coe_sub, Ideal.exp_coe, Ideal.logistic_coe, coe_sum, coe_ite, divR, Finset.sum_range]
  simp only [show ∀ x : Fin 64, (64 + x.val) / 64 = 1 from fun x => by omega]
theorem isDi0 : IsH (hDi0 lb f q d ds) (fun r κ => divR lb' f' q' d' ds' r κ) := by
  intro r κ
  simp only [hDi0]; pointwise [k0_pay41, k0_pay39]
  simp only [isDii T _ _, isKd T _ _, isDs1 T _ _, ← EReal.coe_one, ← EReal.coe_zero, ← EReal.coe_mul, ← EReal.coe_add, ← EReal.coe_sub, Ideal.exp_coe, Ideal.logistic_coe, coe_sum, coe_ite, divR, Finset.sum_range]
  simp only [show ∀ x : Fin 64, (x.val) / 64 = 0 from fun x => by omega]
end

end Cert.KernelIdeal.Value

end

end
-- ==== Proof.HgStage2.lean ====
module

public import proofs.«01_k».proof.Proof.HgStage

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg

/-- The doubling steps of the running sum from the end. -/
def dnV (e s' : BitVec 32) (X : FVec Ideal S128x128 .f32) : FVec Ideal S128x128 .f32 :=
  addf X (select (cmpi .slt k0_pay48 (broadcast S128x128 s')) (dynamicRotate 0 e none X rotates_S128x128_d0) (broadcast S128x128 (Scalar.ofBits .f32 0x00000000#32)))
theorem isDn (s s' : ℕ) (hs : s + s' = 64) (hs' : s' = 63 ∨ s' = 62 ∨ s' = 60 ∨ s' = 56 ∨ s' = 48 ∨ s' = 32) {X : FVec Ideal S128x128 .f32} {x : ℕ → ℕ → ℝ} (h : IsR X x) :
    IsR (dnV (BitVec.ofNat 32 (128 - s)) (BitVec.ofNat 32 s') X) (dn s x) := by
  intro r κ
  obtain rfl : s = 64 - s' := by omega
  rcases hs' with rfl | rfl | rfl | rfl | rfl | rfl
  all_goals (simp only [dnV]; pointwise [k0_pay48]; exact dn_step _ _ (by omega) (by omega) X x h r κ _ (by rfl) _)

/-- The gradient of the running sum, before it is summed from the end of the chunk. -/
def dbV (v101 v102 : FVec Ideal S128x128 .f32) (v149 v191 : FVec Ideal S1x128 .f32) (v204 v205 v206 v207 : FVec Ideal S128x128 .f32) : FVec Ideal S128x128 .f32 :=
  addf (subf (addf (subf v206 v207) (mulf v204 v101)) (mulf v205 v102))
    (select (cmpi .eq (andi (iota .tc S128x128 32 [0] iota_S128x128_d0_w32) (broadcast S128x128 63#32)) (broadcast S128x128 63#32))
      (concatenate S128x128 0 [⟨S64x128, broadcastTo S64x128 (shapeCast S1x128 v191 shapeCasts_S1x128_S1x128) broadcasts_S1x128_S64x128⟩,
        ⟨S64x128, broadcastTo S64x128 (shapeCast S1x128 v149 shapeCasts_S1x128_S1x128) broadcasts_S1x128_S64x128⟩] concatenates_S64x128_S64x128_S128x128_d0)
      (broadcast S128x128 (Scalar.ofBits .f32 0x00000000#32)))

theorem pay52_eq (v24 v101 v102 : FVec Ideal S128x128 .f32) (v149 v191 : FVec Ideal S1x128 .f32) (v204 v205 v206 v207 : FVec Ideal S128x128 .f32) :
    k0_pay52 (F := Ideal) v24 k0_pay48 (k0_pay49 v101 v102 v149 v191 v204 v205 v206 v207) (k0_pay50 v101 v102 v149 v191 v204 v205 v206 v207)
      = divf (dnV 96#32 32#32 (dnV 112#32 48#32 (dnV 120#32 56#32 (dnV 124#32 60#32 (dnV 126#32 62#32 (dnV 127#32 63#32 (dbV v101 v102 v149 v191 v204 v205 v206 v207))))))) v24 := rfl

section
variable {lb : Vec Ideal S1x128 .f32} {f q i : Vec Ideal S128x128 .f32} {d : Vec Ideal S128x128 .bf16} {st1 st0 : Vec Ideal S1x1x128x128 .f32} {ds : Vec Ideal S1x128x128 .f32}
variable {lb' : ℕ → ℝ} {f' q' i' d' : ℕ → ℕ → ℝ} {st' ds' : ℕ → ℕ → ℕ → ℝ}
variable (T : Tiles lb f q i d st1 st0 ds lb' f' q' i' d' st' ds')
include T

theorem isDb : IsR (dbV (hQd lb f q) (hKd lb f) (hDl1 lb f i st1 ds) (hDl0 lb f q i d st0 ds) (hDqd d st1 st0) (hDkd lb f q i d ds)
    (k0_pay46 (hQa lb f q) (hDqa lb f i d)) (k0_pay47 (hKa lb f) (hDka lb f q i d))) (dbR lb' f' q' i' d' st' ds') := by
  intro r κ
  simp only [dbV]; pointwise [k0_pay46, k0_pay47]
  rw [sel_iff _ _ (eq_iff r)]
  simp only [isQd T _ _, isKd T _ _, isDl1 T _, isDl0 T _, isDqd T _ _, isDkd T _ _, isQa T _ _, isDqa T _ _, isKa T _ _, isDka T _ _, dite_eq_ite, ← EReal.coe_one, ← EReal.coe_zero, ← EReal.coe_mul, ← EReal.coe_add, ← EReal.coe_sub, Ideal.exp_coe, Ideal.logistic_coe, coe_sum, coe_ite]
  simp only [dbR]
  congr 2
  split_ifs with h1 h2
  · rw [show r.val / 64 = 0 by omega]
  · rw [show r.val / 64 = 1 by omega]
  · rfl

theorem isP52 : IsR (k0_pay52 (F := Ideal) (k0_pay8 lb f) k0_pay48 (hS49 lb f q i d st1 st0 ds) (hS50 lb f q i d st1 st0 ds))
    (fun r κ => dlfR lb' f' q' i' d' st' ds' r κ / fR lb' f' r κ) := by
  intro r κ
  have h := isDn 32 32 (by omega) (by omega) (isDn 16 48 (by omega) (by omega) (isDn 8 56 (by omega) (by omega) (isDn 4 60 (by omega) (by omega)
    (isDn 2 62 (by omega) (by omega) (isDn 1 63 (by omega) (by omega) (isDb T))))))
  rw [sufR_eq] at h
  simp only [hS49, hS50]
  rw [pay52_eq]
  refine (congrArg₂ Ideal.div (h r κ) (is8 T.hl T.hf r κ)).trans ?_
  rw [Ideal.div_coe (fR_pos T.h0 T.h1 _ _ κ.isLt).ne', ← EReal.coe_mul, mul_one_div]; rfl
theorem isP51 : IsR (k0_pay51 (F := Ideal) (hEka lb f) (hEkd lb f) (hDka lb f q i d) (hDkd lb f q i d ds)) (dkR lb' f' q' i' d' ds') := by
  intro r κ
  pointwise [k0_pay51]
  simp only [isEka T _ _, isEkd T _ _, isDka T _ _, isDkd T _ _, ← EReal.coe_one, ← EReal.coe_zero, ← EReal.coe_mul, ← EReal.coe_add, ← EReal.coe_sub, Ideal.exp_coe, Ideal.logistic_coe, coe_sum, coe_ite]; rfl

/-- The three gradients of one head in one block, and its part of the gradient of the bound. -/
theorem isDq : IsR (hDq lb f i d st1 st0) (dqR lb' f' i' d' st') := by
  intro r κ
  simp only [hDq]; pointwise [k0_pay53]
  simp only [isEqa T _ _, isEqd T _ _, isDqa T _ _, isDqd T _ _, ← EReal.coe_one, ← EReal.coe_zero, ← EReal.coe_mul, ← EReal.coe_add, ← EReal.coe_sub, Ideal.exp_coe, Ideal.logistic_coe, coe_sum, coe_ite]; rfl
theorem isDf : IsR (hDf lb f q i d st1 st0 ds) (dfR lb' f' q' i' d' st' ds') := by
  intro r κ
  simp only [hDf]; pointwise [k0_pay54]
  simp only [isP51 T _ _, isP52 T _ _, is6 T.hl _, is7 T.hf _ _, ← EReal.coe_one, ← EReal.coe_zero, ← EReal.coe_mul, ← EReal.coe_add, ← EReal.coe_sub, Ideal.exp_coe, Ideal.logistic_coe, coe_sum, coe_ite]; rfl
theorem isDlb : IsV (hDlb lb f q i d st1 st0 ds) (dlbR lb' f' q' i' d' st' ds') := by
  intro κ
  simp only [hDlb]; pointwise [k0_pay56]
  simp only [isP51 T _ _, isP52 T _ _, is7 T.hf _ _, ← EReal.coe_one, ← EReal.coe_zero, ← EReal.coe_mul, ← EReal.coe_add, ← EReal.coe_sub, Ideal.exp_coe, Ideal.logistic_coe, coe_sum, coe_ite, dlbR, Finset.sum_range]; rfl
end

end Cert.KernelIdeal.Value

end

end
-- ==== Proof.HgTile.lean ====
module

public import proofs.«01_k».proof.Proof.HgHead
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg

theorem inbT (h : Fin 8) : ∀ a, (![0, 128 * h.val] : Fin 2 → ℕ) a + (![128, 128] : Fin 2 → ℕ) a ≤ S128x1024.size a := by
  intro a; have := h.isLt; fin_cases a <;> simp <;> omega
theorem inbL (h : Fin 8) : ∀ a, (![0, 128 * h.val] : Fin 2 → ℕ) a + (![1, 128] : Fin 2 → ℕ) a ≤ S1x1024.size a := by
  intro a; have := h.isLt; fin_cases a <;> simp <;> omega
theorem inbD (h : Fin 8) : ∀ a, (![h.val, 0, 0] : Fin 3 → ℕ) a + (![1, 128, 128] : Fin 3 → ℕ) a ≤ S8x128x128.size a := by
  intro a; have := h.isLt; fin_cases a <;> simp <;> omega
theorem inbS (h : Fin 8) (c : Fin 2) : ∀ a, (![h.val, c.val, 0, 0] : Fin 4 → ℕ) a + (![1, 1, 128, 128] : Fin 4 → ℕ) a ≤ S8x2x128x128.size a := by
  intro a; have := h.isLt; have := c.isLt; fin_cases a <;> simp <;> omega
/-- The tile of head `h`. -/
def tT {e : EltTy} (B : Vec Ideal S128x1024 e) (h : Fin 8) : Vec Ideal S128x128 e :=
  View.ld (Val := Elt Ideal) B (Rect.unit ![0, 128 * h.val] ![128, 128] (inbT h))
def tL {e : EltTy} (B : Vec Ideal S1x1024 e) (h : Fin 8) : Vec Ideal S1x128 e :=
  View.ld (Val := Elt Ideal) B (Rect.unit ![0, 128 * h.val] ![1, 128] (inbL h))
def tD {e : EltTy} (B : Vec Ideal S8x128x128 e) (h : Fin 8) : Vec Ideal S1x128x128 e :=
  View.ld (Val := Elt Ideal) B (Rect.unit ![h.val, 0, 0] ![1, 128, 128] (inbD h))
def tS {e : EltTy} (B : Vec Ideal S8x2x128x128 e) (h : Fin 8) (c : Fin 2) : Vec Ideal S1x1x128x128 e :=
  View.ld (Val := Elt Ideal) B (Rect.unit ![h.val, c.val, 0, 0] ![1, 1, 128, 128] (inbS h c))

theorem at128 (h h' : Fin 8) (κ : Fin 128) (x : ℕ) (hx : x < 128) (e : 128 * h.val + κ.val = 128 * h'.val + x) : h = h' ∧ κ.val = x := by
  have := κ.isLt; constructor
  · apply Fin.ext; omega
  · have : h.val = h'.val := by omega
    omega

theorem cell (h h' : Fin 8) (r κ : Fin 128) (x : S128x128.Idx) (e0 : r.val = (x 0).val) (e1 : 128 * h.val + κ.val = 128 * h'.val + (x 1).val) :
    h = h' ∧ x = ix2 r κ := by
  obtain ⟨rfl, hκ⟩ := at128 h h' κ _ (x 1).isLt e1
  refine ⟨rfl, ?_⟩
  funext a; fin_cases a
  · exact Fin.ext e0.symm
  · exact Fin.ext hκ.symm
theorem cellL (h h' : Fin 8) (r : Fin 64) (κ : Fin 128) (x : S64x128.Idx) (e0 : r.val = (x 0).val) (e1 : 128 * h.val + κ.val = 128 * h'.val + (x 1).val) :
    h = h' ∧ x = ix2 r κ := by
  obtain ⟨rfl, hκ⟩ := at128 h h' κ _ (x 1).isLt e1
  refine ⟨rfl, ?_⟩
  funext a; fin_cases a
  · exact Fin.ext e0.symm
  · exact Fin.ext hκ.symm
theorem cell8 (h h' : Fin 8) (r : Fin 8) (κ : Fin 128) (x : S8x128.Idx) (e0 : r.val = (x 0).val) (e1 : 128 * h.val + κ.val = 128 * h'.val + (x 1).val) :
    h = h' ∧ x = ix2 r κ := by
  obtain ⟨rfl, hκ⟩ := at128 h h' κ _ (x 1).isLt e1
  refine ⟨rfl, ?_⟩
  funext a; fin_cases a
  · exact Fin.ext e0.symm
  · exact Fin.ext hκ.symm

theorem inbA (h : Fin 8) : ∀ a, (![0, 128 * h.val] : Fin 2 → ℕ) a + (![8, 128] : Fin 2 → ℕ) a ≤ S8x1024.size a := by
  intro a; have := h.isLt; fin_cases a <;> simp <;> omega
def tA {e : EltTy} (B : Vec Ideal S8x1024 e) (h : Fin 8) : Vec Ideal S8x128 e :=
  View.ld (Val := Elt Ideal) B (Rect.unit ![0, 128 * h.val] ![8, 128] (inbA h))
theorem canon_at (v : View sig .tc .vmem S8x128x128 .f32) (L : List (View.Piece (Elt Ideal) S8x128x128 .f32)) (h : Fin 8) (z κ : Fin 128)
    (w : Vec Ideal S1x128x128 .f32) (hw : v.readCov L (Rect.unit (s := S8x128x128) ![h.val, 0, 0] ![1, 128, 128] (inbD h)).toLoadRect = w) :
    View.canon L (ix3 h z κ) = w (ix3 0 z κ) := by
  rw [← hw, View.readCov_eq_canon']
  show _ = View.canon L _
  congr 1
  funext a; fin_cases a <;> exact Fin.ext (by simp [LoadRect.idx])
theorem fill_rd (v : View sig .tc .vmem S8x128x128 .f32) (inb : ∀ a, (![0, 0, 0] : Fin 3 → ℕ) a + (![8, 128, 128] : Fin 3 → ℕ) a ≤ S8x128x128.size a)
    (Z : Vec Ideal S8x128x128 .f32) (r : Rect S8x128x128) :
    v.readCov [(⟨Rect.unit ![0, 0, 0] ![8, 128, 128] inb, Z⟩ : View.Piece (Elt Ideal) S8x128x128 .f32)] r.toLoadRect = View.ld (Val := Elt Ideal) Z r :=
  View.readCov_fill v inb Z [] r (by intro a; fin_cases a <;> rfl)
theorem fill_acc (v : View sig .tc .vmem S8x1024 .f32) (inb : ∀ a, (![0, 0] : Fin 2 → ℕ) a + (![8, 1024] : Fin 2 → ℕ) a ≤ S8x1024.size a)
    (Z : Vec Ideal S8x1024 .f32) (r : Rect S8x1024) :
    v.readCov [(⟨Rect.unit ![0, 0] ![8, 1024] inb, Z⟩ : View.Piece (Elt Ideal) S8x1024 .f32)] r.toLoadRect = View.ld (Val := Elt Ideal) Z r :=
  View.readCov_fill v inb Z [] r (by intro a; fin_cases a <;> rfl)
theorem canon_acc (v : View sig .tc .vmem S8x1024 .f32) (L : List (View.Piece (Elt Ideal) S8x1024 .f32)) (h : Fin 8) (r : Fin 8) (κ : Fin 128)
    (hb : 128 * h.val + κ.val < 1024) (w : Vec Ideal S8x128 .f32)
    (hw : v.readCov L (Rect.unit (s := S8x1024) ![0, 128 * h.val] ![8, 128] (inbA h)).toLoadRect = w) :
    View.canon L (ix2 r ⟨128 * h.val + κ.val, hb⟩) = w (ix2 r κ) := by
  rw [← hw, View.readCov_eq_canon']
  show _ = View.canon L _
  congr 1
  funext a; fin_cases a <;> exact Fin.ext (by simp [LoadRect.idx])
def bare9 (A : Vec Ideal S8x128 .f32) (p : Vec Ideal S1x128 .f32) : Vec Ideal S8x128 .f32 := k0_pay57 (k0_pay55 A) p
theorem bare9_apply (A : Vec Ideal S8x128 .f32) (p : Vec Ideal S1x128 .f32) (r : Fin 8) (κ : Fin 128) :
    bare9 A p (ix2 r κ) = A (ix2 r κ) + p (ix2 0 κ) := by
  show k0_pay57 (k0_pay55 A) p (ix2 r κ) = _
  pointwise [k0_pay57, k0_pay55]
theorem tA_apply {e : EltTy} (B : Vec Ideal S8x1024 e) (h : Fin 8) (r : Fin 8) (κ : Fin 128) (hb : 128 * h.val + κ.val < 1024) :
    tA B h (ix2 r κ) = B (ix2 r ⟨128 * h.val + κ.val, hb⟩) := by
  unfold tA
  refine congrArg B ?_
  funext a; fin_cases a <;> exact Fin.ext (by simp [Rect.emb])

end Cert.KernelIdeal.Value

end

end
-- ==== Proof.HgOutA.lean ====
module

public import proofs.«01_k».proof.Proof.HgTile
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg
variable (m : (ℓ : Loc nD τ sig) → Buf (Elt Ideal) ℓ)

set_option maxHeartbeats 2000000 in
theorem out6_A (c : Dev nD) (t : Fin cfg0.N) (hh : t.val % 64 = 0) (r : Fin 128) (h : Fin 8) (κ : Fin 128) (hb : 128 * h.val + κ.val < 1024) :
    (outsAt0 m c t.val t.isLt).1 (ix2 r ⟨128 * h.val + κ.val, hb⟩)
      = hDq (tL (iblk m c 3 t) h) (tT (iblk m c 1 t) h) (tT (iblk m c 2 t) h) (tT (iblk m c 4 t) h) (tS (iblk m c 5 t) h 1) (tS (iblk m c 5 t) h 0) (ix2 r κ) := by
  rw [outsAt0_A m c t hh]; frame_open; simp (disch := decide) only [↓View.readCov_skip, ↓View.readCov_cons_toLoadRect, ↓fill_rd, ↓fill_acc]; frame_out
  canon_tiles x hx
  case piece7 =>
    obtain ⟨rfl, rfl⟩ := cell h 0 r κ x (by simpa using hx0) (by simpa using hx1)
    rfl
  case piece6 =>
    obtain ⟨rfl, rfl⟩ := cell h 1 r κ x (by simpa using hx0) (by simpa using hx1)
    rfl
  case piece5 =>
    obtain ⟨rfl, rfl⟩ := cell h 2 r κ x (by simpa using hx0) (by simpa using hx1)
    rfl
  case piece4 =>
    obtain ⟨rfl, rfl⟩ := cell h 3 r κ x (by simpa using hx0) (by simpa using hx1)
    rfl
  case piece3 =>
    obtain ⟨rfl, rfl⟩ := cell h 4 r κ x (by simpa using hx0) (by simpa using hx1)
    rfl
  case piece2 =>
    obtain ⟨rfl, rfl⟩ := cell h 5 r κ x (by simpa using hx0) (by simpa using hx1)
    rfl
  case piece1 =>
    obtain ⟨rfl, rfl⟩ := cell h 6 r κ x (by simpa using hx0) (by simpa using hx1)
    rfl
  case piece0 =>
    obtain ⟨rfl, rfl⟩ := cell h 7 r κ x (by simpa using hx0) (by simpa using hx1)
    rfl

set_option maxHeartbeats 2000000 in
theorem out7_A (c : Dev nD) (t : Fin cfg0.N) (hh : t.val % 64 = 0) (r : Fin 128) (h : Fin 8) (κ : Fin 128) (hb : 128 * h.val + κ.val < 1024) :
    (outsAt0 m c t.val t.isLt).2.1 (ix2 r ⟨128 * h.val + κ.val, hb⟩)
      = hDf (tL (iblk m c 3 t) h) (tT (iblk m c 1 t) h) (tT (iblk m c 0 t) h) (tT (iblk m c 2 t) h) (tT (iblk m c 4 t) h) (tS (iblk m c 5 t) h 1) (tS (iblk m c 5 t) h 0) (tD (k0_pay3 (F := Ideal)) h) (ix2 r κ) := by
  rw [outsAt0_A m c t hh]; frame_open; simp (disch := decide) only [↓View.readCov_skip, ↓View.readCov_cons_toLoadRect, ↓fill_rd, ↓fill_acc]; frame_out
  canon_tiles x hx
  case piece7 =>
    obtain ⟨rfl, rfl⟩ := cell h 0 r κ x (by simpa using hx0) (by simpa using hx1)
    skip
    rfl
  case piece6 =>
    obtain ⟨rfl, rfl⟩ := cell h 1 r κ x (by simpa using hx0) (by simpa using hx1)
    skip
    rfl
  case piece5 =>
    obtain ⟨rfl, rfl⟩ := cell h 2 r κ x (by simpa using hx0) (by simpa using hx1)
    skip
    rfl
  case piece4 =>
    obtain ⟨rfl, rfl⟩ := cell h 3 r κ x (by simpa using hx0) (by simpa using hx1)
    skip
    rfl
  case piece3 =>
    obtain ⟨rfl, rfl⟩ := cell h 4 r κ x (by simpa using hx0) (by simpa using hx1)
    skip
    rfl
  case piece2 =>
    obtain ⟨rfl, rfl⟩ := cell h 5 r κ x (by simpa using hx0) (by simpa using hx1)
    skip
    rfl
  case piece1 =>
    obtain ⟨rfl, rfl⟩ := cell h 6 r κ x (by simpa using hx0) (by simpa using hx1)
    skip
    rfl
  case piece0 =>
    obtain ⟨rfl, rfl⟩ := cell h 7 r κ x (by simpa using hx0) (by simpa using hx1)
    skip
    rfl

set_option maxHeartbeats 2000000 in
theorem out8h_A (c : Dev nD) (t : Fin cfg0.N) (hh : t.val % 64 = 0) (r : Fin 64) (h : Fin 8) (κ : Fin 128) (hb : 128 * h.val + κ.val < 1024) :
    (outsAt0 m c t.val t.isLt).2.2.1 (ix2 ⟨64 + r.val, by omega⟩ ⟨128 * h.val + κ.val, hb⟩)
      = hDi1 (tL (iblk m c 3 t) h) (tT (iblk m c 1 t) h) (tT (iblk m c 0 t) h) (tT (iblk m c 4 t) h) (tD (k0_pay3 (F := Ideal)) h) (ix2 r κ) := by
  rw [outsAt0_A m c t hh]; frame_open; simp (disch := decide) only [↓View.readCov_skip, ↓View.readCov_cons_toLoadRect, ↓fill_rd, ↓fill_acc]; frame_out
  canon_tiles x hx
  case piece15 =>
    obtain ⟨rfl, rfl⟩ := cellL h 0 r κ x (by have := hx0; simp at this; omega) (by simpa using hx1)
    skip
    rfl
  case piece14 => exact absurd hx0 (by have := r.isLt; simp; omega)
  case piece13 =>
    obtain ⟨rfl, rfl⟩ := cellL h 1 r κ x (by have := hx0; simp at this; omega) (by simpa using hx1)
    skip
    rfl
  case piece12 => exact absurd hx0 (by have := r.isLt; simp; omega)
  case piece11 =>
    obtain ⟨rfl, rfl⟩ := cellL h 2 r κ x (by have := hx0; simp at this; omega) (by simpa using hx1)
    skip
    rfl
  case piece10 => exact absurd hx0 (by have := r.isLt; simp; omega)
  case piece9 =>
    obtain ⟨rfl, rfl⟩ := cellL h 3 r κ x (by have := hx0; simp at this; omega) (by simpa using hx1)
    skip
    rfl
  case piece8 => exact absurd hx0 (by have := r.isLt; simp; omega)
  case piece7 =>
    obtain ⟨rfl, rfl⟩ := cellL h 4 r κ x (by have := hx0; simp at this; omega) (by simpa using hx1)
    skip
    rfl
  case piece6 => exact absurd hx0 (by have := r.isLt; simp; omega)
  case piece5 =>
    obtain ⟨rfl, rfl⟩ := cellL h 5 r κ x (by have := hx0; simp at this; omega) (by simpa using hx1)
    skip
    rfl
  case piece4 => exact absurd hx0 (by have := r.isLt; simp; omega)
  case piece3 =>
    obtain ⟨rfl, rfl⟩ := cellL h 6 r κ x (by have := hx0; simp at this; omega) (by simpa using hx1)
    skip
    rfl
  case piece2 => exact absurd hx0 (by have := r.isLt; simp; omega)
  case piece1 =>
    obtain ⟨rfl, rfl⟩ := cellL h 7 r κ x (by have := hx0; simp at this; omega) (by simpa using hx1)
    skip
    rfl
  case piece0 => exact absurd hx0 (by have := r.isLt; simp; omega)

set_option maxHeartbeats 2000000 in
theorem out8l_A (c : Dev nD) (t : Fin cfg0.N) (hh : t.val % 64 = 0) (r : Fin 64) (h : Fin 8) (κ : Fin 128) (hb : 128 * h.val + κ.val < 1024) :
    (outsAt0 m c t.val t.isLt).2.2.1 (ix2 ⟨r.val, by omega⟩ ⟨128 * h.val + κ.val, hb⟩)
      = hDi0 (tL (iblk m c 3 t) h) (tT (iblk m c 1 t) h) (tT (iblk m c 0 t) h) (tT (iblk m c 4 t) h) (tD (k0_pay3 (F := Ideal)) h) (ix2 r κ) := by
  rw [outsAt0_A m c t hh]; frame_open; simp (disch := decide) only [↓View.readCov_skip, ↓View.readCov_cons_toLoadRect, ↓fill_rd, ↓fill_acc]; frame_out
  canon_tiles x hx
  case piece15 => exact absurd hx0 (by have := r.isLt; simp; omega)
  case piece14 =>
    obtain ⟨rfl, rfl⟩ := cellL h 0 r κ x (by have := hx0; simp at this; omega) (by simpa using hx1)
    skip
    rfl
  case piece13 => exact absurd hx0 (by have := r.isLt; simp; omega)
  case piece12 =>
    obtain ⟨rfl, rfl⟩ := cellL h 1 r κ x (by have := hx0; simp at this; omega) (by simpa using hx1)
    skip
    rfl
  case piece11 => exact absurd hx0 (by have := r.isLt; simp; omega)
  case piece10 =>
    obtain ⟨rfl, rfl⟩ := cellL h 2 r κ x (by have := hx0; simp at this; omega) (by simpa using hx1)
    skip
    rfl
  case piece9 => exact absurd hx0 (by have := r.isLt; simp; omega)
  case piece8 =>
    obtain ⟨rfl, rfl⟩ := cellL h 3 r κ x (by have := hx0; simp at this; omega) (by simpa using hx1)
    skip
    rfl
  case piece7 => exact absurd hx0 (by have := r.isLt; simp; omega)
  case piece6 =>
    obtain ⟨rfl, rfl⟩ := cellL h 4 r κ x (by have := hx0; simp at this; omega) (by simpa using hx1)
    skip
    rfl
  case piece5 => exact absurd hx0 (by have := r.isLt; simp; omega)
  case piece4 =>
    obtain ⟨rfl, rfl⟩ := cellL h 5 r κ x (by have := hx0; simp at this; omega) (by simpa using hx1)
    skip
    rfl
  case piece3 => exact absurd hx0 (by have := r.isLt; simp; omega)
  case piece2 =>
    obtain ⟨rfl, rfl⟩ := cellL h 6 r κ x (by have := hx0; simp at this; omega) (by simpa using hx1)
    skip
    rfl
  case piece1 => exact absurd hx0 (by have := r.isLt; simp; omega)
  case piece0 =>
    obtain ⟨rfl, rfl⟩ := cellL h 7 r κ x (by have := hx0; simp at this; omega) (by simpa using hx1)
    skip
    rfl

end Cert.KernelIdeal.Value

end

end
-- ==== Proof.HgOutB.lean ====
module

public import proofs.«01_k».proof.Proof.HgTile
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg
variable (m : (ℓ : Loc nD τ sig) → Buf (Elt Ideal) ℓ)

set_option maxHeartbeats 2000000 in
theorem out6_B (c : Dev nD) (t : Fin cfg0.N) (hh : ¬ t.val % 64 = 0) (r : Fin 128) (h : Fin 8) (κ : Fin 128) (hb : 128 * h.val + κ.val < 1024) :
    (outsAt0 m c t.val t.isLt).1 (ix2 r ⟨128 * h.val + κ.val, hb⟩)
      = hDq (tL (iblk m c 3 t) h) (tT (iblk m c 1 t) h) (tT (iblk m c 2 t) h) (tT (iblk m c 4 t) h) (tS (iblk m c 5 t) h 1) (tS (iblk m c 5 t) h 0) (ix2 r κ) := by
  rw [outsAt0_B m c t hh]; frame_out
  canon_tiles x hx
  case piece7 =>
    obtain ⟨rfl, rfl⟩ := cell h 0 r κ x (by simpa using hx0) (by simpa using hx1)
    rfl
  case piece6 =>
    obtain ⟨rfl, rfl⟩ := cell h 1 r κ x (by simpa using hx0) (by simpa using hx1)
    rfl
  case piece5 =>
    obtain ⟨rfl, rfl⟩ := cell h 2 r κ x (by simpa using hx0) (by simpa using hx1)
    rfl
  case piece4 =>
    obtain ⟨rfl, rfl⟩ := cell h 3 r κ x (by simpa using hx0) (by simpa using hx1)
    rfl
  case piece3 =>
    obtain ⟨rfl, rfl⟩ := cell h 4 r κ x (by simpa using hx0) (by simpa using hx1)
    rfl
  case piece2 =>
    obtain ⟨rfl, rfl⟩ := cell h 5 r κ x (by simpa using hx0) (by simpa using hx1)
    rfl
  case piece1 =>
    obtain ⟨rfl, rfl⟩ := cell h 6 r κ x (by simpa using hx0) (by simpa using hx1)
    rfl
  case piece0 =>
    obtain ⟨rfl, rfl⟩ := cell h 7 r κ x (by simpa using hx0) (by simpa using hx1)
    rfl

set_option maxHeartbeats 2000000 in
theorem out7_B (c : Dev nD) (t : Fin cfg0.N) (hh : ¬ t.val % 64 = 0) (r : Fin 128) (h : Fin 8) (κ : Fin 128) (hb : 128 * h.val + κ.val < 1024) :
    (outsAt0 m c t.val t.isLt).2.1 (ix2 r ⟨128 * h.val + κ.val, hb⟩)
      = hDf (tL (iblk m c 3 t) h) (tT (iblk m c 1 t) h) (tT (iblk m c 0 t) h) (tT (iblk m c 2 t) h) (tT (iblk m c 4 t) h) (tS (iblk m c 5 t) h 1) (tS (iblk m c 5 t) h 0) (tD (outsAt0 m c (t.val - 1) (by have := t.isLt; omega)).2.2.2.2 h) (ix2 r κ) := by
  rw [outsAt0_B m c t hh]; frame_out
  canon_tiles x hx
  case piece7 =>
    obtain ⟨rfl, rfl⟩ := cell h 0 r κ x (by simpa using hx0) (by simpa using hx1)
    simp (disch := decide) only [↓View.readCov_cons_toLoadRect, ↓View.readCov_skip, ↓fill_rd, ↓fill_acc, read_unread_whole]
    rfl
  case piece6 =>
    obtain ⟨rfl, rfl⟩ := cell h 1 r κ x (by simpa using hx0) (by simpa using hx1)
    simp (disch := decide) only [↓View.readCov_cons_toLoadRect, ↓View.readCov_skip, ↓fill_rd, ↓fill_acc, read_unread_whole]
    rfl
  case piece5 =>
    obtain ⟨rfl, rfl⟩ := cell h 2 r κ x (by simpa using hx0) (by simpa using hx1)
    simp (disch := decide) only [↓View.readCov_cons_toLoadRect, ↓View.readCov_skip, ↓fill_rd, ↓fill_acc, read_unread_whole]
    rfl
  case piece4 =>
    obtain ⟨rfl, rfl⟩ := cell h 3 r κ x (by simpa using hx0) (by simpa using hx1)
    simp (disch := decide) only [↓View.readCov_cons_toLoadRect, ↓View.readCov_skip, ↓fill_rd, ↓fill_acc, read_unread_whole]
    rfl
  case piece3 =>
    obtain ⟨rfl, rfl⟩ := cell h 4 r κ x (by simpa using hx0) (by simpa using hx1)
    simp (disch := decide) only [↓View.readCov_cons_toLoadRect, ↓View.readCov_skip, ↓fill_rd, ↓fill_acc, read_unread_whole]
    rfl
  case piece2 =>
    obtain ⟨rfl, rfl⟩ := cell h 5 r κ x (by simpa using hx0) (by simpa using hx1)
    simp (disch := decide) only [↓View.readCov_cons_toLoadRect, ↓View.readCov_skip, ↓fill_rd, ↓fill_acc, read_unread_whole]
    rfl
  case piece1 =>
    obtain ⟨rfl, rfl⟩ := cell h 6 r κ x (by simpa using hx0) (by simpa using hx1)
    simp (disch := decide) only [↓View.readCov_cons_toLoadRect, ↓View.readCov_skip, ↓fill_rd, ↓fill_acc, read_unread_whole]
    rfl
  case piece0 =>
    obtain ⟨rfl, rfl⟩ := cell h 7 r κ x (by simpa using hx0) (by simpa using hx1)
    simp (disch := decide) only [↓View.readCov_cons_toLoadRect, ↓View.readCov_skip, ↓fill_rd, ↓fill_acc, read_unread_whole]
    rfl

set_option maxHeartbeats 2000000 in
theorem out8h_B (c : Dev nD) (t : Fin cfg0.N) (hh : ¬ t.val % 64 = 0) (r : Fin 64) (h : Fin 8) (κ : Fin 128) (hb : 128 * h.val + κ.val < 1024) :
    (outsAt0 m c t.val t.isLt).2.2.1 (ix2 ⟨64 + r.val, by omega⟩ ⟨128 * h.val + κ.val, hb⟩)
      = hDi1 (tL (iblk m c 3 t) h) (tT (iblk m c 1 t) h) (tT (iblk m c 0 t) h) (tT (iblk m c 4 t) h) (tD (outsAt0 m c (t.val - 1) (by have := t.isLt; omega)).2.2.2.2 h) (ix2 r κ) := by
  rw [outsAt0_B m c t hh]; frame_out
  canon_tiles x hx
  case piece15 =>
    obtain ⟨rfl, rfl⟩ := cellL h 0 r κ x (by have := hx0; simp at this; omega) (by simpa using hx1)
    simp (disch := decide) only [↓View.readCov_cons_toLoadRect, ↓View.readCov_skip, ↓fill_rd, ↓fill_acc, read_unread_whole]
    rfl
  case piece14 => exact absurd hx0 (by have := r.isLt; simp; omega)
  case piece13 =>
    obtain ⟨rfl, rfl⟩ := cellL h 1 r κ x (by have := hx0; simp at this; omega) (by simpa using hx1)
    simp (disch := decide) only [↓View.readCov_cons_toLoadRect, ↓View.readCov_skip, ↓fill_rd, ↓fill_acc, read_unread_whole]
    rfl
  case piece12 => exact absurd hx0 (by have := r.isLt; simp; omega)
  case piece11 =>
    obtain ⟨rfl, rfl⟩ := cellL h 2 r κ x (by have := hx0; simp at this; omega) (by simpa using hx1)
    simp (disch := decide) only [↓View.readCov_cons_toLoadRect, ↓View.readCov_skip, ↓fill_rd, ↓fill_acc, read_unread_whole]
    rfl
  case piece10 => exact absurd hx0 (by have := r.isLt; simp; omega)
  case piece9 =>
    obtain ⟨rfl, rfl⟩ := cellL h 3 r κ x (by have := hx0; simp at this; omega) (by simpa using hx1)
    simp (disch := decide) only [↓View.readCov_cons_toLoadRect, ↓View.readCov_skip, ↓fill_rd, ↓fill_acc, read_unread_whole]
    rfl
  case piece8 => exact absurd hx0 (by have := r.isLt; simp; omega)
  case piece7 =>
    obtain ⟨rfl, rfl⟩ := cellL h 4 r κ x (by have := hx0; simp at this; omega) (by simpa using hx1)
    simp (disch := decide) only [↓View.readCov_cons_toLoadRect, ↓View.readCov_skip, ↓fill_rd, ↓fill_acc, read_unread_whole]
    rfl
  case piece6 => exact absurd hx0 (by have := r.isLt; simp; omega)
  case piece5 =>
    obtain ⟨rfl, rfl⟩ := cellL h 5 r κ x (by have := hx0; simp at this; omega) (by simpa using hx1)
    simp (disch := decide) only [↓View.readCov_cons_toLoadRect, ↓View.readCov_skip, ↓fill_rd, ↓fill_acc, read_unread_whole]
    rfl
  case piece4 => exact absurd hx0 (by have := r.isLt; simp; omega)
  case piece3 =>
    obtain ⟨rfl, rfl⟩ := cellL h 6 r κ x (by have := hx0; simp at this; omega) (by simpa using hx1)
    simp (disch := decide) only [↓View.readCov_cons_toLoadRect, ↓View.readCov_skip, ↓fill_rd, ↓fill_acc, read_unread_whole]
    rfl
  case piece2 => exact absurd hx0 (by have := r.isLt; simp; omega)
  case piece1 =>
    obtain ⟨rfl, rfl⟩ := cellL h 7 r κ x (by have := hx0; simp at this; omega) (by simpa using hx1)
    simp (disch := decide) only [↓View.readCov_cons_toLoadRect, ↓View.readCov_skip, ↓fill_rd, ↓fill_acc, read_unread_whole]
    rfl
  case piece0 => exact absurd hx0 (by have := r.isLt; simp; omega)

set_option maxHeartbeats 2000000 in
theorem out8l_B (c : Dev nD) (t : Fin cfg0.N) (hh : ¬ t.val % 64 = 0) (r : Fin 64) (h : Fin 8) (κ : Fin 128) (hb : 128 * h.val + κ.val < 1024) :
    (outsAt0 m c t.val t.isLt).2.2.1 (ix2 ⟨r.val, by omega⟩ ⟨128 * h.val + κ.val, hb⟩)
      = hDi0 (tL (iblk m c 3 t) h) (tT (iblk m c 1 t) h) (tT (iblk m c 0 t) h) (tT (iblk m c 4 t) h) (tD (outsAt0 m c (t.val - 1) (by have := t.isLt; omega)).2.2.2.2 h) (ix2 r κ) := by
  rw [outsAt0_B m c t hh]; frame_out
  canon_tiles x hx
  case piece15 => exact absurd hx0 (by have := r.isLt; simp; omega)
  case piece14 =>
    obtain ⟨rfl, rfl⟩ := cellL h 0 r κ x (by have := hx0; simp at this; omega) (by simpa using hx1)
    simp (disch := decide) only [↓View.readCov_cons_toLoadRect, ↓View.readCov_skip, ↓fill_rd, ↓fill_acc, read_unread_whole]
    rfl
  case piece13 => exact absurd hx0 (by have := r.isLt; simp; omega)
  case piece12 =>
    obtain ⟨rfl, rfl⟩ := cellL h 1 r κ x (by have := hx0; simp at this; omega) (by simpa using hx1)
    simp (disch := decide) only [↓View.readCov_cons_toLoadRect, ↓View.readCov_skip, ↓fill_rd, ↓fill_acc, read_unread_whole]
    rfl
  case piece11 => exact absurd hx0 (by have := r.isLt; simp; omega)
  case piece10 =>
    obtain ⟨rfl, rfl⟩ := cellL h 2 r κ x (by have := hx0; simp at this; omega) (by simpa using hx1)
    simp (disch := decide) only [↓View.readCov_cons_toLoadRect, ↓View.readCov_skip, ↓fill_rd, ↓fill_acc, read_unread_whole]
    rfl
  case piece9 => exact absurd hx0 (by have := r.isLt; simp; omega)
  case piece8 =>
    obtain ⟨rfl, rfl⟩ := cellL h 3 r κ x (by have := hx0; simp at this; omega) (by simpa using hx1)
    simp (disch := decide) only [↓View.readCov_cons_toLoadRect, ↓View.readCov_skip, ↓fill_rd, ↓fill_acc, read_unread_whole]
    rfl
  case piece7 => exact absurd hx0 (by have := r.isLt; simp; omega)
  case piece6 =>
    obtain ⟨rfl, rfl⟩ := cellL h 4 r κ x (by have := hx0; simp at this; omega) (by simpa using hx1)
    simp (disch := decide) only [↓View.readCov_cons_toLoadRect, ↓View.readCov_skip, ↓fill_rd, ↓fill_acc, read_unread_whole]
    rfl
  case piece5 => exact absurd hx0 (by have := r.isLt; simp; omega)
  case piece4 =>
    obtain ⟨rfl, rfl⟩ := cellL h 5 r κ x (by have := hx0; simp at this; omega) (by simpa using hx1)
    simp (disch := decide) only [↓View.readCov_cons_toLoadRect, ↓View.readCov_skip, ↓fill_rd, ↓fill_acc, read_unread_whole]
    rfl
  case piece3 => exact absurd hx0 (by have := r.isLt; simp; omega)
  case piece2 =>
    obtain ⟨rfl, rfl⟩ := cellL h 6 r κ x (by have := hx0; simp at this; omega) (by simpa using hx1)
    simp (disch := decide) only [↓View.readCov_cons_toLoadRect, ↓View.readCov_skip, ↓fill_rd, ↓fill_acc, read_unread_whole]
    rfl
  case piece1 => exact absurd hx0 (by have := r.isLt; simp; omega)
  case piece0 =>
    obtain ⟨rfl, rfl⟩ := cellL h 7 r κ x (by have := hx0; simp at this; omega) (by simpa using hx1)
    simp (disch := decide) only [↓View.readCov_cons_toLoadRect, ↓View.readCov_skip, ↓fill_rd, ↓fill_acc, read_unread_whole]
    rfl

end Cert.KernelIdeal.Value

end

end
-- ==== Proof.HgAccA.lean ====
module

public import proofs.«01_k».proof.Proof.HgTile
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg
variable (m : (ℓ : Loc nD τ sig) → Buf (Elt Ideal) ℓ)

theorem out9_A_0 (c : Dev nD) (t : Fin cfg0.N) (hh : t.val % 64 = 0) (r : Fin 8) (κ : Fin 128) (hb : 128 * ((0 : Fin 8)).val + κ.val < 1024) :
    (outsAt0 m c t.val t.isLt).2.2.2.1 (ix2 r ⟨128 * ((0 : Fin 8)).val + κ.val, hb⟩)
      = (k0_pay4 (F := Ideal)) (ix2 r ⟨128 * ((0 : Fin 8)).val + κ.val, hb⟩) + hDlb (tL (iblk m c 3 t) 0) (tT (iblk m c 1 t) 0) (tT (iblk m c 0 t) 0) (tT (iblk m c 2 t) 0) (tT (iblk m c 4 t) 0) (tS (iblk m c 5 t) 0 1) (tS (iblk m c 5 t) 0 0) (tD (k0_pay3 (F := Ideal)) 0) (ix2 0 κ) := by
  rw [← tA_apply (e := .f32) (k0_pay4 (F := Ideal)), ← bare9_apply]
  rw [outsAt0_A m c t hh]; frame_open; simp (disch := decide) only [↓View.readCov_skip, ↓View.readCov_cons_toLoadRect, ↓fill_rd, ↓fill_acc]; frame_out
  refine canon_acc (View.whole cc0_stg9_0) _ 0 r κ hb _ ?_
  change View.readCov _ _ (Rect.unit (s := S8x1024) ![0, 0] ![8, 128] inb_S8x1024_S8x128_0_0).toLoadRect = _
  simp (disch := decide) only [↓View.readCov_cons_toLoadRect, ↓View.readCov_skip, ↓fill_rd, ↓fill_acc, read_unread_whole]
  funext y
  rfl

theorem out9_A_1 (c : Dev nD) (t : Fin cfg0.N) (hh : t.val % 64 = 0) (r : Fin 8) (κ : Fin 128) (hb : 128 * ((1 : Fin 8)).val + κ.val < 1024) :
    (outsAt0 m c t.val t.isLt).2.2.2.1 (ix2 r ⟨128 * ((1 : Fin 8)).val + κ.val, hb⟩)
      = (k0_pay4 (F := Ideal)) (ix2 r ⟨128 * ((1 : Fin 8)).val + κ.val, hb⟩) + hDlb (tL (iblk m c 3 t) 1) (tT (iblk m c 1 t) 1) (tT (iblk m c 0 t) 1) (tT (iblk m c 2 t) 1) (tT (iblk m c 4 t) 1) (tS (iblk m c 5 t) 1 1) (tS (iblk m c 5 t) 1 0) (tD (k0_pay3 (F := Ideal)) 1) (ix2 0 κ) := by
  rw [← tA_apply (e := .f32) (k0_pay4 (F := Ideal)), ← bare9_apply]
  rw [outsAt0_A m c t hh]; frame_open; simp (disch := decide) only [↓View.readCov_skip, ↓View.readCov_cons_toLoadRect, ↓fill_rd, ↓fill_acc]; frame_out
  refine canon_acc (View.whole cc0_stg9_0) _ 1 r κ hb _ ?_
  change View.readCov _ _ (Rect.unit (s := S8x1024) ![0, 128] ![8, 128] inb_S8x1024_S8x128_0_128).toLoadRect = _
  simp (disch := decide) only [↓View.readCov_cons_toLoadRect, ↓View.readCov_skip, ↓fill_rd, ↓fill_acc, read_unread_whole]
  funext y
  rfl

theorem out9_A_2 (c : Dev nD) (t : Fin cfg0.N) (hh : t.val % 64 = 0) (r : Fin 8) (κ : Fin 128) (hb : 128 * ((2 : Fin 8)).val + κ.val < 1024) :
    (outsAt0 m c t.val t.isLt).2.2.2.1 (ix2 r ⟨128 * ((2 : Fin 8)).val + κ.val, hb⟩)
      = (k0_pay4 (F := Ideal)) (ix2 r ⟨128 * ((2 : Fin 8)).val + κ.val, hb⟩) + hDlb (tL (iblk m c 3 t) 2) (tT (iblk m c 1 t) 2) (tT (iblk m c 0 t) 2) (tT (iblk m c 2 t) 2) (tT (iblk m c 4 t) 2) (tS (iblk m c 5 t) 2 1) (tS (iblk m c 5 t) 2 0) (tD (k0_pay3 (F := Ideal)) 2) (ix2 0 κ) := by
  rw [← tA_apply (e := .f32) (k0_pay4 (F := Ideal)), ← bare9_apply]
  rw [outsAt0_A m c t hh]; frame_open; simp (disch := decide) only [↓View.readCov_skip, ↓View.readCov_cons_toLoadRect, ↓fill_rd, ↓fill_acc]; frame_out
  refine canon_acc (View.whole cc0_stg9_0) _ 2 r κ hb _ ?_
  change View.readCov _ _ (Rect.unit (s := S8x1024) ![0, 256] ![8, 128] inb_S8x1024_S8x128_0_256).toLoadRect = _
  simp (disch := decide) only [↓View.readCov_cons_toLoadRect, ↓View.readCov_skip, ↓fill_rd, ↓fill_acc, read_unread_whole]
  funext y
  rfl

theorem out9_A_3 (c : Dev nD) (t : Fin cfg0.N) (hh : t.val % 64 = 0) (r : Fin 8) (κ : Fin 128) (hb : 128 * ((3 : Fin 8)).val + κ.val < 1024) :
    (outsAt0 m c t.val t.isLt).2.2.2.1 (ix2 r ⟨128 * ((3 : Fin 8)).val + κ.val, hb⟩)
      = (k0_pay4 (F := Ideal)) (ix2 r ⟨128 * ((3 : Fin 8)).val + κ.val, hb⟩) + hDlb (tL (iblk m c 3 t) 3) (tT (iblk m c 1 t) 3) (tT (iblk m c 0 t) 3) (tT (iblk m c 2 t) 3) (tT (iblk m c 4 t) 3) (tS (iblk m c 5 t) 3 1) (tS (iblk m c 5 t) 3 0) (tD (k0_pay3 (F := Ideal)) 3) (ix2 0 κ) := by
  rw [← tA_apply (e := .f32) (k0_pay4 (F := Ideal)), ← bare9_apply]
  rw [outsAt0_A m c t hh]; frame_open; simp (disch := decide) only [↓View.readCov_skip, ↓View.readCov_cons_toLoadRect, ↓fill_rd, ↓fill_acc]; frame_out
  refine canon_acc (View.whole cc0_stg9_0) _ 3 r κ hb _ ?_
  change View.readCov _ _ (Rect.unit (s := S8x1024) ![0, 384] ![8, 128] inb_S8x1024_S8x128_0_384).toLoadRect = _
  simp (disch := decide) only [↓View.readCov_cons_toLoadRect, ↓View.readCov_skip, ↓fill_rd, ↓fill_acc, read_unread_whole]
  funext y
  rfl

theorem out9_A_4 (c : Dev nD) (t : Fin cfg0.N) (hh : t.val % 64 = 0) (r : Fin 8) (κ : Fin 128) (hb : 128 * ((4 : Fin 8)).val + κ.val < 1024) :
    (outsAt0 m c t.val t.isLt).2.2.2.1 (ix2 r ⟨128 * ((4 : Fin 8)).val + κ.val, hb⟩)
      = (k0_pay4 (F := Ideal)) (ix2 r ⟨128 * ((4 : Fin 8)).val + κ.val, hb⟩) + hDlb (tL (iblk m c 3 t) 4) (tT (iblk m c 1 t) 4) (tT (iblk m c 0 t) 4) (tT (iblk m c 2 t) 4) (tT (iblk m c 4 t) 4) (tS (iblk m c 5 t) 4 1) (tS (iblk m c 5 t) 4 0) (tD (k0_pay3 (F := Ideal)) 4) (ix2 0 κ) := by
  rw [← tA_apply (e := .f32) (k0_pay4 (F := Ideal)), ← bare9_apply]
  rw [outsAt0_A m c t hh]; frame_open; simp (disch := decide) only [↓View.readCov_skip, ↓View.readCov_cons_toLoadRect, ↓fill_rd, ↓fill_acc]; frame_out
  refine canon_acc (View.whole cc0_stg9_0) _ 4 r κ hb _ ?_
  change View.readCov _ _ (Rect.unit (s := S8x1024) ![0, 512] ![8, 128] inb_S8x1024_S8x128_0_512).toLoadRect = _
  simp (disch := decide) only [↓View.readCov_cons_toLoadRect, ↓View.readCov_skip, ↓fill_rd, ↓fill_acc, read_unread_whole]
  funext y
  rfl

theorem out9_A_5 (c : Dev nD) (t : Fin cfg0.N) (hh : t.val % 64 = 0) (r : Fin 8) (κ : Fin 128) (hb : 128 * ((5 : Fin 8)).val + κ.val < 1024) :
    (outsAt0 m c t.val t.isLt).2.2.2.1 (ix2 r ⟨128 * ((5 : Fin 8)).val + κ.val, hb⟩)
      = (k0_pay4 (F := Ideal)) (ix2 r ⟨128 * ((5 : Fin 8)).val + κ.val, hb⟩) + hDlb (tL (iblk m c 3 t) 5) (tT (iblk m c 1 t) 5) (tT (iblk m c 0 t) 5) (tT (iblk m c 2 t) 5) (tT (iblk m c 4 t) 5) (tS (iblk m c 5 t) 5 1) (tS (iblk m c 5 t) 5 0) (tD (k0_pay3 (F := Ideal)) 5) (ix2 0 κ) := by
  rw [← tA_apply (e := .f32) (k0_pay4 (F := Ideal)), ← bare9_apply]
  rw [outsAt0_A m c t hh]; frame_open; simp (disch := decide) only [↓View.readCov_skip, ↓View.readCov_cons_toLoadRect, ↓fill_rd, ↓fill_acc]; frame_out
  refine canon_acc (View.whole cc0_stg9_0) _ 5 r κ hb _ ?_
  change View.readCov _ _ (Rect.unit (s := S8x1024) ![0, 640] ![8, 128] inb_S8x1024_S8x128_0_640).toLoadRect = _
  simp (disch := decide) only [↓View.readCov_cons_toLoadRect, ↓View.readCov_skip, ↓fill_rd, ↓fill_acc, read_unread_whole]
  funext y
  rfl

theorem out9_A_6 (c : Dev nD) (t : Fin cfg0.N) (hh : t.val % 64 = 0) (r : Fin 8) (κ : Fin 128) (hb : 128 * ((6 : Fin 8)).val + κ.val < 1024) :
    (outsAt0 m c t.val t.isLt).2.2.2.1 (ix2 r ⟨128 * ((6 : Fin 8)).val + κ.val, hb⟩)
      = (k0_pay4 (F := Ideal)) (ix2 r ⟨128 * ((6 : Fin 8)).val + κ.val, hb⟩) + hDlb (tL (iblk m c 3 t) 6) (tT (iblk m c 1 t) 6) (tT (iblk m c 0 t) 6) (tT (iblk m c 2 t) 6) (tT (iblk m c 4 t) 6) (tS (iblk m c 5 t) 6 1) (tS (iblk m c 5 t) 6 0) (tD (k0_pay3 (F := Ideal)) 6) (ix2 0 κ) := by
  rw [← tA_apply (e := .f32) (k0_pay4 (F := Ideal)), ← bare9_apply]
  rw [outsAt0_A m c t hh]; frame_open; simp (disch := decide) only [↓View.readCov_skip, ↓View.readCov_cons_toLoadRect, ↓fill_rd, ↓fill_acc]; frame_out
  refine canon_acc (View.whole cc0_stg9_0) _ 6 r κ hb _ ?_
  change View.readCov _ _ (Rect.unit (s := S8x1024) ![0, 768] ![8, 128] inb_S8x1024_S8x128_0_768).toLoadRect = _
  simp (disch := decide) only [↓View.readCov_cons_toLoadRect, ↓View.readCov_skip, ↓fill_rd, ↓fill_acc, read_unread_whole]
  funext y
  rfl

theorem out9_A_7 (c : Dev nD) (t : Fin cfg0.N) (hh : t.val % 64 = 0) (r : Fin 8) (κ : Fin 128) (hb : 128 * ((7 : Fin 8)).val + κ.val < 1024) :
    (outsAt0 m c t.val t.isLt).2.2.2.1 (ix2 r ⟨128 * ((7 : Fin 8)).val + κ.val, hb⟩)
      = (k0_pay4 (F := Ideal)) (ix2 r ⟨128 * ((7 : Fin 8)).val + κ.val, hb⟩) + hDlb (tL (iblk m c 3 t) 7) (tT (iblk m c 1 t) 7) (tT (iblk m c 0 t) 7) (tT (iblk m c 2 t) 7) (tT (iblk m c 4 t) 7) (tS (iblk m c 5 t) 7 1) (tS (iblk m c 5 t) 7 0) (tD (k0_pay3 (F := Ideal)) 7) (ix2 0 κ) := by
  rw [← tA_apply (e := .f32) (k0_pay4 (F := Ideal)), ← bare9_apply]
  rw [outsAt0_A m c t hh]; frame_open; simp (disch := decide) only [↓View.readCov_skip, ↓View.readCov_cons_toLoadRect, ↓fill_rd, ↓fill_acc]; frame_out
  refine canon_acc (View.whole cc0_stg9_0) _ 7 r κ hb _ ?_
  change View.readCov _ _ (Rect.unit (s := S8x1024) ![0, 896] ![8, 128] inb_S8x1024_S8x128_0_896).toLoadRect = _
  simp (disch := decide) only [↓View.readCov_cons_toLoadRect, ↓View.readCov_skip, ↓fill_rd, ↓fill_acc, read_unread_whole]
  funext y
  rfl

theorem out9_A (c : Dev nD) (t : Fin cfg0.N) (hh : t.val % 64 = 0) (r : Fin 8) (h : Fin 8) (κ : Fin 128) (hb : 128 * h.val + κ.val < 1024) :
    (outsAt0 m c t.val t.isLt).2.2.2.1 (ix2 r ⟨128 * h.val + κ.val, hb⟩)
      = (k0_pay4 (F := Ideal)) (ix2 r ⟨128 * h.val + κ.val, hb⟩) + hDlb (tL (iblk m c 3 t) h) (tT (iblk m c 1 t) h) (tT (iblk m c 0 t) h) (tT (iblk m c 2 t) h) (tT (iblk m c 4 t) h) (tS (iblk m c 5 t) h 1) (tS (iblk m c 5 t) h 0) (tD (k0_pay3 (F := Ideal)) h) (ix2 0 κ) := by
  fin_cases h
  · exact out9_A_0 m c t hh r κ hb
  · exact out9_A_1 m c t hh r κ hb
  · exact out9_A_2 m c t hh r κ hb
  · exact out9_A_3 m c t hh r κ hb
  · exact out9_A_4 m c t hh r κ hb
  · exact out9_A_5 m c t hh r κ hb
  · exact out9_A_6 m c t hh r κ hb
  · exact out9_A_7 m c t hh r κ hb

theorem out10_A_0 (c : Dev nD) (t : Fin cfg0.N) (hh : t.val % 64 = 0) (v κ : Fin 128) :
    (outsAt0 m c t.val t.isLt).2.2.2.2 (ix3 0 v κ)
      = hDs0 (tL (iblk m c 3 t) 0) (tT (iblk m c 1 t) 0) (tT (iblk m c 0 t) 0) (tT (iblk m c 4 t) 0) (tD (k0_pay3 (F := Ideal)) 0) (ix3 0 v κ) := by
  rw [outsAt0_A m c t hh]; frame_open; simp (disch := decide) only [↓View.readCov_skip, ↓View.readCov_cons_toLoadRect, ↓fill_rd, ↓fill_acc]; frame_out
  refine canon_at (View.whole cc0_scratch0) _ 0 v κ _ ?_
  change View.readCov _ _ (Rect.unit (s := S8x128x128) ![0, 0, 0] ![1, 128, 128] inb_S8x128x128_S1x128x128_0_0_0).toLoadRect = _
  simp (disch := decide) only [↓View.readCov_cons_toLoadRect, ↓View.readCov_skip, ↓fill_rd, ↓fill_acc, read_unread_whole]
  funext y
  rfl

theorem out10_A_1 (c : Dev nD) (t : Fin cfg0.N) (hh : t.val % 64 = 0) (v κ : Fin 128) :
    (outsAt0 m c t.val t.isLt).2.2.2.2 (ix3 1 v κ)
      = hDs0 (tL (iblk m c 3 t) 1) (tT (iblk m c 1 t) 1) (tT (iblk m c 0 t) 1) (tT (iblk m c 4 t) 1) (tD (k0_pay3 (F := Ideal)) 1) (ix3 0 v κ) := by
  rw [outsAt0_A m c t hh]; frame_open; simp (disch := decide) only [↓View.readCov_skip, ↓View.readCov_cons_toLoadRect, ↓fill_rd, ↓fill_acc]; frame_out
  refine canon_at (View.whole cc0_scratch0) _ 1 v κ _ ?_
  change View.readCov _ _ (Rect.unit (s := S8x128x128) ![1, 0, 0] ![1, 128, 128] inb_S8x128x128_S1x128x128_1_0_0).toLoadRect = _
  simp (disch := decide) only [↓View.readCov_cons_toLoadRect, ↓View.readCov_skip, ↓fill_rd, ↓fill_acc, read_unread_whole]
  funext y
  rfl

theorem out10_A_2 (c : Dev nD) (t : Fin cfg0.N) (hh : t.val % 64 = 0) (v κ : Fin 128) :
    (outsAt0 m c t.val t.isLt).2.2.2.2 (ix3 2 v κ)
      = hDs0 (tL (iblk m c 3 t) 2) (tT (iblk m c 1 t) 2) (tT (iblk m c 0 t) 2) (tT (iblk m c 4 t) 2) (tD (k0_pay3 (F := Ideal)) 2) (ix3 0 v κ) := by
  rw [outsAt0_A m c t hh]; frame_open; simp (disch := decide) only [↓View.readCov_skip, ↓View.readCov_cons_toLoadRect, ↓fill_rd, ↓fill_acc]; frame_out
  refine canon_at (View.whole cc0_scratch0) _ 2 v κ _ ?_
  change View.readCov _ _ (Rect.unit (s := S8x128x128) ![2, 0, 0] ![1, 128, 128] inb_S8x128x128_S1x128x128_2_0_0).toLoadRect = _
  simp (disch := decide) only [↓View.readCov_cons_toLoadRect, ↓View.readCov_skip, ↓fill_rd, ↓fill_acc, read_unread_whole]
  funext y
  rfl

theorem out10_A_3 (c : Dev nD) (t : Fin cfg0.N) (hh : t.val % 64 = 0) (v κ : Fin 128) :
    (outsAt0 m c t.val t.isLt).2.2.2.2 (ix3 3 v κ)
      = hDs0 (tL (iblk m c 3 t) 3) (tT (iblk m c 1 t) 3) (tT (iblk m c 0 t) 3) (tT (iblk m c 4 t) 3) (tD (k0_pay3 (F := Ideal)) 3) (ix3 0 v κ) := by
  rw [outsAt0_A m c t hh]; frame_open; simp (disch := decide) only [↓View.readCov_skip, ↓View.readCov_cons_toLoadRect, ↓fill_rd, ↓fill_acc]; frame_out
  refine canon_at (View.whole cc0_scratch0) _ 3 v κ _ ?_
  change View.readCov _ _ (Rect.unit (s := S8x128x128) ![3, 0, 0] ![1, 128, 128] inb_S8x128x128_S1x128x128_3_0_0).toLoadRect = _
  simp (disch := decide) only [↓View.readCov_cons_toLoadRect, ↓View.readCov_skip, ↓fill_rd, ↓fill_acc, read_unread_whole]
  funext y
  rfl

theorem out10_A_4 (c : Dev nD) (t : Fin cfg0.N) (hh : t.val % 64 = 0) (v κ : Fin 128) :
    (outsAt0 m c t.val t.isLt).2.2.2.2 (ix3 4 v κ)
      = hDs0 (tL (iblk m c 3 t) 4) (tT (iblk m c 1 t) 4) (tT (iblk m c 0 t) 4) (tT (iblk m c 4 t) 4) (tD (k0_pay3 (F := Ideal)) 4) (ix3 0 v κ) := by
  rw [outsAt0_A m c t hh]; frame_open; simp (disch := decide) only [↓View.readCov_skip, ↓View.readCov_cons_toLoadRect, ↓fill_rd, ↓fill_acc]; frame_out
  refine canon_at (View.whole cc0_scratch0) _ 4 v κ _ ?_
  change View.readCov _ _ (Rect.unit (s := S8x128x128) ![4, 0, 0] ![1, 128, 128] inb_S8x128x128_S1x128x128_4_0_0).toLoadRect = _
  simp (disch := decide) only [↓View.readCov_cons_toLoadRect, ↓View.readCov_skip, ↓fill_rd, ↓fill_acc, read_unread_whole]
  funext y
  rfl

theorem out10_A_5 (c : Dev nD) (t : Fin cfg0.N) (hh : t.val % 64 = 0) (v κ : Fin 128) :
    (outsAt0 m c t.val t.isLt).2.2.2.2 (ix3 5 v κ)
      = hDs0 (tL (iblk m c 3 t) 5) (tT (iblk m c 1 t) 5) (tT (iblk m c 0 t) 5) (tT (iblk m c 4 t) 5) (tD (k0_pay3 (F := Ideal)) 5) (ix3 0 v κ) := by
  rw [outsAt0_A m c t hh]; frame_open; simp (disch := decide) only [↓View.readCov_skip, ↓View.readCov_cons_toLoadRect, ↓fill_rd, ↓fill_acc]; frame_out
  refine canon_at (View.whole cc0_scratch0) _ 5 v κ _ ?_
  change View.readCov _ _ (Rect.unit (s := S8x128x128) ![5, 0, 0] ![1, 128, 128] inb_S8x128x128_S1x128x128_5_0_0).toLoadRect = _
  simp (disch := decide) only [↓View.readCov_cons_toLoadRect, ↓View.readCov_skip, ↓fill_rd, ↓fill_acc, read_unread_whole]
  funext y
  rfl

theorem out10_A_6 (c : Dev nD) (t : Fin cfg0.N) (hh : t.val % 64 = 0) (v κ : Fin 128) :
    (outsAt0 m c t.val t.isLt).2.2.2.2 (ix3 6 v κ)
      = hDs0 (tL (iblk m c 3 t) 6) (tT (iblk m c 1 t) 6) (tT (iblk m c 0 t) 6) (tT (iblk m c 4 t) 6) (tD (k0_pay3 (F := Ideal)) 6) (ix3 0 v κ) := by
  rw [outsAt0_A m c t hh]; frame_open; simp (disch := decide) only [↓View.readCov_skip, ↓View.readCov_cons_toLoadRect, ↓fill_rd, ↓fill_acc]; frame_out
  refine canon_at (View.whole cc0_scratch0) _ 6 v κ _ ?_
  change View.readCov _ _ (Rect.unit (s := S8x128x128) ![6, 0, 0] ![1, 128, 128] inb_S8x128x128_S1x128x128_6_0_0).toLoadRect = _
  simp (disch := decide) only [↓View.readCov_cons_toLoadRect, ↓View.readCov_skip, ↓fill_rd, ↓fill_acc, read_unread_whole]
  funext y
  rfl

theorem out10_A_7 (c : Dev nD) (t : Fin cfg0.N) (hh : t.val % 64 = 0) (v κ : Fin 128) :
    (outsAt0 m c t.val t.isLt).2.2.2.2 (ix3 7 v κ)
      = hDs0 (tL (iblk m c 3 t) 7) (tT (iblk m c 1 t) 7) (tT (iblk m c 0 t) 7) (tT (iblk m c 4 t) 7) (tD (k0_pay3 (F := Ideal)) 7) (ix3 0 v κ) := by
  rw [outsAt0_A m c t hh]; frame_open; simp (disch := decide) only [↓View.readCov_skip, ↓View.readCov_cons_toLoadRect, ↓fill_rd, ↓fill_acc]; frame_out
  refine canon_at (View.whole cc0_scratch0) _ 7 v κ _ ?_
  change View.readCov _ _ (Rect.unit (s := S8x128x128) ![7, 0, 0] ![1, 128, 128] inb_S8x128x128_S1x128x128_7_0_0).toLoadRect = _
  simp (disch := decide) only [↓View.readCov_cons_toLoadRect, ↓View.readCov_skip, ↓fill_rd, ↓fill_acc, read_unread_whole]
  funext y
  rfl

theorem out10_A (c : Dev nD) (t : Fin cfg0.N) (hh : t.val % 64 = 0) (h : Fin 8) (v κ : Fin 128) :
    (outsAt0 m c t.val t.isLt).2.2.2.2 (ix3 h v κ)
      = hDs0 (tL (iblk m c 3 t) h) (tT (iblk m c 1 t) h) (tT (iblk m c 0 t) h) (tT (iblk m c 4 t) h) (tD (k0_pay3 (F := Ideal)) h) (ix3 0 v κ) := by
  fin_cases h
  · exact out10_A_0 m c t hh v κ
  · exact out10_A_1 m c t hh v κ
  · exact out10_A_2 m c t hh v κ
  · exact out10_A_3 m c t hh v κ
  · exact out10_A_4 m c t hh v κ
  · exact out10_A_5 m c t hh v κ
  · exact out10_A_6 m c t hh v κ
  · exact out10_A_7 m c t hh v κ

end Cert.KernelIdeal.Value

end

end
-- ==== Proof.HgAccB.lean ====
module

public import proofs.«01_k».proof.Proof.HgTile
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg
variable (m : (ℓ : Loc nD τ sig) → Buf (Elt Ideal) ℓ)

theorem out9_B_0 (c : Dev nD) (t : Fin cfg0.N) (hh : ¬ t.val % 64 = 0) (r : Fin 8) (κ : Fin 128) (hb : 128 * ((0 : Fin 8)).val + κ.val < 1024) :
    (outsAt0 m c t.val t.isLt).2.2.2.1 (ix2 r ⟨128 * ((0 : Fin 8)).val + κ.val, hb⟩)
      = (outsAt0 m c (t.val - 1) (by have := t.isLt; omega)).2.2.2.1 (ix2 r ⟨128 * ((0 : Fin 8)).val + κ.val, hb⟩) + hDlb (tL (iblk m c 3 t) 0) (tT (iblk m c 1 t) 0) (tT (iblk m c 0 t) 0) (tT (iblk m c 2 t) 0) (tT (iblk m c 4 t) 0) (tS (iblk m c 5 t) 0 1) (tS (iblk m c 5 t) 0 0) (tD (outsAt0 m c (t.val - 1) (by have := t.isLt; omega)).2.2.2.2 0) (ix2 0 κ) := by
  rw [← tA_apply (e := .f32) (outsAt0 m c (t.val - 1) (by have := t.isLt; omega)).2.2.2.1, ← bare9_apply]
  rw [outsAt0_B m c t hh]; frame_out
  refine canon_acc (View.whole cc0_stg9_0) _ 0 r κ hb _ ?_
  change View.readCov _ _ (Rect.unit (s := S8x1024) ![0, 0] ![8, 128] inb_S8x1024_S8x128_0_0).toLoadRect = _
  simp (disch := decide) only [↓View.readCov_cons_toLoadRect, ↓View.readCov_skip, ↓fill_rd, ↓fill_acc, read_unread_whole]
  funext y
  rfl

theorem out9_B_1 (c : Dev nD) (t : Fin cfg0.N) (hh : ¬ t.val % 64 = 0) (r : Fin 8) (κ : Fin 128) (hb : 128 * ((1 : Fin 8)).val + κ.val < 1024) :
    (outsAt0 m c t.val t.isLt).2.2.2.1 (ix2 r ⟨128 * ((1 : Fin 8)).val + κ.val, hb⟩)
      = (outsAt0 m c (t.val - 1) (by have := t.isLt; omega)).2.2.2.1 (ix2 r ⟨128 * ((1 : Fin 8)).val + κ.val, hb⟩) + hDlb (tL (iblk m c 3 t) 1) (tT (iblk m c 1 t) 1) (tT (iblk m c 0 t) 1) (tT (iblk m c 2 t) 1) (tT (iblk m c 4 t) 1) (tS (iblk m c 5 t) 1 1) (tS (iblk m c 5 t) 1 0) (tD (outsAt0 m c (t.val - 1) (by have := t.isLt; omega)).2.2.2.2 1) (ix2 0 κ) := by
  rw [← tA_apply (e := .f32) (outsAt0 m c (t.val - 1) (by have := t.isLt; omega)).2.2.2.1, ← bare9_apply]
  rw [outsAt0_B m c t hh]; frame_out
  refine canon_acc (View.whole cc0_stg9_0) _ 1 r κ hb _ ?_
  change View.readCov _ _ (Rect.unit (s := S8x1024) ![0, 128] ![8, 128] inb_S8x1024_S8x128_0_128).toLoadRect = _
  simp (disch := decide) only [↓View.readCov_cons_toLoadRect, ↓View.readCov_skip, ↓fill_rd, ↓fill_acc, read_unread_whole]
  funext y
  rfl

theorem out9_B_2 (c : Dev nD) (t : Fin cfg0.N) (hh : ¬ t.val % 64 = 0) (r : Fin 8) (κ : Fin 128) (hb : 128 * ((2 : Fin 8)).val + κ.val < 1024) :
    (outsAt0 m c t.val t.isLt).2.2.2.1 (ix2 r ⟨128 * ((2 : Fin 8)).val + κ.val, hb⟩)
      = (outsAt0 m c (t.val - 1) (by have := t.isLt; omega)).2.2.2.1 (ix2 r ⟨128 * ((2 : Fin 8)).val + κ.val, hb⟩) + hDlb (tL (iblk m c 3 t) 2) (tT (iblk m c 1 t) 2) (tT (iblk m c 0 t) 2) (tT (iblk m c 2 t) 2) (tT (iblk m c 4 t) 2) (tS (iblk m c 5 t) 2 1) (tS (iblk m c 5 t) 2 0) (tD (outsAt0 m c (t.val - 1) (by have := t.isLt; omega)).2.2.2.2 2) (ix2 0 κ) := by
  rw [← tA_apply (e := .f32) (outsAt0 m c (t.val - 1) (by have := t.isLt; omega)).2.2.2.1, ← bare9_apply]
  rw [outsAt0_B m c t hh]; frame_out
  refine canon_acc (View.whole cc0_stg9_0) _ 2 r κ hb _ ?_
  change View.readCov _ _ (Rect.unit (s := S8x1024) ![0, 256] ![8, 128] inb_S8x1024_S8x128_0_256).toLoadRect = _
  simp (disch := decide) only [↓View.readCov_cons_toLoadRect, ↓View.readCov_skip, ↓fill_rd, ↓fill_acc, read_unread_whole]
  funext y
  rfl

theorem out9_B_3 (c : Dev nD) (t : Fin cfg0.N) (hh : ¬ t.val % 64 = 0) (r : Fin 8) (κ : Fin 128) (hb : 128 * ((3 : Fin 8)).val + κ.val < 1024) :
    (outsAt0 m c t.val t.isLt).2.2.2.1 (ix2 r ⟨128 * ((3 : Fin 8)).val + κ.val, hb⟩)
      = (outsAt0 m c (t.val - 1) (by have := t.isLt; omega)).2.2.2.1 (ix2 r ⟨128 * ((3 : Fin 8)).val + κ.val, hb⟩) + hDlb (tL (iblk m c 3 t) 3) (tT (iblk m c 1 t) 3) (tT (iblk m c 0 t) 3) (tT (iblk m c 2 t) 3) (tT (iblk m c 4 t) 3) (tS (iblk m c 5 t) 3 1) (tS (iblk m c 5 t) 3 0) (tD (outsAt0 m c (t.val - 1) (by have := t.isLt; omega)).2.2.2.2 3) (ix2 0 κ) := by
  rw [← tA_apply (e := .f32) (outsAt0 m c (t.val - 1) (by have := t.isLt; omega)).2.2.2.1, ← bare9_apply]
  rw [outsAt0_B m c t hh]; frame_out
  refine canon_acc (View.whole cc0_stg9_0) _ 3 r κ hb _ ?_
  change View.readCov _ _ (Rect.unit (s := S8x1024) ![0, 384] ![8, 128] inb_S8x1024_S8x128_0_384).toLoadRect = _
  simp (disch := decide) only [↓View.readCov_cons_toLoadRect, ↓View.readCov_skip, ↓fill_rd, ↓fill_acc, read_unread_whole]
  funext y
  rfl

theorem out9_B_4 (c : Dev nD) (t : Fin cfg0.N) (hh : ¬ t.val % 64 = 0) (r : Fin 8) (κ : Fin 128) (hb : 128 * ((4 : Fin 8)).val + κ.val < 1024) :
    (outsAt0 m c t.val t.isLt).2.2.2.1 (ix2 r ⟨128 * ((4 : Fin 8)).val + κ.val, hb⟩)
      = (outsAt0 m c (t.val - 1) (by have := t.isLt; omega)).2.2.2.1 (ix2 r ⟨128 * ((4 : Fin 8)).val + κ.val, hb⟩) + hDlb (tL (iblk m c 3 t) 4) (tT (iblk m c 1 t) 4) (tT (iblk m c 0 t) 4) (tT (iblk m c 2 t) 4) (tT (iblk m c 4 t) 4) (tS (iblk m c 5 t) 4 1) (tS (iblk m c 5 t) 4 0) (tD (outsAt0 m c (t.val - 1) (by have := t.isLt; omega)).2.2.2.2 4) (ix2 0 κ) := by
  rw [← tA_apply (e := .f32) (outsAt0 m c (t.val - 1) (by have := t.isLt; omega)).2.2.2.1, ← bare9_apply]
  rw [outsAt0_B m c t hh]; frame_out
  refine canon_acc (View.whole cc0_stg9_0) _ 4 r κ hb _ ?_
  change View.readCov _ _ (Rect.unit (s := S8x1024) ![0, 512] ![8, 128] inb_S8x1024_S8x128_0_512).toLoadRect = _
  simp (disch := decide) only [↓View.readCov_cons_toLoadRect, ↓View.readCov_skip, ↓fill_rd, ↓fill_acc, read_unread_whole]
  funext y
  rfl

theorem out9_B_5 (c : Dev nD) (t : Fin cfg0.N) (hh : ¬ t.val % 64 = 0) (r : Fin 8) (κ : Fin 128) (hb : 128 * ((5 : Fin 8)).val + κ.val < 1024) :
    (outsAt0 m c t.val t.isLt).2.2.2.1 (ix2 r ⟨128 * ((5 : Fin 8)).val + κ.val, hb⟩)
      = (outsAt0 m c (t.val - 1) (by have := t.isLt; omega)).2.2.2.1 (ix2 r ⟨128 * ((5 : Fin 8)).val + κ.val, hb⟩) + hDlb (tL (iblk m c 3 t) 5) (tT (iblk m c 1 t) 5) (tT (iblk m c 0 t) 5) (tT (iblk m c 2 t) 5) (tT (iblk m c 4 t) 5) (tS (iblk m c 5 t) 5 1) (tS (iblk m c 5 t) 5 0) (tD (outsAt0 m c (t.val - 1) (by have := t.isLt; omega)).2.2.2.2 5) (ix2 0 κ) := by
  rw [← tA_apply (e := .f32) (outsAt0 m c (t.val - 1) (by have := t.isLt; omega)).2.2.2.1, ← bare9_apply]
  rw [outsAt0_B m c t hh]; frame_out
  refine canon_acc (View.whole cc0_stg9_0) _ 5 r κ hb _ ?_
  change View.readCov _ _ (Rect.unit (s := S8x1024) ![0, 640] ![8, 128] inb_S8x1024_S8x128_0_640).toLoadRect = _
  simp (disch := decide) only [↓View.readCov_cons_toLoadRect, ↓View.readCov_skip, ↓fill_rd, ↓fill_acc, read_unread_whole]
  funext y
  rfl

theorem out9_B_6 (c : Dev nD) (t : Fin cfg0.N) (hh : ¬ t.val % 64 = 0) (r : Fin 8) (κ : Fin 128) (hb : 128 * ((6 : Fin 8)).val + κ.val < 1024) :
    (outsAt0 m c t.val t.isLt).2.2.2.1 (ix2 r ⟨128 * ((6 : Fin 8)).val + κ.val, hb⟩)
      = (outsAt0 m c (t.val - 1) (by have := t.isLt; omega)).2.2.2.1 (ix2 r ⟨128 * ((6 : Fin 8)).val + κ.val, hb⟩) + hDlb (tL (iblk m c 3 t) 6) (tT (iblk m c 1 t) 6) (tT (iblk m c 0 t) 6) (tT (iblk m c 2 t) 6) (tT (iblk m c 4 t) 6) (tS (iblk m c 5 t) 6 1) (tS (iblk m c 5 t) 6 0) (tD (outsAt0 m c (t.val - 1) (by have := t.isLt; omega)).2.2.2.2 6) (ix2 0 κ) := by
  rw [← tA_apply (e := .f32) (outsAt0 m c (t.val - 1) (by have := t.isLt; omega)).2.2.2.1, ← bare9_apply]
  rw [outsAt0_B m c t hh]; frame_out
  refine canon_acc (View.whole cc0_stg9_0) _ 6 r κ hb _ ?_
  change View.readCov _ _ (Rect.unit (s := S8x1024) ![0, 768] ![8, 128] inb_S8x1024_S8x128_0_768).toLoadRect = _
  simp (disch := decide) only [↓View.readCov_cons_toLoadRect, ↓View.readCov_skip, ↓fill_rd, ↓fill_acc, read_unread_whole]
  funext y
  rfl

theorem out9_B_7 (c : Dev nD) (t : Fin cfg0.N) (hh : ¬ t.val % 64 = 0) (r : Fin 8) (κ : Fin 128) (hb : 128 * ((7 : Fin 8)).val + κ.val < 1024) :
    (outsAt0 m c t.val t.isLt).2.2.2.1 (ix2 r ⟨128 * ((7 : Fin 8)).val + κ.val, hb⟩)
      = (outsAt0 m c (t.val - 1) (by have := t.isLt; omega)).2.2.2.1 (ix2 r ⟨128 * ((7 : Fin 8)).val + κ.val, hb⟩) + hDlb (tL (iblk m c 3 t) 7) (tT (iblk m c 1 t) 7) (tT (iblk m c 0 t) 7) (tT (iblk m c 2 t) 7) (tT (iblk m c 4 t) 7) (tS (iblk m c 5 t) 7 1) (tS (iblk m c 5 t) 7 0) (tD (outsAt0 m c (t.val - 1) (by have := t.isLt; omega)).2.2.2.2 7) (ix2 0 κ) := by
  rw [← tA_apply (e := .f32) (outsAt0 m c (t.val - 1) (by have := t.isLt; omega)).2.2.2.1, ← bare9_apply]
  rw [outsAt0_B m c t hh]; frame_out
  refine canon_acc (View.whole cc0_stg9_0) _ 7 r κ hb _ ?_
  change View.readCov _ _ (Rect.unit (s := S8x1024) ![0, 896] ![8, 128] inb_S8x1024_S8x128_0_896).toLoadRect = _
  simp (disch := decide) only [↓View.readCov_cons_toLoadRect, ↓View.readCov_skip, ↓fill_rd, ↓fill_acc, read_unread_whole]
  funext y
  rfl

theorem out9_B (c : Dev nD) (t : Fin cfg0.N) (hh : ¬ t.val % 64 = 0) (r : Fin 8) (h : Fin 8) (κ : Fin 128) (hb : 128 * h.val + κ.val < 1024) :
    (outsAt0 m c t.val t.isLt).2.2.2.1 (ix2 r ⟨128 * h.val + κ.val, hb⟩)
      = (outsAt0 m c (t.val - 1) (by have := t.isLt; omega)).2.2.2.1 (ix2 r ⟨128 * h.val + κ.val, hb⟩) + hDlb (tL (iblk m c 3 t) h) (tT (iblk m c 1 t) h) (tT (iblk m c 0 t) h) (tT (iblk m c 2 t) h) (tT (iblk m c 4 t) h) (tS (iblk m c 5 t) h 1) (tS (iblk m c 5 t) h 0) (tD (outsAt0 m c (t.val - 1) (by have := t.isLt; omega)).2.2.2.2 h) (ix2 0 κ) := by
  fin_cases h
  · exact out9_B_0 m c t hh r κ hb
  · exact out9_B_1 m c t hh r κ hb
  · exact out9_B_2 m c t hh r κ hb
  · exact out9_B_3 m c t hh r κ hb
  · exact out9_B_4 m c t hh r κ hb
  · exact out9_B_5 m c t hh r κ hb
  · exact out9_B_6 m c t hh r κ hb
  · exact out9_B_7 m c t hh r κ hb

theorem out10_B_0 (c : Dev nD) (t : Fin cfg0.N) (hh : ¬ t.val % 64 = 0) (v κ : Fin 128) :
    (outsAt0 m c t.val t.isLt).2.2.2.2 (ix3 0 v κ)
      = hDs0 (tL (iblk m c 3 t) 0) (tT (iblk m c 1 t) 0) (tT (iblk m c 0 t) 0) (tT (iblk m c 4 t) 0) (tD (outsAt0 m c (t.val - 1) (by have := t.isLt; omega)).2.2.2.2 0) (ix3 0 v κ) := by
  rw [outsAt0_B m c t hh]; frame_out
  refine canon_at (View.whole cc0_scratch0) _ 0 v κ _ ?_
  change View.readCov _ _ (Rect.unit (s := S8x128x128) ![0, 0, 0] ![1, 128, 128] inb_S8x128x128_S1x128x128_0_0_0).toLoadRect = _
  simp (disch := decide) only [↓View.readCov_cons_toLoadRect, ↓View.readCov_skip, ↓fill_rd, ↓fill_acc, read_unread_whole]
  funext y
  rfl

theorem out10_B_1 (c : Dev nD) (t : Fin cfg0.N) (hh : ¬ t.val % 64 = 0) (v κ : Fin 128) :
    (outsAt0 m c t.val t.isLt).2.2.2.2 (ix3 1 v κ)
      = hDs0 (tL (iblk m c 3 t) 1) (tT (iblk m c 1 t) 1) (tT (iblk m c 0 t) 1) (tT (iblk m c 4 t) 1) (tD (outsAt0 m c (t.val - 1) (by have := t.isLt; omega)).2.2.2.2 1) (ix3 0 v κ) := by
  rw [outsAt0_B m c t hh]; frame_out
  refine canon_at (View.whole cc0_scratch0) _ 1 v κ _ ?_
  change View.readCov _ _ (Rect.unit (s := S8x128x128) ![1, 0, 0] ![1, 128, 128] inb_S8x128x128_S1x128x128_1_0_0).toLoadRect = _
  simp (disch := decide) only [↓View.readCov_cons_toLoadRect, ↓View.readCov_skip, ↓fill_rd, ↓fill_acc, read_unread_whole]
  funext y
  rfl

theorem out10_B_2 (c : Dev nD) (t : Fin cfg0.N) (hh : ¬ t.val % 64 = 0) (v κ : Fin 128) :
    (outsAt0 m c t.val t.isLt).2.2.2.2 (ix3 2 v κ)
      = hDs0 (tL (iblk m c 3 t) 2) (tT (iblk m c 1 t) 2) (tT (iblk m c 0 t) 2) (tT (iblk m c 4 t) 2) (tD (outsAt0 m c (t.val - 1) (by have := t.isLt; omega)).2.2.2.2 2) (ix3 0 v κ) := by
  rw [outsAt0_B m c t hh]; frame_out
  refine canon_at (View.whole cc0_scratch0) _ 2 v κ _ ?_
  change View.readCov _ _ (Rect.unit (s := S8x128x128) ![2, 0, 0] ![1, 128, 128] inb_S8x128x128_S1x128x128_2_0_0).toLoadRect = _
  simp (disch := decide) only [↓View.readCov_cons_toLoadRect, ↓View.readCov_skip, ↓fill_rd, ↓fill_acc, read_unread_whole]
  funext y
  rfl

theorem out10_B_3 (c : Dev nD) (t : Fin cfg0.N) (hh : ¬ t.val % 64 = 0) (v κ : Fin 128) :
    (outsAt0 m c t.val t.isLt).2.2.2.2 (ix3 3 v κ)
      = hDs0 (tL (iblk m c 3 t) 3) (tT (iblk m c 1 t) 3) (tT (iblk m c 0 t) 3) (tT (iblk m c 4 t) 3) (tD (outsAt0 m c (t.val - 1) (by have := t.isLt; omega)).2.2.2.2 3) (ix3 0 v κ) := by
  rw [outsAt0_B m c t hh]; frame_out
  refine canon_at (View.whole cc0_scratch0) _ 3 v κ _ ?_
  change View.readCov _ _ (Rect.unit (s := S8x128x128) ![3, 0, 0] ![1, 128, 128] inb_S8x128x128_S1x128x128_3_0_0).toLoadRect = _
  simp (disch := decide) only [↓View.readCov_cons_toLoadRect, ↓View.readCov_skip, ↓fill_rd, ↓fill_acc, read_unread_whole]
  funext y
  rfl

theorem out10_B_4 (c : Dev nD) (t : Fin cfg0.N) (hh : ¬ t.val % 64 = 0) (v κ : Fin 128) :
    (outsAt0 m c t.val t.isLt).2.2.2.2 (ix3 4 v κ)
      = hDs0 (tL (iblk m c 3 t) 4) (tT (iblk m c 1 t) 4) (tT (iblk m c 0 t) 4) (tT (iblk m c 4 t) 4) (tD (outsAt0 m c (t.val - 1) (by have := t.isLt; omega)).2.2.2.2 4) (ix3 0 v κ) := by
  rw [outsAt0_B m c t hh]; frame_out
  refine canon_at (View.whole cc0_scratch0) _ 4 v κ _ ?_
  change View.readCov _ _ (Rect.unit (s := S8x128x128) ![4, 0, 0] ![1, 128, 128] inb_S8x128x128_S1x128x128_4_0_0).toLoadRect = _
  simp (disch := decide) only [↓View.readCov_cons_toLoadRect, ↓View.readCov_skip, ↓fill_rd, ↓fill_acc, read_unread_whole]
  funext y
  rfl

theorem out10_B_5 (c : Dev nD) (t : Fin cfg0.N) (hh : ¬ t.val % 64 = 0) (v κ : Fin 128) :
    (outsAt0 m c t.val t.isLt).2.2.2.2 (ix3 5 v κ)
      = hDs0 (tL (iblk m c 3 t) 5) (tT (iblk m c 1 t) 5) (tT (iblk m c 0 t) 5) (tT (iblk m c 4 t) 5) (tD (outsAt0 m c (t.val - 1) (by have := t.isLt; omega)).2.2.2.2 5) (ix3 0 v κ) := by
  rw [outsAt0_B m c t hh]; frame_out
  refine canon_at (View.whole cc0_scratch0) _ 5 v κ _ ?_
  change View.readCov _ _ (Rect.unit (s := S8x128x128) ![5, 0, 0] ![1, 128, 128] inb_S8x128x128_S1x128x128_5_0_0).toLoadRect = _
  simp (disch := decide) only [↓View.readCov_cons_toLoadRect, ↓View.readCov_skip, ↓fill_rd, ↓fill_acc, read_unread_whole]
  funext y
  rfl

theorem out10_B_6 (c : Dev nD) (t : Fin cfg0.N) (hh : ¬ t.val % 64 = 0) (v κ : Fin 128) :
    (outsAt0 m c t.val t.isLt).2.2.2.2 (ix3 6 v κ)
      = hDs0 (tL (iblk m c 3 t) 6) (tT (iblk m c 1 t) 6) (tT (iblk m c 0 t) 6) (tT (iblk m c 4 t) 6) (tD (outsAt0 m c (t.val - 1) (by have := t.isLt; omega)).2.2.2.2 6) (ix3 0 v κ) := by
  rw [outsAt0_B m c t hh]; frame_out
  refine canon_at (View.whole cc0_scratch0) _ 6 v κ _ ?_
  change View.readCov _ _ (Rect.unit (s := S8x128x128) ![6, 0, 0] ![1, 128, 128] inb_S8x128x128_S1x128x128_6_0_0).toLoadRect = _
  simp (disch := decide) only [↓View.readCov_cons_toLoadRect, ↓View.readCov_skip, ↓fill_rd, ↓fill_acc, read_unread_whole]
  funext y
  rfl

theorem out10_B_7 (c : Dev nD) (t : Fin cfg0.N) (hh : ¬ t.val % 64 = 0) (v κ : Fin 128) :
    (outsAt0 m c t.val t.isLt).2.2.2.2 (ix3 7 v κ)
      = hDs0 (tL (iblk m c 3 t) 7) (tT (iblk m c 1 t) 7) (tT (iblk m c 0 t) 7) (tT (iblk m c 4 t) 7) (tD (outsAt0 m c (t.val - 1) (by have := t.isLt; omega)).2.2.2.2 7) (ix3 0 v κ) := by
  rw [outsAt0_B m c t hh]; frame_out
  refine canon_at (View.whole cc0_scratch0) _ 7 v κ _ ?_
  change View.readCov _ _ (Rect.unit (s := S8x128x128) ![7, 0, 0] ![1, 128, 128] inb_S8x128x128_S1x128x128_7_0_0).toLoadRect = _
  simp (disch := decide) only [↓View.readCov_cons_toLoadRect, ↓View.readCov_skip, ↓fill_rd, ↓fill_acc, read_unread_whole]
  funext y
  rfl

theorem out10_B (c : Dev nD) (t : Fin cfg0.N) (hh : ¬ t.val % 64 = 0) (h : Fin 8) (v κ : Fin 128) :
    (outsAt0 m c t.val t.isLt).2.2.2.2 (ix3 h v κ)
      = hDs0 (tL (iblk m c 3 t) h) (tT (iblk m c 1 t) h) (tT (iblk m c 0 t) h) (tT (iblk m c 4 t) h) (tD (outsAt0 m c (t.val - 1) (by have := t.isLt; omega)).2.2.2.2 h) (ix3 0 v κ) := by
  fin_cases h
  · exact out10_B_0 m c t hh v κ
  · exact out10_B_1 m c t hh v κ
  · exact out10_B_2 m c t hh v κ
  · exact out10_B_3 m c t hh v κ
  · exact out10_B_4 m c t hh v κ
  · exact out10_B_5 m c t hh v κ
  · exact out10_B_6 m c t hh v κ
  · exact out10_B_7 m c t hh v κ

end Cert.KernelIdeal.Value

end

end
-- ==== Proof.HgBlk.lean ====
module

public import proofs.«01_k».proof.Proof.HgTile
public import proofs.«01_k».proof.Proof.Gen.KernelIdeal.Value

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg
variable (m : (ℓ : Loc nD τ sig) → Buf (Elt Ideal) ℓ)

theorem idx : ∀ t : Fin cfg0.N, win0_0.index t = ![63 - t.val, 0] ∧ win0_1.index t = ![63 - t.val, 1] ∧ win0_2.index t = ![63 - t.val, 2]
    ∧ win0_3.index t = ![0, 0] ∧ win0_4.index t = ![63 - t.val, 0] ∧ win0_5.index t = ![0, 63 - t.val, 0, 0] ∧ win0_6.index t = ![63 - t.val, 0]
    ∧ win0_7.index t = ![63 - t.val, 0] ∧ win0_8.index t = ![63 - t.val, 0] ∧ win0_9.index t = ![0, 0] :=
  (by decide +kernel : ∀ t : Fin grid0.N, _)

theorem tT_apply {e : EltTy} (B : Vec Ideal S128x1024 e) (h : Fin 8) (r κ : Fin 128) (hb : 128 * h.val + κ.val < 1024) :
    tT B h (ix2 r κ) = B (ix2 r ⟨128 * h.val + κ.val, hb⟩) := by
  unfold tT
  refine congrArg B ?_
  funext a; fin_cases a <;> exact Fin.ext (by simp [Rect.emb])
theorem tL_apply {e : EltTy} (B : Vec Ideal S1x1024 e) (h : Fin 8) (κ : Fin 128) (hb : 128 * h.val + κ.val < 1024) :
    tL B h (ix2 0 κ) = B (ix2 0 ⟨128 * h.val + κ.val, hb⟩) := by
  unfold tL
  refine congrArg B ?_
  funext a; fin_cases a <;> exact Fin.ext (by simp [Rect.emb])
theorem tD_apply {e : EltTy} (B : Vec Ideal S8x128x128 e) (h : Fin 8) (v κ : Fin 128) :
    tD B h (ix3 0 v κ) = B (ix3 h v κ) := by
  unfold tD
  refine congrArg B ?_
  funext a; fin_cases a <;> exact Fin.ext (by simp [Rect.emb])
theorem tS_apply {e : EltTy} (B : Vec Ideal S8x2x128x128 e) (h : Fin 8) (u : Fin 2) (v κ : Fin 128) :
    tS B h u (ix4 0 0 v κ) = B (ix4 h u v κ) := by
  unfold tS
  refine congrArg B ?_
  funext a; fin_cases a <;> exact Fin.ext (by simp [Rect.emb])
variable (c : Dev nD) (t : Fin cfg0.N)
theorem ht (t : Fin cfg0.N) : t.val < 64 := t.isLt
theorem blk0 (r : Fin 128) (j : Fin 1024) : iblk m c 0 t (ix2 r j)
    = m ((c : Thread nD τ).loc main_arg0) (ix2 ⟨(63 - t.val) * 128 + r.val, by have := ht t; omega⟩ ⟨j.val, by omega⟩) := by
  blk_point [iblk, V, idx t]
theorem blk1 (r : Fin 128) (j : Fin 1024) : iblk m c 1 t (ix2 r j)
    = m ((c : Thread nD τ).loc main_arg0) (ix2 ⟨(63 - t.val) * 128 + r.val, by have := ht t; omega⟩ ⟨1024 + j.val, by omega⟩) := by
  blk_point [iblk, V, idx t]
theorem blk2 (r : Fin 128) (j : Fin 1024) : iblk m c 2 t (ix2 r j)
    = m ((c : Thread nD τ).loc main_arg0) (ix2 ⟨(63 - t.val) * 128 + r.val, by have := ht t; omega⟩ ⟨2048 + j.val, by omega⟩) := by
  blk_point [iblk, V, idx t]
theorem blk3 (j : Fin 1024) : iblk m c 3 t (ix2 0 j) = V m c main_v8 (ix2 0 j) := by
  blk_point [iblk, idx t]
theorem blk4 (r : Fin 128) (j : Fin 1024) : iblk m c 4 t (ix2 r j)
    = m ((c : Thread nD τ).loc main_arg2) (ix2 ⟨(63 - t.val) * 128 + r.val, by have := ht t; omega⟩ j) := by
  blk_point [iblk, V, idx t]
theorem blk5 (h : Fin 8) (u : Fin 2) (v κ : Fin 128) : iblk m c 5 t (ix4 h u v κ)
    = V m c main_v60 (ix4 h ⟨(63 - t.val) * 2 + u.val, by have := ht t; omega⟩ v κ) := by
  blk_point [iblk, idx t]

end Cert.KernelIdeal.Value

end

end
-- ==== Proof.HgGlob.lean ====
module

public import proofs.«01_k».proof.Proof.HgReal

@[expose] public section

set_option maxRecDepth 16384
noncomputable section
open Idealize.ShloMosaic Idealize.ShloMosaic.TcCoe Idealize.SL.Sem
open Idealize.ShloMosaic.Pipeline (Dat)
namespace Cert.Hg

section
variable (N : ℕ) (lb : ℕ → ℝ) (f q i d : ℕ → ℕ → ℝ)
/-- The gradients over the whole sequence of `N` steps. -/
def gP (T κ : ℕ) : ℝ := ∑ s ∈ Finset.range T, lfR lb f s κ
def gE (t s κ : ℕ) : ℝ := Real.exp (gP lb f (t + 1) κ - gP lb f (s + 1) κ)
def gg (t s : ℕ) : ℝ := ∑ v ∈ Finset.range 128, d t v * i s v
def gW (t s κ : ℕ) : ℝ := gg i d t s * (q t κ * (kR lb f s κ * gE lb f t s κ))
def gDq (t κ : ℕ) : ℝ := ∑ s ∈ Finset.range (t + 1), gg i d t s * (kR lb f s κ * gE lb f t s κ)
def gDk (s κ : ℕ) : ℝ := ∑ t ∈ Finset.Ico s N, gg i d t s * (q t κ * gE lb f t s κ)
def gDi (s v : ℕ) : ℝ := ∑ t ∈ Finset.Ico s N, (∑ κ ∈ Finset.range 128, q t κ * (kR lb f s κ * gE lb f t s κ)) * d t v
def gDb (t κ : ℕ) : ℝ := (∑ s ∈ Finset.range (t + 1), gW lb f q i d t s κ) - ∑ t' ∈ Finset.Ico t N, gW lb f q i d t' t κ
def gDlf (T κ : ℕ) : ℝ := ∑ t ∈ Finset.Ico T N, gDb N lb f q i d t κ
def gGf (r κ : ℕ) : ℝ := gDlf N lb f q i d r κ / fR lb f r κ - gDk N lb f q i d r κ
def gDf (r κ : ℕ) : ℝ := gGf N lb f q i d r κ * (1 - lb κ) * sg (f r κ) * (1 - sg (f r κ))
/-- The part of the gradient of the bound that the rows from `T` on contribute. -/
def gDl (T κ : ℕ) : ℝ := ∑ r ∈ Finset.Ico T N, gGf N lb f q i d r κ * (1 - sg (f r κ))
/-- The state before step `T`, and the gradient with respect to it. -/
def gS (T v κ : ℕ) : ℝ := ∑ s ∈ Finset.range T, i s v * (kR lb f s κ * Real.exp (gP lb f T κ - gP lb f (s + 1) κ))
def gD (T v κ : ℕ) : ℝ := ∑ t ∈ Finset.Ico T N, d t v * (q t κ * Real.exp (gP lb f (t + 1) κ - gP lb f T κ))

theorem gP_add (a n κ : ℕ) : gP lb f (a + n) κ = gP lb f a κ + ∑ u ∈ Finset.range n, lfR lb f (a + u) κ := by
  unfold gP; exact Finset.sum_range_add _ _ _

/-- The gradient of the log decay from a step on is what crosses that step. -/
theorem gDlf_eq (T κ : ℕ) (hT : T ≤ N) : gDlf N lb f q i d T κ = ∑ t ∈ Finset.Ico T N, ∑ s ∈ Finset.range T, gW lb f q i d t s κ := by
  unfold gDlf gDb
  rw [Finset.sum_sub_distrib, Finset.sum_Ico_Ico_comm, ← Finset.sum_sub_distrib]
  refine Finset.sum_congr rfl fun t ht => ?_
  have := Finset.mem_Ico.mp ht
  rw [← Finset.sum_range_add_sum_Ico (fun s => gW lb f q i d t s κ) (show T ≤ t + 1 by omega), add_sub_cancel_right]

theorem sumM_le (F : ℕ → ℝ) (r : ℕ) (hr : r < 128) :
    (∑ s ∈ Finset.range 128, if MR r s then F s else 0) = ∑ s ∈ Finset.Ico (r / 64 * 64) (r + 1), F s := by
  rw [← Finset.sum_filter]
  refine Finset.sum_congr ?_ fun _ _ => rfl
  ext s; rw [Finset.mem_filter, Finset.mem_range, Finset.mem_Ico]
  constructor
  · rintro ⟨h1, h2, h3⟩; omega
  · rintro ⟨h1, h2⟩; refine ⟨by omega, by omega, by omega⟩
theorem sumM_ge (F : ℕ → ℝ) (s : ℕ) (hs : s < 128) :
    (∑ r ∈ Finset.range 128, if MR r s then F r else 0) = ∑ r ∈ Finset.Ico s (s / 64 * 64 + 64), F r := by
  rw [← Finset.sum_filter]
  refine Finset.sum_congr ?_ fun _ _ => rfl
  ext r; rw [Finset.mem_filter, Finset.mem_range, Finset.mem_Ico]
  constructor
  · rintro ⟨h1, h2, h3⟩; omega
  · rintro ⟨h1, h2⟩; refine ⟨by omega, by omega, by omega⟩
theorem sh (F : ℕ → ℝ) (b x y : ℕ) : ∑ s ∈ Finset.Ico x y, F (b + s) = ∑ s ∈ Finset.Ico (b + x) (b + y), F s := by
  rw [Finset.sum_Ico_add]; congr 1; ring_nf

/-- A block of two chunks that starts at row `b`. -/
def shf (b : ℕ) (x : ℕ → ℕ → ℝ) (r κ : ℕ) : ℝ := x (b + r) κ
variable (b : ℕ)

def bS (c v κ : ℕ) : ℝ := gS lb f i (b + c * 64) v κ
def bD (c v κ : ℕ) : ℝ := gD N lb f q d (b + c * 64 + 64) v κ

theorem kR_sh (r κ : ℕ) : kR lb (shf b f) r κ = kR lb f (b + r) κ := rfl
theorem fR_sh (r κ : ℕ) : fR lb (shf b f) r κ = fR lb f (b + r) κ := rfl
theorem LR_sh (r κ : ℕ) : LR lb (shf b f) r κ = gP lb f (b + r + 1) κ - gP lb f (b + r / 64 * 64) κ := by
  have h : b + r + 1 = (b + r / 64 * 64) + (r % 64 + 1) := by omega
  rw [h, gP_add]
  unfold LR cumR
  rw [add_sub_cancel_left]
  exact Finset.sum_congr rfl fun u _ => by unfold lfR fR shf; rw [Nat.add_assoc]
theorem mid_sh (c κ : ℕ) : midR lb (shf b f) c κ = gP lb f (b + c * 64 + 32) κ - gP lb f (b + c * 64) κ := by
  unfold midR; rw [LR_sh]; congr 2 <;> omega
theorem last_sh (c κ : ℕ) : lastR lb (shf b f) c κ = gP lb f (b + c * 64 + 64) κ - gP lb f (b + c * 64) κ := by
  unfold lastR; rw [LR_sh]; congr 2 <;> omega
theorem eqa_eka (r s κ : ℕ) (h : r / 64 = s / 64) : ekaR lb (shf b f) s κ * eqaR lb (shf b f) r κ = gE lb f (b + r) (b + s) κ := by
  unfold ekaR eqaR gE; rw [← Real.exp_add, LR_sh, LR_sh, h]; congr 1; ring
theorem eqd_sh (r κ : ℕ) : eqdR lb (shf b f) r κ = Real.exp (gP lb f (b + r + 1) κ - gP lb f (b + r / 64 * 64) κ) := by
  unfold eqdR; rw [LR_sh]
theorem ekd_sh (r κ : ℕ) : ekdR lb (shf b f) r κ = Real.exp (gP lb f (b + r / 64 * 64 + 64) κ - gP lb f (b + r + 1) κ) := by
  unfold ekdR; rw [LR_sh, last_sh]; congr 1; ring
theorem dc_sh (c κ : ℕ) : dcR lb (shf b f) c κ = Real.exp (gP lb f (b + c * 64 + 64) κ - gP lb f (b + c * 64) κ) := by
  unfold dcR; rw [last_sh]

theorem dq1 (r κ : ℕ) (hr : r < 128) : dqaR lb (shf b f) (shf b i) (shf b d) r κ * eqaR lb (shf b f) r κ
    = ∑ s ∈ Finset.Ico (b + r / 64 * 64) (b + r + 1), gg i d (b + r) s * (kR lb f s κ * gE lb f (b + r) s κ) := by
  unfold dqaR
  rw [Finset.sum_mul, show b + r + 1 = b + (r + 1) by ring, ← sh, ← sumM_le _ r hr]
  refine Finset.sum_congr rfl fun s _ => ?_
  unfold dscR
  by_cases h : MR r s
  · simp only [h, if_true]
    unfold kaR
    rw [← eqa_eka lb f b r s κ h.1, kR_sh]
    simp only [gg, shf]; ring
  · simp only [h, if_false, zero_mul]
theorem dq2 (r κ : ℕ) : dqdR (shf b d) (bS lb f i b) r κ * eqdR lb (shf b f) r κ
    = ∑ s ∈ Finset.range (b + r / 64 * 64), gg i d (b + r) s * (kR lb f s κ * gE lb f (b + r) s κ) := by
  unfold dqdR bS gS gg
  simp only [Finset.mul_sum, Finset.sum_mul]
  rw [Finset.sum_comm]
  refine Finset.sum_congr rfl fun s _ => Finset.sum_congr rfl fun v _ => ?_
  rw [eqd_sh]
  have : gE lb f (b + r) s κ = Real.exp (gP lb f (b + r / 64 * 64) κ - gP lb f (s + 1) κ) * Real.exp (gP lb f (b + r + 1) κ - gP lb f (b + r / 64 * 64) κ) := by
    unfold gE; rw [← Real.exp_add]; congr 1; ring
  rw [this]; simp only [shf]; ring
theorem dq_sh (r κ : ℕ) (hr : r < 128) : dqR lb (shf b f) (shf b i) (shf b d) (bS lb f i b) r κ = gDq lb f i d (b + r) κ := by
  unfold dqR
  rw [dq1 lb f i d b r κ hr, dq2, add_comm]
  exact Finset.sum_range_add_sum_Ico _ (by omega)

theorem dk1 (s κ : ℕ) (hs : s < 128) : dkaR lb (shf b f) (shf b q) (shf b i) (shf b d) s κ * ekaR lb (shf b f) s κ
    = ∑ t ∈ Finset.Ico (b + s) (b + s / 64 * 64 + 64), gg i d t (b + s) * (q t κ * gE lb f t (b + s) κ) := by
  unfold dkaR
  rw [Finset.sum_mul, show b + s / 64 * 64 + 64 = b + (s / 64 * 64 + 64) by ring, ← sh, ← sumM_ge _ s hs]
  refine Finset.sum_congr rfl fun r _ => ?_
  unfold dscR
  by_cases h : MR r s
  · simp only [h, if_true]
    unfold qaR
    rw [← eqa_eka lb f b r s κ h.1]
    simp only [gg, shf]; ring
  · simp only [h, if_false, zero_mul]
theorem dk2 (s κ : ℕ) : dkdR (shf b i) (bD N lb f q d b) s κ * ekdR lb (shf b f) s κ
    = ∑ t ∈ Finset.Ico (b + s / 64 * 64 + 64) N, gg i d t (b + s) * (q t κ * gE lb f t (b + s) κ) := by
  unfold dkdR bD gD gg
  simp only [Finset.mul_sum, Finset.sum_mul]
  rw [Finset.sum_comm]
  refine Finset.sum_congr rfl fun t _ => Finset.sum_congr rfl fun v _ => ?_
  rw [ekd_sh]
  have : gE lb f t (b + s) κ = Real.exp (gP lb f (t + 1) κ - gP lb f (b + s / 64 * 64 + 64) κ) * Real.exp (gP lb f (b + s / 64 * 64 + 64) κ - gP lb f (b + s + 1) κ) := by
    unfold gE; rw [← Real.exp_add]; congr 1; ring
  rw [this]; simp only [shf]; ring
theorem dk_sh (s κ : ℕ) (hs : s < 128) (hN : b + 128 ≤ N) : dkR lb (shf b f) (shf b q) (shf b i) (shf b d) (bD N lb f q d b) s κ = gDk N lb f q i d (b + s) κ := by
  unfold dkR
  rw [dk1 lb f q i d b s κ hs, dk2]
  exact Finset.sum_Ico_consecutive _ (by omega) (by omega)

theorem di1 (s v : ℕ) (hs : s < 128) : diiR lb (shf b f) (shf b q) (shf b d) s v
    = ∑ t ∈ Finset.Ico (b + s) (b + s / 64 * 64 + 64), (∑ κ ∈ Finset.range 128, q t κ * (kR lb f (b + s) κ * gE lb f t (b + s) κ)) * d t v := by
  unfold diiR
  rw [show b + s / 64 * 64 + 64 = b + (s / 64 * 64 + 64) by ring, ← sh, ← sumM_ge _ s hs]
  refine Finset.sum_congr rfl fun r _ => ?_
  unfold scR
  by_cases h : MR r s
  · simp only [h, if_true]
    unfold qaR kaR
    congr 1
    refine Finset.sum_congr rfl fun κ _ => ?_
    rw [← eqa_eka lb f b r s κ h.1, kR_sh]
    simp only [shf]; ring
  · simp only [h, if_false, zero_mul]
theorem di2 (s v : ℕ) : (∑ κ ∈ Finset.range 128, kdR lb (shf b f) s κ * bD N lb f q d b (s / 64) v κ)
    = ∑ t ∈ Finset.Ico (b + s / 64 * 64 + 64) N, (∑ κ ∈ Finset.range 128, q t κ * (kR lb f (b + s) κ * gE lb f t (b + s) κ)) * d t v := by
  unfold bD gD kdR
  simp only [Finset.mul_sum, Finset.sum_mul]
  rw [Finset.sum_comm]
  refine Finset.sum_congr rfl fun t _ => Finset.sum_congr rfl fun κ _ => ?_
  rw [ekd_sh, kR_sh]
  have : gE lb f t (b + s) κ = Real.exp (gP lb f (t + 1) κ - gP lb f (b + s / 64 * 64 + 64) κ) * Real.exp (gP lb f (b + s / 64 * 64 + 64) κ - gP lb f (b + s + 1) κ) := by
    unfold gE; rw [← Real.exp_add]; congr 1; ring
  rw [this]; ring
theorem di_sh (s v : ℕ) (hs : s < 128) (hN : b + 128 ≤ N) : divR lb (shf b f) (shf b q) (shf b d) (bD N lb f q d b) s v = gDi N lb f q d (b + s) v := by
  unfold divR
  rw [di1 lb f q d b s v hs, di2]
  exact Finset.sum_Ico_consecutive _ (by omega) (by omega)

/-- The carried gradient before a chunk. -/
theorem dsn_sh (c v κ : ℕ) (hN : b + c * 64 + 64 ≤ N) : dsnR lb (shf b f) (shf b q) (shf b d) (bD N lb f q d b) c v κ = gD N lb f q d (b + c * 64) v κ := by
  unfold dsnR gD
  rw [← Finset.sum_Ico_consecutive _ (show b + c * 64 ≤ b + c * 64 + 64 by omega) hN, add_comm]
  congr 1
  · rw [← Nat.add_zero (b + c * 64), Nat.add_assoc (b + c * 64) 0 64, Nat.zero_add, ← sh, Finset.range_eq_Ico]
    refine Finset.sum_congr rfl fun x hx => ?_
    have := Finset.mem_Ico.mp hx
    unfold qdR; rw [eqd_sh]
    have e : (c * 64 + x) / 64 = c := by omega
    rw [e]
    simp only [shf, Nat.add_zero, Nat.add_assoc]
  · unfold bD gD
    rw [Finset.mul_sum]
    refine Finset.sum_congr rfl fun t _ => ?_
    rw [dc_sh]
    have : Real.exp (gP lb f (t + 1) κ - gP lb f (b + c * 64) κ) = Real.exp (gP lb f (t + 1) κ - gP lb f (b + c * 64 + 64) κ) * Real.exp (gP lb f (b + c * 64 + 64) κ - gP lb f (b + c * 64) κ) := by
      rw [← Real.exp_add]; congr 1; ring
    rw [this]; ring

theorem dl_sh (c κ : ℕ) (hc : c < 2) (hN : b + c * 64 + 64 ≤ N) : dlR lb (shf b f) (shf b i) (bS lb f i b) (bD N lb f q d b) c κ
    = gDlf N lb f q i d (b + c * 64 + 64) κ := by
  rw [gDlf_eq _ _ _ _ _ _ _ _ hN]
  have e : ∀ t, ∑ s ∈ Finset.range (b + c * 64 + 64), gW lb f q i d t s κ
      = (∑ s ∈ Finset.range (b + c * 64), gW lb f q i d t s κ) + ∑ s ∈ Finset.Ico (b + c * 64) (b + c * 64 + 64), gW lb f q i d t s κ :=
    fun t => (Finset.sum_range_add_sum_Ico _ (by omega)).symm
  simp only [e, Finset.sum_add_distrib]
  unfold dlR
  congr 1
  · unfold bS bD gS gD gW gg
    simp only [Finset.mul_sum, Finset.sum_mul]
    rw [Finset.sum_comm]
    conv_rhs => rw [Finset.sum_comm]
    refine Finset.sum_congr rfl fun s _ => ?_
    rw [Finset.sum_comm]
    refine Finset.sum_congr rfl fun t _ => Finset.sum_congr rfl fun v _ => ?_
    rw [dc_sh]
    have : gE lb f t s κ = Real.exp (gP lb f (t + 1) κ - gP lb f (b + c * 64 + 64) κ) * Real.exp (gP lb f (b + c * 64) κ - gP lb f (s + 1) κ) * Real.exp (gP lb f (b + c * 64 + 64) κ - gP lb f (b + c * 64) κ) := by
      unfold gE; rw [← Real.exp_add, ← Real.exp_add]; congr 1; ring
    rw [this]; ring
  · rw [Finset.sum_comm, show Finset.Ico (b + c * 64) (b + c * 64 + 64) = Finset.Ico (b + c * 64 + 0) (b + c * 64 + 64) from rfl, ← sh, Finset.range_eq_Ico]
    refine Finset.sum_congr rfl fun x hx => ?_
    have := Finset.mem_Ico.mp hx
    have h := dk2 N lb f q i d b (c * 64 + x) κ
    rw [show (c * 64 + x) / 64 = c by omega] at h
    unfold kdR
    rw [mul_left_comm, h, Finset.mul_sum, kR_sh]
    refine Finset.sum_congr rfl fun t _ => ?_
    unfold gW; simp only [Nat.add_assoc]; ring

theorem db_sh (r κ : ℕ) (hr : r < 128) (hN : b + 128 ≤ N) : dbR lb (shf b f) (shf b q) (shf b i) (shf b d) (bS lb f i b) (bD N lb f q d b) r κ
    = gDb N lb f q i d (b + r) κ + if r % 64 = 63 then gDlf N lb f q i d (b + r / 64 * 64 + 64) κ else 0 := by
  have hq := dq_sh lb f i d b r κ hr
  have hk := dk_sh N lb f q i d b r κ hr hN
  unfold dbR
  rw [dl_sh N lb f q i d b (r / 64) κ (by omega) (by omega)]
  congr 1
  have e1 : (∑ s ∈ Finset.range (b + r + 1), gW lb f q i d (b + r) s κ) = q (b + r) κ * gDq lb f i d (b + r) κ := by
    unfold gDq; rw [Finset.mul_sum]; exact Finset.sum_congr rfl fun s _ => by unfold gW; ring
  have e2 : (∑ t ∈ Finset.Ico (b + r) N, gW lb f q i d t (b + r) κ) = kR lb f (b + r) κ * gDk N lb f q i d (b + r) κ := by
    unfold gDk; rw [Finset.mul_sum]; exact Finset.sum_congr rfl fun s _ => by unfold gW; ring
  unfold gDb
  rw [e1, e2, ← hq, ← hk]
  unfold dqR dkR qaR kaR qdR kdR
  rw [kR_sh]
  simp only [shf]; ring

theorem dlf_sh (r κ : ℕ) (hr : r < 128) (hN : b + 128 ≤ N) : dlfR lb (shf b f) (shf b q) (shf b i) (shf b d) (bS lb f i b) (bD N lb f q d b) r κ
    = gDlf N lb f q i d (b + r) κ := by
  unfold dlfR sufR
  have hm : ∀ u ∈ Finset.range (64 - r % 64), dbR lb (shf b f) (shf b q) (shf b i) (shf b d) (bS lb f i b) (bD N lb f q d b) (r + u) κ
      = gDb N lb f q i d (b + r + u) κ + if u = 63 - r % 64 then gDlf N lb f q i d (b + r / 64 * 64 + 64) κ else 0 := fun u hu => by
    have := Finset.mem_range.mp hu
    rw [db_sh N lb f q i d b (r + u) κ (by omega) hN, show (r + u) / 64 = r / 64 by omega, show b + (r + u) = b + r + u by omega]
    congr 1
    by_cases h : u = 63 - r % 64
    · rw [if_pos h, if_pos (by omega)]
    · rw [if_neg h, if_neg (by omega)]
  rw [Finset.sum_congr rfl hm, Finset.sum_add_distrib, Finset.sum_ite_eq' , if_pos (Finset.mem_range.mpr (by omega))]
  have e := sh (fun t => gDb N lb f q i d t κ) (b + r) 0 (64 - r % 64)
  rw [Finset.range_eq_Ico, e]
  unfold gDlf
  rw [show b + r + (64 - r % 64) = b + r / 64 * 64 + 64 by omega, Nat.add_zero]
  exact Finset.sum_Ico_consecutive _ (by omega) (by omega)

theorem gf_sh (r κ : ℕ) (hr : r < 128) (hN : b + 128 ≤ N) : gfR lb (shf b f) (shf b q) (shf b i) (shf b d) (bS lb f i b) (bD N lb f q d b) r κ
    = gGf N lb f q i d (b + r) κ := by
  unfold gfR gGf; rw [dlf_sh N lb f q i d b r κ hr hN, dk_sh N lb f q i d b r κ hr hN, fR_sh]
theorem df_sh (r κ : ℕ) (hr : r < 128) (hN : b + 128 ≤ N) : dfR lb (shf b f) (shf b q) (shf b i) (shf b d) (bS lb f i b) (bD N lb f q d b) r κ
    = gDf N lb f q i d (b + r) κ := by
  unfold dfR gDf; rw [gf_sh N lb f q i d b r κ hr hN]; rfl
theorem dlb_sh (κ : ℕ) (hN : b + 128 ≤ N) : gDl N lb f q i d (b + 128) κ + dlbR lb (shf b f) (shf b q) (shf b i) (shf b d) (bS lb f i b) (bD N lb f q d b) κ
    = gDl N lb f q i d b κ := by
  unfold dlbR gDl
  rw [add_comm, ← Finset.sum_Ico_consecutive _ (show b ≤ b + 128 by omega) hN]
  congr 1
  rw [show Finset.Ico b (b + 128) = Finset.Ico (b + 0) (b + 128) from rfl, ← sh, Finset.range_eq_Ico]
  refine Finset.sum_congr rfl fun r hr => ?_
  rw [gf_sh N lb f q i d b r κ (Finset.mem_Ico.mp hr).2 hN]; rfl
theorem gDl_end (κ : ℕ) : gDl N lb f q i d N κ = 0 := by unfold gDl; simp
theorem gD_end (v κ : ℕ) : gD N lb f q d N v κ = 0 := by unfold gD; simp
end

end Cert.Hg

end

end
-- ==== Proof.HgPoint.lean ====
module

public import proofs.«01_k».proof.Proof.HgStage2
public import proofs.«01_k».proof.Proof.HgOutA
public import proofs.«01_k».proof.Proof.HgOutB
public import proofs.«01_k».proof.Proof.HgAccA
public import proofs.«01_k».proof.Proof.HgAccB
public import proofs.«01_k».proof.Proof.HgBlk
public import proofs.«01_k».proof.Proof.HgGlob

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg
variable (m : (ℓ : Loc nD τ sig) → Buf (Elt Ideal) ℓ)

/-- The arguments and the arrays the host code prepares are real numbers: `lb h κ`, `f h row κ` and so on. -/
structure Arr (c : Dev nD) (lb : ℕ → ℕ → ℝ) (f q i d : ℕ → ℕ → ℕ → ℝ) : Prop where
  h0 : ∀ h < 8, ∀ κ < 128, 0 < lb h κ
  h1 : ∀ h < 8, ∀ κ < 128, lb h κ < 1
  hl : ∀ (h : Fin 8) (κ : Fin 128) (hb : 128 * h.val + κ.val < 1024), V m c main_v8 (ix2 0 ⟨128 * h.val + κ.val, hb⟩) = ((lb h κ : ℝ) : EReal)
  hq : ∀ (r : Fin 8192) (h : Fin 8) (κ : Fin 128) (hb : 128 * h.val + κ.val < 7168),
    m ((c : Thread nD τ).loc main_arg0) (ix2 r ⟨128 * h.val + κ.val, hb⟩) = ((q h r κ : ℝ) : EReal)
  hf : ∀ (r : Fin 8192) (h : Fin 8) (κ : Fin 128) (hb : 1024 + (128 * h.val + κ.val) < 7168),
    m ((c : Thread nD τ).loc main_arg0) (ix2 r ⟨1024 + (128 * h.val + κ.val), hb⟩) = ((f h r κ : ℝ) : EReal)
  hi : ∀ (r : Fin 8192) (h : Fin 8) (κ : Fin 128) (hb : 2048 + (128 * h.val + κ.val) < 7168),
    m ((c : Thread nD τ).loc main_arg0) (ix2 r ⟨2048 + (128 * h.val + κ.val), hb⟩) = ((i h r κ : ℝ) : EReal)
  hd : ∀ (r : Fin 8192) (h : Fin 8) (κ : Fin 128) (hb : 128 * h.val + κ.val < 1024),
    m ((c : Thread nD τ).loc main_arg2) (ix2 r ⟨128 * h.val + κ.val, hb⟩) = ((d h r κ : ℝ) : EReal)
  hst : ∀ (h : Fin 8) (n : Fin 128) (v κ : Fin 128),
    V m c main_v60 (ix4 h n v κ) = ((gS (lb h) (f h) (i h) (64 * n.val) v κ : ℝ) : EReal)

section
variable {m} {c : Dev nD} {lb : ℕ → ℕ → ℝ} {f q i d : ℕ → ℕ → ℕ → ℝ} (A : Arr m c lb f q i d)
include A
theorem tiles (t : Fin cfg0.N) (h : Fin 8) (X : Vec Ideal S1x128x128 .f32) (hX : IsS X (gD 8192 (lb h) (f h) (q h) (d h) ((63 - t.val) * 128 + 128))) :
    Tiles (tL (iblk m c 3 t) h) (tT (iblk m c 1 t) h) (tT (iblk m c 0 t) h) (tT (iblk m c 2 t) h) (tT (iblk m c 4 t) h)
      (tS (iblk m c 5 t) h 1) (tS (iblk m c 5 t) h 0) X
      (lb h) (shf ((63 - t.val) * 128) (f h)) (shf ((63 - t.val) * 128) (q h)) (shf ((63 - t.val) * 128) (i h)) (shf ((63 - t.val) * 128) (d h))
      (bS (lb h) (f h) (i h) ((63 - t.val) * 128)) (bD 8192 (lb h) (f h) (q h) (d h) ((63 - t.val) * 128)) where
  hl κ := by rw [tL_apply _ h κ (by omega), blk3]; exact A.hl h κ _
  h0 := A.h0 h h.isLt
  h1 := A.h1 h h.isLt
  hf r κ := by rw [tT_apply _ h r κ (by omega), blk1]; exact A.hf _ h κ _
  hq r κ := by rw [tT_apply _ h r κ (by omega), blk0]; exact A.hq _ h κ _
  hi r κ := by rw [tT_apply _ h r κ (by omega), blk2]; exact A.hi _ h κ _
  hd r κ := by rw [tT_apply _ h r κ (by omega), blk4]; exact A.hd _ h κ _
  hst1 v κ := by
    rw [tS_apply, blk5, A.hst]; unfold bS
    rw [show 64 * ((63 - t.val) * 2 + ((1 : Fin 2)).val) = (63 - t.val) * 128 + 1 * 64 by simp; omega]
  hst0 v κ := by
    rw [tS_apply, blk5, A.hst]; unfold bS
    rw [show 64 * ((63 - t.val) * 2 + ((0 : Fin 2)).val) = (63 - t.val) * 128 + 0 * 64 by simp; omega]
  hds := hX
  hds1 := by
    funext v κ
    rw [dsn_sh _ _ _ _ _ _ _ _ _ (by omega)]; rfl

/-- What the points up to `t` leave in the two accumulators. -/
theorem carried : ∀ n (hn : n < cfg0.N), (∀ (h : Fin 8) (v κ : Fin 128), (outsAt0 m c n hn).2.2.2.2 (ix3 h v κ)
      = ((gD 8192 (lb h) (f h) (q h) (d h) ((63 - n) * 128) v κ : ℝ) : EReal))
    ∧ ∀ (r : Fin 8) (h : Fin 8) (κ : Fin 128) (hb : 128 * h.val + κ.val < 1024), (outsAt0 m c n hn).2.2.2.1 (ix2 r ⟨128 * h.val + κ.val, hb⟩)
      = ((gDl 8192 (lb h) (f h) (q h) (i h) (d h) ((63 - n) * 128) κ : ℝ) : EReal) := by
  intro n
  induction n with
  | zero =>
    intro hn
    have hX : ∀ h : Fin 8, IsS (tD (e := .f32) (k0_pay3 (F := Ideal)) h) (gD 8192 (lb h) (f h) (q h) (d h) ((63 - 0) * 128 + 128)) := fun h v κ => by
      rw [tD_apply, gD_end]; pointwise [k0_pay3]; rfl
    have T := fun h => tiles A ⟨0, hn⟩ h _ (hX h)
    refine ⟨fun h v κ => ?_, fun r h κ hb => ?_⟩
    · rw [out10_A m c ⟨0, hn⟩ rfl h v κ]
      refine (isDs0 (T h) v κ).trans (congrArg _ ?_)
      exact dsn_sh _ _ _ _ _ _ 0 v κ (by simp)
    · rw [out9_A m c ⟨0, hn⟩ rfl r h κ hb, isDlb (T h) κ]
      have := dlb_sh 8192 (lb h) (f h) (q h) (i h) (d h) ((63 - 0) * 128) κ (by omega)
      rw [← this, show (63 - 0) * 128 + 128 = 8192 from rfl, gDl_end, zero_add]
      have e : (k0_pay4 (F := Ideal)) (ix2 r ⟨128 * h.val + κ.val, hb⟩) = 0 := by pointwise [k0_pay4]
      rw [e, zero_add]
  | succ n ih =>
    intro hn
    have hlt : n + 1 < 64 := hn
    obtain ⟨i1, i2⟩ := ih (Nat.lt_of_succ_lt hn)
    have e : (63 - (n + 1)) * 128 + 128 = (63 - n) * 128 := by omega
    have hX : ∀ h : Fin 8, IsS (tD (outsAt0 m c n (Nat.lt_of_succ_lt hn)).2.2.2.2 h) (gD 8192 (lb h) (f h) (q h) (d h) ((63 - (n + 1)) * 128 + 128)) := fun h v κ => by
      rw [tD_apply, i1, e]
    have T := fun h => tiles A ⟨n + 1, hn⟩ h _ (hX h)
    have hne : ¬ (⟨n + 1, hn⟩ : Fin cfg0.N).val % 64 = 0 := by show ¬ (n + 1) % 64 = 0; omega
    refine ⟨fun h v κ => ?_, fun r h κ hb => ?_⟩
    · rw [out10_B m c ⟨n + 1, hn⟩ hne h v κ]
      refine (isDs0 (T h) v κ).trans (congrArg _ ?_)
      exact dsn_sh _ _ _ _ _ _ 0 v κ (by omega)
    · rw [out9_B m c ⟨n + 1, hn⟩ hne r h κ hb]
      refine (congrArg₂ (· + ·) (i2 r h κ hb) (isDlb (T h) κ)).trans ?_
      have := dlb_sh 8192 (lb h) (f h) (q h) (i h) (d h) ((63 - (n + 1)) * 128) κ (by omega)
      rw [← this, e, EReal.coe_add]

/-- The scratch that point `t` reads. -/
def scr (m : (ℓ : Loc nD τ sig) → Buf (Elt Ideal) ℓ) (c : Dev nD) (t : Fin cfg0.N) (h : Fin 8) : Vec Ideal S1x128x128 .f32 :=
  if t.val % 64 = 0 then tD (k0_pay3 (F := Ideal)) h else tD (outsAt0 m c (t.val - 1) (by have := t.isLt; omega)).2.2.2.2 h
theorem scr_is (t : Fin cfg0.N) (h : Fin 8) : IsS (scr m c t h) (gD 8192 (lb h) (f h) (q h) (d h) ((63 - t.val) * 128 + 128)) := by
  have := ht t
  intro v κ; unfold scr
  split_ifs with h0
  · rw [show t.val = 0 by omega, tD_apply, gD_end]; pointwise [k0_pay3]; rfl
  · rw [tD_apply, (carried A (t.val - 1) _).1, show (63 - (t.val - 1)) * 128 = (63 - t.val) * 128 + 128 by omega]

theorem p6 (t : Fin cfg0.N) (r : Fin 128) (h : Fin 8) (κ : Fin 128) (hb : 128 * h.val + κ.val < 1024) :
    (outsAt0 m c t.val t.isLt).1 (ix2 r ⟨128 * h.val + κ.val, hb⟩) = ((gDq (lb h) (f h) (i h) (d h) ((63 - t.val) * 128 + r.val) κ : ℝ) : EReal) := by
  rw [← dq_sh _ _ _ _ _ _ _ r.isLt, ← isDq (tiles A t h _ (scr_is A t h)) r κ]
  by_cases hh : t.val % 64 = 0
  · exact out6_A m c t hh r h κ hb
  · exact out6_B m c t hh r h κ hb
theorem p7 (t : Fin cfg0.N) (r : Fin 128) (h : Fin 8) (κ : Fin 128) (hb : 128 * h.val + κ.val < 1024) :
    (outsAt0 m c t.val t.isLt).2.1 (ix2 r ⟨128 * h.val + κ.val, hb⟩) = ((gDf 8192 (lb h) (f h) (q h) (i h) (d h) ((63 - t.val) * 128 + r.val) κ : ℝ) : EReal) := by
  have := ht t
  rw [← df_sh _ _ _ _ _ _ _ _ _ r.isLt (by omega), ← isDf (tiles A t h _ (scr_is A t h)) r κ]
  by_cases hh : t.val % 64 = 0
  · rw [out7_A m c t hh r h κ hb]; unfold scr; rw [if_pos hh]
  · rw [out7_B m c t hh r h κ hb]; unfold scr; rw [if_neg hh]
theorem p8 (t : Fin cfg0.N) (r : Fin 128) (h : Fin 8) (κ : Fin 128) (hb : 128 * h.val + κ.val < 1024) :
    (outsAt0 m c t.val t.isLt).2.2.1 (ix2 r ⟨128 * h.val + κ.val, hb⟩) = ((gDi 8192 (lb h) (f h) (q h) (d h) ((63 - t.val) * 128 + r.val) κ : ℝ) : EReal) := by
  have := ht t
  rw [← di_sh _ _ _ _ _ _ _ _ r.isLt (by omega)]
  by_cases h64 : r.val < 64
  · refine Eq.trans ?_ (isDi0 (tiles A t h _ (scr_is A t h)) ⟨r.val, h64⟩ κ)
    by_cases hh : t.val % 64 = 0
    · have := out8l_A m c t hh ⟨r.val, h64⟩ h κ hb
      unfold scr; rw [if_pos hh, ← this]
    · have := out8l_B m c t hh ⟨r.val, h64⟩ h κ hb
      unfold scr; rw [if_neg hh, ← this]
  · have e : r = ⟨64 + (r.val - 64), by omega⟩ := Fin.ext (by simp; omega)
    have key := isDi1 (tiles A t h _ (scr_is A t h)) ⟨r.val - 64, by omega⟩ κ
    simp only [show 64 + (r.val - 64) = r.val by omega] at key
    refine Eq.trans ?_ key
    by_cases hh : t.val % 64 = 0
    · have := out8h_A m c t hh ⟨r.val - 64, by omega⟩ h κ hb
      unfold scr; rw [if_pos hh, ← this]; exact congrArg (fun z => (outsAt0 m c t.val t.isLt).2.2.1 (ix2 z _)) e
    · have := out8h_B m c t hh ⟨r.val - 64, by omega⟩ h κ hb
      unfold scr; rw [if_neg hh, ← this]; exact congrArg (fun z => (outsAt0 m c t.val t.isLt).2.2.1 (ix2 z _)) e
end

end Cert.KernelIdeal.Value

end

end
-- ==== Proof.HgFin.lean ====
module

public import proofs.«01_k».proof.Proof.HgPoint

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg
variable (m : (ℓ : Loc nD τ sig) → Buf (Elt Ideal) ℓ)

theorem lane (j : ℕ) (hj : j < 1024) : ∃ (h : Fin 8) (κ : Fin 128), j = 128 * h.val + κ.val :=
  ⟨⟨j / 128, by omega⟩, ⟨j % 128, by omega⟩, by simp only []; omega⟩
section
variable {m} {c : Dev nD} {lb : ℕ → ℕ → ℝ} {f q i d : ℕ → ℕ → ℕ → ℝ} (A : Arr m c lb f q i d)
include A

theorem fin6 (G : Vec Ideal S8192x1024 .bf16) (hG : ∀ (r : Fin 8192) (h : Fin 8) (κ : Fin 128) (hb : 128 * h.val + κ.val < 1024),
      G (ix2 r ⟨128 * h.val + κ.val, hb⟩) = ((gDq (lb h) (f h) (i h) (d h) r κ : ℝ) : EReal)) :
    (dats m 0 c).arrAt 6 (cfgs 0).N = G := by
  refine (dats m 0 c).arrAt_eq_of_covers 6 _ (by decide +kernel) fun t _ y => ?_
  blk_simp
  rw [after0_6]
  have y0 : (y 0).val < 128 := (y 0).isLt
  have y1 : (y 1).val < 1024 := (y 1).isLt
  have hlt := ht t
  obtain ⟨h, κ, e⟩ := lane (y 1).val y1
  have hy : y = ix2 (⟨(y 0).val, y0⟩ : Fin 128) (⟨128 * h.val + κ.val, by omega⟩ : Fin 1024) := by
    funext a; fin_cases a
    · rfl
    · exact Fin.ext e
  rw [hy]
  refine (p6 A t ⟨(y 0).val, y0⟩ h κ (by omega)).trans ?_
  refine (hG ⟨(63 - t.val) * 128 + (y 0).val, by omega⟩ h κ (by omega)).symm.trans ?_
  blk_point [idx t]

theorem fin7 (G : Vec Ideal S8192x1024 .bf16) (hG : ∀ (r : Fin 8192) (h : Fin 8) (κ : Fin 128) (hb : 128 * h.val + κ.val < 1024),
      G (ix2 r ⟨128 * h.val + κ.val, hb⟩) = ((gDf 8192 (lb h) (f h) (q h) (i h) (d h) r κ : ℝ) : EReal)) :
    (dats m 0 c).arrAt 7 (cfgs 0).N = G := by
  refine (dats m 0 c).arrAt_eq_of_covers 7 _ (by decide +kernel) fun t _ y => ?_
  blk_simp
  rw [after0_7]
  have y0 : (y 0).val < 128 := (y 0).isLt
  have y1 : (y 1).val < 1024 := (y 1).isLt
  have hlt := ht t
  obtain ⟨h, κ, e⟩ := lane (y 1).val y1
  have hy : y = ix2 (⟨(y 0).val, y0⟩ : Fin 128) (⟨128 * h.val + κ.val, by omega⟩ : Fin 1024) := by
    funext a; fin_cases a
    · rfl
    · exact Fin.ext e
  rw [hy]
  refine (p7 A t ⟨(y 0).val, y0⟩ h κ (by omega)).trans ?_
  refine (hG ⟨(63 - t.val) * 128 + (y 0).val, by omega⟩ h κ (by omega)).symm.trans ?_
  blk_point [idx t]

theorem fin8 (G : Vec Ideal S8192x1024 .bf16) (hG : ∀ (r : Fin 8192) (h : Fin 8) (κ : Fin 128) (hb : 128 * h.val + κ.val < 1024),
      G (ix2 r ⟨128 * h.val + κ.val, hb⟩) = ((gDi 8192 (lb h) (f h) (q h) (d h) r κ : ℝ) : EReal)) :
    (dats m 0 c).arrAt 8 (cfgs 0).N = G := by
  refine (dats m 0 c).arrAt_eq_of_covers 8 _ (by decide +kernel) fun t _ y => ?_
  blk_simp
  rw [after0_8]
  have y0 : (y 0).val < 128 := (y 0).isLt
  have y1 : (y 1).val < 1024 := (y 1).isLt
  have hlt := ht t
  obtain ⟨h, κ, e⟩ := lane (y 1).val y1
  have hy : y = ix2 (⟨(y 0).val, y0⟩ : Fin 128) (⟨128 * h.val + κ.val, by omega⟩ : Fin 1024) := by
    funext a; fin_cases a
    · rfl
    · exact Fin.ext e
  rw [hy]
  refine (p8 A t ⟨(y 0).val, y0⟩ h κ (by omega)).trans ?_
  refine (hG ⟨(63 - t.val) * 128 + (y 0).val, by omega⟩ h κ (by omega)).symm.trans ?_
  blk_point [idx t]

theorem fin9 (G : Vec Ideal S8x1024 .f32) (hG : ∀ (r : Fin 8) (h : Fin 8) (κ : Fin 128) (hb : 128 * h.val + κ.val < 1024),
      G (ix2 r ⟨128 * h.val + κ.val, hb⟩) = ((gDl 8192 (lb h) (f h) (q h) (i h) (d h) 0 κ : ℝ) : EReal)) :
    (dats m 0 c).arrAt 9 (cfgs 0).N = G := by
  refine (dats m 0 c).arrAt_eq_of_covers 9 _ (by decide +kernel) fun t hf y => ?_
  blk_simp
  rw [after0_9]
  have y0 : (y 0).val < 8 := (y 0).isLt
  have y1 : (y 1).val < 1024 := (y 1).isLt
  have hlt := ht t
  have h63 : t.val = 63 := by have := (flush0_9 t).mp hf; omega
  obtain ⟨h, κ, e⟩ := lane (y 1).val y1
  have hy : y = ix2 (⟨(y 0).val, y0⟩ : Fin 8) (⟨128 * h.val + κ.val, by omega⟩ : Fin 1024) := by
    funext a; fin_cases a
    · rfl
    · exact Fin.ext e
  rw [hy]
  refine ((carried A t.val t.isLt).2 ⟨(y 0).val, y0⟩ h κ (by omega)).trans ?_
  rw [show (63 - t.val) * 128 = 0 by omega]
  refine (hG ⟨(y 0).val, by omega⟩ h κ (by omega)).symm.trans ?_
  blk_point [idx t]
end

end Cert.KernelIdeal.Value

end

end
-- ==== Proof.HgSum.lean ====
module

public import proofs.«01_k».proof.Proof.HgBase

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg

/-- Adding up a list from the left. -/
theorem fold_add {α : Type} (g : α → EReal) (v : EReal) (l : List α) :
    l.foldl (fun r n => r + g n) v = v + (l.map g).sum := by
  induction l generalizing v with
  | nil => simp
  | cons a l ih => rw [List.foldl_cons, ih, List.map_cons, List.sum_cons, add_assoc]

theorem fold_real {n : ℕ} (N : ℕ) (hn : n = N) (g : Fin n → EReal) (f : ℕ → ℝ) (hg : ∀ k, g k = ((f k.val : ℝ) : EReal)) :
    (List.finRange n).foldl (fun r k => r + g k) ((0 : ℝ) : EReal) = ((∑ k ∈ Finset.range N, f k : ℝ) : EReal) := by
  subst hn
  rw [fold_add, ← Fin.sum_univ_def, EReal.coe_zero, zero_add, Finset.sum_congr rfl (fun k _ => hg k), coe_sum, Finset.sum_range]

theorem range_up (N Nm t : ℕ) (hN : Nm + 1 = N) (ht : t < N) (f : ℕ → ℝ) :
    (∑ k ∈ Finset.range N, if Nm ≤ t + k then f (t + k - Nm) else 0) = ∑ s ∈ Finset.range (t + 1), f s := by
  conv_lhs => rw [show N = (Nm - t) + (t + 1) by omega, Finset.sum_range_add]
  rw [Finset.sum_eq_zero, zero_add]
  · refine Finset.sum_congr rfl fun u _ => ?_
    rw [if_pos (by omega)]; congr 1; omega
  · intro u hu; rw [Finset.mem_range] at hu; rw [if_neg (by omega)]

theorem range_dn (N t : ℕ) (ht : t < N) (f : ℕ → ℝ) :
    (∑ k ∈ Finset.range N, if t + k < N then f (t + k) else 0) = ∑ s ∈ Finset.Ico t N, f s := by
  rw [Finset.sum_Ico_eq_sum_range, ← Finset.sum_filter]
  refine Finset.sum_congr ?_ fun _ _ => rfl
  ext k; rw [Finset.mem_filter, Finset.mem_range, Finset.mem_range]; omega

theorem window3 {N : ℕ} (n : Fin (⟨3, ![N, 1, 1]⟩ : Shape).numel) :
    ((⟨3, ![N, 1, 1]⟩ : Shape).rowMajor.symm n 0).val = n.val ∧ ((⟨3, ![N, 1, 1]⟩ : Shape).rowMajor.symm n 1).val = 0
      ∧ ((⟨3, ![N, 1, 1]⟩ : Shape).rowMajor.symm n 2).val = 0 := by
  have e := Shape.rowMajor_val_three ((⟨3, ![N, 1, 1]⟩ : Shape).rowMajor.symm n)
  rw [Equiv.apply_symm_apply] at e
  have h1 : ((⟨3, ![N, 1, 1]⟩ : Shape).rowMajor.symm n 1).val < 1 := ((⟨3, ![N, 1, 1]⟩ : Shape).rowMajor.symm n 1).isLt
  have h2 : ((⟨3, ![N, 1, 1]⟩ : Shape).rowMajor.symm n 2).val < 1 := ((⟨3, ![N, 1, 1]⟩ : Shape).rowMajor.symm n 2).isLt
  change n.val = (((⟨3, ![N, 1, 1]⟩ : Shape).rowMajor.symm n 0).val * 1 + ((⟨3, ![N, 1, 1]⟩ : Shape).rowMajor.symm n 1).val) * 1 + ((⟨3, ![N, 1, 1]⟩ : Shape).rowMajor.symm n 2).val at e
  refine ⟨?_, by omega, by omega⟩
  omega

theorem window2 {N : ℕ} (n : Fin (⟨2, ![N, 1]⟩ : Shape).numel) :
    ((⟨2, ![N, 1]⟩ : Shape).rowMajor.symm n 0).val = n.val ∧ ((⟨2, ![N, 1]⟩ : Shape).rowMajor.symm n 1).val = 0 := by
  have e := Shape.rowMajor_val_two ((⟨2, ![N, 1]⟩ : Shape).rowMajor.symm n)
  rw [Equiv.apply_symm_apply] at e
  have h1 : ((⟨2, ![N, 1]⟩ : Shape).rowMajor.symm n 1).val < 1 := ((⟨2, ![N, 1]⟩ : Shape).rowMajor.symm n 1).isLt
  change n.val = ((⟨2, ![N, 1]⟩ : Shape).rowMajor.symm n 0).val * 1 + ((⟨2, ![N, 1]⟩ : Shape).rowMajor.symm n 1).val at e
  refine ⟨?_, by omega⟩
  omega

/-- A running sum along the first of three axes. -/
theorem run3 {N Nm A B : ℕ} (hN : Nm + 1 = N) (x : (⟨3, ![N, A, B]⟩ : Shape).Idx → EReal) (init : (⟨0, ![]⟩ : Shape).Idx → EReal)
    (hi : ∀ i, init i = ((0 : ℝ) : EReal)) (h : (⟨3, ![N, A, B]⟩ : Shape).ReduceWindows ![N, 1, 1] ![1, 1, 1] ![Nm, 0, 0] ![0, 0, 0] ⟨3, ![N, A, B]⟩) (hu)
    (f : ℕ → ℝ) (a : Fin A) (b : Fin B) (hx : ∀ s : Fin N, x (ix3 s a b) = ((f s : ℝ) : EReal)) (t : Fin N) :
    Host.reduceWindow (· + ·) ![N, 1, 1] ![1, 1, 1] ![Nm, 0, 0] ![0, 0, 0] x init h hu (ix3 t a b)
      = ((∑ s ∈ Finset.range (t.val + 1), f s : ℝ) : EReal) := by
  have hn : (⟨3, ![N, 1, 1]⟩ : Shape).numel = N := by simp [Shape.numel, Fin.prod_univ_three]
  unfold Host.reduceWindow
  dsimp only
  rw [hi]
  rw [fold_real N hn _ (fun n => if Nm ≤ t.val + n then f (t.val + n - Nm) else 0)]
  · exact congrArg _ (range_up N Nm t.val hN t.isLt f)
  · intro n
    obtain ⟨w0, w1, w2⟩ := window3 n
    have hnn : n.val < N := lt_of_lt_of_eq n.isLt hn
    have ht := t.isLt
    split
    · next hin =>
      have h0 := hin 0
      change Nm ≤ t.val * 1 + ((⟨3, ![N, 1, 1]⟩ : Shape).rowMajor.symm n 0).val ∧ t.val * 1 + ((⟨3, ![N, 1, 1]⟩ : Shape).rowMajor.symm n 0).val - Nm < N at h0
      rw [w0] at h0
      rw [if_pos (by omega)]
      refine Eq.trans (congrArg x ?_) ((hx ⟨t.val + n.val - Nm, by omega⟩))
      funext k
      refine Fin.ext ?_
      match k with
      | ⟨0, _⟩ => show t.val * 1 + ((⟨3, ![N, 1, 1]⟩ : Shape).rowMajor.symm n 0).val - Nm = t.val + n.val - Nm; rw [w0]; omega
      | ⟨1, _⟩ => show a.val * 1 + ((⟨3, ![N, 1, 1]⟩ : Shape).rowMajor.symm n 1).val - 0 = a.val; rw [w1]; omega
      | ⟨2, _⟩ => show b.val * 1 + ((⟨3, ![N, 1, 1]⟩ : Shape).rowMajor.symm n 2).val - 0 = b.val; rw [w2]; omega
    · next hin =>
      rw [if_neg]
      intro hc
      refine hin fun k => ?_
      match k with
      | ⟨0, _⟩ =>
        show Nm ≤ t.val * 1 + ((⟨3, ![N, 1, 1]⟩ : Shape).rowMajor.symm n 0).val ∧ t.val * 1 + ((⟨3, ![N, 1, 1]⟩ : Shape).rowMajor.symm n 0).val - Nm < N
        rw [w0]; omega
      | ⟨1, _⟩ =>
        have := a.isLt
        show 0 ≤ a.val * 1 + ((⟨3, ![N, 1, 1]⟩ : Shape).rowMajor.symm n 1).val ∧ a.val * 1 + ((⟨3, ![N, 1, 1]⟩ : Shape).rowMajor.symm n 1).val - 0 < A
        rw [w1]; omega
      | ⟨2, _⟩ =>
        have := b.isLt
        show 0 ≤ b.val * 1 + ((⟨3, ![N, 1, 1]⟩ : Shape).rowMajor.symm n 2).val ∧ b.val * 1 + ((⟨3, ![N, 1, 1]⟩ : Shape).rowMajor.symm n 2).val - 0 < B
        rw [w2]; omega

/-- The same sum from the end. -/
theorem back3 {N Nm A B : ℕ} (hN : Nm + 1 = N) (x : (⟨3, ![N, A, B]⟩ : Shape).Idx → EReal) (init : (⟨0, ![]⟩ : Shape).Idx → EReal)
    (hi : ∀ i, init i = ((0 : ℝ) : EReal)) (h : (⟨3, ![N, A, B]⟩ : Shape).ReduceWindows ![N, 1, 1] ![1, 1, 1] ![0, 0, 0] ![Nm, 0, 0] ⟨3, ![N, A, B]⟩) (hu)
    (f : ℕ → ℝ) (a : Fin A) (b : Fin B) (hx : ∀ s : Fin N, x (ix3 s a b) = ((f s : ℝ) : EReal)) (t : Fin N) :
    Host.reduceWindow (· + ·) ![N, 1, 1] ![1, 1, 1] ![0, 0, 0] ![Nm, 0, 0] x init h hu (ix3 t a b)
      = ((∑ s ∈ Finset.Ico t.val N, f s : ℝ) : EReal) := by
  have hn : (⟨3, ![N, 1, 1]⟩ : Shape).numel = N := by simp [Shape.numel, Fin.prod_univ_three]
  unfold Host.reduceWindow
  dsimp only
  rw [hi]
  rw [fold_real N hn _ (fun n => if t.val + n < N then f (t.val + n) else 0)]
  · exact congrArg _ (range_dn N t.val t.isLt f)
  · intro n
    obtain ⟨w0, w1, w2⟩ := window3 n
    have hnn : n.val < N := lt_of_lt_of_eq n.isLt hn
    have ht := t.isLt
    split
    · next hin =>
      have h0 := hin 0
      change 0 ≤ t.val * 1 + ((⟨3, ![N, 1, 1]⟩ : Shape).rowMajor.symm n 0).val ∧ t.val * 1 + ((⟨3, ![N, 1, 1]⟩ : Shape).rowMajor.symm n 0).val - 0 < N at h0
      rw [w0] at h0
      rw [if_pos (by omega)]
      refine Eq.trans (congrArg x ?_) ((hx ⟨t.val + n.val, by omega⟩))
      funext k
      refine Fin.ext ?_
      match k with
      | ⟨0, _⟩ => show t.val * 1 + ((⟨3, ![N, 1, 1]⟩ : Shape).rowMajor.symm n 0).val - 0 = t.val + n.val; rw [w0]; omega
      | ⟨1, _⟩ => show a.val * 1 + ((⟨3, ![N, 1, 1]⟩ : Shape).rowMajor.symm n 1).val - 0 = a.val; rw [w1]; omega
      | ⟨2, _⟩ => show b.val * 1 + ((⟨3, ![N, 1, 1]⟩ : Shape).rowMajor.symm n 2).val - 0 = b.val; rw [w2]; omega
    · next hin =>
      rw [if_neg]
      intro hc
      refine hin fun k => ?_
      match k with
      | ⟨0, _⟩ =>
        show 0 ≤ t.val * 1 + ((⟨3, ![N, 1, 1]⟩ : Shape).rowMajor.symm n 0).val ∧ t.val * 1 + ((⟨3, ![N, 1, 1]⟩ : Shape).rowMajor.symm n 0).val - 0 < N
        rw [w0]; omega
      | ⟨1, _⟩ =>
        have := a.isLt
        show 0 ≤ a.val * 1 + ((⟨3, ![N, 1, 1]⟩ : Shape).rowMajor.symm n 1).val ∧ a.val * 1 + ((⟨3, ![N, 1, 1]⟩ : Shape).rowMajor.symm n 1).val - 0 < A
        rw [w1]; omega
      | ⟨2, _⟩ =>
        have := b.isLt
        show 0 ≤ b.val * 1 + ((⟨3, ![N, 1, 1]⟩ : Shape).rowMajor.symm n 2).val ∧ b.val * 1 + ((⟨3, ![N, 1, 1]⟩ : Shape).rowMajor.symm n 2).val - 0 < B
        rw [w2]; omega

/-- The first row of a running sum over rows is the first row. -/
theorem run2 {N Nm B : ℕ} (hN : Nm + 1 = N) (x : (⟨2, ![N, B]⟩ : Shape).Idx → EReal) (init : (⟨0, ![]⟩ : Shape).Idx → EReal)
    (hi : ∀ i, init i = ((0 : ℝ) : EReal)) (h : (⟨2, ![N, B]⟩ : Shape).ReduceWindows ![N, 1] ![1, 1] ![Nm, 0] ![0, 0] ⟨2, ![N, B]⟩) (hu)
    (f : ℕ → ℝ) (b : Fin B) (hx : ∀ s : Fin N, x (ix2 s b) = ((f s : ℝ) : EReal)) (t : Fin N) :
    Host.reduceWindow (· + ·) ![N, 1] ![1, 1] ![Nm, 0] ![0, 0] x init h hu (ix2 t b)
      = ((∑ s ∈ Finset.range (t.val + 1), f s : ℝ) : EReal) := by
  have hn : (⟨2, ![N, 1]⟩ : Shape).numel = N := by simp [Shape.numel, Fin.prod_univ_two]
  unfold Host.reduceWindow
  dsimp only
  rw [hi]
  rw [fold_real N hn _ (fun n => if Nm ≤ t.val + n then f (t.val + n - Nm) else 0)]
  · exact congrArg _ (range_up N Nm t.val hN t.isLt f)
  · intro n
    obtain ⟨w0, w1⟩ := window2 n
    have hnn : n.val < N := lt_of_lt_of_eq n.isLt hn
    have ht := t.isLt
    split
    · next hin =>
      have h0 := hin 0
      change Nm ≤ t.val * 1 + ((⟨2, ![N, 1]⟩ : Shape).rowMajor.symm n 0).val ∧ t.val * 1 + ((⟨2, ![N, 1]⟩ : Shape).rowMajor.symm n 0).val - Nm < N at h0
      rw [w0] at h0
      rw [if_pos (by omega)]
      refine Eq.trans (congrArg x ?_) ((hx ⟨t.val + n.val - Nm, by omega⟩))
      funext k
      refine Fin.ext ?_
      match k with
      | ⟨0, _⟩ => show t.val * 1 + ((⟨2, ![N, 1]⟩ : Shape).rowMajor.symm n 0).val - Nm = t.val + n.val - Nm; rw [w0]; omega
      | ⟨1, _⟩ => show b.val * 1 + ((⟨2, ![N, 1]⟩ : Shape).rowMajor.symm n 1).val - 0 = b.val; rw [w1]; omega
    · next hin =>
      rw [if_neg]
      intro hc
      refine hin fun k => ?_
      match k with
      | ⟨0, _⟩ =>
        show Nm ≤ t.val * 1 + ((⟨2, ![N, 1]⟩ : Shape).rowMajor.symm n 0).val ∧ t.val * 1 + ((⟨2, ![N, 1]⟩ : Shape).rowMajor.symm n 0).val - Nm < N
        rw [w0]; omega
      | ⟨1, _⟩ =>
        have := b.isLt
        show 0 ≤ b.val * 1 + ((⟨2, ![N, 1]⟩ : Shape).rowMajor.symm n 1).val ∧ b.val * 1 + ((⟨2, ![N, 1]⟩ : Shape).rowMajor.symm n 1).val - 0 < B
        rw [w1]; omega

end Cert.KernelIdeal.Value

end

end
-- ==== Proof.HgHost.lean ====
module

public import proofs.«01_k».proof.Proof.HgSum
public import proofs.«01_k».proof.Proof.HgGlob

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg
variable (m : (ℓ : Loc nD τ sig) → Buf (Elt Ideal) ℓ)

theorem after_app (l k : List (HloOp τ sig (Elt Ideal))) (σ : Valuation τ sig (Elt Ideal)) :
    StableHlo.after (l ++ k) σ = StableHlo.after k (StableHlo.after l σ) := by
  induction l generalizing σ with
  | nil => rfl
  | cons a l ih => rw [List.cons_append, StableHlo.after_cons, StableHlo.after_cons, ih]

theorem zero_c : (Ideal.ofBits .f32 0x00000000#32 : EReal) = ((0 : ℝ) : EReal) := by
  rw [Ideal.ofBits_zero_f32, EReal.coe_zero]

theorem sum_cut {N T : ℕ} (hT : T ≤ N) (G : ℕ → ℝ) : (∑ k : Fin N, if k.val < T then G k else 0) = ∑ s ∈ Finset.range T, G s := by
  refine (Finset.sum_range (fun s => if s < T then G s else 0)).symm.trans ?_
  rw [← Finset.sum_filter]
  refine Finset.sum_congr ?_ fun _ _ => rfl
  ext k
  rw [Finset.mem_filter, Finset.mem_range, Finset.mem_range]; omega

/-- The logistic function written out on a real number. -/
theorem sig_coe (x : ℝ) : Ideal.div 1 (1 + Ideal.exp (-((x : ℝ) : EReal))) = ((sg x : ℝ) : EReal) := by
  have := Ideal.logistic_coe x
  exact this

theorem fR_posA (lb : ℕ → ℝ) (f : ℕ → ℕ → ℝ) (r κ : ℕ) (h0 : 0 < lb κ) (h1 : lb κ < 1) : 0 < fR lb f r κ := by
  unfold fR
  have := mul_pos (sub_pos.mpr h1) (sg_pos (f r κ))
  linarith

theorem log_coe' (x : ℝ) (hx : 0 < x) : Ideal.log ((x : ℝ) : EReal) = ((Real.log x : ℝ) : EReal) := by
  rw [Ideal.log_coe, if_neg (by linarith)]

/-- The lower bound of the forget gate, by head and lane. -/
def lbA (a : ℕ → ℕ → ℝ) (h κ : ℕ) : ℝ := sg (a 0 (128 * h + κ) - a 1 (128 * h + κ))
/-- Columns of an array by head, row and lane. -/
def colA (o : ℕ) (p : ℕ → ℕ → ℝ) (h r κ : ℕ) : ℝ := p r (o + (128 * h + κ))

theorem lbA_pos (a : ℕ → ℕ → ℝ) (h κ : ℕ) : 0 < lbA a h κ := sg_pos _
theorem lbA_lt (a : ℕ → ℕ → ℝ) (h κ : ℕ) : lbA a h κ < 1 := sg_lt_one _

section
variable (σ : Valuation τ sig (Elt Ideal)) (p a : ℕ → ℕ → ℝ)

theorem at8 (h1 : ∀ (r : Fin 2) (j : Fin 1024), σ (Proc.tc.devRef main_arg1) (ix2 r j) = ((a r j : ℝ) : EReal)) (h : Fin 8) (κ : Fin 128) (hb) :
    StableHlo.after (hostOps0 (F := Ideal)) σ (Proc.tc.devRef main_v8) (ix2 0 ⟨128 * h.val + κ.val, hb⟩) = ((lbA a h κ : ℝ) : EReal) := by
  after_results
  pointwise
  rw [h1, h1, ← EReal.coe_sub, sig_coe]
  rfl

theorem at26 (h0 : ∀ (r : Fin 8192) (j : Fin 7168), σ (Proc.tc.devRef main_arg0) (ix2 r j) = ((p r j : ℝ) : EReal))
    (h1 : ∀ (r : Fin 2) (j : Fin 1024), σ (Proc.tc.devRef main_arg1) (ix2 r j) = ((a r j : ℝ) : EReal)) (s : Fin 8192) (h : Fin 8) (κ : Fin 128) :
    StableHlo.after (hostOps0 (F := Ideal)) σ (Proc.tc.devRef main_v26) (ix3 s h κ) = ((lfR (lbA a h) (colA 1024 p h) s κ : ℝ) : EReal) := by
  after_results
  pointwise
  rw [h0, h1, h1, ← EReal.coe_sub, sig_coe, sig_coe, ← EReal.coe_one, ← EReal.coe_sub, ← EReal.coe_mul, ← EReal.coe_add,
    show sg (a ((0 : Fin 2) : ℕ) (h.val * 128 + κ.val) - a ((1 : Fin 2) : ℕ) (h.val * 128 + κ.val)) = lbA a h κ by unfold lbA; rw [Nat.mul_comm]; rfl]
  refine Eq.trans (log_coe' _ ?_) ?_
  · have := mul_pos (sub_pos.mpr (lbA_lt a h κ)) (sg_pos (p s (1024 + (h.val * 128 + κ.val))))
    have := lbA_pos a h κ
    linarith
  · unfold lfR fR colA
    rw [Nat.mul_comm 128 h.val]

theorem at33 (h0 : ∀ (r : Fin 8192) (j : Fin 7168), σ (Proc.tc.devRef main_arg0) (ix2 r j) = ((p r j : ℝ) : EReal))
    (h1 : ∀ (r : Fin 2) (j : Fin 1024), σ (Proc.tc.devRef main_arg1) (ix2 r j) = ((a r j : ℝ) : EReal)) (s : Fin 8192) (h : Fin 8) (κ : Fin 128) :
    StableHlo.after (hostOps0 (F := Ideal)) σ (Proc.tc.devRef main_v33) (ix3 s h κ) = ((kR (lbA a h) (colA 1024 p h) s κ : ℝ) : EReal) := by
  after_results
  pointwise
  rw [h0, h1, h1, ← EReal.coe_sub, sig_coe, sig_coe, ← EReal.coe_one, ← EReal.coe_sub, ← EReal.coe_sub, ← EReal.coe_mul,
    show sg (a ((0 : Fin 2) : ℕ) (h.val * 128 + κ.val) - a ((1 : Fin 2) : ℕ) (h.val * 128 + κ.val)) = lbA a h κ by unfold lbA; rw [Nat.mul_comm]; rfl]
  unfold kR colA
  rw [Nat.mul_comm 128 h.val]

theorem at35 (h0 : ∀ (r : Fin 8192) (j : Fin 7168), σ (Proc.tc.devRef main_arg0) (ix2 r j) = ((p r j : ℝ) : EReal)) (s : Fin 8192) (h : Fin 8) (v : Fin 128) :
    StableHlo.after (hostOps0 (F := Ideal)) σ (Proc.tc.devRef main_v35) (ix3 s h v) = ((colA 2048 p h s v : ℝ) : EReal) := by
  after_results
  pointwise
  rw [h0]
  unfold colA
  rw [Nat.mul_comm 128]

/-- The running sum of the logarithms. -/
theorem at36 (x : ℕ → ℕ → ℕ → ℝ) (hx : ∀ (s : Fin 8192) (h : Fin 8) (κ : Fin 128), σ (Proc.tc.devRef main_v26) (ix3 s h κ) = ((x h s κ : ℝ) : EReal))
    (s : Fin 8192) (h : Fin 8) (κ : Fin 128) :
    StableHlo.after (hostOps0_1 (F := Ideal)) σ (Proc.tc.devRef main_v36) (ix3 s h κ) = ((∑ u ∈ Finset.range (s.val + 1), x h u κ : ℝ) : EReal) := by
  after_results
  generalize σ (Proc.tc.devRef main_v26) = X at hx ⊢
  change Host.reduceWindowAdd (F := Ideal) (φ := .f32) (s := S8192x8x128) (t := S8192x8x128) (u := S_) ![8192, 1, 1] ![1, 1, 1] ![8191, 0, 0] ![0, 0, 0] X
    (broadcastInDim S_ ![] bcast_S_S_ (constant (F := Ideal) S_ .f32 0x00000000#32))
    reduceWindows_S8192x8x128_S8192x8x128_w8192s1p8191_0_w1s1p0_0_w1s1p0_0 h_S_ (ix3 s h κ) = _
  unfold Host.reduceWindowAdd
  rw [Ideal.hostReduceWindowAdd_def]
  unfold Ideal.hostReduceWindowAdd
  exact run3 rfl X _ (fun _ => zero_c) _ _ (fun u => x h u κ) h κ (fun s => hx s h κ) s

theorem at57 (b lf k : ℕ → ℕ → ℕ → ℝ) (h26 : ∀ (s : Fin 8192) (h : Fin 8) (κ : Fin 128), σ (Proc.tc.devRef main_v26) (ix3 s h κ) = ((lf h s κ : ℝ) : EReal))
    (h36 : ∀ (s : Fin 8192) (h : Fin 8) (κ : Fin 128), σ (Proc.tc.devRef main_v36) (ix3 s h κ) = ((b h s κ : ℝ) : EReal))
    (h33 : ∀ (s : Fin 8192) (h : Fin 8) (κ : Fin 128), σ (Proc.tc.devRef main_v33) (ix3 s h κ) = ((k h s κ : ℝ) : EReal))
    (n : Fin 128) (s : Fin 8192) (h : Fin 8) (κ : Fin 128) :
    StableHlo.after (hostOps0_2 (F := Ideal)) σ (Proc.tc.devRef main_v57) (ix4 n s h κ)
      = ((Real.exp (b h (64 * n.val) κ - lf h (64 * n.val) κ - b h s κ) * k h s κ : ℝ) : EReal) := by
  after_results
  pointwise
  rw [h36, h26, h36, h33, ← EReal.coe_sub, ← EReal.coe_sub, Ideal.exp_coe, ← EReal.coe_mul]

theorem at48 (n : Fin 128) (s : Fin 8192) : StableHlo.after (hostOps0_2 (F := Ideal)) σ (Proc.tc.devRef main_v48) (ix4 n s 0 0) = 1#1 ↔ s.val < 64 * n.val := by
  after_results
  pointwise
  have hn := n.isLt
  have hs := s.isLt
  rw [show IntOp.muli (64#32) (BitVec.ofNat 32 n.val) = BitVec.ofNat 32 (64 * n.val) from (BitVec.ofNat_mul 64 n.val).symm, WordCmp.cmpi_slt_ofNat (by omega) (by omega)]
  by_cases hc : s.val < 64 * n.val
  · simp [hc]
  · simp only [hc, decide_false]; exact ⟨fun h => absurd (show (0#1 : BitVec 1) = 1#1 from h) (by decide), fun h => h.elim⟩

theorem zero_at : StableHlo.after (hostOps0_2 (F := Ideal)) σ (Proc.tc.devRef main_cst_6) = constant (F := Ideal) S_ .f32 0x00000000#32 := by
  after_results

theorem at58 (n : Fin 128) (s : Fin 8192) (h : Fin 8) (κ : Fin 128) :
    StableHlo.after (hostOps0_3 (F := Ideal)) σ (Proc.tc.devRef main_v58) (ix4 n s h κ)
      = Scalar.select (σ (Proc.tc.devRef main_v48) (ix4 n s 0 0)) (σ (Proc.tc.devRef main_v57) (ix4 n s h κ)) (σ (Proc.tc.devRef main_cst_6) ix0) := by
  after_results
  generalize σ (Proc.tc.devRef main_v57) = A
  generalize σ (Proc.tc.devRef main_v48) = B
  generalize σ (Proc.tc.devRef main_cst_6) = C
  change select (broadcastInDim S128x8192x8x128 ![0, 1, 2, 3] bcast_S128x8192x1x1_S128x8192x8x128_0_1_2_3 (B : IVec S128x8192x1x1 1)) (A : Vec Ideal S128x8192x8x128 .f32) (broadcastInDim S128x8192x8x128 ![] bcast_S_S128x8192x8x128 (C : Vec Ideal S_ .f32)) (ix4 n s h κ) = _
  pointwise

theorem at60 (h : Fin 8) (n v κ : Fin 128) :
    StableHlo.after (hostOps0_4 (F := Ideal)) σ (Proc.tc.devRef main_v60) (ix4 h n v κ)
      = (∑ s : Fin 8192, (show EReal from σ (Proc.tc.devRef main_v35) (ix3 s h v)) * (show EReal from σ (Proc.tc.devRef main_v58) (ix4 n s h κ)) : EReal) := by
  after_results
  pointwise

theorem keep1_35 : StableHlo.after (hostOps0_1 (F := Ideal)) σ (Proc.tc.devRef main_v35) = σ (Proc.tc.devRef main_v35) := by after_results
theorem keep1_26 : StableHlo.after (hostOps0_1 (F := Ideal)) σ (Proc.tc.devRef main_v26) = σ (Proc.tc.devRef main_v26) := by after_results
theorem keep1_33 : StableHlo.after (hostOps0_1 (F := Ideal)) σ (Proc.tc.devRef main_v33) = σ (Proc.tc.devRef main_v33) := by after_results
theorem keep1_8 : StableHlo.after (hostOps0_1 (F := Ideal)) σ (Proc.tc.devRef main_v8) = σ (Proc.tc.devRef main_v8) := by after_results
theorem keep2_35 : StableHlo.after (hostOps0_2 (F := Ideal)) σ (Proc.tc.devRef main_v35) = σ (Proc.tc.devRef main_v35) := by after_results
theorem keep2_8 : StableHlo.after (hostOps0_2 (F := Ideal)) σ (Proc.tc.devRef main_v8) = σ (Proc.tc.devRef main_v8) := by after_results
theorem keep3_35 : StableHlo.after (hostOps0_3 (F := Ideal)) σ (Proc.tc.devRef main_v35) = σ (Proc.tc.devRef main_v35) := by after_results
theorem keep3_8 : StableHlo.after (hostOps0_3 (F := Ideal)) σ (Proc.tc.devRef main_v8) = σ (Proc.tc.devRef main_v8) := by after_results
theorem keep4_8 : StableHlo.after (hostOps0_4 (F := Ideal)) σ (Proc.tc.devRef main_v8) = σ (Proc.tc.devRef main_v8) := by after_results
end

theorem V_run (c : Dev nD) (r : Ref sig .tc) : V m c r
    = StableHlo.after (hostOps0_4 (F := Ideal)) (StableHlo.after (hostOps0_3 (F := Ideal)) (StableHlo.after (hostOps0_2 (F := Ideal)) (StableHlo.after (hostOps0_1 (F := Ideal))
        (StableHlo.after (hostOps0 (F := Ideal)) (fun b => m (c, b)))))) (Proc.tc.devRef r) := by
  show StableHlo.after (hostOps0 ++ (hostOps0_1 ++ (hostOps0_2 ++ (hostOps0_3 ++ (hostOps0_4 ++ []))))) _ _ = _
  rw [List.append_nil, after_app, after_app, after_app, after_app]

theorem V8 (c : Dev nD) (a : ℕ → ℕ → ℝ) (h1 : ∀ (r : Fin 2) (j : Fin 1024), m ((c : Thread nD τ).loc main_arg1) (ix2 r j) = ((a r j : ℝ) : EReal)) (h : Fin 8) (κ : Fin 128) (hb) :
    V m c main_v8 (ix2 0 ⟨128 * h.val + κ.val, hb⟩) = ((lbA a h κ : ℝ) : EReal) := by
  rw [V_run, keep4_8, keep3_8, keep2_8, keep1_8]
  exact at8 _ a h1 h κ hb

theorem V60 (c : Dev nD) (p a : ℕ → ℕ → ℝ) (h0 : ∀ (r : Fin 8192) (j : Fin 7168), m ((c : Thread nD τ).loc main_arg0) (ix2 r j) = ((p r j : ℝ) : EReal))
    (h1 : ∀ (r : Fin 2) (j : Fin 1024), m ((c : Thread nD τ).loc main_arg1) (ix2 r j) = ((a r j : ℝ) : EReal)) (h : Fin 8) (n v κ : Fin 128) :
    V m c main_v60 (ix4 h n v κ) = ((gS (lbA a h) (colA 1024 p h) (colA 2048 p h) (64 * n.val) v κ : ℝ) : EReal) := by
  rw [V_run, at60, keep3_35, keep2_35, keep1_35]
  have key : ∀ s : Fin 8192, (show EReal from StableHlo.after (hostOps0 (F := Ideal)) (fun b => m (c, b)) (Proc.tc.devRef main_v35) (ix3 s h v))
      * (show EReal from StableHlo.after (hostOps0_3 (F := Ideal)) (StableHlo.after (hostOps0_2 (F := Ideal)) (StableHlo.after (hostOps0_1 (F := Ideal)) (StableHlo.after (hostOps0 (F := Ideal)) (fun b => m (c, b))))) (Proc.tc.devRef main_v58) (ix4 n s h κ))
      = ((if s.val < 64 * n.val then colA 2048 p h s v * (kR (lbA a h) (colA 1024 p h) s κ * Real.exp (gP (lbA a h) (colA 1024 p h) (64 * n.val) κ - gP (lbA a h) (colA 1024 p h) (s.val + 1) κ)) else 0 : ℝ) : EReal) := by
    intro s
    rw [at35 _ p h0, at58, sel_iff _ _ (at48 _ n s), zero_at,
      at57 _ (fun h t κ => gP (lbA a h) (colA 1024 p h) (t + 1) κ) (fun h => lfR (lbA a h) (colA 1024 p h)) (fun h => kR (lbA a h) (colA 1024 p h))
        (fun s h κ => by rw [keep1_26]; exact at26 _ p a h0 h1 s h κ) (fun s h κ => at36 _ (fun h => lfR (lbA a h) (colA 1024 p h)) (fun s h κ => at26 _ p a h0 h1 s h κ) s h κ)
        (fun s h κ => by rw [keep1_33]; exact at33 _ p a h0 h1 s h κ)]
    rw [show (constant (F := Ideal) S_ .f32 0x00000000#32 ix0 : EReal) = ((0 : ℝ) : EReal) from zero_c, coe_ite, ← EReal.coe_mul]
    congr 1
    split_ifs
    · rw [show gP (lbA a h) (colA 1024 p h) (64 * n.val + 1) κ - lfR (lbA a h) (colA 1024 p h) (64 * n.val) κ = gP (lbA a h) (colA 1024 p h) (64 * n.val) κ by
        unfold gP; rw [Finset.sum_range_succ]; ring]
      ring
    · ring
  rw [Finset.sum_congr rfl (fun s _ => key s), coe_sum]
  congr 1
  have := n.isLt
  exact sum_cut (by omega) (fun s => colA 2048 p h s v * (kR (lbA a h) (colA 1024 p h) s κ * Real.exp (gP (lbA a h) (colA 1024 p h) (64 * n.val) κ - gP (lbA a h) (colA 1024 p h) (s + 1) κ)))

end Cert.KernelIdeal.Value

end

end
-- ==== Proof.HgRef.lean ====
module

public import proofs.«01_k».proof.Proof.Gen.ReferenceIdeal.Read
public import proofs.«01_k».proof.Proof.HgHost

@[expose] public section

set_option maxRecDepth 16384
noncomputable section
open Idealize.ShloMosaic Idealize.ShloMosaic.TcCoe Idealize.SL.Sem
open Idealize.ShloMosaic.Pipeline (Dat)
namespace Cert.ReferenceIdeal.Hg
open Cert.ReferenceIdeal Cert.ReferenceIdeal.Read Cert.Hg
open Cert.KernelIdeal.Value (lbA colA lbA_pos lbA_lt run2 run3 back3 zero_c sum_cut coe_sum coe_ite sel_iff sig_coe log_coe' fR_posA)

attribute [local instance] Cert.ReferenceIdeal.Gen.facts

theorem fold_max (x : Fin 2 → ℝ) : ∃ M : ℝ, (Finset.univ : Finset (Fin 2)).fold (fun a b : EReal => max a b) ⊥ (fun k => ((x k : ℝ) : EReal)) = (M : EReal) := by
  refine ⟨max (x 0) (x 1), ?_⟩
  rw [show (Finset.univ : Finset (Fin 2)) = {0, 1} from rfl, Finset.fold_insert (by decide), Finset.fold_singleton]
  rw [max_bot_right]
  exact (EReal.coe_strictMono.monotone.map_max).symm

theorem ninf : (Ideal.ofBits .f32 0xFF800000#32 : EReal) = ⊥ := by
  simp [Ideal.ofBits, Ideal.ieee]

theorem soft_real (x y M : ℝ) : Real.exp (x - M) / (Real.exp (x - M) + Real.exp (y - M)) = sg (x - y) := by
  unfold sg
  have h : Real.exp (y - M) = Real.exp (x - M) * Real.exp (-(x - y)) := by rw [← Real.exp_add]; congr 1; ring
  have e := (Real.exp_pos (x - M)).ne'
  rw [h, ← mul_one_add, div_mul_eq_div_div, div_self e, one_div]

theorem sum_tail {N T : ℕ} (G : ℕ → ℝ) : (∑ k : Fin N, if T ≤ k.val then G k else 0) = ∑ s ∈ Finset.Ico T N, G s := by
  refine (Finset.sum_range (fun s => if T ≤ s then G s else 0)).symm.trans ?_
  rw [← Finset.sum_filter]
  refine Finset.sum_congr ?_ fun _ _ => rfl
  ext k
  rw [Finset.mem_filter, Finset.mem_range, Finset.mem_Ico]; omega

theorem sum_le {N : ℕ} (t : ℕ) (ht : t < N) (G : ℕ → ℝ) : (∑ k : Fin N, ((if k.val ≤ t then G k else 0 : ℝ) : EReal)) = ((∑ s ∈ Finset.range (t + 1), G s : ℝ) : EReal) := by
  rw [coe_sum]
  congr 1
  refine (Finset.sum_range (fun s => if s ≤ t then G s else 0)).symm.trans ?_
  rw [← Finset.sum_filter]
  refine Finset.sum_congr ?_ fun _ _ => rfl
  ext k
  rw [Finset.mem_filter, Finset.mem_range, Finset.mem_range]; omega
theorem sum_ge {N : ℕ} (T : ℕ) (G : ℕ → ℝ) : (∑ k : Fin N, ((if T ≤ k.val then G k else 0 : ℝ) : EReal)) = ((∑ s ∈ Finset.Ico T N, G s : ℝ) : EReal) := by
  rw [coe_sum, sum_tail]
theorem sum_all {N : ℕ} (G : ℕ → ℝ) : (∑ k : Fin N, ((G k : ℝ) : EReal)) = ((∑ s ∈ Finset.range N, G s : ℝ) : EReal) := by
  rw [coe_sum, Finset.sum_range]
theorem div_coe' (x y : ℝ) (h : y ≠ 0) : Ideal.div (x : EReal) (y : EReal) = ((x / y : ℝ) : EReal) := by
  rw [Ideal.div_coe h, ← EReal.coe_mul, mul_one_div]

section
variable (x0 : FVec Ideal S8192x7168 .f32) (x1 : FVec Ideal S2x1024 .f32) (x2 : FVec Ideal S8192x1024 .bf16) (p a d : ℕ → ℕ → ℝ)

/-- The arguments are real numbers. -/
structure Args : Prop where
  h0 : ∀ (r : Fin 8192) (j : Fin 7168), x0 (ix2 r j) = ((p r j : ℝ) : EReal)
  h1 : ∀ (r : Fin 2) (j : Fin 1024), x1 (ix2 r j) = ((a r j : ℝ) : EReal)
  h2 : ∀ (r : Fin 8192) (j : Fin 1024), x2 (ix2 r j) = ((d r j : ℝ) : EReal)
variable {x0 x1 x2 p a d} (A : Args x0 x1 x2 p a d)
include A

theorem r1 (s : Fin 8192) (h : Fin 8) (κ : Fin 128) : val_main_v1 (F := Ideal) x0 (ix3 s h κ) = ((colA 0 p h s κ : ℝ) : EReal) := by
  pointwise [val_main_v1, val_main_v0]
  rw [A.h0]; unfold colA; rw [Nat.mul_comm 128]; simp only [Nat.zero_add]
theorem r3 (s : Fin 8192) (h : Fin 8) (κ : Fin 128) : val_main_v3 (F := Ideal) x0 (ix3 s h κ) = ((colA 1024 p h s κ : ℝ) : EReal) := by
  pointwise [val_main_v3, val_main_v2]
  rw [A.h0]; unfold colA; rw [Nat.mul_comm 128]
theorem r5 (s : Fin 8192) (h : Fin 8) (κ : Fin 128) : val_main_v5 (F := Ideal) x0 (ix3 s h κ) = ((colA 2048 p h s κ : ℝ) : EReal) := by
  pointwise [val_main_v5, val_main_v4]
  rw [A.h0]; unfold colA; rw [Nat.mul_comm 128]
theorem r68 (s : Fin 8192) (h : Fin 8) (κ : Fin 128) : val_main_v68 (F := Ideal) x2 (ix3 s h κ) = ((colA 0 d h s κ : ℝ) : EReal) := by
  pointwise [val_main_v68, val_main_v67]
  rw [A.h2]; unfold colA; rw [Nat.mul_comm 128]; simp only [Nat.zero_add]

theorem r8 (j : Fin 1024) : ∃ M : ℝ, val_main_v8 (F := Ideal) x1 (ix1 j) = (M : EReal) := by
  obtain ⟨M, hM⟩ := fold_max (fun k : Fin 2 => a k j)
  refine ⟨M, ?_⟩
  unfold val_main_v8 val_main_v6
  show max (val_main_v7 (F := Ideal) (ix1 j)) (Host.reduce _ _ _ _ _ (ix1 j)) = _
  rw [Host.reduce_eq_fold, Shape.ReducesTo.fold_fiber_r2_a0]
  pointwise [val_main_v7, val_main_cst_0, val_main_cst]
  rw [ninf, max_bot_left, ← hM]
  refine congrArg (fun g => Finset.fold _ _ g _) (funext fun k => ?_)
  exact A.h1 k j

theorem r16 (r : Fin 2) (j : Fin 1024) : val_main_v16 (F := Ideal) x1 (ix2 r j) = ((sg (a r j - a (1 - r.val) j) : ℝ) : EReal) := by
  obtain ⟨M, hM⟩ := r8 A j
  pointwise [val_main_v16, val_main_v15, val_main_v14, val_main_v13, val_main_v12, val_main_v11, val_main_v10, val_main_v9, val_main_cst_1]
  rw [hM, Fin.sum_univ_two, A.h1, A.h1, A.h1, ← EReal.coe_sub, ← EReal.coe_sub, ← EReal.coe_sub, Ideal.exp_coe, Ideal.exp_coe, Ideal.exp_coe, ← EReal.coe_add, Ideal.div_coe (by positivity), ← EReal.coe_mul, mul_one_div]
  congr 1
  match r with
  | 0 => exact soft_real _ _ _
  | 1 => rw [add_comm]; exact soft_real _ _ _

theorem r17 (j : Fin 1024) : val_main_v17 (F := Ideal) x1 (ix2 0 j) = ((sg (a 0 j - a 1 j) : ℝ) : EReal) := by
  unfold val_main_v17 Host.reduceWindowAdd
  rw [Ideal.hostReduceWindowAdd_def]; unfold Ideal.hostReduceWindowAdd
  refine (run2 rfl _ _ (fun _ => zero_c) _ _ (fun u => sg (a u j - a (1 - u) j)) j (fun s => r16 A s j) 0).trans ?_
  congr 1
  exact Finset.sum_range_one _

theorem r20 (h : Fin 8) (κ : Fin 128) : val_main_v20 (F := Ideal) x1 (ix2 h κ) = ((lbA a h κ : ℝ) : EReal) := by
  pointwise [val_main_v20, val_main_v19, val_main_v18]
  rw [r17 A]; unfold lbA; rw [Nat.mul_comm 128]

theorem r26 (s : Fin 8192) (h : Fin 8) (κ : Fin 128) : val_main_v26 (F := Ideal) x0 (ix3 s h κ) = ((sg ((colA 1024 p h) s κ) : ℝ) : EReal) := by
  pointwise [val_main_v26, val_main_v25, val_main_v24, val_main_v23, val_main_v22, val_main_v21, val_main_cst_2, val_main_cst_3]
  rw [r3 A]
  exact sig_coe _

theorem r37 (s : Fin 8192) (h : Fin 8) (κ : Fin 128) : val_main_v37 (F := Ideal) x0 x1 (ix3 s h κ) = ((fR (lbA a h) (colA 1024 p h) s κ : ℝ) : EReal) := by
  pointwise [val_main_v37, val_main_v36, val_main_v35, val_main_v34, val_main_v33, val_main_v32, val_main_v31, val_main_v30, val_main_cst_5]
  rw [r20 A, r26 A, ← EReal.coe_one, ← EReal.coe_sub, ← EReal.coe_mul, ← EReal.coe_add]
  rfl

theorem r42 (s : Fin 8192) (h : Fin 8) (κ : Fin 128) : val_main_v42 (F := Ideal) x0 (ix3 s h κ) = ((1 - sg ((colA 1024 p h) s κ) : ℝ) : EReal) := by
  pointwise [val_main_v42, val_main_v41, val_main_cst_7]
  rw [r26 A, ← EReal.coe_one, ← EReal.coe_sub]

theorem r45 (s : Fin 8192) (h : Fin 8) (κ : Fin 128) : val_main_v45 (F := Ideal) x0 x1 (ix3 s h κ) = ((kR (lbA a h) (colA 1024 p h) s κ : ℝ) : EReal) := by
  pointwise [val_main_v45, val_main_v44, val_main_v43, val_main_v40, val_main_v39, val_main_cst_6]
  rw [r20 A, r42 A, ← EReal.coe_one, ← EReal.coe_sub, ← EReal.coe_mul]
  rfl

theorem r38 (s : Fin 8192) (h : Fin 8) (κ : Fin 128) : val_main_v38 (F := Ideal) x0 x1 (ix3 s h κ) = ((lfR (lbA a h) (colA 1024 p h) s κ : ℝ) : EReal) := by
  pointwise [val_main_v38]
  rw [r37 A]
  exact log_coe' _ (fR_posA _ _ _ _ (lbA_pos a h κ) (lbA_lt a h κ))

theorem r46 (s : Fin 8192) (h : Fin 8) (κ : Fin 128) : val_main_v46 (F := Ideal) x0 x1 (ix3 s h κ) = ((gP (lbA a h) (colA 1024 p h) (s.val + 1) κ : ℝ) : EReal) := by
  unfold val_main_v46 Host.reduceWindowAdd
  rw [Ideal.hostReduceWindowAdd_def]; unfold Ideal.hostReduceWindowAdd
  exact run3 rfl _ _ (fun _ => zero_c) _ _ (fun u => lfR (lbA a h) (colA 1024 p h) u κ) h κ (fun s => r38 A s h κ) s

omit A in
theorem r48 (t s : Fin 8192) : val_main_v48 (F := Ideal) (ix2 t s) = 1#1 ↔ s.val ≤ t.val := by
  pointwise [val_main_v48, val_main_call2_v4, val_main_call2_v2, val_main_call2_v0, val_main_call2_v1, val_main_call2_c, val_main_call2_v3, val_main_call2_v5, val_main_call2_c_0, val_main_v47, val_main_c]
  rw [WordCmp.addi_ofNat, sel_iff _ _ (WordCmp.cmpi_sge_ofNat_eq_one_iff (by omega) (by omega))]
  simp
omit A in
theorem r55_1 (t s : Fin 8192) (h : Fin 8) (κ : Fin 128) : val_main_v55_1 (F := Ideal) (ix4 t s h κ) = val_main_v48 (F := Ideal) (ix2 t s) := by
  pointwise [val_main_v55_1, val_main_v49]
omit A in
theorem r57_1 (t s : Fin 8192) (h : Fin 8) (κ : Fin 128) : val_main_v57_1 (F := Ideal) (ix4 t s h κ) = val_main_v48 (F := Ideal) (ix2 t s) := by
  pointwise [val_main_v57_1, val_main_v49]
theorem r56 (t : Fin 8192) (s : Fin 8192) (h : Fin 8) (κ : Fin 128) : val_main_v56 (F := Ideal) x0 x1 (ix4 t s h κ) = ((Real.exp (if s.val ≤ t.val then gP (lbA a h) (colA 1024 p h) (t.val + 1) κ - gP (lbA a h) (colA 1024 p h) (s.val + 1) κ else 0) : ℝ) : EReal) := by
  pointwise [val_main_v56, val_main_v55_0, val_main_v54, val_main_v53, val_main_v52, val_main_v51, val_main_v50, val_main_call3_v2, val_main_call3_v0, val_main_cst_8]
  rw [sel_iff _ _ ((iff_of_eq (congrArg (· = 1#1) (r55_1 t s h κ))).trans (r48 t s)), r46 A, r46 A, ← EReal.coe_sub, show (id (constant (F := Ideal) S_ .f32 0x00000000#32) ix0 : EReal) = ((0 : ℝ) : EReal) from zero_c, coe_ite, Ideal.exp_coe]

theorem r57_0 (t : Fin 8192) (s : Fin 8192) (h : Fin 8) (κ : Fin 128) : val_main_v57_0 (F := Ideal) x0 x1 (ix4 t s h κ) = ((if s.val ≤ t.val then gE (lbA a h) (colA 1024 p h) t s κ else 0 : ℝ) : EReal) := by
  pointwise [val_main_v57_0, val_main_call4_v2, val_main_call4_v0, val_main_cst_9]
  rw [sel_iff _ _ ((iff_of_eq (congrArg (· = 1#1) (r57_1 t s h κ))).trans (r48 t s)), r56 A, show (id (constant (F := Ideal) S_ .f32 0x00000000#32) ix0 : EReal) = ((0 : ℝ) : EReal) from zero_c, coe_ite]
  congr 1
  split_ifs <;> rfl

theorem r62 (t : Fin 8192) (s : Fin 8192) (h : Fin 8) (κ : Fin 128) : val_main_v62 (F := Ideal) x0 x1 (ix4 t s h κ) = (((colA 0 p h) t κ * kR (lbA a h) (colA 1024 p h) s κ : ℝ) : EReal) := by
  pointwise [val_main_v62, val_main_v61, val_main_v60, val_main_v59, val_main_v58]
  rw [r1 A, r45 A, ← EReal.coe_mul]

theorem r64 (t s : Fin 8192) (h : Fin 8) : val_main_v64 (F := Ideal) x0 x1 (ix3 t s h) = ((if s.val ≤ t.val then ∑ κ ∈ Finset.range 128, (colA 0 p h) t κ * (kR (lbA a h) (colA 1024 p h) s κ * gE (lbA a h) (colA 1024 p h) t s κ) else 0 : ℝ) : EReal) := by
  pointwise [val_main_v64, val_main_v63, val_main_cst_10]
  simp only [r62 A, r57_0 A, ← EReal.coe_mul]
  rw [coe_sum]
  congr 1
  by_cases hc : s.val ≤ t.val
  · simp only [if_pos hc]
    rw [Finset.sum_range]
    exact Finset.sum_congr rfl fun _ _ => mul_assoc _ _ _
  · simp only [if_neg hc, mul_zero, Finset.sum_const_zero]

theorem r71 (t s : Fin 8192) (h : Fin 8) : val_main_v71 (F := Ideal) x0 x2 (ix3 t s h) = ((gg (colA 2048 p h) (colA 0 d h) t s : ℝ) : EReal) := by
  pointwise [val_main_v71, val_main_v70, val_main_v69]
  simp only [r68 A, r5 A, ← EReal.coe_mul]
  rw [coe_sum]
  unfold gg
  rw [Finset.sum_range]

theorem r73 (s : Fin 8192) (h : Fin 8) (v : Fin 128) : val_main_v73 (F := Ideal) x0 x1 x2 (ix3 s h v) = ((gDi 8192 (lbA a h) (colA 1024 p h) (colA 0 p h) (colA 0 d h) s v : ℝ) : EReal) := by
  pointwise [val_main_v73, val_main_v72, val_main_v69]
  refine Eq.trans (Finset.sum_congr rfl fun k _ => ?_) (sum_ge s.val (fun t => (∑ κ ∈ Finset.range 128, colA 0 p h t κ * (kR (lbA a h) (colA 1024 p h) s κ * gE (lbA a h) (colA 1024 p h) t s κ)) * colA 0 d h t v))
  rw [r68 A, r64 A, ← EReal.coe_mul]
  congr 1
  split_ifs <;> ring

theorem r76 (t : Fin 8192) (s : Fin 8192) (h : Fin 8) (κ : Fin 128) : val_main_v76 (F := Ideal) x0 x1 x2 (ix4 t s h κ) = ((if s.val ≤ t.val then gg (colA 2048 p h) (colA 0 d h) t s * gE (lbA a h) (colA 1024 p h) t s κ else 0 : ℝ) : EReal) := by
  pointwise [val_main_v76, val_main_v74]
  rw [r71 A, r57_0 A, ← EReal.coe_mul, mul_ite, mul_zero]

theorem r79 (s : Fin 8192) (h : Fin 8) (κ : Fin 128) : val_main_v79 (F := Ideal) x0 x1 x2 (ix3 s h κ) = ((gDk 8192 (lbA a h) (colA 1024 p h) (colA 0 p h) (colA 2048 p h) (colA 0 d h) s κ : ℝ) : EReal) := by
  pointwise [val_main_v79, val_main_v78, val_main_v77, val_main_v58, val_main_cst_11]
  refine Eq.trans (Finset.sum_congr rfl fun k _ => ?_) (sum_ge s.val (fun t => gg (colA 2048 p h) (colA 0 d h) t s * ((colA 0 p h) t κ * gE (lbA a h) (colA 1024 p h) t s κ)))
  rw [r1 A, r76 A, ← EReal.coe_mul]
  congr 1
  split_ifs <;> ring

theorem r85 (s : Fin 8192) (h : Fin 8) (κ : Fin 128) : val_main_v85 (F := Ideal) x0 x1 x2 (ix3 s h κ) = ((gDk 8192 (lbA a h) (colA 1024 p h) (colA 0 p h) (colA 2048 p h) (colA 0 d h) s κ : ℝ) : EReal) := by
  pointwise [val_main_v85, val_main_v80, val_main_cst_13]
  simp only [Finset.univ_unique, Finset.sum_singleton]
  exact r79 A s h κ

theorem r83 (t : Fin 8192) (h : Fin 8) (κ : Fin 128) : val_main_v83 (F := Ideal) x0 x1 x2 (ix3 t h κ) = ((gDq (lbA a h) (colA 1024 p h) (colA 2048 p h) (colA 0 d h) t κ : ℝ) : EReal) := by
  pointwise [val_main_v83, val_main_v82, val_main_v81, val_main_v59, val_main_cst_12]
  refine Eq.trans (Finset.sum_congr rfl fun k _ => ?_) (sum_le t.val t.isLt (fun s => gg (colA 2048 p h) (colA 0 d h) t s * (kR (lbA a h) (colA 1024 p h) s κ * gE (lbA a h) (colA 1024 p h) t s κ)))
  rw [r76 A, r45 A, ← EReal.coe_mul]
  congr 1
  split_ifs <;> ring

theorem r86 (t : Fin 8192) (h : Fin 8) (κ : Fin 128) : val_main_v86 (F := Ideal) x0 x1 x2 (ix3 t h κ) = ((gDq (lbA a h) (colA 1024 p h) (colA 2048 p h) (colA 0 d h) t κ : ℝ) : EReal) := by
  pointwise [val_main_v86, val_main_v84, val_main_cst_14]
  simp only [Finset.univ_unique, Finset.sum_singleton]
  exact r83 A t h κ

theorem r89 (t : Fin 8192) (s : Fin 8192) (h : Fin 8) (κ : Fin 128) : val_main_v89 (F := Ideal) x0 x1 x2 (ix4 t s h κ) = ((if s.val ≤ t.val then gW (lbA a h) (colA 1024 p h) (colA 0 p h) (colA 2048 p h) (colA 0 d h) t s κ else 0 : ℝ) : EReal) := by
  pointwise [val_main_v89, val_main_v88, val_main_v87, val_main_v75, val_main_v74, val_main_call6_v0, val_main_call6_cst, val_main_call5_v0, val_main_call5_cst]
  rw [sel_iff _ _ ((iff_of_eq (congrArg (· = 1#1) (r55_1 t s h κ))).trans (r48 t s)), sel_iff _ _ ((iff_of_eq (congrArg (· = 1#1) (r57_1 t s h κ))).trans (r48 t s))]
  by_cases hc : s.val ≤ t.val
  · simp only [if_pos hc]
    rw [r62 A, r71 A, r56 A, if_pos hc, ← EReal.coe_mul, ← EReal.coe_mul]
    congr 1; unfold gW gE; ring
  · simp only [if_neg hc]
    rfl

theorem r90 (t : Fin 8192) (h : Fin 8) (κ : Fin 128) : val_main_v90 (F := Ideal) x0 x1 x2 (ix3 t h κ) = ((∑ s ∈ Finset.range (t.val + 1), gW (lbA a h) (colA 1024 p h) (colA 0 p h) (colA 2048 p h) (colA 0 d h) t s κ : ℝ) : EReal) := by
  pointwise [val_main_v90, val_main_cst_15]
  refine Eq.trans (Finset.sum_congr rfl fun k _ => ?_) (sum_le t.val t.isLt (fun s => gW (lbA a h) (colA 1024 p h) (colA 0 p h) (colA 2048 p h) (colA 0 d h) t s κ))
  rw [r89 A]

theorem r93 (s : Fin 8192) (h : Fin 8) (κ : Fin 128) : val_main_v93 (F := Ideal) x0 x1 x2 (ix3 s h κ) = ((- ∑ t ∈ Finset.Ico s.val 8192, gW (lbA a h) (colA 1024 p h) (colA 0 p h) (colA 2048 p h) (colA 0 d h) t s κ : ℝ) : EReal) := by
  pointwise [val_main_v93, val_main_v92, val_main_cst_16]
  rw [← Finset.sum_neg_distrib]
  refine Eq.trans (Finset.sum_congr rfl fun k _ => ?_) (sum_ge s.val (fun t => - gW (lbA a h) (colA 1024 p h) (colA 0 p h) (colA 2048 p h) (colA 0 d h) t s κ))
  rw [r89 A, ← EReal.coe_neg]
  congr 1
  split_ifs <;> simp

theorem r97 (t : Fin 8192) (h : Fin 8) (κ : Fin 128) : val_main_v97 (F := Ideal) x0 x1 x2 (ix3 t h κ) = ((gDb 8192 (lbA a h) (colA 1024 p h) (colA 0 p h) (colA 2048 p h) (colA 0 d h) t κ : ℝ) : EReal) := by
  pointwise [val_main_v97, val_main_v96, val_main_v95, val_main_v94, val_main_v91, val_main_cst_17, val_main_cst_18]
  simp only [Finset.univ_unique, Finset.sum_singleton]
  rw [r93 A, r90 A, ← EReal.coe_add]
  congr 1
  unfold gDb; ring

theorem r98 (s : Fin 8192) (h : Fin 8) (κ : Fin 128) : val_main_v98 (F := Ideal) x0 x1 x2 (ix3 s h κ) = ((gDlf 8192 (lbA a h) (colA 1024 p h) (colA 0 p h) (colA 2048 p h) (colA 0 d h) s κ : ℝ) : EReal) := by
  unfold val_main_v98 Host.reduceWindowAdd
  rw [Ideal.hostReduceWindowAdd_def]; unfold Ideal.hostReduceWindowAdd
  exact back3 rfl _ _ (fun _ => zero_c) _ _ (fun u => gDb 8192 (lbA a h) (colA 1024 p h) (colA 0 p h) (colA 2048 p h) (colA 0 d h) u κ) h κ (fun s => r97 A s h κ) s

theorem r107 (s : Fin 8192) (h : Fin 8) (κ : Fin 128) : val_main_v107 (F := Ideal) x0 x1 x2 (ix3 s h κ) = ((gDlf 8192 (lbA a h) (colA 1024 p h) (colA 0 p h) (colA 2048 p h) (colA 0 d h) s κ / fR (lbA a h) (colA 1024 p h) s κ : ℝ) : EReal) := by
  pointwise [val_main_v107]
  rw [r98 A, r37 A]
  exact div_coe' _ _ (fR_posA _ _ _ _ (lbA_pos a h κ) (lbA_lt a h κ)).ne'

theorem r100 (s : Fin 8192) (h : Fin 8) (κ : Fin 128) : val_main_v100 (F := Ideal) x0 x1 x2 (ix3 s h κ) = (((1 - lbA a h κ) * gDk 8192 (lbA a h) (colA 1024 p h) (colA 0 p h) (colA 2048 p h) (colA 0 d h) s κ : ℝ) : EReal) := by
  pointwise [val_main_v100, val_main_v99, val_main_v43, val_main_v40, val_main_v39, val_main_cst_6]
  rw [r20 A, r85 A, ← EReal.coe_one, ← EReal.coe_sub, ← EReal.coe_mul]

theorem r121 (s : Fin 8192) (h : Fin 8) (κ : Fin 128) : val_main_v121 (F := Ideal) x0 x1 x2 (ix3 s h κ) = ((gDf 8192 (lbA a h) (colA 1024 p h) (colA 0 p h) (colA 2048 p h) (colA 0 d h) s κ : ℝ) : EReal) := by
  pointwise [val_main_v121, val_main_v114, val_main_v113, val_main_v112, val_main_v105, val_main_v32, val_main_v31, val_main_v30, val_main_cst_5, val_main_v29, val_main_v28, val_main_v27, val_main_cst_4]
  rw [r20 A, r26 A, r100 A, r107 A, ← EReal.coe_one]
  simp only [← EReal.coe_sub, ← EReal.coe_mul, ← EReal.coe_neg, ← EReal.coe_add]
  congr 1
  unfold gDf gGf; ring

theorem r102 (h : Fin 8) (κ : Fin 128) : val_main_v102 (F := Ideal) x0 x1 x2 (ix2 h κ) = ((∑ r ∈ Finset.range 8192, gDk 8192 (lbA a h) (colA 1024 p h) (colA 0 p h) (colA 2048 p h) (colA 0 d h) r κ * (1 - sg ((colA 1024 p h) r κ)) : ℝ) : EReal) := by
  pointwise [val_main_v102, val_main_v101, val_main_cst_19]
  refine Eq.trans (Finset.sum_congr rfl fun k _ => ?_) (sum_all (fun r => gDk 8192 (lbA a h) (colA 1024 p h) (colA 0 p h) (colA 2048 p h) (colA 0 d h) r κ * (1 - sg ((colA 1024 p h) r κ))))
  rw [r85 A, r42 A, ← EReal.coe_mul]

theorem r108 (h : Fin 8) (κ : Fin 128) : val_main_v108 (F := Ideal) x0 x1 x2 (ix2 h κ) = ((∑ r ∈ Finset.range 8192, gDlf 8192 (lbA a h) (colA 1024 p h) (colA 0 p h) (colA 2048 p h) (colA 0 d h) r κ / fR (lbA a h) (colA 1024 p h) r κ : ℝ) : EReal) := by
  pointwise [val_main_v108, val_main_cst_21]
  refine Eq.trans (Finset.sum_congr rfl fun k _ => ?_) (sum_all (fun r => gDlf 8192 (lbA a h) (colA 1024 p h) (colA 0 p h) (colA 2048 p h) (colA 0 d h) r κ / fR (lbA a h) (colA 1024 p h) r κ))
  rw [r107 A]

theorem r116 (h : Fin 8) (κ : Fin 128) : val_main_v116 (F := Ideal) x0 x1 x2 (ix2 h κ) = ((∑ r ∈ Finset.range 8192, gDlf 8192 (lbA a h) (colA 1024 p h) (colA 0 p h) (colA 2048 p h) (colA 0 d h) r κ / fR (lbA a h) (colA 1024 p h) r κ * sg ((colA 1024 p h) r κ) : ℝ) : EReal) := by
  pointwise [val_main_v116, val_main_v115, val_main_cst_23]
  refine Eq.trans (Finset.sum_congr rfl fun k _ => ?_) (sum_all (fun r => gDlf 8192 (lbA a h) (colA 1024 p h) (colA 0 p h) (colA 2048 p h) (colA 0 d h) r κ / fR (lbA a h) (colA 1024 p h) r κ * sg ((colA 1024 p h) r κ)))
  rw [r107 A, r26 A, ← EReal.coe_mul]

theorem r120 (h : Fin 8) (κ : Fin 128) : val_main_v120 (F := Ideal) x0 x1 x2 (ix2 h κ) = ((gDl 8192 (lbA a h) (colA 1024 p h) (colA 0 p h) (colA 2048 p h) (colA 0 d h) 0 κ : ℝ) : EReal) := by
  pointwise [val_main_v120, val_main_v119, val_main_v118, val_main_v117, val_main_v111, val_main_v110, val_main_v109, val_main_v106, val_main_v104, val_main_v103, val_main_cst_20, val_main_cst_22, val_main_cst_24]
  simp only [Finset.univ_unique, Finset.sum_singleton]
  rw [r102 A, r108 A, r116 A]
  simp only [← EReal.coe_neg, ← EReal.coe_add]
  congr 1
  unfold gDl
  rw [← Finset.range_eq_Ico, ← Finset.sum_neg_distrib, ← Finset.sum_neg_distrib, ← Finset.sum_add_distrib, ← Finset.sum_add_distrib]
  refine Finset.sum_congr rfl fun r _ => ?_
  unfold gGf; ring

theorem r124 (s : Fin 8192) (h : Fin 8) (κ : Fin 128) (hb : 128 * h.val + κ.val < 1024) : val_main_v124 (F := Ideal) x0 x1 x2 (ix2 s ⟨128 * h.val + κ.val, hb⟩) = ((gDq (lbA a h) (colA 1024 p h) (colA 2048 p h) (colA 0 d h) s κ : ℝ) : EReal) := by
  pointwise [val_main_v124, val_main_v123]
  exact r86 A s h κ

theorem r126 (s : Fin 8192) (h : Fin 8) (κ : Fin 128) (hb : 128 * h.val + κ.val < 1024) : val_main_v126 (F := Ideal) x0 x1 x2 (ix2 s ⟨128 * h.val + κ.val, hb⟩) = ((gDf 8192 (lbA a h) (colA 1024 p h) (colA 0 p h) (colA 2048 p h) (colA 0 d h) s κ : ℝ) : EReal) := by
  pointwise [val_main_v126, val_main_v125]
  exact r121 A s h κ

theorem r128 (s : Fin 8192) (h : Fin 8) (κ : Fin 128) (hb : 128 * h.val + κ.val < 1024) : val_main_v128 (F := Ideal) x0 x1 x2 (ix2 s ⟨128 * h.val + κ.val, hb⟩) = ((gDi 8192 (lbA a h) (colA 1024 p h) (colA 0 p h) (colA 0 d h) s κ : ℝ) : EReal) := by
  pointwise [val_main_v128, val_main_v127]
  exact r73 A s h κ

theorem r130 (s : Fin 8) (h : Fin 8) (κ : Fin 128) (hb : 128 * h.val + κ.val < 1024) : val_main_v130 (F := Ideal) x0 x1 x2 (ix2 s ⟨128 * h.val + κ.val, hb⟩) = ((gDl 8192 (lbA a h) (colA 1024 p h) (colA 0 p h) (colA 2048 p h) (colA 0 d h) 0 κ : ℝ) : EReal) := by
  pointwise [val_main_v130, val_main_v129, val_main_v122]
  exact r120 A h κ

end

end Cert.ReferenceIdeal.Hg

end

end
-- ==== Proof.HgClaim.lean ====
module

public import proofs.«01_k».proof.Defs
public import proofs.«01_k».proof.Proof.HgFin
public import proofs.«01_k».proof.Proof.HgRef
public import proofs.«01_k».proof.Proof.Gen.KernelIdeal
public import proofs.«01_k».proof.Proof.Gen.ReferenceIdeal.Run
public import Idealize.ShloMosaic.Lib.Claim
public import Idealize.ShloMosaic.Lib.ReduceAll
public import Idealize.ShloMosaic.Lib.Affine

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Hg

attribute [local instance] Cert.KernelIdeal.Gen.facts Cert.ReferenceIdeal.Gen.facts
variable (m : (ℓ : Loc nD τ sig) → Buf (Elt Ideal) ℓ)

theorem real_of_abs_le (x c : EReal) (b : ℝ) (hc : c = (b : EReal)) (h : max x (-x) ≤ c) : x = ((x.toReal : ℝ) : EReal) := by
  refine (EReal.coe_toReal ?_ ?_).symm
  · rintro rfl
    rw [hc] at h
    exact absurd ((le_max_left _ _).trans h) (by simp)
  · rintro rfl
    rw [hc] at h
    exact absurd ((le_max_right _ _).trans h) (by simp)

theorem big_real : ∃ b : ℝ, (Ideal.ofBits .f32 0x7F7FFFFF#32 : EReal) = (b : EReal) := by
  simp [Ideal.ofBits, Ideal.ieee]
  exact ⟨16777215 * 2 ^ 104, by norm_cast⟩

theorem real_args [hP : Cert.Pre_all_finite.Facts] (x0 : FVec Ideal S8192x7168 .f32) (x1 : FVec Ideal S2x1024 .f32) (x2 : FVec Ideal S8192x1024 .bf16)
    (h : Cert.Pre_all_finite.fn (F := Ideal) x0 x1 x2 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal)) := by
  obtain ⟨b, hb⟩ := big_real
  haveI : Subsingleton Cert.Pre_all_finite.S_.Idx := ⟨fun a b => funext fun i => i.elim0⟩
  have e := congrFun h ix0
  unfold Cert.Pre_all_finite.fn at e
  obtain ⟨e', e2⟩ := IntOp.andi_eq_one.1 e
  obtain ⟨e0, e1⟩ := IntOp.andi_eq_one.1 e'
  refine ⟨fun i => ?_, fun i => ?_, fun i => ?_⟩
  · exact real_of_abs_le _ _ b hb ((Ideal.cmp_ole_eq_one _ _).1 (Host.reduce_andi_all _ _ _ _ _ e0 i))
  · exact real_of_abs_le _ _ b hb ((Ideal.cmp_ole_eq_one _ _).1 (Host.reduce_andi_all _ _ _ _ _ e1 i))
  · exact real_of_abs_le _ _ b hb ((Ideal.cmp_ole_eq_one _ _).1 (Host.reduce_andi_all _ _ _ _ _ e2 i))

/-- An array of two axes as a function of two naturals. -/
def natA {R C : ℕ} (x : (⟨2, ![R, C]⟩ : Shape).Idx → EReal) (r j : ℕ) : ℝ :=
  if h : r < R ∧ j < C then (x (ix2 ⟨r, h.1⟩ ⟨j, h.2⟩)).toReal else 0
theorem natA_at {R C : ℕ} (x : (⟨2, ![R, C]⟩ : Shape).Idx → EReal) (hx : ∀ i, x i = (((x i).toReal : ℝ) : EReal)) (r : Fin R) (j : Fin C) :
    x (ix2 r j) = ((natA x r j : ℝ) : EReal) := by
  unfold natA
  rw [dif_pos ⟨r.isLt, j.isLt⟩]
  exact hx _

theorem arr_of (c : Dev nD) (p a d : ℕ → ℕ → ℝ)
    (h0 : ∀ (r : Fin 8192) (j : Fin 7168), m ((c : Thread nD τ).loc main_arg0) (ix2 r j) = ((p r j : ℝ) : EReal))
    (h1 : ∀ (r : Fin 2) (j : Fin 1024), m ((c : Thread nD τ).loc main_arg1) (ix2 r j) = ((a r j : ℝ) : EReal))
    (h2 : ∀ (r : Fin 8192) (j : Fin 1024), m ((c : Thread nD τ).loc main_arg2) (ix2 r j) = ((d r j : ℝ) : EReal)) :
    Arr m c (lbA a) (colA 1024 p) (colA 0 p) (colA 2048 p) (colA 0 d) where
  h0 := fun h _ κ _ => lbA_pos a h κ
  h1 := fun h _ κ _ => lbA_lt a h κ
  hl := fun h κ hb => V8 m c a h1 h κ hb
  hq := fun r h κ hb => by rw [h0]; unfold colA; simp only [Nat.zero_add]
  hf := fun r h κ hb => h0 r _
  hi := fun r h κ hb => h0 r _
  hd := fun r h κ hb => by rw [h2]; unfold colA; simp only [Nat.zero_add]
  hst := fun h n v κ => V60 m c p a h0 h1 h n v κ

theorem finals [hPre_all_finite : Cert.Pre_all_finite.Facts] (c : Dev nD) (hpre : Pre_KernelIdeal_all_finite m)
    (y0 : FVec Ideal S8192x7168 .f32) (y1 : FVec Ideal S2x1024 .f32) (y2 : FVec Ideal S8192x1024 .bf16)
    (e0 : y0 = m ((c : Thread nD τ).loc main_arg0)) (e1 : y1 = m ((c : Thread nD τ).loc main_arg1)) (e2 : y2 = m ((c : Thread nD τ).loc main_arg2)) :
    (dats m 0 c).arrAt 6 (cfgs 0).N = Cert.ReferenceIdeal.Read.val_main_v124 (F := Ideal) y0 y1 y2
    ∧ (dats m 0 c).arrAt 7 (cfgs 0).N = Cert.ReferenceIdeal.Read.val_main_v126 (F := Ideal) y0 y1 y2
    ∧ (dats m 0 c).arrAt 8 (cfgs 0).N = Cert.ReferenceIdeal.Read.val_main_v128 (F := Ideal) y0 y1 y2
    ∧ (dats m 0 c).arrAt 9 (cfgs 0).N = Cert.ReferenceIdeal.Read.val_main_v130 (F := Ideal) y0 y1 y2 := by
  obtain ⟨q0, q1, q2⟩ := real_args y0 y1 y2 (by rw [e0, e1, e2]; exact hpre c)
  have p0 := natA_at (R := 8192) (C := 7168) y0 q0
  have p1 := natA_at (R := 2) (C := 1024) y1 q1
  have p2 := natA_at (R := 8192) (C := 1024) y2 q2
  have A : Cert.ReferenceIdeal.Hg.Args y0 y1 y2 (natA (R := 8192) (C := 7168) y0) (natA (R := 2) (C := 1024) y1) (natA (R := 8192) (C := 1024) y2) := ⟨p0, p1, p2⟩
  have B := arr_of m c (natA (R := 8192) (C := 7168) y0) (natA (R := 2) (C := 1024) y1) (natA (R := 8192) (C := 1024) y2)
    (by rw [← e0]; exact p0) (by rw [← e1]; exact p1) (by rw [← e2]; exact p2)
  exact ⟨fin6 B _ fun r h κ hb => Cert.ReferenceIdeal.Hg.r124 A r h κ hb,
    fin7 B _ fun r h κ hb => Cert.ReferenceIdeal.Hg.r126 A r h κ hb,
    fin8 B _ fun r h κ hb => Cert.ReferenceIdeal.Hg.r128 A r h κ hb,
    fin9 B _ fun r h κ hb => Cert.ReferenceIdeal.Hg.r130 A r h κ hb⟩

/-- The backward kernel of the gated recurrence computes the gradients of the reference, on finite arguments. -/
theorem algebraic [hPre_all_finite : Cert.Pre_all_finite.Facts] : Cert.algebraic_KernelIdeal_ReferenceIdeal_pre_all_finite := by
  pair_intro
  · run_from Cert.KernelIdeal.Value.run_blocks m g
  · run_from Cert.ReferenceIdeal.Value.run m' g'
    · exact (Cert.ReferenceIdeal.Read.val_main_v124_eq (StableHlo.launchContents m' c)).trans (finals m c hpre _ _ _ (hagree c).1 (hagree c).2.1 (hagree c).2.2).1.symm
    · exact (Cert.ReferenceIdeal.Read.val_main_v126_eq (StableHlo.launchContents m' c)).trans (finals m c hpre _ _ _ (hagree c).1 (hagree c).2.1 (hagree c).2.2).2.1.symm
    · exact (Cert.ReferenceIdeal.Read.val_main_v128_eq (StableHlo.launchContents m' c)).trans (finals m c hpre _ _ _ (hagree c).1 (hagree c).2.1 (hagree c).2.2).2.2.1.symm
    · exact (Cert.ReferenceIdeal.Read.val_main_v130_eq (StableHlo.launchContents m' c)).trans (finals m c hpre _ _ _ (hagree c).1 (hagree c).2.1 (hagree c).2.2).2.2.2.symm

end Cert.KernelIdeal.Value

end

end
-- ==== Proof.RmsBwd.lean ====
module

public import Idealize.ShloMosaic.Lib.Claim
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.Rms

/-- A square is not negative. -/
theorem sq_nonneg' (x : EReal) : 0 ≤ x * x := by
  rcases le_total 0 x with h | h
  · exact mul_nonneg h h
  · rw [← neg_mul_neg]; exact mul_nonneg (EReal.neg_nonneg.mpr h) (EReal.neg_nonneg.mpr h)

/-- A real factor that is not negative goes into a sum. -/
theorem mul_add_coe (r : ℝ) (hr : 0 ≤ r) (a b : EReal) : (r : EReal) * (a + b) = r * a + r * b :=
  EReal.left_distrib_of_nonneg_of_ne_top (EReal.coe_nonneg.mpr hr) (EReal.coe_ne_top r) a b

theorem mul_sum_coe {ι : Type} (s : Finset ι) (r : ℝ) (hr : 0 ≤ r) (f : ι → EReal) : (r : EReal) * ∑ k ∈ s, f k = ∑ k ∈ s, r * f k := by
  classical
  induction s using Finset.induction_on with
  | empty => simp
  | insert a s ha ih => rw [Finset.sum_insert ha, Finset.sum_insert ha, mul_add_coe r hr, ih]

theorem add_self (y : EReal) : y + y = ((2 : ℝ) : EReal) * y := by
  induction y with
  | bot => rw [EReal.coe_mul_bot_of_pos (by norm_num)]; rfl
  | coe a => rw [← EReal.coe_add, ← EReal.coe_mul]; congr 1; ring
  | top => rw [EReal.coe_mul_top_of_pos (by norm_num)]; rfl

/-- The three constants: the row's length, the small number added to the mean square, minus one half. -/
theorem len_c : Ideal.ofBits .f32 0x44800000#32 = ((1024 : ℝ) : EReal) := by simp [Ideal.ofBits, Ideal.ieee]; rw [← EReal.coe_mul]; norm_num
theorem half_c : Ideal.ofBits .f32 0xBF000000#32 = ((-(1/2) : ℝ) : EReal) := by simp [Ideal.ofBits, Ideal.ieee]; rw [← EReal.coe_mul]; norm_num
theorem eps_c : ∃ e : ℝ, 0 < e ∧ Ideal.ofBits .f32 0x358637BD#32 = (e : EReal) := by
  refine ⟨8796093 * (2 : ℝ) ^ (-43 : ℤ), by positivity, ?_⟩
  simp [Ideal.ofBits, Ideal.ieee]

theorem div_coe' {y : ℝ} (h : y ≠ 0) (x : EReal) : Ideal.div x y = x * ((1 / y : ℝ) : EReal) := by
  rw [Ideal.div_coe h]

/-- The mean square of a row plus the small number is a positive real or infinite. -/
theorem mean_sq (X : Fin 1024 → EReal) :
    (∃ v : ℝ, 0 < v ∧ Ideal.div (∑ k, X k * X k) (Ideal.ofBits .f32 0x44800000#32) + Ideal.ofBits .f32 0x358637BD#32 = (v : EReal))
      ∨ Ideal.div (∑ k, X k * X k) (Ideal.ofBits .f32 0x44800000#32) + Ideal.ofBits .f32 0x358637BD#32 = ⊤ := by
  obtain ⟨e, he, hE⟩ := eps_c
  rw [len_c, hE, div_coe' (by norm_num)]
  have hS : 0 ≤ ∑ k, X k * X k := Finset.sum_nonneg fun k _ => sq_nonneg' _
  generalize (∑ k, X k * X k) = S at hS
  induction S with
  | bot => exact absurd hS (by simp)
  | coe a =>
    left
    refine ⟨a * (1 / 1024) + e, ?_, by rw [EReal.coe_add, EReal.coe_mul]⟩
    have : 0 ≤ a := EReal.coe_nonneg.mp hS
    positivity
  | top => right; rw [EReal.top_mul_coe_of_pos (by norm_num)]; rfl

/-- The gradient through a row's normalisation by its root mean square: the short form is the long one. -/
theorem bwd (X D : Fin 1024 → EReal) (h d x : EReal) (v : EReal)
    (hv : v = Ideal.div (∑ k, X k * X k) (Ideal.ofBits .f32 0x44800000#32) + Ideal.ofBits .f32 0x358637BD#32) :
    h + Ideal.rsqrt v * (d - x * Ideal.rsqrt v * Ideal.div (∑ k, D k * (X k * Ideal.rsqrt v)) (Ideal.ofBits .f32 0x44800000#32))
      = h + d * Ideal.rsqrt v
        + x * Ideal.div ((∑ k, X k * D k) * (Ideal.ofBits .f32 0xBF000000#32 * Ideal.div (Ideal.rsqrt v) v)) (Ideal.ofBits .f32 0x44800000#32)
        + Ideal.div ((∑ k, X k * D k) * (Ideal.ofBits .f32 0xBF000000#32 * Ideal.div (Ideal.rsqrt v) v)) (Ideal.ofBits .f32 0x44800000#32) * x := by
  rw [len_c, half_c]
  rcases mean_sq X with ⟨w, hw, e⟩ | e
  · rw [← hv] at e
    subst e
    have hs : 0 < Real.sqrt w := Real.sqrt_pos.mpr hw
    rw [Ideal.rsqrt_coe, if_neg (not_lt.mpr hw.le), if_neg hw.ne', div_coe' hw.ne', div_coe' (by norm_num : (1024 : ℝ) ≠ 0), div_coe' (by norm_num : (1024 : ℝ) ≠ 0)]
    have hr : 0 ≤ (Real.sqrt w)⁻¹ := (inv_pos.mpr hs).le
    have h3 : (1 : ℝ) / w = (Real.sqrt w)⁻¹ * (Real.sqrt w)⁻¹ := by
      rw [← mul_inv, Real.mul_self_sqrt hw.le, one_div]
    rw [h3]
    generalize (Real.sqrt w)⁻¹ = r at hr
    have hT : ∑ k, D k * (X k * (r : EReal)) = (r : EReal) * ∑ k, X k * D k := by
      rw [mul_sum_coe _ r hr]
      exact Finset.sum_congr rfl fun k _ => by rw [← mul_assoc, mul_comm, mul_comm (D k)]
    rw [hT]
    generalize (∑ k, X k * D k) = T
    rw [sub_eq_add_neg, mul_add_coe r hr, add_assoc h, add_assoc h, add_assoc _ (x * _), mul_comm (T * _ * _) x, add_self, mul_comm (r : EReal) d]
    congr 2
    rw [mul_neg, ← neg_mul]
    simp only [← EReal.coe_mul, ← EReal.coe_neg]
    have : ∀ a b c u w : ℝ, a * (b * c) * u = w → (a : EReal) * (x * (b : EReal) * (c * T * u)) = x * T * (w : EReal) := by
      rintro a b c u w rfl
      simp only [EReal.coe_mul]
      simp only [mul_assoc, mul_comm, mul_left_comm]
    have e2 : ∀ a b u w : ℝ, a * b * u = w → (a : EReal) * (x * (T * (b : EReal) * u)) = x * T * (w : EReal) := by
      rintro a b u w rfl
      simp only [EReal.coe_mul]
      simp only [mul_assoc, mul_comm, mul_left_comm]
    rw [this _ _ _ _ _ rfl, e2 _ _ _ _ rfl]
    congr 2
    ring
  · rw [← hv] at e
    subst e
    rw [Ideal.rsqrt_top]
    have h0 : Ideal.div 0 ⊤ = 0 := by unfold Ideal.div; rw [if_neg (by simp), zero_mul]
    have h1 : Ideal.div 0 ((1024 : ℝ) : EReal) = 0 := by rw [div_coe' (by norm_num), zero_mul]
    simp only [mul_zero, zero_mul, Finset.sum_const_zero, h0, h1, add_zero]

end Cert.Rms

end

end
-- ==== Proof.InpCat.lean ====
module

public import proofs.«01_k».proof.Proof.Gen.InprojIdeal.Value
public import proofs.«01_k».proof.Proof.Gen.InprojRefIdeal.Read
public import Idealize.ShloMosaic.Lib.Pipeline.ValueKit
public import proofs.«01_k».proof.Proof.RmsBwd

@[expose] public section

set_option maxRecDepth 16384
noncomputable section
open Idealize.ShloMosaic Idealize.ShloMosaic.TcCoe Idealize.SL.Sem
open Idealize.ShloMosaic.Pipeline (Dat)
namespace Cert.InprojIdeal.Value
open Cert.InprojIdeal Cert.InprojIdeal.Gen
open Cert.InprojRefIdeal.Read
variable (m : (ℓ : Loc nD τ sig) → Buf (Elt Ideal) ℓ)

/-- The windows' index maps at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0, 0] ∧ win0_12.index t = ![t.val, 0] ∧ win0_13.index t = ![t.val, 0] ∧ win0_14.index t = ![0, 0] :=
  (by decide +kernel : ∀ t : Fin grid0.N, _)

/-- Piece 0 of the reference's concatenation. -/
theorem v10_0 (a0 : FVec Ideal S8192x1024 .bf16) (a1 : FVec Ideal S8192x1024 .bf16) (a2 : FVec Ideal S8192x1024 .bf16) (a3 : FVec Ideal S8192x1024 .bf16) (a4 : FVec Ideal S8192x512 .f32) (a5 : FVec Ideal S8192x512 .bf16) (a6 : FVec Ideal S8192x1024 .bf16) (a7 : FVec Ideal S8192x1024 .bf16) (i : Fin 8192) (k : Fin 7168) (x : Fin 1024) (hk : k.val = x.val) :
    (val_main_v10 (F := Ideal) a0 a1 a2 a3 a4 a5 a6 a7 (ix2 i k) : EReal) = a0 (ix2 i x) := by
  unfold val_main_v10
  refine concatenate_apply_piece (t := S8192x7168) (1 : Fin 2) _ _ (ix2 i k) 0 ?_ S8192x1024 (val_main_v3 (F := Ideal) a0) rfl rfl 0 ?_ (ix2 i x) ?_ ?_
  · exact of_decide_eq_true rfl
  · rfl
  · intro b hb
    match b, hb with
    | ⟨0, _⟩, _ => rfl
    | ⟨1, _⟩, hb => exact absurd rfl hb
  · show 0 + x.val = k.val
    omega

/-- Piece 1 of the reference's concatenation. -/
theorem v10_1 (a0 : FVec Ideal S8192x1024 .bf16) (a1 : FVec Ideal S8192x1024 .bf16) (a2 : FVec Ideal S8192x1024 .bf16) (a3 : FVec Ideal S8192x1024 .bf16) (a4 : FVec Ideal S8192x512 .f32) (a5 : FVec Ideal S8192x512 .bf16) (a6 : FVec Ideal S8192x1024 .bf16) (a7 : FVec Ideal S8192x1024 .bf16) (i : Fin 8192) (k : Fin 7168) (x : Fin 1024) (hk : k.val = 1024 + x.val) :
    (val_main_v10 (F := Ideal) a0 a1 a2 a3 a4 a5 a6 a7 (ix2 i k) : EReal) = a1 (ix2 i x) := by
  unfold val_main_v10
  refine concatenate_apply_piece (t := S8192x7168) (1 : Fin 2) _ _ (ix2 i k) 1 ?_ S8192x1024 (val_main_v4 (F := Ideal) a1) rfl rfl 1024 ?_ (ix2 i x) ?_ ?_
  · exact of_decide_eq_true rfl
  · rfl
  · intro b hb
    match b, hb with
    | ⟨0, _⟩, _ => rfl
    | ⟨1, _⟩, hb => exact absurd rfl hb
  · show 1024 + x.val = k.val
    omega

/-- Piece 2 of the reference's concatenation. -/
theorem v10_2 (a0 : FVec Ideal S8192x1024 .bf16) (a1 : FVec Ideal S8192x1024 .bf16) (a2 : FVec Ideal S8192x1024 .bf16) (a3 : FVec Ideal S8192x1024 .bf16) (a4 : FVec Ideal S8192x512 .f32) (a5 : FVec Ideal S8192x512 .bf16) (a6 : FVec Ideal S8192x1024 .bf16) (a7 : FVec Ideal S8192x1024 .bf16) (i : Fin 8192) (k : Fin 7168) (x : Fin 1024) (hk : k.val = 2048 + x.val) :
    (val_main_v10 (F := Ideal) a0 a1 a2 a3 a4 a5 a6 a7 (ix2 i k) : EReal) = a2 (ix2 i x) := by
  unfold val_main_v10
  refine concatenate_apply_piece (t := S8192x7168) (1 : Fin 2) _ _ (ix2 i k) 2 ?_ S8192x1024 (val_main_v5 (F := Ideal) a2) rfl rfl 2048 ?_ (ix2 i x) ?_ ?_
  · exact of_decide_eq_true rfl
  · rfl
  · intro b hb
    match b, hb with
    | ⟨0, _⟩, _ => rfl
    | ⟨1, _⟩, hb => exact absurd rfl hb
  · show 2048 + x.val = k.val
    omega

/-- Piece 3 of the reference's concatenation. -/
theorem v10_3 (a0 : FVec Ideal S8192x1024 .bf16) (a1 : FVec Ideal S8192x1024 .bf16) (a2 : FVec Ideal S8192x1024 .bf16) (a3 : FVec Ideal S8192x1024 .bf16) (a4 : FVec Ideal S8192x512 .f32) (a5 : FVec Ideal S8192x512 .bf16) (a6 : FVec Ideal S8192x1024 .bf16) (a7 : FVec Ideal S8192x1024 .bf16) (i : Fin 8192) (k : Fin 7168) (x : Fin 1024) (hk : k.val = 3072 + x.val) :
    (val_main_v10 (F := Ideal) a0 a1 a2 a3 a4 a5 a6 a7 (ix2 i k) : EReal) = a3 (ix2 i x) := by
  unfold val_main_v10
  refine concatenate_apply_piece (t := S8192x7168) (1 : Fin 2) _ _ (ix2 i k) 3 ?_ S8192x1024 (val_main_v6 (F := Ideal) a3) rfl rfl 3072 ?_ (ix2 i x) ?_ ?_
  · exact of_decide_eq_true rfl
  · rfl
  · intro b hb
    match b, hb with
    | ⟨0, _⟩, _ => rfl
    | ⟨1, _⟩, hb => exact absurd rfl hb
  · show 3072 + x.val = k.val
    omega

/-- Piece 4 of the reference's concatenation. -/
theorem v10_4 (a0 : FVec Ideal S8192x1024 .bf16) (a1 : FVec Ideal S8192x1024 .bf16) (a2 : FVec Ideal S8192x1024 .bf16) (a3 : FVec Ideal S8192x1024 .bf16) (a4 : FVec Ideal S8192x512 .f32) (a5 : FVec Ideal S8192x512 .bf16) (a6 : FVec Ideal S8192x1024 .bf16) (a7 : FVec Ideal S8192x1024 .bf16) (i : Fin 8192) (k : Fin 7168) (x : Fin 512) (hk : k.val = 4096 + x.val) :
    (val_main_v10 (F := Ideal) a0 a1 a2 a3 a4 a5 a6 a7 (ix2 i k) : EReal) = a4 (ix2 i x) := by
  unfold val_main_v10
  refine concatenate_apply_piece (t := S8192x7168) (1 : Fin 2) _ _ (ix2 i k) 4 ?_ S8192x512 (a4) rfl rfl 4096 ?_ (ix2 i x) ?_ ?_
  · exact of_decide_eq_true rfl
  · rfl
  · intro b hb
    match b, hb with
    | ⟨0, _⟩, _ => rfl
    | ⟨1, _⟩, hb => exact absurd rfl hb
  · show 4096 + x.val = k.val
    omega

/-- Piece 5 of the reference's concatenation. -/
theorem v10_5 (a0 : FVec Ideal S8192x1024 .bf16) (a1 : FVec Ideal S8192x1024 .bf16) (a2 : FVec Ideal S8192x1024 .bf16) (a3 : FVec Ideal S8192x1024 .bf16) (a4 : FVec Ideal S8192x512 .f32) (a5 : FVec Ideal S8192x512 .bf16) (a6 : FVec Ideal S8192x1024 .bf16) (a7 : FVec Ideal S8192x1024 .bf16) (i : Fin 8192) (k : Fin 7168) (x : Fin 512) (hk : k.val = 4608 + x.val) :
    (val_main_v10 (F := Ideal) a0 a1 a2 a3 a4 a5 a6 a7 (ix2 i k) : EReal) = a5 (ix2 i x) := by
  unfold val_main_v10
  refine concatenate_apply_piece (t := S8192x7168) (1 : Fin 2) _ _ (ix2 i k) 5 ?_ S8192x512 (val_main_v7 (F := Ideal) a5) rfl rfl 4608 ?_ (ix2 i x) ?_ ?_
  · exact of_decide_eq_true rfl
  · rfl
  · intro b hb
    match b, hb with
    | ⟨0, _⟩, _ => rfl
    | ⟨1, _⟩, hb => exact absurd rfl hb
  · show 4608 + x.val = k.val
    omega

/-- Piece 6 of the reference's concatenation. -/
theorem v10_6 (a0 : FVec Ideal S8192x1024 .bf16) (a1 : FVec Ideal S8192x1024 .bf16) (a2 : FVec Ideal S8192x1024 .bf16) (a3 : FVec Ideal S8192x1024 .bf16) (a4 : FVec Ideal S8192x512 .f32) (a5 : FVec Ideal S8192x512 .bf16) (a6 : FVec Ideal S8192x1024 .bf16) (a7 : FVec Ideal S8192x1024 .bf16) (i : Fin 8192) (k : Fin 7168) (x : Fin 1024) (hk : k.val = 5120 + x.val) :
    (val_main_v10 (F := Ideal) a0 a1 a2 a3 a4 a5 a6 a7 (ix2 i k) : EReal) = a6 (ix2 i x) := by
  unfold val_main_v10
  refine concatenate_apply_piece (t := S8192x7168) (1 : Fin 2) _ _ (ix2 i k) 6 ?_ S8192x1024 (val_main_v8 (F := Ideal) a6) rfl rfl 5120 ?_ (ix2 i x) ?_ ?_
  · exact of_decide_eq_true rfl
  · rfl
  · intro b hb
    match b, hb with
    | ⟨0, _⟩, _ => rfl
    | ⟨1, _⟩, hb => exact absurd rfl hb
  · show 5120 + x.val = k.val
    omega

/-- Piece 7 of the reference's concatenation. -/
theorem v10_7 (a0 : FVec Ideal S8192x1024 .bf16) (a1 : FVec Ideal S8192x1024 .bf16) (a2 : FVec Ideal S8192x1024 .bf16) (a3 : FVec Ideal S8192x1024 .bf16) (a4 : FVec Ideal S8192x512 .f32) (a5 : FVec Ideal S8192x512 .bf16) (a6 : FVec Ideal S8192x1024 .bf16) (a7 : FVec Ideal S8192x1024 .bf16) (i : Fin 8192) (k : Fin 7168) (x : Fin 1024) (hk : k.val = 6144 + x.val) :
    (val_main_v10 (F := Ideal) a0 a1 a2 a3 a4 a5 a6 a7 (ix2 i k) : EReal) = a7 (ix2 i x) := by
  unfold val_main_v10
  refine concatenate_apply_piece (t := S8192x7168) (1 : Fin 2) _ _ (ix2 i k) 7 ?_ S8192x1024 (val_main_v9 (F := Ideal) a7) rfl rfl 6144 ?_ (ix2 i x) ?_ ?_
  · exact of_decide_eq_true rfl
  · rfl
  · intro b hb
    match b, hb with
    | ⟨0, _⟩, _ => rfl
    | ⟨1, _⟩, hb => exact absurd rfl hb
  · show 6144 + x.val = k.val
    omega

/-- The eight gradients written side by side into a block of rows. -/
abbrev pcs (B0 : FVec Ideal S256x1024 .bf16) (B1 : FVec Ideal S256x1024 .bf16) (B2 : FVec Ideal S256x1024 .bf16) (B3 : FVec Ideal S256x1024 .bf16) (B4 : FVec Ideal S256x512 .f32) (B5 : FVec Ideal S256x512 .bf16) (B6 : FVec Ideal S256x1024 .bf16) (B7 : FVec Ideal S256x1024 .bf16) : List (View.Piece (Elt Ideal) S256x7168 .bf16) :=
  [⟨Rect.unit ![0, 6144] ![256, 1024] inb_S256x7168_S256x1024_0_6144, k0_pay11 (F := Ideal) B7⟩, ⟨Rect.unit ![0, 5120] ![256, 1024] inb_S256x7168_S256x1024_0_5120, k0_pay10 (F := Ideal) B6⟩, ⟨Rect.unit ![0, 4608] ![256, 512] inb_S256x7168_S256x512_0_4608, k0_pay9 (F := Ideal) B5⟩, ⟨Rect.unit ![0, 4096] ![256, 512] inb_S256x7168_S256x512_0_4096, k0_pay8 (F := Ideal) B4⟩, ⟨Rect.unit ![0, 3072] ![256, 1024] inb_S256x7168_S256x1024_0_3072, k0_pay7 (F := Ideal) B3⟩, ⟨Rect.unit ![0, 2048] ![256, 1024] inb_S256x7168_S256x1024_0_2048, k0_pay6 (F := Ideal) B2⟩, ⟨Rect.unit ![0, 1024] ![256, 1024] inb_S256x7168_S256x1024_0_1024, k0_pay5 (F := Ideal) B1⟩, ⟨Rect.unit ![0, 0] ![256, 1024] inb_S256x7168_S256x1024_0_0, k0_pay4 (F := Ideal) B0⟩]

/-- The block of rows they fill. -/
abbrev cat (B0 : FVec Ideal S256x1024 .bf16) (B1 : FVec Ideal S256x1024 .bf16) (B2 : FVec Ideal S256x1024 .bf16) (B3 : FVec Ideal S256x1024 .bf16) (B4 : FVec Ideal S256x512 .f32) (B5 : FVec Ideal S256x512 .bf16) (B6 : FVec Ideal S256x1024 .bf16) (B7 : FVec Ideal S256x1024 .bf16) : Vec Ideal S256x7168 .bf16 := View.canon (pcs B0 B1 B2 B3 B4 B5 B6 B7)

/-- A point of a grid's block of rows, as a row of the whole. -/
abbrev rowOf (t : Fin cfg0.N) (r : Fin 256) : Fin 8192 := ⟨256 * t.val + r.val, by have := t.isLt; have h : cfg0.N = 32 := N_0; have := r.isLt; omega⟩

/-- The block of rows is the rows of the reference's concatenation. -/
theorem cat_eq (c : Dev nD) (t : Fin cfg0.N) (r : Fin 256) (k : Fin 7168) :
    (cat (iblk m c 0 t) (iblk m c 1 t) (iblk m c 2 t) (iblk m c 3 t) (iblk m c 4 t) (iblk m c 5 t) (iblk m c 6 t) (iblk m c 7 t) (ix2 r k) : EReal) = val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (rowOf t r) k) := by
  unfold cat pcs
  canon_tiles x h using (View.cover_of_tiledBy _ ![256, 512] (by sl_kernel_rfl) _)
  case piece7 =>
    rw [v10_0 _ _ _ _ _ _ _ _ (rowOf t r) k (x 1) h1]
    have h0' : r.val = (x 0).val := h0
    pointwise [k0_pay4]
    blk_point [iblk, V, idx t]
  case piece6 =>
    rw [v10_1 _ _ _ _ _ _ _ _ (rowOf t r) k (x 1) h1]
    have h0' : r.val = (x 0).val := h0
    pointwise [k0_pay5]
    blk_point [iblk, V, idx t]
  case piece5 =>
    rw [v10_2 _ _ _ _ _ _ _ _ (rowOf t r) k (x 1) h1]
    have h0' : r.val = (x 0).val := h0
    pointwise [k0_pay6]
    blk_point [iblk, V, idx t]
  case piece4 =>
    rw [v10_3 _ _ _ _ _ _ _ _ (rowOf t r) k (x 1) h1]
    have h0' : r.val = (x 0).val := h0
    pointwise [k0_pay7]
    blk_point [iblk, V, idx t]
  case piece3 =>
    rw [v10_4 _ _ _ _ _ _ _ _ (rowOf t r) k (x 1) h1]
    have h0' : r.val = (x 0).val := h0
    pointwise [k0_pay8]
    blk_point [iblk, V, idx t]
  case piece2 =>
    rw [v10_5 _ _ _ _ _ _ _ _ (rowOf t r) k (x 1) h1]
    have h0' : r.val = (x 0).val := h0
    pointwise [k0_pay9]
    blk_point [iblk, V, idx t]
  case piece1 =>
    rw [v10_6 _ _ _ _ _ _ _ _ (rowOf t r) k (x 1) h1]
    have h0' : r.val = (x 0).val := h0
    pointwise [k0_pay10]
    blk_point [iblk, V, idx t]
  case piece0 =>
    rw [v10_7 _ _ _ _ _ _ _ _ (rowOf t r) k (x 1) h1]
    have h0' : r.val = (x 0).val := h0
    pointwise [k0_pay11]
    blk_point [iblk, V, idx t]

/-- Window 13 after the run is the reference's the eight gradients side by side. -/
theorem final13 (c : Dev nD) : (dats m 0 c).arrAt 13 (cfgs 0).N = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t _ y => ?_
  blk_simp
  rw [after0_13]
  refine Eq.trans (b := (val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (rowOf t (y 0)) (y 1)) : EReal)) ?_ ?_
  swap
  · pointwise [val_main_v48]
    blk_ext! [idx t]
  by_cases h : t.val % 32 = 0
  · rw [outsAt0_A m c t h]; frame_out
    exact (congrArg _ (ValueIdx.eq_ix2 y)).trans (cat_eq m c t (y 0) (y 1))
  · rw [outsAt0_B m c t h]; frame_out
    exact (congrArg _ (ValueIdx.eq_ix2 y)).trans (cat_eq m c t (y 0) (y 1))

end Cert.InprojIdeal.Value

end

end
-- ==== Proof.InpDu.lean ====
module

public import proofs.«01_k».proof.Proof.InpCat

@[expose] public section

set_option maxRecDepth 16384
noncomputable section
open Idealize.ShloMosaic Idealize.ShloMosaic.TcCoe Idealize.SL.Sem
open Idealize.ShloMosaic.Pipeline (Dat)
namespace Cert.InprojIdeal.Value
open Cert.InprojIdeal Cert.InprojIdeal.Gen
open Cert.InprojRefIdeal.Read
variable (m : (ℓ : Loc nD τ sig) → Buf (Elt Ideal) ℓ)

/-- The columns of a block of rows from `o` on. -/
def rd (Z : Vec Ideal S256x7168 .bf16) (o : Nat) (ho : o + 896 ≤ 7168) : Vec Ideal S256x896 .bf16 :=
  fun x => Z (ix2 (x 0) ⟨o + (x 1).val, by have h : (x 1).val < 896 := (x 1).isLt; omega⟩)

/-- One device's part of the weights. -/
def wd (W : Vec Ideal S8x1024x896 .bf16) (o : Nat) (ho : o < 8) : Vec Ideal S1x1024x896 .bf16 :=
  fun x => W (ix3 ⟨o, ho⟩ (x 1) (x 2))

theorem rd_eq {sg : RefSig} {κ : Kind} {sp : Space} (v : View sg κ sp S256x7168 .bf16) (L : List (View.Piece (Elt Ideal) S256x7168 .bf16))
    (o : Nat) (inb0) (inb) (h0) :
    v.readCov L ((Rect.unit (s := S256x7168) ![0, 0] ![256, 7168] inb0).withinL (Rect.unit ![0, o] ![256, 896] inb).toLoadRect h0)
      = rd (View.canon L) o (inb 1) := by
  rw [View.readCov_eq_canon']
  funext x
  refine congrArg (View.canon L) ?_
  funext a
  match a with
  | ⟨0, _⟩ => exact Fin.ext (show 0 + 0 + 1 * (x 0).val = (x 0).val by omega)
  | ⟨1, _⟩ => exact Fin.ext (show 0 + o + 1 * (x 1).val = o + (x 1).val by omega)

theorem wd_eq (W : Vec Ideal S8x1024x896 .bf16) (o : Nat) (inb) :
    View.ld (Val := Elt Ideal) W (Rect.unit (s := S8x1024x896) ![o, 0, 0] ![1, 1024, 896] inb) = wd W o (inb 0) := by
  funext x
  refine congrArg W ?_
  funext a
  match a with
  | ⟨0, _⟩ => exact Fin.ext (show o + 1 * (x 0).val = o by have h : (x 0).val < 1 := (x 0).isLt; omega)
  | ⟨1, _⟩ => exact Fin.ext (show 0 + 1 * (x 1).val = (x 1).val by omega)
  | ⟨2, _⟩ => exact Fin.ext (show 0 + 1 * (x 2).val = (x 2).val by omega)

/-- The block's gradient of the input projection's argument, as the kernel adds it up device by device. -/
abbrev duK (Z : Vec Ideal S256x7168 .bf16) (W : Vec Ideal S8x1024x896 .bf16) : FVec Ideal S256x1024 .f32 :=
  k0_pay14 (F := Ideal) (k0_pay13 (k0_pay12 (rd Z 0 (by decide)) (wd W 0 (by decide))) (rd Z 896 (by decide)) (wd W 1 (by decide)) (rd Z 1792 (by decide)) (wd W 2 (by decide)) (rd Z 2688 (by decide)) (wd W 3 (by decide)) (rd Z 3584 (by decide)) (wd W 4 (by decide))) (rd Z 4480 (by decide)) (wd W 5 (by decide)) (rd Z 5376 (by decide)) (wd W 6 (by decide)) (rd Z 6272 (by decide)) (wd W 7 (by decide))

theorem du_sum (Z : Vec Ideal S256x7168 .bf16) (W : Vec Ideal S8x1024x896 .bf16) (r : Fin 256) (j : Fin 1024) :
    (duK Z W (ix2 r j) : EReal) = ∑ t : Fin 8, ∑ q : Fin 896, (Z (ix2 r ⟨t.val * 896 + q.val, by omega⟩) : EReal) * W (ix3 t j q) := by
  rw [Fin.sum_univ_eight]
  pointwise [k0_pay14, k0_pay13, k0_pay12]
  simp only [rd, wd]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · refine Finset.sum_congr rfl fun q _ => ?_
    refine congrArg₂ (· * ·) (congrArg Z (congrArg (ix2 r) (Fin.ext ?_))) rfl
    exact Nat.zero_add _
  all_goals rfl

/-- It is the reference's. -/
theorem du_eq (c : Dev nD) (t : Fin cfg0.N) (r : Fin 256) (j : Fin 1024) :
    (duK (cat (iblk m c 0 t) (iblk m c 1 t) (iblk m c 2 t) (iblk m c 3 t) (iblk m c 4 t) (iblk m c 5 t) (iblk m c 6 t) (iblk m c 7 t)) (iblk m c 11 t) (ix2 r j) : EReal) = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (ix2 (rowOf t r) j) := by
  rw [du_sum]
  pointwise [val_main_v27, val_main_v2, val_main_v1, val_main_v0]
  refine Fin.sum_mul_add_congr fun p q hl => ?_
  rw [cat_eq]
  refine congrArg₂ (· * ·) rfl (Eq.trans (b := (m ((c : Thread nD τ).loc main_arg11) (ix3 p j q) : EReal)) ?_ (congrArg _ ?_))
  · blk_point [iblk, V, idx t]
  · exact congrArg₂ (fun a b => ix3 a j b) (Fin.ext (show p.val = (p.val * 896 + q.val) / 896 by omega)) (Fin.ext (show q.val = (p.val * 896 + q.val) % 896 by omega))

end Cert.InprojIdeal.Value

end

end
-- ==== Proof.InpOut.lean ====
module

public import proofs.«01_k».proof.Proof.InpDu

@[expose] public section

set_option maxRecDepth 16384
noncomputable section
open Idealize.ShloMosaic Idealize.ShloMosaic.TcCoe Idealize.SL.Sem
open Idealize.ShloMosaic.Pipeline (Dat)
namespace Cert.InprojIdeal.Value
open Cert.InprojIdeal Cert.InprojIdeal.Gen
open Cert.InprojRefIdeal.Read
variable (m : (ℓ : Loc nD τ sig) → Buf (Elt Ideal) ℓ)

/-- The kernel's gradient of the block's rows. -/
theorem gx (X : FVec Ideal S256x1024 .f32) (Y : FVec Ideal S256x1024 .f32) (D : FVec Ideal S256x1024 .f32) (g : FVec Ideal S1x1024 .f32) (r : Fin 256) (j : Fin 1024) :
    (k0_pay1 (F := Ideal) Y D (k0_pay15 (F := Ideal) X) (k0_pay16 (F := Ideal) X) g (ix2 r j) : EReal)
      = Y (ix2 r j) + Ideal.rsqrt (Ideal.div (∑ k : Fin 1024, (X (ix2 r k) : EReal) * X (ix2 r k)) (Ideal.ofBits .f32 0x44800000#32) + Ideal.ofBits .f32 0x358637BD#32)
        * (D (ix2 r j) * g (ix2 0 j) - X (ix2 r j) * Ideal.rsqrt (Ideal.div (∑ k : Fin 1024, (X (ix2 r k) : EReal) * X (ix2 r k)) (Ideal.ofBits .f32 0x44800000#32) + Ideal.ofBits .f32 0x358637BD#32)
          * Ideal.div (∑ k : Fin 1024, (D (ix2 r k) * g (ix2 0 k) : EReal) * (X (ix2 r k) * Ideal.rsqrt (Ideal.div (∑ k : Fin 1024, (X (ix2 r k) : EReal) * X (ix2 r k)) (Ideal.ofBits .f32 0x44800000#32) + Ideal.ofBits .f32 0x358637BD#32))) (Ideal.ofBits .f32 0x44800000#32)) := by
  pointwise [k0_pay1, k0_pay15, k0_pay16]

theorem x8_eq (c : Dev nD) (t : Fin cfg0.N) (r : Fin 256) (j : Fin 1024) : (iblk m c 8 t (ix2 r j) : EReal) = m ((c : Thread nD τ).loc main_arg8) (ix2 (rowOf t r) j) := by
  blk_point [iblk, V, idx t]

theorem x9_eq (c : Dev nD) (t : Fin cfg0.N) (r : Fin 256) (j : Fin 1024) : (iblk m c 9 t (ix2 r j) : EReal) = m ((c : Thread nD τ).loc main_arg9) (ix2 (rowOf t r) j) := by
  blk_point [iblk, V, idx t]

theorem x10_eq (c : Dev nD) (t : Fin cfg0.N) (j : Fin 1024) : (iblk m c 10 t (ix2 0 j) : EReal) = m ((c : Thread nD τ).loc main_arg10) (ix2 0 j) := by
  blk_point [iblk, V, idx t]

/-- A row of a block of the gradient is the reference's. -/
theorem gx_eq (c : Dev nD) (t : Fin cfg0.N) (r : Fin 256) (j : Fin 1024) :
    (k0_pay1 (F := Ideal) (iblk m c 9 t) (duK (cat (iblk m c 0 t) (iblk m c 1 t) (iblk m c 2 t) (iblk m c 3 t) (iblk m c 4 t) (iblk m c 5 t) (iblk m c 6 t) (iblk m c 7 t)) (iblk m c 11 t)) (k0_pay15 (F := Ideal) (iblk m c 8 t)) (k0_pay16 (F := Ideal) (iblk m c 8 t)) (iblk m c 10 t) (ix2 r j) : EReal)
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (rowOf t r) j) := by
  refine (gx (iblk m c 8 t) (iblk m c 9 t) (duK (cat (iblk m c 0 t) (iblk m c 1 t) (iblk m c 2 t) (iblk m c 3 t) (iblk m c 4 t) (iblk m c 5 t) (iblk m c 6 t) (iblk m c 7 t)) (iblk m c 11 t)) (iblk m c 10 t) r j).trans ?_
  refine (Rms.bwd (fun k => iblk m c 8 t (ix2 r k)) (fun k => (duK (cat (iblk m c 0 t) (iblk m c 1 t) (iblk m c 2 t) (iblk m c 3 t) (iblk m c 4 t) (iblk m c 5 t) (iblk m c 6 t) (iblk m c 7 t)) (iblk m c 11 t) (ix2 r k) : EReal) * iblk m c 10 t (ix2 0 k)) _ _ _ _ rfl).trans ?_
  simp only [du_eq, x8_eq, x9_eq, x10_eq]
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v22, val_main_v21, val_main_v20, val_main_v19, val_main_v18, val_main_v17, val_main_v16, val_main_v15, val_main_v14, val_main_v13, val_main_v12, val_main_v11, val_main_cst, val_main_cst_0, val_main_cst_1, val_main_cst_2, val_main_cst_4, val_main_cst_5, val_main_cst_6]
  simp only [Finset.univ_unique, Finset.sum_singleton]

/-- Window 12 after the run is the reference's the gradient of the rows. -/
theorem final12 (c : Dev nD) : (dats m 0 c).arrAt 12 (cfgs 0).N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  refine Eq.trans (b := (val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (rowOf t (y 0)) (y 1)) : EReal)) ?_ ?_
  swap
  · generalize val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = Q
    blk_ext! [idx t]
  by_cases h : t.val % 32 = 0
  · rw [outsAt0_A m c t h]; frame_out
    simp only [rd_eq, wd_eq]
    exact (congrArg _ (ValueIdx.eq_ix2 y)).trans (gx_eq m c t (y 0) (y 1))
  · rw [outsAt0_B m c t h]; frame_out
    simp only [rd_eq, wd_eq]
    exact (congrArg _ (ValueIdx.eq_ix2 y)).trans (gx_eq m c t (y 0) (y 1))

/-- One row's contribution to the gradient of the gains. -/
def gRow (D X : FVec Ideal S256x1024 .f32) (j : S1x1024.Idx) : EReal := ∑ k : Fin 256, (D (ix2 k (j 1)) : EReal) * k0_pay16 (F := Ideal) X (ix2 k (j 1))

theorem gAdd (D X : FVec Ideal S256x1024 .f32) (Z : FVec Ideal S1x1024 .f32) (j : S1x1024.Idx) :
    (k0_pay2 (F := Ideal) D (k0_pay16 (F := Ideal) X) Z j : EReal) = Z j + gRow D X j := by
  obtain ⟨i, k, rfl⟩ : ∃ i k, j = ix2 i k := ⟨_, _, ValueIdx.eq_ix2 j⟩
  pointwise [k0_pay2, gRow]

/-- The grid's last point. -/
abbrev t0_31 : Fin cfg0.N := ⟨31, by rw [show cfg0.N = 32 from N_0]; decide⟩

/-- Window 14 after the run is the reference's the gradient of the gains. -/
theorem final14 (c : Dev nD) : (dats m 0 c).arrAt 14 (cfgs 0).N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) := by
  refine (dats m 0 c).arrAt_eq_of_after_last 14 t0_31 (by decide +kernel) _ fun j => ?_
  blk_simp
  rw [after0_14, Pipeline.eq_sum_fin_of_reset_step_apply_last (fun n h => (outsAt0 m c n h).2.2) 32 (fun _ => 0)
    (fun t j => gRow (duK (cat (iblk m c 0 t) (iblk m c 1 t) (iblk m c 2 t) (iblk m c 3 t) (iblk m c 4 t) (iblk m c 5 t) (iblk m c 6 t) (iblk m c 7 t)) (iblk m c 11 t)) (iblk m c 8 t) j)
    (fun t h j => by
      rw [outsAt0_A m c t h]; frame_out
      simp only [rd_eq, wd_eq]
      exact (gAdd (duK (cat (iblk m c 0 t) (iblk m c 1 t) (iblk m c 2 t) (iblk m c 3 t) (iblk m c 4 t) (iblk m c 5 t) (iblk m c 6 t) (iblk m c 7 t)) (iblk m c 11 t)) (iblk m c 8 t) (k0_pay3 (F := Ideal)) j).trans (congrArg (· + _) (by pointwise [k0_pay3])))
    (fun t h j => by
      rw [outsAt0_B m c t h]; frame_out
      simp only [rd_eq, wd_eq]
      exact gAdd (duK (cat (iblk m c 0 t) (iblk m c 1 t) (iblk m c 2 t) (iblk m c 3 t) (iblk m c 4 t) (iblk m c 5 t) (iblk m c 6 t) (iblk m c 7 t)) (iblk m c 11 t)) (iblk m c 8 t) _ j)
    (le_of_eq N_0) t0_31 rfl j, zero_add]
  simp only [gRow, du_eq]
  pointwise [val_main_v30, val_main_v29, val_main_cst_3, val_main_v28, val_main_v23, val_main_v22, val_main_v18, val_main_v17, val_main_v16, val_main_v15, val_main_v14, val_main_v13, val_main_v12, val_main_v11, val_main_cst, val_main_cst_0, val_main_cst_1]
  refine Fin.sum_mul_add_congr fun t k hl => ?_
  pointwise [k0_pay16, k0_pay15]
  simp only [x8_eq]
  rw [show (⟨t.val * 256 + k.val, hl⟩ : Fin 8192) = rowOf t k from Fin.ext (show t.val * 256 + k.val = 256 * t.val + k.val by omega)]
  exact (congrArg₂ (fun a b : EReal => a * (b * _)) (du_eq m c t k (j 1)) (x8_eq m c t k (j 1))).trans (mul_comm (G := EReal) _ _)

end Cert.InprojIdeal.Value

end

end
-- ==== Proof.InprojClaim.lean ====
module

public import proofs.«01_k».proof.Defs
public import proofs.«01_k».proof.Proof.InpOut
public import proofs.«01_k».proof.Proof.Gen.Inproj
public import proofs.«01_k».proof.Proof.Gen.InprojRefIdeal.Run
public import Idealize.ShloMosaic.Lib.Claim

@[expose] public section

set_option maxRecDepth 16384
noncomputable section
open Idealize.ShloMosaic Idealize.ShloMosaic.TcCoe Idealize.SL.Sem
namespace Cert.InprojIdeal.Value
attribute [local instance] Cert.InprojIdeal.Gen.facts Cert.InprojRefIdeal.Gen.facts

/-- The backward kernel of the input projection and its normalisation computes the gradients of the reference. -/
theorem algebraic : Cert.algebraic_InprojIdeal_InprojRefIdeal := by
  pair_intro
  · run_from Cert.InprojIdeal.Value.run_blocks m g
  · refine (θ_run Cert.InprojRefIdeal.defs _ _).mono (fun r h c => ⟨(h c).1.trans ((Cert.InprojRefIdeal.Read.val_main_v47_eq m' c).trans ?_), (h c).2.1.trans ((Cert.InprojRefIdeal.Read.val_main_v48_eq _ _ _ _ _ _ _ _).trans ?_), (h c).2.2.1.trans ((Cert.InprojRefIdeal.Read.val_main_v30_eq _ _ _ _ _ _ _ _ _ _).trans ?_), (h c).2.2.2⟩) (Cert.InprojRefIdeal.Value.run (F := Ideal) m' g')
    all_goals obtain ⟨h0, h1, h2, h3, h4, h5, h6, h7, h8, h9, h10, h11⟩ := hagree c
    · rw [h0, h1, h2, h3, h4, h5, h6, h7, h8, h9, h10, h11]; exact (final12 m c).symm
    · rw [h0, h1, h2, h3, h4, h5, h6, h7]; exact (final13 m c).symm
    · rw [h0, h1, h2, h3, h4, h5, h6, h7, h8, h11]; exact (final14 m c).symm
end Cert.InprojIdeal.Value

end

end
-- ==== Proof.HpBase.lean ====
module

public import proofs.«01_k».proof.Proof.Gen.HgPathIdeal.Value
public import Idealize.ShloMosaic.Lib.Pipeline.ValueKit
public import proofs.«01_k».proof.Proof.RmsBwd

@[expose] public section

set_option maxRecDepth 16384
noncomputable section
open Idealize.ShloMosaic Idealize.ShloMosaic.TcCoe Idealize.SL.Sem
open Idealize.ShloMosaic.Pipeline (Dat)
namespace Cert.HgPathIdeal.Value
open Cert.HgPathIdeal Cert.HgPathIdeal.Gen

abbrev len : EReal := Ideal.ofBits .f32 0x43000000#32
abbrev eps : EReal := Ideal.ofBits .f32 0x358637BD#32

/-- Column x of head h, and the head and the place in it of a column. -/
abbrev at_ (h : Fin 8) (x : Fin 128) : Fin 1024 := ⟨128 * h.val + x.val, by have := h.isLt; have := x.isLt; omega⟩
abbrev hd (k : Fin 1024) : Fin 8 := ⟨k.val / 128, by have := k.isLt; omega⟩

theorem hd_at (h : Fin 8) (x : Fin 128) : hd (at_ h x) = h := Fin.ext (show (128 * h.val + x.val) / 128 = h.val by have := x.isLt; omega)

/-- A row of an array. -/
def row {n C : ℕ} (x : (⟨2, ![n, C]⟩ : Shape).Idx → EReal) (r : Fin n) : Fin C → EReal := fun k => x (ix2 r k)

/-- The mean square of one head, its inverse root, and the row normalised head by head. -/
def ms (O : Fin 1024 → EReal) (h : Fin 8) : EReal := Ideal.div (∑ x : Fin 128, O (at_ h x) * O (at_ h x)) len + eps
def rs (O : Fin 1024 → EReal) (h : Fin 8) : EReal := Ideal.rsqrt (ms O h)
def on (O : Fin 1024 → EReal) (k : Fin 1024) : EReal := O k * rs O (hd k)

/-- The gate and the gradients before the normalisation. -/
def sil (Gt : Fin 1024 → EReal) (k : Fin 1024) : EReal := Gt k * Ideal.logistic (Gt k)
def dy (D : Fin 1024 → EReal) (W : S1024x1024.Idx → EReal) (k : Fin 1024) : EReal := ∑ j : Fin 1024, D j * W (ix2 k j)
def dsl (D Gt : Fin 1024 → EReal) (W : S1024x1024.Idx → EReal) (k : Fin 1024) : EReal := dy D W k * sil Gt k
def don (D Gt : Fin 1024 → EReal) (g : S1x1024.Idx → EReal) (W : S1024x1024.Idx → EReal) (k : Fin 1024) : EReal := dsl D Gt W k * g (ix2 0 k)

/-- The gradient of the row before its normalisation. -/
def dO (O d : Fin 1024 → EReal) (k : Fin 1024) : EReal :=
  rs O (hd k) * (d k - on O k * Ideal.div (∑ x : Fin 128, d (at_ (hd k) x) * on O (at_ (hd k) x)) len)

/-- The gate's gradient. -/
def dG (D O Gt : Fin 1024 → EReal) (g : S1x1024.Idx → EReal) (W : S1024x1024.Idx → EReal) (k : Fin 1024) : EReal :=
  dy D W k * (on O k * g (ix2 0 k)) * (Ideal.logistic (Gt k) * (1 + Gt k * (1 - Ideal.logistic (Gt k))))

/-- What one row adds to the product's gradient and to the scale's. -/
def c7 (D O Gt : Fin 1024 → EReal) (g : S1x1024.Idx → EReal) (i j : Fin 1024) : EReal := on O i * g (ix2 0 i) * sil Gt i * D j
def c8 (D O Gt : Fin 1024 → EReal) (W : S1024x1024.Idx → EReal) (j : Fin 1024) : EReal := dsl D Gt W j * on O j

theorem rs_h (O : Fin 1024 → EReal) (h : Fin 8) (g : Fin 128 → EReal) (hg : ∀ x, g x = O (at_ h x)) :
    Ideal.rsqrt (Ideal.div (∑ x : Fin 128, g x * g x) len + eps) = rs O h := by
  unfold rs ms
  simp only [hg]

theorem on_h (O : Fin 1024 → EReal) (h : Fin 8) (x : Fin 128) : on O (at_ h x) = O (at_ h x) * rs O h := by
  unfold on
  rw [hd_at]

theorem dO_h (O d : Fin 1024 → EReal) (h : Fin 8) (x : Fin 128) (rv : EReal) (gd gn : Fin 128 → EReal) (hr : rv = rs O h)
    (hd' : ∀ x, gd x = d (at_ h x)) (hn : ∀ x, gn x = on O (at_ h x)) :
    rv * (gd x - gn x * Ideal.div (∑ y : Fin 128, gd y * gn y) len) = dO O d (at_ h x) := by
  unfold dO
  rw [hd_at]
  simp only [hr, hd', hn]

theorem cata (v18 v29 v40 v51 v62 v73 v84 v85 v86 : FVec Ideal S256x128 .f32) (r : Fin 256) (k : Fin 1024) (E : Fin 1024 → EReal)
    (h0 : ∀ x : Fin 128, (v18 (ix2 r x) : EReal) = E (at_ (⟨0, by decide⟩ : Fin 8) x)) (h1 : ∀ x : Fin 128, (v29 (ix2 r x) : EReal) = E (at_ (⟨1, by decide⟩ : Fin 8) x)) (h2 : ∀ x : Fin 128, (v40 (ix2 r x) : EReal) = E (at_ (⟨2, by decide⟩ : Fin 8) x)) (h3 : ∀ x : Fin 128, (v51 (ix2 r x) : EReal) = E (at_ (⟨3, by decide⟩ : Fin 8) x)) (h4 : ∀ x : Fin 128, (v62 (ix2 r x) : EReal) = E (at_ (⟨4, by decide⟩ : Fin 8) x)) (h5 : ∀ x : Fin 128, (v73 (ix2 r x) : EReal) = E (at_ (⟨5, by decide⟩ : Fin 8) x)) (h6 : ∀ x : Fin 128, (v84 (ix2 r x) : EReal) = E (at_ (⟨6, by decide⟩ : Fin 8) x)) (h7 : ∀ x : Fin 128, (v85 (ix2 r x) * k0_pay31 (F := Ideal) v86 (ix2 r 0) : EReal) = E (at_ (⟨7, by decide⟩ : Fin 8) x)) :
    (k0_pay32 (F := Ideal) v18 v29 v40 v51 v62 v73 v84 v85 v86 (ix2 r k) : EReal) = E k := by
  pointwise [k0_pay32]
  by_cases n0 : k.val < 128
  · refine (dif_pos n0).trans ?_
    exact (h0 ⟨k.val, by have := k.isLt; omega⟩).trans (congrArg E (Fin.ext (show 128 * 0 + (k.val) = k.val by omega)))
  refine (dif_neg n0).trans ?_
  by_cases n1 : k.val - 128 < 128
  · refine (dif_pos n1).trans ?_
    exact (h1 ⟨k.val - 128, by have := k.isLt; omega⟩).trans (congrArg E (Fin.ext (show 128 * 1 + (k.val - 128) = k.val by omega)))
  refine (dif_neg n1).trans ?_
  by_cases n2 : k.val - 128 - 128 < 128
  · refine (dif_pos n2).trans ?_
    exact (h2 ⟨k.val - 128 - 128, by have := k.isLt; omega⟩).trans (congrArg E (Fin.ext (show 128 * 2 + (k.val - 128 - 128) = k.val by omega)))
  refine (dif_neg n2).trans ?_
  by_cases n3 : k.val - 128 - 128 - 128 < 128
  · refine (dif_pos n3).trans ?_
    exact (h3 ⟨k.val - 128 - 128 - 128, by have := k.isLt; omega⟩).trans (congrArg E (Fin.ext (show 128 * 3 + (k.val - 128 - 128 - 128) = k.val by omega)))
  refine (dif_neg n3).trans ?_
  by_cases n4 : k.val - 128 - 128 - 128 - 128 < 128
  · refine (dif_pos n4).trans ?_
    exact (h4 ⟨k.val - 128 - 128 - 128 - 128, by have := k.isLt; omega⟩).trans (congrArg E (Fin.ext (show 128 * 4 + (k.val - 128 - 128 - 128 - 128) = k.val by omega)))
  refine (dif_neg n4).trans ?_
  by_cases n5 : k.val - 128 - 128 - 128 - 128 - 128 < 128
  · refine (dif_pos n5).trans ?_
    exact (h5 ⟨k.val - 128 - 128 - 128 - 128 - 128, by have := k.isLt; omega⟩).trans (congrArg E (Fin.ext (show 128 * 5 + (k.val - 128 - 128 - 128 - 128 - 128) = k.val by omega)))
  refine (dif_neg n5).trans ?_
  by_cases n6 : k.val - 128 - 128 - 128 - 128 - 128 - 128 < 128
  · refine (dif_pos n6).trans ?_
    exact (h6 ⟨k.val - 128 - 128 - 128 - 128 - 128 - 128, by have := k.isLt; omega⟩).trans (congrArg E (Fin.ext (show 128 * 6 + (k.val - 128 - 128 - 128 - 128 - 128 - 128) = k.val by omega)))
  refine (dif_neg n6).trans ?_
  exact (h7 ⟨k.val - 128 - 128 - 128 - 128 - 128 - 128 - 128, by have := k.isLt; omega⟩).trans (congrArg E (Fin.ext (show 128 * 7 + (k.val - 128 - 128 - 128 - 128 - 128 - 128 - 128) = k.val by omega)))

theorem catb (v248 : FVec Ideal S256x1024 .f32) (v262 v273 v284 v295 v306 v307 v316 : FVec Ideal S256x128 .f32) (r : Fin 256) (k : Fin 1024) (E : Fin 1024 → EReal)
    (h0 : ∀ x : Fin 128, (v262 (ix2 r x) : EReal) = E (at_ (⟨0, by decide⟩ : Fin 8) x)) (h1 : ∀ x : Fin 128, (v273 (ix2 r x) : EReal) = E (at_ (⟨1, by decide⟩ : Fin 8) x)) (h2 : ∀ x : Fin 128, (v284 (ix2 r x) : EReal) = E (at_ (⟨2, by decide⟩ : Fin 8) x)) (h3 : ∀ x : Fin 128, (v295 (ix2 r x) : EReal) = E (at_ (⟨3, by decide⟩ : Fin 8) x)) (h4 : ∀ x : Fin 128, (v306 (ix2 r x) : EReal) = E (at_ (⟨4, by decide⟩ : Fin 8) x)) (h5 : ∀ x : Fin 128, (v307 (ix2 r x) * v316 (ix2 r x) : EReal) = E (at_ (⟨5, by decide⟩ : Fin 8) x)) (h6 : ∀ x : Fin 128, (k0_pay72 (F := Ideal) v248 (ix2 r x) * k0_pay73 (F := Ideal) v248 (ix2 r 0) : EReal) = E (at_ (⟨6, by decide⟩ : Fin 8) x)) (h7 : ∀ x : Fin 128, (k0_pay74 (F := Ideal) v248 (ix2 r x) * k0_pay75 (F := Ideal) v248 (ix2 r 0) : EReal) = E (at_ (⟨7, by decide⟩ : Fin 8) x)) :
    (k0_pay76 (F := Ideal) v248 v262 v273 v284 v295 v306 v307 v316 (ix2 r k) : EReal) = E k := by
  pointwise [k0_pay76]
  by_cases n0 : k.val < 128
  · refine (dif_pos n0).trans ?_
    exact (h0 ⟨k.val, by have := k.isLt; omega⟩).trans (congrArg E (Fin.ext (show 128 * 0 + (k.val) = k.val by omega)))
  refine (dif_neg n0).trans ?_
  by_cases n1 : k.val - 128 < 128
  · refine (dif_pos n1).trans ?_
    exact (h1 ⟨k.val - 128, by have := k.isLt; omega⟩).trans (congrArg E (Fin.ext (show 128 * 1 + (k.val - 128) = k.val by omega)))
  refine (dif_neg n1).trans ?_
  by_cases n2 : k.val - 128 - 128 < 128
  · refine (dif_pos n2).trans ?_
    exact (h2 ⟨k.val - 128 - 128, by have := k.isLt; omega⟩).trans (congrArg E (Fin.ext (show 128 * 2 + (k.val - 128 - 128) = k.val by omega)))
  refine (dif_neg n2).trans ?_
  by_cases n3 : k.val - 128 - 128 - 128 < 128
  · refine (dif_pos n3).trans ?_
    exact (h3 ⟨k.val - 128 - 128 - 128, by have := k.isLt; omega⟩).trans (congrArg E (Fin.ext (show 128 * 3 + (k.val - 128 - 128 - 128) = k.val by omega)))
  refine (dif_neg n3).trans ?_
  by_cases n4 : k.val - 128 - 128 - 128 - 128 < 128
  · refine (dif_pos n4).trans ?_
    exact (h4 ⟨k.val - 128 - 128 - 128 - 128, by have := k.isLt; omega⟩).trans (congrArg E (Fin.ext (show 128 * 4 + (k.val - 128 - 128 - 128 - 128) = k.val by omega)))
  refine (dif_neg n4).trans ?_
  by_cases n5 : k.val - 128 - 128 - 128 - 128 - 128 < 128
  · refine (dif_pos n5).trans ?_
    exact (h5 ⟨k.val - 128 - 128 - 128 - 128 - 128, by have := k.isLt; omega⟩).trans (congrArg E (Fin.ext (show 128 * 5 + (k.val - 128 - 128 - 128 - 128 - 128) = k.val by omega)))
  refine (dif_neg n5).trans ?_
  by_cases n6 : k.val - 128 - 128 - 128 - 128 - 128 - 128 < 128
  · refine (dif_pos n6).trans ?_
    exact (h6 ⟨k.val - 128 - 128 - 128 - 128 - 128 - 128, by have := k.isLt; omega⟩).trans (congrArg E (Fin.ext (show 128 * 6 + (k.val - 128 - 128 - 128 - 128 - 128 - 128) = k.val by omega)))
  refine (dif_neg n6).trans ?_
  exact (h7 ⟨k.val - 128 - 128 - 128 - 128 - 128 - 128 - 128, by have := k.isLt; omega⟩).trans (congrArg E (Fin.ext (show 128 * 7 + (k.val - 128 - 128 - 128 - 128 - 128 - 128 - 128) = k.val by omega)))

theorem cat48 (v60 v71 v82 v93 : FVec Ideal S256x1 .f32) (v96 v118 : FVec Ideal S256x1024 .f32) (v132 v146 v160 v174 v175 v185 : FVec Ideal S256x128 .f32) (r : Fin 256) (k : Fin 1024) (E : Fin 1024 → EReal)
    (h0 : ∀ x : Fin 128, (v132 (ix2 r x) : EReal) = E (at_ (⟨0, by decide⟩ : Fin 8) x)) (h1 : ∀ x : Fin 128, (v146 (ix2 r x) : EReal) = E (at_ (⟨1, by decide⟩ : Fin 8) x)) (h2 : ∀ x : Fin 128, (v160 (ix2 r x) : EReal) = E (at_ (⟨2, by decide⟩ : Fin 8) x)) (h3 : ∀ x : Fin 128, (v174 (ix2 r x) : EReal) = E (at_ (⟨3, by decide⟩ : Fin 8) x)) (h4 : ∀ x : Fin 128, (v60 (ix2 r 0) * (v175 (ix2 r x) - v185 (ix2 r x)) : EReal) = E (at_ (⟨4, by decide⟩ : Fin 8) x))
    (h5 : ∀ x : Fin 128, (v71 (ix2 r 0) * (v118 (ix2 r ⟨640 + x.val, by have := x.isLt; omega⟩) - v96 (ix2 r ⟨640 + x.val, by have := x.isLt; omega⟩) * Ideal.div (∑ y : Fin 128, v118 (ix2 r ⟨640 + y.val, by have := y.isLt; omega⟩) * v96 (ix2 r ⟨640 + y.val, by have := y.isLt; omega⟩)) len) : EReal) = E (at_ (⟨5, by decide⟩ : Fin 8) x))
    (h6 : ∀ x : Fin 128, (v82 (ix2 r 0) * (v118 (ix2 r ⟨768 + x.val, by have := x.isLt; omega⟩) - v96 (ix2 r ⟨768 + x.val, by have := x.isLt; omega⟩) * Ideal.div (∑ y : Fin 128, v118 (ix2 r ⟨768 + y.val, by have := y.isLt; omega⟩) * v96 (ix2 r ⟨768 + y.val, by have := y.isLt; omega⟩)) len) : EReal) = E (at_ (⟨6, by decide⟩ : Fin 8) x))
    (h7 : ∀ x : Fin 128, (v93 (ix2 r 0) * (v118 (ix2 r ⟨896 + x.val, by have := x.isLt; omega⟩) - v96 (ix2 r ⟨896 + x.val, by have := x.isLt; omega⟩) * Ideal.div (∑ y : Fin 128, v118 (ix2 r ⟨896 + y.val, by have := y.isLt; omega⟩) * v96 (ix2 r ⟨896 + y.val, by have := y.isLt; omega⟩)) len) : EReal) = E (at_ (⟨7, by decide⟩ : Fin 8) x)) :
    (k0_pay48 (F := Ideal) v60 v71 v82 v93 v96 v118 v132 v146 v160 v174 v175 v185 (ix2 r k) : EReal) = E k := by
  pointwise [k0_pay48]
  by_cases n0 : k.val < 128
  · refine (dif_pos n0).trans ?_
    exact (h0 ⟨k.val, by have := k.isLt; omega⟩).trans (congrArg E (Fin.ext (show 128 * 0 + (k.val) = k.val by omega)))
  refine (dif_neg n0).trans ?_
  by_cases n1 : k.val - 128 < 128
  · refine (dif_pos n1).trans ?_
    exact (h1 ⟨k.val - 128, by have := k.isLt; omega⟩).trans (congrArg E (Fin.ext (show 128 * 1 + (k.val - 128) = k.val by omega)))
  refine (dif_neg n1).trans ?_
  by_cases n2 : k.val - 128 - 128 < 128
  · refine (dif_pos n2).trans ?_
    exact (h2 ⟨k.val - 128 - 128, by have := k.isLt; omega⟩).trans (congrArg E (Fin.ext (show 128 * 2 + (k.val - 128 - 128) = k.val by omega)))
  refine (dif_neg n2).trans ?_
  by_cases n3 : k.val - 128 - 128 - 128 < 128
  · refine (dif_pos n3).trans ?_
    exact (h3 ⟨k.val - 128 - 128 - 128, by have := k.isLt; omega⟩).trans (congrArg E (Fin.ext (show 128 * 3 + (k.val - 128 - 128 - 128) = k.val by omega)))
  refine (dif_neg n3).trans ?_
  by_cases n4 : k.val - 128 - 128 - 128 - 128 < 128
  · refine (dif_pos n4).trans ?_
    exact (h4 ⟨k.val - 128 - 128 - 128 - 128, by have := k.isLt; omega⟩).trans (congrArg E (Fin.ext (show 128 * 4 + (k.val - 128 - 128 - 128 - 128) = k.val by omega)))
  refine (dif_neg n4).trans ?_
  by_cases n5 : k.val - 128 - 128 - 128 - 128 - 128 < 128
  · refine (dif_pos n5).trans ?_
    exact (h5 ⟨k.val - 128 - 128 - 128 - 128 - 128, by have := k.isLt; omega⟩).trans (congrArg E (Fin.ext (show 128 * 5 + (k.val - 128 - 128 - 128 - 128 - 128) = k.val by omega)))
  refine (dif_neg n5).trans ?_
  by_cases n6 : k.val - 128 - 128 - 128 - 128 - 128 - 128 < 128
  · refine (dif_pos n6).trans ?_
    exact (h6 ⟨k.val - 128 - 128 - 128 - 128 - 128 - 128, by have := k.isLt; omega⟩).trans (congrArg E (Fin.ext (show 128 * 6 + (k.val - 128 - 128 - 128 - 128 - 128 - 128) = k.val by omega)))
  refine (dif_neg n6).trans ?_
  exact (h7 ⟨k.val - 128 - 128 - 128 - 128 - 128 - 128 - 128, by have := k.isLt; omega⟩).trans (congrArg E (Fin.ext (show 128 * 7 + (k.val - 128 - 128 - 128 - 128 - 128 - 128 - 128) = k.val by omega)))

theorem cat1 (v337 : FVec Ideal S256x1 .f32) (v376 v390 v404 v418 v432 v446 v460 v461 v462 : FVec Ideal S256x128 .f32) (v467 : FVec Ideal S256x1 .f32) (r : Fin 256) (k : Fin 1024) (E : Fin 1024 → EReal)
    (h0 : ∀ x : Fin 128, (v376 (ix2 r x) : EReal) = E (at_ (⟨0, by decide⟩ : Fin 8) x)) (h1 : ∀ x : Fin 128, (v390 (ix2 r x) : EReal) = E (at_ (⟨1, by decide⟩ : Fin 8) x)) (h2 : ∀ x : Fin 128, (v404 (ix2 r x) : EReal) = E (at_ (⟨2, by decide⟩ : Fin 8) x)) (h3 : ∀ x : Fin 128, (v418 (ix2 r x) : EReal) = E (at_ (⟨3, by decide⟩ : Fin 8) x)) (h4 : ∀ x : Fin 128, (v432 (ix2 r x) : EReal) = E (at_ (⟨4, by decide⟩ : Fin 8) x)) (h5 : ∀ x : Fin 128, (v446 (ix2 r x) : EReal) = E (at_ (⟨5, by decide⟩ : Fin 8) x)) (h6 : ∀ x : Fin 128, (v460 (ix2 r x) : EReal) = E (at_ (⟨6, by decide⟩ : Fin 8) x)) (h7 : ∀ x : Fin 128, (v337 (ix2 r 0) * (v461 (ix2 r x) - v462 (ix2 r x) * Ideal.div (v467 (ix2 r 0)) len) : EReal) = E (at_ (⟨7, by decide⟩ : Fin 8) x)) :
    (k0_pay1 (F := Ideal) v337 v376 v390 v404 v418 v432 v446 v460 v461 v462 v467 (ix2 r k) : EReal) = E k := by
  pointwise [k0_pay1]
  by_cases n0 : k.val < 128
  · refine (dif_pos n0).trans ?_
    exact (h0 ⟨k.val, by have := k.isLt; omega⟩).trans (congrArg E (Fin.ext (show 128 * 0 + (k.val) = k.val by omega)))
  refine (dif_neg n0).trans ?_
  by_cases n1 : k.val - 128 < 128
  · refine (dif_pos n1).trans ?_
    exact (h1 ⟨k.val - 128, by have := k.isLt; omega⟩).trans (congrArg E (Fin.ext (show 128 * 1 + (k.val - 128) = k.val by omega)))
  refine (dif_neg n1).trans ?_
  by_cases n2 : k.val - 128 - 128 < 128
  · refine (dif_pos n2).trans ?_
    exact (h2 ⟨k.val - 128 - 128, by have := k.isLt; omega⟩).trans (congrArg E (Fin.ext (show 128 * 2 + (k.val - 128 - 128) = k.val by omega)))
  refine (dif_neg n2).trans ?_
  by_cases n3 : k.val - 128 - 128 - 128 < 128
  · refine (dif_pos n3).trans ?_
    exact (h3 ⟨k.val - 128 - 128 - 128, by have := k.isLt; omega⟩).trans (congrArg E (Fin.ext (show 128 * 3 + (k.val - 128 - 128 - 128) = k.val by omega)))
  refine (dif_neg n3).trans ?_
  by_cases n4 : k.val - 128 - 128 - 128 - 128 < 128
  · refine (dif_pos n4).trans ?_
    exact (h4 ⟨k.val - 128 - 128 - 128 - 128, by have := k.isLt; omega⟩).trans (congrArg E (Fin.ext (show 128 * 4 + (k.val - 128 - 128 - 128 - 128) = k.val by omega)))
  refine (dif_neg n4).trans ?_
  by_cases n5 : k.val - 128 - 128 - 128 - 128 - 128 < 128
  · refine (dif_pos n5).trans ?_
    exact (h5 ⟨k.val - 128 - 128 - 128 - 128 - 128, by have := k.isLt; omega⟩).trans (congrArg E (Fin.ext (show 128 * 5 + (k.val - 128 - 128 - 128 - 128 - 128) = k.val by omega)))
  refine (dif_neg n5).trans ?_
  by_cases n6 : k.val - 128 - 128 - 128 - 128 - 128 - 128 < 128
  · refine (dif_pos n6).trans ?_
    exact (h6 ⟨k.val - 128 - 128 - 128 - 128 - 128 - 128, by have := k.isLt; omega⟩).trans (congrArg E (Fin.ext (show 128 * 6 + (k.val - 128 - 128 - 128 - 128 - 128 - 128) = k.val by omega)))
  refine (dif_neg n6).trans ?_
  exact (h7 ⟨k.val - 128 - 128 - 128 - 128 - 128 - 128 - 128, by have := k.isLt; omega⟩).trans (congrArg E (Fin.ext (show 128 * 7 + (k.val - 128 - 128 - 128 - 128 - 128 - 128 - 128) = k.val by omega)))

theorem rsa0 (O : FVec Ideal S256x1024 .f32) (r : Fin 256) : ((k0_pay9 (F := Ideal) O) (ix2 r 0) : EReal) = rs (row O r) (⟨0, by decide⟩ : Fin 8) := by
  refine Eq.trans ?_ (rs_h (row O r) (⟨0, by decide⟩ : Fin 8) (fun x => O (ix2 r ⟨0 + x.val, by have := x.isLt; omega⟩)) fun x => rfl)
  pointwise [k0_pay9, k0_pay8]

theorem rsa1 (O : FVec Ideal S256x1024 .f32) (r : Fin 256) : ((k0_pay12 (F := Ideal) O) (ix2 r 0) : EReal) = rs (row O r) (⟨1, by decide⟩ : Fin 8) := by
  refine Eq.trans ?_ (rs_h (row O r) (⟨1, by decide⟩ : Fin 8) (fun x => O (ix2 r ⟨128 + x.val, by have := x.isLt; omega⟩)) fun x => rfl)
  pointwise [k0_pay12, k0_pay11]

theorem rsa2 (O : FVec Ideal S256x1024 .f32) (r : Fin 256) : ((k0_pay15 (F := Ideal) O) (ix2 r 0) : EReal) = rs (row O r) (⟨2, by decide⟩ : Fin 8) := by
  refine Eq.trans ?_ (rs_h (row O r) (⟨2, by decide⟩ : Fin 8) (fun x => O (ix2 r ⟨256 + x.val, by have := x.isLt; omega⟩)) fun x => rfl)
  pointwise [k0_pay15, k0_pay14]

theorem rsa3 (O : FVec Ideal S256x1024 .f32) (r : Fin 256) : ((k0_pay18 (F := Ideal) O) (ix2 r 0) : EReal) = rs (row O r) (⟨3, by decide⟩ : Fin 8) := by
  refine Eq.trans ?_ (rs_h (row O r) (⟨3, by decide⟩ : Fin 8) (fun x => O (ix2 r ⟨384 + x.val, by have := x.isLt; omega⟩)) fun x => rfl)
  pointwise [k0_pay18, k0_pay17]

theorem rsa4 (O : FVec Ideal S256x1024 .f32) (r : Fin 256) : ((k0_pay21 (F := Ideal) O) (ix2 r 0) : EReal) = rs (row O r) (⟨4, by decide⟩ : Fin 8) := by
  refine Eq.trans ?_ (rs_h (row O r) (⟨4, by decide⟩ : Fin 8) (fun x => O (ix2 r ⟨512 + x.val, by have := x.isLt; omega⟩)) fun x => rfl)
  pointwise [k0_pay21, k0_pay20]

theorem rsa5 (O : FVec Ideal S256x1024 .f32) (r : Fin 256) : ((k0_pay24 (F := Ideal) O) (ix2 r 0) : EReal) = rs (row O r) (⟨5, by decide⟩ : Fin 8) := by
  refine Eq.trans ?_ (rs_h (row O r) (⟨5, by decide⟩ : Fin 8) (fun x => O (ix2 r ⟨640 + x.val, by have := x.isLt; omega⟩)) fun x => rfl)
  pointwise [k0_pay24, k0_pay23]

theorem rsa6 (O : FVec Ideal S256x1024 .f32) (r : Fin 256) : ((k0_pay27 (F := Ideal) O) (ix2 r 0) : EReal) = rs (row O r) (⟨6, by decide⟩ : Fin 8) := by
  refine Eq.trans ?_ (rs_h (row O r) (⟨6, by decide⟩ : Fin 8) (fun x => O (ix2 r ⟨768 + x.val, by have := x.isLt; omega⟩)) fun x => rfl)
  pointwise [k0_pay27, k0_pay26]

theorem rsa7 (O : FVec Ideal S256x1024 .f32) (r : Fin 256) : ((k0_pay31 (F := Ideal) (k0_pay30 O)) (ix2 r 0) : EReal) = rs (row O r) (⟨7, by decide⟩ : Fin 8) := by
  refine Eq.trans ?_ (rs_h (row O r) (⟨7, by decide⟩ : Fin 8) (fun x => O (ix2 r ⟨896 + x.val, by have := x.isLt; omega⟩)) fun x => rfl)
  pointwise [k0_pay31, k0_pay30, k0_pay29]

theorem rsb0 (O : FVec Ideal S256x1024 .f32) (r : Fin 256) : ((k0_pay54 (F := Ideal) O) (ix2 r 0) : EReal) = rs (row O r) (⟨0, by decide⟩ : Fin 8) := by
  refine Eq.trans ?_ (rs_h (row O r) (⟨0, by decide⟩ : Fin 8) (fun x => O (ix2 r ⟨0 + x.val, by have := x.isLt; omega⟩)) fun x => rfl)
  pointwise [k0_pay54, k0_pay53]

theorem rsb1 (O : FVec Ideal S256x1024 .f32) (r : Fin 256) : ((k0_pay58 (F := Ideal) (k0_pay57 O) (Ideal.ofBits .f32 0x358637BD#32)) (ix2 r 0) : EReal) = rs (row O r) (⟨1, by decide⟩ : Fin 8) := by
  refine Eq.trans ?_ (rs_h (row O r) (⟨1, by decide⟩ : Fin 8) (fun x => O (ix2 r ⟨128 + x.val, by have := x.isLt; omega⟩)) fun x => rfl)
  pointwise [k0_pay58, k0_pay57, k0_pay56]

theorem rsb2 (O : FVec Ideal S256x1024 .f32) (r : Fin 256) : ((k0_pay61 (F := Ideal) O) (ix2 r 0) : EReal) = rs (row O r) (⟨2, by decide⟩ : Fin 8) := by
  refine Eq.trans ?_ (rs_h (row O r) (⟨2, by decide⟩ : Fin 8) (fun x => O (ix2 r ⟨256 + x.val, by have := x.isLt; omega⟩)) fun x => rfl)
  pointwise [k0_pay61, k0_pay60]

theorem rsb3 (O : FVec Ideal S256x1024 .f32) (r : Fin 256) : ((k0_pay64 (F := Ideal) O) (ix2 r 0) : EReal) = rs (row O r) (⟨3, by decide⟩ : Fin 8) := by
  refine Eq.trans ?_ (rs_h (row O r) (⟨3, by decide⟩ : Fin 8) (fun x => O (ix2 r ⟨384 + x.val, by have := x.isLt; omega⟩)) fun x => rfl)
  pointwise [k0_pay64, k0_pay63]

theorem rsb4 (O : FVec Ideal S256x1024 .f32) (r : Fin 256) : ((k0_pay67 (F := Ideal) O) (ix2 r 0) : EReal) = rs (row O r) (⟨4, by decide⟩ : Fin 8) := by
  refine Eq.trans ?_ (rs_h (row O r) (⟨4, by decide⟩ : Fin 8) (fun x => O (ix2 r ⟨512 + x.val, by have := x.isLt; omega⟩)) fun x => rfl)
  pointwise [k0_pay67, k0_pay66]

theorem rsb5 (O : FVec Ideal S256x1024 .f32) (r : Fin 256) : ((k0_pay70 (F := Ideal) O) (ix2 r 0) : EReal) = rs (row O r) (⟨5, by decide⟩ : Fin 8) := by
  refine Eq.trans ?_ (rs_h (row O r) (⟨5, by decide⟩ : Fin 8) (fun x => O (ix2 r ⟨640 + x.val, by have := x.isLt; omega⟩)) fun x => rfl)
  pointwise [k0_pay70, k0_pay69]

theorem rsb6 (O : FVec Ideal S256x1024 .f32) (r : Fin 256) : ((k0_pay73 (F := Ideal) O) (ix2 r 0) : EReal) = rs (row O r) (⟨6, by decide⟩ : Fin 8) := by
  refine Eq.trans ?_ (rs_h (row O r) (⟨6, by decide⟩ : Fin 8) (fun x => O (ix2 r ⟨768 + x.val, by have := x.isLt; omega⟩)) fun x => rfl)
  pointwise [k0_pay73, k0_pay72]

theorem rsb7 (O : FVec Ideal S256x1024 .f32) (r : Fin 256) : ((k0_pay75 (F := Ideal) O) (ix2 r 0) : EReal) = rs (row O r) (⟨7, by decide⟩ : Fin 8) := by
  refine Eq.trans ?_ (rs_h (row O r) (⟨7, by decide⟩ : Fin 8) (fun x => O (ix2 r ⟨896 + x.val, by have := x.isLt; omega⟩)) fun x => rfl)
  pointwise [k0_pay75, k0_pay74]

theorem ona0 (O : FVec Ideal S256x1024 .f32) (r : Fin 256) (x : Fin 128) : (k0_pay10 (F := Ideal) O (ix2 r x) : EReal) = on (row O r) (at_ (⟨0, by decide⟩ : Fin 8) x) := by
  rw [on_h]
  refine Eq.trans ?_ (congrArg (fun a : EReal => O (ix2 r ⟨0 + x.val, by have := x.isLt; omega⟩) * a) (rsa0 O r))
  pointwise [k0_pay10, k0_pay8]

theorem ona1 (O : FVec Ideal S256x1024 .f32) (r : Fin 256) (x : Fin 128) : (k0_pay13 (F := Ideal) O (ix2 r x) : EReal) = on (row O r) (at_ (⟨1, by decide⟩ : Fin 8) x) := by
  rw [on_h]
  refine Eq.trans ?_ (congrArg (fun a : EReal => O (ix2 r ⟨128 + x.val, by have := x.isLt; omega⟩) * a) (rsa1 O r))
  pointwise [k0_pay13, k0_pay11]

theorem ona2 (O : FVec Ideal S256x1024 .f32) (r : Fin 256) (x : Fin 128) : (k0_pay16 (F := Ideal) (k0_pay14 O) (k0_pay15 O) (ix2 r x) : EReal) = on (row O r) (at_ (⟨2, by decide⟩ : Fin 8) x) := by
  rw [on_h]
  refine Eq.trans ?_ (congrArg (fun a : EReal => O (ix2 r ⟨256 + x.val, by have := x.isLt; omega⟩) * a) (rsa2 O r))
  pointwise [k0_pay16, k0_pay14]

theorem ona3 (O : FVec Ideal S256x1024 .f32) (r : Fin 256) (x : Fin 128) : (k0_pay19 (F := Ideal) O (ix2 r x) : EReal) = on (row O r) (at_ (⟨3, by decide⟩ : Fin 8) x) := by
  rw [on_h]
  refine Eq.trans ?_ (congrArg (fun a : EReal => O (ix2 r ⟨384 + x.val, by have := x.isLt; omega⟩) * a) (rsa3 O r))
  pointwise [k0_pay19, k0_pay17]

theorem ona4 (O : FVec Ideal S256x1024 .f32) (r : Fin 256) (x : Fin 128) : (k0_pay22 (F := Ideal) O (ix2 r x) : EReal) = on (row O r) (at_ (⟨4, by decide⟩ : Fin 8) x) := by
  rw [on_h]
  refine Eq.trans ?_ (congrArg (fun a : EReal => O (ix2 r ⟨512 + x.val, by have := x.isLt; omega⟩) * a) (rsa4 O r))
  pointwise [k0_pay22, k0_pay20]

theorem ona5 (O : FVec Ideal S256x1024 .f32) (r : Fin 256) (x : Fin 128) : (k0_pay25 (F := Ideal) O (ix2 r x) : EReal) = on (row O r) (at_ (⟨5, by decide⟩ : Fin 8) x) := by
  rw [on_h]
  refine Eq.trans ?_ (congrArg (fun a : EReal => O (ix2 r ⟨640 + x.val, by have := x.isLt; omega⟩) * a) (rsa5 O r))
  pointwise [k0_pay25, k0_pay23]

theorem ona6 (O : FVec Ideal S256x1024 .f32) (r : Fin 256) (x : Fin 128) : (k0_pay28 (F := Ideal) O (ix2 r x) : EReal) = on (row O r) (at_ (⟨6, by decide⟩ : Fin 8) x) := by
  rw [on_h]
  refine Eq.trans ?_ (congrArg (fun a : EReal => O (ix2 r ⟨768 + x.val, by have := x.isLt; omega⟩) * a) (rsa6 O r))
  pointwise [k0_pay28, k0_pay26]

theorem ona7 (O : FVec Ideal S256x1024 .f32) (r : Fin 256) (x : Fin 128) : (k0_pay29 (F := Ideal) O (ix2 r x) * k0_pay31 (F := Ideal) (k0_pay30 O) (ix2 r 0) : EReal) = on (row O r) (at_ (⟨7, by decide⟩ : Fin 8) x) := by
  rw [on_h]
  refine Eq.trans ?_ (congrArg (fun a : EReal => O (ix2 r ⟨896 + x.val, by have := x.isLt; omega⟩) * a) (rsa7 O r))
  pointwise [k0_pay29]

theorem ona (O : FVec Ideal S256x1024 .f32) (r : Fin 256) (k : Fin 1024) : ((k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r k) : EReal) = on (row O r) k :=
  cata _ _ _ _ _ _ _ _ _ r k (on (row O r)) (ona0 O r) (ona1 O r) (ona2 O r) (ona3 O r) (ona4 O r) (ona5 O r) (ona6 O r) (ona7 O r)

theorem oga (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : (k0_pay33 (F := Ideal) g (k0_pay10 O) (k0_pay13 O) (k0_pay16 (k0_pay14 O) (k0_pay15 O)) (k0_pay19 O) (k0_pay22 O) (k0_pay25 O) (k0_pay28 O) (k0_pay29 O) (k0_pay30 O) (ix2 r k) : EReal) = on (row O r) k * g (ix2 0 k) := by
  refine Eq.trans ?_ (congrArg (fun a : EReal => a * g (ix2 0 k)) (ona O r k))
  pointwise [k0_pay33]

theorem sila (Gt : FVec Ideal S256x1024 .bf16) (r : Fin 256) (k : Fin 1024) : (k0_pay34 (F := Ideal) (k0_pay7 Gt) (ix2 r k) : EReal) = sil (row Gt r) k := by
  pointwise [k0_pay34, k0_pay7]
  rfl

theorem dya (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : (k0_pay36 (F := Ideal) D W (ix2 r k) : EReal) = dy (row D r) W k := by
  pointwise [k0_pay36]
  rfl

theorem dsa (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : ((k0_pay38 (F := Ideal) D (k0_pay7 Gt) W) (ix2 r k) : EReal) = dsl (row D r) (row Gt r) W k := by
  refine Eq.trans ?_ (congrArg₂ (fun a b : EReal => a * b) (dya D O Gt g W r k) (sila Gt r k))
  pointwise [k0_pay38]

theorem dona (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : ((k0_pay39 (F := Ideal) D (k0_pay7 Gt) W g) (ix2 r k) : EReal) = don (row D r) (row Gt r) g W k := by
  refine Eq.trans ?_ (congrArg (fun a : EReal => a * g (ix2 0 k)) (dsa D O Gt g W r k))
  pointwise [k0_pay39]

/-- The gate's gradient, one block of rows. -/
theorem dga (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : ((k0_pay49 (F := Ideal) (k0_pay37 D (k0_pay7 Gt) g (k0_pay10 O) (k0_pay13 O) (k0_pay16 (k0_pay14 O) (k0_pay15 O)) (k0_pay19 O) (k0_pay22 O) (k0_pay25 O) (k0_pay28 O) (k0_pay29 O) (k0_pay30 O) W)) (ix2 r k) : EReal) = dG (row D r) (row O r) (row Gt r) g W k := by
  unfold dG
  refine Eq.trans ?_ (congrArg₂ (fun a b : EReal => a * b * (Ideal.logistic (row Gt r k) * (1 + row Gt r k * (1 - Ideal.logistic (row Gt r k))))) (dya D O Gt g W r k) (oga D O Gt g W r k))
  pointwise [k0_pay49, k0_pay37, k0_pay7]
  try rfl

/-- The product's gradient, one block of rows. -/
theorem dwa (D : FVec Ideal S256x1024 .bf16) (O : FVec Ideal S256x1024 .f32) (Gt : FVec Ideal S256x1024 .bf16) (g : FVec Ideal S1x1024 .f32) (W : FVec Ideal S1024x1024 .bf16) (i j : Fin 1024) : ((k0_pay35 (F := Ideal) D (k0_pay7 Gt) g (k0_pay10 O) (k0_pay13 O) (k0_pay16 (k0_pay14 O) (k0_pay15 O)) (k0_pay19 O) (k0_pay22 O) (k0_pay25 O) (k0_pay28 O) (k0_pay29 O) (k0_pay30 O)) (ix2 i j) : EReal) = ∑ r : Fin 256, c7 (row D r) (row O r) (row Gt r) g i j := by
  refine Eq.trans ?_ (Finset.sum_congr rfl fun r _ => congrArg₂ (fun a b : EReal => a * b * D (ix2 r j)) (oga D O Gt g W r i) (sila Gt r i))
  pointwise [k0_pay35]

/-- The scale's gradient, one block of rows. -/
theorem dna (D : FVec Ideal S256x1024 .bf16) (O : FVec Ideal S256x1024 .f32) (Gt : FVec Ideal S256x1024 .bf16) (g : FVec Ideal S1x1024 .f32) (W : FVec Ideal S1024x1024 .bf16) (j : Fin 1024) : (k0_pay47 (F := Ideal) (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay38 (F := Ideal) D (k0_pay7 Gt) W) (ix2 0 j) : EReal) = ∑ r : Fin 256, c8 (row D r) (row O r) (row Gt r) W j := by
  refine Eq.trans ?_ (Finset.sum_congr rfl fun r _ => congrArg₂ (fun a b : EReal => a * b) (dsa D O Gt g W r j) (ona O r j))
  pointwise [k0_pay47]

theorem doa0 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay40 (F := Ideal) D (k0_pay7 Gt) (k0_pay9 O) (k0_pay10 O) (k0_pay13 O) (k0_pay16 (k0_pay14 O) (k0_pay15 O)) (k0_pay19 O) (k0_pay22 O) (k0_pay25 O) (k0_pay28 O) (k0_pay29 O) (k0_pay30 O) W g (ix2 r x) : EReal) = dO (row O r) (don (row D r) (row Gt r) g W) (at_ (⟨0, by decide⟩ : Fin 8) x) := by
  refine Eq.trans ?_ (dO_h (row O r) (don (row D r) (row Gt r) g W) (⟨0, by decide⟩ : Fin 8) x ((k0_pay9 (F := Ideal) O) (ix2 r 0)) (fun x => (k0_pay39 (F := Ideal) D (k0_pay7 Gt) W g) (ix2 r ⟨0 + x.val, by have := x.isLt; omega⟩)) (fun x => (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨0 + x.val, by have := x.isLt; omega⟩)) (rsa0 O r) (fun x => dona D O Gt g W r _) (fun x => ona O r _))
  pointwise [k0_pay40]

theorem doa1 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay42 (F := Ideal) (k0_pay12 O) (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay39 (F := Ideal) D (k0_pay7 Gt) W g) (k0_pay41 D (k0_pay7 Gt) W g) (ix2 r x) : EReal) = dO (row O r) (don (row D r) (row Gt r) g W) (at_ (⟨1, by decide⟩ : Fin 8) x) := by
  refine Eq.trans ?_ (dO_h (row O r) (don (row D r) (row Gt r) g W) (⟨1, by decide⟩ : Fin 8) x ((k0_pay12 (F := Ideal) O) (ix2 r 0)) (fun x => (k0_pay39 (F := Ideal) D (k0_pay7 Gt) W g) (ix2 r ⟨128 + x.val, by have := x.isLt; omega⟩)) (fun x => (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨128 + x.val, by have := x.isLt; omega⟩)) (rsa1 O r) (fun x => dona D O Gt g W r _) (fun x => ona O r _))
  pointwise [k0_pay42, k0_pay41]

theorem doa2 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay43 (F := Ideal) (k0_pay15 O) (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay39 (F := Ideal) D (k0_pay7 Gt) W g) (ix2 r x) : EReal) = dO (row O r) (don (row D r) (row Gt r) g W) (at_ (⟨2, by decide⟩ : Fin 8) x) := by
  refine Eq.trans ?_ (dO_h (row O r) (don (row D r) (row Gt r) g W) (⟨2, by decide⟩ : Fin 8) x ((k0_pay15 (F := Ideal) O) (ix2 r 0)) (fun x => (k0_pay39 (F := Ideal) D (k0_pay7 Gt) W g) (ix2 r ⟨256 + x.val, by have := x.isLt; omega⟩)) (fun x => (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨256 + x.val, by have := x.isLt; omega⟩)) (rsa2 O r) (fun x => dona D O Gt g W r _) (fun x => ona O r _))
  pointwise [k0_pay43]

theorem doa3 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay44 (F := Ideal) (k0_pay18 O) (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay39 (F := Ideal) D (k0_pay7 Gt) W g) (ix2 r x) : EReal) = dO (row O r) (don (row D r) (row Gt r) g W) (at_ (⟨3, by decide⟩ : Fin 8) x) := by
  refine Eq.trans ?_ (dO_h (row O r) (don (row D r) (row Gt r) g W) (⟨3, by decide⟩ : Fin 8) x ((k0_pay18 (F := Ideal) O) (ix2 r 0)) (fun x => (k0_pay39 (F := Ideal) D (k0_pay7 Gt) W g) (ix2 r ⟨384 + x.val, by have := x.isLt; omega⟩)) (fun x => (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨384 + x.val, by have := x.isLt; omega⟩)) (rsa3 O r) (fun x => dona D O Gt g W r _) (fun x => ona O r _))
  pointwise [k0_pay44]

theorem doa4 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay21 (F := Ideal) O (ix2 r 0) * (k0_pay45 (F := Ideal) (k0_pay39 (F := Ideal) D (k0_pay7 Gt) W g) (ix2 r x) - k0_pay46 (F := Ideal) (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay39 (F := Ideal) D (k0_pay7 Gt) W g) (ix2 r x)) : EReal) = dO (row O r) (don (row D r) (row Gt r) g W) (at_ (⟨4, by decide⟩ : Fin 8) x) := by
  refine Eq.trans ?_ (dO_h (row O r) (don (row D r) (row Gt r) g W) (⟨4, by decide⟩ : Fin 8) x ((k0_pay21 (F := Ideal) O) (ix2 r 0)) (fun x => (k0_pay39 (F := Ideal) D (k0_pay7 Gt) W g) (ix2 r ⟨512 + x.val, by have := x.isLt; omega⟩)) (fun x => (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨512 + x.val, by have := x.isLt; omega⟩)) (rsa4 O r) (fun x => dona D O Gt g W r _) (fun x => ona O r _))
  pointwise [k0_pay45, k0_pay46]

theorem doa5 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : ((k0_pay24 (F := Ideal) O) (ix2 r 0) * ((k0_pay39 (F := Ideal) D (k0_pay7 Gt) W g) (ix2 r ⟨640 + x.val, by have := x.isLt; omega⟩) - (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨640 + x.val, by have := x.isLt; omega⟩) * Ideal.div (∑ y : Fin 128, (k0_pay39 (F := Ideal) D (k0_pay7 Gt) W g) (ix2 r ⟨640 + y.val, by have := y.isLt; omega⟩) * (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨640 + y.val, by have := y.isLt; omega⟩)) len) : EReal) = dO (row O r) (don (row D r) (row Gt r) g W) (at_ (⟨5, by decide⟩ : Fin 8) x) := by
  exact dO_h (row O r) (don (row D r) (row Gt r) g W) (⟨5, by decide⟩ : Fin 8) x ((k0_pay24 (F := Ideal) O) (ix2 r 0)) (fun x => (k0_pay39 (F := Ideal) D (k0_pay7 Gt) W g) (ix2 r ⟨640 + x.val, by have := x.isLt; omega⟩)) (fun x => (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨640 + x.val, by have := x.isLt; omega⟩)) (rsa5 O r) (fun x => dona D O Gt g W r _) (fun x => ona O r _)

theorem doa6 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : ((k0_pay27 (F := Ideal) O) (ix2 r 0) * ((k0_pay39 (F := Ideal) D (k0_pay7 Gt) W g) (ix2 r ⟨768 + x.val, by have := x.isLt; omega⟩) - (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨768 + x.val, by have := x.isLt; omega⟩) * Ideal.div (∑ y : Fin 128, (k0_pay39 (F := Ideal) D (k0_pay7 Gt) W g) (ix2 r ⟨768 + y.val, by have := y.isLt; omega⟩) * (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨768 + y.val, by have := y.isLt; omega⟩)) len) : EReal) = dO (row O r) (don (row D r) (row Gt r) g W) (at_ (⟨6, by decide⟩ : Fin 8) x) := by
  exact dO_h (row O r) (don (row D r) (row Gt r) g W) (⟨6, by decide⟩ : Fin 8) x ((k0_pay27 (F := Ideal) O) (ix2 r 0)) (fun x => (k0_pay39 (F := Ideal) D (k0_pay7 Gt) W g) (ix2 r ⟨768 + x.val, by have := x.isLt; omega⟩)) (fun x => (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨768 + x.val, by have := x.isLt; omega⟩)) (rsa6 O r) (fun x => dona D O Gt g W r _) (fun x => ona O r _)

theorem doa7 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : ((k0_pay31 (F := Ideal) (k0_pay30 O)) (ix2 r 0) * ((k0_pay39 (F := Ideal) D (k0_pay7 Gt) W g) (ix2 r ⟨896 + x.val, by have := x.isLt; omega⟩) - (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨896 + x.val, by have := x.isLt; omega⟩) * Ideal.div (∑ y : Fin 128, (k0_pay39 (F := Ideal) D (k0_pay7 Gt) W g) (ix2 r ⟨896 + y.val, by have := y.isLt; omega⟩) * (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨896 + y.val, by have := y.isLt; omega⟩)) len) : EReal) = dO (row O r) (don (row D r) (row Gt r) g W) (at_ (⟨7, by decide⟩ : Fin 8) x) := by
  exact dO_h (row O r) (don (row D r) (row Gt r) g W) (⟨7, by decide⟩ : Fin 8) x ((k0_pay31 (F := Ideal) (k0_pay30 O)) (ix2 r 0)) (fun x => (k0_pay39 (F := Ideal) D (k0_pay7 Gt) W g) (ix2 r ⟨896 + x.val, by have := x.isLt; omega⟩)) (fun x => (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (ix2 r ⟨896 + x.val, by have := x.isLt; omega⟩)) (rsa7 O r) (fun x => dona D O Gt g W r _) (fun x => ona O r _)

/-- The gradient of the rows, one block of them. -/
theorem doa (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : ((k0_pay48 (F := Ideal) (k0_pay21 O) (k0_pay24 O) (k0_pay27 O) (k0_pay31 (k0_pay30 O)) (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay39 (F := Ideal) D (k0_pay7 Gt) W g) (k0_pay40 D (k0_pay7 Gt) (k0_pay9 O) (k0_pay10 O) (k0_pay13 O) (k0_pay16 (k0_pay14 O) (k0_pay15 O)) (k0_pay19 O) (k0_pay22 O) (k0_pay25 O) (k0_pay28 O) (k0_pay29 O) (k0_pay30 O) W g) (k0_pay42 (k0_pay12 O) (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay39 (F := Ideal) D (k0_pay7 Gt) W g) (k0_pay41 D (k0_pay7 Gt) W g)) (k0_pay43 (k0_pay15 O) (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay39 (F := Ideal) D (k0_pay7 Gt) W g)) (k0_pay44 (k0_pay18 O) (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay39 (F := Ideal) D (k0_pay7 Gt) W g)) (k0_pay45 (k0_pay39 (F := Ideal) D (k0_pay7 Gt) W g)) (k0_pay46 (k0_pay32 (F := Ideal) (k0_pay10 O) (k0_pay13 O) (k0_pay16 (k0_pay14 O) (k0_pay15 O)) (k0_pay19 O) (k0_pay22 O) (k0_pay25 O) (k0_pay28 O) (k0_pay29 O) (k0_pay30 O)) (k0_pay39 (F := Ideal) D (k0_pay7 Gt) W g))) (ix2 r k) : EReal) = dO (row O r) (don (row D r) (row Gt r) g W) k :=
  cat48 _ _ _ _ _ _ _ _ _ _ _ _ r k (dO (row O r) (don (row D r) (row Gt r) g W)) (doa0 D O Gt g W r) (doa1 D O Gt g W r) (doa2 D O Gt g W r) (doa3 D O Gt g W r) (doa4 D O Gt g W r) (doa5 D O Gt g W r) (doa6 D O Gt g W r) (doa7 D O Gt g W r)

theorem onb0 (O : FVec Ideal S256x1024 .f32) (r : Fin 256) (x : Fin 128) : (k0_pay55 (F := Ideal) O (ix2 r x) : EReal) = on (row O r) (at_ (⟨0, by decide⟩ : Fin 8) x) := by
  rw [on_h]
  refine Eq.trans ?_ (congrArg (fun a : EReal => O (ix2 r ⟨0 + x.val, by have := x.isLt; omega⟩) * a) (rsb0 O r))
  pointwise [k0_pay55, k0_pay53]

theorem onb1 (O : FVec Ideal S256x1024 .f32) (r : Fin 256) (x : Fin 128) : (k0_pay59 (F := Ideal) (k0_pay56 O) (k0_pay57 O) (Ideal.ofBits .f32 0x358637BD#32) (ix2 r x) : EReal) = on (row O r) (at_ (⟨1, by decide⟩ : Fin 8) x) := by
  rw [on_h]
  refine Eq.trans ?_ (congrArg (fun a : EReal => O (ix2 r ⟨128 + x.val, by have := x.isLt; omega⟩) * a) (rsb1 O r))
  pointwise [k0_pay59, k0_pay56]

theorem onb2 (O : FVec Ideal S256x1024 .f32) (r : Fin 256) (x : Fin 128) : (k0_pay62 (F := Ideal) O (ix2 r x) : EReal) = on (row O r) (at_ (⟨2, by decide⟩ : Fin 8) x) := by
  rw [on_h]
  refine Eq.trans ?_ (congrArg (fun a : EReal => O (ix2 r ⟨256 + x.val, by have := x.isLt; omega⟩) * a) (rsb2 O r))
  pointwise [k0_pay62, k0_pay60]

theorem onb3 (O : FVec Ideal S256x1024 .f32) (r : Fin 256) (x : Fin 128) : (k0_pay65 (F := Ideal) O (ix2 r x) : EReal) = on (row O r) (at_ (⟨3, by decide⟩ : Fin 8) x) := by
  rw [on_h]
  refine Eq.trans ?_ (congrArg (fun a : EReal => O (ix2 r ⟨384 + x.val, by have := x.isLt; omega⟩) * a) (rsb3 O r))
  pointwise [k0_pay65, k0_pay63]

theorem onb4 (O : FVec Ideal S256x1024 .f32) (r : Fin 256) (x : Fin 128) : (k0_pay68 (F := Ideal) O (ix2 r x) : EReal) = on (row O r) (at_ (⟨4, by decide⟩ : Fin 8) x) := by
  rw [on_h]
  refine Eq.trans ?_ (congrArg (fun a : EReal => O (ix2 r ⟨512 + x.val, by have := x.isLt; omega⟩) * a) (rsb4 O r))
  pointwise [k0_pay68, k0_pay66]

theorem onb5 (O : FVec Ideal S256x1024 .f32) (r : Fin 256) (x : Fin 128) : (k0_pay69 (F := Ideal) O (ix2 r x) * k0_pay71 (F := Ideal) O (ix2 r x) : EReal) = on (row O r) (at_ (⟨5, by decide⟩ : Fin 8) x) := by
  rw [on_h]
  refine Eq.trans ?_ (congrArg (fun a : EReal => O (ix2 r ⟨640 + x.val, by have := x.isLt; omega⟩) * a) (rsb5 O r))
  pointwise [k0_pay69, k0_pay71]

theorem onb6 (O : FVec Ideal S256x1024 .f32) (r : Fin 256) (x : Fin 128) : (k0_pay72 (F := Ideal) O (ix2 r x) * k0_pay73 (F := Ideal) O (ix2 r 0) : EReal) = on (row O r) (at_ (⟨6, by decide⟩ : Fin 8) x) := by
  rw [on_h]
  refine Eq.trans ?_ (congrArg (fun a : EReal => O (ix2 r ⟨768 + x.val, by have := x.isLt; omega⟩) * a) (rsb6 O r))
  pointwise [k0_pay72]

theorem onb7 (O : FVec Ideal S256x1024 .f32) (r : Fin 256) (x : Fin 128) : (k0_pay74 (F := Ideal) O (ix2 r x) * k0_pay75 (F := Ideal) O (ix2 r 0) : EReal) = on (row O r) (at_ (⟨7, by decide⟩ : Fin 8) x) := by
  rw [on_h]
  refine Eq.trans ?_ (congrArg (fun a : EReal => O (ix2 r ⟨896 + x.val, by have := x.isLt; omega⟩) * a) (rsb7 O r))
  pointwise [k0_pay74]

theorem onb (O : FVec Ideal S256x1024 .f32) (r : Fin 256) (k : Fin 1024) : ((k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r k) : EReal) = on (row O r) k :=
  catb O _ _ _ _ _ _ _ r k (on (row O r)) (onb0 O r) (onb1 O r) (onb2 O r) (onb3 O r) (onb4 O r) (onb5 O r) (onb6 O r) (onb7 O r)

theorem ogb (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : (k0_pay77 (F := Ideal) O g (k0_pay55 O) (k0_pay59 (k0_pay56 O) (k0_pay57 O) (Ideal.ofBits .f32 0x358637BD#32)) (k0_pay62 O) (k0_pay65 O) (k0_pay68 O) (k0_pay69 O) (k0_pay71 O) (ix2 r k) : EReal) = on (row O r) k * g (ix2 0 k) := by
  refine Eq.trans ?_ (congrArg (fun a : EReal => a * g (ix2 0 k)) (onb O r k))
  pointwise [k0_pay77]

theorem silb (Gt : FVec Ideal S256x1024 .bf16) (r : Fin 256) (k : Fin 1024) : (k0_pay78 (F := Ideal) (k0_pay52 Gt) (ix2 r k) : EReal) = sil (row Gt r) k := by
  pointwise [k0_pay78, k0_pay52]
  rfl

theorem dyb (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : (k0_pay80 (F := Ideal) D W (ix2 r k) : EReal) = dy (row D r) W k := by
  pointwise [k0_pay80]
  rfl

theorem dsb (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : ((k0_pay82 (F := Ideal) D (k0_pay52 Gt) W) (ix2 r k) : EReal) = dsl (row D r) (row Gt r) W k := by
  refine Eq.trans ?_ (congrArg₂ (fun a b : EReal => a * b) (dyb D O Gt g W r k) (silb Gt r k))
  pointwise [k0_pay82]

theorem donb (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : ((k0_pay83 (F := Ideal) D (k0_pay52 Gt) W g) (ix2 r k) : EReal) = don (row D r) (row Gt r) g W k := by
  refine Eq.trans ?_ (congrArg (fun a : EReal => a * g (ix2 0 k)) (dsb D O Gt g W r k))
  pointwise [k0_pay83]

/-- The gate's gradient, one block of rows. -/
theorem dgb (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : ((k0_pay2 (F := Ideal) (k0_pay81 D O (k0_pay52 Gt) g (k0_pay55 O) (k0_pay59 (k0_pay56 O) (k0_pay57 O) (Ideal.ofBits .f32 0x358637BD#32)) (k0_pay62 O) (k0_pay65 O) (k0_pay68 O) (k0_pay69 O) (k0_pay71 O) W)) (ix2 r k) : EReal) = dG (row D r) (row O r) (row Gt r) g W k := by
  unfold dG
  refine Eq.trans ?_ (congrArg₂ (fun a b : EReal => a * b * (Ideal.logistic (row Gt r k) * (1 + row Gt r k * (1 - Ideal.logistic (row Gt r k))))) (dyb D O Gt g W r k) (ogb D O Gt g W r k))
  pointwise [k0_pay2, k0_pay81, k0_pay52]
  try rfl

/-- The product's gradient, one block of rows. -/
theorem dwb (D : FVec Ideal S256x1024 .bf16) (O : FVec Ideal S256x1024 .f32) (Gt : FVec Ideal S256x1024 .bf16) (g : FVec Ideal S1x1024 .f32) (W : FVec Ideal S1024x1024 .bf16) (i j : Fin 1024) : ((k0_pay79 (F := Ideal) D O (k0_pay52 Gt) g (k0_pay55 O) (k0_pay59 (k0_pay56 O) (k0_pay57 O) (Ideal.ofBits .f32 0x358637BD#32)) (k0_pay62 O) (k0_pay65 O) (k0_pay68 O) (k0_pay69 O) (k0_pay71 O)) (ix2 i j) : EReal) = ∑ r : Fin 256, c7 (row D r) (row O r) (row Gt r) g i j := by
  refine Eq.trans ?_ (Finset.sum_congr rfl fun r _ => congrArg₂ (fun a b : EReal => a * b * D (ix2 r j)) (ogb D O Gt g W r i) (silb Gt r i))
  pointwise [k0_pay79]

/-- The scale's gradient, one block of rows. -/
theorem dnb (D : FVec Ideal S256x1024 .bf16) (O : FVec Ideal S256x1024 .f32) (Gt : FVec Ideal S256x1024 .bf16) (g : FVec Ideal S1x1024 .f32) (W : FVec Ideal S1024x1024 .bf16) (Z : FVec Ideal S1x1024 .f32) (i : Fin 1) (j : Fin 1024) : (k0_pay4 (F := Ideal) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay82 (F := Ideal) D (k0_pay52 Gt) W) Z (ix2 i j) : EReal) = Z (ix2 i j) + ∑ r : Fin 256, c8 (row D r) (row O r) (row Gt r) W j := by
  refine Eq.trans ?_ (congrArg (fun a : EReal => Z (ix2 i j) + a) (Finset.sum_congr rfl fun r _ => congrArg₂ (fun a b : EReal => a * b) (dsb D O Gt g W r j) (onb O r j)))
  pointwise [k0_pay4]

theorem dob0 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay84 (F := Ideal) (k0_pay54 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g) (ix2 r x) : EReal) = dO (row O r) (don (row D r) (row Gt r) g W) (at_ (⟨0, by decide⟩ : Fin 8) x) := by
  refine Eq.trans ?_ (dO_h (row O r) (don (row D r) (row Gt r) g W) (⟨0, by decide⟩ : Fin 8) x ((k0_pay54 (F := Ideal) O) (ix2 r 0)) (fun x => (k0_pay83 (F := Ideal) D (k0_pay52 Gt) W g) (ix2 r ⟨0 + x.val, by have := x.isLt; omega⟩)) (fun x => (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r ⟨0 + x.val, by have := x.isLt; omega⟩)) (rsb0 O r) (fun x => donb D O Gt g W r _) (fun x => onb O r _))
  pointwise [k0_pay84]

theorem dob1 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay85 (F := Ideal) (k0_pay58 (k0_pay57 O) (Ideal.ofBits .f32 0x358637BD#32)) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g) (ix2 r x) : EReal) = dO (row O r) (don (row D r) (row Gt r) g W) (at_ (⟨1, by decide⟩ : Fin 8) x) := by
  refine Eq.trans ?_ (dO_h (row O r) (don (row D r) (row Gt r) g W) (⟨1, by decide⟩ : Fin 8) x ((k0_pay58 (F := Ideal) (k0_pay57 O) (Ideal.ofBits .f32 0x358637BD#32)) (ix2 r 0)) (fun x => (k0_pay83 (F := Ideal) D (k0_pay52 Gt) W g) (ix2 r ⟨128 + x.val, by have := x.isLt; omega⟩)) (fun x => (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r ⟨128 + x.val, by have := x.isLt; omega⟩)) (rsb1 O r) (fun x => donb D O Gt g W r _) (fun x => onb O r _))
  pointwise [k0_pay85]

theorem dob2 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay86 (F := Ideal) (k0_pay61 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g) (ix2 r x) : EReal) = dO (row O r) (don (row D r) (row Gt r) g W) (at_ (⟨2, by decide⟩ : Fin 8) x) := by
  refine Eq.trans ?_ (dO_h (row O r) (don (row D r) (row Gt r) g W) (⟨2, by decide⟩ : Fin 8) x ((k0_pay61 (F := Ideal) O) (ix2 r 0)) (fun x => (k0_pay83 (F := Ideal) D (k0_pay52 Gt) W g) (ix2 r ⟨256 + x.val, by have := x.isLt; omega⟩)) (fun x => (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r ⟨256 + x.val, by have := x.isLt; omega⟩)) (rsb2 O r) (fun x => donb D O Gt g W r _) (fun x => onb O r _))
  pointwise [k0_pay86]

theorem dob3 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay90 (F := Ideal) (k0_pay64 O) (k0_pay87 (k0_pay83 (F := Ideal) D (k0_pay52 Gt) W g)) (k0_pay88 (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O))) (k0_pay89 (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g)) (ix2 r x) : EReal) = dO (row O r) (don (row D r) (row Gt r) g W) (at_ (⟨3, by decide⟩ : Fin 8) x) := by
  refine Eq.trans ?_ (dO_h (row O r) (don (row D r) (row Gt r) g W) (⟨3, by decide⟩ : Fin 8) x ((k0_pay64 (F := Ideal) O) (ix2 r 0)) (fun x => (k0_pay83 (F := Ideal) D (k0_pay52 Gt) W g) (ix2 r ⟨384 + x.val, by have := x.isLt; omega⟩)) (fun x => (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r ⟨384 + x.val, by have := x.isLt; omega⟩)) (rsb3 O r) (fun x => donb D O Gt g W r _) (fun x => onb O r _))
  pointwise [k0_pay90, k0_pay87, k0_pay88, k0_pay89]

theorem dob4 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay91 (F := Ideal) (k0_pay67 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g) (ix2 r x) : EReal) = dO (row O r) (don (row D r) (row Gt r) g W) (at_ (⟨4, by decide⟩ : Fin 8) x) := by
  refine Eq.trans ?_ (dO_h (row O r) (don (row D r) (row Gt r) g W) (⟨4, by decide⟩ : Fin 8) x ((k0_pay67 (F := Ideal) O) (ix2 r 0)) (fun x => (k0_pay83 (F := Ideal) D (k0_pay52 Gt) W g) (ix2 r ⟨512 + x.val, by have := x.isLt; omega⟩)) (fun x => (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r ⟨512 + x.val, by have := x.isLt; omega⟩)) (rsb4 O r) (fun x => donb D O Gt g W r _) (fun x => onb O r _))
  pointwise [k0_pay91]

theorem dob5 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay92 (F := Ideal) (k0_pay70 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g) (ix2 r x) : EReal) = dO (row O r) (don (row D r) (row Gt r) g W) (at_ (⟨5, by decide⟩ : Fin 8) x) := by
  refine Eq.trans ?_ (dO_h (row O r) (don (row D r) (row Gt r) g W) (⟨5, by decide⟩ : Fin 8) x ((k0_pay70 (F := Ideal) O) (ix2 r 0)) (fun x => (k0_pay83 (F := Ideal) D (k0_pay52 Gt) W g) (ix2 r ⟨640 + x.val, by have := x.isLt; omega⟩)) (fun x => (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r ⟨640 + x.val, by have := x.isLt; omega⟩)) (rsb5 O r) (fun x => donb D O Gt g W r _) (fun x => onb O r _))
  pointwise [k0_pay92]

theorem dob6 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay93 (F := Ideal) (k0_pay73 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g) (ix2 r x) : EReal) = dO (row O r) (don (row D r) (row Gt r) g W) (at_ (⟨6, by decide⟩ : Fin 8) x) := by
  refine Eq.trans ?_ (dO_h (row O r) (don (row D r) (row Gt r) g W) (⟨6, by decide⟩ : Fin 8) x ((k0_pay73 (F := Ideal) O) (ix2 r 0)) (fun x => (k0_pay83 (F := Ideal) D (k0_pay52 Gt) W g) (ix2 r ⟨768 + x.val, by have := x.isLt; omega⟩)) (fun x => (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r ⟨768 + x.val, by have := x.isLt; omega⟩)) (rsb6 O r) (fun x => donb D O Gt g W r _) (fun x => onb O r _))
  pointwise [k0_pay93]

theorem dob7 (D : FVec Ideal S256x1024 .bf16) (O : FVec Ideal S256x1024 .f32) (Gt : FVec Ideal S256x1024 .bf16) (g : FVec Ideal S1x1024 .f32) (W : FVec Ideal S1024x1024 .bf16) (r : Fin 256) (x : Fin 128) : (k0_pay75 (F := Ideal) O (ix2 r 0) * (k0_pay94 (F := Ideal) (k0_pay83 (F := Ideal) D (k0_pay52 Gt) W g) (ix2 r x) - k0_pay95 (F := Ideal) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r x) * Ideal.div (k0_pay96 (F := Ideal) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g) (ix2 r 0)) len) : EReal) = dO (row O r) (don (row D r) (row Gt r) g W) (at_ (⟨7, by decide⟩ : Fin 8) x) := by
  refine Eq.trans ?_ (dO_h (row O r) (don (row D r) (row Gt r) g W) (⟨7, by decide⟩ : Fin 8) x ((k0_pay75 (F := Ideal) O) (ix2 r 0)) (fun x => (k0_pay83 (F := Ideal) D (k0_pay52 Gt) W g) (ix2 r ⟨896 + x.val, by have := x.isLt; omega⟩)) (fun x => (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (ix2 r ⟨896 + x.val, by have := x.isLt; omega⟩)) (rsb7 O r) (fun x => donb D O Gt g W r _) (fun x => onb O r _))
  pointwise [k0_pay94, k0_pay95, k0_pay96]

/-- The gradient of the rows, one block of them. -/
theorem dob (D : FVec Ideal S256x1024 .bf16) (O : FVec Ideal S256x1024 .f32) (Gt : FVec Ideal S256x1024 .bf16) (g : FVec Ideal S1x1024 .f32) (W : FVec Ideal S1024x1024 .bf16) (r : Fin 256) (k : Fin 1024) : ((k0_pay1 (F := Ideal) (k0_pay75 O) (k0_pay84 (k0_pay54 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g)) (k0_pay85 (k0_pay58 (k0_pay57 O) (Ideal.ofBits .f32 0x358637BD#32)) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g)) (k0_pay86 (k0_pay61 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g)) (k0_pay90 (k0_pay64 O) (k0_pay87 (k0_pay83 (F := Ideal) D (k0_pay52 Gt) W g)) (k0_pay88 (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O))) (k0_pay89 (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g))) (k0_pay91 (k0_pay67 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g)) (k0_pay92 (k0_pay70 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g)) (k0_pay93 (k0_pay73 O) (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g)) (k0_pay94 (k0_pay83 (F := Ideal) D (k0_pay52 Gt) W g)) (k0_pay95 (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O))) (k0_pay96 (k0_pay76 (F := Ideal) O (k0_pay55 O) (k0_pay59 (k0_pay56 O) (k0_pay57 O) (Ideal.ofBits .f32 0x358637BD#32)) (k0_pay62 O) (k0_pay65 O) (k0_pay68 O) (k0_pay69 O) (k0_pay71 O)) (k0_pay83 (F := Ideal) D (k0_pay52 Gt) W g))) (ix2 r k) : EReal) = dO (row O r) (don (row D r) (row Gt r) g W) k :=
  cat1 _ _ _ _ _ _ _ _ _ _ _ r k (dO (row O r) (don (row D r) (row Gt r) g W)) (dob0 D O Gt g W r) (dob1 D O Gt g W r) (dob2 D O Gt g W r) (dob3 D O Gt g W r) (dob4 D O Gt g W r) (dob5 D O Gt g W r) (dob6 D O Gt g W r) (dob7 D O Gt g W r)

end Cert.HgPathIdeal.Value

end

end
-- ==== Proof.HpRef.lean ====
module

public import proofs.«01_k».proof.Proof.HpBase
public import proofs.«01_k».proof.Proof.Gen.HgPathRefIdeal.Read

@[expose] public section

set_option maxRecDepth 16384
noncomputable section
open Idealize.ShloMosaic Idealize.ShloMosaic.TcCoe Idealize.SL.Sem
open Idealize.ShloMosaic.Pipeline (Dat)
namespace Cert.HgPathIdeal.Value
open Cert.HgPathIdeal Cert.HgPathIdeal.Gen
open Cert.HgPathRefIdeal.Read

theorem log_eq (x : EReal) : Ideal.div 1 (1 + Ideal.exp (-x)) = Ideal.logistic x := rfl

theorem len_c : Ideal.ofBits .f32 0x43000000#32 = ((128 : ℝ) : EReal) := by simp [Ideal.ofBits, Ideal.ieee]; rw [← EReal.coe_mul]; norm_num

/-- The mean square of a head plus the small number is a positive real, and then the head is real, or infinite. -/
theorem mean_sq (X : Fin 128 → EReal) :
    (∃ v : ℝ, 0 < v ∧ Ideal.div (∑ k, X k * X k) len + eps = (v : EReal) ∧ ∀ k, ∃ a : ℝ, X k = (a : EReal))
      ∨ Ideal.div (∑ k, X k * X k) len + eps = ⊤ := by
  obtain ⟨e, he, hE⟩ := Cert.Rms.eps_c
  rw [show len = ((128 : ℝ) : EReal) from len_c, show eps = (e : EReal) from hE, Cert.Rms.div_coe' (by norm_num)]
  have hS : 0 ≤ ∑ k, X k * X k := Finset.sum_nonneg fun k _ => Cert.Rms.sq_nonneg' _
  have hle : ∀ k, X k * X k ≤ ∑ k, X k * X k := fun k => Finset.single_le_sum (fun k _ => Cert.Rms.sq_nonneg' (X k)) (Finset.mem_univ k)
  generalize (∑ k, X k * X k) = S at hS hle
  induction S with
  | bot => exact absurd hS (by simp)
  | coe a =>
    left
    refine ⟨a * (1 / 128) + e, ?_, by rw [EReal.coe_add, EReal.coe_mul], fun k => ?_⟩
    · have : 0 ≤ a := EReal.coe_nonneg.mp hS
      positivity
    · have h := hle k
      generalize X k = x at h
      induction x with
      | bot => exact absurd h (by simp)
      | coe b => exact ⟨b, rfl⟩
      | top => exact absurd h (by simp)
  | top => right; rw [EReal.top_mul_coe_of_pos (by norm_num)]; rfl

/-- The gradient through a head's normalisation: the short form is the long one. -/
theorem bwd (X D : Fin 128 → EReal) (d x : EReal) (v : EReal)
    (hv : v = Ideal.div (∑ k, X k * X k) len + eps) :
    Ideal.rsqrt v * (d - x * Ideal.rsqrt v * Ideal.div (∑ k, D k * (X k * Ideal.rsqrt v)) len)
      = d * Ideal.rsqrt v
        + x * Ideal.div ((∑ k, X k * D k) * (Ideal.ofBits .f32 0xBF000000#32 * Ideal.div (Ideal.rsqrt v) v)) len
        + Ideal.div ((∑ k, X k * D k) * (Ideal.ofBits .f32 0xBF000000#32 * Ideal.div (Ideal.rsqrt v) v)) len * x := by
  rcases mean_sq X with ⟨w, hw, e, -⟩ | e
  · rw [← hv] at e
    subst e
    clear hv
    rw [show len = ((128 : ℝ) : EReal) from len_c, Cert.Rms.half_c]
    have hs : 0 < Real.sqrt w := Real.sqrt_pos.mpr hw
    rw [Ideal.rsqrt_coe, if_neg (not_lt.mpr hw.le), if_neg hw.ne', Cert.Rms.div_coe' hw.ne', Cert.Rms.div_coe' (by norm_num : (128 : ℝ) ≠ 0), Cert.Rms.div_coe' (by norm_num : (128 : ℝ) ≠ 0)]
    have hr : 0 ≤ (Real.sqrt w)⁻¹ := (inv_pos.mpr hs).le
    have h3 : (1 : ℝ) / w = (Real.sqrt w)⁻¹ * (Real.sqrt w)⁻¹ := by
      rw [← mul_inv, Real.mul_self_sqrt hw.le, one_div]
    rw [h3]
    generalize (Real.sqrt w)⁻¹ = r at hr
    have hT : ∑ k, D k * (X k * (r : EReal)) = (r : EReal) * ∑ k, X k * D k := by
      rw [Cert.Rms.mul_sum_coe _ r hr]
      exact Finset.sum_congr rfl fun k _ => by rw [← mul_assoc, mul_comm, mul_comm (D k)]
    rw [hT]
    generalize (∑ k, X k * D k) = T
    rw [sub_eq_add_neg, Cert.Rms.mul_add_coe r hr, add_assoc _ (x * _), mul_comm (T * _ * _) x, Cert.Rms.add_self, mul_comm (r : EReal) d]
    congr 1
    rw [mul_neg, ← neg_mul]
    simp only [← EReal.coe_mul, ← EReal.coe_neg]
    have : ∀ a b c u w : ℝ, a * (b * c) * u = w → (a : EReal) * (x * (b : EReal) * (c * T * u)) = x * T * (w : EReal) := by
      rintro a b c u w rfl
      simp only [EReal.coe_mul]
      simp only [mul_assoc, mul_comm, mul_left_comm]
    have e2 : ∀ a b u w : ℝ, a * b * u = w → (a : EReal) * (x * (T * (b : EReal) * u)) = x * T * (w : EReal) := by
      rintro a b u w rfl
      simp only [EReal.coe_mul]
      simp only [mul_assoc, mul_comm, mul_left_comm]
    rw [this _ _ _ _ _ rfl, e2 _ _ _ _ rfl]
    congr 2
    ring
  · rw [← hv] at e
    subst e
    rw [show len = ((128 : ℝ) : EReal) from len_c, Ideal.rsqrt_top]
    have h0 : Ideal.div 0 ⊤ = 0 := by unfold Ideal.div; rw [if_neg (by simp), zero_mul]
    have h1 : Ideal.div 0 ((128 : ℝ) : EReal) = 0 := by rw [Cert.Rms.div_coe' (by norm_num), zero_mul]
    simp only [mul_zero, zero_mul, Finset.sum_const_zero, h0, h1, add_zero]

/-- The long form of the gradient of the rows. -/
theorem dO_long (O d : Fin 1024 → EReal) (k : Fin 1024) : dO O d k
    = d k * rs O (hd k)
      + O k * Ideal.div ((∑ x : Fin 128, O (at_ (hd k) x) * d (at_ (hd k) x)) * (Ideal.ofBits .f32 0xBF000000#32 * Ideal.div (rs O (hd k)) (ms O (hd k)))) len
      + Ideal.div ((∑ x : Fin 128, O (at_ (hd k) x) * d (at_ (hd k) x)) * (Ideal.ofBits .f32 0xBF000000#32 * Ideal.div (rs O (hd k)) (ms O (hd k)))) len * O k := by
  unfold dO
  simp only [on_h]
  exact bwd (fun x => O (at_ (hd k) x)) (fun x => d (at_ (hd k) x)) (d k) (O k) (ms O (hd k)) rfl

/-- A normalised entry is real: an infinite row has the inverse root zero. -/
theorem on_real (O : Fin 1024 → EReal) (k : Fin 1024) : ∃ a : ℝ, on O k = (a : EReal) := by
  unfold on rs ms
  rcases mean_sq (fun x => O (at_ (hd k) x)) with ⟨w, hw, e, hx⟩ | e
  · obtain ⟨a, ha⟩ := hx ⟨k.val % 128, Nat.mod_lt _ (by decide)⟩
    have hk : at_ (hd k) ⟨k.val % 128, Nat.mod_lt _ (by decide)⟩ = k := Fin.ext (show 128 * (k.val / 128) + k.val % 128 = k.val by omega)
    simp only [hk] at ha
    simp only [e]
    rw [ha, Ideal.rsqrt_coe, if_neg (not_lt.mpr hw.le), if_neg hw.ne', ← EReal.coe_mul]
    exact ⟨_, rfl⟩
  · simp only [e]
    rw [Ideal.rsqrt_top, mul_zero]
    exact ⟨0, rfl⟩

theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

theorem dy_real (D : Fin 1024 → EReal) (W : S1024x1024.Idx → EReal) (hD : ∀ j, ∃ a : ℝ, D j = (a : EReal)) (hW : ∀ i, ∃ a : ℝ, W i = (a : EReal)) (k : Fin 1024) :
    ∃ a : ℝ, dy D W k = (a : EReal) := by
  choose a ha using hD
  choose b hb using hW
  unfold dy
  simp only [ha, hb, ← EReal.coe_mul]
  exact ⟨_, coe_sum _⟩

theorem sub_self_one : (1 : EReal) - 1 = 0 := by
  rw [← EReal.coe_one, ← EReal.coe_sub, sub_self, EReal.coe_zero]

/-- The derivative of the gate: its two forms agree when the factor before them is real. -/
theorem gate_eq (c : ℝ) (x : EReal) : (c : EReal) * (Ideal.logistic x * (1 + x * (1 - Ideal.logistic x)))
    = c * Ideal.logistic x + x * c * (Ideal.logistic x * (1 - Ideal.logistic x)) := by
  induction x with
  | bot =>
    have h : Ideal.logistic (⊥ : EReal) = 0 := by
      show Ideal.div 1 (1 + Ideal.exp (-⊥)) = 0
      rw [EReal.neg_bot, show Ideal.exp (⊤ : EReal) = ⊤ from rfl]
      unfold Ideal.div
      rw [show (1 : EReal) + ⊤ = ⊤ from rfl, if_neg (by simp)]
      simp
    rw [h]
    simp only [mul_zero, zero_mul, add_zero]
  | coe a =>
    rw [Ideal.logistic_coe]
    generalize (_ : ℝ) = s
    rw [← EReal.coe_one]
    simp only [← EReal.coe_mul, ← EReal.coe_sub, ← EReal.coe_add]
    congr 1
    ring
  | top =>
    have h : Ideal.logistic (⊤ : EReal) = 1 := by
      show Ideal.div 1 (1 + Ideal.exp (-⊤)) = 1
      rw [EReal.neg_top, show Ideal.exp (⊥ : EReal) = 0 from rfl, add_zero]
      unfold Ideal.div
      simp
    rw [h, sub_self_one]
    simp only [mul_zero, add_zero, mul_one]

/-- The long form of the gate's gradient. -/
theorem dG_long (D O Gt : Fin 1024 → EReal) (g : S1x1024.Idx → EReal) (W : S1024x1024.Idx → EReal) (hD : ∀ j, ∃ a : ℝ, D j = (a : EReal))
    (hg : ∀ i, ∃ a : ℝ, g i = (a : EReal)) (hW : ∀ i, ∃ a : ℝ, W i = (a : EReal)) (k : Fin 1024) :
    dG D O Gt g W k = on O k * g (ix2 0 k) * dy D W k * Ideal.logistic (Gt k)
      + Gt k * (on O k * g (ix2 0 k) * dy D W k) * (Ideal.logistic (Gt k) * (1 - Ideal.logistic (Gt k))) := by
  obtain ⟨a, ha⟩ := on_real O k
  obtain ⟨b, hb⟩ := hg (ix2 0 k)
  obtain ⟨c, hc⟩ := dy_real D W hD hW k
  unfold dG
  rw [ha, hb, hc, mul_comm (G := EReal) (c : EReal)]
  simp only [← EReal.coe_mul]
  exact gate_eq _ _

/-- A row of the gate, columns 3072 to 4095 of the projections. -/
def gate (x2 : FVec Ideal S8192x7168 .bf16) (R : Fin 8192) : Fin 1024 → EReal := fun k => x2 (ix2 R ⟨3072 + k.val, by have := k.isLt; omega⟩)

theorem r28 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (k : Fin 1024) : ((val_main_v28 (F := Ideal) x0 x4 (ix2 R k)) : EReal) = dy (row x0 R) x4 k := by
  pointwise [val_main_v28, val_main_v2, val_main_v25]
  rfl

theorem r22 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (k : Fin 1024) : ((val_main_v22_0 (F := Ideal) x2 (ix2 R k)) : EReal) = sil (gate x2 R) k := by
  pointwise [val_main_v22_0, val_main_v22_2, val_main_call0_v3, val_main_call0_v1, val_main_call0_v0, val_main_v1, val_main_v0, val_main_call0_v2, val_main_call0_cst, val_main_call0_v4, val_main_call0_cst_0]
  simp only [log_eq]
  rfl

theorem r30 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (k : Fin 1024) : ((val_main_v30 (F := Ideal) x0 x2 x4 (ix2 R k)) : EReal) = dsl (row x0 R) (gate x2 R) x4 k := by
  pointwise [val_main_v30]
  rw [r28 x0 x1 x2 x3 x4, r22 x0 x1 x2 x3 x4]
  rfl

theorem r12 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (h : Fin 8) (x : Fin 1) : ((val_main_v12 (F := Ideal) x1 (ix3 R h x)) : EReal) = rs (row x1 R) h := by
  have e : ∀ (h : Fin 8) (y : Fin 128) (p), (⟨h.val * 128 + y.val, p⟩ : Fin 1024) = at_ h y := fun h y p =>
    Fin.ext (show h.val * 128 + y.val = 128 * h.val + y.val by omega)
  pointwise [val_main_v12, val_main_v11, val_main_v10, val_main_cst_1, val_main_v9, val_main_v8, val_main_cst_0, val_main_v7, val_main_v6, val_main_cst, val_main_v5, val_main_v3]
  simp only [rs, ms, row, e]

theorem r11 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (h : Fin 8) (x : Fin 1) : ((val_main_v11 (F := Ideal) x1 (ix3 R h x)) : EReal) = ms (row x1 R) h := by
  have e : ∀ (h : Fin 8) (y : Fin 128) (p), (⟨h.val * 128 + y.val, p⟩ : Fin 1024) = at_ h y := fun h y p =>
    Fin.ext (show h.val * 128 + y.val = 128 * h.val + y.val by omega)
  pointwise [val_main_v11, val_main_v10, val_main_cst_1, val_main_v9, val_main_v8, val_main_cst_0, val_main_v7, val_main_v6, val_main_cst, val_main_v5, val_main_v3]
  simp only [ms, row, e]

theorem r17 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (h : Fin 8) (x : Fin 128) : ((val_main_v17 (F := Ideal) x1 (ix3 R h x)) : EReal) = on (row x1 R) (at_ h x) := by
  have e : ∀ (h : Fin 8) (y : Fin 128) (p), (⟨h.val * 128 + y.val, p⟩ : Fin 1024) = at_ h y := fun h y p =>
    Fin.ext (show h.val * 128 + y.val = 128 * h.val + y.val by omega)
  rw [on_h]
  pointwise [val_main_v17, val_main_v16, val_main_v3]
  rw [r12 x0 x1 x2 x3 x4]
  simp only [row, e]

theorem r20 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (h : Fin 8) (x : Fin 128) : ((val_main_v20 (F := Ideal) x1 x3 (ix3 R h x)) : EReal) = on (row x1 R) (at_ h x) * x3 (ix2 0 (at_ h x)) := by
  have e : ∀ (h : Fin 8) (y : Fin 128) (p), (⟨h.val * 128 + y.val, p⟩ : Fin 1024) = at_ h y := fun h y p =>
    Fin.ext (show h.val * 128 + y.val = 128 * h.val + y.val by omega)
  pointwise [val_main_v20, val_main_v19, val_main_v18, val_main_v4]
  rw [r17 x0 x1 x2 x3 x4]
  simp only [e]

theorem r21 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (k : Fin 1024) : ((val_main_v21 (F := Ideal) x1 x3 (ix2 R k)) : EReal) = on (row x1 R) k * x3 (ix2 0 k) := by
  have ek : ∀ (p), (⟨k.val / 128 * 128 + k.val % 128, p⟩ : Fin 1024) = k := fun p => Fin.ext (show k.val / 128 * 128 + k.val % 128 = k.val by omega)
  have ea : at_ (hd k) ⟨k.val % 128, Nat.mod_lt _ (by decide)⟩ = k := Fin.ext (show 128 * (k.val / 128) + k.val % 128 = k.val by omega)
  pointwise [val_main_v21]
  rw [r20 x0 x1 x2 x3 x4]
  exact congrArg (fun q => on (row x1 R) q * x3 (ix2 0 q)) ea

theorem r32 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (h : Fin 8) (x : Fin 128) : ((val_main_v32 (F := Ideal) x0 x2 x4 (ix3 R h x)) : EReal) = dsl (row x0 R) (gate x2 R) x4 (at_ h x) := by
  have e : ∀ (h : Fin 8) (y : Fin 128) (p), (⟨h.val * 128 + y.val, p⟩ : Fin 1024) = at_ h y := fun h y p =>
    Fin.ext (show h.val * 128 + y.val = 128 * h.val + y.val by omega)
  pointwise [val_main_v32]
  rw [r30 x0 x1 x2 x3 x4]
  simp only [e]

theorem r37 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (h : Fin 8) (x : Fin 128) : ((val_main_v37 (F := Ideal) x0 x2 x3 x4 (ix3 R h x)) : EReal) = don (row x0 R) (gate x2 R) x3 x4 (at_ h x) := by
  have e : ∀ (h : Fin 8) (y : Fin 128) (p), (⟨h.val * 128 + y.val, p⟩ : Fin 1024) = at_ h y := fun h y p =>
    Fin.ext (show h.val * 128 + y.val = 128 * h.val + y.val by omega)
  pointwise [val_main_v37, val_main_v36, val_main_v18, val_main_v4]
  rw [r32 x0 x1 x2 x3 x4]
  simp only [e]
  rfl

theorem r48 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (h : Fin 8) (x : Fin 128) : ((val_main_v48 (F := Ideal) x0 x1 x2 x3 x4 (ix3 R h x)) : EReal) = Ideal.div ((∑ y : Fin 128, row x1 R (at_ h y) * don (row x0 R) (gate x2 R) x3 x4 (at_ h y)) * (Ideal.ofBits .f32 0xBF000000#32 * Ideal.div (rs (row x1 R) h) (ms (row x1 R) h))) len := by
  have e : ∀ (h : Fin 8) (y : Fin 128) (p), (⟨h.val * 128 + y.val, p⟩ : Fin 1024) = at_ h y := fun h y p =>
    Fin.ext (show h.val * 128 + y.val = 128 * h.val + y.val by omega)
  pointwise [val_main_v48, val_main_v47, val_main_cst_7, val_main_v46, val_main_v45, val_main_cst_6, val_main_v44, val_main_v15, val_main_v14, val_main_cst_2, val_main_v13, val_main_v41, val_main_v40, val_main_cst_5, val_main_v39, val_main_v3]
  simp only [Finset.univ_unique, Finset.sum_singleton, r12 x0 x1 x2 x3 x4, r11 x0 x1 x2 x3 x4, r37 x0 x1 x2 x3 x4, row, e]

theorem r52 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (h : Fin 8) (x : Fin 128) : ((val_main_v52 (F := Ideal) x0 x1 x2 x3 x4 (ix3 R h x)) : EReal) = dO (row x1 R) (don (row x0 R) (gate x2 R) x3 x4) (at_ h x) := by
  have e : ∀ (h : Fin 8) (y : Fin 128) (p), (⟨h.val * 128 + y.val, p⟩ : Fin 1024) = at_ h y := fun h y p =>
    Fin.ext (show h.val * 128 + y.val = 128 * h.val + y.val by omega)
  rw [dO_long, hd_at]
  pointwise [val_main_v52, val_main_v51, val_main_v50, val_main_v49, val_main_v43, val_main_v42, val_main_v3]
  rw [r48 x0 x1 x2 x3 x4, r37 x0 x1 x2 x3 x4, r12 x0 x1 x2 x3 x4]
  simp only [row, e]

theorem r55 (x0 : FVec Ideal S8192x1024 .bf16) (x1 : FVec Ideal S8192x1024 .f32) (x2 : FVec Ideal S8192x7168 .bf16) (x3 : FVec Ideal S1x1024 .f32) (x4 : FVec Ideal S1024x1024 .bf16) (R : Fin 8192) (k : Fin 1024) : ((val_main_v55 (F := Ideal) x0 x1 x2 x3 x4 (ix2 R k)) : EReal) = dO (row x1 R) (don (row x0 R) (gate x2 R) x3 x4) k := by
  have ek : ∀ (p), (⟨k.val / 128 * 128 + k.val % 128, p⟩ : Fin 1024) = k := fun p => Fin.ext (show k.val / 128 * 128 + k.val % 128 = k.val by omega)
  have ea : at_ (hd k) ⟨k.val % 128, Nat.mod_lt _ (by decide)⟩ = k := Fin.ext (show 128 * (k.val / 128) + k.val % 128 = k.val by omega)
  pointwise [val_main_v55, val_main_v54]
  rw [r52 x0 x1 x2 x3 x4]
  exact congrArg _ ea

theorem r56 (x0 : FVec Ideal S8192x1024 .bf16) (x1 : FVec Ideal S8192x1024 .f32) (x2 : FVec Ideal S8192x7168 .bf16) (x3 : FVec Ideal S1x1024 .f32) (x4 : FVec Ideal S1024x1024 .bf16) (hD : ∀ i, ∃ a : ℝ, x0 i = (a : EReal)) (hg : ∀ i, ∃ a : ℝ, x3 i = (a : EReal)) (hW : ∀ i, ∃ a : ℝ, x4 i = (a : EReal)) (R : Fin 8192) (k : Fin 1024) : ((val_main_v56 (F := Ideal) x0 x1 x2 x3 x4 (ix2 R k)) : EReal) = dG (row x0 R) (row x1 R) (gate x2 R) x3 x4 k := by
  refine Eq.trans ?_ (dG_long (row x0 R) (row x1 R) (gate x2 R) x3 x4 (fun j => hD (ix2 R j)) hg hW k).symm
  pointwise [val_main_v56, val_main_v31, val_main_call1_v2, val_main_call1_v1, val_main_call1_v0, val_main_v29, val_main_v22_2, val_main_v22_1, val_main_call0_v0, val_main_call0_v1, val_main_call0_cst, val_main_call0_v2, val_main_call0_v3, val_main_call0_cst_0, val_main_call0_v4, val_main_call0_cst_1, val_main_call0_v6, val_main_call0_v7, val_main_v1, val_main_v0]
  rw [r21 x0 x1 x2 x3 x4, r28 x0 x1 x2 x3 x4]
  simp only [log_eq]
  rfl

theorem r27 (x0 : FVec Ideal S8192x1024 .bf16) (x1 : FVec Ideal S8192x1024 .f32) (x2 : FVec Ideal S8192x7168 .bf16) (x3 : FVec Ideal S1x1024 .f32) (x4 : FVec Ideal S1024x1024 .bf16) (i j : Fin 1024) : ((val_main_v27 (F := Ideal) x0 x1 x2 x3 (ix2 i j)) : EReal) = ∑ R : Fin 8192, c7 (row x0 R) (row x1 R) (gate x2 R) x3 i j := by
  pointwise [val_main_v27, val_main_v26, val_main_v25, val_main_v23]
  refine Finset.sum_congr rfl fun R _ => ?_
  rw [r21 x0 x1 x2 x3 x4, r22 x0 x1 x2 x3 x4]
  exact mul_comm (G := EReal) _ _

theorem r34 (x0 : FVec Ideal S8192x1024 .bf16) (x1 : FVec Ideal S8192x1024 .f32) (x2 : FVec Ideal S8192x7168 .bf16) (x3 : FVec Ideal S1x1024 .f32) (x4 : FVec Ideal S1024x1024 .bf16) (h : Fin 8) (x : Fin 128) : ((val_main_v34 (F := Ideal) x0 x1 x2 x4 (ix2 h x)) : EReal) = ∑ R : Fin 8192, c8 (row x0 R) (row x1 R) (gate x2 R) x4 (at_ h x) := by
  pointwise [val_main_v34, val_main_cst_3, val_main_v33]
  refine Finset.sum_congr rfl fun R _ => ?_
  rw [r17 x0 x1 x2 x3 x4, r32 x0 x1 x2 x3 x4]
  exact mul_comm (G := EReal) _ _

theorem r53 (x0 : FVec Ideal S8192x1024 .bf16) (x1 : FVec Ideal S8192x1024 .f32) (x2 : FVec Ideal S8192x7168 .bf16) (x3 : FVec Ideal S1x1024 .f32) (x4 : FVec Ideal S1024x1024 .bf16) (i : Fin 1) (k : Fin 1024) : ((val_main_v53 (F := Ideal) x0 x1 x2 x4 (ix2 i k)) : EReal) = ∑ R : Fin 8192, c8 (row x0 R) (row x1 R) (gate x2 R) x4 k := by
  have ek : ∀ (p), (⟨k.val / 128 * 128 + k.val % 128, p⟩ : Fin 1024) = k := fun p => Fin.ext (show k.val / 128 * 128 + k.val % 128 = k.val by omega)
  have ea : at_ (hd k) ⟨k.val % 128, Nat.mod_lt _ (by decide)⟩ = k := Fin.ext (show 128 * (k.val / 128) + k.val % 128 = k.val by omega)
  pointwise [val_main_v53, val_main_v38, val_main_cst_4, val_main_v35]
  simp only [Finset.univ_unique, Finset.sum_singleton, r34 x0 x1 x2 x3 x4]
  exact congrArg (fun q => ∑ R : Fin 8192, c8 (row x0 R) (row x1 R) (gate x2 R) x4 q) ea

end Cert.HgPathIdeal.Value

end

end
-- ==== Proof.HpOut.lean ====
module

public import proofs.«01_k».proof.Proof.HpRef

@[expose] public section

set_option maxRecDepth 16384
noncomputable section
open Idealize.ShloMosaic Idealize.ShloMosaic.TcCoe Idealize.SL.Sem
open Idealize.ShloMosaic.Pipeline (Dat)
namespace Cert.HgPathIdeal.Value
open Cert.HgPathIdeal Cert.HgPathIdeal.Gen
open Cert.HgPathRefIdeal.Read
variable (m : (ℓ : Loc nD τ sig) → Buf (Elt Ideal) ℓ)

/-- Where each window's block begins. -/
theorem idx : ∀ t : Fin cfg0.N, win0_0.index t = ![t.val, 0] ∧ win0_1.index t = ![t.val, 0] ∧ win0_2.index t = ![t.val, 3]
    ∧ win0_3.index t = ![0, 0] ∧ win0_4.index t = ![0, 0] ∧ win0_5.index t = ![t.val, 0] ∧ win0_6.index t = ![t.val, 0] :=
  (by decide +kernel : ∀ t : Fin grid0.N, _)

/-- A point of a grid's block of rows, as a row of the whole. -/
abbrev rowOf (t : Fin cfg0.N) (r : Fin 512) : Fin 8192 := ⟨512 * t.val + r.val, by have := t.isLt; have h : cfg0.N = 16 := N_0; have := r.isLt; omega⟩

/-- The rows, the scale and the product's matrix. -/
abbrev r0 (c : Dev nD) (R : Fin 8192) : Fin 1024 → EReal := row (m ((c : Thread nD τ).loc main_arg0)) R
abbrev r1 (c : Dev nD) (R : Fin 8192) : Fin 1024 → EReal := row (m ((c : Thread nD τ).loc main_arg1)) R
abbrev r2 (c : Dev nD) (R : Fin 8192) : Fin 1024 → EReal := gate (m ((c : Thread nD τ).loc main_arg2)) R
abbrev g3 (c : Dev nD) : FVec Ideal S1x1024 .f32 := m ((c : Thread nD τ).loc main_arg3)
abbrev w4 (c : Dev nD) : FVec Ideal S1024x1024 .bf16 := m ((c : Thread nD τ).loc main_arg4)

abbrev I0a (c : Dev nD) (t : Fin cfg0.N) : FVec Ideal S256x1024 .bf16 := View.ld (Val := Elt Ideal) (iblk m c 0 t) (Rect.unit ![0, 0] ![256, 1024] inb_S512x1024_S256x1024_0_0)

theorem ina0 (c : Dev nD) (t : Fin cfg0.N) (r : Fin 256) : row (I0a m c t) r = r0 m c (rowOf t ⟨r.val, by have := r.isLt; omega⟩) := by
  funext k
  show (View.ld (Val := Elt Ideal) (iblk m c 0 t) (Rect.unit ![0, 0] ![256, 1024] inb_S512x1024_S256x1024_0_0) (ix2 r k) : EReal)
    = m ((c : Thread nD τ).loc main_arg0) (ix2 (rowOf t ⟨r.val, by have := r.isLt; omega⟩) k)
  blk_point [iblk, V, idx t]

abbrev I1a (c : Dev nD) (t : Fin cfg0.N) : FVec Ideal S256x1024 .f32 := View.ld (Val := Elt Ideal) (iblk m c 1 t) (Rect.unit ![0, 0] ![256, 1024] inb_S512x1024_S256x1024_0_0)

theorem ina1 (c : Dev nD) (t : Fin cfg0.N) (r : Fin 256) : row (I1a m c t) r = r1 m c (rowOf t ⟨r.val, by have := r.isLt; omega⟩) := by
  funext k
  show (View.ld (Val := Elt Ideal) (iblk m c 1 t) (Rect.unit ![0, 0] ![256, 1024] inb_S512x1024_S256x1024_0_0) (ix2 r k) : EReal)
    = m ((c : Thread nD τ).loc main_arg1) (ix2 (rowOf t ⟨r.val, by have := r.isLt; omega⟩) k)
  blk_point [iblk, V, idx t]

abbrev I2a (c : Dev nD) (t : Fin cfg0.N) : FVec Ideal S256x1024 .bf16 := View.ld (Val := Elt Ideal) (iblk m c 2 t) (Rect.unit ![0, 0] ![256, 1024] inb_S512x1024_S256x1024_0_0)

theorem ina2 (c : Dev nD) (t : Fin cfg0.N) (r : Fin 256) : row (I2a m c t) r = r2 m c (rowOf t ⟨r.val, by have := r.isLt; omega⟩) := by
  funext k
  show (View.ld (Val := Elt Ideal) (iblk m c 2 t) (Rect.unit ![0, 0] ![256, 1024] inb_S512x1024_S256x1024_0_0) (ix2 r k) : EReal)
    = m ((c : Thread nD τ).loc main_arg2) (ix2 (rowOf t ⟨r.val, by have := r.isLt; omega⟩) ⟨3072 + k.val, by have := k.isLt; omega⟩)
  blk_point [iblk, V, idx t]

abbrev I0b (c : Dev nD) (t : Fin cfg0.N) : FVec Ideal S256x1024 .bf16 := View.ld (Val := Elt Ideal) (iblk m c 0 t) (Rect.unit ![256, 0] ![256, 1024] inb_S512x1024_S256x1024_256_0)

theorem inb0 (c : Dev nD) (t : Fin cfg0.N) (r : Fin 256) : row (I0b m c t) r = r0 m c (rowOf t ⟨256 + r.val, by have := r.isLt; omega⟩) := by
  funext k
  show (View.ld (Val := Elt Ideal) (iblk m c 0 t) (Rect.unit ![256, 0] ![256, 1024] inb_S512x1024_S256x1024_256_0) (ix2 r k) : EReal)
    = m ((c : Thread nD τ).loc main_arg0) (ix2 (rowOf t ⟨256 + r.val, by have := r.isLt; omega⟩) k)
  blk_point [iblk, V, idx t]

abbrev I1b (c : Dev nD) (t : Fin cfg0.N) : FVec Ideal S256x1024 .f32 := View.ld (Val := Elt Ideal) (iblk m c 1 t) (Rect.unit ![256, 0] ![256, 1024] inb_S512x1024_S256x1024_256_0)

theorem inb1 (c : Dev nD) (t : Fin cfg0.N) (r : Fin 256) : row (I1b m c t) r = r1 m c (rowOf t ⟨256 + r.val, by have := r.isLt; omega⟩) := by
  funext k
  show (View.ld (Val := Elt Ideal) (iblk m c 1 t) (Rect.unit ![256, 0] ![256, 1024] inb_S512x1024_S256x1024_256_0) (ix2 r k) : EReal)
    = m ((c : Thread nD τ).loc main_arg1) (ix2 (rowOf t ⟨256 + r.val, by have := r.isLt; omega⟩) k)
  blk_point [iblk, V, idx t]

abbrev I2b (c : Dev nD) (t : Fin cfg0.N) : FVec Ideal S256x1024 .bf16 := View.ld (Val := Elt Ideal) (iblk m c 2 t) (Rect.unit ![256, 0] ![256, 1024] inb_S512x1024_S256x1024_256_0)

theorem inb2 (c : Dev nD) (t : Fin cfg0.N) (r : Fin 256) : row (I2b m c t) r = r2 m c (rowOf t ⟨256 + r.val, by have := r.isLt; omega⟩) := by
  funext k
  show (View.ld (Val := Elt Ideal) (iblk m c 2 t) (Rect.unit ![256, 0] ![256, 1024] inb_S512x1024_S256x1024_256_0) (ix2 r k) : EReal)
    = m ((c : Thread nD τ).loc main_arg2) (ix2 (rowOf t ⟨256 + r.val, by have := r.isLt; omega⟩) ⟨3072 + k.val, by have := k.isLt; omega⟩)
  blk_point [iblk, V, idx t]

theorem const3 (c : Dev nD) (t : Fin cfg0.N) : iblk m c 3 t = g3 m c := by
  funext y
  obtain ⟨i, k, rfl⟩ : ∃ i k, y = ix2 i k := ⟨_, _, ValueIdx.eq_ix2 y⟩
  show (iblk m c 3 t (ix2 i k) : EReal) = m ((c : Thread nD τ).loc main_arg3) (ix2 i k)
  blk_point [iblk, V, idx t]

theorem const4 (c : Dev nD) (t : Fin cfg0.N) : iblk m c 4 t = w4 m c := by
  funext y
  obtain ⟨i, k, rfl⟩ : ∃ i k, y = ix2 i k := ⟨_, _, ValueIdx.eq_ix2 y⟩
  show (iblk m c 4 t (ix2 i k) : EReal) = m ((c : Thread nD τ).loc main_arg4) (ix2 i k)
  blk_point [iblk, V, idx t]

/-- What a point adds to the product's gradient. -/
theorem acc7 (c : Dev nD) (t : Fin cfg0.N) (Z : FVec Ideal S1024x1024 .f32) (i : Fin 1024) (j : Fin 1024) :
    ((k0_pay3 (F := Ideal) (k0_pay79 (F := Ideal) (I0b m c t) (I1b m c t) (k0_pay52 (I2b m c t)) (iblk m c 3 t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay50 (k0_pay35 (F := Ideal) (I0a m c t) (k0_pay7 (I2a m c t)) (iblk m c 3 t) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t))) Z)) (ix2 i j) : EReal) = Z (ix2 i j) + ∑ k : Fin 512, c7 (r0 m c (rowOf t k)) (r1 m c (rowOf t k)) (r2 m c (rowOf t k)) (g3 m c) i j := by
  rw [show ∑ k : Fin 512, c7 (r0 m c (rowOf t k)) (r1 m c (rowOf t k)) (r2 m c (rowOf t k)) (g3 m c) i j = ∑ k : Fin 256, c7 (r0 m c (rowOf t ⟨k.val, by omega⟩)) (r1 m c (rowOf t ⟨k.val, by omega⟩)) (r2 m c (rowOf t ⟨k.val, by omega⟩)) (g3 m c) i j + ∑ k : Fin 256, c7 (r0 m c (rowOf t ⟨256 + k.val, by omega⟩)) (r1 m c (rowOf t ⟨256 + k.val, by omega⟩)) (r2 m c (rowOf t ⟨256 + k.val, by omega⟩)) (g3 m c) i j from
    Fin.sum_univ_add (a := 256) (b := 256) fun k : Fin 512 => c7 (r0 m c (rowOf t k)) (r1 m c (rowOf t k)) (r2 m c (rowOf t k)) (g3 m c) i j]
  refine Eq.trans (b := Z (ix2 i j) + ((k0_pay35 (F := Ideal) (I0a m c t) (k0_pay7 (I2a m c t)) (iblk m c 3 t) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t))) (ix2 i j) : EReal) + ((k0_pay79 (F := Ideal) (I0b m c t) (I1b m c t) (k0_pay52 (I2b m c t)) (iblk m c 3 t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (ix2 i j) : EReal)) ?_ ?_
  · pointwise [k0_pay3, k0_pay50]
  rw [dwa (I0a m c t) (I1a m c t) (I2a m c t) (iblk m c 3 t) (iblk m c 4 t), dwb (I0b m c t) (I1b m c t) (I2b m c t) (iblk m c 3 t) (iblk m c 4 t)]
  simp only [ina0, ina1, ina2, inb0, inb1, inb2, const3, const4, add_assoc (G := EReal)]

/-- Window 7 after the run is the product's gradient. -/
theorem final7 (c : Dev nD) : (dats m 0 c).arrAt 7 (cfgs 0).N = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun p j => ∑ k : Fin 512, c7 (r0 m c (rowOf p k)) (r1 m c (rowOf p k)) (r2 m c (rowOf p k)) (g3 m c) (j 0) (j 1))
    (fun t h j => by
      rw [outsAt0_A m c t h]; frame_out
      obtain ⟨i, k, rfl⟩ : ∃ i k, j = ix2 i k := ⟨_, _, ValueIdx.eq_ix2 j⟩
      refine (acc7 m c t (k0_pay5 (F := Ideal)) i k).trans ?_
      pointwise [k0_pay5])
    (fun t h j => by
      rw [outsAt0_B m c t h]; frame_out
      obtain ⟨i, k, rfl⟩ : ∃ i k, j = ix2 i k := ⟨_, _, ValueIdx.eq_ix2 j⟩
      exact acc7 m c t _ i k)
    (le_of_eq N_0) t0_15 rfl j, zero_add]
  obtain ⟨i, k, rfl⟩ : ∃ i k, j = ix2 i k := ⟨_, _, ValueIdx.eq_ix2 j⟩
  refine Eq.trans ?_ (r27 (m ((c : Thread nD τ).loc main_arg0)) (m ((c : Thread nD τ).loc main_arg1)) (m ((c : Thread nD τ).loc main_arg2)) (m ((c : Thread nD τ).loc main_arg3)) (m ((c : Thread nD τ).loc main_arg4)) i k).symm
  exact (Fin.sum_mul_add_congr fun t l hl => congrArg (fun R => c7 (r0 m c R) (r1 m c R) (r2 m c R) (g3 m c) i k) (Fin.ext (by show 512 * t.val + l.val = t.val * 512 + l.val; omega) : rowOf t l = ⟨t.val * 512 + l.val, hl⟩))

/-- What a point adds to the scale's gradient. -/
theorem acc8 (c : Dev nD) (t : Fin cfg0.N) (Z : FVec Ideal S1x1024 .f32) (i : Fin 1) (j : Fin 1024) :
    ((k0_pay4 (F := Ideal) (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay82 (F := Ideal) (I0b m c t) (k0_pay52 (I2b m c t)) (iblk m c 4 t)) (k0_pay51 (k0_pay47 (k0_pay32 (F := Ideal) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t))) (k0_pay38 (F := Ideal) (I0a m c t) (k0_pay7 (I2a m c t)) (iblk m c 4 t))) Z)) (ix2 i j) : EReal) = Z (ix2 i j) + ∑ k : Fin 512, c8 (r0 m c (rowOf t k)) (r1 m c (rowOf t k)) (r2 m c (rowOf t k)) (w4 m c) j := by
  rw [show ∑ k : Fin 512, c8 (r0 m c (rowOf t k)) (r1 m c (rowOf t k)) (r2 m c (rowOf t k)) (w4 m c) j = ∑ k : Fin 256, c8 (r0 m c (rowOf t ⟨k.val, by omega⟩)) (r1 m c (rowOf t ⟨k.val, by omega⟩)) (r2 m c (rowOf t ⟨k.val, by omega⟩)) (w4 m c) j + ∑ k : Fin 256, c8 (r0 m c (rowOf t ⟨256 + k.val, by omega⟩)) (r1 m c (rowOf t ⟨256 + k.val, by omega⟩)) (r2 m c (rowOf t ⟨256 + k.val, by omega⟩)) (w4 m c) j from
    Fin.sum_univ_add (a := 256) (b := 256) fun k : Fin 512 => c8 (r0 m c (rowOf t k)) (r1 m c (rowOf t k)) (r2 m c (rowOf t k)) (w4 m c) j]
  rw [dnb (I0b m c t) (I1b m c t) (I2b m c t) (iblk m c 3 t) (iblk m c 4 t)]
  refine Eq.trans (b := Z (ix2 i j) + (k0_pay47 (F := Ideal) (k0_pay32 (F := Ideal) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t))) (k0_pay38 (F := Ideal) (I0a m c t) (k0_pay7 (I2a m c t)) (iblk m c 4 t)) (ix2 0 j) : EReal) + ∑ r : Fin 256, c8 (row (I0b m c t) r) (row (I1b m c t) r) (row (I2b m c t) r) (iblk m c 4 t) j) ?_ ?_
  · obtain rfl : i = 0 := Subsingleton.elim _ _
    pointwise [k0_pay51]
  rw [dna (I0a m c t) (I1a m c t) (I2a m c t) (iblk m c 3 t) (iblk m c 4 t)]
  simp only [ina0, ina1, ina2, inb0, inb1, inb2, const3, const4, add_assoc (G := EReal)]

/-- Window 8 after the run is the scale's gradient. -/
theorem final8 (c : Dev nD) : (dats m 0 c).arrAt 8 (cfgs 0).N = val_main_v53 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0)
    (fun p j => ∑ k : Fin 512, c8 (r0 m c (rowOf p k)) (r1 m c (rowOf p k)) (r2 m c (rowOf p k)) (w4 m c) (j 1))
    (fun t h j => by
      rw [outsAt0_A m c t h]; frame_out
      obtain ⟨i, k, rfl⟩ : ∃ i k, j = ix2 i k := ⟨_, _, ValueIdx.eq_ix2 j⟩
      refine (acc8 m c t (k0_pay6 (F := Ideal)) i k).trans ?_
      pointwise [k0_pay6])
    (fun t h j => by
      rw [outsAt0_B m c t h]; frame_out
      obtain ⟨i, k, rfl⟩ : ∃ i k, j = ix2 i k := ⟨_, _, ValueIdx.eq_ix2 j⟩
      exact acc8 m c t _ i k)
    (le_of_eq N_0) t0_15 rfl j, zero_add]
  obtain ⟨i, k, rfl⟩ : ∃ i k, j = ix2 i k := ⟨_, _, ValueIdx.eq_ix2 j⟩
  refine Eq.trans ?_ (r53 (m ((c : Thread nD τ).loc main_arg0)) (m ((c : Thread nD τ).loc main_arg1)) (m ((c : Thread nD τ).loc main_arg2)) (m ((c : Thread nD τ).loc main_arg3)) (m ((c : Thread nD τ).loc main_arg4)) i k).symm
  exact (Fin.sum_mul_add_congr fun t l hl => congrArg (fun R => c8 (r0 m c R) (r1 m c R) (r2 m c R) (w4 m c) k) (Fin.ext (by show 512 * t.val + l.val = t.val * 512 + l.val; omega) : rowOf t l = ⟨t.val * 512 + l.val, hl⟩))

theorem y5a (c : Dev nD) (t : Fin cfg0.N) (r : Fin 256) (j : Fin 1024) : ((k0_pay48 (F := Ideal) (k0_pay21 (I1a m c t)) (k0_pay24 (I1a m c t)) (k0_pay27 (I1a m c t)) (k0_pay31 (k0_pay30 (I1a m c t))) (k0_pay32 (F := Ideal) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t))) (k0_pay39 (F := Ideal) (I0a m c t) (k0_pay7 (I2a m c t)) (iblk m c 4 t) (iblk m c 3 t)) (k0_pay40 (I0a m c t) (k0_pay7 (I2a m c t)) (k0_pay9 (I1a m c t)) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t)) (iblk m c 4 t) (iblk m c 3 t)) (k0_pay42 (k0_pay12 (I1a m c t)) (k0_pay32 (F := Ideal) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t))) (k0_pay39 (F := Ideal) (I0a m c t) (k0_pay7 (I2a m c t)) (iblk m c 4 t) (iblk m c 3 t)) (k0_pay41 (I0a m c t) (k0_pay7 (I2a m c t)) (iblk m c 4 t) (iblk m c 3 t))) (k0_pay43 (k0_pay15 (I1a m c t)) (k0_pay32 (F := Ideal) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t))) (k0_pay39 (F := Ideal) (I0a m c t) (k0_pay7 (I2a m c t)) (iblk m c 4 t) (iblk m c 3 t))) (k0_pay44 (k0_pay18 (I1a m c t)) (k0_pay32 (F := Ideal) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t))) (k0_pay39 (F := Ideal) (I0a m c t) (k0_pay7 (I2a m c t)) (iblk m c 4 t) (iblk m c 3 t))) (k0_pay45 (k0_pay39 (F := Ideal) (I0a m c t) (k0_pay7 (I2a m c t)) (iblk m c 4 t) (iblk m c 3 t))) (k0_pay46 (k0_pay32 (F := Ideal) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t))) (k0_pay39 (F := Ideal) (I0a m c t) (k0_pay7 (I2a m c t)) (iblk m c 4 t) (iblk m c 3 t)))) (ix2 r j) : EReal)
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t ⟨r.val, by have := r.isLt; omega⟩) j) := by
  rw [doa (I0a m c t) (I1a m c t) (I2a m c t) (iblk m c 3 t) (iblk m c 4 t), r55 (m ((c : Thread nD τ).loc main_arg0)) (m ((c : Thread nD τ).loc main_arg1)) (m ((c : Thread nD τ).loc main_arg2)) (m ((c : Thread nD τ).loc main_arg3)) (m ((c : Thread nD τ).loc main_arg4))]
  simp only [ina0, ina1, ina2, const3, const4]

theorem y5b (c : Dev nD) (t : Fin cfg0.N) (r : Fin 256) (j : Fin 1024) : ((k0_pay1 (F := Ideal) (k0_pay75 (I1b m c t)) (k0_pay84 (k0_pay54 (I1b m c t)) (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay83 (F := Ideal) (I0b m c t) (k0_pay52 (I2b m c t)) (iblk m c 4 t) (iblk m c 3 t))) (k0_pay85 (k0_pay58 (k0_pay57 (I1b m c t)) (Ideal.ofBits .f32 0x358637BD#32)) (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay83 (F := Ideal) (I0b m c t) (k0_pay52 (I2b m c t)) (iblk m c 4 t) (iblk m c 3 t))) (k0_pay86 (k0_pay61 (I1b m c t)) (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay83 (F := Ideal) (I0b m c t) (k0_pay52 (I2b m c t)) (iblk m c 4 t) (iblk m c 3 t))) (k0_pay90 (k0_pay64 (I1b m c t)) (k0_pay87 (k0_pay83 (F := Ideal) (I0b m c t) (k0_pay52 (I2b m c t)) (iblk m c 4 t) (iblk m c 3 t))) (k0_pay88 (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t)))) (k0_pay89 (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay83 (F := Ideal) (I0b m c t) (k0_pay52 (I2b m c t)) (iblk m c 4 t) (iblk m c 3 t)))) (k0_pay91 (k0_pay67 (I1b m c t)) (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay83 (F := Ideal) (I0b m c t) (k0_pay52 (I2b m c t)) (iblk m c 4 t) (iblk m c 3 t))) (k0_pay92 (k0_pay70 (I1b m c t)) (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay83 (F := Ideal) (I0b m c t) (k0_pay52 (I2b m c t)) (iblk m c 4 t) (iblk m c 3 t))) (k0_pay93 (k0_pay73 (I1b m c t)) (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay83 (F := Ideal) (I0b m c t) (k0_pay52 (I2b m c t)) (iblk m c 4 t) (iblk m c 3 t))) (k0_pay94 (k0_pay83 (F := Ideal) (I0b m c t) (k0_pay52 (I2b m c t)) (iblk m c 4 t) (iblk m c 3 t))) (k0_pay95 (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t)))) (k0_pay96 (k0_pay76 (F := Ideal) (I1b m c t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t))) (k0_pay83 (F := Ideal) (I0b m c t) (k0_pay52 (I2b m c t)) (iblk m c 4 t) (iblk m c 3 t)))) (ix2 r j) : EReal)
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t ⟨256 + r.val, by have := r.isLt; omega⟩) j) := by
  rw [dob (I0b m c t) (I1b m c t) (I2b m c t) (iblk m c 3 t) (iblk m c 4 t), r55 (m ((c : Thread nD τ).loc main_arg0)) (m ((c : Thread nD τ).loc main_arg1)) (m ((c : Thread nD τ).loc main_arg2)) (m ((c : Thread nD τ).loc main_arg3)) (m ((c : Thread nD τ).loc main_arg4))]
  simp only [inb0, inb1, inb2, const3, const4]

/-- Window 5 after the run is the gradient of the rows. -/
theorem final5 (c : Dev nD) : (dats m 0 c).arrAt 5 (cfgs 0).N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine Eq.trans (b := (val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t (y 0)) (y 1)) : EReal)) ?_ ?_
  swap
  · generalize val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = Q
    blk_ext! [idx t]
  refine (congrArg _ (ValueIdx.eq_ix2 y)).trans ?_
  generalize y 0 = r, y 1 = k
  by_cases h : t.val % 16 = 0
  · rw [outsAt0_A m c t h]; frame_out
    canon_tiles x h
    case piece1 =>
      have h0' : r.val = (x 0).val := h0
      have h1' : k.val = (x 1).val := h1
      refine Eq.trans (b := _) ?_ ((y5a m c t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y5b m c t (x 0) (x 1)).trans (congrArg _ (congrArg₂ ix2 (congrArg (rowOf t) (Fin.ext ?_)) (Fin.ext ?_))))
      · exact congrArg _ (ValueIdx.eq_ix2 x)
      · exact h0'.symm
      · exact h1'.symm
  · rw [outsAt0_B m c t h]; frame_out
    canon_tiles x h
    case piece1 =>
      have h0' : r.val = (x 0).val := h0
      have h1' : k.val = (x 1).val := h1
      refine Eq.trans (b := _) ?_ ((y5a m c t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y5b m c t (x 0) (x 1)).trans (congrArg _ (congrArg₂ ix2 (congrArg (rowOf t) (Fin.ext ?_)) (Fin.ext ?_))))
      · exact congrArg _ (ValueIdx.eq_ix2 x)
      · exact h0'.symm
      · exact h1'.symm

theorem y6a (c : Dev nD) (hD : ∀ i, ∃ a : ℝ, m ((c : Thread nD τ).loc main_arg0) i = (a : EReal)) (hg : ∀ i, ∃ a : ℝ, m ((c : Thread nD τ).loc main_arg3) i = (a : EReal)) (hW : ∀ i, ∃ a : ℝ, m ((c : Thread nD τ).loc main_arg4) i = (a : EReal)) (t : Fin cfg0.N) (r : Fin 256) (j : Fin 1024) : ((k0_pay49 (F := Ideal) (k0_pay37 (I0a m c t) (k0_pay7 (I2a m c t)) (iblk m c 3 t) (k0_pay10 (I1a m c t)) (k0_pay13 (I1a m c t)) (k0_pay16 (k0_pay14 (I1a m c t)) (k0_pay15 (I1a m c t))) (k0_pay19 (I1a m c t)) (k0_pay22 (I1a m c t)) (k0_pay25 (I1a m c t)) (k0_pay28 (I1a m c t)) (k0_pay29 (I1a m c t)) (k0_pay30 (I1a m c t)) (iblk m c 4 t))) (ix2 r j) : EReal)
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t ⟨r.val, by have := r.isLt; omega⟩) j) := by
  rw [dga (I0a m c t) (I1a m c t) (I2a m c t) (iblk m c 3 t) (iblk m c 4 t), r56 (m ((c : Thread nD τ).loc main_arg0)) (m ((c : Thread nD τ).loc main_arg1)) (m ((c : Thread nD τ).loc main_arg2)) (m ((c : Thread nD τ).loc main_arg3)) (m ((c : Thread nD τ).loc main_arg4)) hD hg hW]
  simp only [ina0, ina1, ina2, const3, const4]

theorem y6b (c : Dev nD) (hD : ∀ i, ∃ a : ℝ, m ((c : Thread nD τ).loc main_arg0) i = (a : EReal)) (hg : ∀ i, ∃ a : ℝ, m ((c : Thread nD τ).loc main_arg3) i = (a : EReal)) (hW : ∀ i, ∃ a : ℝ, m ((c : Thread nD τ).loc main_arg4) i = (a : EReal)) (t : Fin cfg0.N) (r : Fin 256) (j : Fin 1024) : ((k0_pay2 (F := Ideal) (k0_pay81 (I0b m c t) (I1b m c t) (k0_pay52 (I2b m c t)) (iblk m c 3 t) (k0_pay55 (I1b m c t)) (k0_pay59 (k0_pay56 (I1b m c t)) (k0_pay57 (I1b m c t)) (Ideal.ofBits .f32 0x358637BD#32)) (k0_pay62 (I1b m c t)) (k0_pay65 (I1b m c t)) (k0_pay68 (I1b m c t)) (k0_pay69 (I1b m c t)) (k0_pay71 (I1b m c t)) (iblk m c 4 t))) (ix2 r j) : EReal)
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t ⟨256 + r.val, by have := r.isLt; omega⟩) j) := by
  rw [dgb (I0b m c t) (I1b m c t) (I2b m c t) (iblk m c 3 t) (iblk m c 4 t), r56 (m ((c : Thread nD τ).loc main_arg0)) (m ((c : Thread nD τ).loc main_arg1)) (m ((c : Thread nD τ).loc main_arg2)) (m ((c : Thread nD τ).loc main_arg3)) (m ((c : Thread nD τ).loc main_arg4)) hD hg hW]
  simp only [inb0, inb1, inb2, const3, const4]

/-- Window 6 after the run is the gradient of the gate. -/
theorem final6 (c : Dev nD) (hD : ∀ i, ∃ a : ℝ, m ((c : Thread nD τ).loc main_arg0) i = (a : EReal)) (hg : ∀ i, ∃ a : ℝ, m ((c : Thread nD τ).loc main_arg3) i = (a : EReal)) (hW : ∀ i, ∃ a : ℝ, m ((c : Thread nD τ).loc main_arg4) i = (a : EReal)) : (dats m 0 c).arrAt 6 (cfgs 0).N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  refine Eq.trans (b := (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (rowOf t (y 0)) (y 1)) : EReal)) ?_ ?_
  swap
  · generalize val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = Q
    blk_ext! [idx t]
  refine (congrArg _ (ValueIdx.eq_ix2 y)).trans ?_
  generalize y 0 = r, y 1 = k
  by_cases h : t.val % 16 = 0
  · rw [outsAt0_A m c t h]; frame_out
    canon_tiles x h
    case piece1 =>
      have h0' : r.val = (x 0).val := h0
      have h1' : k.val = (x 1).val := h1
      refine Eq.trans (b := _) ?_ ((y6a m c hD hg hW t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y6b m c hD hg hW t (x 0) (x 1)).trans (congrArg _ (congrArg₂ ix2 (congrArg (rowOf t) (Fin.ext ?_)) (Fin.ext ?_))))
      · exact congrArg _ (ValueIdx.eq_ix2 x)
      · exact h0'.symm
      · exact h1'.symm
  · rw [outsAt0_B m c t h]; frame_out
    canon_tiles x h
    case piece1 =>
      have h0' : r.val = (x 0).val := h0
      have h1' : k.val = (x 1).val := h1
      refine Eq.trans (b := _) ?_ ((y6a m c hD hg hW t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y6b m c hD hg hW t (x 0) (x 1)).trans (congrArg _ (congrArg₂ ix2 (congrArg (rowOf t) (Fin.ext ?_)) (Fin.ext ?_))))
      · exact congrArg _ (ValueIdx.eq_ix2 x)
      · exact h0'.symm
      · exact h1'.symm

end Cert.HgPathIdeal.Value

end

end
-- ==== Proof.HgPathClaim.lean ====
module

public import proofs.«01_k».proof.Defs
public import proofs.«01_k».proof.Proof.Gen.HgPath
public import proofs.«01_k».proof.Proof.Gen.HgPathRefIdeal.Run
public import proofs.«01_k».proof.Proof.HpOut
public import Idealize.ShloMosaic.Lib.Claim
public import Idealize.ShloMosaic.Lib.ReduceAll
public import Idealize.ShloMosaic.Lib.Affine

@[expose] public section

set_option maxRecDepth 16384
noncomputable section
open Idealize.ShloMosaic Idealize.ShloMosaic.TcCoe Idealize.SL.Sem
namespace Cert.HgPathIdeal.Value
open Cert.HgPathRefIdeal.Read
attribute [local instance] Cert.HgPathIdeal.Gen.facts Cert.HgPathRefIdeal.Gen.facts

section
open Cert.HgPathIdeal Cert.HgPathIdeal.Gen
variable (m : (ℓ : Loc nD τ sig) → Buf (Elt Ideal) ℓ)

theorem real_of_abs_le (x c : EReal) (b : ℝ) (hc : c = (b : EReal)) (h : max x (-x) ≤ c) : ∃ a : ℝ, x = (a : EReal) := by
  refine ⟨x.toReal, (EReal.coe_toReal ?_ ?_).symm⟩
  · rintro rfl
    rw [hc] at h
    exact absurd ((le_max_left _ _).trans h) (by simp)
  · rintro rfl
    rw [hc] at h
    exact absurd ((le_max_right _ _).trans h) (by simp)

theorem big_real : ∃ b : ℝ, (Ideal.ofBits .f32 0x7F7FFFFF#32 : EReal) = (b : EReal) := by
  simp [Ideal.ofBits, Ideal.ieee]
  exact ⟨16777215 * 2 ^ 104, by norm_cast⟩

/-- The precondition says that the entries of three of the arguments are real numbers. -/
theorem real_args [hP : Cert.Pre_finite_hgpath.Facts] (x0 : FVec Ideal S8192x1024 .bf16) (x1 : FVec Ideal S8192x1024 .f32) (x2 : FVec Ideal S8192x7168 .bf16)
    (x3 : FVec Ideal S1x1024 .f32) (x4 : FVec Ideal S1024x1024 .bf16) (h : Cert.Pre_finite_hgpath.fn (F := Ideal) x0 x1 x2 x3 x4 = fun _ => 1#1) :
    (∀ i, ∃ a : ℝ, (x0 i : EReal) = (a : EReal)) ∧ (∀ i, ∃ a : ℝ, (x3 i : EReal) = (a : EReal)) ∧ (∀ i, ∃ a : ℝ, (x4 i : EReal) = (a : EReal)) := by
  obtain ⟨b, hb⟩ := big_real
  haveI : Subsingleton Cert.Pre_finite_hgpath.S_.Idx := ⟨fun a b => funext fun i => i.elim0⟩
  have e := congrFun h ix0
  unfold Cert.Pre_finite_hgpath.fn at e
  obtain ⟨e', e2⟩ := IntOp.andi_eq_one.1 e
  obtain ⟨e0, e1⟩ := IntOp.andi_eq_one.1 e'
  refine ⟨fun i => ?_, fun i => ?_, fun i => ?_⟩
  · exact real_of_abs_le _ _ b hb ((Ideal.cmp_ole_eq_one _ _).1 (Host.reduce_andi_all _ _ _ _ _ e0 i))
  · exact real_of_abs_le _ _ b hb ((Ideal.cmp_ole_eq_one _ _).1 (Host.reduce_andi_all _ _ _ _ _ e1 i))
  · exact real_of_abs_le _ _ b hb ((Ideal.cmp_ole_eq_one _ _).1 (Host.reduce_andi_all _ _ _ _ _ e2 i))

theorem fin5 (c : Dev nD) {x0 : FVec Ideal S8192x1024 .bf16} {x1 : FVec Ideal S8192x1024 .f32} {x2 : FVec Ideal S8192x7168 .bf16} {x3 : FVec Ideal S1x1024 .f32} {x4 : FVec Ideal S1024x1024 .bf16} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    val_main_v55 (F := Ideal) x0 x1 x2 x3 x4 = (dats m 0 c).arrAt 5 (cfgs 0).N := by
  subst h0 h1 h2 h3 h4
  exact (final5 m c).symm

theorem fin6 [hP : Cert.Pre_finite_hgpath.Facts] (c : Dev nD) {x0 : FVec Ideal S8192x1024 .bf16} {x1 : FVec Ideal S8192x1024 .f32} {x2 : FVec Ideal S8192x7168 .bf16} {x3 : FVec Ideal S1x1024 .f32} {x4 : FVec Ideal S1024x1024 .bf16} (hp : Cert.Pre_finite_hgpath.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) = fun _ => 1#1) (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    val_main_v56 (F := Ideal) x0 x1 x2 x3 x4 = (dats m 0 c).arrAt 6 (cfgs 0).N := by
  subst h0 h1 h2 h3 h4
  obtain ⟨q0, q3, q4⟩ := real_args _ _ _ _ _ hp
  exact (final6 m c q0 q3 q4).symm

theorem fin7 (c : Dev nD) {x0 : FVec Ideal S8192x1024 .bf16} {x1 : FVec Ideal S8192x1024 .f32} {x2 : FVec Ideal S8192x7168 .bf16} {x3 : FVec Ideal S1x1024 .f32} {x4 : FVec Ideal S1024x1024 .bf16} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    val_main_v27 (F := Ideal) x0 x1 x2 x3 = (dats m 0 c).arrAt 7 (cfgs 0).N := by
  subst h0 h1 h2 h3 h4
  exact (final7 m c).symm

theorem fin8 (c : Dev nD) {x0 : FVec Ideal S8192x1024 .bf16} {x1 : FVec Ideal S8192x1024 .f32} {x2 : FVec Ideal S8192x7168 .bf16} {x3 : FVec Ideal S1x1024 .f32} {x4 : FVec Ideal S1024x1024 .bf16} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    val_main_v53 (F := Ideal) x0 x1 x2 x4 = (dats m 0 c).arrAt 8 (cfgs 0).N := by
  subst h0 h1 h2 h3 h4
  exact (final8 m c).symm

end

/-- The backward kernel of the recurrence branch's normalisation, gate and product computes the reference's gradients, when the incoming gradient,
the scale and the product's matrix are finite. -/
theorem algebraic [hPre_finite_hgpath : Cert.Pre_finite_hgpath.Facts] : Cert.algebraic_HgPathIdeal_HgPathRefIdeal_pre_finite_hgpath := by
  pair_intro
  · run_from Cert.HgPathIdeal.Value.run_blocks m g
  · refine (θ_run Cert.HgPathRefIdeal.defs _ _).mono (fun r h c => ⟨(h c).1.trans ((Cert.HgPathRefIdeal.Read.val_main_v55_eq (F := Ideal) m' c).trans ?_), (h c).2.1.trans ((Cert.HgPathRefIdeal.Read.val_main_v56_eq (F := Ideal) _ _ _ _ _).trans ?_), (h c).2.2.1.trans ((Cert.HgPathRefIdeal.Read.val_main_v27_eq (F := Ideal) _ _ _ _).trans ?_), (h c).2.2.2.1.trans ((Cert.HgPathRefIdeal.Read.val_main_v53_eq (F := Ideal) _ _ _ _).trans ?_), (h c).2.2.2.2⟩) (Cert.HgPathRefIdeal.Value.run (F := Ideal) m' g')
    all_goals obtain ⟨h0, h1, h2, h3, h4⟩ := hagree c
    · exact fin5 m c h0 h1 h2 h3 h4
    · exact fin6 m c (hpre c) h0 h1 h2 h3 h4
    · exact fin7 m c h0 h1 h2 h3 h4
    · exact fin8 m c h0 h1 h2 h3 h4

end Cert.HgPathIdeal.Value

end

end
-- ==== Proof.S5Base.lean ====
module

public import proofs.«01_k».proof.Proof.Gen.S5PathIdeal.Value
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.S5PathIdeal.Value
open Cert.S5PathIdeal Cert.S5PathIdeal.Gen

/-- A row of an array. -/
def row {n C : ℕ} (x : (⟨2, ![n, C]⟩ : Shape).Idx → EReal) (r : Fin n) : Fin C → EReal := fun k => x (ix2 r k)

/-- The constants of the tanh gelu: a half, the scale of its argument, the factor of the cube and that of the cube's derivative. -/
abbrev half : EReal := Ideal.ofBits .f32 0x3F000000#32
abbrev scl : EReal := Ideal.ofBits .f32 0x3F4C422A#32
abbrev cub : EReal := ((8943 / 200000 : ℝ) : EReal)
abbrev slp : EReal := ((26829 / 200000 : ℝ) : EReal)

theorem cub_c : Named.named (F := Ideal) Cert.S5PathIdeal.κ "gelu_cubic" (φ := .f32) 0x3D372713#32 = cub :=
  IdealRules.named_const.ideal_named_scalar _ _ _ _ rfl

theorem slp_c : Named.named (F := Ideal) Cert.S5PathIdeal.κ "gelu_cubic_slope" (φ := .f32) 0x3E095D4F#32 = slp :=
  IdealRules.named_const.ideal_named_scalar _ _ _ _ rfl

/-- The gelu and its derivative, as the kernel groups them. -/
def tn (y : EReal) : EReal := Ideal.tanh (scl * (y + cub * y * y * y))
def gel (y : EReal) : EReal := half * y * (1 + tn y)
def dgel (y : EReal) : EReal := half * (1 + tn y) + half * y * (1 - tn y * tn y) * scl * (1 + slp * y * y)

/-- The two halves of a row of the gated unit, and the gate. -/
def ga (Gl : Fin 1024 → EReal) (k : Fin 512) : EReal := Gl ⟨k.val, by have := k.isLt; omega⟩
def sg (Gl : Fin 1024 → EReal) (k : Fin 512) : EReal := Ideal.logistic (Gl ⟨512 + k.val, by have := k.isLt; omega⟩)
def sl (Z : Fin 512 → EReal) (k : Fin 512) : EReal := Z k * Ideal.logistic (Z k)

/-- The gradient before the second product, and that of the gated unit. -/
def dy (D : Fin 1024 → EReal) (Wo : S512x1024.Idx → EReal) (k : Fin 512) : EReal := ∑ j : Fin 1024, D j * Wo (ix2 k j)
def du (D Gl : Fin 1024 → EReal) (Z : Fin 512 → EReal) (Wo : S512x1024.Idx → EReal) (k : Fin 1024) : EReal :=
  if h : k.val < 512 then dy D Wo ⟨k.val, h⟩ * sg Gl ⟨k.val, h⟩ * sl Z ⟨k.val, h⟩
  else dy D Wo ⟨k.val - 512, by have := k.isLt; omega⟩ * ga Gl ⟨k.val - 512, by have := k.isLt; omega⟩ * sg Gl ⟨k.val - 512, by have := k.isLt; omega⟩
    * (1 - sg Gl ⟨k.val - 512, by have := k.isLt; omega⟩) * sl Z ⟨k.val - 512, by have := k.isLt; omega⟩

/-- The gradients of the gate and of the rows. -/
def dz (D Gl : Fin 1024 → EReal) (Z : Fin 512 → EReal) (Wo : S512x1024.Idx → EReal) (k : Fin 512) : EReal :=
  dy D Wo k * ga Gl k * sg Gl k * (Ideal.logistic (Z k) * (1 + Z k * (1 - Ideal.logistic (Z k))))
def dgl (D Gl : Fin 1024 → EReal) (Z : Fin 512 → EReal) (Wo Wg : S512x1024.Idx → EReal) (k : Fin 512) : EReal :=
  ∑ j : Fin 1024, du D Gl Z Wo j * Wg (ix2 k j)
def dyr (D : Fin 1024 → EReal) (Y : Fin 512 → EReal) (Gl : Fin 1024 → EReal) (Z : Fin 512 → EReal) (Wo Wg : S512x1024.Idx → EReal) (k : Fin 512) : EReal :=
  dgl D Gl Z Wo Wg k * dgel (Y k)

/-- What one row adds to the two products' gradients. -/
def c8 (D Gl : Fin 1024 → EReal) (Z : Fin 512 → EReal) (i : Fin 512) (j : Fin 1024) : EReal := ga Gl i * sg Gl i * sl Z i * D j
def c9 (D : Fin 1024 → EReal) (Y : Fin 512 → EReal) (Gl : Fin 1024 → EReal) (Z : Fin 512 → EReal) (Wo : S512x1024.Idx → EReal) (i : Fin 512) (j : Fin 1024) : EReal :=
  gel (Y i) * du D Gl Z Wo j

theorem dya (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : (k0_pay12 (F := Ideal) D Wo (ix2 r k) : EReal) = dy (row D r) Wo k := by
  pointwise [k0_pay12]
  rfl

theorem gaa (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : (k0_pay8 (F := Ideal) Gl (ix2 r k) : EReal) = ga (row Gl r) k := by
  pointwise [k0_pay8, k0_pay6]
  rfl

theorem sga (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : (k0_pay9 (F := Ideal) Gl (ix2 r k) : EReal) = sg (row Gl r) k := by
  pointwise [k0_pay9, k0_pay6]
  rfl

theorem sla (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : (k0_pay10 (F := Ideal) Z (ix2 r k) : EReal) = sl (row Z r) k := by
  pointwise [k0_pay10, k0_pay7]
  rfl

theorem dua (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 1024) : ((k0_pay14 (F := Ideal) D Gl Z Wo) (ix2 r k) : EReal) = du (row D r) (row Gl r) (row Z r) Wo k := by
  pointwise [k0_pay14]
  unfold du
  by_cases h : k.val < 512
  · refine (dif_pos h).trans (Eq.trans ?_ (dif_pos h).symm)
    rw [← dya D Y Gl Z Wo Wg, ← sga D Y Gl Z Wo Wg, ← sla D Y Gl Z Wo Wg]
    try rfl
  · refine (dif_neg h).trans (Eq.trans ?_ (dif_neg h).symm)
    rw [← dya D Y Gl Z Wo Wg, ← gaa D Y Gl Z Wo Wg, ← sga D Y Gl Z Wo Wg, ← sla D Y Gl Z Wo Wg]
    try rfl

/-- The gate's gradient, one block of rows. -/
theorem dza (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : ((k0_pay24 (F := Ideal) (k0_pay13 (F := Ideal) D Gl Z Wo)) (ix2 r k) : EReal) = dz (row D r) (row Gl r) (row Z r) Wo k := by
  unfold dz
  rw [← dya D Y Gl Z Wo Wg, ← gaa D Y Gl Z Wo Wg, ← sga D Y Gl Z Wo Wg]
  pointwise [k0_pay24, k0_pay13, k0_pay7]
  rfl

/-- The gradient of the rows, one block of them. -/
theorem dra (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : ((k0_pay23 (F := Ideal) (k0_pay18 (F := Ideal) (k0_pay14 (F := Ideal) D Gl Z Wo) Wg) (k0_pay20 (F := Ideal) Y) (k0_pay21 (F := Ideal) Y) (k0_pay22 (F := Ideal) Y) (FloatOps.ofBits FTy.f32 0x3F800000#32)) (ix2 r k) : EReal) = dyr (row D r) (row Y r) (row Gl r) (row Z r) Wo Wg k := by
  refine Eq.trans ?_ (congrArg (fun a : EReal => a * dgel (Y (ix2 r k))) (Finset.sum_congr rfl fun j _ => congrArg (fun a : EReal => a * Wg (ix2 k j)) (dua D Y Gl Z Wo Wg r j)))
  pointwise [k0_pay23, k0_pay18, k0_pay19, k0_pay20, k0_pay21, k0_pay22]
  simp only [cub_c, slp_c]
  rfl

/-- The second product's gradient, one block of rows. -/
theorem d8a (D : FVec Ideal S256x1024 .bf16) (Y : FVec Ideal S256x512 .f32) (Gl : FVec Ideal S256x1024 .bf16) (Z : FVec Ideal S256x512 .bf16) (Wo Wg : FVec Ideal S512x1024 .bf16) (i : Fin 512) (j : Fin 1024) : ((k0_pay11 (F := Ideal) D Gl Z) (ix2 i j) : EReal) = ∑ r : Fin 256, c8 (row D r) (row Gl r) (row Z r) i j := by
  unfold c8
  simp only [← gaa D Y Gl Z Wo Wg, ← sga D Y Gl Z Wo Wg, ← sla D Y Gl Z Wo Wg]
  pointwise [k0_pay11]
  try rfl

/-- The first product's gradient, one block of rows. -/
theorem d9a (D : FVec Ideal S256x1024 .bf16) (Y : FVec Ideal S256x512 .f32) (Gl : FVec Ideal S256x1024 .bf16) (Z : FVec Ideal S256x512 .bf16) (Wo Wg : FVec Ideal S512x1024 .bf16) (i : Fin 512) (j : Fin 1024) : ((k0_pay16 (F := Ideal) Y (k0_pay14 (F := Ideal) D Gl Z Wo) (k0_pay15 (F := Ideal))) (ix2 i j) : EReal) = ∑ r : Fin 256, c9 (row D r) (row Y r) (row Gl r) (row Z r) Wo i j := by
  refine Eq.trans ?_ (Finset.sum_congr rfl fun r _ => congrArg (fun a : EReal => gel (Y (ix2 r i)) * a) (dua D Y Gl Z Wo Wg r j))
  pointwise [k0_pay16, k0_pay15]
  simp only [cub_c]
  rfl

/-- The bias's gradient, one block of rows. -/
theorem d10a (D : FVec Ideal S256x1024 .bf16) (Y : FVec Ideal S256x512 .f32) (Gl : FVec Ideal S256x1024 .bf16) (Z : FVec Ideal S256x512 .bf16) (Wo Wg : FVec Ideal S512x1024 .bf16) (j : Fin 1024) : ((k0_pay17 (F := Ideal) (k0_pay14 (F := Ideal) D Gl Z Wo)) (ix2 0 j) : EReal) = ∑ r : Fin 256, du (row D r) (row Gl r) (row Z r) Wo j := by
  refine Eq.trans ?_ (Finset.sum_congr rfl fun r _ => dua D Y Gl Z Wo Wg r j)
  pointwise [k0_pay17]

theorem dyb (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : (k0_pay34 (F := Ideal) D Wo (ix2 r k) : EReal) = dy (row D r) Wo k := by
  pointwise [k0_pay34]
  rfl

theorem gab (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : (k0_pay30 (F := Ideal) Gl (ix2 r k) : EReal) = ga (row Gl r) k := by
  pointwise [k0_pay30, k0_pay28]
  rfl

theorem sgb (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : (k0_pay31 (F := Ideal) Gl (ix2 r k) : EReal) = sg (row Gl r) k := by
  pointwise [k0_pay31, k0_pay28]
  rfl

theorem slb (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : (k0_pay32 (F := Ideal) Z (ix2 r k) : EReal) = sl (row Z r) k := by
  pointwise [k0_pay32, k0_pay29]
  rfl

theorem dub (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 1024) : ((k0_pay36 (F := Ideal) D (k0_pay30 (F := Ideal) Gl) (k0_pay31 (F := Ideal) Gl) (k0_pay32 (F := Ideal) Z) Wo) (ix2 r k) : EReal) = du (row D r) (row Gl r) (row Z r) Wo k := by
  pointwise [k0_pay36]
  unfold du
  by_cases h : k.val < 512
  · refine (dif_pos h).trans (Eq.trans ?_ (dif_pos h).symm)
    rw [← dyb D Y Gl Z Wo Wg, ← sgb D Y Gl Z Wo Wg, ← slb D Y Gl Z Wo Wg]
    try rfl
  · refine (dif_neg h).trans (Eq.trans ?_ (dif_neg h).symm)
    rw [← dyb D Y Gl Z Wo Wg, ← gab D Y Gl Z Wo Wg, ← sgb D Y Gl Z Wo Wg, ← slb D Y Gl Z Wo Wg]
    try rfl

/-- The gate's gradient, one block of rows. -/
theorem dzb (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : ((k0_pay41 (F := Ideal) (k0_pay35 (F := Ideal) D (k0_pay29 (F := Ideal) Z) (k0_pay30 (F := Ideal) Gl) (k0_pay31 (F := Ideal) Gl) Wo)) (ix2 r k) : EReal) = dz (row D r) (row Gl r) (row Z r) Wo k := by
  unfold dz
  rw [← dyb D Y Gl Z Wo Wg, ← gab D Y Gl Z Wo Wg, ← sgb D Y Gl Z Wo Wg]
  pointwise [k0_pay41, k0_pay35, k0_pay29]
  rfl

/-- The gradient of the rows, one block of them. -/
theorem drb (D : FVec Ideal S256x1024 .bf16) (Y : FVec Ideal S256x512 .f32) (Gl : FVec Ideal S256x1024 .bf16) (Z : FVec Ideal S256x512 .bf16) (Wo Wg : FVec Ideal S512x1024 .bf16) (r : Fin 256) (k : Fin 512) : ((k0_pay40 (F := Ideal) Y Wg (k0_pay39 (F := Ideal) D (k0_pay30 (F := Ideal) Gl) (k0_pay31 (F := Ideal) Gl) (k0_pay32 (F := Ideal) Z) Wo)) (ix2 r k) : EReal) = dyr (row D r) (row Y r) (row Gl r) (row Z r) Wo Wg k := by
  refine Eq.trans ?_ (congrArg (fun a : EReal => a * dgel (Y (ix2 r k))) (Finset.sum_congr rfl fun j _ => congrArg (fun a : EReal => a * Wg (ix2 k j)) (dub D Y Gl Z Wo Wg r j)))
  pointwise [k0_pay40, k0_pay39]
  simp only [cub_c, slp_c]
  rfl

/-- The second product's gradient, one block of rows. -/
theorem d8b (D : FVec Ideal S256x1024 .bf16) (Y : FVec Ideal S256x512 .f32) (Gl : FVec Ideal S256x1024 .bf16) (Z : FVec Ideal S256x512 .bf16) (Wo Wg : FVec Ideal S512x1024 .bf16) (i : Fin 512) (j : Fin 1024) : ((k0_pay33 (F := Ideal) D (k0_pay30 (F := Ideal) Gl) (k0_pay31 (F := Ideal) Gl) (k0_pay32 (F := Ideal) Z)) (ix2 i j) : EReal) = ∑ r : Fin 256, c8 (row D r) (row Gl r) (row Z r) i j := by
  unfold c8
  simp only [← gab D Y Gl Z Wo Wg, ← sgb D Y Gl Z Wo Wg, ← slb D Y Gl Z Wo Wg]
  pointwise [k0_pay33]
  try rfl

/-- The first product's gradient, one block of rows. -/
theorem d9b (D : FVec Ideal S256x1024 .bf16) (Y : FVec Ideal S256x512 .f32) (Gl : FVec Ideal S256x1024 .bf16) (Z : FVec Ideal S256x512 .bf16) (Wo Wg : FVec Ideal S512x1024 .bf16) (i : Fin 512) (j : Fin 1024) : ((k0_pay37 (F := Ideal) D Y (k0_pay30 (F := Ideal) Gl) (k0_pay31 (F := Ideal) Gl) (k0_pay32 (F := Ideal) Z) Wo) (ix2 i j) : EReal) = ∑ r : Fin 256, c9 (row D r) (row Y r) (row Gl r) (row Z r) Wo i j := by
  refine Eq.trans ?_ (Finset.sum_congr rfl fun r _ => congrArg (fun a : EReal => gel (Y (ix2 r i)) * a) (dub D Y Gl Z Wo Wg r j))
  pointwise [k0_pay37]
  simp only [cub_c]
  rfl

/-- The bias's gradient, one block of rows. -/
theorem d10b (D : FVec Ideal S256x1024 .bf16) (Y : FVec Ideal S256x512 .f32) (Gl : FVec Ideal S256x1024 .bf16) (Z : FVec Ideal S256x512 .bf16) (Wo Wg : FVec Ideal S512x1024 .bf16) (j : Fin 1024) : ((k0_pay38 (F := Ideal) D (k0_pay30 (F := Ideal) Gl) (k0_pay31 (F := Ideal) Gl) (k0_pay32 (F := Ideal) Z) Wo) (ix2 0 j) : EReal) = ∑ r : Fin 256, du (row D r) (row Gl r) (row Z r) Wo j := by
  refine Eq.trans ?_ (Finset.sum_congr rfl fun r _ => dub D Y Gl Z Wo Wg r j)
  pointwise [k0_pay38]

end Cert.S5PathIdeal.Value

end

end
-- ==== Proof.S5Ref.lean ====
module

public import proofs.«01_k».proof.Proof.S5Base
public import proofs.«01_k».proof.Proof.HpRef
public import proofs.«01_k».proof.Proof.Gen.S5PathRefIdeal.Read

@[expose] public section

set_option maxRecDepth 16384
noncomputable section
open Idealize.ShloMosaic Idealize.ShloMosaic.TcCoe Idealize.SL.Sem
open Idealize.ShloMosaic.Pipeline (Dat)
namespace Cert.S5PathIdeal.Value
open Cert.S5PathIdeal Cert.S5PathIdeal.Gen
open Cert.S5PathRefIdeal.Read
open Cert.HgPathIdeal.Value (log_eq coe_sum sub_self_one gate_eq)

theorem half_c : half = ((1 / 2 : ℝ) : EReal) := by simp [half, Ideal.ofBits, Ideal.ieee]; rw [← EReal.coe_mul]; norm_num
theorem three_c : Ideal.ofBits .f32 0x40400000#32 = ((3 : ℝ) : EReal) := by simp [Ideal.ofBits, Ideal.ieee]; rw [← EReal.coe_mul]; norm_num
theorem num_c : Ideal.ofBits .f32 0x472EAB00#32 = ((44715 : ℝ) : EReal) := by simp [Ideal.ofBits, Ideal.ieee]; rw [← EReal.coe_mul]; norm_num
theorem den_c : Ideal.ofBits .f32 0x49742400#32 = ((1000000 : ℝ) : EReal) := by simp [Ideal.ofBits, Ideal.ieee]; rw [← EReal.coe_mul]; norm_num
theorem scl_c : ∃ s : ℝ, 0 < s ∧ scl = (s : EReal) := by
  simp only [scl, Ideal.ofBits, Ideal.ieee]
  simp
  refine ⟨_, ?_, (EReal.coe_mul _ _).symm⟩
  positivity

theorem quo_c : Ideal.div (Ideal.ofBits .f32 0x472EAB00#32) (Ideal.ofBits .f32 0x49742400#32) = cub := by
  rw [num_c, den_c, Cert.Rms.div_coe' (by norm_num), ← EReal.coe_mul]
  congr 1
  norm_num

/-- The cube grouped the other way. -/
theorem tn_eq (y : EReal) : Ideal.tanh (scl * (y + cub * (y * y * y))) = tn y := by
  unfold tn
  rw [mul_assoc (G := EReal) (cub * y), mul_assoc (G := EReal) cub, mul_assoc (G := EReal) y]

theorem tn_top : tn ⊤ = 1 := by
  obtain ⟨s, hs, e⟩ := scl_c
  unfold tn
  rw [e, EReal.coe_mul_top_of_pos (by norm_num), EReal.top_mul_top, EReal.top_mul_top, EReal.top_add_top, EReal.coe_mul_top_of_pos hs]
  rfl

theorem tn_bot : tn ⊥ = -1 := by
  obtain ⟨s, hs, e⟩ := scl_c
  unfold tn
  rw [e, EReal.coe_mul_bot_of_pos (by norm_num), EReal.bot_mul_bot, EReal.top_mul_bot, EReal.bot_add, EReal.coe_mul_bot_of_pos hs]
  rfl

/-- The gelu's derivative times a real factor: the grouping of the kernel and that of the chain rule. -/
theorem dgel_eq (g : ℝ) (y : EReal) : (g : EReal) * dgel y
    = (scl * (half * y * g * ((1 + tn y) * (1 - tn y))) + cub * (scl * (half * y * g * ((1 + tn y) * (1 - tn y)))) * (Ideal.ofBits .f32 0x40400000#32 * (y * y)))
      + half * (g * (1 + tn y)) := by
  obtain ⟨s, hs, e⟩ := scl_c
  unfold dgel
  induction y with
  | bot =>
    rw [tn_bot]
    have h1 : (1 : EReal) + -1 = 0 := by rw [← sub_eq_add_neg, sub_self_one]
    have h2 : (1 : EReal) - -1 * -1 = 0 := by rw [neg_mul_neg, one_mul, sub_self_one]
    rw [h1, h2]
    simp only [mul_zero, zero_mul, add_zero]
  | coe a =>
    unfold tn
    rw [e, half_c, three_c, ← EReal.coe_one]
    simp only [← EReal.coe_mul, ← EReal.coe_add, Ideal.tanh_coe]
    generalize (Real.tanh _ : ℝ) = t
    simp only [← EReal.coe_mul, ← EReal.coe_sub, ← EReal.coe_add]
    congr 1
    ring
  | top =>
    rw [tn_top, one_mul, sub_self_one]
    simp only [mul_zero, zero_mul, add_zero, zero_add]
    exact mul_left_comm (G := EReal) _ _ _

theorem ac5 (g d s l o : EReal) : g * (d * l) * (s * o) = d * g * s * o * l := by
  simp only [mul_assoc, mul_comm, mul_left_comm]

theorem log_real (x : EReal) : ∃ a : ℝ, Ideal.logistic x = (a : EReal) := by
  induction x with
  | bot => exact ⟨_, Ideal.logistic_bot⟩
  | coe a => exact ⟨_, Ideal.logistic_coe a⟩
  | top => exact ⟨_, Ideal.logistic_top⟩

theorem mul_real {x y : EReal} (hx : ∃ a : ℝ, x = (a : EReal)) (hy : ∃ a : ℝ, y = (a : EReal)) : ∃ a : ℝ, x * y = (a : EReal) := by
  obtain ⟨a, rfl⟩ := hx
  obtain ⟨b, rfl⟩ := hy
  exact ⟨a * b, (EReal.coe_mul a b).symm⟩

theorem sum_real {n : ℕ} {f : Fin n → EReal} (h : ∀ k, ∃ a : ℝ, f k = (a : EReal)) : ∃ a : ℝ, ∑ k, f k = (a : EReal) := by
  choose a ha using h
  simp only [ha]
  exact ⟨_, coe_sum a⟩

theorem one_sub_real {x : EReal} (hx : ∃ a : ℝ, x = (a : EReal)) : ∃ a : ℝ, 1 - x = (a : EReal) := by
  obtain ⟨a, rfl⟩ := hx
  exact ⟨1 - a, by rw [EReal.coe_sub, EReal.coe_one]⟩

section
variable {D Gl : Fin 1024 → EReal} {Z : Fin 512 → EReal} {Wo Wg : S512x1024.Idx → EReal}
  (hD : ∀ j, ∃ a : ℝ, D j = (a : EReal)) (hG : ∀ k, ∃ a : ℝ, ga Gl k = (a : EReal)) (hZ : ∀ k, ∃ a : ℝ, Z k = (a : EReal))
  (hWo : ∀ i, ∃ a : ℝ, Wo i = (a : EReal)) (hWg : ∀ i, ∃ a : ℝ, Wg i = (a : EReal))
include hD hWo

theorem dy_real (k : Fin 512) : ∃ a : ℝ, dy D Wo k = (a : EReal) := sum_real fun j => mul_real (hD j) (hWo _)

include hG

/-- The long form of the gate's gradient. -/
theorem dz_long (k : Fin 512) : dz D Gl Z Wo k = ga Gl k * sg Gl k * dy D Wo k * Ideal.logistic (Z k)
    + Z k * (ga Gl k * sg Gl k * dy D Wo k) * (Ideal.logistic (Z k) * (1 - Ideal.logistic (Z k))) := by
  obtain ⟨a, ha⟩ := dy_real hD hWo k
  obtain ⟨b, hb⟩ := hG k
  obtain ⟨c, hc⟩ : ∃ c : ℝ, sg Gl k = (c : EReal) := log_real _
  unfold dz
  rw [ha, hb, hc, mul_comm (G := EReal) ((b : EReal) * c) a, ← mul_assoc (G := EReal) (a : EReal)]
  simp only [← EReal.coe_mul]
  exact gate_eq _ _

include hZ

theorem du_real (k : Fin 1024) : ∃ a : ℝ, du D Gl Z Wo k = (a : EReal) := by
  unfold du
  split
  · exact mul_real (mul_real (dy_real hD hWo _) (log_real _)) (mul_real (hZ _) (log_real _))
  · exact mul_real (mul_real (mul_real (mul_real (dy_real hD hWo _) (hG _)) (log_real _)) (one_sub_real (log_real _))) (mul_real (hZ _) (log_real _))

include hWg

/-- The long form of the rows' gradient. -/
theorem dyr_long (Y : Fin 512 → EReal) (k : Fin 512) : dyr D Y Gl Z Wo Wg k
    = (scl * (half * Y k * dgl D Gl Z Wo Wg k * ((1 + tn (Y k)) * (1 - tn (Y k)))) + cub * (scl * (half * Y k * dgl D Gl Z Wo Wg k * ((1 + tn (Y k)) * (1 - tn (Y k))))) * (Ideal.ofBits .f32 0x40400000#32 * (Y k * Y k)))
      + half * (dgl D Gl Z Wo Wg k * (1 + tn (Y k))) := by
  obtain ⟨g, hg⟩ : ∃ g : ℝ, dgl D Gl Z Wo Wg k = (g : EReal) := sum_real fun j => mul_real (du_real hD hG hZ hWo j) (hWg _)
  unfold dyr
  rw [hg]
  exact dgel_eq g (Y k)
end

/-- A row of the gate, columns 4608 to 5119 of the projections. -/
def gate (x3 : FVec Ideal S8192x7168 .bf16) (R : Fin 8192) : Fin 512 → EReal := fun k => x3 (ix2 R ⟨4608 + k.val, by have := k.isLt; omega⟩)

theorem r4 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (R : Fin 8192) (k : Fin 512) : ((val_main_v4 (F := Ideal) x2 (ix2 R k)) : EReal) = ga (row x2 R) k := by
  pointwise [val_main_v4, val_main_v2]
  rfl

theorem r11 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (R : Fin 8192) (k : Fin 512) : ((val_main_v11 (F := Ideal) x2 (ix2 R k)) : EReal) = sg (row x2 R) k := by
  pointwise [val_main_v11, val_main_v9, val_main_v7, val_main_v6, val_main_v5, val_main_v2, val_main_v8, val_main_cst, val_main_v10, val_main_cst_0]
  simp only [log_eq]
  rfl

theorem r16 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (R : Fin 8192) (k : Fin 512) : ((val_main_v16_0 (F := Ideal) x3 (ix2 R k)) : EReal) = sl (gate x3 R) k := by
  pointwise [val_main_v16_0, val_main_v16_2, val_main_call0_v3, val_main_call0_v1, val_main_call0_v0, val_main_v1, val_main_v0, val_main_call0_v2, val_main_call0_cst, val_main_call0_v4, val_main_call0_cst_0]
  simp only [log_eq]
  rfl

theorem r22 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (R : Fin 8192) (k : Fin 512) : ((val_main_v22 (F := Ideal) x0 x4 (ix2 R k)) : EReal) = dy (row x0 R) x4 k := by
  pointwise [val_main_v22, val_main_v3, val_main_v19]
  rfl

theorem r24 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (R : Fin 8192) (k : Fin 512) : ((val_main_v24 (F := Ideal) x0 x3 x4 (ix2 R k)) : EReal) = dy (row x0 R) x4 k * sl (gate x3 R) k := by
  pointwise [val_main_v24]
  rw [r22 x0 x1 x2 x3 x4 x5, r16 x0 x1 x2 x3 x4 x5]

theorem r29 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (R : Fin 8192) (k : Fin 1024) : ((val_main_v29 (F := Ideal) x0 x2 x3 x4 (ix2 R k)) : EReal) = du (row x0 R) (row x2 R) (gate x3 R) x4 k := by
  pointwise [val_main_v29]
  unfold du
  by_cases h : k.val < 512
  · refine (dif_pos h).trans (Eq.trans ?_ (dif_pos h).symm)
    pointwise [val_main_v27]
    rw [r24 x0 x1 x2 x3 x4 x5, r11 x0 x1 x2 x3 x4 x5]
    exact mul_right_comm (G := EReal) _ _ _
  · refine (dif_neg h).trans (Eq.trans ?_ (dif_neg h).symm)
    pointwise [val_main_v28, val_main_v26, val_main_v14, val_main_v13, val_main_v12, val_main_cst_1]
    rw [r24 x0 x1 x2 x3 x4 x5, r11 x0 x1 x2 x3 x4 x5, r4 x0 x1 x2 x3 x4 x5]
    exact ac5 _ _ _ _ _

theorem t45 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (R : Fin 8192) (k : Fin 512) : ((val_main_v45 (F := Ideal) x1 (ix2 R k)) : EReal) = tn (x1 (ix2 R k)) := by
  pointwise [val_main_v45, val_main_v44, val_main_v42, val_main_v41, val_main_v36, val_main_v35, val_main_v40, val_main_v32, val_main_cst_4, val_main_cst_3, val_main_v43, val_main_cst_7]
  rw [quo_c]
  exact tn_eq _

theorem r53 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (R : Fin 8192) (k : Fin 512) : ((val_main_v53 (F := Ideal) x1 (ix2 R k)) : EReal) = gel (x1 (ix2 R k)) := by
  pointwise [val_main_v53, val_main_v52, val_main_v51, val_main_cst_10, val_main_v34, val_main_v33, val_main_cst_5]
  rw [t45 x0 x1 x2 x3 x4 x5]
  rfl

theorem r21 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (i : Fin 512) (j : Fin 1024) : ((val_main_v21 (F := Ideal) x0 x2 x3 (ix2 i j)) : EReal) = ∑ R : Fin 8192, c8 (row x0 R) (row x2 R) (gate x3 R) i j := by
  pointwise [val_main_v21, val_main_v20, val_main_v19, val_main_v17, val_main_v15]
  refine Finset.sum_congr rfl fun R _ => ?_
  rw [r4 x0 x1 x2 x3 x4 x5, r11 x0 x1 x2 x3 x4 x5, r16 x0 x1 x2 x3 x4 x5]
  exact mul_comm (G := EReal) _ _

theorem r60 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (i : Fin 512) (j : Fin 1024) : ((val_main_v60 (F := Ideal) x0 x1 x2 x3 x4 (ix2 i j)) : EReal) = ∑ R : Fin 8192, c9 (row x0 R) (row x1 R) (row x2 R) (gate x3 R) x4 i j := by
  pointwise [val_main_v60, val_main_v59]
  refine Finset.sum_congr rfl fun R _ => ?_
  rw [r29 x0 x1 x2 x3 x4 x5, r53 x0 x1 x2 x3 x4 x5]
  exact mul_comm (G := EReal) _ _

theorem r58 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (i : Fin 1) (j : Fin 1024) : ((val_main_v58 (F := Ideal) x0 x2 x3 x4 (ix2 i j)) : EReal) = ∑ R : Fin 8192, du (row x0 R) (row x2 R) (gate x3 R) x4 j := by
  pointwise [val_main_v58, val_main_v57, val_main_cst_11]
  simp only [Finset.univ_unique, Finset.sum_singleton, r29 x0 x1 x2 x3 x4 x5]

theorem r61 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (R : Fin 8192) (k : Fin 512) : ((val_main_v61 (F := Ideal) x0 x2 x3 x4 x5 (ix2 R k)) : EReal) = dgl (row x0 R) (row x2 R) (gate x3 R) x4 x5 k := by
  pointwise [val_main_v61, val_main_v30]
  simp only [r29 x0 x1 x2 x3 x4 x5]
  rfl

theorem r74 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (hD : ∀ i, ∃ a : ℝ, x0 i = (a : EReal)) (hG : ∀ R k, ∃ a : ℝ, ga (row x2 R) k = (a : EReal)) (hWo : ∀ i, ∃ a : ℝ, x4 i = (a : EReal)) (R : Fin 8192) (k : Fin 512) : ((val_main_v74 (F := Ideal) x0 x2 x3 x4 (ix2 R k)) : EReal) = dz (row x0 R) (row x2 R) (gate x3 R) x4 k := by
  refine Eq.trans ?_ (dz_long (fun j => hD (ix2 R j)) (hG R) hWo k).symm
  pointwise [val_main_v74, val_main_v25, val_main_call1_v2, val_main_call1_v1, val_main_call1_v0, val_main_v23, val_main_v15, val_main_v16_1, val_main_v16_2, val_main_call0_v0, val_main_call0_v1, val_main_call0_cst, val_main_call0_v2, val_main_call0_v3, val_main_call0_cst_0, val_main_call0_v4, val_main_call0_cst_1, val_main_call0_v6, val_main_call0_v7, val_main_v1, val_main_v0]
  rw [r4 x0 x1 x2 x3 x4 x5, r11 x0 x1 x2 x3 x4 x5, r22 x0 x1 x2 x3 x4 x5]
  simp only [log_eq]
  rfl

theorem r73 (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (hD : ∀ i, ∃ a : ℝ, x0 i = (a : EReal)) (hG : ∀ R k, ∃ a : ℝ, ga (row x2 R) k = (a : EReal)) (hZ : ∀ R k, ∃ a : ℝ, gate x3 R k = (a : EReal)) (hWo : ∀ i, ∃ a : ℝ, x4 i = (a : EReal)) (hWg : ∀ i, ∃ a : ℝ, x5 i = (a : EReal)) (R : Fin 8192) (k : Fin 512) : ((val_main_v73 (F := Ideal) x0 x1 x2 x3 x4 x5 (ix2 R k)) : EReal) = dyr (row x0 R) (row x1 R) (row x2 R) (gate x3 R) x4 x5 k := by
  refine Eq.trans ?_ (dyr_long (fun j => hD (ix2 R j)) (hG R) (hZ R) hWo hWg (row x1 R) k).symm
  pointwise [val_main_v73, val_main_v72, val_main_v63, val_main_v52, val_main_v51, val_main_cst_10, val_main_v71, val_main_cst_13, val_main_v70, val_main_v69, val_main_v39, val_main_v37, val_main_v38, val_main_cst_6, val_main_v68, val_main_v66, val_main_v64, val_main_v50, val_main_v49, val_main_v48, val_main_cst_9, val_main_v47, val_main_v46, val_main_cst_8, val_main_v62, val_main_v34, val_main_v33, val_main_cst_5, val_main_v65, val_main_cst_12, val_main_v67, val_main_v32, val_main_cst_4, val_main_cst_3]
  rw [quo_c, t45 x0 x1 x2 x3 x4 x5, r61 x0 x1 x2 x3 x4 x5]
  rfl

end Cert.S5PathIdeal.Value

end

end
-- ==== Proof.S5Out.lean ====
module

public import proofs.«01_k».proof.Proof.S5Ref

@[expose] public section

set_option maxRecDepth 16384
noncomputable section
open Idealize.ShloMosaic Idealize.ShloMosaic.TcCoe Idealize.SL.Sem
open Idealize.ShloMosaic.Pipeline (Dat)
namespace Cert.S5PathIdeal.Value
open Cert.S5PathIdeal Cert.S5PathIdeal.Gen
open Cert.S5PathRefIdeal.Read
variable (m : (ℓ : Loc nD τ sig) → Buf (Elt Ideal) ℓ)

/-- Where each window's block begins. -/
theorem idx : ∀ t : Fin cfg0.N, win0_0.index t = ![t.val, 0] ∧ win0_1.index t = ![t.val, 0] ∧ win0_2.index t = ![t.val, 0] ∧ win0_3.index t = ![t.val, 9]
    ∧ win0_4.index t = ![0, 0] ∧ win0_5.index t = ![0, 0] ∧ win0_6.index t = ![t.val, 0] ∧ win0_7.index t = ![t.val, 0] :=
  (by decide +kernel : ∀ t : Fin grid0.N, _)

/-- A point of a grid's block of rows, as a row of the whole. -/
abbrev rowOf (t : Fin cfg0.N) (r : Fin 512) : Fin 8192 := ⟨512 * t.val + r.val, by have := t.isLt; have h : cfg0.N = 16 := N_0; have := r.isLt; omega⟩

/-- The rows and the two products' matrices. -/
abbrev r0 (c : Dev nD) (R : Fin 8192) : Fin 1024 → EReal := row (m ((c : Thread nD τ).loc main_arg0)) R
abbrev r1 (c : Dev nD) (R : Fin 8192) : Fin 512 → EReal := row (m ((c : Thread nD τ).loc main_arg1)) R
abbrev r2 (c : Dev nD) (R : Fin 8192) : Fin 1024 → EReal := row (m ((c : Thread nD τ).loc main_arg2)) R
abbrev r3 (c : Dev nD) (R : Fin 8192) : Fin 512 → EReal := gate (m ((c : Thread nD τ).loc main_arg3)) R
abbrev w4 (c : Dev nD) : FVec Ideal S512x1024 .bf16 := m ((c : Thread nD τ).loc main_arg4)
abbrev w5 (c : Dev nD) : FVec Ideal S512x1024 .bf16 := m ((c : Thread nD τ).loc main_arg5)

abbrev I0a (c : Dev nD) (t : Fin cfg0.N) : FVec Ideal S256x1024 .bf16 := View.ld (Val := Elt Ideal) (iblk m c 0 t) (Rect.unit ![0, 0] ![256, 1024] inb_S512x1024_S256x1024_0_0)

theorem ina0 (c : Dev nD) (t : Fin cfg0.N) (r : Fin 256) : row (I0a m c t) r = r0 m c (rowOf t ⟨r.val, by have := r.isLt; omega⟩) := by
  funext k
  show (View.ld (Val := Elt Ideal) (iblk m c 0 t) (Rect.unit ![0, 0] ![256, 1024] inb_S512x1024_S256x1024_0_0) (ix2 r k) : EReal)
    = m ((c : Thread nD τ).loc main_arg0) (ix2 (rowOf t ⟨r.val, by have := r.isLt; omega⟩) k)
  blk_point [iblk, V, idx t]

abbrev I1a (c : Dev nD) (t : Fin cfg0.N) : FVec Ideal S256x512 .f32 := View.ld (Val := Elt Ideal) (iblk m c 1 t) (Rect.unit ![0, 0] ![256, 512] inb_S512x512_S256x512_0_0)

theorem ina1 (c : Dev nD) (t : Fin cfg0.N) (r : Fin 256) : row (I1a m c t) r = r1 m c (rowOf t ⟨r.val, by have := r.isLt; omega⟩) := by
  funext k
  show (View.ld (Val := Elt Ideal) (iblk m c 1 t) (Rect.unit ![0, 0] ![256, 512] inb_S512x512_S256x512_0_0) (ix2 r k) : EReal)
    = m ((c : Thread nD τ).loc main_arg1) (ix2 (rowOf t ⟨r.val, by have := r.isLt; omega⟩) k)
  blk_point [iblk, V, idx t]

abbrev I2a (c : Dev nD) (t : Fin cfg0.N) : FVec Ideal S256x1024 .bf16 := View.ld (Val := Elt Ideal) (iblk m c 2 t) (Rect.unit ![0, 0] ![256, 1024] inb_S512x1024_S256x1024_0_0)

theorem ina2 (c : Dev nD) (t : Fin cfg0.N) (r : Fin 256) : row (I2a m c t) r = r2 m c (rowOf t ⟨r.val, by have := r.isLt; omega⟩) := by
  funext k
  show (View.ld (Val := Elt Ideal) (iblk m c 2 t) (Rect.unit ![0, 0] ![256, 1024] inb_S512x1024_S256x1024_0_0) (ix2 r k) : EReal)
    = m ((c : Thread nD τ).loc main_arg2) (ix2 (rowOf t ⟨r.val, by have := r.isLt; omega⟩) k)
  blk_point [iblk, V, idx t]

abbrev I3a (c : Dev nD) (t : Fin cfg0.N) : FVec Ideal S256x512 .bf16 := View.ld (Val := Elt Ideal) (iblk m c 3 t) (Rect.unit ![0, 0] ![256, 512] inb_S512x512_S256x512_0_0)

theorem ina3 (c : Dev nD) (t : Fin cfg0.N) (r : Fin 256) : row (I3a m c t) r = r3 m c (rowOf t ⟨r.val, by have := r.isLt; omega⟩) := by
  funext k
  show (View.ld (Val := Elt Ideal) (iblk m c 3 t) (Rect.unit ![0, 0] ![256, 512] inb_S512x512_S256x512_0_0) (ix2 r k) : EReal)
    = m ((c : Thread nD τ).loc main_arg3) (ix2 (rowOf t ⟨r.val, by have := r.isLt; omega⟩) ⟨4608 + k.val, by have := k.isLt; omega⟩)
  blk_point [iblk, V, idx t]

abbrev I0b (c : Dev nD) (t : Fin cfg0.N) : FVec Ideal S256x1024 .bf16 := View.ld (Val := Elt Ideal) (iblk m c 0 t) (Rect.unit ![256, 0] ![256, 1024] inb_S512x1024_S256x1024_256_0)

theorem inb0 (c : Dev nD) (t : Fin cfg0.N) (r : Fin 256) : row (I0b m c t) r = r0 m c (rowOf t ⟨256 + r.val, by have := r.isLt; omega⟩) := by
  funext k
  show (View.ld (Val := Elt Ideal) (iblk m c 0 t) (Rect.unit ![256, 0] ![256, 1024] inb_S512x1024_S256x1024_256_0) (ix2 r k) : EReal)
    = m ((c : Thread nD τ).loc main_arg0) (ix2 (rowOf t ⟨256 + r.val, by have := r.isLt; omega⟩) k)
  blk_point [iblk, V, idx t]

abbrev I1b (c : Dev nD) (t : Fin cfg0.N) : FVec Ideal S256x512 .f32 := View.ld (Val := Elt Ideal) (iblk m c 1 t) (Rect.unit ![256, 0] ![256, 512] inb_S512x512_S256x512_256_0)

theorem inb1 (c : Dev nD) (t : Fin cfg0.N) (r : Fin 256) : row (I1b m c t) r = r1 m c (rowOf t ⟨256 + r.val, by have := r.isLt; omega⟩) := by
  funext k
  show (View.ld (Val := Elt Ideal) (iblk m c 1 t) (Rect.unit ![256, 0] ![256, 512] inb_S512x512_S256x512_256_0) (ix2 r k) : EReal)
    = m ((c : Thread nD τ).loc main_arg1) (ix2 (rowOf t ⟨256 + r.val, by have := r.isLt; omega⟩) k)
  blk_point [iblk, V, idx t]

abbrev I2b (c : Dev nD) (t : Fin cfg0.N) : FVec Ideal S256x1024 .bf16 := View.ld (Val := Elt Ideal) (iblk m c 2 t) (Rect.unit ![256, 0] ![256, 1024] inb_S512x1024_S256x1024_256_0)

theorem inb2 (c : Dev nD) (t : Fin cfg0.N) (r : Fin 256) : row (I2b m c t) r = r2 m c (rowOf t ⟨256 + r.val, by have := r.isLt; omega⟩) := by
  funext k
  show (View.ld (Val := Elt Ideal) (iblk m c 2 t) (Rect.unit ![256, 0] ![256, 1024] inb_S512x1024_S256x1024_256_0) (ix2 r k) : EReal)
    = m ((c : Thread nD τ).loc main_arg2) (ix2 (rowOf t ⟨256 + r.val, by have := r.isLt; omega⟩) k)
  blk_point [iblk, V, idx t]

abbrev I3b (c : Dev nD) (t : Fin cfg0.N) : FVec Ideal S256x512 .bf16 := View.ld (Val := Elt Ideal) (iblk m c 3 t) (Rect.unit ![256, 0] ![256, 512] inb_S512x512_S256x512_256_0)

theorem inb3 (c : Dev nD) (t : Fin cfg0.N) (r : Fin 256) : row (I3b m c t) r = r3 m c (rowOf t ⟨256 + r.val, by have := r.isLt; omega⟩) := by
  funext k
  show (View.ld (Val := Elt Ideal) (iblk m c 3 t) (Rect.unit ![256, 0] ![256, 512] inb_S512x512_S256x512_256_0) (ix2 r k) : EReal)
    = m ((c : Thread nD τ).loc main_arg3) (ix2 (rowOf t ⟨256 + r.val, by have := r.isLt; omega⟩) ⟨4608 + k.val, by have := k.isLt; omega⟩)
  blk_point [iblk, V, idx t]

theorem const4 (c : Dev nD) (t : Fin cfg0.N) : iblk m c 4 t = w4 m c := by
  funext y
  obtain ⟨i, k, rfl⟩ : ∃ i k, y = ix2 i k := ⟨_, _, ValueIdx.eq_ix2 y⟩
  show (iblk m c 4 t (ix2 i k) : EReal) = m ((c : Thread nD τ).loc main_arg4) (ix2 i k)
  blk_point [iblk, V, idx t]

theorem const5 (c : Dev nD) (t : Fin cfg0.N) : iblk m c 5 t = w5 m c := by
  funext y
  obtain ⟨i, k, rfl⟩ : ∃ i k, y = ix2 i k := ⟨_, _, ValueIdx.eq_ix2 y⟩
  show (iblk m c 5 t (ix2 i k) : EReal) = m ((c : Thread nD τ).loc main_arg5) (ix2 i k)
  blk_point [iblk, V, idx t]

/-- What a point adds to the second product's gradient. -/
theorem acc8 (c : Dev nD) (t : Fin cfg0.N) (Z : FVec Ideal S512x1024 .f32) (i : Fin 512) (j : Fin 1024) :
    ((k0_pay42 (F := Ideal) (k0_pay33 (F := Ideal) (I0b m c t) (k0_pay30 (F := Ideal) (I2b m c t)) (k0_pay31 (F := Ideal) (I2b m c t)) (k0_pay32 (F := Ideal) (I3b m c t))) (k0_pay25 (F := Ideal) (k0_pay11 (F := Ideal) (I0a m c t) (I2a m c t) (I3a m c t)) Z)) (ix2 i j) : EReal) = Z (ix2 i j) + ∑ k : Fin 512, c8 (r0 m c (rowOf t k)) (r2 m c (rowOf t k)) (r3 m c (rowOf t k)) i j := by
  rw [show ∑ k : Fin 512, c8 (r0 m c (rowOf t k)) (r2 m c (rowOf t k)) (r3 m c (rowOf t k)) i j = ∑ k : Fin 256, c8 (r0 m c (rowOf t ⟨k.val, by omega⟩)) (r2 m c (rowOf t ⟨k.val, by omega⟩)) (r3 m c (rowOf t ⟨k.val, by omega⟩)) i j + ∑ k : Fin 256, c8 (r0 m c (rowOf t ⟨256 + k.val, by omega⟩)) (r2 m c (rowOf t ⟨256 + k.val, by omega⟩)) (r3 m c (rowOf t ⟨256 + k.val, by omega⟩)) i j from
    Fin.sum_univ_add (a := 256) (b := 256) fun k : Fin 512 => c8 (r0 m c (rowOf t k)) (r2 m c (rowOf t k)) (r3 m c (rowOf t k)) i j]

  refine Eq.trans (b := Z (ix2 i j) + ((k0_pay11 (F := Ideal) (I0a m c t) (I2a m c t) (I3a m c t)) (ix2 i j) : EReal) + ((k0_pay33 (F := Ideal) (I0b m c t) (k0_pay30 (F := Ideal) (I2b m c t)) (k0_pay31 (F := Ideal) (I2b m c t)) (k0_pay32 (F := Ideal) (I3b m c t))) (ix2 i j) : EReal)) ?_ ?_
  · pointwise [k0_pay42, k0_pay25]
  rw [d8a (I0a m c t) (I1a m c t) (I2a m c t) (I3a m c t) (iblk m c 4 t) (iblk m c 5 t), d8b (I0b m c t) (I1b m c t) (I2b m c t) (I3b m c t) (iblk m c 4 t) (iblk m c 5 t)]
  simp only [ina0, ina1, ina2, ina3, inb0, inb1, inb2, inb3, const4, const5, add_assoc (G := EReal)]

/-- Window 8 after the run is the second product's gradient. -/
theorem final8 (c : Dev nD) : (dats m 0 c).arrAt 8 (cfgs 0).N = val_main_v21 (F := Ideal) (m ((c : Thread nD τ).loc main_arg0)) (m ((c : Thread nD τ).loc main_arg2)) (m ((c : Thread nD τ).loc main_arg3)) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0)
    (fun p j => ∑ k : Fin 512, c8 (r0 m c (rowOf p k)) (r2 m c (rowOf p k)) (r3 m c (rowOf p k)) (j 0) (j 1))
    (fun t h j => by
      rw [outsAt0_A m c t h]; frame_out
      obtain ⟨i, k, rfl⟩ : ∃ i k, j = ix2 i k := ⟨_, _, ValueIdx.eq_ix2 j⟩
      refine (acc8 m c t (k0_pay3 (F := Ideal)) i k).trans ?_
      pointwise [k0_pay3])
    (fun t h j => by
      rw [outsAt0_B m c t h]; frame_out
      obtain ⟨i, k, rfl⟩ : ∃ i k, j = ix2 i k := ⟨_, _, ValueIdx.eq_ix2 j⟩
      exact acc8 m c t _ i k)
    (le_of_eq N_0) t0_15 rfl j, zero_add]
  obtain ⟨i, k, rfl⟩ : ∃ i k, j = ix2 i k := ⟨_, _, ValueIdx.eq_ix2 j⟩
  refine Eq.trans ?_ (r21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i k).symm
  exact (Fin.sum_mul_add_congr fun t l hl => congrArg (fun R => c8 (r0 m c R) (r2 m c R) (r3 m c R) i k) (Fin.ext (by show 512 * t.val + l.val = t.val * 512 + l.val; omega) : rowOf t l = ⟨t.val * 512 + l.val, hl⟩))

/-- What a point adds to the first product's gradient. -/
theorem acc9 (c : Dev nD) (t : Fin cfg0.N) (Z : FVec Ideal S512x1024 .f32) (i : Fin 512) (j : Fin 1024) :
    ((k0_pay1 (F := Ideal) (k0_pay37 (F := Ideal) (I0b m c t) (I1b m c t) (k0_pay30 (F := Ideal) (I2b m c t)) (k0_pay31 (F := Ideal) (I2b m c t)) (k0_pay32 (F := Ideal) (I3b m c t)) (iblk m c 4 t)) (k0_pay26 (F := Ideal) (k0_pay16 (F := Ideal) (I1a m c t) (k0_pay14 (F := Ideal) (I0a m c t) (I2a m c t) (I3a m c t) (iblk m c 4 t)) (k0_pay15 (F := Ideal))) Z)) (ix2 i j) : EReal) = Z (ix2 i j) + ∑ k : Fin 512, c9 (r0 m c (rowOf t k)) (r1 m c (rowOf t k)) (r2 m c (rowOf t k)) (r3 m c (rowOf t k)) (w4 m c) i j := by
  rw [show ∑ k : Fin 512, c9 (r0 m c (rowOf t k)) (r1 m c (rowOf t k)) (r2 m c (rowOf t k)) (r3 m c (rowOf t k)) (w4 m c) i j = ∑ k : Fin 256, c9 (r0 m c (rowOf t ⟨k.val, by omega⟩)) (r1 m c (rowOf t ⟨k.val, by omega⟩)) (r2 m c (rowOf t ⟨k.val, by omega⟩)) (r3 m c (rowOf t ⟨k.val, by omega⟩)) (w4 m c) i j + ∑ k : Fin 256, c9 (r0 m c (rowOf t ⟨256 + k.val, by omega⟩)) (r1 m c (rowOf t ⟨256 + k.val, by omega⟩)) (r2 m c (rowOf t ⟨256 + k.val, by omega⟩)) (r3 m c (rowOf t ⟨256 + k.val, by omega⟩)) (w4 m c) i j from
    Fin.sum_univ_add (a := 256) (b := 256) fun k : Fin 512 => c9 (r0 m c (rowOf t k)) (r1 m c (rowOf t k)) (r2 m c (rowOf t k)) (r3 m c (rowOf t k)) (w4 m c) i j]

  refine Eq.trans (b := Z (ix2 i j) + ((k0_pay16 (F := Ideal) (I1a m c t) (k0_pay14 (F := Ideal) (I0a m c t) (I2a m c t) (I3a m c t) (iblk m c 4 t)) (k0_pay15 (F := Ideal))) (ix2 i j) : EReal) + ((k0_pay37 (F := Ideal) (I0b m c t) (I1b m c t) (k0_pay30 (F := Ideal) (I2b m c t)) (k0_pay31 (F := Ideal) (I2b m c t)) (k0_pay32 (F := Ideal) (I3b m c t)) (iblk m c 4 t)) (ix2 i j) : EReal)) ?_ ?_
  · pointwise [k0_pay1, k0_pay26]
  rw [d9a (I0a m c t) (I1a m c t) (I2a m c t) (I3a m c t) (iblk m c 4 t) (iblk m c 5 t), d9b (I0b m c t) (I1b m c t) (I2b m c t) (I3b m c t) (iblk m c 4 t) (iblk m c 5 t)]
  simp only [ina0, ina1, ina2, ina3, inb0, inb1, inb2, inb3, const4, const5, add_assoc (G := EReal)]

/-- Window 9 after the run is the first product's gradient. -/
theorem final9 (c : Dev nD) : (dats m 0 c).arrAt 9 (cfgs 0).N = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0)
    (fun p j => ∑ k : Fin 512, c9 (r0 m c (rowOf p k)) (r1 m c (rowOf p k)) (r2 m c (rowOf p k)) (r3 m c (rowOf p k)) (w4 m c) (j 0) (j 1))
    (fun t h j => by
      rw [outsAt0_A m c t h]; frame_out
      obtain ⟨i, k, rfl⟩ : ∃ i k, j = ix2 i k := ⟨_, _, ValueIdx.eq_ix2 j⟩
      refine (acc9 m c t (k0_pay4 (F := Ideal)) i k).trans ?_
      pointwise [k0_pay4])
    (fun t h j => by
      rw [outsAt0_B m c t h]; frame_out
      obtain ⟨i, k, rfl⟩ : ∃ i k, j = ix2 i k := ⟨_, _, ValueIdx.eq_ix2 j⟩
      exact acc9 m c t _ i k)
    (le_of_eq N_0) t0_15 rfl j, zero_add]
  obtain ⟨i, k, rfl⟩ : ∃ i k, j = ix2 i k := ⟨_, _, ValueIdx.eq_ix2 j⟩
  refine Eq.trans ?_ (r60 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i k).symm
  exact (Fin.sum_mul_add_congr fun t l hl => congrArg (fun R => c9 (r0 m c R) (r1 m c R) (r2 m c R) (r3 m c R) (w4 m c) i k) (Fin.ext (by show 512 * t.val + l.val = t.val * 512 + l.val; omega) : rowOf t l = ⟨t.val * 512 + l.val, hl⟩))

/-- What a point adds to the bias's gradient. -/
theorem acc10 (c : Dev nD) (t : Fin cfg0.N) (Z : FVec Ideal S1x1024 .f32) (i : Fin 1) (j : Fin 1024) :
    ((k0_pay2 (F := Ideal) (k0_pay38 (F := Ideal) (I0b m c t) (k0_pay30 (F := Ideal) (I2b m c t)) (k0_pay31 (F := Ideal) (I2b m c t)) (k0_pay32 (F := Ideal) (I3b m c t)) (iblk m c 4 t)) (k0_pay27 (F := Ideal) (k0_pay17 (F := Ideal) (k0_pay14 (F := Ideal) (I0a m c t) (I2a m c t) (I3a m c t) (iblk m c 4 t))) Z)) (ix2 i j) : EReal) = Z (ix2 i j) + ∑ k : Fin 512, du (r0 m c (rowOf t k)) (r2 m c (rowOf t k)) (r3 m c (rowOf t k)) (w4 m c) j := by
  rw [show ∑ k : Fin 512, du (r0 m c (rowOf t k)) (r2 m c (rowOf t k)) (r3 m c (rowOf t k)) (w4 m c) j = ∑ k : Fin 256, du (r0 m c (rowOf t ⟨k.val, by omega⟩)) (r2 m c (rowOf t ⟨k.val, by omega⟩)) (r3 m c (rowOf t ⟨k.val, by omega⟩)) (w4 m c) j + ∑ k : Fin 256, du (r0 m c (rowOf t ⟨256 + k.val, by omega⟩)) (r2 m c (rowOf t ⟨256 + k.val, by omega⟩)) (r3 m c (rowOf t ⟨256 + k.val, by omega⟩)) (w4 m c) j from
    Fin.sum_univ_add (a := 256) (b := 256) fun k : Fin 512 => du (r0 m c (rowOf t k)) (r2 m c (rowOf t k)) (r3 m c (rowOf t k)) (w4 m c) j]
  obtain rfl : i = 0 := Subsingleton.elim _ _
  refine Eq.trans (b := Z (ix2 0 j) + ((k0_pay17 (F := Ideal) (k0_pay14 (F := Ideal) (I0a m c t) (I2a m c t) (I3a m c t) (iblk m c 4 t))) (ix2 0 j) : EReal) + ((k0_pay38 (F := Ideal) (I0b m c t) (k0_pay30 (F := Ideal) (I2b m c t)) (k0_pay31 (F := Ideal) (I2b m c t)) (k0_pay32 (F := Ideal) (I3b m c t)) (iblk m c 4 t)) (ix2 0 j) : EReal)) ?_ ?_
  · pointwise [k0_pay2, k0_pay27]
  rw [d10a (I0a m c t) (I1a m c t) (I2a m c t) (I3a m c t) (iblk m c 4 t) (iblk m c 5 t), d10b (I0b m c t) (I1b m c t) (I2b m c t) (I3b m c t) (iblk m c 4 t) (iblk m c 5 t)]
  simp only [ina0, ina1, ina2, ina3, inb0, inb1, inb2, inb3, const4, const5, add_assoc (G := EReal)]

/-- Window 10 after the run is the bias's gradient. -/
theorem final10 (c : Dev nD) : (dats m 0 c).arrAt 10 (cfgs 0).N = val_main_v58 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0)
    (fun p j => ∑ k : Fin 512, du (r0 m c (rowOf p k)) (r2 m c (rowOf p k)) (r3 m c (rowOf p k)) (w4 m c) (j 1))
    (fun t h j => by
      rw [outsAt0_A m c t h]; frame_out
      obtain ⟨i, k, rfl⟩ : ∃ i k, j = ix2 i k := ⟨_, _, ValueIdx.eq_ix2 j⟩
      refine (acc10 m c t (k0_pay5 (F := Ideal)) i k).trans ?_
      pointwise [k0_pay5])
    (fun t h j => by
      rw [outsAt0_B m c t h]; frame_out
      obtain ⟨i, k, rfl⟩ : ∃ i k, j = ix2 i k := ⟨_, _, ValueIdx.eq_ix2 j⟩
      exact acc10 m c t _ i k)
    (le_of_eq N_0) t0_15 rfl j, zero_add]
  obtain ⟨i, k, rfl⟩ : ∃ i k, j = ix2 i k := ⟨_, _, ValueIdx.eq_ix2 j⟩
  refine Eq.trans ?_ (r58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i k).symm
  exact (Fin.sum_mul_add_congr fun t l hl => congrArg (fun R => du (r0 m c R) (r2 m c R) (r3 m c R) (w4 m c) k) (Fin.ext (by show 512 * t.val + l.val = t.val * 512 + l.val; omega) : rowOf t l = ⟨t.val * 512 + l.val, hl⟩))

theorem y6a (c : Dev nD) (hD : ∀ i, ∃ a : ℝ, m ((c : Thread nD τ).loc main_arg0) i = (a : EReal)) (hG : ∀ R k, ∃ a : ℝ, ga (row (m ((c : Thread nD τ).loc main_arg2)) R) k = (a : EReal)) (hZ : ∀ R k, ∃ a : ℝ, gate (m ((c : Thread nD τ).loc main_arg3)) R k = (a : EReal)) (hWo : ∀ i, ∃ a : ℝ, m ((c : Thread nD τ).loc main_arg4) i = (a : EReal)) (hWg : ∀ i, ∃ a : ℝ, m ((c : Thread nD τ).loc main_arg5) i = (a : EReal)) (t : Fin cfg0.N) (r : Fin 256) (j : Fin 512) : ((k0_pay23 (F := Ideal) (k0_pay18 (F := Ideal) (k0_pay14 (F := Ideal) (I0a m c t) (I2a m c t) (I3a m c t) (iblk m c 4 t)) (iblk m c 5 t)) (k0_pay20 (F := Ideal) (I1a m c t)) (k0_pay21 (F := Ideal) (I1a m c t)) (k0_pay22 (F := Ideal) (I1a m c t)) (FloatOps.ofBits FTy.f32 0x3F800000#32)) (ix2 r j) : EReal)
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t ⟨r.val, by have := r.isLt; omega⟩) j) := by
  rw [dra (I0a m c t) (I1a m c t) (I2a m c t) (I3a m c t) (iblk m c 4 t) (iblk m c 5 t), r73 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) hD hG hZ hWo hWg]
  simp only [ina0, ina1, ina2, ina3, const4, const5]

theorem y6b (c : Dev nD) (hD : ∀ i, ∃ a : ℝ, m ((c : Thread nD τ).loc main_arg0) i = (a : EReal)) (hG : ∀ R k, ∃ a : ℝ, ga (row (m ((c : Thread nD τ).loc main_arg2)) R) k = (a : EReal)) (hZ : ∀ R k, ∃ a : ℝ, gate (m ((c : Thread nD τ).loc main_arg3)) R k = (a : EReal)) (hWo : ∀ i, ∃ a : ℝ, m ((c : Thread nD τ).loc main_arg4) i = (a : EReal)) (hWg : ∀ i, ∃ a : ℝ, m ((c : Thread nD τ).loc main_arg5) i = (a : EReal)) (t : Fin cfg0.N) (r : Fin 256) (j : Fin 512) : ((k0_pay40 (F := Ideal) (I1b m c t) (iblk m c 5 t) (k0_pay39 (F := Ideal) (I0b m c t) (k0_pay30 (F := Ideal) (I2b m c t)) (k0_pay31 (F := Ideal) (I2b m c t)) (k0_pay32 (F := Ideal) (I3b m c t)) (iblk m c 4 t))) (ix2 r j) : EReal)
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t ⟨256 + r.val, by have := r.isLt; omega⟩) j) := by
  rw [drb (I0b m c t) (I1b m c t) (I2b m c t) (I3b m c t) (iblk m c 4 t) (iblk m c 5 t), r73 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) hD hG hZ hWo hWg]
  simp only [inb0, inb1, inb2, inb3, const4, const5]

/-- Window 6 after the run is the gradient of the rows. -/
theorem final6 (c : Dev nD) (hD : ∀ i, ∃ a : ℝ, m ((c : Thread nD τ).loc main_arg0) i = (a : EReal)) (hG : ∀ R k, ∃ a : ℝ, ga (row (m ((c : Thread nD τ).loc main_arg2)) R) k = (a : EReal)) (hZ : ∀ R k, ∃ a : ℝ, gate (m ((c : Thread nD τ).loc main_arg3)) R k = (a : EReal)) (hWo : ∀ i, ∃ a : ℝ, m ((c : Thread nD τ).loc main_arg4) i = (a : EReal)) (hWg : ∀ i, ∃ a : ℝ, m ((c : Thread nD τ).loc main_arg5) i = (a : EReal)) : (dats m 0 c).arrAt 6 (cfgs 0).N = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  refine Eq.trans (b := (val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t (y 0)) (y 1)) : EReal)) ?_ ?_
  swap
  · generalize val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = Q
    blk_ext! [idx t]
  refine (congrArg _ (ValueIdx.eq_ix2 y)).trans ?_
  generalize y 0 = r, y 1 = k
  by_cases h : t.val % 16 = 0
  · rw [outsAt0_A m c t h]; frame_out
    canon_tiles x h
    case piece1 =>
      have h0' : r.val = (x 0).val := h0
      have h1' : k.val = (x 1).val := h1
      refine Eq.trans (b := _) ?_ ((y6a m c hD hG hZ hWo hWg t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y6b m c hD hG hZ hWo hWg t (x 0) (x 1)).trans (congrArg _ (congrArg₂ ix2 (congrArg (rowOf t) (Fin.ext ?_)) (Fin.ext ?_))))
      · exact congrArg _ (ValueIdx.eq_ix2 x)
      · exact h0'.symm
      · exact h1'.symm
  · rw [outsAt0_B m c t h]; frame_out
    canon_tiles x h
    case piece1 =>
      have h0' : r.val = (x 0).val := h0
      have h1' : k.val = (x 1).val := h1
      refine Eq.trans (b := _) ?_ ((y6a m c hD hG hZ hWo hWg t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y6b m c hD hG hZ hWo hWg t (x 0) (x 1)).trans (congrArg _ (congrArg₂ ix2 (congrArg (rowOf t) (Fin.ext ?_)) (Fin.ext ?_))))
      · exact congrArg _ (ValueIdx.eq_ix2 x)
      · exact h0'.symm
      · exact h1'.symm

theorem y7a (c : Dev nD) (hD : ∀ i, ∃ a : ℝ, m ((c : Thread nD τ).loc main_arg0) i = (a : EReal)) (hG : ∀ R k, ∃ a : ℝ, ga (row (m ((c : Thread nD τ).loc main_arg2)) R) k = (a : EReal)) (hWo : ∀ i, ∃ a : ℝ, m ((c : Thread nD τ).loc main_arg4) i = (a : EReal)) (t : Fin cfg0.N) (r : Fin 256) (j : Fin 512) : ((k0_pay24 (F := Ideal) (k0_pay13 (F := Ideal) (I0a m c t) (I2a m c t) (I3a m c t) (iblk m c 4 t))) (ix2 r j) : EReal)
    = val_main_v74 (F := Ideal) (m ((c : Thread nD τ).loc main_arg0)) (m ((c : Thread nD τ).loc main_arg2)) (m ((c : Thread nD τ).loc main_arg3)) (m ((c : Thread nD τ).loc main_arg4)) (ix2 (rowOf t ⟨r.val, by have := r.isLt; omega⟩) j) := by
  rw [dza (I0a m c t) (I1a m c t) (I2a m c t) (I3a m c t) (iblk m c 4 t) (iblk m c 5 t), r74 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) hD hG hWo]
  simp only [ina0, ina1, ina2, ina3, const4, const5]

theorem y7b (c : Dev nD) (hD : ∀ i, ∃ a : ℝ, m ((c : Thread nD τ).loc main_arg0) i = (a : EReal)) (hG : ∀ R k, ∃ a : ℝ, ga (row (m ((c : Thread nD τ).loc main_arg2)) R) k = (a : EReal)) (hWo : ∀ i, ∃ a : ℝ, m ((c : Thread nD τ).loc main_arg4) i = (a : EReal)) (t : Fin cfg0.N) (r : Fin 256) (j : Fin 512) : ((k0_pay41 (F := Ideal) (k0_pay35 (F := Ideal) (I0b m c t) (k0_pay29 (F := Ideal) (I3b m c t)) (k0_pay30 (F := Ideal) (I2b m c t)) (k0_pay31 (F := Ideal) (I2b m c t)) (iblk m c 4 t))) (ix2 r j) : EReal)
    = val_main_v74 (F := Ideal) (m ((c : Thread nD τ).loc main_arg0)) (m ((c : Thread nD τ).loc main_arg2)) (m ((c : Thread nD τ).loc main_arg3)) (m ((c : Thread nD τ).loc main_arg4)) (ix2 (rowOf t ⟨256 + r.val, by have := r.isLt; omega⟩) j) := by
  rw [dzb (I0b m c t) (I1b m c t) (I2b m c t) (I3b m c t) (iblk m c 4 t) (iblk m c 5 t), r74 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) hD hG hWo]
  simp only [inb0, inb1, inb2, inb3, const4, const5]

/-- Window 7 after the run is the gradient of the gate. -/
theorem final7 (c : Dev nD) (hD : ∀ i, ∃ a : ℝ, m ((c : Thread nD τ).loc main_arg0) i = (a : EReal)) (hG : ∀ R k, ∃ a : ℝ, ga (row (m ((c : Thread nD τ).loc main_arg2)) R) k = (a : EReal)) (hWo : ∀ i, ∃ a : ℝ, m ((c : Thread nD τ).loc main_arg4) i = (a : EReal)) : (dats m 0 c).arrAt 7 (cfgs 0).N = val_main_v74 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  refine Eq.trans (b := (val_main_v74 (F := Ideal) (m ((c : Thread nD τ).loc main_arg0)) (m ((c : Thread nD τ).loc main_arg2)) (m ((c : Thread nD τ).loc main_arg3)) (m ((c : Thread nD τ).loc main_arg4)) (ix2 (rowOf t (y 0)) (y 1)) : EReal)) ?_ ?_
  swap
  · generalize val_main_v74 (F := Ideal) (m ((c : Thread nD τ).loc main_arg0)) (m ((c : Thread nD τ).loc main_arg2)) (m ((c : Thread nD τ).loc main_arg3)) (m ((c : Thread nD τ).loc main_arg4)) = Q
    blk_ext! [idx t]
  refine (congrArg _ (ValueIdx.eq_ix2 y)).trans ?_
  generalize y 0 = r, y 1 = k
  by_cases h : t.val % 16 = 0
  · rw [outsAt0_A m c t h]; frame_out
    canon_tiles x h
    case piece1 =>
      have h0' : r.val = (x 0).val := h0
      have h1' : k.val = (x 1).val := h1
      refine Eq.trans (b := _) ?_ ((y7a m c hD hG hWo t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y7b m c hD hG hWo t (x 0) (x 1)).trans (congrArg _ (congrArg₂ ix2 (congrArg (rowOf t) (Fin.ext ?_)) (Fin.ext ?_))))
      · exact congrArg _ (ValueIdx.eq_ix2 x)
      · exact h0'.symm
      · exact h1'.symm
  · rw [outsAt0_B m c t h]; frame_out
    canon_tiles x h
    case piece1 =>
      have h0' : r.val = (x 0).val := h0
      have h1' : k.val = (x 1).val := h1
      refine Eq.trans (b := _) ?_ ((y7a m c hD hG hWo t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y7b m c hD hG hWo t (x 0) (x 1)).trans (congrArg _ (congrArg₂ ix2 (congrArg (rowOf t) (Fin.ext ?_)) (Fin.ext ?_))))
      · exact congrArg _ (ValueIdx.eq_ix2 x)
      · exact h0'.symm
      · exact h1'.symm

end Cert.S5PathIdeal.Value

end

end
-- ==== Proof.S5PathClaim.lean ====
module

public import proofs.«01_k».proof.Defs
public import proofs.«01_k».proof.Proof.Gen.S5Path
public import proofs.«01_k».proof.Proof.Gen.S5PathRefIdeal.Run
public import proofs.«01_k».proof.Proof.S5Out
public import proofs.«01_k».proof.Proof.HgPathClaim
public import Idealize.ShloMosaic.Lib.Claim
public import Idealize.ShloMosaic.Lib.ReduceAll
public import Idealize.ShloMosaic.Lib.Affine

@[expose] public section

set_option maxRecDepth 16384
noncomputable section
open Idealize.ShloMosaic Idealize.ShloMosaic.TcCoe Idealize.SL.Sem
namespace Cert.S5PathIdeal.Value
open Cert.S5PathRefIdeal.Read
open Cert.HgPathIdeal.Value (real_of_abs_le big_real)
attribute [local instance] Cert.S5PathIdeal.Gen.facts Cert.S5PathRefIdeal.Gen.facts

section
open Cert.S5PathIdeal Cert.S5PathIdeal.Gen
variable (m : (ℓ : Loc nD τ sig) → Buf (Elt Ideal) ℓ)

/-- The precondition says that the entries of the arguments it names are real numbers. -/
theorem real_args [hP : Cert.Pre_finite_s5path.Facts] (x0 : FVec Ideal S8192x1024 .bf16) (x1 : FVec Ideal S8192x512 .f32) (x2 : FVec Ideal S8192x1024 .bf16) (x3 : FVec Ideal S8192x7168 .bf16) (x4 : FVec Ideal S512x1024 .bf16) (x5 : FVec Ideal S512x1024 .bf16) (h : Cert.Pre_finite_s5path.fn (F := Ideal) x0 x1 x2 x3 x4 x5 = fun _ => 1#1) :
    (∀ i, ∃ a : ℝ, (x0 i : EReal) = (a : EReal)) ∧ (∀ R k, ∃ a : ℝ, ga (row x2 R) k = (a : EReal)) ∧ (∀ R k, ∃ a : ℝ, gate x3 R k = (a : EReal))
      ∧ (∀ i, ∃ a : ℝ, (x4 i : EReal) = (a : EReal)) ∧ (∀ i, ∃ a : ℝ, (x5 i : EReal) = (a : EReal)) := by
  obtain ⟨b, hb⟩ := big_real
  haveI : Subsingleton Cert.Pre_finite_s5path.S_.Idx := ⟨fun a b => funext fun i => i.elim0⟩
  have e := congrFun h ix0
  unfold Cert.Pre_finite_s5path.fn Cert.Pre_finite_s5path.fn_part1 at e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  refine ⟨fun i => ?_, fun R k => ?_, fun R k => ?_, fun i => ?_, fun i => ?_⟩
  · exact real_of_abs_le _ _ b hb ((Ideal.cmp_ole_eq_one _ _).1 (Host.reduce_andi_all _ _ _ _ _ e0 i))
  · obtain ⟨a, ha⟩ := real_of_abs_le _ _ b hb ((Ideal.cmp_ole_eq_one _ _).1 (Host.reduce_andi_all _ _ _ _ _ e2 (ix2 R k)))
    refine ⟨a, Eq.trans ?_ ha⟩
    pointwise []
    rfl
  · obtain ⟨a, ha⟩ := real_of_abs_le _ _ b hb ((Ideal.cmp_ole_eq_one _ _).1 (Host.reduce_andi_all _ _ _ _ _ e3 (ix2 R k)))
    refine ⟨a, Eq.trans ?_ ha⟩
    pointwise []
    rfl
  · exact real_of_abs_le _ _ b hb ((Ideal.cmp_ole_eq_one _ _).1 (Host.reduce_andi_all _ _ _ _ _ e4 i))
  · exact real_of_abs_le _ _ b hb ((Ideal.cmp_ole_eq_one _ _).1 (Host.reduce_andi_all _ _ _ _ _ e5 i))

theorem fin6 [hP : Cert.Pre_finite_s5path.Facts] (c : Dev nD) {x0 : FVec Ideal S8192x1024 .bf16} {x1 : FVec Ideal S8192x512 .f32} {x2 : FVec Ideal S8192x1024 .bf16} {x3 : FVec Ideal S8192x7168 .bf16} {x4 : FVec Ideal S512x1024 .bf16} {x5 : FVec Ideal S512x1024 .bf16} (hp : Cert.Pre_finite_s5path.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) :
    val_main_v73 (F := Ideal) x0 x1 x2 x3 x4 x5 = (dats m 0 c).arrAt 6 (cfgs 0).N := by
  subst h0 h1 h2 h3 h4 h5
  obtain ⟨q0, q2, q3, q4, q5⟩ := real_args _ _ _ _ _ _ hp
  exact (final6 m c q0 q2 q3 q4 q5).symm

theorem fin7 [hP : Cert.Pre_finite_s5path.Facts] (c : Dev nD) {x0 : FVec Ideal S8192x1024 .bf16} {x1 : FVec Ideal S8192x512 .f32} {x2 : FVec Ideal S8192x1024 .bf16} {x3 : FVec Ideal S8192x7168 .bf16} {x4 : FVec Ideal S512x1024 .bf16} {x5 : FVec Ideal S512x1024 .bf16} (hp : Cert.Pre_finite_s5path.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) :
    val_main_v74 (F := Ideal) x0 x2 x3 x4 = (dats m 0 c).arrAt 7 (cfgs 0).N := by
  subst h0 h1 h2 h3 h4 h5
  obtain ⟨q0, q2, q3, q4, q5⟩ := real_args _ _ _ _ _ _ hp
  exact (final7 m c q0 q2 q4).symm

theorem fin8 (c : Dev nD) {x0 : FVec Ideal S8192x1024 .bf16} {x1 : FVec Ideal S8192x512 .f32} {x2 : FVec Ideal S8192x1024 .bf16} {x3 : FVec Ideal S8192x7168 .bf16} {x4 : FVec Ideal S512x1024 .bf16} {x5 : FVec Ideal S512x1024 .bf16} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) :
    val_main_v21 (F := Ideal) x0 x2 x3 = (dats m 0 c).arrAt 8 (cfgs 0).N := by
  subst h0 h1 h2 h3 h4 h5
  exact (final8 m c).symm

theorem fin9 (c : Dev nD) {x0 : FVec Ideal S8192x1024 .bf16} {x1 : FVec Ideal S8192x512 .f32} {x2 : FVec Ideal S8192x1024 .bf16} {x3 : FVec Ideal S8192x7168 .bf16} {x4 : FVec Ideal S512x1024 .bf16} {x5 : FVec Ideal S512x1024 .bf16} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) :
    val_main_v60 (F := Ideal) x0 x1 x2 x3 x4 = (dats m 0 c).arrAt 9 (cfgs 0).N := by
  subst h0 h1 h2 h3 h4 h5
  exact (final9 m c).symm

theorem fin10 (c : Dev nD) {x0 : FVec Ideal S8192x1024 .bf16} {x1 : FVec Ideal S8192x512 .f32} {x2 : FVec Ideal S8192x1024 .bf16} {x3 : FVec Ideal S8192x7168 .bf16} {x4 : FVec Ideal S512x1024 .bf16} {x5 : FVec Ideal S512x1024 .bf16} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) :
    val_main_v58 (F := Ideal) x0 x2 x3 x4 = (dats m 0 c).arrAt 10 (cfgs 0).N := by
  subst h0 h1 h2 h3 h4 h5
  exact (final10 m c).symm

end

/-- The two named constants are those of the tanh gelu: the factor of its cube, and three times it. -/
theorem preserves : Cert.preserves_S5Path_S5PathIdeal :=
  ⟨IdealRules.named_const.statement Cert.S5PathIdeal.κ "gelu_cubic" .f32 0x3D372713#32 ((8943 / 200000 : ℝ) : EReal) rfl,
    IdealRules.named_const.statement Cert.S5PathIdeal.κ "gelu_cubic_slope" .f32 0x3E095D4F#32 ((26829 / 200000 : ℝ) : EReal) rfl⟩

/-- The backward kernel of the state-space branch's two products, gate and gelu computes the reference's gradients, when the incoming gradient,
the gated half, the gate and the products' matrices are finite. -/
theorem algebraic [hPre_finite_s5path : Cert.Pre_finite_s5path.Facts] : Cert.algebraic_S5PathIdeal_S5PathRefIdeal_pre_finite_s5path := by
  pair_intro
  · run_from Cert.S5PathIdeal.Value.run_blocks m g
  · refine (θ_run Cert.S5PathRefIdeal.defs _ _).mono (fun r h c => ⟨(h c).1.trans ((Cert.S5PathRefIdeal.Read.val_main_v73_eq (F := Ideal) m' c).trans ?_), (h c).2.1.trans ((Cert.S5PathRefIdeal.Read.val_main_v74_eq (F := Ideal) _ _ _ _).trans ?_), (h c).2.2.1.trans ((Cert.S5PathRefIdeal.Read.val_main_v21_eq (F := Ideal) _ _ _).trans ?_), (h c).2.2.2.1.trans ((Cert.S5PathRefIdeal.Read.val_main_v60_eq (F := Ideal) _ _ _ _ _).trans ?_), (h c).2.2.2.2.1.trans ((Cert.S5PathRefIdeal.Read.val_main_v58_eq (F := Ideal) _ _ _ _).trans ?_), (h c).2.2.2.2.2⟩) (Cert.S5PathRefIdeal.Value.run (F := Ideal) m' g')
    all_goals obtain ⟨h0, h1, h2, h3, h4, h5⟩ := hagree c
    · exact fin6 m c (hpre c) h0 h1 h2 h3 h4 h5
    · exact fin7 m c (hpre c) h0 h1 h2 h3 h4 h5
    · exact fin8 m c h0 h1 h2 h3 h4 h5
    · exact fin9 m c h0 h1 h2 h3 h4 h5
    · exact fin10 m c h0 h1 h2 h3 h4 h5

end Cert.S5PathIdeal.Value

end

end
-- ==== Proof.PlBase.lean ====
module

public import proofs.«01_k».proof.Proof.Gen.PleIdeal.Value
public import Idealize.ShloMosaic.Lib.Pipeline.ValueKit
public import proofs.«01_k».proof.Proof.RmsBwd

@[expose] public section

set_option maxRecDepth 16384
noncomputable section
open Idealize.ShloMosaic Idealize.ShloMosaic.TcCoe Idealize.SL.Sem
open Idealize.ShloMosaic.Pipeline (Dat)
namespace Cert.PleIdeal.Value
open Cert.PleIdeal Cert.PleIdeal.Gen

/-- The row length and the small number added to the mean square. -/
abbrev len : EReal := Ideal.ofBits .f32 0x44800000#32
abbrev eps : EReal := Ideal.ofBits .f32 0x358637BD#32

/-- The reciprocal root mean square of a row. -/
def rs (X : Fin 1024 → EReal) : EReal := Ideal.rsqrt (Ideal.div (∑ k, X k * X k) len + eps)

/-- The gradient of a row through its normalisation, in the short form. -/
def rb (X D : Fin 1024 → EReal) (j : Fin 1024) : EReal :=
  rs X * (D j - X j * rs X * Ideal.div (∑ k, D k * (X k * rs X)) len)

/-- The short form is the long one. -/
theorem rb_eq (X D : Fin 1024 → EReal) (h : EReal) (j : Fin 1024) :
    h + rb X D j = h + D j * rs X
        + X j * Ideal.div ((∑ k, X k * D k) * (Ideal.ofBits .f32 0xBF000000#32 * Ideal.div (rs X) (Ideal.div (∑ k, X k * X k) len + eps))) len
        + Ideal.div ((∑ k, X k * D k) * (Ideal.ofBits .f32 0xBF000000#32 * Ideal.div (rs X) (Ideal.div (∑ k, X k * X k) len + eps))) len * X j :=
  Cert.Rms.bwd X D h (D j) (X j) _ rfl

/-- The four weights. -/
structure Wts where
  gp : Fin 1024 → EReal
  gf : Fin 1024 → EReal
  wg : Fin 1024 → Fin 1024 → EReal
  wp : Fin 256 → Fin 1024 → EReal

/-- The weights, read from their arrays. -/
def wts (x3 : FVec Ideal S1x1024 .f32) (x4 : FVec Ideal S256x1024 .bf16) (x5 : FVec Ideal S1024x1024 .bf16) (x6 : FVec Ideal S1x1024 .f32) : Wts where
  gp := fun k => x3 (ix2 0 k)
  gf := fun k => x6 (ix2 0 k)
  wg := fun k j => x5 (ix2 k j)
  wp := fun k j => x4 (ix2 k j)

/-- The gate of a row, the embedding's product and the row after both. -/
def gt (w : Wts) (H : Fin 1024 → EReal) (j : Fin 1024) : EReal := Ideal.logistic (∑ k, H k * rs H * w.gp k * w.wg k j)
def pe (w : Wts) (P : Fin 256 → EReal) (j : Fin 1024) : EReal := ∑ i, P i * w.wp i j
def h2 (w : Wts) (H : Fin 1024 → EReal) (P : Fin 256 → EReal) (j : Fin 1024) : EReal := H j + pe w P j * gt w H j

/-- The error of a row and its gradient. -/
def er (g X T : Fin 1024 → EReal) (j : Fin 1024) : EReal := X j * rs X * g j - T j
def dy (g X T : Fin 1024 → EReal) (j : Fin 1024) : EReal := er g X T j * Ideal.ofBits .f32 0x3A800000#32
def dh (g X T : Fin 1024 → EReal) (j : Fin 1024) : EReal := rb X (fun k => dy g X T k * g k) j

/-- The gradient of the gate's argument. -/
def dz (D p q : Fin 1024 → EReal) (j : Fin 1024) : EReal := D j * p j * q j * (1 - q j)

/-- The gradient of the gate's input. -/
def dn (W : Fin 1024 → Fin 1024 → EReal) (Z : Fin 1024 → EReal) (j : Fin 1024) : EReal := ∑ k, Z k * W j k

/-- The whole row's gradient at the gate's argument and at the row. -/
def DZ (w : Wts) (H : Fin 1024 → EReal) (P : Fin 256 → EReal) (T : Fin 1024 → EReal) (j : Fin 1024) : EReal :=
  dz (dh w.gf (h2 w H P) T) (pe w P) (gt w H) j
def GX (w : Wts) (H : Fin 1024 → EReal) (P : Fin 256 → EReal) (T : Fin 1024 → EReal) (j : Fin 1024) : EReal :=
  dh w.gf (h2 w H P) T j + rb H (fun k => dn w.wg (DZ w H P T) k * w.gp k) j

/-- What a row adds to the loss and to the gradients of the four weights. -/
def c8 (w : Wts) (H : Fin 1024 → EReal) (P : Fin 256 → EReal) (T : Fin 1024 → EReal) : EReal :=
  Ideal.ofBits .f32 0x3F000000#32 * Ideal.div (∑ k, er w.gf (h2 w H P) T k * er w.gf (h2 w H P) T k) len
def c9 (w : Wts) (H : Fin 1024 → EReal) (P : Fin 256 → EReal) (T : Fin 1024 → EReal) (j : Fin 1024) : EReal :=
  dy w.gf (h2 w H P) T j * (h2 w H P j * rs (h2 w H P))
def c10 (w : Wts) (H : Fin 1024 → EReal) (P : Fin 256 → EReal) (T : Fin 1024 → EReal) (j : Fin 1024) : EReal :=
  dn w.wg (DZ w H P T) j * (H j * rs H)
def c11 (w : Wts) (H : Fin 1024 → EReal) (P : Fin 256 → EReal) (T : Fin 1024 → EReal) (i : Fin 256) (j : Fin 1024) : EReal :=
  P i * (dh w.gf (h2 w H P) T j * gt w H j)
def c12 (w : Wts) (H : Fin 1024 → EReal) (P : Fin 256 → EReal) (T : Fin 1024 → EReal) (i j : Fin 1024) : EReal :=
  H i * rs H * w.gp i * DZ w H P T j

/-- Row `r` of an array. -/
abbrev row {R C : ℕ} {e : FTy} (A : FVec Ideal (⟨2, ![R, C]⟩ : Shape) e) (r : Fin R) : Fin C → EReal := fun k => A (ix2 r k)

/-- The gate, the embedding's product and the row after both, of a half block. -/
theorem gta (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay12 (F := Ideal) X0 g Wg) (ix2 r j) : EReal) = gt (wts g Wp Wg f) (row X0 r) j := by
  pointwise [k0_pay12, k0_pay11, k0_pay10, k0_pay9]
  rfl
theorem pea (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay13 (F := Ideal) X1 Wp) (ix2 r j) : EReal) = pe (wts g Wp Wg f) (row X1 r) j := by
  pointwise [k0_pay13]
  rfl
theorem h2a (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay14 (F := Ideal) X0 X1 g Wg Wp) (ix2 r j) : EReal) = h2 (wts g Wp Wg f) (row X0 r) (row X1 r) j := by
  pointwise [k0_pay14]
  rw [gta X0 X1 X2 g Wp Wg f, pea X0 X1 X2 g Wp Wg f]
  rfl

theorem msa (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (i : Fin 1) : ((k0_pay15 (F := Ideal) X0 X1 g Wg Wp) (ix2 r i) : EReal) = Ideal.div (∑ k, h2 (wts g Wp Wg f) (row X0 r) (row X1 r) k * h2 (wts g Wp Wg f) (row X0 r) (row X1 r) k) len := by
  pointwise [k0_pay15]
  simp only [h2a X0 X1 X2 g Wp Wg f]

theorem era (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay18 (F := Ideal) X2 (k0_pay14 (F := Ideal) X0 X1 g Wg Wp) f (k0_pay15 (F := Ideal) X0 X1 g Wg Wp) (Ideal.ofBits .f32 0x358637BD#32)) (ix2 r j) : EReal) = er (wts g Wp Wg f).gf (h2 (wts g Wp Wg f) (row X0 r) (row X1 r)) (row X2 r) j := by
  pointwise [k0_pay18, k0_pay17, k0_pay16]
  simp only [msa X0 X1 X2 g Wp Wg f, h2a X0 X1 X2 g Wp Wg f]
  rfl

theorem dha (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay21 (F := Ideal) X2 (k0_pay14 (F := Ideal) X0 X1 g Wg Wp) f (k0_pay15 (F := Ideal) X0 X1 g Wg Wp) (Ideal.ofBits .f32 0x358637BD#32) f) (ix2 r j) : EReal) = dh (wts g Wp Wg f).gf (h2 (wts g Wp Wg f) (row X0 r) (row X1 r)) (row X2 r) j := by
  pointwise [k0_pay21, k0_pay20, k0_pay18, k0_pay17, k0_pay16]
  simp only [msa X0 X1 X2 g Wp Wg f, h2a X0 X1 X2 g Wp Wg f]
  rfl

theorem dza (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay23 (F := Ideal) X2 (k0_pay12 (F := Ideal) X0 g Wg) (k0_pay13 (F := Ideal) X1 Wp) (k0_pay14 (F := Ideal) X0 X1 g Wg Wp) f (k0_pay15 (F := Ideal) X0 X1 g Wg Wp) (Ideal.ofBits .f32 0x358637BD#32) f) (ix2 r j) : EReal) = DZ (wts g Wp Wg f) (row X0 r) (row X1 r) (row X2 r) j := by
  pointwise [k0_pay23]
  rw [dha X0 X1 X2 g Wp Wg f, gta X0 X1 X2 g Wp Wg f, pea X0 X1 X2 g Wp Wg f]
  rfl

theorem dna (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay28 (F := Ideal) (k0_pay23 (F := Ideal) X2 (k0_pay12 (F := Ideal) X0 g Wg) (k0_pay13 (F := Ideal) X1 Wp) (k0_pay14 (F := Ideal) X0 X1 g Wg Wp) f (k0_pay15 (F := Ideal) X0 X1 g Wg Wp) (Ideal.ofBits .f32 0x358637BD#32) f) Wg) (ix2 r j) : EReal) = dn (wts g Wp Wg f).wg (DZ (wts g Wp Wg f) (row X0 r) (row X1 r) (row X2 r)) j := by
  pointwise [k0_pay28]
  simp only [dza X0 X1 X2 g Wp Wg f]
  rfl

theorem gxa (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay29 (F := Ideal) (k0_pay9 (F := Ideal) X0) (k0_pay10 (F := Ideal) X0) (k0_pay21 (F := Ideal) X2 (k0_pay14 (F := Ideal) X0 X1 g Wg Wp) f (k0_pay15 (F := Ideal) X0 X1 g Wg Wp) (Ideal.ofBits .f32 0x358637BD#32) f) (k0_pay23 (F := Ideal) X2 (k0_pay12 (F := Ideal) X0 g Wg) (k0_pay13 (F := Ideal) X1 Wp) (k0_pay14 (F := Ideal) X0 X1 g Wg Wp) f (k0_pay15 (F := Ideal) X0 X1 g Wg Wp) (Ideal.ofBits .f32 0x358637BD#32) f) Wg g) (ix2 r j) : EReal) = GX (wts g Wp Wg f) (row X0 r) (row X1 r) (row X2 r) j := by
  pointwise [k0_pay29, k0_pay10, k0_pay9]
  simp only [dna X0 X1 X2 g Wp Wg f, dha X0 X1 X2 g Wp Wg f]
  rfl

theorem s8a (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (i : Fin 1) (j : Fin 128) : ((k0_pay19 (F := Ideal) X2 (k0_pay14 (F := Ideal) X0 X1 g Wg Wp) f (k0_pay15 (F := Ideal) X0 X1 g Wg Wp) (Ideal.ofBits .f32 0x358637BD#32)) (ix2 i j) : EReal) = ∑ r : Fin 256, c8 (wts g Wp Wg f) (row X0 r) (row X1 r) (row X2 r) := by
  pointwise [k0_pay19]
  simp only [era X0 X1 X2 g Wp Wg f]
  rfl

theorem s9a (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (i : Fin 1) (j : Fin 1024) : ((k0_pay22 (F := Ideal) X2 (k0_pay14 (F := Ideal) X0 X1 g Wg Wp) f (k0_pay15 (F := Ideal) X0 X1 g Wg Wp) (Ideal.ofBits .f32 0x358637BD#32)) (ix2 i j) : EReal) = ∑ r : Fin 256, c9 (wts g Wp Wg f) (row X0 r) (row X1 r) (row X2 r) j := by
  pointwise [k0_pay22, k0_pay20, k0_pay17, k0_pay16]
  refine Finset.sum_congr rfl fun r _ => ?_
  simp only [era X0 X1 X2 g Wp Wg f, msa X0 X1 X2 g Wp Wg f, h2a X0 X1 X2 g Wp Wg f]
  rfl

theorem s10a (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (Z : FVec Ideal S1x1024 .f32) (i : Fin 1) (j : Fin 1024) : ((k0_pay32 (F := Ideal) (k0_pay10 (F := Ideal) X0) (k0_pay23 (F := Ideal) X2 (k0_pay12 (F := Ideal) X0 g Wg) (k0_pay13 (F := Ideal) X1 Wp) (k0_pay14 (F := Ideal) X0 X1 g Wg Wp) f (k0_pay15 (F := Ideal) X0 X1 g Wg Wp) (Ideal.ofBits .f32 0x358637BD#32) f) Wg Z) (ix2 i j) : EReal) = Z (ix2 i j) + ∑ r : Fin 256, c10 (wts g Wp Wg f) (row X0 r) (row X1 r) (row X2 r) j := by
  pointwise [k0_pay32, k0_pay10, k0_pay9]
  simp only [dna X0 X1 X2 g Wp Wg f]
  rfl

theorem s11a (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (i : Fin 256) (j : Fin 1024) : ((k0_pay24 (F := Ideal) X1 X2 (k0_pay12 (F := Ideal) X0 g Wg) (k0_pay14 (F := Ideal) X0 X1 g Wg Wp) f (k0_pay15 (F := Ideal) X0 X1 g Wg Wp) (Ideal.ofBits .f32 0x358637BD#32) f) (ix2 i j) : EReal) = ∑ r : Fin 256, c11 (wts g Wp Wg f) (row X0 r) (row X1 r) (row X2 r) i j := by
  pointwise [k0_pay24]
  simp only [dha X0 X1 X2 g Wp Wg f, gta X0 X1 X2 g Wp Wg f]
  rfl

theorem s12a (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (i : Fin 1024) (j : Fin 1024) : ((k0_pay27 (F := Ideal) (k0_pay25 (F := Ideal) (k0_pay11 (F := Ideal) X0 g)) (k0_pay26 (F := Ideal) X2 (k0_pay12 (F := Ideal) X0 g Wg) (k0_pay13 (F := Ideal) X1 Wp) (k0_pay14 (F := Ideal) X0 X1 g Wg Wp) f (k0_pay15 (F := Ideal) X0 X1 g Wg Wp) (Ideal.ofBits .f32 0x358637BD#32) f)) (ix2 i j) : EReal) = ∑ r : Fin 256, c12 (wts g Wp Wg f) (row X0 r) (row X1 r) (row X2 r) i j := by
  pointwise [k0_pay27, k0_pay26, k0_pay25, k0_pay11, k0_pay10, k0_pay9]
  simp only [dza X0 X1 X2 g Wp Wg f]
  rfl

/-- The gate, the embedding's product and the row after both, of a half block. -/
theorem gtb (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay38 (F := Ideal) X0 g Wg) (ix2 r j) : EReal) = gt (wts g Wp Wg f) (row X0 r) j := by
  pointwise [k0_pay38, k0_pay37, k0_pay36, k0_pay35]
  rfl
theorem peb (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay39 (F := Ideal) X1 Wp) (ix2 r j) : EReal) = pe (wts g Wp Wg f) (row X1 r) j := by
  pointwise [k0_pay39]
  rfl
theorem h2b (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay41 (F := Ideal) X0 (k0_pay40 (F := Ideal) X0 X1 g Wg Wp)) (ix2 r j) : EReal) = h2 (wts g Wp Wg f) (row X0 r) (row X1 r) j := by
  pointwise [k0_pay41, k0_pay40]
  rw [gtb X0 X1 X2 g Wp Wg f, peb X0 X1 X2 g Wp Wg f]
  rfl

theorem erb (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay44 (F := Ideal) X0 X2 (k0_pay40 (F := Ideal) X0 X1 g Wg Wp) f) (ix2 r j) : EReal) = er (wts g Wp Wg f).gf (h2 (wts g Wp Wg f) (row X0 r) (row X1 r)) (row X2 r) j := by
  pointwise [k0_pay44, k0_pay43, k0_pay42, k0_pay41, k0_pay40]
  simp only [gtb X0 X1 X2 g Wp Wg f, peb X0 X1 X2 g Wp Wg f]
  rfl

theorem dhb (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay47 (F := Ideal) X0 X2 (k0_pay40 (F := Ideal) X0 X1 g Wg Wp) f f) (ix2 r j) : EReal) = dh (wts g Wp Wg f).gf (h2 (wts g Wp Wg f) (row X0 r) (row X1 r)) (row X2 r) j := by
  pointwise [k0_pay47, k0_pay46, k0_pay44, k0_pay43, k0_pay42, k0_pay41, k0_pay40]
  simp only [gtb X0 X1 X2 g Wp Wg f, peb X0 X1 X2 g Wp Wg f]
  rfl

theorem dzb (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay50 (F := Ideal) (k0_pay38 (F := Ideal) X0 g Wg) (k0_pay39 (F := Ideal) X1 Wp) (k0_pay47 (F := Ideal) X0 X2 (k0_pay40 (F := Ideal) X0 X1 g Wg Wp) f f)) (ix2 r j) : EReal) = DZ (wts g Wp Wg f) (row X0 r) (row X1 r) (row X2 r) j := by
  pointwise [k0_pay50]
  rw [dhb X0 X1 X2 g Wp Wg f, gtb X0 X1 X2 g Wp Wg f, peb X0 X1 X2 g Wp Wg f]
  rfl

theorem dnb (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay53 (F := Ideal) (k0_pay38 (F := Ideal) X0 g Wg) (k0_pay39 (F := Ideal) X1 Wp) (k0_pay47 (F := Ideal) X0 X2 (k0_pay40 (F := Ideal) X0 X1 g Wg Wp) f f) Wg) (ix2 r j) : EReal) = dn (wts g Wp Wg f).wg (DZ (wts g Wp Wg f) (row X0 r) (row X1 r) (row X2 r)) j := by
  pointwise [k0_pay53]
  simp only [dzb X0 X1 X2 g Wp Wg f]
  rfl

theorem gxb (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (r : Fin 256) (j : Fin 1024) : ((k0_pay55 (F := Ideal) (k0_pay35 (F := Ideal) X0) (k0_pay36 (F := Ideal) X0) (k0_pay38 (F := Ideal) X0 g Wg) (k0_pay39 (F := Ideal) X1 Wp) (k0_pay47 (F := Ideal) X0 X2 (k0_pay40 (F := Ideal) X0 X1 g Wg Wp) f f) Wg g) (ix2 r j) : EReal) = GX (wts g Wp Wg f) (row X0 r) (row X1 r) (row X2 r) j := by
  pointwise [k0_pay55, k0_pay36, k0_pay35]
  simp only [dnb X0 X1 X2 g Wp Wg f, dhb X0 X1 X2 g Wp Wg f]
  rfl

theorem s8b (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (i : Fin 1) (j : Fin 128) : ((k0_pay45 (F := Ideal) X0 X2 (k0_pay40 (F := Ideal) X0 X1 g Wg Wp) f) (ix2 i j) : EReal) = ∑ r : Fin 256, c8 (wts g Wp Wg f) (row X0 r) (row X1 r) (row X2 r) := by
  pointwise [k0_pay45]
  simp only [erb X0 X1 X2 g Wp Wg f]
  rfl

theorem s9b (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (i : Fin 1) (j : Fin 1024) : ((k0_pay48 (F := Ideal) X0 X2 (k0_pay40 (F := Ideal) X0 X1 g Wg Wp) f) (ix2 i j) : EReal) = ∑ r : Fin 256, c9 (wts g Wp Wg f) (row X0 r) (row X1 r) (row X2 r) j := by
  pointwise [k0_pay48, k0_pay46, k0_pay43, k0_pay42]
  refine Finset.sum_congr rfl fun r _ => ?_
  simp only [erb X0 X1 X2 g Wp Wg f, h2b X0 X1 X2 g Wp Wg f]
  rfl

theorem s10b (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (Z : FVec Ideal S1x1024 .f32) (i : Fin 1) (j : Fin 1024) : ((k0_pay1 (F := Ideal) (k0_pay54 (F := Ideal) (k0_pay36 (F := Ideal) X0) (k0_pay38 (F := Ideal) X0 g Wg) (k0_pay39 (F := Ideal) X1 Wp) (k0_pay47 (F := Ideal) X0 X2 (k0_pay40 (F := Ideal) X0 X1 g Wg Wp) f f) Wg) Z) (ix2 i j) : EReal) = Z (ix2 i j) + ∑ r : Fin 256, c10 (wts g Wp Wg f) (row X0 r) (row X1 r) (row X2 r) j := by
  pointwise [k0_pay1, k0_pay54, k0_pay36, k0_pay35]
  simp only [dnb X0 X1 X2 g Wp Wg f]
  rfl

theorem s11b (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (i : Fin 256) (j : Fin 1024) : ((k0_pay51 (F := Ideal) X1 (k0_pay49 (F := Ideal) X0 X2 (k0_pay38 (F := Ideal) X0 g Wg) (k0_pay40 (F := Ideal) X0 X1 g Wg Wp) f f)) (ix2 i j) : EReal) = ∑ r : Fin 256, c11 (wts g Wp Wg f) (row X0 r) (row X1 r) (row X2 r) i j := by
  pointwise [k0_pay51, k0_pay49]
  simp only [dhb X0 X1 X2 g Wp Wg f, gtb X0 X1 X2 g Wp Wg f]
  rfl

theorem s12b (X0 : FVec Ideal S256x1024 .f32) (X1 : FVec Ideal S256x256 .f32) (X2 : FVec Ideal S256x1024 .f32) (g : FVec Ideal S1x1024 .f32) (Wp : FVec Ideal S256x1024 .bf16) (Wg : FVec Ideal S1024x1024 .bf16) (f : FVec Ideal S1x1024 .f32) (i : Fin 1024) (j : Fin 1024) : ((k0_pay52 (F := Ideal) (k0_pay37 (F := Ideal) X0 g) (k0_pay38 (F := Ideal) X0 g Wg) (k0_pay39 (F := Ideal) X1 Wp) (k0_pay47 (F := Ideal) X0 X2 (k0_pay40 (F := Ideal) X0 X1 g Wg Wp) f f)) (ix2 i j) : EReal) = ∑ r : Fin 256, c12 (wts g Wp Wg f) (row X0 r) (row X1 r) (row X2 r) i j := by
  pointwise [k0_pay52, k0_pay37, k0_pay36, k0_pay35]
  simp only [dzb X0 X1 X2 g Wp Wg f]
  rfl

end Cert.PleIdeal.Value

end

end
-- ==== Proof.PlRef.lean ====
module

public import proofs.«01_k».proof.Proof.PlBase
public import proofs.«01_k».proof.Proof.Gen.PleRefIdeal.Read

@[expose] public section

set_option maxRecDepth 16384
noncomputable section
open Idealize.ShloMosaic Idealize.ShloMosaic.TcCoe Idealize.SL.Sem
open Idealize.ShloMosaic.Pipeline (Dat)
namespace Cert.PleIdeal.Value
open Cert.PleIdeal Cert.PleIdeal.Gen
open Cert.PleRefIdeal.Read

theorem log_eq (x : EReal) : Ideal.div 1 (1 + Ideal.exp (-x)) = Ideal.logistic x := rfl

/-- The long form alone. -/
theorem rb0 (X D : Fin 1024 → EReal) (j : Fin 1024) :
    rb X D j = D j * rs X
        + X j * Ideal.div ((∑ k, X k * D k) * (Ideal.ofBits .f32 0xBF000000#32 * Ideal.div (rs X) (Ideal.div (∑ k, X k * X k) len + eps))) len
        + Ideal.div ((∑ k, X k * D k) * (Ideal.ofBits .f32 0xBF000000#32 * Ideal.div (rs X) (Ideal.div (∑ k, X k * X k) len + eps))) len * X j := by
  have h := rb_eq X D 0 j
  rw [zero_add (M := EReal) (rb X D j), zero_add (M := EReal) (D j * rs X)] at h
  exact h

/-- The gradient of the mean of the squared errors, with its factors collected. -/
theorem dy_c (e : EReal) : Ideal.div (Ideal.ofBits .f32 0x3F000000#32) (Ideal.ofBits .f32 0x44800000#32) * (Ideal.ofBits .f32 0x40000000#32 * e)
    = e * Ideal.ofBits .f32 0x3A800000#32 := by
  have h1 : Ideal.ofBits .f32 0x3F000000#32 = (((1 / 2 : ℝ)) : EReal) := by simp [Ideal.ofBits, Ideal.ieee]; rw [← EReal.coe_mul]; norm_num
  have h2 : Ideal.ofBits .f32 0x40000000#32 = ((2 : ℝ) : EReal) := by simp [Ideal.ofBits, Ideal.ieee]; rw [← EReal.coe_mul]; norm_num
  have h3 : Ideal.ofBits .f32 0x3A800000#32 = ((1 / 1024 : ℝ) : EReal) := by simp [Ideal.ofBits, Ideal.ieee]; rw [← EReal.coe_mul]; norm_num
  rw [h1, h2, h3, Cert.Rms.len_c, Cert.Rms.div_coe' (by norm_num), ← mul_assoc (G := EReal), ← EReal.coe_mul, ← EReal.coe_mul, mul_comm (G := EReal) _ e]
  congr 2
  norm_num

theorem r24 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (R : Fin 8192) (j : Fin 1024) : (val_main_v24 (F := Ideal) x0 x3 x5 (ix2 R j) : EReal) = gt (wts x3 x4 x5 x6) (row x0 R) j := by
  pointwise [val_main_v24, val_main_v23, val_main_v22, val_main_v21, val_main_v20, val_main_v19, val_main_v18, val_main_v17, val_main_v16, val_main_v15, val_main_v14, val_main_cst_3, val_main_cst_4, val_main_v10, val_main_v9, val_main_v8, val_main_v7, val_main_v6, val_main_v5, val_main_v4, val_main_v3, val_main_cst, val_main_cst_0, val_main_cst_1, val_main_v1]
  simp only [log_eq]
  rfl

theorem r2 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (R : Fin 8192) (j : Fin 1024) : (val_main_v2 (F := Ideal) x1 x4 (ix2 R j) : EReal) = pe (wts x3 x4 x5 x6) (row x1 R) j := by
  pointwise [val_main_v2, val_main_v0]
  rfl

theorem r29 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (R : Fin 8192) (j : Fin 1024) : (val_main_v29 (F := Ideal) x0 x1 x3 x4 x5 (ix2 R j) : EReal) = h2 (wts x3 x4 x5 x6) (row x0 R) (row x1 R) j := by
  pointwise [val_main_v29, val_main_v28]
  rw [r2 x0 x1 x2 x3 x4 x5 x6, r24 x0 x1 x2 x3 x4 x5 x6]
  rfl

theorem r45 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (R : Fin 8192) (j : Fin 1024) : (val_main_v45 (F := Ideal) x0 x1 x2 x3 x4 x5 x6 (ix2 R j) : EReal) = er (wts x3 x4 x5 x6).gf (h2 (wts x3 x4 x5 x6) (row x0 R) (row x1 R)) (row x2 R) j := by
  pointwise [val_main_v45, val_main_v44, val_main_v43, val_main_v42, val_main_v41, val_main_v37, val_main_v36, val_main_v35, val_main_v34, val_main_v33, val_main_v32, val_main_v31, val_main_v30, val_main_cst_6, val_main_cst_7, val_main_cst_8]
  simp only [r29 x0 x1 x2 x3 x4 x5 x6]
  rfl

theorem r59 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (R : Fin 8192) (j : Fin 1024) : (val_main_v59 (F := Ideal) x0 x1 x2 x3 x4 x5 x6 (ix2 R j) : EReal) = dy (wts x3 x4 x5 x6).gf (h2 (wts x3 x4 x5 x6) (row x0 R) (row x1 R)) (row x2 R) j := by
  pointwise [val_main_v59, val_main_v58, val_main_v57, val_main_v56, val_main_v55, val_main_v54, val_main_cst_15, val_main_cst_16, val_main_cst_17, val_main_v48, val_main_v47, val_main_cst_10]
  rw [r45 x0 x1 x2 x3 x4 x5 x6]
  exact dy_c _

theorem r78 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (R : Fin 8192) (j : Fin 1024) : (val_main_v78 (F := Ideal) x0 x1 x2 x3 x4 x5 x6 (ix2 R j) : EReal) = dh (wts x3 x4 x5 x6).gf (h2 (wts x3 x4 x5 x6) (row x0 R) (row x1 R)) (row x2 R) j := by
  pointwise [val_main_v78, val_main_v77, val_main_v76, val_main_v75, val_main_v74, val_main_v73, val_main_v72, val_main_v71, val_main_v70, val_main_v69, val_main_v68, val_main_v67, val_main_v66, val_main_v65, val_main_v64, val_main_v63, val_main_cst_19, val_main_cst_20, val_main_cst_21, val_main_v40, val_main_v39, val_main_v38, val_main_v37, val_main_v36, val_main_v35, val_main_v34, val_main_v33, val_main_v32, val_main_v31, val_main_v30, val_main_cst_6, val_main_cst_7, val_main_cst_8, val_main_cst_9]
  simp only [r29 x0 x1 x2 x3 x4 x5 x6, r59 x0 x1 x2 x3 x4 x5 x6, Finset.univ_unique, Finset.sum_singleton]
  exact (rb0 (h2 (wts x3 x4 x5 x6) (row x0 R) (row x1 R)) (fun k => dy (wts x3 x4 x5 x6).gf (h2 (wts x3 x4 x5 x6) (row x0 R) (row x1 R)) (row x2 R) k * (wts x3 x4 x5 x6).gf k) j).symm

theorem r81 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (R : Fin 8192) (j : Fin 1024) : (val_main_v81 (F := Ideal) x0 x1 x2 x3 x4 x5 x6 (ix2 R j) : EReal) = DZ (wts x3 x4 x5 x6) (row x0 R) (row x1 R) (row x2 R) j := by
  pointwise [val_main_v79, val_main_v81, val_main_v27, val_main_v26, val_main_v25, val_main_cst_5]
  rw [r2 x0 x1 x2 x3 x4 x5 x6, r24 x0 x1 x2 x3 x4 x5 x6, r78 x0 x1 x2 x3 x4 x5 x6]
  unfold DZ dz
  rw [mul_comm (G := EReal) (pe _ _ _), mul_assoc (G := EReal) _ (gt _ _ _)]

theorem r84 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (R : Fin 8192) (j : Fin 1024) : (val_main_v84 (F := Ideal) x0 x1 x2 x3 x4 x5 x6 (ix2 R j) : EReal) = dn (wts x3 x4 x5 x6).wg (DZ (wts x3 x4 x5 x6) (row x0 R) (row x1 R) (row x2 R)) j := by
  pointwise [val_main_v84, val_main_v1]
  simp only [r81 x0 x1 x2 x3 x4 x5 x6]
  rfl

theorem r104 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (R : Fin 8192) (j : Fin 1024) : (val_main_v104 (F := Ideal) x0 x1 x2 x3 x4 x5 x6 (ix2 R j) : EReal) = GX (wts x3 x4 x5 x6) (row x0 R) (row x1 R) (row x2 R) j := by
  pointwise [val_main_v104, val_main_v103, val_main_v102, val_main_v101, val_main_v100, val_main_v99, val_main_v98, val_main_v97, val_main_v96, val_main_v95, val_main_v94, val_main_v93, val_main_v92, val_main_v91, val_main_v90, val_main_v89, val_main_v88, val_main_cst_23, val_main_cst_24, val_main_cst_25, val_main_v13, val_main_v12, val_main_v11, val_main_v10, val_main_v9, val_main_v8, val_main_v7, val_main_v6, val_main_v5, val_main_v4, val_main_v3, val_main_cst, val_main_cst_0, val_main_cst_1, val_main_cst_2]
  simp only [r78 x0 x1 x2 x3 x4 x5 x6, r84 x0 x1 x2 x3 x4 x5 x6, Finset.univ_unique, Finset.sum_singleton]
  exact (rb_eq (row x0 R) (fun k => dn (wts x3 x4 x5 x6).wg (DZ (wts x3 x4 x5 x6) (row x0 R) (row x1 R) (row x2 R)) k * (wts x3 x4 x5 x6).gp k) _ j).symm

theorem r62 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (i : Fin 1) (j : Fin 1024) : (val_main_v62 (F := Ideal) x0 x1 x2 x3 x4 x5 x6 (ix2 i j) : EReal) = ∑ R : Fin 8192, c9 (wts x3 x4 x5 x6) (row x0 R) (row x1 R) (row x2 R) j := by
  pointwise [val_main_v62, val_main_v61, val_main_v60, val_main_cst_18, val_main_v42, val_main_v41, val_main_v37, val_main_v36, val_main_v35, val_main_v34, val_main_v33, val_main_v32, val_main_v31, val_main_v30, val_main_cst_6, val_main_cst_7, val_main_cst_8]
  refine Finset.sum_congr rfl fun R _ => ?_
  simp only [r29 x0 x1 x2 x3 x4 x5 x6, r59 x0 x1 x2 x3 x4 x5 x6]
  exact mul_comm (G := EReal) _ _

theorem r87 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (i : Fin 1) (j : Fin 1024) : (val_main_v87 (F := Ideal) x0 x1 x2 x3 x4 x5 x6 (ix2 i j) : EReal) = ∑ R : Fin 8192, c10 (wts x3 x4 x5 x6) (row x0 R) (row x1 R) (row x2 R) j := by
  pointwise [val_main_v87, val_main_v86, val_main_v85, val_main_cst_22, val_main_v15, val_main_v14, val_main_v10, val_main_v9, val_main_v8, val_main_v7, val_main_v6, val_main_v5, val_main_v4, val_main_v3, val_main_cst, val_main_cst_0, val_main_cst_1]
  refine Finset.sum_congr rfl fun R _ => ?_
  simp only [r84 x0 x1 x2 x3 x4 x5 x6]
  exact mul_comm (G := EReal) _ _

theorem r106 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (i : Fin 256) (j : Fin 1024) : (val_main_v106 (F := Ideal) x0 x1 x2 x3 x4 x5 x6 (ix2 i j) : EReal) = ∑ R : Fin 8192, c11 (wts x3 x4 x5 x6) (row x0 R) (row x1 R) (row x2 R) i j := by
  pointwise [val_main_v106, val_main_v105, val_main_v80]
  refine Finset.sum_congr rfl fun R _ => ?_
  simp only [r78 x0 x1 x2 x3 x4 x5 x6, r24 x0 x1 x2 x3 x4 x5 x6]
  exact mul_comm (G := EReal) _ _

theorem r83 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (i : Fin 1024) (j : Fin 1024) : (val_main_v83 (F := Ideal) x0 x1 x2 x3 x4 x5 x6 (ix2 i j) : EReal) = ∑ R : Fin 8192, c12 (wts x3 x4 x5 x6) (row x0 R) (row x1 R) (row x2 R) i j := by
  pointwise [val_main_v83, val_main_v82, val_main_v17, val_main_v16, val_main_v15, val_main_v14, val_main_v10, val_main_v9, val_main_v8, val_main_v7, val_main_v6, val_main_v5, val_main_v4, val_main_v3, val_main_cst, val_main_cst_0, val_main_cst_1]
  refine Finset.sum_congr rfl fun R _ => ?_
  simp only [r81 x0 x1 x2 x3 x4 x5 x6]
  exact mul_comm (G := EReal) _ _

theorem r107 (x0 : FVec Ideal S8192x1024 .f32) (x1 : FVec Ideal S8192x256 .f32) (x2 : FVec Ideal S8192x1024 .f32) (x3 : FVec Ideal S1x1024 .f32) (x4 : FVec Ideal S256x1024 .bf16) (x5 : FVec Ideal S1024x1024 .bf16) (x6 : FVec Ideal S1x1024 .f32) (i : Fin 1) (j : Fin 128) : (val_main_v107 (F := Ideal) x0 x1 x2 x3 x4 x5 x6 (ix2 i j) : EReal) = ∑ R : Fin 8192, c8 (wts x3 x4 x5 x6) (row x0 R) (row x1 R) (row x2 R) := by
  pointwise [val_main_v107, val_main_v53, val_main_v52, val_main_v51, val_main_v50, val_main_v49, val_main_cst_11, val_main_cst_12, val_main_cst_13, val_main_cst_14, val_main_v46]
  simp only [r45 x0 x1 x2 x3 x4 x5 x6]
  obtain ⟨h, h0, e⟩ : ∃ h : ℝ, 0 ≤ h ∧ Ideal.ofBits .f32 0x3F000000#32 = (h : EReal) :=
    ⟨1 / 2, by norm_num, by simp [Ideal.ofBits, Ideal.ieee]; rw [← EReal.coe_mul]; norm_num⟩
  unfold c8
  rw [e]
  exact Cert.Rms.mul_sum_coe _ h h0 _

end Cert.PleIdeal.Value

end

end
-- ==== Proof.PlOut.lean ====
module

public import proofs.«01_k».proof.Proof.PlRef

@[expose] public section

set_option maxRecDepth 16384
noncomputable section
open Idealize.ShloMosaic Idealize.ShloMosaic.TcCoe Idealize.SL.Sem
open Idealize.ShloMosaic.Pipeline (Dat)
namespace Cert.PleIdeal.Value
open Cert.PleIdeal Cert.PleIdeal.Gen
open Cert.PleRefIdeal.Read
variable (m : (ℓ : Loc nD τ sig) → Buf (Elt Ideal) ℓ)

/-- Where each window's block begins. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

/-- A point of a grid's block of rows, as a row of the whole. -/
abbrev rowOf (t : Fin cfg0.N) (r : Fin 512) : Fin 8192 := ⟨512 * t.val + r.val, by have := t.isLt; have h : cfg0.N = 16 := N_0; have := r.isLt; omega⟩

/-- The rows' half blocks, and the weights. -/
abbrev wt (c : Dev nD) : Wts := wts (m ((c : Thread nD τ).loc main_arg3)) (m ((c : Thread nD τ).loc main_arg4)) (m ((c : Thread nD τ).loc main_arg5)) (m ((c : Thread nD τ).loc main_arg6))
abbrev r0 (c : Dev nD) (R : Fin 8192) : Fin 1024 → EReal := fun k => m ((c : Thread nD τ).loc main_arg0) (ix2 R k)
abbrev r1 (c : Dev nD) (R : Fin 8192) : Fin 256 → EReal := fun k => m ((c : Thread nD τ).loc main_arg1) (ix2 R k)
abbrev r2_ (c : Dev nD) (R : Fin 8192) : Fin 1024 → EReal := fun k => m ((c : Thread nD τ).loc main_arg2) (ix2 R k)

abbrev I0a (c : Dev nD) (t : Fin cfg0.N) : FVec Ideal S256x1024 .f32 := View.ld (Val := Elt Ideal) (iblk m c 0 t) (Rect.unit ![0, 0] ![256, 1024] inb_S512x1024_S256x1024_0_0)

theorem ina0 (c : Dev nD) (t : Fin cfg0.N) (r : Fin 256) : row (I0a m c t) r
    = r0 m c (rowOf t ⟨r.val, by have := r.isLt; omega⟩) := by
  funext k
  show (View.ld (Val := Elt Ideal) (iblk m c 0 t) (Rect.unit ![0, 0] ![256, 1024] inb_S512x1024_S256x1024_0_0) (ix2 r k) : EReal)
    = m ((c : Thread nD τ).loc main_arg0) (ix2 (rowOf t ⟨r.val, by have := r.isLt; omega⟩) k)
  blk_point [iblk, V, idx t]

abbrev I1a (c : Dev nD) (t : Fin cfg0.N) : FVec Ideal S256x256 .f32 := View.ld (Val := Elt Ideal) (iblk m c 1 t) (Rect.unit ![0, 0] ![256, 256] inb_S512x256_S256x256_0_0)

theorem ina1 (c : Dev nD) (t : Fin cfg0.N) (r : Fin 256) : row (I1a m c t) r
    = r1 m c (rowOf t ⟨r.val, by have := r.isLt; omega⟩) := by
  funext k
  show (View.ld (Val := Elt Ideal) (iblk m c 1 t) (Rect.unit ![0, 0] ![256, 256] inb_S512x256_S256x256_0_0) (ix2 r k) : EReal)
    = m ((c : Thread nD τ).loc main_arg1) (ix2 (rowOf t ⟨r.val, by have := r.isLt; omega⟩) k)
  blk_point [iblk, V, idx t]

abbrev I2a (c : Dev nD) (t : Fin cfg0.N) : FVec Ideal S256x1024 .f32 := View.ld (Val := Elt Ideal) (iblk m c 2 t) (Rect.unit ![0, 0] ![256, 1024] inb_S512x1024_S256x1024_0_0)

theorem ina2 (c : Dev nD) (t : Fin cfg0.N) (r : Fin 256) : row (I2a m c t) r
    = r2_ m c (rowOf t ⟨r.val, by have := r.isLt; omega⟩) := by
  funext k
  show (View.ld (Val := Elt Ideal) (iblk m c 2 t) (Rect.unit ![0, 0] ![256, 1024] inb_S512x1024_S256x1024_0_0) (ix2 r k) : EReal)
    = m ((c : Thread nD τ).loc main_arg2) (ix2 (rowOf t ⟨r.val, by have := r.isLt; omega⟩) k)
  blk_point [iblk, V, idx t]

abbrev I0b (c : Dev nD) (t : Fin cfg0.N) : FVec Ideal S256x1024 .f32 := View.ld (Val := Elt Ideal) (iblk m c 0 t) (Rect.unit ![256, 0] ![256, 1024] inb_S512x1024_S256x1024_256_0)

theorem inb0 (c : Dev nD) (t : Fin cfg0.N) (r : Fin 256) : row (I0b m c t) r
    = r0 m c (rowOf t ⟨256 + r.val, by have := r.isLt; omega⟩) := by
  funext k
  show (View.ld (Val := Elt Ideal) (iblk m c 0 t) (Rect.unit ![256, 0] ![256, 1024] inb_S512x1024_S256x1024_256_0) (ix2 r k) : EReal)
    = m ((c : Thread nD τ).loc main_arg0) (ix2 (rowOf t ⟨256 + r.val, by have := r.isLt; omega⟩) k)
  blk_point [iblk, V, idx t]

abbrev I1b (c : Dev nD) (t : Fin cfg0.N) : FVec Ideal S256x256 .f32 := View.ld (Val := Elt Ideal) (iblk m c 1 t) (Rect.unit ![256, 0] ![256, 256] inb_S512x256_S256x256_256_0)

theorem inb1 (c : Dev nD) (t : Fin cfg0.N) (r : Fin 256) : row (I1b m c t) r
    = r1 m c (rowOf t ⟨256 + r.val, by have := r.isLt; omega⟩) := by
  funext k
  show (View.ld (Val := Elt Ideal) (iblk m c 1 t) (Rect.unit ![256, 0] ![256, 256] inb_S512x256_S256x256_256_0) (ix2 r k) : EReal)
    = m ((c : Thread nD τ).loc main_arg1) (ix2 (rowOf t ⟨256 + r.val, by have := r.isLt; omega⟩) k)
  blk_point [iblk, V, idx t]

abbrev I2b (c : Dev nD) (t : Fin cfg0.N) : FVec Ideal S256x1024 .f32 := View.ld (Val := Elt Ideal) (iblk m c 2 t) (Rect.unit ![256, 0] ![256, 1024] inb_S512x1024_S256x1024_256_0)

theorem inb2 (c : Dev nD) (t : Fin cfg0.N) (r : Fin 256) : row (I2b m c t) r
    = r2_ m c (rowOf t ⟨256 + r.val, by have := r.isLt; omega⟩) := by
  funext k
  show (View.ld (Val := Elt Ideal) (iblk m c 2 t) (Rect.unit ![256, 0] ![256, 1024] inb_S512x1024_S256x1024_256_0) (ix2 r k) : EReal)
    = m ((c : Thread nD τ).loc main_arg2) (ix2 (rowOf t ⟨256 + r.val, by have := r.isLt; omega⟩) k)
  blk_point [iblk, V, idx t]

theorem const3 (c : Dev nD) (t : Fin cfg0.N) : iblk m c 3 t = m ((c : Thread nD τ).loc main_arg3) := by
  funext y
  obtain ⟨i, k, rfl⟩ : ∃ i k, y = ix2 i k := ⟨_, _, ValueIdx.eq_ix2 y⟩
  blk_point [iblk, V, idx t]

theorem const4 (c : Dev nD) (t : Fin cfg0.N) : iblk m c 4 t = m ((c : Thread nD τ).loc main_arg4) := by
  funext y
  obtain ⟨i, k, rfl⟩ : ∃ i k, y = ix2 i k := ⟨_, _, ValueIdx.eq_ix2 y⟩
  blk_point [iblk, V, idx t]

theorem const5 (c : Dev nD) (t : Fin cfg0.N) : iblk m c 5 t = m ((c : Thread nD τ).loc main_arg5) := by
  funext y
  obtain ⟨i, k, rfl⟩ : ∃ i k, y = ix2 i k := ⟨_, _, ValueIdx.eq_ix2 y⟩
  blk_point [iblk, V, idx t]

theorem const6 (c : Dev nD) (t : Fin cfg0.N) : iblk m c 6 t = m ((c : Thread nD τ).loc main_arg6) := by
  funext y
  obtain ⟨i, k, rfl⟩ : ∃ i k, y = ix2 i k := ⟨_, _, ValueIdx.eq_ix2 y⟩
  blk_point [iblk, V, idx t]

/-- What a point adds to the loss. -/
theorem acc8 (c : Dev nD) (t : Fin cfg0.N) (Z : FVec Ideal S1x128 .f32) (i : Fin 1) (j : Fin 128) :
    ((k0_pay56 (F := Ideal) (k0_pay45 (F := Ideal) (I0b m c t) (I2b m c t) (k0_pay40 (F := Ideal) (I0b m c t) (I1b m c t) (iblk m c 3 t) (iblk m c 5 t) (iblk m c 4 t)) (iblk m c 6 t)) (k0_pay30 (k0_pay19 (F := Ideal) (I2a m c t) (k0_pay14 (F := Ideal) (I0a m c t) (I1a m c t) (iblk m c 3 t) (iblk m c 5 t) (iblk m c 4 t)) (iblk m c 6 t) (k0_pay15 (F := Ideal) (I0a m c t) (I1a m c t) (iblk m c 3 t) (iblk m c 5 t) (iblk m c 4 t)) (Ideal.ofBits .f32 0x358637BD#32)) Z)) (ix2 i j) : EReal) = Z (ix2 i j) + ∑ k : Fin 512, c8 (wt m c) (r0 m c (rowOf t k)) (r1 m c (rowOf t k)) (r2_ m c (rowOf t k))  := by
  rw [show ∑ k : Fin 512, c8 (wt m c) (r0 m c (rowOf t k)) (r1 m c (rowOf t k)) (r2_ m c (rowOf t k))  = ∑ k : Fin 256, c8 (wt m c) (r0 m c (rowOf t ⟨k.val, by omega⟩)) (r1 m c (rowOf t ⟨k.val, by omega⟩)) (r2_ m c (rowOf t ⟨k.val, by omega⟩))  + ∑ k : Fin 256, c8 (wt m c) (r0 m c (rowOf t ⟨256 + k.val, by omega⟩)) (r1 m c (rowOf t ⟨256 + k.val, by omega⟩)) (r2_ m c (rowOf t ⟨256 + k.val, by omega⟩))  from
    Fin.sum_univ_add (a := 256) (b := 256) fun k : Fin 512 => c8 (wt m c) (r0 m c (rowOf t k)) (r1 m c (rowOf t k)) (r2_ m c (rowOf t k)) ]
  pointwise [k0_pay30, k0_pay56]
  rw [s8b (I0b m c t) (I1b m c t) (I2b m c t) (iblk m c 3 t) (iblk m c 4 t) (iblk m c 5 t) (iblk m c 6 t), s8a (I0a m c t) (I1a m c t) (I2a m c t) (iblk m c 3 t) (iblk m c 4 t) (iblk m c 5 t) (iblk m c 6 t)]
  simp only [ina0, ina1, ina2, inb0, inb1, inb2, const3, const4, const5, const6, add_assoc (G := EReal)]

/-- Window 8 after the run is the loss. -/
theorem final8 (c : Dev nD) : (dats m 0 c).arrAt 8 (cfgs 0).N = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0)
    (fun p j => ∑ k : Fin 512, c8 (wt m c) (r0 m c (rowOf p k)) (r1 m c (rowOf p k)) (r2_ m c (rowOf p k)) )
    (fun t h j => by
      rw [outsAt0_A m c t h]; frame_out
      obtain ⟨i, k, rfl⟩ : ∃ i k, j = ix2 i k := ⟨_, _, ValueIdx.eq_ix2 j⟩
      refine (acc8 m c t (k0_pay4 (F := Ideal)) i k).trans ?_
      pointwise [k0_pay4])
    (fun t h j => by
      rw [outsAt0_B m c t h]; frame_out
      obtain ⟨i, k, rfl⟩ : ∃ i k, j = ix2 i k := ⟨_, _, ValueIdx.eq_ix2 j⟩
      exact acc8 m c t _ i k)
    (le_of_eq N_0) t0_15 rfl j, zero_add]
  obtain ⟨i, k, rfl⟩ : ∃ i k, j = ix2 i k := ⟨_, _, ValueIdx.eq_ix2 j⟩
  refine Eq.trans ?_ (r107 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k).symm
  exact (Fin.sum_mul_add_congr fun t l hl => congrArg (fun R => c8 (wt m c) (r0 m c R) (r1 m c R) (r2_ m c R) ) (Fin.ext (by show 512 * t.val + l.val = t.val * 512 + l.val; omega) : rowOf t l = ⟨t.val * 512 + l.val, hl⟩))

/-- What a point adds to the final scale's gradient. -/
theorem acc9 (c : Dev nD) (t : Fin cfg0.N) (Z : FVec Ideal S1x1024 .f32) (i : Fin 1) (j : Fin 1024) :
    ((k0_pay57 (F := Ideal) (k0_pay48 (F := Ideal) (I0b m c t) (I2b m c t) (k0_pay40 (F := Ideal) (I0b m c t) (I1b m c t) (iblk m c 3 t) (iblk m c 5 t) (iblk m c 4 t)) (iblk m c 6 t)) (k0_pay31 (k0_pay22 (F := Ideal) (I2a m c t) (k0_pay14 (F := Ideal) (I0a m c t) (I1a m c t) (iblk m c 3 t) (iblk m c 5 t) (iblk m c 4 t)) (iblk m c 6 t) (k0_pay15 (F := Ideal) (I0a m c t) (I1a m c t) (iblk m c 3 t) (iblk m c 5 t) (iblk m c 4 t)) (Ideal.ofBits .f32 0x358637BD#32)) Z)) (ix2 i j) : EReal) = Z (ix2 i j) + ∑ k : Fin 512, c9 (wt m c) (r0 m c (rowOf t k)) (r1 m c (rowOf t k)) (r2_ m c (rowOf t k)) j := by
  rw [show ∑ k : Fin 512, c9 (wt m c) (r0 m c (rowOf t k)) (r1 m c (rowOf t k)) (r2_ m c (rowOf t k)) j = ∑ k : Fin 256, c9 (wt m c) (r0 m c (rowOf t ⟨k.val, by omega⟩)) (r1 m c (rowOf t ⟨k.val, by omega⟩)) (r2_ m c (rowOf t ⟨k.val, by omega⟩)) j + ∑ k : Fin 256, c9 (wt m c) (r0 m c (rowOf t ⟨256 + k.val, by omega⟩)) (r1 m c (rowOf t ⟨256 + k.val, by omega⟩)) (r2_ m c (rowOf t ⟨256 + k.val, by omega⟩)) j from
    Fin.sum_univ_add (a := 256) (b := 256) fun k : Fin 512 => c9 (wt m c) (r0 m c (rowOf t k)) (r1 m c (rowOf t k)) (r2_ m c (rowOf t k)) j]
  pointwise [k0_pay31, k0_pay57]
  rw [s9b (I0b m c t) (I1b m c t) (I2b m c t) (iblk m c 3 t) (iblk m c 4 t) (iblk m c 5 t) (iblk m c 6 t), s9a (I0a m c t) (I1a m c t) (I2a m c t) (iblk m c 3 t) (iblk m c 4 t) (iblk m c 5 t) (iblk m c 6 t)]
  simp only [ina0, ina1, ina2, inb0, inb1, inb2, const3, const4, const5, const6, add_assoc (G := EReal)]

/-- Window 9 after the run is the final scale's gradient. -/
theorem final9 (c : Dev nD) : (dats m 0 c).arrAt 9 (cfgs 0).N = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0)
    (fun p j => ∑ k : Fin 512, c9 (wt m c) (r0 m c (rowOf p k)) (r1 m c (rowOf p k)) (r2_ m c (rowOf p k)) (j 1))
    (fun t h j => by
      rw [outsAt0_A m c t h]; frame_out
      obtain ⟨i, k, rfl⟩ : ∃ i k, j = ix2 i k := ⟨_, _, ValueIdx.eq_ix2 j⟩
      refine (acc9 m c t (k0_pay5 (F := Ideal)) i k).trans ?_
      pointwise [k0_pay5])
    (fun t h j => by
      rw [outsAt0_B m c t h]; frame_out
      obtain ⟨i, k, rfl⟩ : ∃ i k, j = ix2 i k := ⟨_, _, ValueIdx.eq_ix2 j⟩
      exact acc9 m c t _ i k)
    (le_of_eq N_0) t0_15 rfl j, zero_add]
  obtain ⟨i, k, rfl⟩ : ∃ i k, j = ix2 i k := ⟨_, _, ValueIdx.eq_ix2 j⟩
  refine Eq.trans ?_ (r62 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k).symm
  exact (Fin.sum_mul_add_congr fun t l hl => congrArg (fun R => c9 (wt m c) (r0 m c R) (r1 m c R) (r2_ m c R) k) (Fin.ext (by show 512 * t.val + l.val = t.val * 512 + l.val; omega) : rowOf t l = ⟨t.val * 512 + l.val, hl⟩))

/-- What a point adds to the embedding norm's gradient. -/
theorem acc10 (c : Dev nD) (t : Fin cfg0.N) (Z : FVec Ideal S1x1024 .f32) (i : Fin 1) (j : Fin 1024) :
    ((k0_pay1 (F := Ideal) (k0_pay54 (F := Ideal) (k0_pay36 (F := Ideal) (I0b m c t)) (k0_pay38 (F := Ideal) (I0b m c t) (iblk m c 3 t) (iblk m c 5 t)) (k0_pay39 (F := Ideal) (I1b m c t) (iblk m c 4 t)) (k0_pay47 (F := Ideal) (I0b m c t) (I2b m c t) (k0_pay40 (F := Ideal) (I0b m c t) (I1b m c t) (iblk m c 3 t) (iblk m c 5 t) (iblk m c 4 t)) (iblk m c 6 t) (iblk m c 6 t)) (iblk m c 5 t)) (k0_pay32 (F := Ideal) (k0_pay10 (F := Ideal) (I0a m c t)) (k0_pay23 (F := Ideal) (I2a m c t) (k0_pay12 (F := Ideal) (I0a m c t) (iblk m c 3 t) (iblk m c 5 t)) (k0_pay13 (F := Ideal) (I1a m c t) (iblk m c 4 t)) (k0_pay14 (F := Ideal) (I0a m c t) (I1a m c t) (iblk m c 3 t) (iblk m c 5 t) (iblk m c 4 t)) (iblk m c 6 t) (k0_pay15 (F := Ideal) (I0a m c t) (I1a m c t) (iblk m c 3 t) (iblk m c 5 t) (iblk m c 4 t)) (Ideal.ofBits .f32 0x358637BD#32) (iblk m c 6 t)) (iblk m c 5 t) Z)) (ix2 i j) : EReal) = Z (ix2 i j) + ∑ k : Fin 512, c10 (wt m c) (r0 m c (rowOf t k)) (r1 m c (rowOf t k)) (r2_ m c (rowOf t k)) j := by
  rw [show ∑ k : Fin 512, c10 (wt m c) (r0 m c (rowOf t k)) (r1 m c (rowOf t k)) (r2_ m c (rowOf t k)) j = ∑ k : Fin 256, c10 (wt m c) (r0 m c (rowOf t ⟨k.val, by omega⟩)) (r1 m c (rowOf t ⟨k.val, by omega⟩)) (r2_ m c (rowOf t ⟨k.val, by omega⟩)) j + ∑ k : Fin 256, c10 (wt m c) (r0 m c (rowOf t ⟨256 + k.val, by omega⟩)) (r1 m c (rowOf t ⟨256 + k.val, by omega⟩)) (r2_ m c (rowOf t ⟨256 + k.val, by omega⟩)) j from
    Fin.sum_univ_add (a := 256) (b := 256) fun k : Fin 512 => c10 (wt m c) (r0 m c (rowOf t k)) (r1 m c (rowOf t k)) (r2_ m c (rowOf t k)) j]
  rw [s10b (I0b m c t) (I1b m c t) (I2b m c t) (iblk m c 3 t) (iblk m c 4 t) (iblk m c 5 t) (iblk m c 6 t), s10a (I0a m c t) (I1a m c t) (I2a m c t) (iblk m c 3 t) (iblk m c 4 t) (iblk m c 5 t) (iblk m c 6 t)]
  simp only [ina0, ina1, ina2, inb0, inb1, inb2, const3, const4, const5, const6, add_assoc (G := EReal)]

/-- Window 10 after the run is the embedding norm's gradient. -/
theorem final10 (c : Dev nD) : (dats m 0 c).arrAt 10 (cfgs 0).N = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0)
    (fun p j => ∑ k : Fin 512, c10 (wt m c) (r0 m c (rowOf p k)) (r1 m c (rowOf p k)) (r2_ m c (rowOf p k)) (j 1))
    (fun t h j => by
      rw [outsAt0_A m c t h]; frame_out
      obtain ⟨i, k, rfl⟩ : ∃ i k, j = ix2 i k := ⟨_, _, ValueIdx.eq_ix2 j⟩
      refine (acc10 m c t (k0_pay6 (F := Ideal)) i k).trans ?_
      pointwise [k0_pay6])
    (fun t h j => by
      rw [outsAt0_B m c t h]; frame_out
      obtain ⟨i, k, rfl⟩ : ∃ i k, j = ix2 i k := ⟨_, _, ValueIdx.eq_ix2 j⟩
      exact acc10 m c t _ i k)
    (le_of_eq N_0) t0_15 rfl j, zero_add]
  obtain ⟨i, k, rfl⟩ : ∃ i k, j = ix2 i k := ⟨_, _, ValueIdx.eq_ix2 j⟩
  refine Eq.trans ?_ (r87 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k).symm
  exact (Fin.sum_mul_add_congr fun t l hl => congrArg (fun R => c10 (wt m c) (r0 m c R) (r1 m c R) (r2_ m c R) k) (Fin.ext (by show 512 * t.val + l.val = t.val * 512 + l.val; omega) : rowOf t l = ⟨t.val * 512 + l.val, hl⟩))

/-- What a point adds to the embedding product's gradient. -/
theorem acc11 (c : Dev nD) (t : Fin cfg0.N) (Z : FVec Ideal S256x1024 .f32) (i : Fin 256) (j : Fin 1024) :
    ((k0_pay2 (F := Ideal) (k0_pay51 (F := Ideal) (I1b m c t) (k0_pay49 (F := Ideal) (I0b m c t) (I2b m c t) (k0_pay38 (F := Ideal) (I0b m c t) (iblk m c 3 t) (iblk m c 5 t)) (k0_pay40 (F := Ideal) (I0b m c t) (I1b m c t) (iblk m c 3 t) (iblk m c 5 t) (iblk m c 4 t)) (iblk m c 6 t) (iblk m c 6 t))) (k0_pay33 (k0_pay24 (F := Ideal) (I1a m c t) (I2a m c t) (k0_pay12 (F := Ideal) (I0a m c t) (iblk m c 3 t) (iblk m c 5 t)) (k0_pay14 (F := Ideal) (I0a m c t) (I1a m c t) (iblk m c 3 t) (iblk m c 5 t) (iblk m c 4 t)) (iblk m c 6 t) (k0_pay15 (F := Ideal) (I0a m c t) (I1a m c t) (iblk m c 3 t) (iblk m c 5 t) (iblk m c 4 t)) (Ideal.ofBits .f32 0x358637BD#32) (iblk m c 6 t)) Z)) (ix2 i j) : EReal) = Z (ix2 i j) + ∑ k : Fin 512, c11 (wt m c) (r0 m c (rowOf t k)) (r1 m c (rowOf t k)) (r2_ m c (rowOf t k)) i j := by
  rw [show ∑ k : Fin 512, c11 (wt m c) (r0 m c (rowOf t k)) (r1 m c (rowOf t k)) (r2_ m c (rowOf t k)) i j = ∑ k : Fin 256, c11 (wt m c) (r0 m c (rowOf t ⟨k.val, by omega⟩)) (r1 m c (rowOf t ⟨k.val, by omega⟩)) (r2_ m c (rowOf t ⟨k.val, by omega⟩)) i j + ∑ k : Fin 256, c11 (wt m c) (r0 m c (rowOf t ⟨256 + k.val, by omega⟩)) (r1 m c (rowOf t ⟨256 + k.val, by omega⟩)) (r2_ m c (rowOf t ⟨256 + k.val, by omega⟩)) i j from
    Fin.sum_univ_add (a := 256) (b := 256) fun k : Fin 512 => c11 (wt m c) (r0 m c (rowOf t k)) (r1 m c (rowOf t k)) (r2_ m c (rowOf t k)) i j]
  pointwise [k0_pay33, k0_pay2]
  rw [s11b (I0b m c t) (I1b m c t) (I2b m c t) (iblk m c 3 t) (iblk m c 4 t) (iblk m c 5 t) (iblk m c 6 t), s11a (I0a m c t) (I1a m c t) (I2a m c t) (iblk m c 3 t) (iblk m c 4 t) (iblk m c 5 t) (iblk m c 6 t)]
  simp only [ina0, ina1, ina2, inb0, inb1, inb2, const3, const4, const5, const6, add_assoc (G := EReal)]

/-- Window 11 after the run is the embedding product's gradient. -/
theorem final11 (c : Dev nD) : (dats m 0 c).arrAt 11 (cfgs 0).N = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0)
    (fun p j => ∑ k : Fin 512, c11 (wt m c) (r0 m c (rowOf p k)) (r1 m c (rowOf p k)) (r2_ m c (rowOf p k)) (j 0) (j 1))
    (fun t h j => by
      rw [outsAt0_A m c t h]; frame_out
      obtain ⟨i, k, rfl⟩ : ∃ i k, j = ix2 i k := ⟨_, _, ValueIdx.eq_ix2 j⟩
      refine (acc11 m c t (k0_pay7 (F := Ideal)) i k).trans ?_
      pointwise [k0_pay7])
    (fun t h j => by
      rw [outsAt0_B m c t h]; frame_out
      obtain ⟨i, k, rfl⟩ : ∃ i k, j = ix2 i k := ⟨_, _, ValueIdx.eq_ix2 j⟩
      exact acc11 m c t _ i k)
    (le_of_eq N_0) t0_15 rfl j, zero_add]
  obtain ⟨i, k, rfl⟩ : ∃ i k, j = ix2 i k := ⟨_, _, ValueIdx.eq_ix2 j⟩
  refine Eq.trans ?_ (r106 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k).symm
  exact (Fin.sum_mul_add_congr fun t l hl => congrArg (fun R => c11 (wt m c) (r0 m c R) (r1 m c R) (r2_ m c R) i k) (Fin.ext (by show 512 * t.val + l.val = t.val * 512 + l.val; omega) : rowOf t l = ⟨t.val * 512 + l.val, hl⟩))

/-- What a point adds to the gate product's gradient. -/
theorem acc12 (c : Dev nD) (t : Fin cfg0.N) (Z : FVec Ideal S1024x1024 .f32) (i : Fin 1024) (j : Fin 1024) :
    ((k0_pay3 (F := Ideal) (k0_pay52 (F := Ideal) (k0_pay37 (F := Ideal) (I0b m c t) (iblk m c 3 t)) (k0_pay38 (F := Ideal) (I0b m c t) (iblk m c 3 t) (iblk m c 5 t)) (k0_pay39 (F := Ideal) (I1b m c t) (iblk m c 4 t)) (k0_pay47 (F := Ideal) (I0b m c t) (I2b m c t) (k0_pay40 (F := Ideal) (I0b m c t) (I1b m c t) (iblk m c 3 t) (iblk m c 5 t) (iblk m c 4 t)) (iblk m c 6 t) (iblk m c 6 t))) (k0_pay34 (k0_pay27 (F := Ideal) (k0_pay25 (F := Ideal) (k0_pay11 (F := Ideal) (I0a m c t) (iblk m c 3 t))) (k0_pay26 (F := Ideal) (I2a m c t) (k0_pay12 (F := Ideal) (I0a m c t) (iblk m c 3 t) (iblk m c 5 t)) (k0_pay13 (F := Ideal) (I1a m c t) (iblk m c 4 t)) (k0_pay14 (F := Ideal) (I0a m c t) (I1a m c t) (iblk m c 3 t) (iblk m c 5 t) (iblk m c 4 t)) (iblk m c 6 t) (k0_pay15 (F := Ideal) (I0a m c t) (I1a m c t) (iblk m c 3 t) (iblk m c 5 t) (iblk m c 4 t)) (Ideal.ofBits .f32 0x358637BD#32) (iblk m c 6 t))) Z)) (ix2 i j) : EReal) = Z (ix2 i j) + ∑ k : Fin 512, c12 (wt m c) (r0 m c (rowOf t k)) (r1 m c (rowOf t k)) (r2_ m c (rowOf t k)) i j := by
  rw [show ∑ k : Fin 512, c12 (wt m c) (r0 m c (rowOf t k)) (r1 m c (rowOf t k)) (r2_ m c (rowOf t k)) i j = ∑ k : Fin 256, c12 (wt m c) (r0 m c (rowOf t ⟨k.val, by omega⟩)) (r1 m c (rowOf t ⟨k.val, by omega⟩)) (r2_ m c (rowOf t ⟨k.val, by omega⟩)) i j + ∑ k : Fin 256, c12 (wt m c) (r0 m c (rowOf t ⟨256 + k.val, by omega⟩)) (r1 m c (rowOf t ⟨256 + k.val, by omega⟩)) (r2_ m c (rowOf t ⟨256 + k.val, by omega⟩)) i j from
    Fin.sum_univ_add (a := 256) (b := 256) fun k : Fin 512 => c12 (wt m c) (r0 m c (rowOf t k)) (r1 m c (rowOf t k)) (r2_ m c (rowOf t k)) i j]
  pointwise [k0_pay34, k0_pay3]
  rw [s12b (I0b m c t) (I1b m c t) (I2b m c t) (iblk m c 3 t) (iblk m c 4 t) (iblk m c 5 t) (iblk m c 6 t), s12a (I0a m c t) (I1a m c t) (I2a m c t) (iblk m c 3 t) (iblk m c 4 t) (iblk m c 5 t) (iblk m c 6 t)]
  simp only [ina0, ina1, ina2, inb0, inb1, inb2, const3, const4, const5, const6, add_assoc (G := EReal)]

/-- Window 12 after the run is the gate product's gradient. -/
theorem final12 (c : Dev nD) : (dats m 0 c).arrAt 12 (cfgs 0).N = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0)
    (fun p j => ∑ k : Fin 512, c12 (wt m c) (r0 m c (rowOf p k)) (r1 m c (rowOf p k)) (r2_ m c (rowOf p k)) (j 0) (j 1))
    (fun t h j => by
      rw [outsAt0_A m c t h]; frame_out
      obtain ⟨i, k, rfl⟩ : ∃ i k, j = ix2 i k := ⟨_, _, ValueIdx.eq_ix2 j⟩
      refine (acc12 m c t (k0_pay8 (F := Ideal)) i k).trans ?_
      pointwise [k0_pay8])
    (fun t h j => by
      rw [outsAt0_B m c t h]; frame_out
      obtain ⟨i, k, rfl⟩ : ∃ i k, j = ix2 i k := ⟨_, _, ValueIdx.eq_ix2 j⟩
      exact acc12 m c t _ i k)
    (le_of_eq N_0) t0_15 rfl j, zero_add]
  obtain ⟨i, k, rfl⟩ : ∃ i k, j = ix2 i k := ⟨_, _, ValueIdx.eq_ix2 j⟩
  refine Eq.trans ?_ (r83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k).symm
  exact (Fin.sum_mul_add_congr fun t l hl => congrArg (fun R => c12 (wt m c) (r0 m c R) (r1 m c R) (r2_ m c R) i k) (Fin.ext (by show 512 * t.val + l.val = t.val * 512 + l.val; omega) : rowOf t l = ⟨t.val * 512 + l.val, hl⟩))

theorem y7a (c : Dev nD) (t : Fin cfg0.N) (r : Fin 256) (j : Fin 1024) : ((k0_pay29 (F := Ideal) (k0_pay9 (F := Ideal) (I0a m c t)) (k0_pay10 (F := Ideal) (I0a m c t)) (k0_pay21 (F := Ideal) (I2a m c t) (k0_pay14 (F := Ideal) (I0a m c t) (I1a m c t) (iblk m c 3 t) (iblk m c 5 t) (iblk m c 4 t)) (iblk m c 6 t) (k0_pay15 (F := Ideal) (I0a m c t) (I1a m c t) (iblk m c 3 t) (iblk m c 5 t) (iblk m c 4 t)) (Ideal.ofBits .f32 0x358637BD#32) (iblk m c 6 t)) (k0_pay23 (F := Ideal) (I2a m c t) (k0_pay12 (F := Ideal) (I0a m c t) (iblk m c 3 t) (iblk m c 5 t)) (k0_pay13 (F := Ideal) (I1a m c t) (iblk m c 4 t)) (k0_pay14 (F := Ideal) (I0a m c t) (I1a m c t) (iblk m c 3 t) (iblk m c 5 t) (iblk m c 4 t)) (iblk m c 6 t) (k0_pay15 (F := Ideal) (I0a m c t) (I1a m c t) (iblk m c 3 t) (iblk m c 5 t) (iblk m c 4 t)) (Ideal.ofBits .f32 0x358637BD#32) (iblk m c 6 t)) (iblk m c 5 t) (iblk m c 3 t)) (ix2 r j) : EReal)
    = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (rowOf t ⟨r.val, by have := r.isLt; omega⟩) j) := by
  rw [gxa (I0a m c t) (I1a m c t) (I2a m c t) (iblk m c 3 t) (iblk m c 4 t) (iblk m c 5 t) (iblk m c 6 t), r104]
  simp only [ina0, ina1, ina2, const3, const4, const5, const6]

theorem y7b (c : Dev nD) (t : Fin cfg0.N) (r : Fin 256) (j : Fin 1024) : ((k0_pay55 (F := Ideal) (k0_pay35 (F := Ideal) (I0b m c t)) (k0_pay36 (F := Ideal) (I0b m c t)) (k0_pay38 (F := Ideal) (I0b m c t) (iblk m c 3 t) (iblk m c 5 t)) (k0_pay39 (F := Ideal) (I1b m c t) (iblk m c 4 t)) (k0_pay47 (F := Ideal) (I0b m c t) (I2b m c t) (k0_pay40 (F := Ideal) (I0b m c t) (I1b m c t) (iblk m c 3 t) (iblk m c 5 t) (iblk m c 4 t)) (iblk m c 6 t) (iblk m c 6 t)) (iblk m c 5 t) (iblk m c 3 t)) (ix2 r j) : EReal)
    = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (rowOf t ⟨256 + r.val, by have := r.isLt; omega⟩) j) := by
  rw [gxb (I0b m c t) (I1b m c t) (I2b m c t) (iblk m c 3 t) (iblk m c 4 t) (iblk m c 5 t) (iblk m c 6 t), r104]
  simp only [inb0, inb1, inb2, const3, const4, const5, const6]

/-- Window 7 after the run is the gradient of the rows. -/
theorem final7 (c : Dev nD) : (dats m 0 c).arrAt 7 (cfgs 0).N = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  refine Eq.trans (b := (val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (rowOf t (y 0)) (y 1)) : EReal)) ?_ ?_
  swap
  · generalize val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = Q
    blk_ext! [idx t]
  refine (congrArg _ (ValueIdx.eq_ix2 y)).trans ?_
  generalize y 0 = r, y 1 = k
  by_cases h : t.val % 16 = 0
  · rw [outsAt0_A m c t h]; frame_out
    canon_tiles x h
    case piece1 =>
      have h0' : r.val = (x 0).val := h0
      have h1' : k.val = (x 1).val := h1
      refine Eq.trans (b := _) ?_ ((y7a m c t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y7b m c t (x 0) (x 1)).trans (congrArg _ (congrArg₂ ix2 (congrArg (rowOf t) (Fin.ext ?_)) (Fin.ext ?_))))
      · exact congrArg _ (ValueIdx.eq_ix2 x)
      · exact h0'.symm
      · exact h1'.symm
  · rw [outsAt0_B m c t h]; frame_out
    canon_tiles x h
    case piece1 =>
      have h0' : r.val = (x 0).val := h0
      have h1' : k.val = (x 1).val := h1
      refine Eq.trans (b := _) ?_ ((y7a m c t (x 0) (x 1)).trans (congrArg _ (congrArg₂ ix2 (congrArg (rowOf t) (Fin.ext ?_)) (Fin.ext ?_))))
      · exact congrArg _ (ValueIdx.eq_ix2 x)
      · show (x 0).val = r.val
        omega
      · exact h1'.symm
    case piece0 =>
      have h0' : r.val = 256 + (x 0).val := h0
      have h1' : k.val = (x 1).val := h1
      refine Eq.trans (b := _) ?_ ((y7b m c t (x 0) (x 1)).trans (congrArg _ (congrArg₂ ix2 (congrArg (rowOf t) (Fin.ext ?_)) (Fin.ext ?_))))
      · exact congrArg _ (ValueIdx.eq_ix2 x)
      · exact h0'.symm
      · exact h1'.symm

end Cert.PleIdeal.Value

end

end
-- ==== Proof.PleClaim.lean ====
module

public import proofs.«01_k».proof.Defs
public import proofs.«01_k».proof.Proof.Gen.Ple
public import proofs.«01_k».proof.Proof.Gen.PleRefIdeal.Run
public import proofs.«01_k».proof.Proof.PlOut
public import Idealize.ShloMosaic.Lib.Claim

@[expose] public section

set_option maxRecDepth 16384
noncomputable section
open Idealize.ShloMosaic Idealize.ShloMosaic.TcCoe Idealize.SL.Sem
namespace Cert.PleIdeal.Value
open Cert.PleRefIdeal.Read
attribute [local instance] Cert.PleIdeal.Gen.facts Cert.PleRefIdeal.Gen.facts

section
open Cert.PleIdeal Cert.PleIdeal.Gen
variable (m : (ℓ : Loc nD τ sig) → Buf (Elt Ideal) ℓ)

theorem fin7 (c : Dev nD) {x0 : FVec Ideal S8192x1024 .f32} {x1 : FVec Ideal S8192x256 .f32} {x2 : FVec Ideal S8192x1024 .f32} {x3 : FVec Ideal S1x1024 .f32} {x4 : FVec Ideal S256x1024 .bf16} {x5 : FVec Ideal S1024x1024 .bf16} {x6 : FVec Ideal S1x1024 .f32} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) :
    val_main_v104 (F := Ideal) x0 x1 x2 x3 x4 x5 x6 = (dats m 0 c).arrAt 7 (cfgs 0).N := by
  subst h0 h1 h2 h3 h4 h5 h6
  exact (final7 m c).symm

theorem fin8 (c : Dev nD) {x0 : FVec Ideal S8192x1024 .f32} {x1 : FVec Ideal S8192x256 .f32} {x2 : FVec Ideal S8192x1024 .f32} {x3 : FVec Ideal S1x1024 .f32} {x4 : FVec Ideal S256x1024 .bf16} {x5 : FVec Ideal S1024x1024 .bf16} {x6 : FVec Ideal S1x1024 .f32} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) :
    val_main_v107 (F := Ideal) x0 x1 x2 x3 x4 x5 x6 = (dats m 0 c).arrAt 8 (cfgs 0).N := by
  subst h0 h1 h2 h3 h4 h5 h6
  exact (final8 m c).symm

theorem fin9 (c : Dev nD) {x0 : FVec Ideal S8192x1024 .f32} {x1 : FVec Ideal S8192x256 .f32} {x2 : FVec Ideal S8192x1024 .f32} {x3 : FVec Ideal S1x1024 .f32} {x4 : FVec Ideal S256x1024 .bf16} {x5 : FVec Ideal S1024x1024 .bf16} {x6 : FVec Ideal S1x1024 .f32} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) :
    val_main_v62 (F := Ideal) x0 x1 x2 x3 x4 x5 x6 = (dats m 0 c).arrAt 9 (cfgs 0).N := by
  subst h0 h1 h2 h3 h4 h5 h6
  exact (final9 m c).symm

theorem fin10 (c : Dev nD) {x0 : FVec Ideal S8192x1024 .f32} {x1 : FVec Ideal S8192x256 .f32} {x2 : FVec Ideal S8192x1024 .f32} {x3 : FVec Ideal S1x1024 .f32} {x4 : FVec Ideal S256x1024 .bf16} {x5 : FVec Ideal S1024x1024 .bf16} {x6 : FVec Ideal S1x1024 .f32} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) :
    val_main_v87 (F := Ideal) x0 x1 x2 x3 x4 x5 x6 = (dats m 0 c).arrAt 10 (cfgs 0).N := by
  subst h0 h1 h2 h3 h4 h5 h6
  exact (final10 m c).symm

theorem fin11 (c : Dev nD) {x0 : FVec Ideal S8192x1024 .f32} {x1 : FVec Ideal S8192x256 .f32} {x2 : FVec Ideal S8192x1024 .f32} {x3 : FVec Ideal S1x1024 .f32} {x4 : FVec Ideal S256x1024 .bf16} {x5 : FVec Ideal S1024x1024 .bf16} {x6 : FVec Ideal S1x1024 .f32} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) :
    val_main_v106 (F := Ideal) x0 x1 x2 x3 x4 x5 x6 = (dats m 0 c).arrAt 11 (cfgs 0).N := by
  subst h0 h1 h2 h3 h4 h5 h6
  exact (final11 m c).symm

theorem fin12 (c : Dev nD) {x0 : FVec Ideal S8192x1024 .f32} {x1 : FVec Ideal S8192x256 .f32} {x2 : FVec Ideal S8192x1024 .f32} {x3 : FVec Ideal S1x1024 .f32} {x4 : FVec Ideal S256x1024 .bf16} {x5 : FVec Ideal S1024x1024 .bf16} {x6 : FVec Ideal S1x1024 .f32} (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) :
    val_main_v83 (F := Ideal) x0 x1 x2 x3 x4 x5 x6 = (dats m 0 c).arrAt 12 (cfgs 0).N := by
  subst h0 h1 h2 h3 h4 h5 h6
  exact (final12 m c).symm

end

/-- The kernel of the embedding gate, the final normalisation and the loss computes the reference's loss and gradients. -/
theorem algebraic : Cert.algebraic_PleIdeal_PleRefIdeal := by
  pair_intro
  · run_from Cert.PleIdeal.Value.run_blocks m g
  · refine (θ_run Cert.PleRefIdeal.defs _ _).mono (fun r h c => ⟨(h c).1.trans ((Cert.PleRefIdeal.Read.val_main_v104_eq (F := Ideal) (StableHlo.launchContents m' c)).trans ?_), (h c).2.1.trans ((Cert.PleRefIdeal.Read.val_main_v107_eq (F := Ideal) (StableHlo.launchContents m' c)).trans ?_), (h c).2.2.1.trans ((Cert.PleRefIdeal.Read.val_main_v62_eq (F := Ideal) (StableHlo.launchContents m' c)).trans ?_), (h c).2.2.2.1.trans ((Cert.PleRefIdeal.Read.val_main_v87_eq (F := Ideal) (StableHlo.launchContents m' c)).trans ?_), (h c).2.2.2.2.1.trans ((Cert.PleRefIdeal.Read.val_main_v106_eq (F := Ideal) (StableHlo.launchContents m' c)).trans ?_), (h c).2.2.2.2.2.1.trans ((Cert.PleRefIdeal.Read.val_main_v83_eq (F := Ideal) (StableHlo.launchContents m' c)).trans ?_), (h c).2.2.2.2.2.2⟩) (Cert.PleRefIdeal.Value.run (F := Ideal) m' g')
    all_goals obtain ⟨h0, h1, h2, h3, h4, h5, h6⟩ := hagree c
    · exact fin7 m c h0 h1 h2 h3 h4 h5 h6
    · exact fin8 m c h0 h1 h2 h3 h4 h5 h6
    · exact fin9 m c h0 h1 h2 h3 h4 h5 h6
    · exact fin10 m c h0 h1 h2 h3 h4 h5 h6
    · exact fin11 m c h0 h1 h2 h3 h4 h5 h6
    · exact fin12 m c h0 h1 h2 h3 h4 h5 h6

end Cert.PleIdeal.Value

end

end
-- ==== Proof.BrBase.lean ====
module

public import proofs.«01_k».proof.Proof.Gen.BranchesIdeal.Value
public import proofs.«01_k».proof.Proof.Gen.BranchesRefIdeal.Read
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.BranchesIdeal.Value
open Cert.BranchesIdeal Cert.BranchesIdeal.Gen
open Cert.BranchesRefIdeal.Read

/-- Entry x of the group of 128 columns that column k lies in. -/
abbrev grp (k : Fin 1024) (x : Fin 128) : Fin 1024 := ⟨128 * (k.val / 128) + x.val, by have := k.isLt; have := x.isLt; omega⟩

/-- A row normalised group by group. -/
def nrm (f : Fin 1024 → EReal) (k : Fin 1024) : EReal :=
  f k * Ideal.rsqrt (Ideal.div (∑ x : Fin 128, f (grp k x) * f (grp k x)) (Ideal.ofBits .f32 0x43000000#32) + Ideal.ofBits .f32 0x358637BD#32)

/-- One group of a row, normalised, is the normalised row there. -/
theorem nrm_at (f : Fin 1024 → EReal) (h : Fin 8) (x : Fin 128) (g : Fin 128 → EReal)
    (hg : ∀ x : Fin 128, g x = f ⟨128 * h.val + x.val, by have := h.isLt; have := x.isLt; omega⟩) :
    g x * Ideal.rsqrt (Ideal.div (∑ x : Fin 128, g x * g x) (Ideal.ofBits .f32 0x43000000#32) + Ideal.ofBits .f32 0x358637BD#32)
      = nrm f ⟨128 * h.val + x.val, by have := h.isLt; have := x.isLt; omega⟩ := by
  have e : ∀ y : Fin 128, f (grp ⟨128 * h.val + x.val, by have := h.isLt; have := x.isLt; omega⟩ y) = g y := fun y =>
    (congrArg f (Fin.ext (show 128 * ((128 * h.val + x.val) / 128) + y.val = 128 * h.val + y.val by have := x.isLt; omega))).trans (hg y).symm
  unfold nrm
  simp only [e, hg x]

theorem heada0 (O : FVec Ideal S256x1024 .f32) (r : Fin 256) (x : Fin 128) : (k0_pay9 (F := Ideal) O (ix2 r x) : EReal)
    = nrm (fun k => O (ix2 r k)) ⟨128 * (⟨0, by decide⟩ : Fin 8).val + x.val, by have := x.isLt; show 128 * 0 + x.val < 1024; omega⟩ := by
  refine Eq.trans ?_ (nrm_at (fun k => O (ix2 r k)) ⟨0, by decide⟩ x (fun x => O (ix2 r ⟨0 + x.val, by have := x.isLt; omega⟩)) fun x => rfl)
  pointwise [k0_pay9]

theorem heada1 (O : FVec Ideal S256x1024 .f32) (r : Fin 256) (x : Fin 128) : (k0_pay10 (F := Ideal) O (ix2 r x) : EReal)
    = nrm (fun k => O (ix2 r k)) ⟨128 * (⟨1, by decide⟩ : Fin 8).val + x.val, by have := x.isLt; show 128 * 1 + x.val < 1024; omega⟩ := by
  refine Eq.trans ?_ (nrm_at (fun k => O (ix2 r k)) ⟨1, by decide⟩ x (fun x => O (ix2 r ⟨128 + x.val, by have := x.isLt; omega⟩)) fun x => rfl)
  pointwise [k0_pay10]

theorem heada2 (O : FVec Ideal S256x1024 .f32) (r : Fin 256) (x : Fin 128) : (k0_pay13 (F := Ideal) (k0_pay11 O) (k0_pay12 O) (ix2 r x) : EReal)
    = nrm (fun k => O (ix2 r k)) ⟨128 * (⟨2, by decide⟩ : Fin 8).val + x.val, by have := x.isLt; show 128 * 2 + x.val < 1024; omega⟩ := by
  refine Eq.trans ?_ (nrm_at (fun k => O (ix2 r k)) ⟨2, by decide⟩ x (fun x => O (ix2 r ⟨256 + x.val, by have := x.isLt; omega⟩)) fun x => rfl)
  pointwise [k0_pay13, k0_pay12, k0_pay11]

theorem heada3 (O : FVec Ideal S256x1024 .f32) (r : Fin 256) (x : Fin 128) : (k0_pay14 (F := Ideal) O (ix2 r x) : EReal)
    = nrm (fun k => O (ix2 r k)) ⟨128 * (⟨3, by decide⟩ : Fin 8).val + x.val, by have := x.isLt; show 128 * 3 + x.val < 1024; omega⟩ := by
  refine Eq.trans ?_ (nrm_at (fun k => O (ix2 r k)) ⟨3, by decide⟩ x (fun x => O (ix2 r ⟨384 + x.val, by have := x.isLt; omega⟩)) fun x => rfl)
  pointwise [k0_pay14]

theorem heada4 (O : FVec Ideal S256x1024 .f32) (r : Fin 256) (x : Fin 128) : (k0_pay15 (F := Ideal) O (ix2 r x) : EReal)
    = nrm (fun k => O (ix2 r k)) ⟨128 * (⟨4, by decide⟩ : Fin 8).val + x.val, by have := x.isLt; show 128 * 4 + x.val < 1024; omega⟩ := by
  refine Eq.trans ?_ (nrm_at (fun k => O (ix2 r k)) ⟨4, by decide⟩ x (fun x => O (ix2 r ⟨512 + x.val, by have := x.isLt; omega⟩)) fun x => rfl)
  pointwise [k0_pay15]

theorem heada5 (O : FVec Ideal S256x1024 .f32) (r : Fin 256) (x : Fin 128) : (k0_pay16 (F := Ideal) O (ix2 r x) : EReal)
    = nrm (fun k => O (ix2 r k)) ⟨128 * (⟨5, by decide⟩ : Fin 8).val + x.val, by have := x.isLt; show 128 * 5 + x.val < 1024; omega⟩ := by
  refine Eq.trans ?_ (nrm_at (fun k => O (ix2 r k)) ⟨5, by decide⟩ x (fun x => O (ix2 r ⟨640 + x.val, by have := x.isLt; omega⟩)) fun x => rfl)
  pointwise [k0_pay16]

theorem headb0 (O : FVec Ideal S256x1024 .f32) (r : Fin 256) (x : Fin 128) : (k0_pay33 (F := Ideal) O (ix2 r x) : EReal)
    = nrm (fun k => O (ix2 r k)) ⟨128 * (⟨0, by decide⟩ : Fin 8).val + x.val, by have := x.isLt; show 128 * 0 + x.val < 1024; omega⟩ := by
  refine Eq.trans ?_ (nrm_at (fun k => O (ix2 r k)) ⟨0, by decide⟩ x (fun x => O (ix2 r ⟨0 + x.val, by have := x.isLt; omega⟩)) fun x => rfl)
  pointwise [k0_pay33]

theorem headb1 (O : FVec Ideal S256x1024 .f32) (r : Fin 256) (x : Fin 128) : (k0_pay34 (F := Ideal) O (ix2 r x) : EReal)
    = nrm (fun k => O (ix2 r k)) ⟨128 * (⟨1, by decide⟩ : Fin 8).val + x.val, by have := x.isLt; show 128 * 1 + x.val < 1024; omega⟩ := by
  refine Eq.trans ?_ (nrm_at (fun k => O (ix2 r k)) ⟨1, by decide⟩ x (fun x => O (ix2 r ⟨128 + x.val, by have := x.isLt; omega⟩)) fun x => rfl)
  pointwise [k0_pay34]

theorem headb2 (O : FVec Ideal S256x1024 .f32) (r : Fin 256) (x : Fin 128) : (k0_pay35 (F := Ideal) O (ix2 r x) : EReal)
    = nrm (fun k => O (ix2 r k)) ⟨128 * (⟨2, by decide⟩ : Fin 8).val + x.val, by have := x.isLt; show 128 * 2 + x.val < 1024; omega⟩ := by
  refine Eq.trans ?_ (nrm_at (fun k => O (ix2 r k)) ⟨2, by decide⟩ x (fun x => O (ix2 r ⟨256 + x.val, by have := x.isLt; omega⟩)) fun x => rfl)
  pointwise [k0_pay35]

theorem headb3 (O : FVec Ideal S256x1024 .f32) (r : Fin 256) (x : Fin 128) : (k0_pay38 (F := Ideal) (k0_pay36 O) (k0_pay37 O) (ix2 r x) : EReal)
    = nrm (fun k => O (ix2 r k)) ⟨128 * (⟨3, by decide⟩ : Fin 8).val + x.val, by have := x.isLt; show 128 * 3 + x.val < 1024; omega⟩ := by
  refine Eq.trans ?_ (nrm_at (fun k => O (ix2 r k)) ⟨3, by decide⟩ x (fun x => O (ix2 r ⟨384 + x.val, by have := x.isLt; omega⟩)) fun x => rfl)
  pointwise [k0_pay38, k0_pay37, k0_pay36]

theorem headb4 (O : FVec Ideal S256x1024 .f32) (r : Fin 256) (x : Fin 128) : (k0_pay39 (F := Ideal) O (ix2 r x) : EReal)
    = nrm (fun k => O (ix2 r k)) ⟨128 * (⟨4, by decide⟩ : Fin 8).val + x.val, by have := x.isLt; show 128 * 4 + x.val < 1024; omega⟩ := by
  refine Eq.trans ?_ (nrm_at (fun k => O (ix2 r k)) ⟨4, by decide⟩ x (fun x => O (ix2 r ⟨512 + x.val, by have := x.isLt; omega⟩)) fun x => rfl)
  pointwise [k0_pay39]

theorem headb5 (O : FVec Ideal S256x1024 .f32) (r : Fin 256) (x : Fin 128) : (k0_pay40 (F := Ideal) O (ix2 r x) : EReal)
    = nrm (fun k => O (ix2 r k)) ⟨128 * (⟨5, by decide⟩ : Fin 8).val + x.val, by have := x.isLt; show 128 * 5 + x.val < 1024; omega⟩ := by
  refine Eq.trans ?_ (nrm_at (fun k => O (ix2 r k)) ⟨5, by decide⟩ x (fun x => O (ix2 r ⟨640 + x.val, by have := x.isLt; omega⟩)) fun x => rfl)
  pointwise [k0_pay40]

theorem headb6 (O : FVec Ideal S256x1024 .f32) (r : Fin 256) (x : Fin 128) : (k0_pay41 (F := Ideal) O (ix2 r x) : EReal)
    = nrm (fun k => O (ix2 r k)) ⟨128 * (⟨6, by decide⟩ : Fin 8).val + x.val, by have := x.isLt; show 128 * 6 + x.val < 1024; omega⟩ := by
  refine Eq.trans ?_ (nrm_at (fun k => O (ix2 r k)) ⟨6, by decide⟩ x (fun x => O (ix2 r ⟨768 + x.val, by have := x.isLt; omega⟩)) fun x => rfl)
  pointwise [k0_pay41]

theorem heada6 (O : FVec Ideal S256x1024 .f32) (r : Fin 256) (x : Fin 128) : (k0_pay17 (F := Ideal) O (ix2 r x) * Ideal.rsqrt (Ideal.div (k0_pay18 (F := Ideal) O (ix2 r 0)) (k0_pay19 (F := Ideal) (ix2 r 0)) + Ideal.ofBits .f32 0x358637BD#32) : EReal)
    = nrm (fun k => O (ix2 r k)) ⟨128 * (⟨6, by decide⟩ : Fin 8).val + x.val, by have := x.isLt; show 128 * 6 + x.val < 1024; omega⟩ := by
  refine Eq.trans ?_ (nrm_at (fun k => O (ix2 r k)) ⟨6, by decide⟩ x (fun x => O (ix2 r ⟨768 + x.val, by have := x.isLt; omega⟩)) fun x => rfl)
  pointwise [k0_pay17, k0_pay18, k0_pay19]

theorem heada7 (O : FVec Ideal S256x1024 .f32) (r : Fin 256) (x : Fin 128) : (O (ix2 r ⟨896 + x.val, by have := x.isLt; omega⟩) * Ideal.rsqrt (Ideal.div (∑ x : Fin 128, (O (ix2 r ⟨896 + x.val, by have := x.isLt; omega⟩) : EReal) * O (ix2 r ⟨896 + x.val, by have := x.isLt; omega⟩)) (Ideal.ofBits .f32 0x43000000#32) + Ideal.ofBits .f32 0x358637BD#32) : EReal)
    = nrm (fun k => O (ix2 r k)) ⟨128 * (⟨7, by decide⟩ : Fin 8).val + x.val, by have := x.isLt; show 128 * 7 + x.val < 1024; omega⟩ := by
  refine Eq.trans ?_ (nrm_at (fun k => O (ix2 r k)) ⟨7, by decide⟩ x (fun x => O (ix2 r ⟨896 + x.val, by have := x.isLt; omega⟩)) fun x => rfl)
  rfl

theorem headb7 (O : FVec Ideal S256x1024 .f32) (r : Fin 256) (x : Fin 128) : (k0_pay42 (F := Ideal) O (ix2 r x) * Ideal.rsqrt (k0_pay43 (F := Ideal) O (ix2 r 0) + Ideal.ofBits .f32 0x358637BD#32) : EReal)
    = nrm (fun k => O (ix2 r k)) ⟨128 * (⟨7, by decide⟩ : Fin 8).val + x.val, by have := x.isLt; show 128 * 7 + x.val < 1024; omega⟩ := by
  refine Eq.trans ?_ (nrm_at (fun k => O (ix2 r k)) ⟨7, by decide⟩ x (fun x => O (ix2 r ⟨896 + x.val, by have := x.isLt; omega⟩)) fun x => rfl)
  pointwise [k0_pay42, k0_pay43]

/-- The recurrence branch's output, one block of rows. -/
abbrev yhga (O : FVec Ideal S256x1024 .f32) (Gt : FVec Ideal S256x1024 .bf16) (g : FVec Ideal S1x1024 .f32) (W : FVec Ideal S1024x1024 .bf16) : FVec Ideal S256x1024 .f32 :=
  k0_pay20 (F := Ideal) O (k0_pay5 Gt) g (k0_pay9 O) (k0_pay10 O) (k0_pay13 (k0_pay11 O) (k0_pay12 O)) (k0_pay14 O) (k0_pay15 O) (k0_pay16 O) (k0_pay17 O) (k0_pay18 O) (k0_pay19 (F := Ideal)) W

theorem yhga_at (O : FVec Ideal S256x1024 .f32) (Gt : FVec Ideal S256x1024 .bf16) (g : FVec Ideal S1x1024 .f32) (W : FVec Ideal S1024x1024 .bf16) (r : Fin 256) (j : Fin 1024) : (yhga O Gt g W (ix2 r j) : EReal)
    = ∑ k : Fin 1024, nrm (fun k => O (ix2 r k)) k * g (ix2 0 k) * (Gt (ix2 r k) * Ideal.logistic (Gt (ix2 r k))) * W (ix2 k j) := by
  pointwise [yhga, k0_pay20, k0_pay5]
  refine Finset.sum_congr rfl fun k _ => ?_
  refine congrArg (fun a : EReal => a * g (ix2 0 k) * (Gt (ix2 r k) * Ideal.logistic (Gt (ix2 r k))) * W (ix2 k j)) ?_
  by_cases n0 : k.val < 128
  · refine (dif_pos n0).trans ?_
    exact (heada0 O r ⟨k.val, by have := k.isLt; omega⟩).trans (congrArg (nrm fun k => O (ix2 r k)) (Fin.ext (show 128 * 0 + (k.val) = k.val by omega)))
  refine (dif_neg n0).trans ?_
  by_cases n1 : k.val - 128 < 128
  · refine (dif_pos n1).trans ?_
    exact (heada1 O r ⟨k.val - 128, by have := k.isLt; omega⟩).trans (congrArg (nrm fun k => O (ix2 r k)) (Fin.ext (show 128 * 1 + (k.val - 128) = k.val by omega)))
  refine (dif_neg n1).trans ?_
  by_cases n2 : k.val - 128 - 128 < 128
  · refine (dif_pos n2).trans ?_
    exact (heada2 O r ⟨k.val - 128 - 128, by have := k.isLt; omega⟩).trans (congrArg (nrm fun k => O (ix2 r k)) (Fin.ext (show 128 * 2 + (k.val - 128 - 128) = k.val by omega)))
  refine (dif_neg n2).trans ?_
  by_cases n3 : k.val - 128 - 128 - 128 < 128
  · refine (dif_pos n3).trans ?_
    exact (heada3 O r ⟨k.val - 128 - 128 - 128, by have := k.isLt; omega⟩).trans (congrArg (nrm fun k => O (ix2 r k)) (Fin.ext (show 128 * 3 + (k.val - 128 - 128 - 128) = k.val by omega)))
  refine (dif_neg n3).trans ?_
  by_cases n4 : k.val - 128 - 128 - 128 - 128 < 128
  · refine (dif_pos n4).trans ?_
    exact (heada4 O r ⟨k.val - 128 - 128 - 128 - 128, by have := k.isLt; omega⟩).trans (congrArg (nrm fun k => O (ix2 r k)) (Fin.ext (show 128 * 4 + (k.val - 128 - 128 - 128 - 128) = k.val by omega)))
  refine (dif_neg n4).trans ?_
  by_cases n5 : k.val - 128 - 128 - 128 - 128 - 128 < 128
  · refine (dif_pos n5).trans ?_
    exact (heada5 O r ⟨k.val - 128 - 128 - 128 - 128 - 128, by have := k.isLt; omega⟩).trans (congrArg (nrm fun k => O (ix2 r k)) (Fin.ext (show 128 * 5 + (k.val - 128 - 128 - 128 - 128 - 128) = k.val by omega)))
  refine (dif_neg n5).trans ?_
  by_cases n6 : k.val - 128 - 128 - 128 - 128 - 128 - 128 < 128
  · refine (dif_pos n6).trans ?_
    exact (heada6 O r ⟨k.val - 128 - 128 - 128 - 128 - 128 - 128, by have := k.isLt; omega⟩).trans (congrArg (nrm fun k => O (ix2 r k)) (Fin.ext (show 128 * 6 + (k.val - 128 - 128 - 128 - 128 - 128 - 128) = k.val by omega)))
  refine (dif_neg n6).trans ?_
  exact (heada7 O r ⟨k.val - 128 - 128 - 128 - 128 - 128 - 128 - 128, by have := k.isLt; omega⟩).trans (congrArg (nrm fun k => O (ix2 r k)) (Fin.ext (show 128 * 7 + (k.val - 128 - 128 - 128 - 128 - 128 - 128 - 128) = k.val by omega)))

/-- The recurrence branch's output, one block of rows. -/
abbrev yhgb (O : FVec Ideal S256x1024 .f32) (Gt : FVec Ideal S256x1024 .bf16) (g : FVec Ideal S1x1024 .f32) (W : FVec Ideal S1024x1024 .bf16) : FVec Ideal S256x1024 .f32 :=
  k0_pay44 (F := Ideal) (k0_pay29 Gt) g (k0_pay33 O) (k0_pay34 O) (k0_pay35 O) (k0_pay38 (k0_pay36 O) (k0_pay37 O)) (k0_pay39 O) (k0_pay40 O) (k0_pay41 O) (k0_pay42 O) (k0_pay43 O) (Scalar.ofBits .f32 0x358637BD#32) W

theorem yhgb_at (O : FVec Ideal S256x1024 .f32) (Gt : FVec Ideal S256x1024 .bf16) (g : FVec Ideal S1x1024 .f32) (W : FVec Ideal S1024x1024 .bf16) (r : Fin 256) (j : Fin 1024) : (yhgb O Gt g W (ix2 r j) : EReal)
    = ∑ k : Fin 1024, nrm (fun k => O (ix2 r k)) k * g (ix2 0 k) * (Gt (ix2 r k) * Ideal.logistic (Gt (ix2 r k))) * W (ix2 k j) := by
  pointwise [yhgb, k0_pay44, k0_pay29]
  refine Finset.sum_congr rfl fun k _ => ?_
  refine congrArg (fun a : EReal => a * g (ix2 0 k) * (Gt (ix2 r k) * Ideal.logistic (Gt (ix2 r k))) * W (ix2 k j)) ?_
  by_cases n0 : k.val < 128
  · refine (dif_pos n0).trans ?_
    exact (headb0 O r ⟨k.val, by have := k.isLt; omega⟩).trans (congrArg (nrm fun k => O (ix2 r k)) (Fin.ext (show 128 * 0 + (k.val) = k.val by omega)))
  refine (dif_neg n0).trans ?_
  by_cases n1 : k.val - 128 < 128
  · refine (dif_pos n1).trans ?_
    exact (headb1 O r ⟨k.val - 128, by have := k.isLt; omega⟩).trans (congrArg (nrm fun k => O (ix2 r k)) (Fin.ext (show 128 * 1 + (k.val - 128) = k.val by omega)))
  refine (dif_neg n1).trans ?_
  by_cases n2 : k.val - 128 - 128 < 128
  · refine (dif_pos n2).trans ?_
    exact (headb2 O r ⟨k.val - 128 - 128, by have := k.isLt; omega⟩).trans (congrArg (nrm fun k => O (ix2 r k)) (Fin.ext (show 128 * 2 + (k.val - 128 - 128) = k.val by omega)))
  refine (dif_neg n2).trans ?_
  by_cases n3 : k.val - 128 - 128 - 128 < 128
  · refine (dif_pos n3).trans ?_
    exact (headb3 O r ⟨k.val - 128 - 128 - 128, by have := k.isLt; omega⟩).trans (congrArg (nrm fun k => O (ix2 r k)) (Fin.ext (show 128 * 3 + (k.val - 128 - 128 - 128) = k.val by omega)))
  refine (dif_neg n3).trans ?_
  by_cases n4 : k.val - 128 - 128 - 128 - 128 < 128
  · refine (dif_pos n4).trans ?_
    exact (headb4 O r ⟨k.val - 128 - 128 - 128 - 128, by have := k.isLt; omega⟩).trans (congrArg (nrm fun k => O (ix2 r k)) (Fin.ext (show 128 * 4 + (k.val - 128 - 128 - 128 - 128) = k.val by omega)))
  refine (dif_neg n4).trans ?_
  by_cases n5 : k.val - 128 - 128 - 128 - 128 - 128 < 128
  · refine (dif_pos n5).trans ?_
    exact (headb5 O r ⟨k.val - 128 - 128 - 128 - 128 - 128, by have := k.isLt; omega⟩).trans (congrArg (nrm fun k => O (ix2 r k)) (Fin.ext (show 128 * 5 + (k.val - 128 - 128 - 128 - 128 - 128) = k.val by omega)))
  refine (dif_neg n5).trans ?_
  by_cases n6 : k.val - 128 - 128 - 128 - 128 - 128 - 128 < 128
  · refine (dif_pos n6).trans ?_
    exact (headb6 O r ⟨k.val - 128 - 128 - 128 - 128 - 128 - 128, by have := k.isLt; omega⟩).trans (congrArg (nrm fun k => O (ix2 r k)) (Fin.ext (show 128 * 6 + (k.val - 128 - 128 - 128 - 128 - 128 - 128) = k.val by omega)))
  refine (dif_neg n6).trans ?_
  exact (headb7 O r ⟨k.val - 128 - 128 - 128 - 128 - 128 - 128 - 128, by have := k.isLt; omega⟩).trans (congrArg (nrm fun k => O (ix2 r k)) (Fin.ext (show 128 * 7 + (k.val - 128 - 128 - 128 - 128 - 128 - 128 - 128) = k.val by omega)))

/-- The tanh gelu, as the reference groups it. -/
abbrev gel (x : EReal) : EReal :=
  x * (Ideal.ofBits .f32 0x3F000000#32 * (1 + Ideal.tanh (Ideal.ofBits .f32 0x3F4C422A#32 * (x + Ideal.ofBits .f32 0x3D372713#32 * (x * x * x)))))

theorem gel_eq (x : EReal) : Ideal.ofBits .f32 0x3F000000#32 * x * (1 + Ideal.tanh (Ideal.ofBits .f32 0x3F4C422A#32 * (x + Ideal.ofBits .f32 0x3D372713#32 * x * x * x)))
    = gel x := by
  have e : Ideal.ofBits .f32 0x3D372713#32 * x * x * x = Ideal.ofBits .f32 0x3D372713#32 * (x * x * x) := by
    rw [mul_assoc (G := EReal), mul_assoc (G := EReal), ← mul_assoc (G := EReal) x]
  rw [e, mul_comm (G := EReal) _ x, mul_assoc (G := EReal)]

theorem glua_at (Y : FVec Ideal S256x512 .f32) (W : FVec Ideal S512x1024 .bf16) (b : FVec Ideal S1x1024 .f32) (r : Fin 256) (j : Fin 1024) :
    (k0_pay23 (F := Ideal) (k0_pay21 Y W) (k0_pay22 b) (ix2 r j) : EReal) = (∑ k : Fin 512, gel (Y (ix2 r k)) * W (ix2 k j)) + b (ix2 0 j) := by
  pointwise [k0_pay23, k0_pay22, k0_pay21]
  simp only [gel_eq]

theorem glub_at (Y : FVec Ideal S256x512 .f32) (W : FVec Ideal S512x1024 .bf16) (b : FVec Ideal S1x1024 .f32) (r : Fin 256) (j : Fin 1024) :
    (k0_pay45 (F := Ideal) Y W b (ix2 r j) : EReal) = (∑ k : Fin 512, gel (Y (ix2 r k)) * W (ix2 k j)) + b (ix2 0 j) := by
  pointwise [k0_pay45]
  simp only [gel_eq]

theorem ysa_at (Z : FVec Ideal S256x512 .bf16) (Y : FVec Ideal S256x512 .f32) (W : FVec Ideal S512x1024 .bf16) (b : FVec Ideal S1x1024 .f32) (V : FVec Ideal S512x1024 .bf16) (r : Fin 256) (j : Fin 1024) :
    (k0_pay24 (F := Ideal) (k0_pay6 Z) (k0_pay21 Y W) (k0_pay22 b) V (ix2 r j) : EReal)
      = ∑ k : Fin 512, k0_pay23 (F := Ideal) (k0_pay21 Y W) (k0_pay22 b) (ix2 r ⟨k.val, by have := k.isLt; omega⟩) * Ideal.logistic (k0_pay23 (F := Ideal) (k0_pay21 Y W) (k0_pay22 b) (ix2 r ⟨512 + k.val, by have := k.isLt; omega⟩))
        * (Z (ix2 r k) * Ideal.logistic (Z (ix2 r k))) * V (ix2 k j) := by
  pointwise [k0_pay24, k0_pay6]

theorem ysb_at (Z : FVec Ideal S256x512 .bf16) (Y : FVec Ideal S256x512 .f32) (W : FVec Ideal S512x1024 .bf16) (b : FVec Ideal S1x1024 .f32) (V : FVec Ideal S512x1024 .bf16) (r : Fin 256) (j : Fin 1024) :
    (k0_pay46 (F := Ideal) Y (k0_pay30 Z) W b V (ix2 r j) : EReal)
      = ∑ k : Fin 512, k0_pay45 (F := Ideal) Y W b (ix2 r ⟨k.val, by have := k.isLt; omega⟩) * Ideal.logistic (k0_pay45 (F := Ideal) Y W b (ix2 r ⟨512 + k.val, by have := k.isLt; omega⟩))
        * (Z (ix2 r k) * Ideal.logistic (Z (ix2 r k))) * V (ix2 k j) := by
  pointwise [k0_pay46, k0_pay30]

theorem h1a_at (X : FVec Ideal S256x1024 .f32) (A B : FVec Ideal S256x1024 .bf16) (P : FVec Ideal S256x1024 .f32) (Z : FVec Ideal S256x512 .bf16) (T U : FVec Ideal S256x1024 .f32) (V : FVec Ideal S512x1024 .bf16) (W : FVec Ideal S1024x1024 .bf16) (r : Fin 256) (j : Fin 1024) :
    (k0_pay25 (F := Ideal) X (k0_pay6 Z) (k0_pay7 A) (k0_pay8 B) P T U V W (ix2 r j) : EReal)
      = X (ix2 r j) + ∑ k : Fin 1024, (Ideal.logistic (A (ix2 r k)) * P (ix2 r k) + Ideal.logistic (B (ix2 r k)) * k0_pay24 (F := Ideal) (k0_pay6 Z) T U V (ix2 r k)) * W (ix2 k j) := by
  pointwise [k0_pay25, k0_pay7, k0_pay8]

theorem h1b_at (X : FVec Ideal S256x1024 .f32) (A B : FVec Ideal S256x1024 .bf16) (O : FVec Ideal S256x1024 .f32) (Gt : FVec Ideal S256x1024 .bf16) (g : FVec Ideal S1x1024 .f32) (W' : FVec Ideal S1024x1024 .bf16) (Q : FVec Ideal S256x1024 .f32) (W : FVec Ideal S1024x1024 .bf16) (r : Fin 256) (j : Fin 1024) :
    (k0_pay1 (F := Ideal) X (k0_pay32 B) Q (k0_pay47 (k0_pay29 Gt) (k0_pay31 A) g (k0_pay33 O) (k0_pay34 O) (k0_pay35 O) (k0_pay38 (k0_pay36 O) (k0_pay37 O)) (k0_pay39 O) (k0_pay40 O) (k0_pay41 O) (k0_pay42 O) (k0_pay43 O) (Scalar.ofBits .f32 0x358637BD#32) W') W (ix2 r j) : EReal)
      = X (ix2 r j) + ∑ k : Fin 1024, (Ideal.logistic (A (ix2 r k)) * yhgb O Gt g W' (ix2 r k) + Ideal.logistic (B (ix2 r k)) * Q (ix2 r k)) * W (ix2 k j) := by
  pointwise [k0_pay1, k0_pay32, k0_pay47, k0_pay31]
  rfl

end Cert.BranchesIdeal.Value

end

end
-- ==== Proof.BrRef.lean ====
module

public import proofs.«01_k».proof.Proof.BrBase

@[expose] public section

set_option maxRecDepth 16384
noncomputable section
open Idealize.ShloMosaic Idealize.ShloMosaic.TcCoe Idealize.SL.Sem
open Idealize.ShloMosaic.Pipeline (Dat)
namespace Cert.BranchesIdeal.Value
open Cert.BranchesIdeal Cert.BranchesIdeal.Gen
open Cert.BranchesRefIdeal.Read
variable (m : (ℓ : Loc nD τ sig) → Buf (Elt Ideal) ℓ)

theorem log_eq (x : EReal) : Ideal.div 1 (1 + Ideal.exp (-x)) = Ideal.logistic x := rfl

/-- The reference's output of the recurrence branch. -/
theorem r30 (x0 : FVec Ideal S8192x1024 .f32) (x1 : FVec Ideal S8192x7168 .bf16) (x4 : FVec Ideal S1x1024 .f32) (x5 : FVec Ideal S1024x1024 .bf16) (R : Fin 8192) (j : Fin 1024) : (val_main_v30 (F := Ideal) x0 x1 x4 x5 (ix2 R j) : EReal)
    = ∑ k : Fin 1024, nrm (fun k => x0 (ix2 R k)) k * x4 (ix2 0 k) * (x1 (ix2 R ⟨3072 + k.val, by have := k.isLt; omega⟩) * Ideal.logistic (x1 (ix2 R ⟨3072 + k.val, by have := k.isLt; omega⟩))) * x5 (ix2 k j) := by
  pointwise [val_main_v30, val_main_v29, val_main_v28, val_main_call0_v5, val_main_call0_v4, val_main_call0_cst_0, val_main_call0_v3, val_main_call0_v2, val_main_call0_cst, val_main_call0_v1, val_main_call0_v0, val_main_v27, val_main_v26, val_main_v25, val_main_v24, val_main_v23, val_main_v22, val_main_v21, val_main_v20, val_main_v19, val_main_cst_1, val_main_v18, val_main_v17, val_main_cst_0, val_main_v16, val_main_v15, val_main_cst, val_main_v14, val_main_v13, val_main_v12, val_main_v5, val_main_v4, val_main_v0]
  have e : ∀ (x : Fin 1024) (y : Fin 128) (h), (⟨x.val / 128 * 128 + y.val, h⟩ : Fin 1024) = grp x y := fun x y h =>
    Fin.ext (show x.val / 128 * 128 + y.val = 128 * (x.val / 128) + y.val by omega)
  simp only [log_eq, nrm, e]

theorem r46 (x2 : FVec Ideal S8192x512 .f32) (x6 : FVec Ideal S512x1024 .bf16) (x7 : FVec Ideal S1x1024 .f32) (R : Fin 8192) (j : Fin 1024) : (val_main_v46 (F := Ideal) x2 x6 x7 (ix2 R j) : EReal)
    = (∑ k : Fin 512, gel (x2 (ix2 R k)) * x6 (ix2 k j)) + x7 (ix2 0 j) := by
  pointwise [val_main_v46, val_main_v45, val_main_v44, val_main_v43, val_main_v42, val_main_v41, val_main_cst_5, val_main_v40, val_main_v39, val_main_cst_4, val_main_v38, val_main_v37, val_main_v36, val_main_cst_3, val_main_v35, val_main_v34, val_main_v33, val_main_cst_2, val_main_v32, val_main_v31, val_main_v1]

theorem r58 (x1 : FVec Ideal S8192x7168 .bf16) (x2 : FVec Ideal S8192x512 .f32) (x6 : FVec Ideal S512x1024 .bf16) (x7 : FVec Ideal S1x1024 .f32) (x8 : FVec Ideal S512x1024 .bf16) (R : Fin 8192) (j : Fin 1024) : (val_main_v58 (F := Ideal) x1 x2 x6 x7 x8 (ix2 R j) : EReal)
    = ∑ k : Fin 512, val_main_v46 (F := Ideal) x2 x6 x7 (ix2 R ⟨k.val, by have := k.isLt; omega⟩) * Ideal.logistic (val_main_v46 (F := Ideal) x2 x6 x7 (ix2 R ⟨512 + k.val, by have := k.isLt; omega⟩))
        * (x1 (ix2 R ⟨4608 + k.val, by have := k.isLt; omega⟩) * Ideal.logistic (x1 (ix2 R ⟨4608 + k.val, by have := k.isLt; omega⟩))) * x8 (ix2 k j) := by
  pointwise [val_main_v58, val_main_v57, val_main_v56, val_main_call1_v5, val_main_call1_v4, val_main_call1_cst_0, val_main_call1_v3, val_main_call1_v2, val_main_call1_cst, val_main_call1_v1, val_main_call1_v0, val_main_v55, val_main_v54, val_main_v53, val_main_cst_7, val_main_v52, val_main_v51, val_main_cst_6, val_main_v50, val_main_v49, val_main_v48, val_main_v47, val_main_v7, val_main_v6, val_main_v2]
  simp only [log_eq]

theorem r75 (x0 : FVec Ideal S8192x1024 .f32) (x1 : FVec Ideal S8192x7168 .bf16) (x2 : FVec Ideal S8192x512 .f32) (x3 : FVec Ideal S8192x1024 .f32) (x4 : FVec Ideal S1x1024 .f32) (x5 : FVec Ideal S1024x1024 .bf16) (x6 : FVec Ideal S512x1024 .bf16) (x7 : FVec Ideal S1x1024 .f32) (x8 : FVec Ideal S512x1024 .bf16) (x9 : FVec Ideal S1024x1024 .bf16) (R : Fin 8192) (j : Fin 1024) : (val_main_v75 (F := Ideal) x0 x1 x2 x3 x4 x5 x6 x7 x8 x9 (ix2 R j) : EReal)
    = x3 (ix2 R j) + ∑ k : Fin 1024, (Ideal.logistic (x1 (ix2 R ⟨5120 + k.val, by have := k.isLt; omega⟩)) * val_main_v30 (F := Ideal) x0 x1 x4 x5 (ix2 R k)
        + Ideal.logistic (x1 (ix2 R ⟨6144 + k.val, by have := k.isLt; omega⟩)) * val_main_v58 (F := Ideal) x1 x2 x6 x7 x8 (ix2 R k)) * x9 (ix2 k j) := by
  pointwise [val_main_v75, val_main_v74, val_main_v73, val_main_v72, val_main_v71, val_main_v70, val_main_cst_11, val_main_v69, val_main_v68, val_main_cst_10, val_main_v67, val_main_v66, val_main_v65, val_main_v64, val_main_v63, val_main_cst_9, val_main_v62, val_main_v61, val_main_cst_8, val_main_v60, val_main_v59, val_main_v11, val_main_v10, val_main_v9, val_main_v8, val_main_v3]
  simp only [log_eq]

/-- The windows' index maps at every grid point. -/
theorem idx : ∀ t : Fin cfg0.N, win0_0.index t = ![t.val, 0] ∧ win0_1.index t = ![t.val, 3] ∧ win0_2.index t = ![t.val, 9]
    ∧ win0_3.index t = ![t.val, 5] ∧ win0_4.index t = ![t.val, 6] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0] ∧ win0_15.index t = ![t.val, 0] ∧ win0_16.index t = ![t.val, 0] :=
  (by decide +kernel : ∀ t : Fin grid0.N, _)

/-- A point of a grid's block of rows, as a row of the whole. -/
abbrev rowOf (t : Fin cfg0.N) (r : Fin 512) : Fin 8192 := ⟨512 * t.val + r.val, by have := t.isLt; have h : cfg0.N = 16 := N_0; have := r.isLt; omega⟩

theorem ina0 (c : Dev nD) (t : Fin cfg0.N) (r : Fin 256) (k : Fin 1024) : (View.ld (Val := Elt Ideal) (iblk m c 0 t) r0_0 (ix2 r k) : EReal)
    = m ((c : Thread nD τ).loc main_arg0) (ix2 (rowOf t ⟨0 + r.val, by have := r.isLt; omega⟩) k) := by
  blk_point [iblk, V, idx t]

theorem ina1 (c : Dev nD) (t : Fin cfg0.N) (r : Fin 256) (k : Fin 1024) : (View.ld (Val := Elt Ideal) (iblk m c 1 t) r0_0 (ix2 r k) : EReal)
    = m ((c : Thread nD τ).loc main_arg1) (ix2 (rowOf t ⟨0 + r.val, by have := r.isLt; omega⟩) ⟨3072 + k.val, by have := k.isLt; omega⟩) := by
  blk_point [iblk, V, idx t]

theorem ina2 (c : Dev nD) (t : Fin cfg0.N) (r : Fin 256) (k : Fin 512) : (View.ld (Val := Elt Ideal) (iblk m c 2 t) r0_1 (ix2 r k) : EReal)
    = m ((c : Thread nD τ).loc main_arg1) (ix2 (rowOf t ⟨0 + r.val, by have := r.isLt; omega⟩) ⟨4608 + k.val, by have := k.isLt; omega⟩) := by
  blk_point [iblk, V, idx t]

theorem ina3 (c : Dev nD) (t : Fin cfg0.N) (r : Fin 256) (k : Fin 1024) : (View.ld (Val := Elt Ideal) (iblk m c 3 t) r0_0 (ix2 r k) : EReal)
    = m ((c : Thread nD τ).loc main_arg1) (ix2 (rowOf t ⟨0 + r.val, by have := r.isLt; omega⟩) ⟨5120 + k.val, by have := k.isLt; omega⟩) := by
  blk_point [iblk, V, idx t]

theorem ina4 (c : Dev nD) (t : Fin cfg0.N) (r : Fin 256) (k : Fin 1024) : (View.ld (Val := Elt Ideal) (iblk m c 4 t) r0_0 (ix2 r k) : EReal)
    = m ((c : Thread nD τ).loc main_arg1) (ix2 (rowOf t ⟨0 + r.val, by have := r.isLt; omega⟩) ⟨6144 + k.val, by have := k.isLt; omega⟩) := by
  blk_point [iblk, V, idx t]

theorem ina5 (c : Dev nD) (t : Fin cfg0.N) (r : Fin 256) (k : Fin 512) : (View.ld (Val := Elt Ideal) (iblk m c 5 t) r0_1 (ix2 r k) : EReal)
    = m ((c : Thread nD τ).loc main_arg2) (ix2 (rowOf t ⟨0 + r.val, by have := r.isLt; omega⟩) k) := by
  blk_point [iblk, V, idx t]

theorem ina6 (c : Dev nD) (t : Fin cfg0.N) (r : Fin 256) (k : Fin 1024) : (View.ld (Val := Elt Ideal) (iblk m c 6 t) r0_0 (ix2 r k) : EReal)
    = m ((c : Thread nD τ).loc main_arg3) (ix2 (rowOf t ⟨0 + r.val, by have := r.isLt; omega⟩) k) := by
  blk_point [iblk, V, idx t]

theorem inb0 (c : Dev nD) (t : Fin cfg0.N) (r : Fin 256) (k : Fin 1024) : (View.ld (Val := Elt Ideal) (iblk m c 0 t) r0_5 (ix2 r k) : EReal)
    = m ((c : Thread nD τ).loc main_arg0) (ix2 (rowOf t ⟨256 + r.val, by have := r.isLt; omega⟩) k) := by
  blk_point [iblk, V, idx t]

theorem inb1 (c : Dev nD) (t : Fin cfg0.N) (r : Fin 256) (k : Fin 1024) : (View.ld (Val := Elt Ideal) (iblk m c 1 t) r0_5 (ix2 r k) : EReal)
    = m ((c : Thread nD τ).loc main_arg1) (ix2 (rowOf t ⟨256 + r.val, by have := r.isLt; omega⟩) ⟨3072 + k.val, by have := k.isLt; omega⟩) := by
  blk_point [iblk, V, idx t]

theorem inb2 (c : Dev nD) (t : Fin cfg0.N) (r : Fin 256) (k : Fin 512) : (View.ld (Val := Elt Ideal) (iblk m c 2 t) r0_6 (ix2 r k) : EReal)
    = m ((c : Thread nD τ).loc main_arg1) (ix2 (rowOf t ⟨256 + r.val, by have := r.isLt; omega⟩) ⟨4608 + k.val, by have := k.isLt; omega⟩) := by
  blk_point [iblk, V, idx t]

theorem inb3 (c : Dev nD) (t : Fin cfg0.N) (r : Fin 256) (k : Fin 1024) : (View.ld (Val := Elt Ideal) (iblk m c 3 t) r0_5 (ix2 r k) : EReal)
    = m ((c : Thread nD τ).loc main_arg1) (ix2 (rowOf t ⟨256 + r.val, by have := r.isLt; omega⟩) ⟨5120 + k.val, by have := k.isLt; omega⟩) := by
  blk_point [iblk, V, idx t]

theorem inb4 (c : Dev nD) (t : Fin cfg0.N) (r : Fin 256) (k : Fin 1024) : (View.ld (Val := Elt Ideal) (iblk m c 4 t) r0_5 (ix2 r k) : EReal)
    = m ((c : Thread nD τ).loc main_arg1) (ix2 (rowOf t ⟨256 + r.val, by have := r.isLt; omega⟩) ⟨6144 + k.val, by have := k.isLt; omega⟩) := by
  blk_point [iblk, V, idx t]

theorem inb5 (c : Dev nD) (t : Fin cfg0.N) (r : Fin 256) (k : Fin 512) : (View.ld (Val := Elt Ideal) (iblk m c 5 t) r0_6 (ix2 r k) : EReal)
    = m ((c : Thread nD τ).loc main_arg2) (ix2 (rowOf t ⟨256 + r.val, by have := r.isLt; omega⟩) k) := by
  blk_point [iblk, V, idx t]

theorem inb6 (c : Dev nD) (t : Fin cfg0.N) (r : Fin 256) (k : Fin 1024) : (View.ld (Val := Elt Ideal) (iblk m c 6 t) r0_5 (ix2 r k) : EReal)
    = m ((c : Thread nD τ).loc main_arg3) (ix2 (rowOf t ⟨256 + r.val, by have := r.isLt; omega⟩) k) := by
  blk_point [iblk, V, idx t]

theorem const7 (c : Dev nD) (t : Fin cfg0.N) : View.ld (Val := Elt Ideal) (iblk m c 7 t) r0_2 = m ((c : Thread nD τ).loc main_arg4) := by
  funext y
  obtain ⟨i, k, rfl⟩ : ∃ i k, y = ix2 i k := ⟨_, _, ValueIdx.eq_ix2 y⟩
  blk_point [iblk, V, idx t]

theorem const8 (c : Dev nD) (t : Fin cfg0.N) : View.ld (Val := Elt Ideal) (iblk m c 8 t) r0_3 = m ((c : Thread nD τ).loc main_arg5) := by
  funext y
  obtain ⟨i, k, rfl⟩ : ∃ i k, y = ix2 i k := ⟨_, _, ValueIdx.eq_ix2 y⟩
  blk_point [iblk, V, idx t]

theorem const9 (c : Dev nD) (t : Fin cfg0.N) : View.ld (Val := Elt Ideal) (iblk m c 9 t) r0_4 = m ((c : Thread nD τ).loc main_arg6) := by
  funext y
  obtain ⟨i, k, rfl⟩ : ∃ i k, y = ix2 i k := ⟨_, _, ValueIdx.eq_ix2 y⟩
  blk_point [iblk, V, idx t]

theorem const10 (c : Dev nD) (t : Fin cfg0.N) : View.ld (Val := Elt Ideal) (iblk m c 10 t) r0_2 = m ((c : Thread nD τ).loc main_arg7) := by
  funext y
  obtain ⟨i, k, rfl⟩ : ∃ i k, y = ix2 i k := ⟨_, _, ValueIdx.eq_ix2 y⟩
  blk_point [iblk, V, idx t]

theorem const11 (c : Dev nD) (t : Fin cfg0.N) : View.ld (Val := Elt Ideal) (iblk m c 11 t) r0_4 = m ((c : Thread nD τ).loc main_arg8) := by
  funext y
  obtain ⟨i, k, rfl⟩ : ∃ i k, y = ix2 i k := ⟨_, _, ValueIdx.eq_ix2 y⟩
  blk_point [iblk, V, idx t]

theorem const12 (c : Dev nD) (t : Fin cfg0.N) : View.ld (Val := Elt Ideal) (iblk m c 12 t) r0_3 = m ((c : Thread nD τ).loc main_arg9) := by
  funext y
  obtain ⟨i, k, rfl⟩ : ∃ i k, y = ix2 i k := ⟨_, _, ValueIdx.eq_ix2 y⟩
  blk_point [iblk, V, idx t]

end Cert.BranchesIdeal.Value

end

end
-- ==== Proof.BrOut.lean ====
module

public import proofs.«01_k».proof.Proof.BrRef

@[expose] public section

set_option maxRecDepth 16384
noncomputable section
open Idealize.ShloMosaic Idealize.ShloMosaic.TcCoe Idealize.SL.Sem
open Idealize.ShloMosaic.Pipeline (Dat)
namespace Cert.BranchesIdeal.Value
open Cert.BranchesIdeal Cert.BranchesIdeal.Gen
open Cert.BranchesRefIdeal.Read
variable (m : (ℓ : Loc nD τ sig) → Buf (Elt Ideal) ℓ)

theorem y30a (c : Dev nD) (t : Fin cfg0.N) (r : Fin 256) (j : Fin 1024) : (yhga (View.ld (Val := Elt Ideal) (iblk m c 0 t) r0_0) (View.ld (Val := Elt Ideal) (iblk m c 1 t) r0_0) (View.ld (Val := Elt Ideal) (iblk m c 7 t) r0_2) (View.ld (Val := Elt Ideal) (iblk m c 8 t) r0_3) (ix2 r j) : EReal) = val_main_v30 (F := Ideal) (m ((c : Thread nD τ).loc main_arg0)) (m ((c : Thread nD τ).loc main_arg1)) (m ((c : Thread nD τ).loc main_arg4)) (m ((c : Thread nD τ).loc main_arg5)) (ix2 (rowOf t ⟨0 + r.val, by have := r.isLt; omega⟩) j) := by
  rw [const7, const8, yhga_at, r30]
  simp only [ina0, ina1]

theorem y46a (c : Dev nD) (t : Fin cfg0.N) (r : Fin 256) (j : Fin 1024) : (k0_pay23 (F := Ideal) (k0_pay21 (View.ld (Val := Elt Ideal) (iblk m c 5 t) r0_1) (View.ld (Val := Elt Ideal) (iblk m c 9 t) r0_4)) (k0_pay22 (View.ld (Val := Elt Ideal) (iblk m c 10 t) r0_2)) (ix2 r j) : EReal) = val_main_v46 (F := Ideal) (m ((c : Thread nD τ).loc main_arg2)) (m ((c : Thread nD τ).loc main_arg6)) (m ((c : Thread nD τ).loc main_arg7)) (ix2 (rowOf t ⟨0 + r.val, by have := r.isLt; omega⟩) j) := by
  rw [const9, const10, glua_at, r46]
  simp only [ina5]

theorem y58a (c : Dev nD) (t : Fin cfg0.N) (r : Fin 256) (j : Fin 1024) : (k0_pay24 (F := Ideal) (k0_pay6 (View.ld (Val := Elt Ideal) (iblk m c 2 t) r0_1)) (k0_pay21 (View.ld (Val := Elt Ideal) (iblk m c 5 t) r0_1) (View.ld (Val := Elt Ideal) (iblk m c 9 t) r0_4)) (k0_pay22 (View.ld (Val := Elt Ideal) (iblk m c 10 t) r0_2)) (View.ld (Val := Elt Ideal) (iblk m c 11 t) r0_4) (ix2 r j) : EReal) = val_main_v58 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (ix2 (rowOf t ⟨0 + r.val, by have := r.isLt; omega⟩) j) := by
  rw [const11, ysa_at, r58]
  simp only [y46a, ina2]

theorem y75a (c : Dev nD) (t : Fin cfg0.N) (r : Fin 256) (j : Fin 1024) : (k0_pay25 (F := Ideal) (View.ld (Val := Elt Ideal) (iblk m c 6 t) r0_0) (k0_pay6 (View.ld (Val := Elt Ideal) (iblk m c 2 t) r0_1)) (k0_pay7 (View.ld (Val := Elt Ideal) (iblk m c 3 t) r0_0)) (k0_pay8 (View.ld (Val := Elt Ideal) (iblk m c 4 t) r0_0)) (yhga (View.ld (Val := Elt Ideal) (iblk m c 0 t) r0_0) (View.ld (Val := Elt Ideal) (iblk m c 1 t) r0_0) (View.ld (Val := Elt Ideal) (iblk m c 7 t) r0_2) (View.ld (Val := Elt Ideal) (iblk m c 8 t) r0_3)) (k0_pay21 (View.ld (Val := Elt Ideal) (iblk m c 5 t) r0_1) (View.ld (Val := Elt Ideal) (iblk m c 9 t) r0_4)) (k0_pay22 (View.ld (Val := Elt Ideal) (iblk m c 10 t) r0_2)) (View.ld (Val := Elt Ideal) (iblk m c 11 t) r0_4) (View.ld (Val := Elt Ideal) (iblk m c 12 t) r0_3) (ix2 r j) : EReal) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (rowOf t ⟨0 + r.val, by have := r.isLt; omega⟩) j) := by
  rw [const12, h1a_at, r75]
  simp only [y30a, y58a, ina3, ina4, ina6]

theorem y30b (c : Dev nD) (t : Fin cfg0.N) (r : Fin 256) (j : Fin 1024) : (yhgb (View.ld (Val := Elt Ideal) (iblk m c 0 t) r0_5) (View.ld (Val := Elt Ideal) (iblk m c 1 t) r0_5) (View.ld (Val := Elt Ideal) (iblk m c 7 t) r0_2) (View.ld (Val := Elt Ideal) (iblk m c 8 t) r0_3) (ix2 r j) : EReal) = val_main_v30 (F := Ideal) (m ((c : Thread nD τ).loc main_arg0)) (m ((c : Thread nD τ).loc main_arg1)) (m ((c : Thread nD τ).loc main_arg4)) (m ((c : Thread nD τ).loc main_arg5)) (ix2 (rowOf t ⟨256 + r.val, by have := r.isLt; omega⟩) j) := by
  rw [const7, const8, yhgb_at, r30]
  simp only [inb0, inb1]

theorem y46b (c : Dev nD) (t : Fin cfg0.N) (r : Fin 256) (j : Fin 1024) : (k0_pay45 (F := Ideal) (View.ld (Val := Elt Ideal) (iblk m c 5 t) r0_6) (View.ld (Val := Elt Ideal) (iblk m c 9 t) r0_4) (View.ld (Val := Elt Ideal) (iblk m c 10 t) r0_2) (ix2 r j) : EReal) = val_main_v46 (F := Ideal) (m ((c : Thread nD τ).loc main_arg2)) (m ((c : Thread nD τ).loc main_arg6)) (m ((c : Thread nD τ).loc main_arg7)) (ix2 (rowOf t ⟨256 + r.val, by have := r.isLt; omega⟩) j) := by
  rw [const9, const10, glub_at, r46]
  simp only [inb5]

theorem y58b (c : Dev nD) (t : Fin cfg0.N) (r : Fin 256) (j : Fin 1024) : (k0_pay46 (F := Ideal) (View.ld (Val := Elt Ideal) (iblk m c 5 t) r0_6) (k0_pay30 (View.ld (Val := Elt Ideal) (iblk m c 2 t) r0_6)) (View.ld (Val := Elt Ideal) (iblk m c 9 t) r0_4) (View.ld (Val := Elt Ideal) (iblk m c 10 t) r0_2) (View.ld (Val := Elt Ideal) (iblk m c 11 t) r0_4) (ix2 r j) : EReal) = val_main_v58 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (ix2 (rowOf t ⟨256 + r.val, by have := r.isLt; omega⟩) j) := by
  rw [const11, ysb_at, r58]
  simp only [y46b, inb2]

theorem y75b (c : Dev nD) (t : Fin cfg0.N) (r : Fin 256) (j : Fin 1024) : (k0_pay1 (F := Ideal) (View.ld (Val := Elt Ideal) (iblk m c 6 t) r0_5) (k0_pay32 (View.ld (Val := Elt Ideal) (iblk m c 4 t) r0_5)) (k0_pay46 (F := Ideal) (View.ld (Val := Elt Ideal) (iblk m c 5 t) r0_6) (k0_pay30 (View.ld (Val := Elt Ideal) (iblk m c 2 t) r0_6)) (View.ld (Val := Elt Ideal) (iblk m c 9 t) r0_4) (View.ld (Val := Elt Ideal) (iblk m c 10 t) r0_2) (View.ld (Val := Elt Ideal) (iblk m c 11 t) r0_4)) (k0_pay47 (k0_pay29 (View.ld (Val := Elt Ideal) (iblk m c 1 t) r0_5)) (k0_pay31 (View.ld (Val := Elt Ideal) (iblk m c 3 t) r0_5)) (View.ld (Val := Elt Ideal) (iblk m c 7 t) r0_2) (k0_pay33 (View.ld (Val := Elt Ideal) (iblk m c 0 t) r0_5)) (k0_pay34 (View.ld (Val := Elt Ideal) (iblk m c 0 t) r0_5)) (k0_pay35 (View.ld (Val := Elt Ideal) (iblk m c 0 t) r0_5)) (k0_pay38 (k0_pay36 (View.ld (Val := Elt Ideal) (iblk m c 0 t) r0_5)) (k0_pay37 (View.ld (Val := Elt Ideal) (iblk m c 0 t) r0_5))) (k0_pay39 (View.ld (Val := Elt Ideal) (iblk m c 0 t) r0_5)) (k0_pay40 (View.ld (Val := Elt Ideal) (iblk m c 0 t) r0_5)) (k0_pay41 (View.ld (Val := Elt Ideal) (iblk m c 0 t) r0_5)) (k0_pay42 (View.ld (Val := Elt Ideal) (iblk m c 0 t) r0_5)) (k0_pay43 (View.ld (Val := Elt Ideal) (iblk m c 0 t) r0_5)) (Scalar.ofBits .f32 0x358637BD#32) (View.ld (Val := Elt Ideal) (iblk m c 8 t) r0_3)) (View.ld (Val := Elt Ideal) (iblk m c 12 t) r0_3) (ix2 r j) : EReal) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (rowOf t ⟨256 + r.val, by have := r.isLt; omega⟩) j) := by
  rw [const12, h1b_at, r75]
  simp only [y30b, y58b, inb3, inb4, inb6]

/-- Window 13 after the run is the recurrence branch's output. -/
theorem final13 (c : Dev nD) : (dats m 0 c).arrAt 13 (cfgs 0).N = val_main_v76 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 13 _ (by decide +kernel) fun t _ y => ?_
  blk_simp
  rw [after0_13]
  refine Eq.trans (b := (val_main_v30 (F := Ideal) (m ((c : Thread nD τ).loc main_arg0)) (m ((c : Thread nD τ).loc main_arg1)) (m ((c : Thread nD τ).loc main_arg4)) (m ((c : Thread nD τ).loc main_arg5)) (ix2 (rowOf t (y 0)) (y 1)) : EReal)) ?_ ?_
  swap
  · pointwise [val_main_v76]
    generalize val_main_v30 (F := Ideal) (m ((c : Thread nD τ).loc main_arg0)) (m ((c : Thread nD τ).loc main_arg1)) (m ((c : Thread nD τ).loc main_arg4)) (m ((c : Thread nD τ).loc main_arg5)) = Q
    blk_ext! [idx t]
  refine (congrArg _ (ValueIdx.eq_ix2 y)).trans ?_
  generalize y 0 = r, y 1 = k
  unfold_out out0_13
  canon_tiles x h
  case piece1 =>
    have h0' : r.val = (x 0).val := h0
    have h1' : k.val = (x 1).val := h1
    refine Eq.trans (b := _) ?_ ((y30a m c t (x 0) (x 1)).trans (congrArg _ (congrArg₂ ix2 (congrArg (rowOf t) (Fin.ext ?_)) (Fin.ext ?_))))
    · exact congrArg _ (ValueIdx.eq_ix2 x)
    · show 0 + (x 0).val = r.val
      omega
    · exact h1'.symm
  case piece0 =>
    have h0' : r.val = 256 + (x 0).val := h0
    have h1' : k.val = (x 1).val := h1
    refine Eq.trans (b := _) ?_ ((y30b m c t (x 0) (x 1)).trans (congrArg _ (congrArg₂ ix2 (congrArg (rowOf t) (Fin.ext ?_)) (Fin.ext ?_))))
    · exact congrArg _ (ValueIdx.eq_ix2 x)
    · exact h0'.symm
    · exact h1'.symm

/-- Window 14 after the run is the second branch's output. -/
theorem final14 (c : Dev nD) : (dats m 0 c).arrAt 14 (cfgs 0).N = val_main_v77 (F := Ideal) (m ((c : Thread nD τ).loc main_arg1)) (m ((c : Thread nD τ).loc main_arg2)) (m ((c : Thread nD τ).loc main_arg6)) (m ((c : Thread nD τ).loc main_arg7)) (m ((c : Thread nD τ).loc main_arg8)) := by
  refine (dats m 0 c).arrAt_eq_of_covers 14 _ (by decide +kernel) fun t _ y => ?_
  blk_simp
  rw [after0_14]
  refine Eq.trans (b := (val_main_v58 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (ix2 (rowOf t (y 0)) (y 1)) : EReal)) ?_ ?_
  swap
  · pointwise [val_main_v77]
    generalize val_main_v58 (F := Ideal) (m ((c : Thread nD τ).loc main_arg1)) (m ((c : Thread nD τ).loc main_arg2)) (m ((c : Thread nD τ).loc main_arg6)) (m ((c : Thread nD τ).loc main_arg7)) (m ((c : Thread nD τ).loc main_arg8)) = Q
    blk_ext! [idx t]
  refine (congrArg _ (ValueIdx.eq_ix2 y)).trans ?_
  generalize y 0 = r, y 1 = k
  unfold_out out0_14
  canon_tiles x h
  case piece1 =>
    have h0' : r.val = (x 0).val := h0
    have h1' : k.val = (x 1).val := h1
    refine Eq.trans (b := _) ?_ ((y58a m c t (x 0) (x 1)).trans (congrArg _ (congrArg₂ ix2 (congrArg (rowOf t) (Fin.ext ?_)) (Fin.ext ?_))))
    · exact congrArg _ (ValueIdx.eq_ix2 x)
    · show 0 + (x 0).val = r.val
      omega
    · exact h1'.symm
  case piece0 =>
    have h0' : r.val = 256 + (x 0).val := h0
    have h1' : k.val = (x 1).val := h1
    refine Eq.trans (b := _) ?_ ((y58b m c t (x 0) (x 1)).trans (congrArg _ (congrArg₂ ix2 (congrArg (rowOf t) (Fin.ext ?_)) (Fin.ext ?_))))
    · exact congrArg _ (ValueIdx.eq_ix2 x)
    · exact h0'.symm
    · exact h1'.symm

/-- Window 15 after the run is the gated unit's argument. -/
theorem final15 (c : Dev nD) : (dats m 0 c).arrAt 15 (cfgs 0).N = val_main_v78 (F := Ideal) (m ((c : Thread nD τ).loc main_arg2)) (m ((c : Thread nD τ).loc main_arg6)) (m ((c : Thread nD τ).loc main_arg7)) := by
  refine (dats m 0 c).arrAt_eq_of_covers 15 _ (by decide +kernel) fun t _ y => ?_
  blk_simp
  rw [after0_15]
  refine Eq.trans (b := (val_main_v46 (F := Ideal) (m ((c : Thread nD τ).loc main_arg2)) (m ((c : Thread nD τ).loc main_arg6)) (m ((c : Thread nD τ).loc main_arg7)) (ix2 (rowOf t (y 0)) (y 1)) : EReal)) ?_ ?_
  swap
  · pointwise [val_main_v78]
    generalize val_main_v46 (F := Ideal) (m ((c : Thread nD τ).loc main_arg2)) (m ((c : Thread nD τ).loc main_arg6)) (m ((c : Thread nD τ).loc main_arg7)) = Q
    blk_ext! [idx t]
  refine (congrArg _ (ValueIdx.eq_ix2 y)).trans ?_
  generalize y 0 = r, y 1 = k
  unfold_out out0_15
  canon_tiles x h
  case piece1 =>
    have h0' : r.val = (x 0).val := h0
    have h1' : k.val = (x 1).val := h1
    refine Eq.trans (b := _) ?_ ((y46a m c t (x 0) (x 1)).trans (congrArg _ (congrArg₂ ix2 (congrArg (rowOf t) (Fin.ext ?_)) (Fin.ext ?_))))
    · exact congrArg _ (ValueIdx.eq_ix2 x)
    · show 0 + (x 0).val = r.val
      omega
    · exact h1'.symm
  case piece0 =>
    have h0' : r.val = 256 + (x 0).val := h0
    have h1' : k.val = (x 1).val := h1
    refine Eq.trans (b := _) ?_ ((y46b m c t (x 0) (x 1)).trans (congrArg _ (congrArg₂ ix2 (congrArg (rowOf t) (Fin.ext ?_)) (Fin.ext ?_))))
    · exact congrArg _ (ValueIdx.eq_ix2 x)
    · exact h0'.symm
    · exact h1'.symm

/-- Window 16 after the run is the residual stream. -/
theorem final16 (c : Dev nD) : (dats m 0 c).arrAt 16 (cfgs 0).N = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 16 _ (by decide +kernel) fun t _ y => ?_
  blk_simp
  rw [after0_16]
  refine Eq.trans (b := (val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (rowOf t (y 0)) (y 1)) : EReal)) ?_ ?_
  swap
  · generalize val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = Q
    blk_ext! [idx t]
  refine (congrArg _ (ValueIdx.eq_ix2 y)).trans ?_
  generalize y 0 = r, y 1 = k
  unfold_out out0_16
  canon_tiles x h
  case piece1 =>
    have h0' : r.val = (x 0).val := h0
    have h1' : k.val = (x 1).val := h1
    refine Eq.trans (b := _) ?_ ((y75a m c t (x 0) (x 1)).trans (congrArg _ (congrArg₂ ix2 (congrArg (rowOf t) (Fin.ext ?_)) (Fin.ext ?_))))
    · exact congrArg _ (ValueIdx.eq_ix2 x)
    · show 0 + (x 0).val = r.val
      omega
    · exact h1'.symm
  case piece0 =>
    have h0' : r.val = 256 + (x 0).val := h0
    have h1' : k.val = (x 1).val := h1
    refine Eq.trans (b := _) ?_ ((y75b m c t (x 0) (x 1)).trans (congrArg _ (congrArg₂ ix2 (congrArg (rowOf t) (Fin.ext ?_)) (Fin.ext ?_))))
    · exact congrArg _ (ValueIdx.eq_ix2 x)
    · exact h0'.symm
    · exact h1'.symm

end Cert.BranchesIdeal.Value

end

end
-- ==== Proof.BranchesClaim.lean ====
module

public import proofs.«01_k».proof.Defs
public import proofs.«01_k».proof.Proof.Gen.Branches
public import proofs.«01_k».proof.Proof.Gen.BranchesRefIdeal.Run
public import proofs.«01_k».proof.Proof.BrOut
public import Idealize.ShloMosaic.Lib.Claim

@[expose] public section

set_option maxRecDepth 16384
noncomputable section
open Idealize.ShloMosaic Idealize.ShloMosaic.TcCoe Idealize.SL.Sem
namespace Cert.BranchesIdeal.Value
open Cert.BranchesRefIdeal.Read
attribute [local instance] Cert.BranchesIdeal.Gen.facts Cert.BranchesRefIdeal.Gen.facts

/-- The forward kernel of the two branches computes the reference's outputs. -/
theorem algebraic : Cert.algebraic_BranchesIdeal_BranchesRefIdeal := by
  pair_intro
  · run_from Cert.BranchesIdeal.Value.run_blocks m g
  · refine (θ_run Cert.BranchesRefIdeal.defs _ _).mono (fun r h c => ⟨(h c).1.trans ((Cert.BranchesRefIdeal.Read.val_main_v76_eq _ _ _ _).trans ?_), (h c).2.1.trans ((Cert.BranchesRefIdeal.Read.val_main_v77_eq _ _ _ _ _).trans ?_), (h c).2.2.1.trans ((Cert.BranchesRefIdeal.Read.val_main_v78_eq _ _ _).trans ?_), (h c).2.2.2.1.trans ((Cert.BranchesRefIdeal.Read.val_main_v75_eq m' c).trans ?_), (h c).2.2.2.2⟩) (Cert.BranchesRefIdeal.Value.run (F := Ideal) m' g')
    all_goals obtain ⟨h0, h1, h2, h3, h4, h5, h6, h7, h8, h9⟩ := hagree c
    · rw [h0, h1, h4, h5]
      exact (final13 m c).symm
    · rw [h1, h2, h6, h7, h8]
      exact (final14 m c).symm
    · rw [h2, h6, h7]
      exact (final15 m c).symm
    · rw [h0, h1, h2, h3, h4, h5, h6, h7, h8, h9]
      exact (final16 m c).symm

end Cert.BranchesIdeal.Value

end

end
-- ==== Proof.AdamClaim.lean ====
module

public import proofs.«01_k».proof.Defs
public import proofs.«01_k».proof.Proof.Gen.Adam
public import proofs.«01_k».proof.Proof.Gen.AdamIdeal.Value
public import proofs.«01_k».proof.Proof.Gen.AdamRefIdeal.Read
public import proofs.«01_k».proof.Proof.Gen.AdamRefIdeal.Run
public import Idealize.ShloMosaic.Lib.Claim

@[expose] public section

set_option maxRecDepth 16384
noncomputable section
open Idealize.ShloMosaic Idealize.ShloMosaic.TcCoe Idealize.SL.Sem
namespace Cert.AdamIdeal.Value
attribute [local instance] Cert.AdamIdeal.Gen.facts Cert.AdamRefIdeal.Gen.facts

/-- The optimiser's kernel computes the reference's step and moments. -/
theorem algebraic : Cert.algebraic_AdamIdeal_AdamRefIdeal := by
  pair_intro
  · run_from Cert.AdamIdeal.Value.run_blocks m g
  · run_from Cert.AdamRefIdeal.Value.run m' g'
    · exact (final4 (F := Ideal) m c).symm
    · exact (final5 (F := Ideal) m c).symm
    · exact (final6 (F := Ideal) m c).symm
end Cert.AdamIdeal.Value

end

end
-- ==== Proof.AdamRowClaim.lean ====
module

public import proofs.«01_k».proof.Defs
public import proofs.«01_k».proof.Proof.Gen.AdamRow
public import proofs.«01_k».proof.Proof.Gen.AdamRowIdeal.Value
public import proofs.«01_k».proof.Proof.Gen.AdamRowRefIdeal.Read
public import proofs.«01_k».proof.Proof.Gen.AdamRowRefIdeal.Run
public import Idealize.ShloMosaic.Lib.Claim

@[expose] public section

set_option maxRecDepth 16384
noncomputable section
open Idealize.ShloMosaic Idealize.ShloMosaic.TcCoe Idealize.SL.Sem
namespace Cert.AdamRowIdeal.Value
attribute [local instance] Cert.AdamRowIdeal.Gen.facts Cert.AdamRowRefIdeal.Gen.facts

/-- The optimiser's kernel computes the reference's step and moments. -/
theorem algebraic : Cert.algebraic_AdamRowIdeal_AdamRowRefIdeal := by
  pair_intro
  · run_from Cert.AdamRowIdeal.Value.run_blocks m g
  · run_from Cert.AdamRowRefIdeal.Value.run m' g'
    · exact (final4 (F := Ideal) m c).symm
    · exact (final5 (F := Ideal) m c).symm
    · exact (final6 (F := Ideal) m c).symm
end Cert.AdamRowIdeal.Value

end

end
-- ==== Proof.AdamColClaim.lean ====
module

public import proofs.«01_k».proof.Defs
public import proofs.«01_k».proof.Proof.Gen.AdamCol
public import proofs.«01_k».proof.Proof.Gen.AdamColIdeal.Value
public import proofs.«01_k».proof.Proof.Gen.AdamColRefIdeal.Read
public import proofs.«01_k».proof.Proof.Gen.AdamColRefIdeal.Run
public import Idealize.ShloMosaic.Lib.Claim

@[expose] public section

set_option maxRecDepth 16384
noncomputable section
open Idealize.ShloMosaic Idealize.ShloMosaic.TcCoe Idealize.SL.Sem
namespace Cert.AdamColIdeal.Value
attribute [local instance] Cert.AdamColIdeal.Gen.facts Cert.AdamColRefIdeal.Gen.facts

/-- The optimiser's kernel computes the reference's step and moments. -/
theorem algebraic : Cert.algebraic_AdamColIdeal_AdamColRefIdeal := by
  pair_intro
  · run_from Cert.AdamColIdeal.Value.run_blocks m g
  · run_from Cert.AdamColRefIdeal.Value.run m' g'
    · exact (final4 (F := Ideal) m c).symm
    · exact (final5 (F := Ideal) m c).symm
    · exact (final6 (F := Ideal) m c).symm
end Cert.AdamColIdeal.Value

end

end
-- ==== Proof.AdamEmbClaim.lean ====
module

public import proofs.«01_k».proof.Defs
public import proofs.«01_k».proof.Proof.Gen.AdamEmb
public import proofs.«01_k».proof.Proof.Gen.AdamEmbIdeal.Value
public import proofs.«01_k».proof.Proof.Gen.AdamEmbRefIdeal.Read
public import proofs.«01_k».proof.Proof.Gen.AdamEmbRefIdeal.Run
public import Idealize.ShloMosaic.Lib.Claim

@[expose] public section

set_option maxRecDepth 16384
noncomputable section
open Idealize.ShloMosaic Idealize.ShloMosaic.TcCoe Idealize.SL.Sem
namespace Cert.AdamEmbIdeal.Value
attribute [local instance] Cert.AdamEmbIdeal.Gen.facts Cert.AdamEmbRefIdeal.Gen.facts

/-- The optimiser's kernel computes the reference's step and moments. -/
theorem algebraic : Cert.algebraic_AdamEmbIdeal_AdamEmbRefIdeal := by
  pair_intro
  · run_from Cert.AdamEmbIdeal.Value.run_blocks m g
  · run_from Cert.AdamEmbRefIdeal.Value.run m' g'
    · exact (final4 (F := Ideal) m c).symm
    · exact (final5 (F := Ideal) m c).symm
    · exact (final6 (F := Ideal) m c).symm
end Cert.AdamEmbIdeal.Value

end

end
-- ==== Proof.AdamSmallClaim.lean ====
module

public import proofs.«01_k».proof.Defs
public import proofs.«01_k».proof.Proof.Gen.AdamSmall
public import proofs.«01_k».proof.Proof.Gen.AdamSmallIdeal.Value
public import proofs.«01_k».proof.Proof.Gen.AdamSmallRefIdeal.Read
public import proofs.«01_k».proof.Proof.Gen.AdamSmallRefIdeal.Run
public import Idealize.ShloMosaic.Lib.Claim

@[expose] public section

set_option maxRecDepth 16384
noncomputable section
open Idealize.ShloMosaic Idealize.ShloMosaic.TcCoe Idealize.SL.Sem
namespace Cert.AdamSmallIdeal.Value
attribute [local instance] Cert.AdamSmallIdeal.Gen.facts Cert.AdamSmallRefIdeal.Gen.facts

/-- The optimiser's kernel computes the reference's step and moments. -/
theorem algebraic : Cert.algebraic_AdamSmallIdeal_AdamSmallRefIdeal := by
  pair_intro
  · run_from Cert.AdamSmallIdeal.Value.run_blocks m g
  · run_from Cert.AdamSmallRefIdeal.Value.run m' g'
    · exact (final4 (F := Ideal) m c).symm
    · exact (final5 (F := Ideal) m c).symm
    · exact (final6 (F := Ideal) m c).symm
end Cert.AdamSmallIdeal.Value

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.KernelIdeal.Value
public import proofs.«01_k».proof.Proof.Gen.MergeIdeal.Value
public import proofs.«01_k».proof.Proof.Gen.ReferenceIdeal.Run
public import proofs.«01_k».proof.Proof.Gen.ReferenceIdeal.Read
public import proofs.«01_k».proof.Proof.Gen.MergeRefIdeal.Run
public import proofs.«01_k».proof.Proof.Gen.MergeRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.HgPath
public import proofs.«01_k».proof.Proof.Gen.HgPath.Skeleton
public import proofs.«01_k».proof.Proof.Gen.HgPath.Launch
public import proofs.«01_k».proof.Proof.Gen.HgPath.Points
public import proofs.«01_k».proof.Proof.Gen.HgPath.Frame
public import proofs.«01_k».proof.Proof.Gen.HgPathIdeal
public import proofs.«01_k».proof.Proof.Gen.HgPathIdeal.Skeleton
public import proofs.«01_k».proof.Proof.Gen.HgPathIdeal.Launch
public import proofs.«01_k».proof.Proof.Gen.HgPathIdeal.Points
public import proofs.«01_k».proof.Proof.Gen.HgPathIdeal.Frame
public import proofs.«01_k».proof.Proof.Gen.HgPathIdeal.Value
public import proofs.«01_k».proof.Proof.Gen.HgPathRefIdeal
public import proofs.«01_k».proof.Proof.Gen.HgPathRefIdeal.Run
public import proofs.«01_k».proof.Proof.Gen.HgPathRefIdeal.Read
public import proofs.«01_k».proof.Proof.Gen.S5Path
public import proofs.«01_k».proof.Proof.Gen.S5Path.Skeleton
public import proofs.«01_k».proof.Proof.Gen.S5Path.Launch
public import proofs.«01_k».proof.Proof.Gen.S5Path.Points
public import proofs.«01_k».proof.Proof.Gen.S5Path.Frame
public import proofs.«01_k».proof.Proof.Gen.S5PathIdeal
public import proofs.«01_k».proof.Proof.Gen.S5PathIdeal.Skeleton
public import proofs.«01_k».proof.Proof.Gen.S5PathIdeal.Launch
public import proofs.«01_k».proof.Proof.Gen.S5PathIdeal.Points
public import proofs.«01_k».proof.Proof.Gen.S5PathIdeal.Frame
public import proofs.«01_k».proof.Proof.Gen.S5PathIdeal.Value
public import proofs.«01_k».proof.Proof.Gen.S5PathRefIdeal
public import proofs.«01_k».proof.Proof.Gen.S5PathRefIdeal.Run
public import proofs.«01_k».proof.Proof.Gen.S5PathRefIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.Branches
public import proofs.«01_k».proof.Proof.Gen.Branches.Skeleton
public import proofs.«01_k».proof.Proof.Gen.Branches.Launch
public import proofs.«01_k».proof.Proof.Gen.Branches.Points
public import proofs.«01_k».proof.Proof.Gen.Branches.Frame
public import proofs.«01_k».proof.Proof.Gen.BranchesIdeal
public import proofs.«01_k».proof.Proof.Gen.BranchesIdeal.Skeleton
public import proofs.«01_k».proof.Proof.Gen.BranchesIdeal.Launch
public import proofs.«01_k».proof.Proof.Gen.BranchesIdeal.Points
public import proofs.«01_k».proof.Proof.Gen.BranchesIdeal.Frame
public import proofs.«01_k».proof.Proof.Gen.BranchesIdeal.Value
public import proofs.«01_k».proof.Proof.Gen.BranchesRefIdeal
public import proofs.«01_k».proof.Proof.Gen.BranchesRefIdeal.Run
public import proofs.«01_k».proof.Proof.Gen.BranchesRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.AdamRow
public import proofs.«01_k».proof.Proof.Gen.AdamRow.Skeleton
public import proofs.«01_k».proof.Proof.Gen.AdamRow.Launch
public import proofs.«01_k».proof.Proof.Gen.AdamRow.Points
public import proofs.«01_k».proof.Proof.Gen.AdamRow.Frame
public import proofs.«01_k».proof.Proof.Gen.AdamRowIdeal
public import proofs.«01_k».proof.Proof.Gen.AdamRowIdeal.Skeleton
public import proofs.«01_k».proof.Proof.Gen.AdamRowIdeal.Launch
public import proofs.«01_k».proof.Proof.Gen.AdamRowIdeal.Points
public import proofs.«01_k».proof.Proof.Gen.AdamRowIdeal.Frame
public import proofs.«01_k».proof.Proof.Gen.AdamRowIdeal.Value
public import proofs.«01_k».proof.Proof.Gen.AdamRowRefIdeal
public import proofs.«01_k».proof.Proof.Gen.AdamRowRefIdeal.Run
public import proofs.«01_k».proof.Proof.Gen.AdamRowRefIdeal.Read
public import proofs.«01_k».proof.Proof.Gen.AdamCol
public import proofs.«01_k».proof.Proof.Gen.AdamCol.Skeleton
public import proofs.«01_k».proof.Proof.Gen.AdamCol.Launch
public import proofs.«01_k».proof.Proof.Gen.AdamCol.Points
public import proofs.«01_k».proof.Proof.Gen.AdamCol.Frame
public import proofs.«01_k».proof.Proof.Gen.AdamColIdeal
public import proofs.«01_k».proof.Proof.Gen.AdamColIdeal.Skeleton
public import proofs.«01_k».proof.Proof.Gen.AdamColIdeal.Launch
public import proofs.«01_k».proof.Proof.Gen.AdamColIdeal.Points
public import proofs.«01_k».proof.Proof.Gen.AdamColIdeal.Frame
public import proofs.«01_k».proof.Proof.Gen.AdamColIdeal.Value
public import proofs.«01_k».proof.Proof.Gen.AdamColRefIdeal
public import proofs.«01_k».proof.Proof.Gen.AdamColRefIdeal.Run
public import proofs.«01_k».proof.Proof.Gen.AdamColRefIdeal.Read
public import proofs.«01_k».proof.Proof.Gen.AdamEmb
public import proofs.«01_k».proof.Proof.Gen.AdamEmb.Skeleton
public import proofs.«01_k».proof.Proof.Gen.AdamEmb.Launch
public import proofs.«01_k».proof.Proof.Gen.AdamEmb.Points
public import proofs.«01_k».proof.Proof.Gen.AdamEmb.Frame
public import proofs.«01_k».proof.Proof.Gen.AdamEmbIdeal
public import proofs.«01_k».proof.Proof.Gen.AdamEmbIdeal.Skeleton
public import proofs.«01_k».proof.Proof.Gen.AdamEmbIdeal.Launch
public import proofs.«01_k».proof.Proof.Gen.AdamEmbIdeal.Points
public import proofs.«01_k».proof.Proof.Gen.AdamEmbIdeal.Frame
public import proofs.«01_k».proof.Proof.Gen.AdamEmbIdeal.Value
public import proofs.«01_k».proof.Proof.Gen.AdamEmbRefIdeal
public import proofs.«01_k».proof.Proof.Gen.AdamEmbRefIdeal.Run
public import proofs.«01_k».proof.Proof.Gen.AdamEmbRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.MergeClaim
public import proofs.«01_k».proof.Proof.HgClaim
public import proofs.«01_k».proof.Proof.InprojClaim
public import proofs.«01_k».proof.Proof.HgPathClaim
public import proofs.«01_k».proof.Proof.S5PathClaim
public import proofs.«01_k».proof.Proof.PleClaim
public import proofs.«01_k».proof.Proof.BranchesClaim
public import proofs.«01_k».proof.Proof.AdamClaim
public import proofs.«01_k».proof.Proof.AdamRowClaim
public import proofs.«01_k».proof.Proof.AdamColClaim
public import proofs.«01_k».proof.Proof.AdamEmbClaim
public import proofs.«01_k».proof.Proof.AdamSmallClaim
public import Idealize.ShloMosaic.Adequacy
public import Idealize.ShloMosaic.Init

@[expose] public section

noncomputable section

-- The claims also say that every semaphore counter ends at zero.

namespace Cert.Proof

open Idealize.ShloMosaic Idealize.SL.Sem Cert.Kernel

attribute [local instance] Cert.ReferenceIdeal.Gen.facts Cert.MergeRefIdeal.Gen.facts Cert.InprojRefIdeal.Gen.facts Cert.HgPathRefIdeal.Gen.facts Cert.S5PathRefIdeal.Gen.facts Cert.PleRefIdeal.Gen.facts Cert.BranchesRefIdeal.Gen.facts Cert.AdamRefIdeal.Gen.facts Cert.AdamRowRefIdeal.Gen.facts Cert.AdamColRefIdeal.Gen.facts Cert.AdamEmbRefIdeal.Gen.facts Cert.AdamSmallRefIdeal.Gen.facts

/-- The reference of the recurrence runs and keeps its arguments. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The reference of the gated merge runs and keeps its arguments. -/
theorem frame_merge_reference : Cert.quiescent_MergeRefIdeal := fun m ρ _ =>
  (θ_run Cert.MergeRefIdeal.defs _ _).mono (fun r h => ⟨fun c => (h c).2.2.2.2.2, sem_eq_zero_of_no_sems (by decide) r.2⟩)
    (Cert.MergeRefIdeal.Value.run (F := Ideal) m ρ)

/-- The reference of the input projection runs and keeps its arguments. -/
theorem frame_inproj_reference : Cert.quiescent_InprojRefIdeal := fun m ρ _ =>
  (θ_run Cert.InprojRefIdeal.defs _ _).mono (fun r h => ⟨fun c => (h c).2.2.2, sem_eq_zero_of_no_sems (by decide) r.2⟩)
    (Cert.InprojRefIdeal.Value.run (F := Ideal) m ρ)

/-- The reference of the recurrence branch runs and keeps its arguments. -/
theorem frame_hgpath_reference : Cert.quiescent_HgPathRefIdeal := fun m ρ _ =>
  (θ_run Cert.HgPathRefIdeal.defs _ _).mono (fun r h => ⟨fun c => (h c).2.2.2.2, sem_eq_zero_of_no_sems (by decide) r.2⟩)
    (Cert.HgPathRefIdeal.Value.run (F := Ideal) m ρ)

/-- The reference of the state-space branch runs and keeps its arguments. -/
theorem frame_s5path_reference : Cert.quiescent_S5PathRefIdeal := fun m ρ _ =>
  (θ_run Cert.S5PathRefIdeal.defs _ _).mono (fun r h => ⟨fun c => (h c).2.2.2.2.2, sem_eq_zero_of_no_sems (by decide) r.2⟩)
    (Cert.S5PathRefIdeal.Value.run (F := Ideal) m ρ)

/-- The reference of the embedding gate and the loss runs and keeps its arguments. -/
theorem frame_ple_reference : Cert.quiescent_PleRefIdeal := fun m ρ _ =>
  (θ_run Cert.PleRefIdeal.defs _ _).mono (fun r h => ⟨fun c => (h c).2.2.2.2.2.2, sem_eq_zero_of_no_sems (by decide) r.2⟩)
    (Cert.PleRefIdeal.Value.run (F := Ideal) m ρ)

/-- The reference of the two branches runs and keeps its arguments. -/
theorem frame_branches_reference : Cert.quiescent_BranchesRefIdeal := fun m ρ _ =>
  (θ_run Cert.BranchesRefIdeal.defs _ _).mono (fun r h => ⟨fun c => (h c).2.2.2.2, sem_eq_zero_of_no_sems (by decide) r.2⟩)
    (Cert.BranchesRefIdeal.Value.run (F := Ideal) m ρ)

/-- The reference of the update of the input projection runs and keeps its arguments. -/
theorem frame_adam_reference : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

/-- The reference of the update of a row shard runs and keeps its arguments. -/
theorem frame_adamrow_reference : Cert.quiescent_AdamRowRefIdeal := fun m ρ _ =>
  (θ_run Cert.AdamRowRefIdeal.defs _ _).mono (fun r h => ⟨fun c => (h c).2.2.2, sem_eq_zero_of_no_sems (by decide) r.2⟩)
    (Cert.AdamRowRefIdeal.Value.run (F := Ideal) m ρ)

/-- The reference of the update of a column shard runs and keeps its arguments. -/
theorem frame_adamcol_reference : Cert.quiescent_AdamColRefIdeal := fun m ρ _ =>
  (θ_run Cert.AdamColRefIdeal.defs _ _).mono (fun r h => ⟨fun c => (h c).2.2.2, sem_eq_zero_of_no_sems (by decide) r.2⟩)
    (Cert.AdamColRefIdeal.Value.run (F := Ideal) m ρ)

/-- The reference of the update of the embedding shard runs and keeps its arguments. -/
theorem frame_adamemb_reference : Cert.quiescent_AdamEmbRefIdeal := fun m ρ _ =>
  (θ_run Cert.AdamEmbRefIdeal.defs _ _).mono (fun r h => ⟨fun c => (h c).2.2.2, sem_eq_zero_of_no_sems (by decide) r.2⟩)
    (Cert.AdamEmbRefIdeal.Value.run (F := Ideal) m ρ)

/-- The reference of the update of the packed small weights runs and keeps its arguments. -/
theorem frame_adamsmall_reference : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

/-- The shape relations of the precondition. -/
theorem finite_facts : Cert.Pre_all_finite.Facts where
  bcast_S_S8192x7168 := by decide
  reducesTo_S8192x7168_S_d0_1 := by decide
  h_S_ := by decide
  bcast_S_S2x1024 := by decide
  reducesTo_S2x1024_S_d0_1 := by decide
  bitsLt_bf16_f32 := by decide
  bcast_S_S8192x1024 := by decide
  reducesTo_S8192x1024_S_d0_1 := by decide

/-- The shape relations of the recurrence branch's precondition. -/
theorem finite_hgpath_facts : Cert.Pre_finite_hgpath.Facts where
  bitsLt_bf16_f32 := by decide
  bcast_S_S8192x1024 := by decide
  reducesTo_S8192x1024_S_d0_1 := by decide
  h_S_ := by decide
  bcast_S_S1x1024 := by decide
  reducesTo_S1x1024_S_d0_1 := by decide
  bcast_S_S1024x1024 := by decide
  reducesTo_S1024x1024_S_d0_1 := by decide

/-- The shape relations of the state-space branch's precondition. -/
theorem finite_s5path_facts : Cert.Pre_finite_s5path.Facts where
  bitsLt_bf16_f32 := by decide
  bcast_S_S8192x1024 := by decide
  reducesTo_S8192x1024_S_d0_1 := by decide
  h_S_ := by decide
  slices_S8192x1024_S8192x512_0_0 := by decide
  bcast_S_S8192x512 := by decide
  reducesTo_S8192x512_S_d0_1 := by decide
  slices_S8192x7168_S8192x512_0_4608 := by decide
  bcast_S_S512x1024 := by decide
  reducesTo_S512x1024_S_d0_1 := by decide

theorem claim : Cert.Claim := ⟨Cert.Kernel.Gen.facts, Cert.KernelIdeal.Gen.facts, Cert.ReferenceIdeal.Gen.facts, Cert.Merge.Gen.facts, Cert.MergeIdeal.Gen.facts, Cert.MergeRefIdeal.Gen.facts, Cert.Inproj.Gen.facts, Cert.InprojIdeal.Gen.facts, Cert.InprojRefIdeal.Gen.facts, Cert.HgPath.Gen.facts, Cert.HgPathIdeal.Gen.facts, Cert.HgPathRefIdeal.Gen.facts, Cert.S5Path.Gen.facts, Cert.S5PathIdeal.Gen.facts, Cert.S5PathRefIdeal.Gen.facts, Cert.Ple.Gen.facts, Cert.PleIdeal.Gen.facts, Cert.PleRefIdeal.Gen.facts, Cert.Branches.Gen.facts, Cert.BranchesIdeal.Gen.facts, Cert.BranchesRefIdeal.Gen.facts, Cert.Adam.Gen.facts, Cert.AdamIdeal.Gen.facts, Cert.AdamRefIdeal.Gen.facts, Cert.AdamRow.Gen.facts, Cert.AdamRowIdeal.Gen.facts, Cert.AdamRowRefIdeal.Gen.facts, Cert.AdamCol.Gen.facts, Cert.AdamColIdeal.Gen.facts, Cert.AdamColRefIdeal.Gen.facts, Cert.AdamEmb.Gen.facts, Cert.AdamEmbIdeal.Gen.facts, Cert.AdamEmbRefIdeal.Gen.facts, Cert.AdamSmall.Gen.facts, Cert.AdamSmallIdeal.Gen.facts, Cert.AdamSmallRefIdeal.Gen.facts, finite_facts, finite_hgpath_facts, finite_s5path_facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Merge.Gen.frame m ρ,
  fun m ρ _ => Cert.MergeIdeal.Gen.frame m ρ,
  frame_merge_reference,
  fun m ρ _ => Cert.Inproj.Gen.frame m ρ,
  fun m ρ _ => Cert.InprojIdeal.Gen.frame m ρ,
  frame_inproj_reference,
  fun m ρ _ => Cert.HgPath.Gen.frame m ρ,
  fun m ρ _ => Cert.HgPathIdeal.Gen.frame m ρ,
  fun m ρ _ => Cert.HgPathIdeal.Gen.frame m ρ,
  frame_hgpath_reference,
  fun m ρ _ => frame_hgpath_reference m ρ trivial,
  fun m ρ _ => Cert.S5Path.Gen.frame m ρ,
  fun m ρ _ => Cert.S5PathIdeal.Gen.frame m ρ,
  fun m ρ _ => Cert.S5PathIdeal.Gen.frame m ρ,
  frame_s5path_reference,
  fun m ρ _ => frame_s5path_reference m ρ trivial,
  fun m ρ _ => Cert.Ple.Gen.frame m ρ,
  fun m ρ _ => Cert.PleIdeal.Gen.frame m ρ,
  frame_ple_reference,
  fun m ρ _ => Cert.Branches.Gen.frame m ρ,
  fun m ρ _ => Cert.BranchesIdeal.Gen.frame m ρ,
  frame_branches_reference,
  fun m ρ _ => Cert.Adam.Gen.frame m ρ,
  fun m ρ _ => Cert.AdamIdeal.Gen.frame m ρ,
  frame_adam_reference,
  fun m ρ _ => Cert.AdamRow.Gen.frame m ρ,
  fun m ρ _ => Cert.AdamRowIdeal.Gen.frame m ρ,
  frame_adamrow_reference,
  fun m ρ _ => Cert.AdamCol.Gen.frame m ρ,
  fun m ρ _ => Cert.AdamColIdeal.Gen.frame m ρ,
  frame_adamcol_reference,
  fun m ρ _ => Cert.AdamEmb.Gen.frame m ρ,
  fun m ρ _ => Cert.AdamEmbIdeal.Gen.frame m ρ,
  frame_adamemb_reference,
  fun m ρ _ => Cert.AdamSmall.Gen.frame m ρ,
  fun m ρ _ => Cert.AdamSmallIdeal.Gen.frame m ρ,
  frame_adamsmall_reference,
  trivial,
  Cert.KernelIdeal.Value.algebraic (hPre_all_finite := finite_facts),
  trivial,
  Cert.MergeIdeal.Value.algebraic,
  trivial,
  Cert.InprojIdeal.Value.algebraic,
  trivial,
  Cert.HgPathIdeal.Value.algebraic (hPre_finite_hgpath := finite_hgpath_facts),
  Cert.S5PathIdeal.Value.preserves,
  Cert.S5PathIdeal.Value.algebraic (hPre_finite_s5path := finite_s5path_facts),
  trivial,
  Cert.PleIdeal.Value.algebraic,
  trivial,
  Cert.BranchesIdeal.Value.algebraic,
  trivial,
  Cert.AdamIdeal.Value.algebraic,
  trivial,
  Cert.AdamRowIdeal.Value.algebraic,
  trivial,
  Cert.AdamColIdeal.Value.algebraic,
  trivial,
  Cert.AdamEmbIdeal.Value.algebraic,
  trivial,
  Cert.AdamSmallIdeal.Value.algebraic⟩

end Cert.Proof

end
